-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_OddMlp (m : (ℓ : Loc Cert.OddMlp.nD Cert.OddMlp.τ Cert.OddMlp.sig) → Buf (Elt Bits) ℓ) : Prop :=
  True

def Pre_OddMlpIdeal (m : (ℓ : Loc Cert.OddMlpIdeal.nD Cert.OddMlpIdeal.τ Cert.OddMlpIdeal.sig) → Buf (Elt Ideal) ℓ) : Prop :=
  True

def Pre_OddMlpRefIdeal (m : (ℓ : Loc Cert.OddMlpRefIdeal.nD Cert.OddMlpRefIdeal.τ Cert.OddMlpRefIdeal.sig) → Buf (Elt Ideal) ℓ) : Prop :=
  True

def Pre_EvenMlp (m : (ℓ : Loc Cert.EvenMlp.nD Cert.EvenMlp.τ Cert.EvenMlp.sig) → Buf (Elt Bits) ℓ) : Prop :=
  True

def Pre_EvenMlpIdeal (m : (ℓ : Loc Cert.EvenMlpIdeal.nD Cert.EvenMlpIdeal.τ Cert.EvenMlpIdeal.sig) → Buf (Elt Ideal) ℓ) : Prop :=
  True

def Pre_EvenMlpRefIdeal (m : (ℓ : Loc Cert.EvenMlpRefIdeal.nD Cert.EvenMlpRefIdeal.τ Cert.EvenMlpRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddMlpS (m : (ℓ : Loc Cert.OddMlpS.nD Cert.OddMlpS.τ Cert.OddMlpS.sig) → Buf (Elt Bits) ℓ) : Prop :=
  True

def Pre_OddMlpSIdeal (m : (ℓ : Loc Cert.OddMlpSIdeal.nD Cert.OddMlpSIdeal.τ Cert.OddMlpSIdeal.sig) → Buf (Elt Ideal) ℓ) : Prop :=
  True

def Pre_OddMlpSRefIdeal (m : (ℓ : Loc Cert.OddMlpSRefIdeal.nD Cert.OddMlpSRefIdeal.τ Cert.OddMlpSRefIdeal.sig) → Buf (Elt Ideal) ℓ) : Prop :=
  True

def Pre_KvPost (m : (ℓ : Loc Cert.KvPost.nD Cert.KvPost.τ Cert.KvPost.sig) → Buf (Elt Bits) ℓ) : Prop :=
  True

def Pre_KvPostIdeal (m : (ℓ : Loc Cert.KvPostIdeal.nD Cert.KvPostIdeal.τ Cert.KvPostIdeal.sig) → Buf (Elt Ideal) ℓ) : Prop :=
  True

def Pre_KvPostRefIdeal (m : (ℓ : Loc Cert.KvPostRefIdeal.nD Cert.KvPostRefIdeal.τ Cert.KvPostRefIdeal.sig) → Buf (Elt Ideal) ℓ) : Prop :=
  True

def Pre_KvPostS (m : (ℓ : Loc Cert.KvPostS.nD Cert.KvPostS.τ Cert.KvPostS.sig) → Buf (Elt Bits) ℓ) : Prop :=
  True

def Pre_KvPostSIdeal (m : (ℓ : Loc Cert.KvPostSIdeal.nD Cert.KvPostSIdeal.τ Cert.KvPostSIdeal.sig) → Buf (Elt Ideal) ℓ) : Prop :=
  True

def Pre_KvPostSRefIdeal (m : (ℓ : Loc Cert.KvPostSRefIdeal.nD Cert.KvPostSRefIdeal.τ Cert.KvPostSRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSIdeal_bounds_finite [hPre_bounds_finite : Cert.Pre_bounds_finite.Facts] (m : (ℓ : Loc Cert.HgrnSIdeal.nD Cert.HgrnSIdeal.τ Cert.HgrnSIdeal.sig) → Buf (Elt Ideal) ℓ) : Prop :=
  ∀ c : Dev Cert.HgrnSIdeal.nD,
    (Cert.Pre_bounds_finite.fn (F := Ideal) (m ((c.tc : Thread Cert.HgrnSIdeal.nD Cert.HgrnSIdeal.τ).loc Cert.HgrnSIdeal.main_arg0)) (m ((c.tc : Thread Cert.HgrnSIdeal.nD Cert.HgrnSIdeal.τ).loc Cert.HgrnSIdeal.main_arg1)) (m ((c.tc : Thread Cert.HgrnSIdeal.nD Cert.HgrnSIdeal.τ).loc Cert.HgrnSIdeal.main_arg2)) (m ((c.tc : Thread Cert.HgrnSIdeal.nD Cert.HgrnSIdeal.τ).loc Cert.HgrnSIdeal.main_arg3))) = (fun _ => 1#1)

def Pre_HgrnSRefIdeal (m : (ℓ : Loc Cert.HgrnSRefIdeal.nD Cert.HgrnSRefIdeal.τ Cert.HgrnSRefIdeal.sig) → Buf (Elt Ideal) ℓ) : Prop :=
  True

def Pre_HgrnSRefIdeal_bounds_finite [hPre_bounds_finite : Cert.Pre_bounds_finite.Facts] (m : (ℓ : Loc Cert.HgrnSRefIdeal.nD Cert.HgrnSRefIdeal.τ Cert.HgrnSRefIdeal.sig) → Buf (Elt Ideal) ℓ) : Prop :=
  ∀ c : Dev Cert.HgrnSRefIdeal.nD,
    (Cert.Pre_bounds_finite.fn (F := Ideal) (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg2)) (m ((c.tc : Thread Cert.HgrnSRefIdeal.nD Cert.HgrnSRefIdeal.τ).loc Cert.HgrnSRefIdeal.main_arg3))) = (fun _ => 1#1)

def Pre_HgrnP (m : (ℓ : Loc Cert.HgrnP.nD Cert.HgrnP.τ Cert.HgrnP.sig) → Buf (Elt Bits) ℓ) : Prop :=
  True

def Pre_HgrnPIdeal (m : (ℓ : Loc Cert.HgrnPIdeal.nD Cert.HgrnPIdeal.τ Cert.HgrnPIdeal.sig) → Buf (Elt Ideal) ℓ) : Prop :=
  True

def Pre_HgrnPRefIdeal (m : (ℓ : Loc Cert.HgrnPRefIdeal.nD Cert.HgrnPRefIdeal.τ Cert.HgrnPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_OddMlp [hOddMlp : Cert.OddMlp.Facts] : Prop :=
  ∀ (m : (ℓ : Loc Cert.OddMlp.nD Cert.OddMlp.τ Cert.OddMlp.sig) → Buf (Elt Bits) ℓ) (g : Dev Cert.OddMlp.nD → PrngReg), Pre_OddMlp m →
    θ_run (Cert.OddMlp.defs (F := Bits)) (onTc (τ := Cert.OddMlp.τ) (Cert.OddMlp.main (F := Bits))) ⟨m, fun _ => 0, g⟩ (fun r => (∀ c : Dev Cert.OddMlp.nD,
      r.2.mem ((c.tc : Thread Cert.OddMlp.nD Cert.OddMlp.τ).loc Cert.OddMlp.main_arg0) = m ((c.tc : Thread Cert.OddMlp.nD Cert.OddMlp.τ).loc Cert.OddMlp.main_arg0)
      ∧ r.2.mem ((c.tc : Thread Cert.OddMlp.nD Cert.OddMlp.τ).loc Cert.OddMlp.main_arg1) = m ((c.tc : Thread Cert.OddMlp.nD Cert.OddMlp.τ).loc Cert.OddMlp.main_arg1)
      ∧ r.2.mem ((c.tc : Thread Cert.OddMlp.nD Cert.OddMlp.τ).loc Cert.OddMlp.main_arg2) = m ((c.tc : Thread Cert.OddMlp.nD Cert.OddMlp.τ).loc Cert.OddMlp.main_arg2)
      ∧ r.2.mem ((c.tc : Thread Cert.OddMlp.nD Cert.OddMlp.τ).loc Cert.OddMlp.main_arg3) = m ((c.tc : Thread Cert.OddMlp.nD Cert.OddMlp.τ).loc Cert.OddMlp.main_arg3)
      ∧ r.2.mem ((c.tc : Thread Cert.OddMlp.nD Cert.OddMlp.τ).loc Cert.OddMlp.main_arg4) = m ((c.tc : Thread Cert.OddMlp.nD Cert.OddMlp.τ).loc Cert.OddMlp.main_arg4)
      ∧ r.2.mem ((c.tc : Thread Cert.OddMlp.nD Cert.OddMlp.τ).loc Cert.OddMlp.main_arg5) = m ((c.tc : Thread Cert.OddMlp.nD Cert.OddMlp.τ).loc Cert.OddMlp.main_arg5))
      ∧ r.2.sem = fun _ => 0)

def quiescent_OddMlpIdeal [hOddMlpIdeal : Cert.OddMlpIdeal.Facts] : Prop :=
  ∀ (m : (ℓ : Loc Cert.OddMlpIdeal.nD Cert.OddMlpIdeal.τ Cert.OddMlpIdeal.sig) → Buf (Elt Ideal) ℓ) (g : Dev Cert.OddMlpIdeal.nD → PrngReg), Pre_OddMlpIdeal m →
    θ_run (Cert.OddMlpIdeal.defs (F := Ideal)) (onTc (τ := Cert.OddMlpIdeal.τ) (Cert.OddMlpIdeal.main (F := Ideal))) ⟨m, fun _ => 0, g⟩ (fun r => (∀ c : Dev Cert.OddMlpIdeal.nD,
      r.2.mem ((c.tc : Thread Cert.OddMlpIdeal.nD Cert.OddMlpIdeal.τ).loc Cert.OddMlpIdeal.main_arg0) = m ((c.tc : Thread Cert.OddMlpIdeal.nD Cert.OddMlpIdeal.τ).loc Cert.OddMlpIdeal.main_arg0)
      ∧ r.2.mem ((c.tc : Thread Cert.OddMlpIdeal.nD Cert.OddMlpIdeal.τ).loc Cert.OddMlpIdeal.main_arg1) = m ((c.tc : Thread Cert.OddMlpIdeal.nD Cert.OddMlpIdeal.τ).loc Cert.OddMlpIdeal.main_arg1)
      ∧ r.2.mem ((c.tc : Thread Cert.OddMlpIdeal.nD Cert.OddMlpIdeal.τ).loc Cert.OddMlpIdeal.main_arg2) = m ((c.tc : Thread Cert.OddMlpIdeal.nD Cert.OddMlpIdeal.τ).loc Cert.OddMlpIdeal.main_arg2)
      ∧ r.2.mem ((c.tc : Thread Cert.OddMlpIdeal.nD Cert.OddMlpIdeal.τ).loc Cert.OddMlpIdeal.main_arg3) = m ((c.tc : Thread Cert.OddMlpIdeal.nD Cert.OddMlpIdeal.τ).loc Cert.OddMlpIdeal.main_arg3)
      ∧ r.2.mem ((c.tc : Thread Cert.OddMlpIdeal.nD Cert.OddMlpIdeal.τ).loc Cert.OddMlpIdeal.main_arg4) = m ((c.tc : Thread Cert.OddMlpIdeal.nD Cert.OddMlpIdeal.τ).loc Cert.OddMlpIdeal.main_arg4)
      ∧ r.2.mem ((c.tc : Thread Cert.OddMlpIdeal.nD Cert.OddMlpIdeal.τ).loc Cert.OddMlpIdeal.main_arg5) = m ((c.tc : Thread Cert.OddMlpIdeal.nD Cert.OddMlpIdeal.τ).loc Cert.OddMlpIdeal.main_arg5))
      ∧ r.2.sem = fun _ => 0)

def quiescent_OddMlpRefIdeal [hOddMlpRefIdeal : Cert.OddMlpRefIdeal.Facts] : Prop :=
  ∀ (m : (ℓ : Loc Cert.OddMlpRefIdeal.nD Cert.OddMlpRefIdeal.τ Cert.OddMlpRefIdeal.sig) → Buf (Elt Ideal) ℓ) (g : Dev Cert.OddMlpRefIdeal.nD → PrngReg), Pre_OddMlpRefIdeal m →
    θ_run (Cert.OddMlpRefIdeal.defs (F := Ideal)) (onTc (τ := Cert.OddMlpRefIdeal.τ) (Cert.OddMlpRefIdeal.main (F := Ideal))) ⟨m, fun _ => 0, g⟩ (fun r => (∀ c : Dev Cert.OddMlpRefIdeal.nD,
      r.2.mem ((c.tc : Thread Cert.OddMlpRefIdeal.nD Cert.OddMlpRefIdeal.τ).loc Cert.OddMlpRefIdeal.main_arg0) = m ((c.tc : Thread Cert.OddMlpRefIdeal.nD Cert.OddMlpRefIdeal.τ).loc Cert.OddMlpRefIdeal.main_arg0)
      ∧ r.2.mem ((c.tc : Thread Cert.OddMlpRefIdeal.nD Cert.OddMlpRefIdeal.τ).loc Cert.OddMlpRefIdeal.main_arg1) = m ((c.tc : Thread Cert.OddMlpRefIdeal.nD Cert.OddMlpRefIdeal.τ).loc Cert.OddMlpRefIdeal.main_arg1)
      ∧ r.2.mem ((c.tc : Thread Cert.OddMlpRefIdeal.nD Cert.OddMlpRefIdeal.τ).loc Cert.OddMlpRefIdeal.main_arg2) = m ((c.tc : Thread Cert.OddMlpRefIdeal.nD Cert.OddMlpRefIdeal.τ).loc Cert.OddMlpRefIdeal.main_arg2)
      ∧ r.2.mem ((c.tc : Thread Cert.OddMlpRefIdeal.nD Cert.OddMlpRefIdeal.τ).loc Cert.OddMlpRefIdeal.main_arg3) = m ((c.tc : Thread Cert.OddMlpRefIdeal.nD Cert.OddMlpRefIdeal.τ).loc Cert.OddMlpRefIdeal.main_arg3)
      ∧ r.2.mem ((c.tc : Thread Cert.OddMlpRefIdeal.nD Cert.OddMlpRefIdeal.τ).loc Cert.OddMlpRefIdeal.main_arg4) = m ((c.tc : Thread Cert.OddMlpRefIdeal.nD Cert.OddMlpRefIdeal.τ).loc Cert.OddMlpRefIdeal.main_arg4)
      ∧ r.2.mem ((c.tc : Thread Cert.OddMlpRefIdeal.nD Cert.OddMlpRefIdeal.τ).loc Cert.OddMlpRefIdeal.main_arg5) = m ((c.tc : Thread Cert.OddMlpRefIdeal.nD Cert.OddMlpRefIdeal.τ).loc Cert.OddMlpRefIdeal.main_arg5))
      ∧ r.2.sem = fun _ => 0)

def quiescent_EvenMlp [hEvenMlp : Cert.EvenMlp.Facts] : Prop :=
  ∀ (m : (ℓ : Loc Cert.EvenMlp.nD Cert.EvenMlp.τ Cert.EvenMlp.sig) → Buf (Elt Bits) ℓ) (g : Dev Cert.EvenMlp.nD → PrngReg), Pre_EvenMlp m →
    θ_run (Cert.EvenMlp.defs (F := Bits)) (onTc (τ := Cert.EvenMlp.τ) (Cert.EvenMlp.main (F := Bits))) ⟨m, fun _ => 0, g⟩ (fun r => (∀ c : Dev Cert.EvenMlp.nD,
      r.2.mem ((c.tc : Thread Cert.EvenMlp.nD Cert.EvenMlp.τ).loc Cert.EvenMlp.main_arg0) = m ((c.tc : Thread Cert.EvenMlp.nD Cert.EvenMlp.τ).loc Cert.EvenMlp.main_arg0)
      ∧ r.2.mem ((c.tc : Thread Cert.EvenMlp.nD Cert.EvenMlp.τ).loc Cert.EvenMlp.main_arg1) = m ((c.tc : Thread Cert.EvenMlp.nD Cert.EvenMlp.τ).loc Cert.EvenMlp.main_arg1)
      ∧ r.2.mem ((c.tc : Thread Cert.EvenMlp.nD Cert.EvenMlp.τ).loc Cert.EvenMlp.main_arg2) = m ((c.tc : Thread Cert.EvenMlp.nD Cert.EvenMlp.τ).loc Cert.EvenMlp.main_arg2)
      ∧ r.2.mem ((c.tc : Thread Cert.EvenMlp.nD Cert.EvenMlp.τ).loc Cert.EvenMlp.main_arg3) = m ((c.tc : Thread Cert.EvenMlp.nD Cert.EvenMlp.τ).loc Cert.EvenMlp.main_arg3)
      ∧ r.2.mem ((c.tc : Thread Cert.EvenMlp.nD Cert.EvenMlp.τ).loc Cert.EvenMlp.main_arg4) = m ((c.tc : Thread Cert.EvenMlp.nD Cert.EvenMlp.τ).loc Cert.EvenMlp.main_arg4)
      ∧ r.2.mem ((c.tc : Thread Cert.EvenMlp.nD Cert.EvenMlp.τ).loc Cert.EvenMlp.main_arg5) = m ((c.tc : Thread Cert.EvenMlp.nD Cert.EvenMlp.τ).loc Cert.EvenMlp.main_arg5)
      ∧ r.2.mem ((c.tc : Thread Cert.EvenMlp.nD Cert.EvenMlp.τ).loc Cert.EvenMlp.main_arg6) = m ((c.tc : Thread Cert.EvenMlp.nD Cert.EvenMlp.τ).loc Cert.EvenMlp.main_arg6))
      ∧ r.2.sem = fun _ => 0)

def quiescent_EvenMlpIdeal [hEvenMlpIdeal : Cert.EvenMlpIdeal.Facts] : Prop :=
  ∀ (m : (ℓ : Loc Cert.EvenMlpIdeal.nD Cert.EvenMlpIdeal.τ Cert.EvenMlpIdeal.sig) → Buf (Elt Ideal) ℓ) (g : Dev Cert.EvenMlpIdeal.nD → PrngReg), Pre_EvenMlpIdeal m →
    θ_run (Cert.EvenMlpIdeal.defs (F := Ideal)) (onTc (τ := Cert.EvenMlpIdeal.τ) (Cert.EvenMlpIdeal.main (F := Ideal))) ⟨m, fun _ => 0, g⟩ (fun r => (∀ c : Dev Cert.EvenMlpIdeal.nD,
      r.2.mem ((c.tc : Thread Cert.EvenMlpIdeal.nD Cert.EvenMlpIdeal.τ).loc Cert.EvenMlpIdeal.main_arg0) = m ((c.tc : Thread Cert.EvenMlpIdeal.nD Cert.EvenMlpIdeal.τ).loc Cert.EvenMlpIdeal.main_arg0)
      ∧ r.2.mem ((c.tc : Thread Cert.EvenMlpIdeal.nD Cert.EvenMlpIdeal.τ).loc Cert.EvenMlpIdeal.main_arg1) = m ((c.tc : Thread Cert.EvenMlpIdeal.nD Cert.EvenMlpIdeal.τ).loc Cert.EvenMlpIdeal.main_arg1)
      ∧ r.2.mem ((c.tc : Thread Cert.EvenMlpIdeal.nD Cert.EvenMlpIdeal.τ).loc Cert.EvenMlpIdeal.main_arg2) = m ((c.tc : Thread Cert.EvenMlpIdeal.nD Cert.EvenMlpIdeal.τ).loc Cert.EvenMlpIdeal.main_arg2)
      ∧ r.2.mem ((c.tc : Thread Cert.EvenMlpIdeal.nD Cert.EvenMlpIdeal.τ).loc Cert.EvenMlpIdeal.main_arg3) = m ((c.tc : Thread Cert.EvenMlpIdeal.nD Cert.EvenMlpIdeal.τ).loc Cert.EvenMlpIdeal.main_arg3)
      ∧ r.2.mem ((c.tc : Thread Cert.EvenMlpIdeal.nD Cert.EvenMlpIdeal.τ).loc Cert.EvenMlpIdeal.main_arg4) = m ((c.tc : Thread Cert.EvenMlpIdeal.nD Cert.EvenMlpIdeal.τ).loc Cert.EvenMlpIdeal.main_arg4)
      ∧ r.2.mem ((c.tc : Thread Cert.EvenMlpIdeal.nD Cert.EvenMlpIdeal.τ).loc Cert.EvenMlpIdeal.main_arg5) = m ((c.tc : Thread Cert.EvenMlpIdeal.nD Cert.EvenMlpIdeal.τ).loc Cert.EvenMlpIdeal.main_arg5)
      ∧ r.2.mem ((c.tc : Thread Cert.EvenMlpIdeal.nD Cert.EvenMlpIdeal.τ).loc Cert.EvenMlpIdeal.main_arg6) = m ((c.tc : Thread Cert.EvenMlpIdeal.nD Cert.EvenMlpIdeal.τ).loc Cert.EvenMlpIdeal.main_arg6))
      ∧ r.2.sem = fun _ => 0)

def quiescent_EvenMlpRefIdeal [hEvenMlpRefIdeal : Cert.EvenMlpRefIdeal.Facts] : Prop :=
  ∀ (m : (ℓ : Loc Cert.EvenMlpRefIdeal.nD Cert.EvenMlpRefIdeal.τ Cert.EvenMlpRefIdeal.sig) → Buf (Elt Ideal) ℓ) (g : Dev Cert.EvenMlpRefIdeal.nD → PrngReg), Pre_EvenMlpRefIdeal m →
    θ_run (Cert.EvenMlpRefIdeal.defs (F := Ideal)) (onTc (τ := Cert.EvenMlpRefIdeal.τ) (Cert.EvenMlpRefIdeal.main (F := Ideal))) ⟨m, fun _ => 0, g⟩ (fun r => (∀ c : Dev Cert.EvenMlpRefIdeal.nD,
      r.2.mem ((c.tc : Thread Cert.EvenMlpRefIdeal.nD Cert.EvenMlpRefIdeal.τ).loc Cert.EvenMlpRefIdeal.main_arg0) = m ((c.tc : Thread Cert.EvenMlpRefIdeal.nD Cert.EvenMlpRefIdeal.τ).loc Cert.EvenMlpRefIdeal.main_arg0)
      ∧ r.2.mem ((c.tc : Thread Cert.EvenMlpRefIdeal.nD Cert.EvenMlpRefIdeal.τ).loc Cert.EvenMlpRefIdeal.main_arg1) = m ((c.tc : Thread Cert.EvenMlpRefIdeal.nD Cert.EvenMlpRefIdeal.τ).loc Cert.EvenMlpRefIdeal.main_arg1)
      ∧ r.2.mem ((c.tc : Thread Cert.EvenMlpRefIdeal.nD Cert.EvenMlpRefIdeal.τ).loc Cert.EvenMlpRefIdeal.main_arg2) = m ((c.tc : Thread Cert.EvenMlpRefIdeal.nD Cert.EvenMlpRefIdeal.τ).loc Cert.EvenMlpRefIdeal.main_arg2)
      ∧ r.2.mem ((c.tc : Thread Cert.EvenMlpRefIdeal.nD Cert.EvenMlpRefIdeal.τ).loc Cert.EvenMlpRefIdeal.main_arg3) = m ((c.tc : Thread Cert.EvenMlpRefIdeal.nD Cert.EvenMlpRefIdeal.τ).loc Cert.EvenMlpRefIdeal.main_arg3)
      ∧ r.2.mem ((c.tc : Thread Cert.EvenMlpRefIdeal.nD Cert.EvenMlpRefIdeal.τ).loc Cert.EvenMlpRefIdeal.main_arg4) = m ((c.tc : Thread Cert.EvenMlpRefIdeal.nD Cert.EvenMlpRefIdeal.τ).loc Cert.EvenMlpRefIdeal.main_arg4)
      ∧ r.2.mem ((c.tc : Thread Cert.EvenMlpRefIdeal.nD Cert.EvenMlpRefIdeal.τ).loc Cert.EvenMlpRefIdeal.main_arg5) = m ((c.tc : Thread Cert.EvenMlpRefIdeal.nD Cert.EvenMlpRefIdeal.τ).loc Cert.EvenMlpRefIdeal.main_arg5)
      ∧ r.2.mem ((c.tc : Thread Cert.EvenMlpRefIdeal.nD Cert.EvenMlpRefIdeal.τ).loc Cert.EvenMlpRefIdeal.main_arg6) = m ((c.tc : Thread Cert.EvenMlpRefIdeal.nD Cert.EvenMlpRefIdeal.τ).loc Cert.EvenMlpRefIdeal.main_arg6))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_OddMlpS [hOddMlpS : Cert.OddMlpS.Facts] : Prop :=
  ∀ (m : (ℓ : Loc Cert.OddMlpS.nD Cert.OddMlpS.τ Cert.OddMlpS.sig) → Buf (Elt Bits) ℓ) (g : Dev Cert.OddMlpS.nD → PrngReg), Pre_OddMlpS m →
    θ_run (Cert.OddMlpS.defs (F := Bits)) (onTc (τ := Cert.OddMlpS.τ) (Cert.OddMlpS.main (F := Bits))) ⟨m, fun _ => 0, g⟩ (fun r => (∀ c : Dev Cert.OddMlpS.nD,
      r.2.mem ((c.tc : Thread Cert.OddMlpS.nD Cert.OddMlpS.τ).loc Cert.OddMlpS.main_arg0) = m ((c.tc : Thread Cert.OddMlpS.nD Cert.OddMlpS.τ).loc Cert.OddMlpS.main_arg0)
      ∧ r.2.mem ((c.tc : Thread Cert.OddMlpS.nD Cert.OddMlpS.τ).loc Cert.OddMlpS.main_arg1) = m ((c.tc : Thread Cert.OddMlpS.nD Cert.OddMlpS.τ).loc Cert.OddMlpS.main_arg1)
      ∧ r.2.mem ((c.tc : Thread Cert.OddMlpS.nD Cert.OddMlpS.τ).loc Cert.OddMlpS.main_arg2) = m ((c.tc : Thread Cert.OddMlpS.nD Cert.OddMlpS.τ).loc Cert.OddMlpS.main_arg2)
      ∧ r.2.mem ((c.tc : Thread Cert.OddMlpS.nD Cert.OddMlpS.τ).loc Cert.OddMlpS.main_arg3) = m ((c.tc : Thread Cert.OddMlpS.nD Cert.OddMlpS.τ).loc Cert.OddMlpS.main_arg3)
      ∧ r.2.mem ((c.tc : Thread Cert.OddMlpS.nD Cert.OddMlpS.τ).loc Cert.OddMlpS.main_arg4) = m ((c.tc : Thread Cert.OddMlpS.nD Cert.OddMlpS.τ).loc Cert.OddMlpS.main_arg4)
      ∧ r.2.mem ((c.tc : Thread Cert.OddMlpS.nD Cert.OddMlpS.τ).loc Cert.OddMlpS.main_arg5) = m ((c.tc : Thread Cert.OddMlpS.nD Cert.OddMlpS.τ).loc Cert.OddMlpS.main_arg5))
      ∧ r.2.sem = fun _ => 0)

def quiescent_OddMlpSIdeal [hOddMlpSIdeal : Cert.OddMlpSIdeal.Facts] : Prop :=
  ∀ (m : (ℓ : Loc Cert.OddMlpSIdeal.nD Cert.OddMlpSIdeal.τ Cert.OddMlpSIdeal.sig) → Buf (Elt Ideal) ℓ) (g : Dev Cert.OddMlpSIdeal.nD → PrngReg), Pre_OddMlpSIdeal m →
    θ_run (Cert.OddMlpSIdeal.defs (F := Ideal)) (onTc (τ := Cert.OddMlpSIdeal.τ) (Cert.OddMlpSIdeal.main (F := Ideal))) ⟨m, fun _ => 0, g⟩ (fun r => (∀ c : Dev Cert.OddMlpSIdeal.nD,
      r.2.mem ((c.tc : Thread Cert.OddMlpSIdeal.nD Cert.OddMlpSIdeal.τ).loc Cert.OddMlpSIdeal.main_arg0) = m ((c.tc : Thread Cert.OddMlpSIdeal.nD Cert.OddMlpSIdeal.τ).loc Cert.OddMlpSIdeal.main_arg0)
      ∧ r.2.mem ((c.tc : Thread Cert.OddMlpSIdeal.nD Cert.OddMlpSIdeal.τ).loc Cert.OddMlpSIdeal.main_arg1) = m ((c.tc : Thread Cert.OddMlpSIdeal.nD Cert.OddMlpSIdeal.τ).loc Cert.OddMlpSIdeal.main_arg1)
      ∧ r.2.mem ((c.tc : Thread Cert.OddMlpSIdeal.nD Cert.OddMlpSIdeal.τ).loc Cert.OddMlpSIdeal.main_arg2) = m ((c.tc : Thread Cert.OddMlpSIdeal.nD Cert.OddMlpSIdeal.τ).loc Cert.OddMlpSIdeal.main_arg2)
      ∧ r.2.mem ((c.tc : Thread Cert.OddMlpSIdeal.nD Cert.OddMlpSIdeal.τ).loc Cert.OddMlpSIdeal.main_arg3) = m ((c.tc : Thread Cert.OddMlpSIdeal.nD Cert.OddMlpSIdeal.τ).loc Cert.OddMlpSIdeal.main_arg3)
      ∧ r.2.mem ((c.tc : Thread Cert.OddMlpSIdeal.nD Cert.OddMlpSIdeal.τ).loc Cert.OddMlpSIdeal.main_arg4) = m ((c.tc : Thread Cert.OddMlpSIdeal.nD Cert.OddMlpSIdeal.τ).loc Cert.OddMlpSIdeal.main_arg4)
      ∧ r.2.mem ((c.tc : Thread Cert.OddMlpSIdeal.nD Cert.OddMlpSIdeal.τ).loc Cert.OddMlpSIdeal.main_arg5) = m ((c.tc : Thread Cert.OddMlpSIdeal.nD Cert.OddMlpSIdeal.τ).loc Cert.OddMlpSIdeal.main_arg5))
      ∧ r.2.sem = fun _ => 0)

def quiescent_OddMlpSRefIdeal [hOddMlpSRefIdeal : Cert.OddMlpSRefIdeal.Facts] : Prop :=
  ∀ (m : (ℓ : Loc Cert.OddMlpSRefIdeal.nD Cert.OddMlpSRefIdeal.τ Cert.OddMlpSRefIdeal.sig) → Buf (Elt Ideal) ℓ) (g : Dev Cert.OddMlpSRefIdeal.nD → PrngReg), Pre_OddMlpSRefIdeal m →
    θ_run (Cert.OddMlpSRefIdeal.defs (F := Ideal)) (onTc (τ := Cert.OddMlpSRefIdeal.τ) (Cert.OddMlpSRefIdeal.main (F := Ideal))) ⟨m, fun _ => 0, g⟩ (fun r => (∀ c : Dev Cert.OddMlpSRefIdeal.nD,
      r.2.mem ((c.tc : Thread Cert.OddMlpSRefIdeal.nD Cert.OddMlpSRefIdeal.τ).loc Cert.OddMlpSRefIdeal.main_arg0) = m ((c.tc : Thread Cert.OddMlpSRefIdeal.nD Cert.OddMlpSRefIdeal.τ).loc Cert.OddMlpSRefIdeal.main_arg0)
      ∧ r.2.mem ((c.tc : Thread Cert.OddMlpSRefIdeal.nD Cert.OddMlpSRefIdeal.τ).loc Cert.OddMlpSRefIdeal.main_arg1) = m ((c.tc : Thread Cert.OddMlpSRefIdeal.nD Cert.OddMlpSRefIdeal.τ).loc Cert.OddMlpSRefIdeal.main_arg1)
      ∧ r.2.mem ((c.tc : Thread Cert.OddMlpSRefIdeal.nD Cert.OddMlpSRefIdeal.τ).loc Cert.OddMlpSRefIdeal.main_arg2) = m ((c.tc : Thread Cert.OddMlpSRefIdeal.nD Cert.OddMlpSRefIdeal.τ).loc Cert.OddMlpSRefIdeal.main_arg2)
      ∧ r.2.mem ((c.tc : Thread Cert.OddMlpSRefIdeal.nD Cert.OddMlpSRefIdeal.τ).loc Cert.OddMlpSRefIdeal.main_arg3) = m ((c.tc : Thread Cert.OddMlpSRefIdeal.nD Cert.OddMlpSRefIdeal.τ).loc Cert.OddMlpSRefIdeal.main_arg3)
      ∧ r.2.mem ((c.tc : Thread Cert.OddMlpSRefIdeal.nD Cert.OddMlpSRefIdeal.τ).loc Cert.OddMlpSRefIdeal.main_arg4) = m ((c.tc : Thread Cert.OddMlpSRefIdeal.nD Cert.OddMlpSRefIdeal.τ).loc Cert.OddMlpSRefIdeal.main_arg4)
      ∧ r.2.mem ((c.tc : Thread Cert.OddMlpSRefIdeal.nD Cert.OddMlpSRefIdeal.τ).loc Cert.OddMlpSRefIdeal.main_arg5) = m ((c.tc : Thread Cert.OddMlpSRefIdeal.nD Cert.OddMlpSRefIdeal.τ).loc Cert.OddMlpSRefIdeal.main_arg5))
      ∧ r.2.sem = fun _ => 0)

def quiescent_KvPost [hKvPost : Cert.KvPost.Facts] : Prop :=
  ∀ (m : (ℓ : Loc Cert.KvPost.nD Cert.KvPost.τ Cert.KvPost.sig) → Buf (Elt Bits) ℓ) (g : Dev Cert.KvPost.nD → PrngReg), Pre_KvPost m →
    θ_run (Cert.KvPost.defs (F := Bits)) (onTc (τ := Cert.KvPost.τ) (Cert.KvPost.main (F := Bits))) ⟨m, fun _ => 0, g⟩ (fun r => (∀ c : Dev Cert.KvPost.nD,
      r.2.mem ((c.tc : Thread Cert.KvPost.nD Cert.KvPost.τ).loc Cert.KvPost.main_arg0) = m ((c.tc : Thread Cert.KvPost.nD Cert.KvPost.τ).loc Cert.KvPost.main_arg0)
      ∧ r.2.mem ((c.tc : Thread Cert.KvPost.nD Cert.KvPost.τ).loc Cert.KvPost.main_arg1) = m ((c.tc : Thread Cert.KvPost.nD Cert.KvPost.τ).loc Cert.KvPost.main_arg1))
      ∧ r.2.sem = fun _ => 0)

def quiescent_KvPostIdeal [hKvPostIdeal : Cert.KvPostIdeal.Facts] : Prop :=
  ∀ (m : (ℓ : Loc Cert.KvPostIdeal.nD Cert.KvPostIdeal.τ Cert.KvPostIdeal.sig) → Buf (Elt Ideal) ℓ) (g : Dev Cert.KvPostIdeal.nD → PrngReg), Pre_KvPostIdeal m →
    θ_run (Cert.KvPostIdeal.defs (F := Ideal)) (onTc (τ := Cert.KvPostIdeal.τ) (Cert.KvPostIdeal.main (F := Ideal))) ⟨m, fun _ => 0, g⟩ (fun r => (∀ c : Dev Cert.KvPostIdeal.nD,
      r.2.mem ((c.tc : Thread Cert.KvPostIdeal.nD Cert.KvPostIdeal.τ).loc Cert.KvPostIdeal.main_arg0) = m ((c.tc : Thread Cert.KvPostIdeal.nD Cert.KvPostIdeal.τ).loc Cert.KvPostIdeal.main_arg0)
      ∧ r.2.mem ((c.tc : Thread Cert.KvPostIdeal.nD Cert.KvPostIdeal.τ).loc Cert.KvPostIdeal.main_arg1) = m ((c.tc : Thread Cert.KvPostIdeal.nD Cert.KvPostIdeal.τ).loc Cert.KvPostIdeal.main_arg1))
      ∧ r.2.sem = fun _ => 0)

def quiescent_KvPostRefIdeal [hKvPostRefIdeal : Cert.KvPostRefIdeal.Facts] : Prop :=
  ∀ (m : (ℓ : Loc Cert.KvPostRefIdeal.nD Cert.KvPostRefIdeal.τ Cert.KvPostRefIdeal.sig) → Buf (Elt Ideal) ℓ) (g : Dev Cert.KvPostRefIdeal.nD → PrngReg), Pre_KvPostRefIdeal m →
    θ_run (Cert.KvPostRefIdeal.defs (F := Ideal)) (onTc (τ := Cert.KvPostRefIdeal.τ) (Cert.KvPostRefIdeal.main (F := Ideal))) ⟨m, fun _ => 0, g⟩ (fun r => (∀ c : Dev Cert.KvPostRefIdeal.nD,
      r.2.mem ((c.tc : Thread Cert.KvPostRefIdeal.nD Cert.KvPostRefIdeal.τ).loc Cert.KvPostRefIdeal.main_arg0) = m ((c.tc : Thread Cert.KvPostRefIdeal.nD Cert.KvPostRefIdeal.τ).loc Cert.KvPostRefIdeal.main_arg0)
      ∧ r.2.mem ((c.tc : Thread Cert.KvPostRefIdeal.nD Cert.KvPostRefIdeal.τ).loc Cert.KvPostRefIdeal.main_arg1) = m ((c.tc : Thread Cert.KvPostRefIdeal.nD Cert.KvPostRefIdeal.τ).loc Cert.KvPostRefIdeal.main_arg1))
      ∧ r.2.sem = fun _ => 0)

def quiescent_KvPostS [hKvPostS : Cert.KvPostS.Facts] : Prop :=
  ∀ (m : (ℓ : Loc Cert.KvPostS.nD Cert.KvPostS.τ Cert.KvPostS.sig) → Buf (Elt Bits) ℓ) (g : Dev Cert.KvPostS.nD → PrngReg), Pre_KvPostS m →
    θ_run (Cert.KvPostS.defs (F := Bits)) (onTc (τ := Cert.KvPostS.τ) (Cert.KvPostS.main (F := Bits))) ⟨m, fun _ => 0, g⟩ (fun r => (∀ c : Dev Cert.KvPostS.nD,
      r.2.mem ((c.tc : Thread Cert.KvPostS.nD Cert.KvPostS.τ).loc Cert.KvPostS.main_arg0) = m ((c.tc : Thread Cert.KvPostS.nD Cert.KvPostS.τ).loc Cert.KvPostS.main_arg0)
      ∧ r.2.mem ((c.tc : Thread Cert.KvPostS.nD Cert.KvPostS.τ).loc Cert.KvPostS.main_arg1) = m ((c.tc : Thread Cert.KvPostS.nD Cert.KvPostS.τ).loc Cert.KvPostS.main_arg1)
      ∧ r.2.mem ((c.tc : Thread Cert.KvPostS.nD Cert.KvPostS.τ).loc Cert.KvPostS.main_arg2) = m ((c.tc : Thread Cert.KvPostS.nD Cert.KvPostS.τ).loc Cert.KvPostS.main_arg2))
      ∧ r.2.sem = fun _ => 0)

def quiescent_KvPostSIdeal [hKvPostSIdeal : Cert.KvPostSIdeal.Facts] : Prop :=
  ∀ (m : (ℓ : Loc Cert.KvPostSIdeal.nD Cert.KvPostSIdeal.τ Cert.KvPostSIdeal.sig) → Buf (Elt Ideal) ℓ) (g : Dev Cert.KvPostSIdeal.nD → PrngReg), Pre_KvPostSIdeal m →
    θ_run (Cert.KvPostSIdeal.defs (F := Ideal)) (onTc (τ := Cert.KvPostSIdeal.τ) (Cert.KvPostSIdeal.main (F := Ideal))) ⟨m, fun _ => 0, g⟩ (fun r => (∀ c : Dev Cert.KvPostSIdeal.nD,
      r.2.mem ((c.tc : Thread Cert.KvPostSIdeal.nD Cert.KvPostSIdeal.τ).loc Cert.KvPostSIdeal.main_arg0) = m ((c.tc : Thread Cert.KvPostSIdeal.nD Cert.KvPostSIdeal.τ).loc Cert.KvPostSIdeal.main_arg0)
      ∧ r.2.mem ((c.tc : Thread Cert.KvPostSIdeal.nD Cert.KvPostSIdeal.τ).loc Cert.KvPostSIdeal.main_arg1) = m ((c.tc : Thread Cert.KvPostSIdeal.nD Cert.KvPostSIdeal.τ).loc Cert.KvPostSIdeal.main_arg1)
      ∧ r.2.mem ((c.tc : Thread Cert.KvPostSIdeal.nD Cert.KvPostSIdeal.τ).loc Cert.KvPostSIdeal.main_arg2) = m ((c.tc : Thread Cert.KvPostSIdeal.nD Cert.KvPostSIdeal.τ).loc Cert.KvPostSIdeal.main_arg2))
      ∧ r.2.sem = fun _ => 0)

def quiescent_KvPostSRefIdeal [hKvPostSRefIdeal : Cert.KvPostSRefIdeal.Facts] : Prop :=
  ∀ (m : (ℓ : Loc Cert.KvPostSRefIdeal.nD Cert.KvPostSRefIdeal.τ Cert.KvPostSRefIdeal.sig) → Buf (Elt Ideal) ℓ) (g : Dev Cert.KvPostSRefIdeal.nD → PrngReg), Pre_KvPostSRefIdeal m →
    θ_run (Cert.KvPostSRefIdeal.defs (F := Ideal)) (onTc (τ := Cert.KvPostSRefIdeal.τ) (Cert.KvPostSRefIdeal.main (F := Ideal))) ⟨m, fun _ => 0, g⟩ (fun r => (∀ c : Dev Cert.KvPostSRefIdeal.nD,
      r.2.mem ((c.tc : Thread Cert.KvPostSRefIdeal.nD Cert.KvPostSRefIdeal.τ).loc Cert.KvPostSRefIdeal.main_arg0) = m ((c.tc : Thread Cert.KvPostSRefIdeal.nD Cert.KvPostSRefIdeal.τ).loc Cert.KvPostSRefIdeal.main_arg0)
      ∧ r.2.mem ((c.tc : Thread Cert.KvPostSRefIdeal.nD Cert.KvPostSRefIdeal.τ).loc Cert.KvPostSRefIdeal.main_arg1) = m ((c.tc : Thread Cert.KvPostSRefIdeal.nD Cert.KvPostSRefIdeal.τ).loc Cert.KvPostSRefIdeal.main_arg1)
      ∧ r.2.mem ((c.tc : Thread Cert.KvPostSRefIdeal.nD Cert.KvPostSRefIdeal.τ).loc Cert.KvPostSRefIdeal.main_arg2) = m ((c.tc : Thread Cert.KvPostSRefIdeal.nD Cert.KvPostSRefIdeal.τ).loc Cert.KvPostSRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSIdeal_pre_bounds_finite [hHgrnSIdeal : Cert.HgrnSIdeal.Facts] [hPre_bounds_finite : Cert.Pre_bounds_finite.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal_bounds_finite m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnSRefIdeal_pre_bounds_finite [hHgrnSRefIdeal : Cert.HgrnSRefIdeal.Facts] [hPre_bounds_finite : Cert.Pre_bounds_finite.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal_bounds_finite m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnP [hHgrnP : Cert.HgrnP.Facts] : Prop :=
  ∀ (m : (ℓ : Loc Cert.HgrnP.nD Cert.HgrnP.τ Cert.HgrnP.sig) → Buf (Elt Bits) ℓ) (g : Dev Cert.HgrnP.nD → PrngReg), Pre_HgrnP m →
    θ_run (Cert.HgrnP.defs (F := Bits)) (onTc (τ := Cert.HgrnP.τ) (Cert.HgrnP.main (F := Bits))) ⟨m, fun _ => 0, g⟩ (fun r => (∀ c : Dev Cert.HgrnP.nD,
      r.2.mem ((c.tc : Thread Cert.HgrnP.nD Cert.HgrnP.τ).loc Cert.HgrnP.main_arg0) = m ((c.tc : Thread Cert.HgrnP.nD Cert.HgrnP.τ).loc Cert.HgrnP.main_arg0)
      ∧ r.2.mem ((c.tc : Thread Cert.HgrnP.nD Cert.HgrnP.τ).loc Cert.HgrnP.main_arg1) = m ((c.tc : Thread Cert.HgrnP.nD Cert.HgrnP.τ).loc Cert.HgrnP.main_arg1)
      ∧ r.2.mem ((c.tc : Thread Cert.HgrnP.nD Cert.HgrnP.τ).loc Cert.HgrnP.main_arg2) = m ((c.tc : Thread Cert.HgrnP.nD Cert.HgrnP.τ).loc Cert.HgrnP.main_arg2))
      ∧ r.2.sem = fun _ => 0)

def quiescent_HgrnPIdeal [hHgrnPIdeal : Cert.HgrnPIdeal.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_HgrnPRefIdeal [hHgrnPRefIdeal : Cert.HgrnPRefIdeal.Facts] : Prop :=
  ∀ (m : (ℓ : Loc Cert.HgrnPRefIdeal.nD Cert.HgrnPRefIdeal.τ Cert.HgrnPRefIdeal.sig) → Buf (Elt Ideal) ℓ) (g : Dev Cert.HgrnPRefIdeal.nD → PrngReg), Pre_HgrnPRefIdeal m →
    θ_run (Cert.HgrnPRefIdeal.defs (F := Ideal)) (onTc (τ := Cert.HgrnPRefIdeal.τ) (Cert.HgrnPRefIdeal.main (F := Ideal))) ⟨m, fun _ => 0, g⟩ (fun r => (∀ c : Dev Cert.HgrnPRefIdeal.nD,
      r.2.mem ((c.tc : Thread Cert.HgrnPRefIdeal.nD Cert.HgrnPRefIdeal.τ).loc Cert.HgrnPRefIdeal.main_arg0) = m ((c.tc : Thread Cert.HgrnPRefIdeal.nD Cert.HgrnPRefIdeal.τ).loc Cert.HgrnPRefIdeal.main_arg0)
      ∧ r.2.mem ((c.tc : Thread Cert.HgrnPRefIdeal.nD Cert.HgrnPRefIdeal.τ).loc Cert.HgrnPRefIdeal.main_arg1) = m ((c.tc : Thread Cert.HgrnPRefIdeal.nD Cert.HgrnPRefIdeal.τ).loc Cert.HgrnPRefIdeal.main_arg1)
      ∧ r.2.mem ((c.tc : Thread Cert.HgrnPRefIdeal.nD Cert.HgrnPRefIdeal.τ).loc Cert.HgrnPRefIdeal.main_arg2) = m ((c.tc : Thread Cert.HgrnPRefIdeal.nD Cert.HgrnPRefIdeal.τ).loc Cert.HgrnPRefIdeal.main_arg2))
      ∧ r.2.sem = fun _ => 0)

def preserves_Kernel_KernelIdeal : Prop :=
  True

def preserves_OddMlp_OddMlpIdeal : Prop :=
  True

def algebraic_OddMlpIdeal_OddMlpRefIdeal [hOddMlpIdeal : Cert.OddMlpIdeal.Facts] [hOddMlpRefIdeal : Cert.OddMlpRefIdeal.Facts] : Prop :=
  ∀ (m : (ℓ : Loc Cert.OddMlpIdeal.nD Cert.OddMlpIdeal.τ Cert.OddMlpIdeal.sig) → Buf (Elt Ideal) ℓ) (g : Dev Cert.OddMlpIdeal.nD → PrngReg)
    (m' : (ℓ : Loc Cert.OddMlpRefIdeal.nD Cert.OddMlpRefIdeal.τ Cert.OddMlpRefIdeal.sig) → Buf (Elt Ideal) ℓ) (g' : Dev Cert.OddMlpRefIdeal.nD → PrngReg), Pre_OddMlpIdeal m →
    (∀ c : Dev Cert.OddMlpIdeal.nD,
      m' ((c.tc : Thread Cert.OddMlpRefIdeal.nD Cert.OddMlpRefIdeal.τ).loc Cert.OddMlpRefIdeal.main_arg0) = m ((c.tc : Thread Cert.OddMlpIdeal.nD Cert.OddMlpIdeal.τ).loc Cert.OddMlpIdeal.main_arg0)
      ∧ m' ((c.tc : Thread Cert.OddMlpRefIdeal.nD Cert.OddMlpRefIdeal.τ).loc Cert.OddMlpRefIdeal.main_arg1) = m ((c.tc : Thread Cert.OddMlpIdeal.nD Cert.OddMlpIdeal.τ).loc Cert.OddMlpIdeal.main_arg1)
      ∧ m' ((c.tc : Thread Cert.OddMlpRefIdeal.nD Cert.OddMlpRefIdeal.τ).loc Cert.OddMlpRefIdeal.main_arg2) = m ((c.tc : Thread Cert.OddMlpIdeal.nD Cert.OddMlpIdeal.τ).loc Cert.OddMlpIdeal.main_arg2)
      ∧ m' ((c.tc : Thread Cert.OddMlpRefIdeal.nD Cert.OddMlpRefIdeal.τ).loc Cert.OddMlpRefIdeal.main_arg3) = m ((c.tc : Thread Cert.OddMlpIdeal.nD Cert.OddMlpIdeal.τ).loc Cert.OddMlpIdeal.main_arg3)
      ∧ m' ((c.tc : Thread Cert.OddMlpRefIdeal.nD Cert.OddMlpRefIdeal.τ).loc Cert.OddMlpRefIdeal.main_arg4) = m ((c.tc : Thread Cert.OddMlpIdeal.nD Cert.OddMlpIdeal.τ).loc Cert.OddMlpIdeal.main_arg4)
      ∧ m' ((c.tc : Thread Cert.OddMlpRefIdeal.nD Cert.OddMlpRefIdeal.τ).loc Cert.OddMlpRefIdeal.main_arg5) = m ((c.tc : Thread Cert.OddMlpIdeal.nD Cert.OddMlpIdeal.τ).loc Cert.OddMlpIdeal.main_arg5)) →
    ∃ (v0 : (c : Dev Cert.OddMlpIdeal.nD) → Buf (Elt Ideal) ((c.tc : Thread Cert.OddMlpIdeal.nD Cert.OddMlpIdeal.τ).loc Cert.OddMlpIdeal.main_v4)),
      θ_run (Cert.OddMlpIdeal.defs (F := Ideal)) (onTc (τ := Cert.OddMlpIdeal.τ) (Cert.OddMlpIdeal.main (F := Ideal))) ⟨m, fun _ => 0, g⟩ (fun r => ∀ c : Dev Cert.OddMlpIdeal.nD,
          r.2.mem ((c.tc : Thread Cert.OddMlpIdeal.nD Cert.OddMlpIdeal.τ).loc Cert.OddMlpIdeal.main_v4) = v0 c
          ∧ r.2.mem ((c.tc : Thread Cert.OddMlpIdeal.nD Cert.OddMlpIdeal.τ).loc Cert.OddMlpIdeal.main_arg0) = m ((c.tc : Thread Cert.OddMlpIdeal.nD Cert.OddMlpIdeal.τ).loc Cert.OddMlpIdeal.main_arg0)
          ∧ r.2.mem ((c.tc : Thread Cert.OddMlpIdeal.nD Cert.OddMlpIdeal.τ).loc Cert.OddMlpIdeal.main_arg1) = m ((c.tc : Thread Cert.OddMlpIdeal.nD Cert.OddMlpIdeal.τ).loc Cert.OddMlpIdeal.main_arg1)
          ∧ r.2.mem ((c.tc : Thread Cert.OddMlpIdeal.nD Cert.OddMlpIdeal.τ).loc Cert.OddMlpIdeal.main_arg2) = m ((c.tc : Thread Cert.OddMlpIdeal.nD Cert.OddMlpIdeal.τ).loc Cert.OddMlpIdeal.main_arg2)
          ∧ r.2.mem ((c.tc : Thread Cert.OddMlpIdeal.nD Cert.OddMlpIdeal.τ).loc Cert.OddMlpIdeal.main_arg3) = m ((c.tc : Thread Cert.OddMlpIdeal.nD Cert.OddMlpIdeal.τ).loc Cert.OddMlpIdeal.main_arg3)
          ∧ r.2.mem ((c.tc : Thread Cert.OddMlpIdeal.nD Cert.OddMlpIdeal.τ).loc Cert.OddMlpIdeal.main_arg4) = m ((c.tc : Thread Cert.OddMlpIdeal.nD Cert.OddMlpIdeal.τ).loc Cert.OddMlpIdeal.main_arg4)
          ∧ r.2.mem ((c.tc : Thread Cert.OddMlpIdeal.nD Cert.OddMlpIdeal.τ).loc Cert.OddMlpIdeal.main_arg5) = m ((c.tc : Thread Cert.OddMlpIdeal.nD Cert.OddMlpIdeal.τ).loc Cert.OddMlpIdeal.main_arg5))
      ∧ θ_run (Cert.OddMlpRefIdeal.defs (F := Ideal)) (onTc (τ := Cert.OddMlpRefIdeal.τ) (Cert.OddMlpRefIdeal.main (F := Ideal))) ⟨m', fun _ => 0, g'⟩ (fun r => ∀ c : Dev Cert.OddMlpRefIdeal.nD,
          r.2.mem ((c.tc : Thread Cert.OddMlpRefIdeal.nD Cert.OddMlpRefIdeal.τ).loc Cert.OddMlpRefIdeal.main_v20) = v0 c
          ∧ r.2.mem ((c.tc : Thread Cert.OddMlpRefIdeal.nD Cert.OddMlpRefIdeal.τ).loc Cert.OddMlpRefIdeal.main_arg0) = m' ((c.tc : Thread Cert.OddMlpRefIdeal.nD Cert.OddMlpRefIdeal.τ).loc Cert.OddMlpRefIdeal.main_arg0)
          ∧ r.2.mem ((c.tc : Thread Cert.OddMlpRefIdeal.nD Cert.OddMlpRefIdeal.τ).loc Cert.OddMlpRefIdeal.main_arg1) = m' ((c.tc : Thread Cert.OddMlpRefIdeal.nD Cert.OddMlpRefIdeal.τ).loc Cert.OddMlpRefIdeal.main_arg1)
          ∧ r.2.mem ((c.tc : Thread Cert.OddMlpRefIdeal.nD Cert.OddMlpRefIdeal.τ).loc Cert.OddMlpRefIdeal.main_arg2) = m' ((c.tc : Thread Cert.OddMlpRefIdeal.nD Cert.OddMlpRefIdeal.τ).loc Cert.OddMlpRefIdeal.main_arg2)
          ∧ r.2.mem ((c.tc : Thread Cert.OddMlpRefIdeal.nD Cert.OddMlpRefIdeal.τ).loc Cert.OddMlpRefIdeal.main_arg3) = m' ((c.tc : Thread Cert.OddMlpRefIdeal.nD Cert.OddMlpRefIdeal.τ).loc Cert.OddMlpRefIdeal.main_arg3)
          ∧ r.2.mem ((c.tc : Thread Cert.OddMlpRefIdeal.nD Cert.OddMlpRefIdeal.τ).loc Cert.OddMlpRefIdeal.main_arg4) = m' ((c.tc : Thread Cert.OddMlpRefIdeal.nD Cert.OddMlpRefIdeal.τ).loc Cert.OddMlpRefIdeal.main_arg4)
          ∧ r.2.mem ((c.tc : Thread Cert.OddMlpRefIdeal.nD Cert.OddMlpRefIdeal.τ).loc Cert.OddMlpRefIdeal.main_arg5) = m' ((c.tc : Thread Cert.OddMlpRefIdeal.nD Cert.OddMlpRefIdeal.τ).loc Cert.OddMlpRefIdeal.main_arg5))

def preserves_EvenMlp_EvenMlpIdeal : Prop :=
  True

def algebraic_EvenMlpIdeal_EvenMlpRefIdeal [hEvenMlpIdeal : Cert.EvenMlpIdeal.Facts] [hEvenMlpRefIdeal : Cert.EvenMlpRefIdeal.Facts] : Prop :=
  ∀ (m : (ℓ : Loc Cert.EvenMlpIdeal.nD Cert.EvenMlpIdeal.τ Cert.EvenMlpIdeal.sig) → Buf (Elt Ideal) ℓ) (g : Dev Cert.EvenMlpIdeal.nD → PrngReg)
    (m' : (ℓ : Loc Cert.EvenMlpRefIdeal.nD Cert.EvenMlpRefIdeal.τ Cert.EvenMlpRefIdeal.sig) → Buf (Elt Ideal) ℓ) (g' : Dev Cert.EvenMlpRefIdeal.nD → PrngReg), Pre_EvenMlpIdeal m →
    (∀ c : Dev Cert.EvenMlpIdeal.nD,
      m' ((c.tc : Thread Cert.EvenMlpRefIdeal.nD Cert.EvenMlpRefIdeal.τ).loc Cert.EvenMlpRefIdeal.main_arg0) = m ((c.tc : Thread Cert.EvenMlpIdeal.nD Cert.EvenMlpIdeal.τ).loc Cert.EvenMlpIdeal.main_arg0)
      ∧ m' ((c.tc : Thread Cert.EvenMlpRefIdeal.nD Cert.EvenMlpRefIdeal.τ).loc Cert.EvenMlpRefIdeal.main_arg1) = m ((c.tc : Thread Cert.EvenMlpIdeal.nD Cert.EvenMlpIdeal.τ).loc Cert.EvenMlpIdeal.main_arg1)
      ∧ m' ((c.tc : Thread Cert.EvenMlpRefIdeal.nD Cert.EvenMlpRefIdeal.τ).loc Cert.EvenMlpRefIdeal.main_arg2) = m ((c.tc : Thread Cert.EvenMlpIdeal.nD Cert.EvenMlpIdeal.τ).loc Cert.EvenMlpIdeal.main_arg2)
      ∧ m' ((c.tc : Thread Cert.EvenMlpRefIdeal.nD Cert.EvenMlpRefIdeal.τ).loc Cert.EvenMlpRefIdeal.main_arg3) = m ((c.tc : Thread Cert.EvenMlpIdeal.nD Cert.EvenMlpIdeal.τ).loc Cert.EvenMlpIdeal.main_arg3)
      ∧ m' ((c.tc : Thread Cert.EvenMlpRefIdeal.nD Cert.EvenMlpRefIdeal.τ).loc Cert.EvenMlpRefIdeal.main_arg4) = m ((c.tc : Thread Cert.EvenMlpIdeal.nD Cert.EvenMlpIdeal.τ).loc Cert.EvenMlpIdeal.main_arg4)
      ∧ m' ((c.tc : Thread Cert.EvenMlpRefIdeal.nD Cert.EvenMlpRefIdeal.τ).loc Cert.EvenMlpRefIdeal.main_arg5) = m ((c.tc : Thread Cert.EvenMlpIdeal.nD Cert.EvenMlpIdeal.τ).loc Cert.EvenMlpIdeal.main_arg5)
      ∧ m' ((c.tc : Thread Cert.EvenMlpRefIdeal.nD Cert.EvenMlpRefIdeal.τ).loc Cert.EvenMlpRefIdeal.main_arg6) = m ((c.tc : Thread Cert.EvenMlpIdeal.nD Cert.EvenMlpIdeal.τ).loc Cert.EvenMlpIdeal.main_arg6)) →
    ∃ (v0 : (c : Dev Cert.EvenMlpIdeal.nD) → Buf (Elt Ideal) ((c.tc : Thread Cert.EvenMlpIdeal.nD Cert.EvenMlpIdeal.τ).loc Cert.EvenMlpIdeal.main_v7)),
      θ_run (Cert.EvenMlpIdeal.defs (F := Ideal)) (onTc (τ := Cert.EvenMlpIdeal.τ) (Cert.EvenMlpIdeal.main (F := Ideal))) ⟨m, fun _ => 0, g⟩ (fun r => ∀ c : Dev Cert.EvenMlpIdeal.nD,
          r.2.mem ((c.tc : Thread Cert.EvenMlpIdeal.nD Cert.EvenMlpIdeal.τ).loc Cert.EvenMlpIdeal.main_v7) = v0 c
          ∧ r.2.mem ((c.tc : Thread Cert.EvenMlpIdeal.nD Cert.EvenMlpIdeal.τ).loc Cert.EvenMlpIdeal.main_arg0) = m ((c.tc : Thread Cert.EvenMlpIdeal.nD Cert.EvenMlpIdeal.τ).loc Cert.EvenMlpIdeal.main_arg0)
          ∧ r.2.mem ((c.tc : Thread Cert.EvenMlpIdeal.nD Cert.EvenMlpIdeal.τ).loc Cert.EvenMlpIdeal.main_arg1) = m ((c.tc : Thread Cert.EvenMlpIdeal.nD Cert.EvenMlpIdeal.τ).loc Cert.EvenMlpIdeal.main_arg1)
          ∧ r.2.mem ((c.tc : Thread Cert.EvenMlpIdeal.nD Cert.EvenMlpIdeal.τ).loc Cert.EvenMlpIdeal.main_arg2) = m ((c.tc : Thread Cert.EvenMlpIdeal.nD Cert.EvenMlpIdeal.τ).loc Cert.EvenMlpIdeal.main_arg2)
          ∧ r.2.mem ((c.tc : Thread Cert.EvenMlpIdeal.nD Cert.EvenMlpIdeal.τ).loc Cert.EvenMlpIdeal.main_arg3) = m ((c.tc : Thread Cert.EvenMlpIdeal.nD Cert.EvenMlpIdeal.τ).loc Cert.EvenMlpIdeal.main_arg3)
          ∧ r.2.mem ((c.tc : Thread Cert.EvenMlpIdeal.nD Cert.EvenMlpIdeal.τ).loc Cert.EvenMlpIdeal.main_arg4) = m ((c.tc : Thread Cert.EvenMlpIdeal.nD Cert.EvenMlpIdeal.τ).loc Cert.EvenMlpIdeal.main_arg4)
          ∧ r.2.mem ((c.tc : Thread Cert.EvenMlpIdeal.nD Cert.EvenMlpIdeal.τ).loc Cert.EvenMlpIdeal.main_arg5) = m ((c.tc : Thread Cert.EvenMlpIdeal.nD Cert.EvenMlpIdeal.τ).loc Cert.EvenMlpIdeal.main_arg5)
          ∧ r.2.mem ((c.tc : Thread Cert.EvenMlpIdeal.nD Cert.EvenMlpIdeal.τ).loc Cert.EvenMlpIdeal.main_arg6) = m ((c.tc : Thread Cert.EvenMlpIdeal.nD Cert.EvenMlpIdeal.τ).loc Cert.EvenMlpIdeal.main_arg6))
      ∧ θ_run (Cert.EvenMlpRefIdeal.defs (F := Ideal)) (onTc (τ := Cert.EvenMlpRefIdeal.τ) (Cert.EvenMlpRefIdeal.main (F := Ideal))) ⟨m', fun _ => 0, g'⟩ (fun r => ∀ c : Dev Cert.EvenMlpRefIdeal.nD,
          r.2.mem ((c.tc : Thread Cert.EvenMlpRefIdeal.nD Cert.EvenMlpRefIdeal.τ).loc Cert.EvenMlpRefIdeal.main_v21) = v0 c
          ∧ r.2.mem ((c.tc : Thread Cert.EvenMlpRefIdeal.nD Cert.EvenMlpRefIdeal.τ).loc Cert.EvenMlpRefIdeal.main_arg0) = m' ((c.tc : Thread Cert.EvenMlpRefIdeal.nD Cert.EvenMlpRefIdeal.τ).loc Cert.EvenMlpRefIdeal.main_arg0)
          ∧ r.2.mem ((c.tc : Thread Cert.EvenMlpRefIdeal.nD Cert.EvenMlpRefIdeal.τ).loc Cert.EvenMlpRefIdeal.main_arg1) = m' ((c.tc : Thread Cert.EvenMlpRefIdeal.nD Cert.EvenMlpRefIdeal.τ).loc Cert.EvenMlpRefIdeal.main_arg1)
          ∧ r.2.mem ((c.tc : Thread Cert.EvenMlpRefIdeal.nD Cert.EvenMlpRefIdeal.τ).loc Cert.EvenMlpRefIdeal.main_arg2) = m' ((c.tc : Thread Cert.EvenMlpRefIdeal.nD Cert.EvenMlpRefIdeal.τ).loc Cert.EvenMlpRefIdeal.main_arg2)
          ∧ r.2.mem ((c.tc : Thread Cert.EvenMlpRefIdeal.nD Cert.EvenMlpRefIdeal.τ).loc Cert.EvenMlpRefIdeal.main_arg3) = m' ((c.tc : Thread Cert.EvenMlpRefIdeal.nD Cert.EvenMlpRefIdeal.τ).loc Cert.EvenMlpRefIdeal.main_arg3)
          ∧ r.2.mem ((c.tc : Thread Cert.EvenMlpRefIdeal.nD Cert.EvenMlpRefIdeal.τ).loc Cert.EvenMlpRefIdeal.main_arg4) = m' ((c.tc : Thread Cert.EvenMlpRefIdeal.nD Cert.EvenMlpRefIdeal.τ).loc Cert.EvenMlpRefIdeal.main_arg4)
          ∧ r.2.mem ((c.tc : Thread Cert.EvenMlpRefIdeal.nD Cert.EvenMlpRefIdeal.τ).loc Cert.EvenMlpRefIdeal.main_arg5) = m' ((c.tc : Thread Cert.EvenMlpRefIdeal.nD Cert.EvenMlpRefIdeal.τ).loc Cert.EvenMlpRefIdeal.main_arg5)
          ∧ r.2.mem ((c.tc : Thread Cert.EvenMlpRefIdeal.nD Cert.EvenMlpRefIdeal.τ).loc Cert.EvenMlpRefIdeal.main_arg6) = m' ((c.tc : Thread Cert.EvenMlpRefIdeal.nD Cert.EvenMlpRefIdeal.τ).loc Cert.EvenMlpRefIdeal.main_arg6))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v13) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_OddMlpS_OddMlpSIdeal : Prop :=
  True

def algebraic_OddMlpSIdeal_OddMlpSRefIdeal [hOddMlpSIdeal : Cert.OddMlpSIdeal.Facts] [hOddMlpSRefIdeal : Cert.OddMlpSRefIdeal.Facts] : Prop :=
  ∀ (m : (ℓ : Loc Cert.OddMlpSIdeal.nD Cert.OddMlpSIdeal.τ Cert.OddMlpSIdeal.sig) → Buf (Elt Ideal) ℓ) (g : Dev Cert.OddMlpSIdeal.nD → PrngReg)
    (m' : (ℓ : Loc Cert.OddMlpSRefIdeal.nD Cert.OddMlpSRefIdeal.τ Cert.OddMlpSRefIdeal.sig) → Buf (Elt Ideal) ℓ) (g' : Dev Cert.OddMlpSRefIdeal.nD → PrngReg), Pre_OddMlpSIdeal m →
    (∀ c : Dev Cert.OddMlpSIdeal.nD,
      m' ((c.tc : Thread Cert.OddMlpSRefIdeal.nD Cert.OddMlpSRefIdeal.τ).loc Cert.OddMlpSRefIdeal.main_arg0) = m ((c.tc : Thread Cert.OddMlpSIdeal.nD Cert.OddMlpSIdeal.τ).loc Cert.OddMlpSIdeal.main_arg0)
      ∧ m' ((c.tc : Thread Cert.OddMlpSRefIdeal.nD Cert.OddMlpSRefIdeal.τ).loc Cert.OddMlpSRefIdeal.main_arg1) = m ((c.tc : Thread Cert.OddMlpSIdeal.nD Cert.OddMlpSIdeal.τ).loc Cert.OddMlpSIdeal.main_arg1)
      ∧ m' ((c.tc : Thread Cert.OddMlpSRefIdeal.nD Cert.OddMlpSRefIdeal.τ).loc Cert.OddMlpSRefIdeal.main_arg2) = m ((c.tc : Thread Cert.OddMlpSIdeal.nD Cert.OddMlpSIdeal.τ).loc Cert.OddMlpSIdeal.main_arg2)
      ∧ m' ((c.tc : Thread Cert.OddMlpSRefIdeal.nD Cert.OddMlpSRefIdeal.τ).loc Cert.OddMlpSRefIdeal.main_arg3) = m ((c.tc : Thread Cert.OddMlpSIdeal.nD Cert.OddMlpSIdeal.τ).loc Cert.OddMlpSIdeal.main_arg3)
      ∧ m' ((c.tc : Thread Cert.OddMlpSRefIdeal.nD Cert.OddMlpSRefIdeal.τ).loc Cert.OddMlpSRefIdeal.main_arg4) = m ((c.tc : Thread Cert.OddMlpSIdeal.nD Cert.OddMlpSIdeal.τ).loc Cert.OddMlpSIdeal.main_arg4)
      ∧ m' ((c.tc : Thread Cert.OddMlpSRefIdeal.nD Cert.OddMlpSRefIdeal.τ).loc Cert.OddMlpSRefIdeal.main_arg5) = m ((c.tc : Thread Cert.OddMlpSIdeal.nD Cert.OddMlpSIdeal.τ).loc Cert.OddMlpSIdeal.main_arg5)) →
    ∃ (v0 : (c : Dev Cert.OddMlpSIdeal.nD) → Buf (Elt Ideal) ((c.tc : Thread Cert.OddMlpSIdeal.nD Cert.OddMlpSIdeal.τ).loc Cert.OddMlpSIdeal.main_v4)),
      θ_run (Cert.OddMlpSIdeal.defs (F := Ideal)) (onTc (τ := Cert.OddMlpSIdeal.τ) (Cert.OddMlpSIdeal.main (F := Ideal))) ⟨m, fun _ => 0, g⟩ (fun r => ∀ c : Dev Cert.OddMlpSIdeal.nD,
          r.2.mem ((c.tc : Thread Cert.OddMlpSIdeal.nD Cert.OddMlpSIdeal.τ).loc Cert.OddMlpSIdeal.main_v4) = v0 c
          ∧ r.2.mem ((c.tc : Thread Cert.OddMlpSIdeal.nD Cert.OddMlpSIdeal.τ).loc Cert.OddMlpSIdeal.main_arg0) = m ((c.tc : Thread Cert.OddMlpSIdeal.nD Cert.OddMlpSIdeal.τ).loc Cert.OddMlpSIdeal.main_arg0)
          ∧ r.2.mem ((c.tc : Thread Cert.OddMlpSIdeal.nD Cert.OddMlpSIdeal.τ).loc Cert.OddMlpSIdeal.main_arg1) = m ((c.tc : Thread Cert.OddMlpSIdeal.nD Cert.OddMlpSIdeal.τ).loc Cert.OddMlpSIdeal.main_arg1)
          ∧ r.2.mem ((c.tc : Thread Cert.OddMlpSIdeal.nD Cert.OddMlpSIdeal.τ).loc Cert.OddMlpSIdeal.main_arg2) = m ((c.tc : Thread Cert.OddMlpSIdeal.nD Cert.OddMlpSIdeal.τ).loc Cert.OddMlpSIdeal.main_arg2)
          ∧ r.2.mem ((c.tc : Thread Cert.OddMlpSIdeal.nD Cert.OddMlpSIdeal.τ).loc Cert.OddMlpSIdeal.main_arg3) = m ((c.tc : Thread Cert.OddMlpSIdeal.nD Cert.OddMlpSIdeal.τ).loc Cert.OddMlpSIdeal.main_arg3)
          ∧ r.2.mem ((c.tc : Thread Cert.OddMlpSIdeal.nD Cert.OddMlpSIdeal.τ).loc Cert.OddMlpSIdeal.main_arg4) = m ((c.tc : Thread Cert.OddMlpSIdeal.nD Cert.OddMlpSIdeal.τ).loc Cert.OddMlpSIdeal.main_arg4)
          ∧ r.2.mem ((c.tc : Thread Cert.OddMlpSIdeal.nD Cert.OddMlpSIdeal.τ).loc Cert.OddMlpSIdeal.main_arg5) = m ((c.tc : Thread Cert.OddMlpSIdeal.nD Cert.OddMlpSIdeal.τ).loc Cert.OddMlpSIdeal.main_arg5))
      ∧ θ_run (Cert.OddMlpSRefIdeal.defs (F := Ideal)) (onTc (τ := Cert.OddMlpSRefIdeal.τ) (Cert.OddMlpSRefIdeal.main (F := Ideal))) ⟨m', fun _ => 0, g'⟩ (fun r => ∀ c : Dev Cert.OddMlpSRefIdeal.nD,
          r.2.mem ((c.tc : Thread Cert.OddMlpSRefIdeal.nD Cert.OddMlpSRefIdeal.τ).loc Cert.OddMlpSRefIdeal.main_v20) = v0 c
          ∧ r.2.mem ((c.tc : Thread Cert.OddMlpSRefIdeal.nD Cert.OddMlpSRefIdeal.τ).loc Cert.OddMlpSRefIdeal.main_arg0) = m' ((c.tc : Thread Cert.OddMlpSRefIdeal.nD Cert.OddMlpSRefIdeal.τ).loc Cert.OddMlpSRefIdeal.main_arg0)
          ∧ r.2.mem ((c.tc : Thread Cert.OddMlpSRefIdeal.nD Cert.OddMlpSRefIdeal.τ).loc Cert.OddMlpSRefIdeal.main_arg1) = m' ((c.tc : Thread Cert.OddMlpSRefIdeal.nD Cert.OddMlpSRefIdeal.τ).loc Cert.OddMlpSRefIdeal.main_arg1)
          ∧ r.2.mem ((c.tc : Thread Cert.OddMlpSRefIdeal.nD Cert.OddMlpSRefIdeal.τ).loc Cert.OddMlpSRefIdeal.main_arg2) = m' ((c.tc : Thread Cert.OddMlpSRefIdeal.nD Cert.OddMlpSRefIdeal.τ).loc Cert.OddMlpSRefIdeal.main_arg2)
          ∧ r.2.mem ((c.tc : Thread Cert.OddMlpSRefIdeal.nD Cert.OddMlpSRefIdeal.τ).loc Cert.OddMlpSRefIdeal.main_arg3) = m' ((c.tc : Thread Cert.OddMlpSRefIdeal.nD Cert.OddMlpSRefIdeal.τ).loc Cert.OddMlpSRefIdeal.main_arg3)
          ∧ r.2.mem ((c.tc : Thread Cert.OddMlpSRefIdeal.nD Cert.OddMlpSRefIdeal.τ).loc Cert.OddMlpSRefIdeal.main_arg4) = m' ((c.tc : Thread Cert.OddMlpSRefIdeal.nD Cert.OddMlpSRefIdeal.τ).loc Cert.OddMlpSRefIdeal.main_arg4)
          ∧ r.2.mem ((c.tc : Thread Cert.OddMlpSRefIdeal.nD Cert.OddMlpSRefIdeal.τ).loc Cert.OddMlpSRefIdeal.main_arg5) = m' ((c.tc : Thread Cert.OddMlpSRefIdeal.nD Cert.OddMlpSRefIdeal.τ).loc Cert.OddMlpSRefIdeal.main_arg5))

def preserves_KvPost_KvPostIdeal : Prop :=
  True

def algebraic_KvPostIdeal_KvPostRefIdeal [hKvPostIdeal : Cert.KvPostIdeal.Facts] [hKvPostRefIdeal : Cert.KvPostRefIdeal.Facts] : Prop :=
  ∀ (m : (ℓ : Loc Cert.KvPostIdeal.nD Cert.KvPostIdeal.τ Cert.KvPostIdeal.sig) → Buf (Elt Ideal) ℓ) (g : Dev Cert.KvPostIdeal.nD → PrngReg)
    (m' : (ℓ : Loc Cert.KvPostRefIdeal.nD Cert.KvPostRefIdeal.τ Cert.KvPostRefIdeal.sig) → Buf (Elt Ideal) ℓ) (g' : Dev Cert.KvPostRefIdeal.nD → PrngReg), Pre_KvPostIdeal m →
    (∀ c : Dev Cert.KvPostIdeal.nD,
      m' ((c.tc : Thread Cert.KvPostRefIdeal.nD Cert.KvPostRefIdeal.τ).loc Cert.KvPostRefIdeal.main_arg0) = m ((c.tc : Thread Cert.KvPostIdeal.nD Cert.KvPostIdeal.τ).loc Cert.KvPostIdeal.main_arg0)
      ∧ m' ((c.tc : Thread Cert.KvPostRefIdeal.nD Cert.KvPostRefIdeal.τ).loc Cert.KvPostRefIdeal.main_arg1) = m ((c.tc : Thread Cert.KvPostIdeal.nD Cert.KvPostIdeal.τ).loc Cert.KvPostIdeal.main_arg1)) →
    ∃ (v0 : (c : Dev Cert.KvPostIdeal.nD) → Buf (Elt Ideal) ((c.tc : Thread Cert.KvPostIdeal.nD Cert.KvPostIdeal.τ).loc Cert.KvPostIdeal.main_v1_0)) (v1 : (c : Dev Cert.KvPostIdeal.nD) → Buf (Elt Ideal) ((c.tc : Thread Cert.KvPostIdeal.nD Cert.KvPostIdeal.τ).loc Cert.KvPostIdeal.main_v2)),
      θ_run (Cert.KvPostIdeal.defs (F := Ideal)) (onTc (τ := Cert.KvPostIdeal.τ) (Cert.KvPostIdeal.main (F := Ideal))) ⟨m, fun _ => 0, g⟩ (fun r => ∀ c : Dev Cert.KvPostIdeal.nD,
          r.2.mem ((c.tc : Thread Cert.KvPostIdeal.nD Cert.KvPostIdeal.τ).loc Cert.KvPostIdeal.main_v1_0) = v0 c
          ∧ r.2.mem ((c.tc : Thread Cert.KvPostIdeal.nD Cert.KvPostIdeal.τ).loc Cert.KvPostIdeal.main_v2) = v1 c
          ∧ r.2.mem ((c.tc : Thread Cert.KvPostIdeal.nD Cert.KvPostIdeal.τ).loc Cert.KvPostIdeal.main_arg0) = m ((c.tc : Thread Cert.KvPostIdeal.nD Cert.KvPostIdeal.τ).loc Cert.KvPostIdeal.main_arg0)
          ∧ r.2.mem ((c.tc : Thread Cert.KvPostIdeal.nD Cert.KvPostIdeal.τ).loc Cert.KvPostIdeal.main_arg1) = m ((c.tc : Thread Cert.KvPostIdeal.nD Cert.KvPostIdeal.τ).loc Cert.KvPostIdeal.main_arg1))
      ∧ θ_run (Cert.KvPostRefIdeal.defs (F := Ideal)) (onTc (τ := Cert.KvPostRefIdeal.τ) (Cert.KvPostRefIdeal.main (F := Ideal))) ⟨m', fun _ => 0, g'⟩ (fun r => ∀ c : Dev Cert.KvPostRefIdeal.nD,
          r.2.mem ((c.tc : Thread Cert.KvPostRefIdeal.nD Cert.KvPostRefIdeal.τ).loc Cert.KvPostRefIdeal.main_v21) = v0 c
          ∧ r.2.mem ((c.tc : Thread Cert.KvPostRefIdeal.nD Cert.KvPostRefIdeal.τ).loc Cert.KvPostRefIdeal.main_v42) = v1 c
          ∧ r.2.mem ((c.tc : Thread Cert.KvPostRefIdeal.nD Cert.KvPostRefIdeal.τ).loc Cert.KvPostRefIdeal.main_arg0) = m' ((c.tc : Thread Cert.KvPostRefIdeal.nD Cert.KvPostRefIdeal.τ).loc Cert.KvPostRefIdeal.main_arg0)
          ∧ r.2.mem ((c.tc : Thread Cert.KvPostRefIdeal.nD Cert.KvPostRefIdeal.τ).loc Cert.KvPostRefIdeal.main_arg1) = m' ((c.tc : Thread Cert.KvPostRefIdeal.nD Cert.KvPostRefIdeal.τ).loc Cert.KvPostRefIdeal.main_arg1))

def preserves_KvPostS_KvPostSIdeal : Prop :=
  True

def algebraic_KvPostSIdeal_KvPostSRefIdeal [hKvPostSIdeal : Cert.KvPostSIdeal.Facts] [hKvPostSRefIdeal : Cert.KvPostSRefIdeal.Facts] : Prop :=
  ∀ (m : (ℓ : Loc Cert.KvPostSIdeal.nD Cert.KvPostSIdeal.τ Cert.KvPostSIdeal.sig) → Buf (Elt Ideal) ℓ) (g : Dev Cert.KvPostSIdeal.nD → PrngReg)
    (m' : (ℓ : Loc Cert.KvPostSRefIdeal.nD Cert.KvPostSRefIdeal.τ Cert.KvPostSRefIdeal.sig) → Buf (Elt Ideal) ℓ) (g' : Dev Cert.KvPostSRefIdeal.nD → PrngReg), Pre_KvPostSIdeal m →
    (∀ c : Dev Cert.KvPostSIdeal.nD,
      m' ((c.tc : Thread Cert.KvPostSRefIdeal.nD Cert.KvPostSRefIdeal.τ).loc Cert.KvPostSRefIdeal.main_arg0) = m ((c.tc : Thread Cert.KvPostSIdeal.nD Cert.KvPostSIdeal.τ).loc Cert.KvPostSIdeal.main_arg0)
      ∧ m' ((c.tc : Thread Cert.KvPostSRefIdeal.nD Cert.KvPostSRefIdeal.τ).loc Cert.KvPostSRefIdeal.main_arg1) = m ((c.tc : Thread Cert.KvPostSIdeal.nD Cert.KvPostSIdeal.τ).loc Cert.KvPostSIdeal.main_arg1)
      ∧ m' ((c.tc : Thread Cert.KvPostSRefIdeal.nD Cert.KvPostSRefIdeal.τ).loc Cert.KvPostSRefIdeal.main_arg2) = m ((c.tc : Thread Cert.KvPostSIdeal.nD Cert.KvPostSIdeal.τ).loc Cert.KvPostSIdeal.main_arg2)) →
    ∃ (v0 : (c : Dev Cert.KvPostSIdeal.nD) → Buf (Elt Ideal) ((c.tc : Thread Cert.KvPostSIdeal.nD Cert.KvPostSIdeal.τ).loc Cert.KvPostSIdeal.main_v1_0)) (v1 : (c : Dev Cert.KvPostSIdeal.nD) → Buf (Elt Ideal) ((c.tc : Thread Cert.KvPostSIdeal.nD Cert.KvPostSIdeal.τ).loc Cert.KvPostSIdeal.main_v4)),
      θ_run (Cert.KvPostSIdeal.defs (F := Ideal)) (onTc (τ := Cert.KvPostSIdeal.τ) (Cert.KvPostSIdeal.main (F := Ideal))) ⟨m, fun _ => 0, g⟩ (fun r => ∀ c : Dev Cert.KvPostSIdeal.nD,
          r.2.mem ((c.tc : Thread Cert.KvPostSIdeal.nD Cert.KvPostSIdeal.τ).loc Cert.KvPostSIdeal.main_v1_0) = v0 c
          ∧ r.2.mem ((c.tc : Thread Cert.KvPostSIdeal.nD Cert.KvPostSIdeal.τ).loc Cert.KvPostSIdeal.main_v4) = v1 c
          ∧ r.2.mem ((c.tc : Thread Cert.KvPostSIdeal.nD Cert.KvPostSIdeal.τ).loc Cert.KvPostSIdeal.main_arg0) = m ((c.tc : Thread Cert.KvPostSIdeal.nD Cert.KvPostSIdeal.τ).loc Cert.KvPostSIdeal.main_arg0)
          ∧ r.2.mem ((c.tc : Thread Cert.KvPostSIdeal.nD Cert.KvPostSIdeal.τ).loc Cert.KvPostSIdeal.main_arg1) = m ((c.tc : Thread Cert.KvPostSIdeal.nD Cert.KvPostSIdeal.τ).loc Cert.KvPostSIdeal.main_arg1)
          ∧ r.2.mem ((c.tc : Thread Cert.KvPostSIdeal.nD Cert.KvPostSIdeal.τ).loc Cert.KvPostSIdeal.main_arg2) = m ((c.tc : Thread Cert.KvPostSIdeal.nD Cert.KvPostSIdeal.τ).loc Cert.KvPostSIdeal.main_arg2))
      ∧ θ_run (Cert.KvPostSRefIdeal.defs (F := Ideal)) (onTc (τ := Cert.KvPostSRefIdeal.τ) (Cert.KvPostSRefIdeal.main (F := Ideal))) ⟨m', fun _ => 0, g'⟩ (fun r => ∀ c : Dev Cert.KvPostSRefIdeal.nD,
          r.2.mem ((c.tc : Thread Cert.KvPostSRefIdeal.nD Cert.KvPostSRefIdeal.τ).loc Cert.KvPostSRefIdeal.main_v21) = v0 c
          ∧ r.2.mem ((c.tc : Thread Cert.KvPostSRefIdeal.nD Cert.KvPostSRefIdeal.τ).loc Cert.KvPostSRefIdeal.main_v44) = v1 c
          ∧ r.2.mem ((c.tc : Thread Cert.KvPostSRefIdeal.nD Cert.KvPostSRefIdeal.τ).loc Cert.KvPostSRefIdeal.main_arg0) = m' ((c.tc : Thread Cert.KvPostSRefIdeal.nD Cert.KvPostSRefIdeal.τ).loc Cert.KvPostSRefIdeal.main_arg0)
          ∧ r.2.mem ((c.tc : Thread Cert.KvPostSRefIdeal.nD Cert.KvPostSRefIdeal.τ).loc Cert.KvPostSRefIdeal.main_arg1) = m' ((c.tc : Thread Cert.KvPostSRefIdeal.nD Cert.KvPostSRefIdeal.τ).loc Cert.KvPostSRefIdeal.main_arg1)
          ∧ r.2.mem ((c.tc : Thread Cert.KvPostSRefIdeal.nD Cert.KvPostSRefIdeal.τ).loc Cert.KvPostSRefIdeal.main_arg2) = m' ((c.tc : Thread Cert.KvPostSRefIdeal.nD Cert.KvPostSRefIdeal.τ).loc Cert.KvPostSRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v3) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v14) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v6_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v13) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v4_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v4_1) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v11) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5))

def preserves_HgrnS_HgrnSIdeal : Prop :=
  True

def algebraic_HgrnSIdeal_HgrnSRefIdeal_pre_bounds_finite [hHgrnSIdeal : Cert.HgrnSIdeal.Facts] [hHgrnSRefIdeal : Cert.HgrnSRefIdeal.Facts] [hPre_bounds_finite : Cert.Pre_bounds_finite.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal_bounds_finite m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v90_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v90_1) = v0 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v47) = v0 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def preserves_HgrnP_HgrnPIdeal : Prop :=
  True

def algebraic_HgrnPIdeal_HgrnPRefIdeal [hHgrnPIdeal : Cert.HgrnPIdeal.Facts] [hHgrnPRefIdeal : Cert.HgrnPRefIdeal.Facts] : Prop :=
  ∀ (m : (ℓ : Loc Cert.HgrnPIdeal.nD Cert.HgrnPIdeal.τ Cert.HgrnPIdeal.sig) → Buf (Elt Ideal) ℓ) (g : Dev Cert.HgrnPIdeal.nD → PrngReg)
    (m' : (ℓ : Loc Cert.HgrnPRefIdeal.nD Cert.HgrnPRefIdeal.τ Cert.HgrnPRefIdeal.sig) → Buf (Elt Ideal) ℓ) (g' : Dev Cert.HgrnPRefIdeal.nD → PrngReg), Pre_HgrnPIdeal m →
    (∀ c : Dev Cert.HgrnPIdeal.nD,
      m' ((c.tc : Thread Cert.HgrnPRefIdeal.nD Cert.HgrnPRefIdeal.τ).loc Cert.HgrnPRefIdeal.main_arg0) = m ((c.tc : Thread Cert.HgrnPIdeal.nD Cert.HgrnPIdeal.τ).loc Cert.HgrnPIdeal.main_arg0)
      ∧ m' ((c.tc : Thread Cert.HgrnPRefIdeal.nD Cert.HgrnPRefIdeal.τ).loc Cert.HgrnPRefIdeal.main_arg1) = m ((c.tc : Thread Cert.HgrnPIdeal.nD Cert.HgrnPIdeal.τ).loc Cert.HgrnPIdeal.main_arg1)
      ∧ m' ((c.tc : Thread Cert.HgrnPRefIdeal.nD Cert.HgrnPRefIdeal.τ).loc Cert.HgrnPRefIdeal.main_arg2) = m ((c.tc : Thread Cert.HgrnPIdeal.nD Cert.HgrnPIdeal.τ).loc Cert.HgrnPIdeal.main_arg2)) →
    ∃ (v0 : (c : Dev Cert.HgrnPIdeal.nD) → Buf (Elt Ideal) ((c.tc : Thread Cert.HgrnPIdeal.nD Cert.HgrnPIdeal.τ).loc Cert.HgrnPIdeal.main_v90_1)),
      θ_run (Cert.HgrnPIdeal.defs (F := Ideal)) (onTc (τ := Cert.HgrnPIdeal.τ) (Cert.HgrnPIdeal.main (F := Ideal))) ⟨m, fun _ => 0, g⟩ (fun r => ∀ c : Dev Cert.HgrnPIdeal.nD,
          r.2.mem ((c.tc : Thread Cert.HgrnPIdeal.nD Cert.HgrnPIdeal.τ).loc Cert.HgrnPIdeal.main_v90_1) = v0 c
          ∧ r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
          ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
          ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ θ_run (Cert.HgrnPRefIdeal.defs (F := Ideal)) (onTc (τ := Cert.HgrnPRefIdeal.τ) (Cert.HgrnPRefIdeal.main (F := Ideal))) ⟨m', fun _ => 0, g'⟩ (fun r => ∀ c : Dev Cert.HgrnPRefIdeal.nD,
          r.2.mem ((c.tc : Thread Cert.HgrnPRefIdeal.nD Cert.HgrnPRefIdeal.τ).loc Cert.HgrnPRefIdeal.main_v10_4) = v0 c
          ∧ r.2.mem ((c.tc : Thread Cert.HgrnPRefIdeal.nD Cert.HgrnPRefIdeal.τ).loc Cert.HgrnPRefIdeal.main_arg0) = m' ((c.tc : Thread Cert.HgrnPRefIdeal.nD Cert.HgrnPRefIdeal.τ).loc Cert.HgrnPRefIdeal.main_arg0)
          ∧ r.2.mem ((c.tc : Thread Cert.HgrnPRefIdeal.nD Cert.HgrnPRefIdeal.τ).loc Cert.HgrnPRefIdeal.main_arg1) = m' ((c.tc : Thread Cert.HgrnPRefIdeal.nD Cert.HgrnPRefIdeal.τ).loc Cert.HgrnPRefIdeal.main_arg1)
          ∧ r.2.mem ((c.tc : Thread Cert.HgrnPRefIdeal.nD Cert.HgrnPRefIdeal.τ).loc Cert.HgrnPRefIdeal.main_arg2) = m' ((c.tc : Thread Cert.HgrnPRefIdeal.nD Cert.HgrnPRefIdeal.τ).loc Cert.HgrnPRefIdeal.main_arg2))

def Claim : Prop :=
  ∃ (hKernel : Cert.Kernel.Facts) (hKernelIdeal : Cert.KernelIdeal.Facts) (hOddMlp : Cert.OddMlp.Facts) (hOddMlpIdeal : Cert.OddMlpIdeal.Facts) (hOddMlpRefIdeal : Cert.OddMlpRefIdeal.Facts) (hEvenMlp : Cert.EvenMlp.Facts) (hEvenMlpIdeal : Cert.EvenMlpIdeal.Facts) (hEvenMlpRefIdeal : Cert.EvenMlpRefIdeal.Facts) (hOddIn : Cert.OddIn.Facts) (hOddInIdeal : Cert.OddInIdeal.Facts) (hOddInRefIdeal : Cert.OddInRefIdeal.Facts) (hOddMlpS : Cert.OddMlpS.Facts) (hOddMlpSIdeal : Cert.OddMlpSIdeal.Facts) (hOddMlpSRefIdeal : Cert.OddMlpSRefIdeal.Facts) (hKvPost : Cert.KvPost.Facts) (hKvPostIdeal : Cert.KvPostIdeal.Facts) (hKvPostRefIdeal : Cert.KvPostRefIdeal.Facts) (hKvPostS : Cert.KvPostS.Facts) (hKvPostSIdeal : Cert.KvPostSIdeal.Facts) (hKvPostSRefIdeal : Cert.KvPostSRefIdeal.Facts) (hEvenIn : Cert.EvenIn.Facts) (hEvenInIdeal : Cert.EvenInIdeal.Facts) (hEvenInRefIdeal : Cert.EvenInRefIdeal.Facts) (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hHgrnS : Cert.HgrnS.Facts) (hHgrnSIdeal : Cert.HgrnSIdeal.Facts) (hHgrnSRefIdeal : Cert.HgrnSRefIdeal.Facts) (hHgrnP : Cert.HgrnP.Facts) (hHgrnPIdeal : Cert.HgrnPIdeal.Facts) (hHgrnPRefIdeal : Cert.HgrnPRefIdeal.Facts) (hPre_bounds_finite : Cert.Pre_bounds_finite.Facts),
    quiescent_Kernel (hKernel := hKernel)
    ∧ quiescent_KernelIdeal (hKernelIdeal := hKernelIdeal)
    ∧ quiescent_OddMlp (hOddMlp := hOddMlp)
    ∧ quiescent_OddMlpIdeal (hOddMlpIdeal := hOddMlpIdeal)
    ∧ quiescent_OddMlpRefIdeal (hOddMlpRefIdeal := hOddMlpRefIdeal)
    ∧ quiescent_EvenMlp (hEvenMlp := hEvenMlp)
    ∧ quiescent_EvenMlpIdeal (hEvenMlpIdeal := hEvenMlpIdeal)
    ∧ quiescent_EvenMlpRefIdeal (hEvenMlpRefIdeal := hEvenMlpRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddMlpS (hOddMlpS := hOddMlpS)
    ∧ quiescent_OddMlpSIdeal (hOddMlpSIdeal := hOddMlpSIdeal)
    ∧ quiescent_OddMlpSRefIdeal (hOddMlpSRefIdeal := hOddMlpSRefIdeal)
    ∧ quiescent_KvPost (hKvPost := hKvPost)
    ∧ quiescent_KvPostIdeal (hKvPostIdeal := hKvPostIdeal)
    ∧ quiescent_KvPostRefIdeal (hKvPostRefIdeal := hKvPostRefIdeal)
    ∧ quiescent_KvPostS (hKvPostS := hKvPostS)
    ∧ quiescent_KvPostSIdeal (hKvPostSIdeal := hKvPostSIdeal)
    ∧ quiescent_KvPostSRefIdeal (hKvPostSRefIdeal := hKvPostSRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_HgrnS (hHgrnS := hHgrnS)
    ∧ quiescent_HgrnSIdeal (hHgrnSIdeal := hHgrnSIdeal)
    ∧ quiescent_HgrnSIdeal_pre_bounds_finite (hHgrnSIdeal := hHgrnSIdeal) (hPre_bounds_finite := hPre_bounds_finite)
    ∧ quiescent_HgrnSRefIdeal (hHgrnSRefIdeal := hHgrnSRefIdeal)
    ∧ quiescent_HgrnSRefIdeal_pre_bounds_finite (hHgrnSRefIdeal := hHgrnSRefIdeal) (hPre_bounds_finite := hPre_bounds_finite)
    ∧ quiescent_HgrnP (hHgrnP := hHgrnP)
    ∧ quiescent_HgrnPIdeal (hHgrnPIdeal := hHgrnPIdeal)
    ∧ quiescent_HgrnPRefIdeal (hHgrnPRefIdeal := hHgrnPRefIdeal)
    ∧ preserves_Kernel_KernelIdeal
    ∧ preserves_OddMlp_OddMlpIdeal
    ∧ algebraic_OddMlpIdeal_OddMlpRefIdeal (hOddMlpIdeal := hOddMlpIdeal) (hOddMlpRefIdeal := hOddMlpRefIdeal)
    ∧ preserves_EvenMlp_EvenMlpIdeal
    ∧ algebraic_EvenMlpIdeal_EvenMlpRefIdeal (hEvenMlpIdeal := hEvenMlpIdeal) (hEvenMlpRefIdeal := hEvenMlpRefIdeal)
    ∧ preserves_OddIn_OddInIdeal
    ∧ algebraic_OddInIdeal_OddInRefIdeal (hOddInIdeal := hOddInIdeal) (hOddInRefIdeal := hOddInRefIdeal)
    ∧ preserves_OddMlpS_OddMlpSIdeal
    ∧ algebraic_OddMlpSIdeal_OddMlpSRefIdeal (hOddMlpSIdeal := hOddMlpSIdeal) (hOddMlpSRefIdeal := hOddMlpSRefIdeal)
    ∧ preserves_KvPost_KvPostIdeal
    ∧ algebraic_KvPostIdeal_KvPostRefIdeal (hKvPostIdeal := hKvPostIdeal) (hKvPostRefIdeal := hKvPostRefIdeal)
    ∧ preserves_KvPostS_KvPostSIdeal
    ∧ algebraic_KvPostSIdeal_KvPostSRefIdeal (hKvPostSIdeal := hKvPostSIdeal) (hKvPostSRefIdeal := hKvPostSRefIdeal)
    ∧ preserves_EvenIn_EvenInIdeal
    ∧ algebraic_EvenInIdeal_EvenInRefIdeal (hEvenInIdeal := hEvenInIdeal) (hEvenInRefIdeal := hEvenInRefIdeal)
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
    ∧ preserves_HgrnS_HgrnSIdeal
    ∧ algebraic_HgrnSIdeal_HgrnSRefIdeal_pre_bounds_finite (hHgrnSIdeal := hHgrnSIdeal) (hHgrnSRefIdeal := hHgrnSRefIdeal) (hPre_bounds_finite := hPre_bounds_finite)
    ∧ preserves_HgrnP_HgrnPIdeal
    ∧ algebraic_HgrnPIdeal_HgrnPRefIdeal (hHgrnPIdeal := hHgrnPIdeal) (hHgrnPRefIdeal := hHgrnPRefIdeal)
-- ==== Pre_bounds_finite.lean ====
abbrev S32x4x4096 : Shape := ⟨3, ![32, 4, 4096]⟩
abbrev S32x8x128x128 : Shape := ⟨4, ![32, 8, 128, 128]⟩
abbrev S1024 : Shape := ⟨1, ![1024]⟩
abbrev S128 : Shape := ⟨1, ![128]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S32x4x4096 .f32) (main_arg1 : FVec F S32x8x128x128 .f32) (main_arg2 : FVec F S1024 .f32) (main_arg3 : FVec F S128 .f32) : IVec S1024 1 :=
  let main_cst : FVec F S_ .f32 := constant S_ .f32 0x7F800000#32
  let main_v0 : FVec F S1024 .f32 := broadcastInDim S1024 ![] bcast_S_S1024 main_cst
  let main_v1 : IVec S1024 1 := cmpf .olt main_arg2 main_v0
  main_v1
-- ==== Kernel.lean ====
abbrev S16384x2432 : Shape := ⟨2, ![16384, 2432]⟩
abbrev S1024x128 : Shape := ⟨2, ![1024, 128]⟩
abbrev S16384x128 : Shape := ⟨2, ![16384, 128]⟩
abbrev S64 : Shape := ⟨1, ![64]⟩
abbrev S32x8 : Shape := ⟨2, ![32, 8]⟩
abbrev S_ : Shape := ⟨0, ![]⟩
abbrev S1024x2x64 : Shape := ⟨3, ![1024, 2, 64]⟩
abbrev S2x64x1024 : Shape := ⟨3, ![2, 64, 1024]⟩
abbrev S256x1024 : Shape := ⟨2, ![256, 1024]⟩
abbrev S16384 : Shape := ⟨1, ![16384]⟩
abbrev S16384x1 : Shape := ⟨2, ![16384, 1]⟩
abbrev S128 : Shape := ⟨1, ![128]⟩
abbrev S1x128 : Shape := ⟨2, ![1, 128]⟩
abbrev S16384x256 : Shape := ⟨2, ![16384, 256]⟩
abbrev S16640x256 : Shape := ⟨2, ![16640, 256]⟩
abbrev S65x256x256 : Shape := ⟨3, ![65, 256, 256]⟩
abbrev S16640x128 : Shape := ⟨2, ![16640, 128]⟩
abbrev S65x256x2x64 : Shape := ⟨4, ![65, 256, 2, 64]⟩
abbrev S2x65x64x256 : Shape := ⟨4, ![2, 65, 64, 256]⟩
abbrev S2x65x1x256 : Shape := ⟨4, ![2, 65, 1, 256]⟩
abbrev S2x65x15x256 : Shape := ⟨4, ![2, 65, 15, 256]⟩
abbrev S2x65x80x256 : Shape := ⟨4, ![2, 65, 80, 256]⟩
abbrev S16896x128 : Shape := ⟨2, ![16896, 128]⟩
abbrev S132x128x2x64 : Shape := ⟨4, ![132, 128, 2, 64]⟩
abbrev S2x132x64x128 : Shape := ⟨4, ![2, 132, 64, 128]⟩
abbrev S2x132x1x128 : Shape := ⟨4, ![2, 132, 1, 128]⟩
abbrev S2x132x15x128 : Shape := ⟨4, ![2, 132, 15, 128]⟩
abbrev S2x132x80x128 : Shape := ⟨4, ![2, 132, 80, 128]⟩
abbrev S1x8 : Shape := ⟨2, ![1, 8]⟩
abbrev S8 : Shape := ⟨1, ![8]⟩
abbrev S511 : Shape := ⟨1, ![511]⟩
abbrev S1x511 : Shape := ⟨2, ![1, 511]⟩
abbrev S511x1 : Shape := ⟨2, ![511, 1]⟩
abbrev S511x8 : Shape := ⟨2, ![511, 8]⟩
abbrev S8x511 : Shape := ⟨2, ![8, 511]⟩
abbrev S1x8x1x511 : Shape := ⟨4, ![1, 8, 1, 511]⟩
abbrev S1x8x385x511 : Shape := ⟨4, ![1, 8, 385, 511]⟩
abbrev S8x196735 : Shape := ⟨2, ![8, 196735]⟩
abbrev S8x196608 : Shape := ⟨2, ![8, 196608]⟩
abbrev S8x384x512 : Shape := ⟨3, ![8, 384, 512]⟩
abbrev S8x384x128 : Shape := ⟨3, ![8, 384, 128]⟩
abbrev S8x24x128 : Shape := ⟨3, ![8, 24, 128]⟩
abbrev S2x4x24x128 : Shape := ⟨4, ![2, 4, 24, 128]⟩
abbrev S2x24x4x128 : Shape := ⟨4, ![2, 24, 4, 128]⟩
abbrev S2x24x512 : Shape := ⟨3, ![2, 24, 512]⟩
abbrev S639 : Shape := ⟨1, ![639]⟩
abbrev S1x639 : Shape := ⟨2, ![1, 639]⟩
abbrev S639x1 : Shape := ⟨2, ![639, 1]⟩
abbrev S639x8 : Shape := ⟨2, ![639, 8]⟩
abbrev S8x639 : Shape := ⟨2, ![8, 639]⟩
abbrev S1x8x1x639 : Shape := ⟨4, ![1, 8, 1, 639]⟩
abbrev S1x8x513x639 : Shape := ⟨4, ![1, 8, 513, 639]⟩
abbrev S8x327807 : Shape := ⟨2, ![8, 327807]⟩
abbrev S8x327680 : Shape := ⟨2, ![8, 327680]⟩
abbrev S8x512x640 : Shape := ⟨3, ![8, 512, 640]⟩
abbrev S8x512x128 : Shape := ⟨3, ![8, 512, 128]⟩
abbrev S2x4x512x128 : Shape := ⟨4, ![2, 4, 512, 128]⟩
abbrev S2x512x4x128 : Shape := ⟨4, ![2, 512, 4, 128]⟩
abbrev S2x512x512 : Shape := ⟨3, ![2, 512, 512]⟩
abbrev S2x2x256x512 : Shape := ⟨4, ![2, 2, 256, 512]⟩
abbrev S1x2x2x256x512 : Shape := ⟨5, ![1, 2, 2, 256, 512]⟩
abbrev S2x2x2x256x512 : Shape := ⟨5, ![2, 2, 2, 256, 512]⟩
abbrev S767 : Shape := ⟨1, ![767]⟩
abbrev S1x767 : Shape := ⟨2, ![1, 767]⟩
abbrev S767x1 : Shape := ⟨2, ![767, 1]⟩
abbrev S767x8 : Shape := ⟨2, ![767, 8]⟩
abbrev S8x767 : Shape := ⟨2, ![8, 767]⟩
abbrev S1x8x1x767 : Shape := ⟨4, ![1, 8, 1, 767]⟩
abbrev S1x8x641x767 : Shape := ⟨4, ![1, 8, 641, 767]⟩
abbrev S8x491647 : Shape := ⟨2, ![8, 491647]⟩
abbrev S8x491520 : Shape := ⟨2, ![8, 491520]⟩
abbrev S8x640x768 : Shape := ⟨3, ![8, 640, 768]⟩
abbrev S8x640x128 : Shape := ⟨3, ![8, 640, 128]⟩
abbrev S2x4x640x128 : Shape := ⟨4, ![2, 4, 640, 128]⟩
abbrev S2x640x4x128 : Shape := ⟨4, ![2, 640, 4, 128]⟩
abbrev S2x640x512 : Shape := ⟨3, ![2, 640, 512]⟩
abbrev S16384x512 : Shape := ⟨2, ![16384, 512]⟩
abbrev S128x512 : Shape := ⟨2, ![128, 512]⟩
abbrev S128x128 : Shape := ⟨2, ![128, 128]⟩
abbrev S2x1040x512 : Shape := ⟨3, ![2, 1040, 512]⟩
abbrev S2x80x512 : Shape := ⟨3, ![2, 80, 512]⟩
abbrev S2x2x512x256 : Shape := ⟨4, ![2, 2, 512, 256]⟩
abbrev S2x512x128 : Shape := ⟨3, ![2, 512, 128]⟩
abbrev S2x256x512 : Shape := ⟨3, ![2, 256, 512]⟩
abbrev S2x1x512 : Shape := ⟨3, ![2, 1, 512]⟩
abbrev S2x16x512 : Shape := ⟨3, ![2, 16, 512]⟩
abbrev S128x1 : Shape := ⟨2, ![128, 1]⟩
abbrev S512x128 : Shape := ⟨2, ![512, 128]⟩
abbrev S1x512x128 : Shape := ⟨3, ![1, 512, 128]⟩
abbrev S64x512 : Shape := ⟨2, ![64, 512]⟩
abbrev S256x128 : Shape := ⟨2, ![256, 128]⟩
abbrev S1024x512 : Shape := ⟨2, ![1024, 512]⟩
abbrev S1x1024x512 : Shape := ⟨3, ![1, 1024, 512]⟩
abbrev S1x24x512 : Shape := ⟨3, ![1, 24, 512]⟩
abbrev S24x512 : Shape := ⟨2, ![24, 512]⟩
abbrev S1024x1 : Shape := ⟨2, ![1024, 1]⟩
abbrev S512 : Shape := ⟨1, ![512]⟩
abbrev S1x512 : Shape := ⟨2, ![1, 512]⟩
abbrev S1x64x1024 : Shape := ⟨3, ![1, 64, 1024]⟩
abbrev S64x1024 : Shape := ⟨2, ![64, 1024]⟩
abbrev S1024x384 : Shape := ⟨2, ![1024, 384]⟩
abbrev S256x384 : Shape := ⟨2, ![256, 384]⟩
abbrev S768x128 : Shape := ⟨2, ![768, 128]⟩
abbrev S768x512 : Shape := ⟨2, ![768, 512]⟩
abbrev S1x768x512 : Shape := ⟨3, ![1, 768, 512]⟩
abbrev S768x1 : Shape := ⟨2, ![768, 1]⟩
abbrev S1x64x768 : Shape := ⟨3, ![1, 64, 768]⟩
abbrev S64x768 : Shape := ⟨2, ![64, 768]⟩
abbrev S256x768 : Shape := ⟨2, ![256, 768]⟩
abbrev S768x384 : Shape := ⟨2, ![768, 384]⟩
abbrev S512x512 : Shape := ⟨2, ![512, 512]⟩
abbrev S1x512x512 : Shape := ⟨3, ![1, 512, 512]⟩
abbrev S512x1 : Shape := ⟨2, ![512, 1]⟩
abbrev S1x64x512 : Shape := ⟨3, ![1, 64, 512]⟩
abbrev S256x512 : Shape := ⟨2, ![256, 512]⟩
abbrev S512x384 : Shape := ⟨2, ![512, 384]⟩
abbrev S1x256x512 : Shape := ⟨3, ![1, 256, 512]⟩
abbrev S256x1 : Shape := ⟨2, ![256, 1]⟩
abbrev S1x64x256 : Shape := ⟨3, ![1, 64, 256]⟩
abbrev S64x256 : Shape := ⟨2, ![64, 256]⟩
abbrev S256x256 : Shape := ⟨2, ![256, 256]⟩
abbrev S1x256 : Shape := ⟨2, ![1, 256]⟩
abbrev S256 : Shape := ⟨1, ![256]⟩
abbrev S128x256 : Shape := ⟨2, ![128, 256]⟩
abbrev S512x256 : Shape := ⟨2, ![512, 256]⟩
abbrev S1x1x512x256 : Shape := ⟨4, ![1, 1, 512, 256]⟩
abbrev S1x1x256x256 : Shape := ⟨4, ![1, 1, 256, 256]⟩
abbrev S1x256x256 : Shape := ⟨3, ![1, 256, 256]⟩
abbrev S1x80x256 : Shape := ⟨3, ![1, 80, 256]⟩
abbrev S80x256 : Shape := ⟨2, ![80, 256]⟩
abbrev S1x1x80x256 : Shape := ⟨4, ![1, 1, 80, 256]⟩
abbrev S1x1x256 : Shape := ⟨3, ![1, 1, 256]⟩
abbrev S1x1x1x256x256 : Shape := ⟨5, ![1, 1, 1, 256, 256]⟩
abbrev S1x1x512 : Shape := ⟨3, ![1, 1, 512]⟩
abbrev S640x128 : Shape := ⟨2, ![640, 128]⟩
abbrev S640x512 : Shape := ⟨2, ![640, 512]⟩
abbrev S1x640x512 : Shape := ⟨3, ![1, 640, 512]⟩
abbrev S640x1 : Shape := ⟨2, ![640, 1]⟩
abbrev S1x1x80x128 : Shape := ⟨4, ![1, 1, 80, 128]⟩
abbrev S80x128 : Shape := ⟨2, ![80, 128]⟩
abbrev S80x640 : Shape := ⟨2, ![80, 640]⟩
abbrev S80x512 : Shape := ⟨2, ![80, 512]⟩
abbrev S64x128 : Shape := ⟨2, ![64, 128]⟩
abbrev S128x64 : Shape := ⟨2, ![128, 64]⟩

abbrev nBuf : Space → Nat
  | .hbm => 505
  | .vmem => 25
  | .smem => 0
  | _ => 0

abbrev hbmTy0_0 (i : Nat) : BufTy := match i % 128 with
  | 0 => ⟨S16384x2432, .f32⟩
  | 1 => ⟨S1024x128, .bf16⟩
  | 2 => ⟨S1024x128, .bf16⟩
  | 3 => ⟨S16384x128, .f32⟩
  | 4 => ⟨S16384x128, .f32⟩
  | 5 => ⟨S16384x128, .f32⟩
  | 6 => ⟨S16384x128, .f32⟩
  | 7 => ⟨S64, .f32⟩
  | 8 => ⟨S32x8, .f32⟩
  | 9 => ⟨S_, .i32⟩
  | 10 => ⟨S_, .bf16⟩
  | 11 => ⟨S1024x128, .bf16⟩
  | 12 => ⟨S_, .i32⟩
  | 13 => ⟨S_, .bf16⟩
  | 14 => ⟨S1024x128, .bf16⟩
  | 15 => ⟨S1024x2x64, .bf16⟩
  | 16 => ⟨S2x64x1024, .bf16⟩
  | 17 => ⟨S256x1024, .i32⟩
  | 18 => ⟨S256x1024, .i32⟩
  | 19 => ⟨S_, .i32⟩
  | 20 => ⟨S256x1024, .i32⟩
  | 21 => ⟨S256x1024, .i32⟩
  | 22 => ⟨S256x1024, .i32⟩
  | 23 => ⟨S256x1024, .i32⟩
  | 24 => ⟨S_, .f32⟩
  | 25 => ⟨S256x1024, .f32⟩
  | 26 => ⟨S_, .i32⟩
  | 27 => ⟨S256x1024, .i32⟩
  | 28 => ⟨S256x1024, .i1⟩
  | 29 => ⟨S_, .i32⟩
  | 30 => ⟨S256x1024, .i32⟩
  | 31 => ⟨S256x1024, .i1⟩
  | 32 => ⟨S256x1024, .i1⟩
  | 33 => ⟨S_, .f32⟩
  | 34 => ⟨S_, .f32⟩
  | 35 => ⟨S256x1024, .f32⟩
  | 36 => ⟨S256x1024, .f32⟩
  | 37 => ⟨S256x1024, .f32⟩
  | 38 => ⟨S256x1024, .f32⟩
  | 39 => ⟨S256x1024, .f32⟩
  | 40 => ⟨S_, .i32⟩
  | 41 => ⟨S256x1024, .i32⟩
  | 42 => ⟨S256x1024, .i1⟩
  | 43 => ⟨S_, .i32⟩
  | 44 => ⟨S256x1024, .i32⟩
  | 45 => ⟨S256x1024, .i1⟩
  | 46 => ⟨S256x1024, .i1⟩
  | 47 => ⟨S_, .f32⟩
  | 48 => ⟨S_, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S_, .i32⟩
  | 55 => ⟨S256x1024, .i32⟩
  | 56 => ⟨S256x1024, .i1⟩
  | 57 => ⟨S_, .i32⟩
  | 58 => ⟨S256x1024, .i32⟩
  | 59 => ⟨S256x1024, .i1⟩
  | 60 => ⟨S256x1024, .i1⟩
  | 61 => ⟨S_, .f32⟩
  | 62 => ⟨S_, .f32⟩
  | 63 => ⟨S256x1024, .f32⟩
  | 64 => ⟨S256x1024, .f32⟩
  | 65 => ⟨S256x1024, .f32⟩
  | 66 => ⟨S256x1024, .f32⟩
  | 67 => ⟨S256x1024, .f32⟩
  | 68 => ⟨S_, .i32⟩
  | 69 => ⟨S256x1024, .i32⟩
  | 70 => ⟨S256x1024, .i1⟩
  | 71 => ⟨S_, .i32⟩
  | 72 => ⟨S256x1024, .i32⟩
  | 73 => ⟨S256x1024, .i1⟩
  | 74 => ⟨S256x1024, .i1⟩
  | 75 => ⟨S_, .f32⟩
  | 76 => ⟨S_, .f32⟩
  | 77 => ⟨S256x1024, .f32⟩
  | 78 => ⟨S256x1024, .f32⟩
  | 79 => ⟨S256x1024, .f32⟩
  | 80 => ⟨S256x1024, .f32⟩
  | 81 => ⟨S256x1024, .f32⟩
  | 82 => ⟨S_, .i32⟩
  | 83 => ⟨S256x1024, .i32⟩
  | 84 => ⟨S256x1024, .i1⟩
  | 85 => ⟨S_, .i32⟩
  | 86 => ⟨S256x1024, .i32⟩
  | 87 => ⟨S256x1024, .i1⟩
  | 88 => ⟨S256x1024, .i1⟩
  | 89 => ⟨S_, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S_, .i32⟩
  | 97 => ⟨S256x1024, .i32⟩
  | 98 => ⟨S256x1024, .i1⟩
  | 99 => ⟨S_, .i32⟩
  | 100 => ⟨S256x1024, .i32⟩
  | 101 => ⟨S256x1024, .i1⟩
  | 102 => ⟨S256x1024, .i1⟩
  | 103 => ⟨S_, .f32⟩
  | 104 => ⟨S_, .f32⟩
  | 105 => ⟨S256x1024, .f32⟩
  | 106 => ⟨S256x1024, .f32⟩
  | 107 => ⟨S256x1024, .f32⟩
  | 108 => ⟨S256x1024, .f32⟩
  | 109 => ⟨S256x1024, .f32⟩
  | 110 => ⟨S_, .i32⟩
  | 111 => ⟨S256x1024, .i32⟩
  | 112 => ⟨S256x1024, .i1⟩
  | 113 => ⟨S_, .i32⟩
  | 114 => ⟨S256x1024, .i32⟩
  | 115 => ⟨S256x1024, .i1⟩
  | 116 => ⟨S256x1024, .i1⟩
  | 117 => ⟨S_, .f32⟩
  | 118 => ⟨S_, .f32⟩
  | 119 => ⟨S256x1024, .f32⟩
  | 120 => ⟨S256x1024, .f32⟩
  | 121 => ⟨S256x1024, .f32⟩
  | 122 => ⟨S256x1024, .f32⟩
  | 123 => ⟨S256x1024, .f32⟩
  | 124 => ⟨S_, .i32⟩
  | 125 => ⟨S256x1024, .i32⟩
  | 126 => ⟨S256x1024, .i1⟩
  | 127 => ⟨S_, .i32⟩
  | _ => ⟨S16384x2432, .f32⟩

abbrev hbmTy0_1 (i : Nat) : BufTy := match i % 128 with
  | 0 => ⟨S256x1024, .i32⟩
  | 1 => ⟨S256x1024, .i1⟩
  | 2 => ⟨S256x1024, .i1⟩
  | 3 => ⟨S_, .f32⟩
  | 4 => ⟨S_, .f32⟩
  | 5 => ⟨S256x1024, .f32⟩
  | 6 => ⟨S256x1024, .f32⟩
  | 7 => ⟨S256x1024, .f32⟩
  | 8 => ⟨S256x1024, .f32⟩
  | 9 => ⟨S256x1024, .f32⟩
  | 10 => ⟨S256x1024, .bf16⟩
  | 11 => ⟨S16384, .i32⟩
  | 12 => ⟨S16384x1, .i32⟩
  | 13 => ⟨S_, .i32⟩
  | 14 => ⟨S_, .i32⟩
  | 15 => ⟨S16384x1, .i32⟩
  | 16 => ⟨S16384x1, .i32⟩
  | 17 => ⟨S16384x1, .i32⟩
  | 18 => ⟨S_, .i32⟩
  | 19 => ⟨S16384x1, .i32⟩
  | 20 => ⟨S16384x1, .i1⟩
  | 21 => ⟨S16384x1, .i32⟩
  | 22 => ⟨S16384x1, .i32⟩
  | 23 => ⟨S_, .i32⟩
  | 24 => ⟨S16384x1, .i32⟩
  | 25 => ⟨S16384x1, .i1⟩
  | 26 => ⟨S16384x1, .i1⟩
  | 27 => ⟨S_, .i32⟩
  | 28 => ⟨S16384x1, .i32⟩
  | 29 => ⟨S16384x1, .i32⟩
  | 30 => ⟨S16384x1, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S16384x1, .i32⟩
  | 38 => ⟨S16384x1, .i32⟩
  | 39 => ⟨S_, .i32⟩
  | 40 => ⟨S16384x1, .i32⟩
  | 41 => ⟨S16384x1, .i1⟩
  | 42 => ⟨S_, .i32⟩
  | 43 => ⟨S16384x1, .i32⟩
  | 44 => ⟨S16384x1, .i1⟩
  | 45 => ⟨S_, .i32⟩
  | 46 => ⟨S_, .i1⟩
  | 47 => ⟨S16384x1, .i1⟩
  | 48 => ⟨S16384x1, .i1⟩
  | 49 => ⟨S16384x1, .i1⟩
  | 50 => ⟨S16384x1, .i32⟩
  | 51 => ⟨S16384x1, .i32⟩
  | 52 => ⟨S16384x1, .i32⟩
  | 53 => ⟨S128, .i32⟩
  | 54 => ⟨S1x128, .i32⟩
  | 55 => ⟨S16384x128, .i32⟩
  | 56 => ⟨S16384x128, .i32⟩
  | 57 => ⟨S16384x128, .i1⟩
  | 58 => ⟨S16384x128, .bf16⟩
  | 59 => ⟨S16384x128, .bf16⟩
  | 60 => ⟨S16384x256, .bf16⟩
  | 61 => ⟨S_, .i32⟩
  | 62 => ⟨S_, .bf16⟩
  | 63 => ⟨S16640x256, .bf16⟩
  | 64 => ⟨S65x256x256, .bf16⟩
  | 65 => ⟨S16384x128, .bf16⟩
  | 66 => ⟨S_, .i32⟩
  | 67 => ⟨S_, .bf16⟩
  | 68 => ⟨S16640x128, .bf16⟩
  | 69 => ⟨S65x256x2x64, .bf16⟩
  | 70 => ⟨S2x65x64x256, .bf16⟩
  | 71 => ⟨S_, .bf16⟩
  | 72 => ⟨S2x65x1x256, .bf16⟩
  | 73 => ⟨S_, .bf16⟩
  | 74 => ⟨S2x65x15x256, .bf16⟩
  | 75 => ⟨S2x65x80x256, .bf16⟩
  | 76 => ⟨S16384x128, .bf16⟩
  | 77 => ⟨S_, .i32⟩
  | 78 => ⟨S_, .bf16⟩
  | 79 => ⟨S16896x128, .bf16⟩
  | 80 => ⟨S132x128x2x64, .bf16⟩
  | 81 => ⟨S2x132x64x128, .bf16⟩
  | 82 => ⟨S_, .bf16⟩
  | 83 => ⟨S2x132x1x128, .bf16⟩
  | 84 => ⟨S_, .bf16⟩
  | 85 => ⟨S2x132x15x128, .bf16⟩
  | 86 => ⟨S2x132x80x128, .bf16⟩
  | 87 => ⟨S16384x128, .bf16⟩
  | 88 => ⟨S_, .i32⟩
  | 89 => ⟨S_, .bf16⟩
  | 90 => ⟨S16896x128, .bf16⟩
  | 91 => ⟨S1x8, .f32⟩
  | 92 => ⟨S8, .f32⟩
  | 93 => ⟨S511, .i32⟩
  | 94 => ⟨S_, .i32⟩
  | 95 => ⟨S511, .i32⟩
  | 96 => ⟨S511, .i32⟩
  | 97 => ⟨S_, .i32⟩
  | 98 => ⟨S511, .i32⟩
  | 99 => ⟨S511, .i1⟩
  | 100 => ⟨S_, .i32⟩
  | 101 => ⟨S511, .i32⟩
  | 102 => ⟨S511, .i1⟩
  | 103 => ⟨S511, .i1⟩
  | 104 => ⟨S1x511, .i1⟩
  | 105 => ⟨S_, .i32⟩
  | 106 => ⟨S511, .i32⟩
  | 107 => ⟨S511, .i32⟩
  | 108 => ⟨S_, .i32⟩
  | 109 => ⟨S511, .i32⟩
  | 110 => ⟨S511, .i32⟩
  | 111 => ⟨S511, .f32⟩
  | 112 => ⟨S_, .f32⟩
  | 113 => ⟨S511, .f32⟩
  | 114 => ⟨S511, .f32⟩
  | 115 => ⟨S511, .f32⟩
  | 116 => ⟨S_, .f32⟩
  | 117 => ⟨S511, .f32⟩
  | 118 => ⟨S511, .f32⟩
  | 119 => ⟨S_, .f32⟩
  | 120 => ⟨S511, .f32⟩
  | 121 => ⟨S511, .f32⟩
  | 122 => ⟨S511, .i32⟩
  | 123 => ⟨S_, .i32⟩
  | 124 => ⟨S511, .i32⟩
  | 125 => ⟨S511, .i32⟩
  | 126 => ⟨S_, .i32⟩
  | 127 => ⟨S511, .i32⟩
  | _ => ⟨S16384x2432, .f32⟩

abbrev hbmTy0_2 (i : Nat) : BufTy := match i % 128 with
  | 0 => ⟨S511, .i1⟩
  | 1 => ⟨S_, .i32⟩
  | 2 => ⟨S511, .i32⟩
  | 3 => ⟨S511, .i32⟩
  | 4 => ⟨S511, .i32⟩
  | 5 => ⟨S_, .i32⟩
  | 6 => ⟨S511, .i32⟩
  | 7 => ⟨S511, .i1⟩
  | 8 => ⟨S_, .i32⟩
  | 9 => ⟨S511, .i32⟩
  | 10 => ⟨S511, .i32⟩
  | 11 => ⟨S511, .i32⟩
  | 12 => ⟨S511x1, .i32⟩
  | 13 => ⟨S511x8, .f32⟩
  | 14 => ⟨S1x8, .f32⟩
  | 15 => ⟨S511x8, .f32⟩
  | 16 => ⟨S511x8, .f32⟩
  | 17 => ⟨S8x511, .f32⟩
  | 18 => ⟨S_, .f32⟩
  | 19 => ⟨S_, .f32⟩
  | 20 => ⟨S8x511, .i1⟩
  | 21 => ⟨S8x511, .f32⟩
  | 22 => ⟨S8x511, .f32⟩
  | 23 => ⟨S1x8x1x511, .f32⟩
  | 24 => ⟨S1x8x385x511, .f32⟩
  | 25 => ⟨S8x196735, .f32⟩
  | 26 => ⟨S8x196608, .f32⟩
  | 27 => ⟨S8x384x512, .f32⟩
  | 28 => ⟨S8x384x128, .f32⟩
  | 29 => ⟨S8x384x128, .f32⟩
  | 30 => ⟨S8x24x128, .f32⟩
  | 31 => ⟨S2x4x24x128, .f32⟩
  | 32 => ⟨S2x24x4x128, .f32⟩
  | 33 => ⟨S2x24x512, .f32⟩
  | 34 => ⟨S639, .i32⟩
  | 35 => ⟨S_, .i32⟩
  | 36 => ⟨S639, .i32⟩
  | 37 => ⟨S639, .i32⟩
  | 38 => ⟨S_, .i32⟩
  | 39 => ⟨S639, .i32⟩
  | 40 => ⟨S639, .i1⟩
  | 41 => ⟨S_, .i32⟩
  | 42 => ⟨S639, .i32⟩
  | 43 => ⟨S639, .i1⟩
  | 44 => ⟨S639, .i1⟩
  | 45 => ⟨S1x639, .i1⟩
  | 46 => ⟨S_, .i32⟩
  | 47 => ⟨S639, .i32⟩
  | 48 => ⟨S639, .i32⟩
  | 49 => ⟨S_, .i32⟩
  | 50 => ⟨S639, .i32⟩
  | 51 => ⟨S639, .i32⟩
  | 52 => ⟨S639, .f32⟩
  | 53 => ⟨S_, .f32⟩
  | 54 => ⟨S639, .f32⟩
  | 55 => ⟨S639, .f32⟩
  | 56 => ⟨S639, .f32⟩
  | 57 => ⟨S_, .f32⟩
  | 58 => ⟨S639, .f32⟩
  | 59 => ⟨S639, .f32⟩
  | 60 => ⟨S_, .f32⟩
  | 61 => ⟨S639, .f32⟩
  | 62 => ⟨S639, .f32⟩
  | 63 => ⟨S639, .i32⟩
  | 64 => ⟨S_, .i32⟩
  | 65 => ⟨S639, .i32⟩
  | 66 => ⟨S639, .i32⟩
  | 67 => ⟨S_, .i32⟩
  | 68 => ⟨S639, .i32⟩
  | 69 => ⟨S639, .i1⟩
  | 70 => ⟨S_, .i32⟩
  | 71 => ⟨S639, .i32⟩
  | 72 => ⟨S639, .i32⟩
  | 73 => ⟨S639, .i32⟩
  | 74 => ⟨S_, .i32⟩
  | 75 => ⟨S639, .i32⟩
  | 76 => ⟨S639, .i1⟩
  | 77 => ⟨S_, .i32⟩
  | 78 => ⟨S639, .i32⟩
  | 79 => ⟨S639, .i32⟩
  | 80 => ⟨S639, .i32⟩
  | 81 => ⟨S639x1, .i32⟩
  | 82 => ⟨S639x8, .f32⟩
  | 83 => ⟨S1x8, .f32⟩
  | 84 => ⟨S639x8, .f32⟩
  | 85 => ⟨S639x8, .f32⟩
  | 86 => ⟨S8x639, .f32⟩
  | 87 => ⟨S_, .f32⟩
  | 88 => ⟨S_, .f32⟩
  | 89 => ⟨S8x639, .i1⟩
  | 90 => ⟨S8x639, .f32⟩
  | 91 => ⟨S8x639, .f32⟩
  | 92 => ⟨S1x8x1x639, .f32⟩
  | 93 => ⟨S1x8x513x639, .f32⟩
  | 94 => ⟨S8x327807, .f32⟩
  | 95 => ⟨S8x327680, .f32⟩
  | 96 => ⟨S8x512x640, .f32⟩
  | 97 => ⟨S8x512x128, .f32⟩
  | 98 => ⟨S8x512x128, .f32⟩
  | 99 => ⟨S2x4x512x128, .f32⟩
  | 100 => ⟨S2x512x4x128, .f32⟩
  | 101 => ⟨S2x512x512, .f32⟩
  | 102 => ⟨S2x2x256x512, .f32⟩
  | 103 => ⟨S639, .i32⟩
  | 104 => ⟨S_, .i32⟩
  | 105 => ⟨S639, .i32⟩
  | 106 => ⟨S639, .i32⟩
  | 107 => ⟨S_, .i32⟩
  | 108 => ⟨S639, .i32⟩
  | 109 => ⟨S639, .i1⟩
  | 110 => ⟨S_, .i32⟩
  | 111 => ⟨S639, .i32⟩
  | 112 => ⟨S639, .i1⟩
  | 113 => ⟨S639, .i1⟩
  | 114 => ⟨S1x639, .i1⟩
  | 115 => ⟨S_, .i32⟩
  | 116 => ⟨S639, .i32⟩
  | 117 => ⟨S639, .i32⟩
  | 118 => ⟨S_, .i32⟩
  | 119 => ⟨S639, .i32⟩
  | 120 => ⟨S639, .i32⟩
  | 121 => ⟨S639, .f32⟩
  | 122 => ⟨S_, .f32⟩
  | 123 => ⟨S639, .f32⟩
  | 124 => ⟨S639, .f32⟩
  | 125 => ⟨S639, .f32⟩
  | 126 => ⟨S_, .f32⟩
  | 127 => ⟨S639, .f32⟩
  | _ => ⟨S16384x2432, .f32⟩

abbrev hbmTy0_3 (i : Nat) : BufTy := match i % 128 with
  | 0 => ⟨S639, .f32⟩
  | 1 => ⟨S_, .f32⟩
  | 2 => ⟨S639, .f32⟩
  | 3 => ⟨S639, .f32⟩
  | 4 => ⟨S639, .i32⟩
  | 5 => ⟨S_, .i32⟩
  | 6 => ⟨S639, .i32⟩
  | 7 => ⟨S639, .i32⟩
  | 8 => ⟨S_, .i32⟩
  | 9 => ⟨S639, .i32⟩
  | 10 => ⟨S639, .i1⟩
  | 11 => ⟨S_, .i32⟩
  | 12 => ⟨S639, .i32⟩
  | 13 => ⟨S639, .i32⟩
  | 14 => ⟨S639, .i32⟩
  | 15 => ⟨S_, .i32⟩
  | 16 => ⟨S639, .i32⟩
  | 17 => ⟨S639, .i1⟩
  | 18 => ⟨S_, .i32⟩
  | 19 => ⟨S639, .i32⟩
  | 20 => ⟨S639, .i32⟩
  | 21 => ⟨S639, .i32⟩
  | 22 => ⟨S639x1, .i32⟩
  | 23 => ⟨S639x8, .f32⟩
  | 24 => ⟨S1x8, .f32⟩
  | 25 => ⟨S639x8, .f32⟩
  | 26 => ⟨S639x8, .f32⟩
  | 27 => ⟨S8x639, .f32⟩
  | 28 => ⟨S_, .f32⟩
  | 29 => ⟨S_, .f32⟩
  | 30 => ⟨S8x639, .i1⟩
  | 31 => ⟨S8x639, .f32⟩
  | 32 => ⟨S8x639, .f32⟩
  | 33 => ⟨S1x8x1x639, .f32⟩
  | 34 => ⟨S1x8x513x639, .f32⟩
  | 35 => ⟨S8x327807, .f32⟩
  | 36 => ⟨S8x327680, .f32⟩
  | 37 => ⟨S8x512x640, .f32⟩
  | 38 => ⟨S8x512x128, .f32⟩
  | 39 => ⟨S8x512x128, .f32⟩
  | 40 => ⟨S2x4x512x128, .f32⟩
  | 41 => ⟨S2x512x4x128, .f32⟩
  | 42 => ⟨S2x512x512, .f32⟩
  | 43 => ⟨S2x2x256x512, .f32⟩
  | 44 => ⟨S1x2x2x256x512, .f32⟩
  | 45 => ⟨S1x2x2x256x512, .f32⟩
  | 46 => ⟨S2x2x2x256x512, .f32⟩
  | 47 => ⟨S_, .f32⟩
  | 48 => ⟨S2x2x2x256x512, .f32⟩
  | 49 => ⟨S2x2x2x256x512, .f32⟩
  | 50 => ⟨S767, .i32⟩
  | 51 => ⟨S_, .i32⟩
  | 52 => ⟨S767, .i32⟩
  | 53 => ⟨S767, .i32⟩
  | 54 => ⟨S_, .i32⟩
  | 55 => ⟨S767, .i32⟩
  | 56 => ⟨S767, .i1⟩
  | 57 => ⟨S_, .i32⟩
  | 58 => ⟨S767, .i32⟩
  | 59 => ⟨S767, .i1⟩
  | 60 => ⟨S767, .i1⟩
  | 61 => ⟨S1x767, .i1⟩
  | 62 => ⟨S_, .i32⟩
  | 63 => ⟨S767, .i32⟩
  | 64 => ⟨S767, .i32⟩
  | 65 => ⟨S_, .i32⟩
  | 66 => ⟨S767, .i32⟩
  | 67 => ⟨S767, .i32⟩
  | 68 => ⟨S767, .f32⟩
  | 69 => ⟨S_, .f32⟩
  | 70 => ⟨S767, .f32⟩
  | 71 => ⟨S767, .f32⟩
  | 72 => ⟨S767, .f32⟩
  | 73 => ⟨S_, .f32⟩
  | 74 => ⟨S767, .f32⟩
  | 75 => ⟨S767, .f32⟩
  | 76 => ⟨S_, .f32⟩
  | 77 => ⟨S767, .f32⟩
  | 78 => ⟨S767, .f32⟩
  | 79 => ⟨S767, .i32⟩
  | 80 => ⟨S_, .i32⟩
  | 81 => ⟨S767, .i32⟩
  | 82 => ⟨S767, .i32⟩
  | 83 => ⟨S_, .i32⟩
  | 84 => ⟨S767, .i32⟩
  | 85 => ⟨S767, .i1⟩
  | 86 => ⟨S_, .i32⟩
  | 87 => ⟨S767, .i32⟩
  | 88 => ⟨S767, .i32⟩
  | 89 => ⟨S767, .i32⟩
  | 90 => ⟨S_, .i32⟩
  | 91 => ⟨S767, .i32⟩
  | 92 => ⟨S767, .i1⟩
  | 93 => ⟨S_, .i32⟩
  | 94 => ⟨S767, .i32⟩
  | 95 => ⟨S767, .i32⟩
  | 96 => ⟨S767, .i32⟩
  | 97 => ⟨S767x1, .i32⟩
  | 98 => ⟨S767x8, .f32⟩
  | 99 => ⟨S_, .f32⟩
  | 100 => ⟨S767x8, .f32⟩
  | 101 => ⟨S767x8, .f32⟩
  | 102 => ⟨S8x767, .f32⟩
  | 103 => ⟨S_, .f32⟩
  | 104 => ⟨S_, .f32⟩
  | 105 => ⟨S8x767, .i1⟩
  | 106 => ⟨S8x767, .f32⟩
  | 107 => ⟨S8x767, .f32⟩
  | 108 => ⟨S1x8x1x767, .f32⟩
  | 109 => ⟨S1x8x641x767, .f32⟩
  | 110 => ⟨S8x491647, .f32⟩
  | 111 => ⟨S8x491520, .f32⟩
  | 112 => ⟨S8x640x768, .f32⟩
  | 113 => ⟨S8x640x128, .f32⟩
  | 114 => ⟨S8x640x128, .f32⟩
  | 115 => ⟨S2x4x640x128, .f32⟩
  | 116 => ⟨S2x640x4x128, .f32⟩
  | 117 => ⟨S2x640x512, .f32⟩
  | 118 => ⟨S128, .f32⟩
  | 119 => ⟨S1x128, .f32⟩
  | 120 => ⟨S16384x512, .f32⟩
  | _ => ⟨S16384x2432, .f32⟩

abbrev hbmTy (i : Nat) : BufTy := match i / 128 with
  | 0 => hbmTy0_0 i
  | 1 => hbmTy0_1 i
  | 2 => hbmTy0_2 i
  | 3 => hbmTy0_3 i
  | _ => ⟨S16384x2432, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1024x128, .bf16⟩
  | .local _ .vmem, ⟨6, _⟩ => ⟨S2x64x1024, .bf16⟩
  | .local _ .vmem, ⟨7, _⟩ => ⟨S256x1024, .bf16⟩
  | .local _ .vmem, ⟨8, _⟩ => ⟨S65x256x256, .bf16⟩
  | .local _ .vmem, ⟨9, _⟩ => ⟨S2x65x80x256, .bf16⟩
  | .local _ .vmem, ⟨10, _⟩ => ⟨S16896x128, .bf16⟩
  | .local _ .vmem, ⟨11, _⟩ => ⟨S2x132x80x128, .bf16⟩
  | .local _ .vmem, ⟨12, _⟩ => ⟨S2x24x512, .f32⟩
  | .local _ .vmem, ⟨13, _⟩ => ⟨S2x2x2x256x512, .f32⟩
  | .local _ .vmem, ⟨14, _⟩ => ⟨S2x640x512, .f32⟩
  | .local _ .vmem, ⟨15, _⟩ => ⟨S128x512, .f32⟩
  | .local _ .vmem, ⟨16, _⟩ => ⟨S128x512, .f32⟩
  | .local _ .vmem, ⟨17, _⟩ => ⟨S2x1040x512, .f32⟩
  | .local _ .vmem, ⟨18, _⟩ => ⟨S2x80x512, .f32⟩
  | .local _ .vmem, ⟨19, _⟩ => ⟨S2x2x512x256, .bf16⟩
  | .local _ .vmem, ⟨20, _⟩ => ⟨S2x512x128, .bf16⟩
  | .local _ .vmem, ⟨21, _⟩ => ⟨S2x256x512, .f32⟩
  | .local _ .vmem, ⟨22, _⟩ => ⟨S2x256x512, .f32⟩
  | .local _ .vmem, ⟨23, _⟩ => ⟨S2x1x512, .f32⟩
  | .local _ .vmem, ⟨24, _⟩ => ⟨S2x1x512, .f32⟩
  | _, _ => ⟨S16384x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_cst_5 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_cst_9 : Ref sig .tc := ⟨.hbm, 48, rfl⟩
abbrev main_call3_v0 : Ref sig .tc := ⟨.hbm, 49, rfl⟩
abbrev main_call3_v1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_10 : Ref sig .tc := ⟨.hbm, 54, rfl⟩
abbrev main_v27 : Ref sig .tc := ⟨.hbm, 55, rfl⟩
abbrev main_v28 : Ref sig .tc := ⟨.hbm, 56, rfl⟩
abbrev main_c_11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_12 : Ref sig .tc := ⟨.hbm, 61, rfl⟩
abbrev main_cst_13 : Ref sig .tc := ⟨.hbm, 62, rfl⟩
abbrev main_call4_v0 : Ref sig .tc := ⟨.hbm, 63, rfl⟩
abbrev main_call4_v1 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_14 : Ref sig .tc := ⟨.hbm, 68, rfl⟩
abbrev main_v35 : Ref sig .tc := ⟨.hbm, 69, rfl⟩
abbrev main_v36 : Ref sig .tc := ⟨.hbm, 70, rfl⟩
abbrev main_c_15 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_16 : Ref sig .tc := ⟨.hbm, 75, rfl⟩
abbrev main_cst_17 : Ref sig .tc := ⟨.hbm, 76, rfl⟩
abbrev main_call5_v0 : Ref sig .tc := ⟨.hbm, 77, rfl⟩
abbrev main_call5_v1 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_18 : Ref sig .tc := ⟨.hbm, 82, rfl⟩
abbrev main_v43 : Ref sig .tc := ⟨.hbm, 83, rfl⟩
abbrev main_v44 : Ref sig .tc := ⟨.hbm, 84, rfl⟩
abbrev main_c_19 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_20 : Ref sig .tc := ⟨.hbm, 89, rfl⟩
abbrev main_cst_21 : Ref sig .tc := ⟨.hbm, 90, rfl⟩
abbrev main_call6_v0 : Ref sig .tc := ⟨.hbm, 91, rfl⟩
abbrev main_call6_v1 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_22 : Ref sig .tc := ⟨.hbm, 96, rfl⟩
abbrev main_v51 : Ref sig .tc := ⟨.hbm, 97, rfl⟩
abbrev main_v52 : Ref sig .tc := ⟨.hbm, 98, rfl⟩
abbrev main_c_23 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_24 : Ref sig .tc := ⟨.hbm, 103, rfl⟩
abbrev main_cst_25 : Ref sig .tc := ⟨.hbm, 104, rfl⟩
abbrev main_call7_v0 : Ref sig .tc := ⟨.hbm, 105, rfl⟩
abbrev main_call7_v1 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_26 : Ref sig .tc := ⟨.hbm, 110, rfl⟩
abbrev main_v59 : Ref sig .tc := ⟨.hbm, 111, rfl⟩
abbrev main_v60 : Ref sig .tc := ⟨.hbm, 112, rfl⟩
abbrev main_c_27 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_28 : Ref sig .tc := ⟨.hbm, 117, rfl⟩
abbrev main_cst_29 : Ref sig .tc := ⟨.hbm, 118, rfl⟩
abbrev main_call8_v0 : Ref sig .tc := ⟨.hbm, 119, rfl⟩
abbrev main_call8_v1 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_c_30 : Ref sig .tc := ⟨.hbm, 124, rfl⟩
abbrev main_v67 : Ref sig .tc := ⟨.hbm, 125, rfl⟩
abbrev main_v68 : Ref sig .tc := ⟨.hbm, 126, rfl⟩
abbrev main_c_31 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_32 : Ref sig .tc := ⟨.hbm, 131, rfl⟩
abbrev main_cst_33 : Ref sig .tc := ⟨.hbm, 132, rfl⟩
abbrev main_call9_v0 : Ref sig .tc := ⟨.hbm, 133, rfl⟩
abbrev main_call9_v1 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_c_34 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_call10_v3 : Ref sig .tc := ⟨.hbm, 145, rfl⟩
abbrev main_call10_v4 : Ref sig .tc := ⟨.hbm, 146, rfl⟩
abbrev main_call10_v5 : Ref sig .tc := ⟨.hbm, 147, rfl⟩
abbrev main_call10_v6 : Ref sig .tc := ⟨.hbm, 148, rfl⟩
abbrev main_call10_v7 : Ref sig .tc := ⟨.hbm, 149, rfl⟩
abbrev main_call10_v8 : Ref sig .tc := ⟨.hbm, 150, rfl⟩
abbrev main_call10_c : Ref sig .tc := ⟨.hbm, 151, rfl⟩
abbrev main_call10_v9 : Ref sig .tc := ⟨.hbm, 152, rfl⟩
abbrev main_call10_v10 : Ref sig .tc := ⟨.hbm, 153, rfl⟩
abbrev main_call10_v11 : Ref sig .tc := ⟨.hbm, 154, rfl⟩
abbrev main_call10_c_0 : Ref sig .tc := ⟨.hbm, 155, rfl⟩
abbrev main_call10_v12 : Ref sig .tc := ⟨.hbm, 156, rfl⟩
abbrev main_call10_v13 : Ref sig .tc := ⟨.hbm, 157, rfl⟩
abbrev main_v78 : Ref sig .tc := ⟨.hbm, 158, rfl⟩
abbrev main_c_35 : Ref sig .tc := ⟨.hbm, 159, rfl⟩
abbrev main_call11_v0 : Ref sig .tc := ⟨.hbm, 160, rfl⟩
abbrev main_call11_c : Ref sig .tc := ⟨.hbm, 161, rfl⟩
abbrev main_call11_v1 : Ref sig .tc := ⟨.hbm, 162, rfl⟩
abbrev main_call11_c_0 : Ref sig .tc := ⟨.hbm, 163, rfl⟩
abbrev main_call11_v2 : Ref sig .tc := ⟨.hbm, 164, rfl⟩
abbrev main_call11_v3 : Ref sig .tc := ⟨.hbm, 165, rfl⟩
abbrev main_call11_v4 : Ref sig .tc := ⟨.hbm, 166, rfl⟩
abbrev main_call11_c_1 : Ref sig .tc := ⟨.hbm, 167, rfl⟩
abbrev main_call11_v5 : Ref sig .tc := ⟨.hbm, 168, rfl⟩
abbrev main_call11_v6 : Ref sig .tc := ⟨.hbm, 169, rfl⟩
abbrev main_call11_c_2 : Ref sig .tc := ⟨.hbm, 170, rfl⟩
abbrev main_call11_v7 : Ref sig .tc := ⟨.hbm, 171, rfl⟩
abbrev main_call11_v8 : Ref sig .tc := ⟨.hbm, 172, rfl⟩
abbrev main_call11_c_3 : Ref sig .tc := ⟨.hbm, 173, rfl⟩
abbrev main_call11_v9 : Ref sig .tc := ⟨.hbm, 174, rfl⟩
abbrev main_call11_v10 : Ref sig .tc := ⟨.hbm, 175, rfl⟩
abbrev main_call11_v11 : Ref sig .tc := ⟨.hbm, 176, rfl⟩
abbrev main_call11_v12 : Ref sig .tc := ⟨.hbm, 177, rfl⟩
abbrev main_call11_v13 : Ref sig .tc := ⟨.hbm, 178, rfl⟩
abbrev main_call11_v14 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_c_36 : Ref sig .tc := ⟨.hbm, 189, rfl⟩
abbrev main_call12_v0 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_c_37 : Ref sig .tc := ⟨.hbm, 194, rfl⟩
abbrev main_call13_v0 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_cst_38 : Ref sig .tc := ⟨.hbm, 199, rfl⟩
abbrev main_v94 : Ref sig .tc := ⟨.hbm, 200, rfl⟩
abbrev main_cst_39 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_c_40 : Ref sig .tc := ⟨.hbm, 205, rfl⟩
abbrev main_call14_v0 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_cst_41 : Ref sig .tc := ⟨.hbm, 210, rfl⟩
abbrev main_v101 : Ref sig .tc := ⟨.hbm, 211, rfl⟩
abbrev main_cst_42 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_c_43 : Ref sig .tc := ⟨.hbm, 216, rfl⟩
abbrev main_call15_v0 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_c_44 : Ref sig .tc := ⟨.hbm, 222, rfl⟩
abbrev main_v109 : Ref sig .tc := ⟨.hbm, 223, rfl⟩
abbrev main_v110 : Ref sig .tc := ⟨.hbm, 224, rfl⟩
abbrev main_c_45 : Ref sig .tc := ⟨.hbm, 225, rfl⟩
abbrev main_v111 : Ref sig .tc := ⟨.hbm, 226, rfl⟩
abbrev main_v112 : Ref sig .tc := ⟨.hbm, 227, rfl⟩
abbrev main_c_46 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_c_47 : Ref sig .tc := ⟨.hbm, 233, rfl⟩
abbrev main_v117 : Ref sig .tc := ⟨.hbm, 234, rfl⟩
abbrev main_v118 : Ref sig .tc := ⟨.hbm, 235, rfl⟩
abbrev main_c_48 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_cst_49 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_50 : Ref sig .tc := ⟨.hbm, 244, rfl⟩
abbrev main_v125 : Ref sig .tc := ⟨.hbm, 245, rfl⟩
abbrev main_v126 : Ref sig .tc := ⟨.hbm, 246, rfl⟩
abbrev main_cst_51 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_c_52 : Ref sig .tc := ⟨.hbm, 251, rfl⟩
abbrev main_v130 : Ref sig .tc := ⟨.hbm, 252, rfl⟩
abbrev main_v131 : Ref sig .tc := ⟨.hbm, 253, rfl⟩
abbrev main_c_53 : Ref sig .tc := ⟨.hbm, 254, rfl⟩
abbrev main_v132 : Ref sig .tc := ⟨.hbm, 255, rfl⟩
abbrev main_v133 : Ref sig .tc := ⟨.hbm, 256, rfl⟩
abbrev main_c_54 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_c_55 : Ref sig .tc := ⟨.hbm, 261, rfl⟩
abbrev main_v137 : Ref sig .tc := ⟨.hbm, 262, rfl⟩
abbrev main_v138 : Ref sig .tc := ⟨.hbm, 263, rfl⟩
abbrev main_c_56 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_cst_57 : Ref sig .tc := ⟨.hbm, 274, rfl⟩
abbrev main_call17_v0 : Ref sig .tc := ⟨.hbm, 275, rfl⟩
abbrev main_call17_v1 : Ref sig .tc := ⟨.hbm, 276, rfl⟩
abbrev main_call17_v2 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_c_58 : Ref sig .tc := ⟨.hbm, 291, rfl⟩
abbrev main_v161 : Ref sig .tc := ⟨.hbm, 292, rfl⟩
abbrev main_v162 : Ref sig .tc := ⟨.hbm, 293, rfl⟩
abbrev main_c_59 : Ref sig .tc := ⟨.hbm, 294, rfl⟩
abbrev main_v163 : Ref sig .tc := ⟨.hbm, 295, rfl⟩
abbrev main_v164 : Ref sig .tc := ⟨.hbm, 296, rfl⟩
abbrev main_c_60 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_c_61 : Ref sig .tc := ⟨.hbm, 302, rfl⟩
abbrev main_v169 : Ref sig .tc := ⟨.hbm, 303, rfl⟩
abbrev main_v170 : Ref sig .tc := ⟨.hbm, 304, rfl⟩
abbrev main_c_62 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_cst_63 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_cst_64 : Ref sig .tc := ⟨.hbm, 313, rfl⟩
abbrev main_v177 : Ref sig .tc := ⟨.hbm, 314, rfl⟩
abbrev main_v178 : Ref sig .tc := ⟨.hbm, 315, rfl⟩
abbrev main_cst_65 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_c_66 : Ref sig .tc := ⟨.hbm, 320, rfl⟩
abbrev main_v182 : Ref sig .tc := ⟨.hbm, 321, rfl⟩
abbrev main_v183 : Ref sig .tc := ⟨.hbm, 322, rfl⟩
abbrev main_c_67 : Ref sig .tc := ⟨.hbm, 323, rfl⟩
abbrev main_v184 : Ref sig .tc := ⟨.hbm, 324, rfl⟩
abbrev main_v185 : Ref sig .tc := ⟨.hbm, 325, rfl⟩
abbrev main_c_68 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_c_69 : Ref sig .tc := ⟨.hbm, 330, rfl⟩
abbrev main_v189 : Ref sig .tc := ⟨.hbm, 331, rfl⟩
abbrev main_v190 : Ref sig .tc := ⟨.hbm, 332, rfl⟩
abbrev main_c_70 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_cst_71 : Ref sig .tc := ⟨.hbm, 343, rfl⟩
abbrev main_call19_v0 : Ref sig .tc := ⟨.hbm, 344, rfl⟩
abbrev main_call19_v1 : Ref sig .tc := ⟨.hbm, 345, rfl⟩
abbrev main_call19_v2 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_v212 : Ref sig .tc := ⟨.hbm, 359, rfl⟩
abbrev main_c_72 : Ref sig .tc := ⟨.hbm, 360, rfl⟩
abbrev main_v213 : Ref sig .tc := ⟨.hbm, 361, rfl⟩
abbrev main_v214 : Ref sig .tc := ⟨.hbm, 362, rfl⟩
abbrev main_c_73 : Ref sig .tc := ⟨.hbm, 363, rfl⟩
abbrev main_v215 : Ref sig .tc := ⟨.hbm, 364, rfl⟩
abbrev main_v216 : Ref sig .tc := ⟨.hbm, 365, rfl⟩
abbrev main_c_74 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_c_75 : Ref sig .tc := ⟨.hbm, 371, rfl⟩
abbrev main_v221 : Ref sig .tc := ⟨.hbm, 372, rfl⟩
abbrev main_v222 : Ref sig .tc := ⟨.hbm, 373, rfl⟩
abbrev main_c_76 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_cst_77 : Ref sig .tc := ⟨.hbm, 378, rfl⟩
abbrev main_v226 : Ref sig .tc := ⟨.hbm, 379, rfl⟩
abbrev main_v227 : Ref sig .tc := ⟨.hbm, 380, rfl⟩
abbrev main_v228 : Ref sig .tc := ⟨.hbm, 381, rfl⟩
abbrev main_cst_78 : Ref sig .tc := ⟨.hbm, 382, rfl⟩
abbrev main_v229 : Ref sig .tc := ⟨.hbm, 383, rfl⟩
abbrev main_v230 : Ref sig .tc := ⟨.hbm, 384, rfl⟩
abbrev main_cst_79 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_c_80 : Ref sig .tc := ⟨.hbm, 389, rfl⟩
abbrev main_v234 : Ref sig .tc := ⟨.hbm, 390, rfl⟩
abbrev main_v235 : Ref sig .tc := ⟨.hbm, 391, rfl⟩
abbrev main_c_81 : Ref sig .tc := ⟨.hbm, 392, rfl⟩
abbrev main_v236 : Ref sig .tc := ⟨.hbm, 393, rfl⟩
abbrev main_v237 : Ref sig .tc := ⟨.hbm, 394, rfl⟩
abbrev main_c_82 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_c_83 : Ref sig .tc := ⟨.hbm, 399, rfl⟩
abbrev main_v241 : Ref sig .tc := ⟨.hbm, 400, rfl⟩
abbrev main_v242 : Ref sig .tc := ⟨.hbm, 401, rfl⟩
abbrev main_c_84 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_v248 : Ref sig .tc := ⟨.hbm, 408, rfl⟩
abbrev main_v249 : Ref sig .tc := ⟨.hbm, 409, rfl⟩
abbrev main_v250 : Ref sig .tc := ⟨.hbm, 410, rfl⟩
abbrev main_v251 : Ref sig .tc := ⟨.hbm, 411, rfl⟩
abbrev main_cst_85 : Ref sig .tc := ⟨.hbm, 412, rfl⟩
abbrev main_call21_v0 : Ref sig .tc := ⟨.hbm, 413, rfl⟩
abbrev main_call21_v1 : Ref sig .tc := ⟨.hbm, 414, rfl⟩
abbrev main_call21_v2 : Ref sig .tc := ⟨.hbm, 415, rfl⟩
abbrev main_v252 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_v256 : Ref sig .tc := ⟨.hbm, 420, rfl⟩
abbrev main_v257 : Ref sig .tc := ⟨.hbm, 421, rfl⟩
abbrev main_v258 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_v262 : Ref sig .tc := ⟨.hbm, 426, rfl⟩
abbrev main_v263 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_cst_86 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_c_87 : Ref sig .tc := ⟨.hbm, 435, rfl⟩
abbrev main_v270 : Ref sig .tc := ⟨.hbm, 436, rfl⟩
abbrev main_v271 : Ref sig .tc := ⟨.hbm, 437, rfl⟩
abbrev main_c_88 : Ref sig .tc := ⟨.hbm, 438, rfl⟩
abbrev main_v272 : Ref sig .tc := ⟨.hbm, 439, rfl⟩
abbrev main_v273 : Ref sig .tc := ⟨.hbm, 440, rfl⟩
abbrev main_c_89 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev main_v277 : Ref sig .tc := ⟨.hbm, 445, rfl⟩
abbrev main_c_90 : Ref sig .tc := ⟨.hbm, 446, rfl⟩
abbrev main_v278 : Ref sig .tc := ⟨.hbm, 447, rfl⟩
abbrev main_v279 : Ref sig .tc := ⟨.hbm, 448, rfl⟩
abbrev main_c_91 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_92 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_93 : Ref sig .tc := ⟨.hbm, 457, rfl⟩
abbrev main_v286 : Ref sig .tc := ⟨.hbm, 458, rfl⟩
abbrev main_v287 : Ref sig .tc := ⟨.hbm, 459, rfl⟩
abbrev main_cst_94 : Ref sig .tc := ⟨.hbm, 460, rfl⟩
abbrev main_v288 : Ref sig .tc := ⟨.hbm, 461, rfl⟩
abbrev main_v289 : Ref sig .tc := ⟨.hbm, 462, rfl⟩
abbrev main_v290 : Ref sig .tc := ⟨.hbm, 463, rfl⟩
abbrev main_c_95 : Ref sig .tc := ⟨.hbm, 464, rfl⟩
abbrev main_v291 : Ref sig .tc := ⟨.hbm, 465, rfl⟩
abbrev main_v292 : Ref sig .tc := ⟨.hbm, 466, rfl⟩
abbrev main_c_96 : Ref sig .tc := ⟨.hbm, 467, rfl⟩
abbrev main_v293 : Ref sig .tc := ⟨.hbm, 468, rfl⟩
abbrev main_v294 : Ref sig .tc := ⟨.hbm, 469, rfl⟩
abbrev main_c_97 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_c_98 : Ref sig .tc := ⟨.hbm, 474, rfl⟩
abbrev main_v298 : Ref sig .tc := ⟨.hbm, 475, rfl⟩
abbrev main_v299 : Ref sig .tc := ⟨.hbm, 476, rfl⟩
abbrev main_c_99 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_v304 : Ref sig .tc := ⟨.hbm, 482, rfl⟩
abbrev main_cst_100 : Ref sig .tc := ⟨.hbm, 483, rfl⟩
abbrev main_v305 : Ref sig .tc := ⟨.hbm, 484, rfl⟩
abbrev main_v306 : Ref sig .tc := ⟨.hbm, 485, rfl⟩
abbrev main_v307 : Ref sig .tc := ⟨.hbm, 486, rfl⟩
abbrev main_cst_101 : Ref sig .tc := ⟨.hbm, 487, rfl⟩
abbrev main_call23_v0 : Ref sig .tc := ⟨.hbm, 488, rfl⟩
abbrev main_call23_v1 : Ref sig .tc := ⟨.hbm, 489, rfl⟩
abbrev main_call23_v2 : Ref sig .tc := ⟨.hbm, 490, rfl⟩
abbrev main_v308 : Ref sig .tc := ⟨.hbm, 491, rfl⟩
abbrev main_v309 : Ref sig .tc := ⟨.hbm, 492, rfl⟩
abbrev main_v310 : Ref sig .tc := ⟨.hbm, 493, rfl⟩
abbrev main_v311 : Ref sig .tc := ⟨.hbm, 494, rfl⟩
abbrev main_v312 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![128], ![false]⟩

def k0_cond2 (i : grid0.Coords) : BitVec 1 :=
  let c8_i32 : BitVec 32 := 8#32
  let arg0 : BitVec 32 := BitVec.ofNat 32 (i 0).val
  let v226 : BitVec 32 := Scalar.muli c8_i32 arg0
  let c7_i32 : BitVec 32 := 7#32
  let v227 : BitVec 32 := Scalar.addi v226 c7_i32
  let c0_i32_89 : BitVec 32 := 0#32
  let v229 : BitVec 1 := Scalar.cmpi .sgt v227 c0_i32_89
  let v230 : BitVec 32 := Scalar.extui v229
  let c0_i32_90 : BitVec 32 := 0#32
  let v231 : BitVec 1 := Scalar.cmpi .slt v227 c0_i32_90
  let v232 : BitVec 32 := Scalar.extui v231
  let v233 : BitVec 32 := Scalar.subi v230 v232
  let c256_i32_88 : BitVec 32 := 256#32
  let c0_i32_91 : BitVec 32 := 0#32
  let v234 : BitVec 1 := Scalar.cmpi .sgt c256_i32_88 c0_i32_91
  let v235 : BitVec 32 := Scalar.extui v234
  let c0_i32_92 : BitVec 32 := 0#32
  let v236 : BitVec 1 := Scalar.cmpi .slt c256_i32_88 c0_i32_92
  let v237 : BitVec 32 := Scalar.extui v236
  let v238 : BitVec 32 := Scalar.subi v235 v237
  let v239 : BitVec 1 := Scalar.cmpi .ne v233 v238
  let v240 : BitVec 32 := Scalar.remsi v227 c256_i32_88
  let c0_i32_93 : BitVec 32 := 0#32
  let v241 : BitVec 1 := Scalar.cmpi .ne v240 c0_i32_93
  let v242 : BitVec 1 := Scalar.andi v239 v241
  let v228 : BitVec 32 := Scalar.divsi v227 c256_i32_88
  let c1_i32_94 : BitVec 32 := 1#32
  let v243 : BitVec 32 := Scalar.subi v228 c1_i32_94
  let v244 : BitVec 32 := Scalar.select v242 v243 v228
  let c3_i32 : BitVec 32 := 3#32
  let v245 : BitVec 32 := Scalar.minsi v244 c3_i32
  let c0_i32_95 : BitVec 32 := 0#32
  let v246 : BitVec 32 := Scalar.maxsi v245 c0_i32_95
  let c3_i32_96 : BitVec 32 := 3#32
  let v247 : BitVec 32 := Scalar.minsi v246 c3_i32_96
  let c0_i32_97 : BitVec 32 := 0#32
  let v248 : BitVec 1 := Scalar.cmpi .ne v247 c0_i32_97
  v248

def k0_cond3 (i : grid0.Coords) : BitVec 1 :=
  let c8_i32 : BitVec 32 := 8#32
  let arg0 : BitVec 32 := BitVec.ofNat 32 (i 0).val
  let v226 : BitVec 32 := Scalar.muli c8_i32 arg0
  let c7_i32 : BitVec 32 := 7#32
  let v227 : BitVec 32 := Scalar.addi v226 c7_i32
  let c0_i32_89 : BitVec 32 := 0#32
  let v229 : BitVec 1 := Scalar.cmpi .sgt v227 c0_i32_89
  let v230 : BitVec 32 := Scalar.extui v229
  let c0_i32_90 : BitVec 32 := 0#32
  let v231 : BitVec 1 := Scalar.cmpi .slt v227 c0_i32_90
  let v232 : BitVec 32 := Scalar.extui v231
  let v233 : BitVec 32 := Scalar.subi v230 v232
  let c256_i32_88 : BitVec 32 := 256#32
  let c0_i32_91 : BitVec 32 := 0#32
  let v234 : BitVec 1 := Scalar.cmpi .sgt c256_i32_88 c0_i32_91
  let v235 : BitVec 32 := Scalar.extui v234
  let c0_i32_92 : BitVec 32 := 0#32
  let v236 : BitVec 1 := Scalar.cmpi .slt c256_i32_88 c0_i32_92
  let v237 : BitVec 32 := Scalar.extui v236
  let v238 : BitVec 32 := Scalar.subi v235 v237
  let v239 : BitVec 1 := Scalar.cmpi .ne v233 v238
  let v240 : BitVec 32 := Scalar.remsi v227 c256_i32_88
  let c0_i32_93 : BitVec 32 := 0#32
  let v241 : BitVec 1 := Scalar.cmpi .ne v240 c0_i32_93
  let v242 : BitVec 1 := Scalar.andi v239 v241
  let v228 : BitVec 32 := Scalar.divsi v227 c256_i32_88
  let c1_i32_94 : BitVec 32 := 1#32
  let v243 : BitVec 32 := Scalar.subi v228 c1_i32_94
  let v244 : BitVec 32 := Scalar.select v242 v243 v228
  let c3_i32 : BitVec 32 := 3#32
  let v245 : BitVec 32 := Scalar.minsi v244 c3_i32
  let c0_i32_95 : BitVec 32 := 0#32
  let v246 : BitVec 32 := Scalar.maxsi v245 c0_i32_95
  let c3_i32_96 : BitVec 32 := 3#32
  let v247 : BitVec 32 := Scalar.minsi v246 c3_i32_96
  let c1_i32_779 : BitVec 32 := 1#32
  let v1441 : BitVec 32 := Scalar.subi v247 c1_i32_779
  let c0_i32_780 : BitVec 32 := 0#32
  let v1442 : BitVec 1 := Scalar.cmpi .ne v1441 c0_i32_780
  v1442

def k0_cond4 (i : grid0.Coords) : BitVec 1 :=
  let c8_i32 : BitVec 32 := 8#32
  let arg0 : BitVec 32 := BitVec.ofNat 32 (i 0).val
  let v226 : BitVec 32 := Scalar.muli c8_i32 arg0
  let c7_i32 : BitVec 32 := 7#32
  let v227 : BitVec 32 := Scalar.addi v226 c7_i32
  let c0_i32_89 : BitVec 32 := 0#32
  let v229 : BitVec 1 := Scalar.cmpi .sgt v227 c0_i32_89
  let v230 : BitVec 32 := Scalar.extui v229
  let c0_i32_90 : BitVec 32 := 0#32
  let v231 : BitVec 1 := Scalar.cmpi .slt v227 c0_i32_90
  let v232 : BitVec 32 := Scalar.extui v231
  let v233 : BitVec 32 := Scalar.subi v230 v232
  let c256_i32_88 : BitVec 32 := 256#32
  let c0_i32_91 : BitVec 32 := 0#32
  let v234 : BitVec 1 := Scalar.cmpi .sgt c256_i32_88 c0_i32_91
  let v235 : BitVec 32 := Scalar.extui v234
  let c0_i32_92 : BitVec 32 := 0#32
  let v236 : BitVec 1 := Scalar.cmpi .slt c256_i32_88 c0_i32_92
  let v237 : BitVec 32 := Scalar.extui v236
  let v238 : BitVec 32 := Scalar.subi v235 v237
  let v239 : BitVec 1 := Scalar.cmpi .ne v233 v238
  let v240 : BitVec 32 := Scalar.remsi v227 c256_i32_88
  let c0_i32_93 : BitVec 32 := 0#32
  let v241 : BitVec 1 := Scalar.cmpi .ne v240 c0_i32_93
  let v242 : BitVec 1 := Scalar.andi v239 v241
  let v228 : BitVec 32 := Scalar.divsi v227 c256_i32_88
  let c1_i32_94 : BitVec 32 := 1#32
  let v243 : BitVec 32 := Scalar.subi v228 c1_i32_94
  let v244 : BitVec 32 := Scalar.select v242 v243 v228
  let c3_i32 : BitVec 32 := 3#32
  let v245 : BitVec 32 := Scalar.minsi v244 c3_i32
  let c0_i32_95 : BitVec 32 := 0#32
  let v246 : BitVec 32 := Scalar.maxsi v245 c0_i32_95
  let c3_i32_96 : BitVec 32 := 3#32
  let v247 : BitVec 32 := Scalar.minsi v246 c3_i32_96
  let c1_i32_779 : BitVec 32 := 1#32
  let v1441 : BitVec 32 := Scalar.subi v247 c1_i32_779
  let c1_i32_781 : BitVec 32 := 1#32
  let v1444 : BitVec 32 := Scalar.subi v1441 c1_i32_781
  let c0_i32_782 : BitVec 32 := 0#32
  let v1445 : BitVec 1 := Scalar.cmpi .ne v1444 c0_i32_782
  v1445

def k0_mult1 (i : grid0.Coords) : BitVec 32 :=
  let arg0 : BitVec 32 := BitVec.ofNat 32 (i 0).val
  let c8_i32_791 : BitVec 32 := 8#32
  let v1455 : BitVec 32 := Scalar.muli arg0 c8_i32_791
  v1455
def k0_off1 (i : grid0.Coords) : Fin 3 → Nat :=
  let c0_792 : Index := 0#32
  let arg0 : BitVec 32 := BitVec.ofNat 32 (i 0).val
  let c8_i32_791 : BitVec 32 := 8#32
  let v1455 : BitVec 32 := Scalar.muli arg0 c8_i32_791
  let v1456 : BitVec 32 := v1455
  let v1457 : Index := Scalar.indexCast v1456
  let c0_793 : Index := 0#32
  ![0, v1457.toNat, 0]
def k0_mult2 (i : grid0.Coords) : BitVec 32 :=
  let arg0 : BitVec 32 := BitVec.ofNat 32 (i 0).val
  let c8_i32_827 : BitVec 32 := 8#32
  let v1530 : BitVec 32 := Scalar.muli arg0 c8_i32_827
  v1530
def k0_off2 (i : grid0.Coords) : Fin 3 → Nat :=
  let c1_828 : Index := 1#32
  let arg0 : BitVec 32 := BitVec.ofNat 32 (i 0).val
  let c8_i32_827 : BitVec 32 := 8#32
  let v1530 : BitVec 32 := Scalar.muli arg0 c8_i32_827
  let v1531 : BitVec 32 := v1530
  let v1532 : Index := Scalar.indexCast v1531
  let c0_829 : Index := 0#32
  ![1, v1532.toNat, 0]
def k0_mult3 (i : grid0.Coords) : BitVec 32 :=
  let arg0 : BitVec 32 := BitVec.ofNat 32 (i 0).val
  let c8_i32_791 : BitVec 32 := 8#32
  let v1455 : BitVec 32 := Scalar.muli arg0 c8_i32_791
  v1455
def k0_off3 (i : grid0.Coords) : Fin 3 → Nat :=
  let c0_792 : Index := 0#32
  let arg0 : BitVec 32 := BitVec.ofNat 32 (i 0).val
  let c8_i32_791 : BitVec 32 := 8#32
  let v1455 : BitVec 32 := Scalar.muli arg0 c8_i32_791
  let v1456 : BitVec 32 := v1455
  let v1457 : Index := Scalar.indexCast v1456
  let c0_793 : Index := 0#32
  ![0, v1457.toNat, 0]
def k0_mult4 (i : grid0.Coords) : BitVec 32 :=
  let arg0 : BitVec 32 := BitVec.ofNat 32 (i 0).val
  let c8_i32_827 : BitVec 32 := 8#32
  let v1530 : BitVec 32 := Scalar.muli arg0 c8_i32_827
  v1530
def k0_off4 (i : grid0.Coords) : Fin 3 → Nat :=
  let c1_828 : Index := 1#32
  let arg0 : BitVec 32 := BitVec.ofNat 32 (i 0).val
  let c8_i32_827 : BitVec 32 := 8#32
  let v1530 : BitVec 32 := Scalar.muli arg0 c8_i32_827
  let v1531 : BitVec 32 := v1530
  let v1532 : Index := Scalar.indexCast v1531
  let c0_829 : Index := 0#32
  ![1, v1532.toNat, 0]
def k0_mult5 (i : grid0.Coords) : BitVec 32 :=
  let arg0 : BitVec 32 := BitVec.ofNat 32 (i 0).val
  let c8_i32_789 : BitVec 32 := 8#32
  let v1452 : BitVec 32 := Scalar.muli arg0 c8_i32_789
  v1452
def k0_off5 (i : grid0.Coords) : Fin 3 → Nat :=
  let c0_790 : Index := 0#32
  let arg0 : BitVec 32 := BitVec.ofNat 32 (i 0).val
  let c8_i32_789 : BitVec 32 := 8#32
  let v1452 : BitVec 32 := Scalar.muli arg0 c8_i32_789
  let v1453 : BitVec 32 := v1452
  let v1454 : Index := Scalar.indexCast v1453
  let c0_791 : Index := 0#32
  ![0, v1454.toNat, 0]
def k0_mult6 (i : grid0.Coords) : BitVec 32 :=
  let arg0 : BitVec 32 := BitVec.ofNat 32 (i 0).val
  let c8_i32_825 : BitVec 32 := 8#32
  let v1527 : BitVec 32 := Scalar.muli arg0 c8_i32_825
  v1527
def k0_off6 (i : grid0.Coords) : Fin 3 → Nat :=
  let c1_826 : Index := 1#32
  let arg0 : BitVec 32 := BitVec.ofNat 32 (i 0).val
  let c8_i32_825 : BitVec 32 := 8#32
  let v1527 : BitVec 32 := Scalar.muli arg0 c8_i32_825
  let v1528 : BitVec 32 := v1527
  let v1529 : Index := Scalar.indexCast v1528
  let c0_827 : Index := 0#32
  ![1, v1529.toNat, 0]
def k0_mult7 (i : grid0.Coords) : BitVec 32 :=
  let arg0 : BitVec 32 := BitVec.ofNat 32 (i 0).val
  let c8_i32_787 : BitVec 32 := 8#32
  let v1449 : BitVec 32 := Scalar.muli arg0 c8_i32_787
  v1449
def k0_off7 (i : grid0.Coords) : Fin 3 → Nat :=
  let c0_788 : Index := 0#32
  let arg0 : BitVec 32 := BitVec.ofNat 32 (i 0).val
  let c8_i32_787 : BitVec 32 := 8#32
  let v1449 : BitVec 32 := Scalar.muli arg0 c8_i32_787
  let v1450 : BitVec 32 := v1449
  let v1451 : Index := Scalar.indexCast v1450
  let c0_789 : Index := 0#32
  ![0, v1451.toNat, 0]
def k0_mult8 (i : grid0.Coords) : BitVec 32 :=
  let arg0 : BitVec 32 := BitVec.ofNat 32 (i 0).val
  let c8_i32_823 : BitVec 32 := 8#32
  let v1524 : BitVec 32 := Scalar.muli arg0 c8_i32_823
  v1524
def k0_off8 (i : grid0.Coords) : Fin 3 → Nat :=
  let c1_824 : Index := 1#32
  let arg0 : BitVec 32 := BitVec.ofNat 32 (i 0).val
  let c8_i32_823 : BitVec 32 := 8#32
  let v1524 : BitVec 32 := Scalar.muli arg0 c8_i32_823
  let v1525 : BitVec 32 := v1524
  let v1526 : Index := Scalar.indexCast v1525
  let c0_825 : Index := 0#32
  ![1, v1526.toNat, 0]
@[reducible] def k0_t1_loop (i : grid0.Coords) : Scf.Loop 32 :=
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_280 : BitVec 32 := 1#32
  ⟨c0_i32_278, v617, c1_i32_280⟩
def k0_off9 (i : grid0.Coords) (k0_t1 : Fin (k0_t1_loop i).trips) (c1_i32_789 : BitVec 32) : Fin 3 → Nat :=
  let c2_i32_788 : BitVec 32 := 2#32
  let c2_i32_787 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1449 : BitVec 32 := Scalar.muli c2_i32_787 v1446
  let v1450 : BitVec 32 := Scalar.muli c2_i32_788 v1449
  let v1451 : BitVec 32 := Scalar.addi v1450 c1_i32_789
  let c1_i32_799 : BitVec 32 := 1#32
  let v1458 : BitVec 32 := Scalar.addi v1451 c1_i32_799
  let v1459 : Index := Scalar.indexCast v1458
  let c0_800 : Index := 0#32
  let c0_801 : Index := 0#32
  ![v1459.toNat, 0, 0]
def k0_off10 (i : grid0.Coords) (k0_t1 : Fin (k0_t1_loop i).trips) : Fin 4 → Nat :=
  let c0_815 : Index := 0#32
  let c2_i32_810 : BitVec 32 := 2#32
  let c2_i32_787 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1449 : BitVec 32 := Scalar.muli c2_i32_787 v1446
  let v1470 : BitVec 32 := Scalar.muli c2_i32_810 v1449
  let c1_i32_814 : BitVec 32 := 1#32
  let v1481 : BitVec 32 := Scalar.addi v1470 c1_i32_814
  let v1482 : Index := Scalar.indexCast v1481
  let c0_816 : Index := 0#32
  let c0_817 : Index := 0#32
  ![0, v1482.toNat, 0, 0]
def k0_off11 (i : grid0.Coords) (k0_t1 : Fin (k0_t1_loop i).trips) : Fin 4 → Nat :=
  let c1_883 : Index := 1#32
  let c2_i32_878 : BitVec 32 := 2#32
  let c2_i32_787 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1449 : BitVec 32 := Scalar.muli c2_i32_787 v1446
  let v1552 : BitVec 32 := Scalar.muli c2_i32_878 v1449
  let c1_i32_882 : BitVec 32 := 1#32
  let v1563 : BitVec 32 := Scalar.addi v1552 c1_i32_882
  let v1564 : Index := Scalar.indexCast v1563
  let c0_884 : Index := 0#32
  let c0_885 : Index := 0#32
  ![1, v1564.toNat, 0, 0]
def k0_off12 (i : grid0.Coords) (k0_t1 : Fin (k0_t1_loop i).trips) : Fin 4 → Nat :=
  let c0_948 : Index := 0#32
  let c2_i32_942 : BitVec 32 := 2#32
  let c2_i32_787 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1449 : BitVec 32 := Scalar.muli c2_i32_787 v1446
  let v1629 : BitVec 32 := Scalar.muli c2_i32_942 v1449
  let c1_i32_943 : BitVec 32 := 1#32
  let v1630 : BitVec 32 := Scalar.addi v1629 c1_i32_943
  let c1_i32_947 : BitVec 32 := 1#32
  let v1641 : BitVec 32 := Scalar.addi v1630 c1_i32_947
  let v1642 : Index := Scalar.indexCast v1641
  let c0_949 : Index := 0#32
  let c0_950 : Index := 0#32
  ![0, v1642.toNat, 0, 0]
def k0_off13 (i : grid0.Coords) (k0_t1 : Fin (k0_t1_loop i).trips) : Fin 4 → Nat :=
  let c1_1018 : Index := 1#32
  let c2_i32_1012 : BitVec 32 := 2#32
  let c2_i32_787 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1449 : BitVec 32 := Scalar.muli c2_i32_787 v1446
  let v1713 : BitVec 32 := Scalar.muli c2_i32_1012 v1449
  let c1_i32_1013 : BitVec 32 := 1#32
  let v1714 : BitVec 32 := Scalar.addi v1713 c1_i32_1013
  let c1_i32_1017 : BitVec 32 := 1#32
  let v1725 : BitVec 32 := Scalar.addi v1714 c1_i32_1017
  let v1726 : Index := Scalar.indexCast v1725
  let c0_1019 : Index := 0#32
  let c0_1020 : Index := 0#32
  ![1, v1726.toNat, 0, 0]
def k0_off14 (i : grid0.Coords) (k0_t1 : Fin (k0_t1_loop i).trips) (c1_i32_1065 : BitVec 32) : Fin 3 → Nat :=
  let c2_i32_1064 : BitVec 32 := 2#32
  let c2_i32_785 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1782 : BitVec 32 := Scalar.muli c2_i32_1064 v1448
  let v1783 : BitVec 32 := Scalar.addi v1782 c1_i32_1065
  let c1_i32_1075 : BitVec 32 := 1#32
  let v1790 : BitVec 32 := Scalar.addi v1783 c1_i32_1075
  let v1791 : Index := Scalar.indexCast v1790
  let c0_1076 : Index := 0#32
  let c0_1077 : Index := 0#32
  ![v1791.toNat, 0, 0]
def k0_off15 (i : grid0.Coords) (k0_t1 : Fin (k0_t1_loop i).trips) : Fin 4 → Nat :=
  let c0_1091 : Index := 0#32
  let c2_i32_1086 : BitVec 32 := 2#32
  let c2_i32_785 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1802 : BitVec 32 := Scalar.muli c2_i32_1086 v1448
  let c1_i32_1090 : BitVec 32 := 1#32
  let v1813 : BitVec 32 := Scalar.addi v1802 c1_i32_1090
  let v1814 : Index := Scalar.indexCast v1813
  let c0_1092 : Index := 0#32
  let c0_1093 : Index := 0#32
  ![0, v1814.toNat, 0, 0]
def k0_off16 (i : grid0.Coords) (k0_t1 : Fin (k0_t1_loop i).trips) : Fin 4 → Nat :=
  let c1_1159 : Index := 1#32
  let c2_i32_1154 : BitVec 32 := 2#32
  let c2_i32_785 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1884 : BitVec 32 := Scalar.muli c2_i32_1154 v1448
  let c1_i32_1158 : BitVec 32 := 1#32
  let v1895 : BitVec 32 := Scalar.addi v1884 c1_i32_1158
  let v1896 : Index := Scalar.indexCast v1895
  let c0_1160 : Index := 0#32
  let c0_1161 : Index := 0#32
  ![1, v1896.toNat, 0, 0]
def k0_off17 (i : grid0.Coords) (k0_t1 : Fin (k0_t1_loop i).trips) : Fin 4 → Nat :=
  let c0_1224 : Index := 0#32
  let c2_i32_1218 : BitVec 32 := 2#32
  let c2_i32_785 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1961 : BitVec 32 := Scalar.muli c2_i32_1218 v1448
  let c1_i32_1219 : BitVec 32 := 1#32
  let v1962 : BitVec 32 := Scalar.addi v1961 c1_i32_1219
  let c1_i32_1223 : BitVec 32 := 1#32
  let v1973 : BitVec 32 := Scalar.addi v1962 c1_i32_1223
  let v1974 : Index := Scalar.indexCast v1973
  let c0_1225 : Index := 0#32
  let c0_1226 : Index := 0#32
  ![0, v1974.toNat, 0, 0]
def k0_off18 (i : grid0.Coords) (k0_t1 : Fin (k0_t1_loop i).trips) : Fin 4 → Nat :=
  let c1_1294 : Index := 1#32
  let c2_i32_1288 : BitVec 32 := 2#32
  let c2_i32_785 : BitVec 32 := 2#32
  let c2_i32_784 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v2045 : BitVec 32 := Scalar.muli c2_i32_1288 v1448
  let c1_i32_1289 : BitVec 32 := 1#32
  let v2046 : BitVec 32 := Scalar.addi v2045 c1_i32_1289
  let c1_i32_1293 : BitVec 32 := 1#32
  let v2057 : BitVec 32 := Scalar.addi v2046 c1_i32_1293
  let v2058 : Index := Scalar.indexCast v2057
  let c0_1295 : Index := 0#32
  let c0_1296 : Index := 0#32
  ![1, v2058.toNat, 0, 0]
def k0_off19 (i : grid0.Coords) (k0_t1 : Fin (k0_t1_loop i).trips) (c1_i32_1344 : BitVec 32) : Fin 3 → Nat :=
  let c2_i32_1343 : BitVec 32 := 2#32
  let c2_i32_1342 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2117 : BitVec 32 := Scalar.muli c2_i32_1343 v2116
  let v2118 : BitVec 32 := Scalar.addi v2117 c1_i32_1344
  let c1_i32_1354 : BitVec 32 := 1#32
  let v2125 : BitVec 32 := Scalar.addi v2118 c1_i32_1354
  let v2126 : Index := Scalar.indexCast v2125
  let c0_1355 : Index := 0#32
  let c0_1356 : Index := 0#32
  ![v2126.toNat, 0, 0]
def k0_off20 (i : grid0.Coords) (k0_t1 : Fin (k0_t1_loop i).trips) : Fin 4 → Nat :=
  let c0_1370 : Index := 0#32
  let c2_i32_1365 : BitVec 32 := 2#32
  let c2_i32_1342 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2137 : BitVec 32 := Scalar.muli c2_i32_1365 v2116
  let c1_i32_1369 : BitVec 32 := 1#32
  let v2148 : BitVec 32 := Scalar.addi v2137 c1_i32_1369
  let v2149 : Index := Scalar.indexCast v2148
  let c0_1371 : Index := 0#32
  let c0_1372 : Index := 0#32
  ![0, v2149.toNat, 0, 0]
def k0_off21 (i : grid0.Coords) (k0_t1 : Fin (k0_t1_loop i).trips) : Fin 4 → Nat :=
  let c1_1438 : Index := 1#32
  let c2_i32_1433 : BitVec 32 := 2#32
  let c2_i32_1342 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2219 : BitVec 32 := Scalar.muli c2_i32_1433 v2116
  let c1_i32_1437 : BitVec 32 := 1#32
  let v2230 : BitVec 32 := Scalar.addi v2219 c1_i32_1437
  let v2231 : Index := Scalar.indexCast v2230
  let c0_1439 : Index := 0#32
  let c0_1440 : Index := 0#32
  ![1, v2231.toNat, 0, 0]
def k0_off22 (i : grid0.Coords) (k0_t1 : Fin (k0_t1_loop i).trips) : Fin 4 → Nat :=
  let c0_1503 : Index := 0#32
  let c2_i32_1497 : BitVec 32 := 2#32
  let c2_i32_1342 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2296 : BitVec 32 := Scalar.muli c2_i32_1497 v2116
  let c1_i32_1498 : BitVec 32 := 1#32
  let v2297 : BitVec 32 := Scalar.addi v2296 c1_i32_1498
  let c1_i32_1502 : BitVec 32 := 1#32
  let v2308 : BitVec 32 := Scalar.addi v2297 c1_i32_1502
  let v2309 : Index := Scalar.indexCast v2308
  let c0_1504 : Index := 0#32
  let c0_1505 : Index := 0#32
  ![0, v2309.toNat, 0, 0]
def k0_off23 (i : grid0.Coords) (k0_t1 : Fin (k0_t1_loop i).trips) : Fin 4 → Nat :=
  let c1_1573 : Index := 1#32
  let c2_i32_1567 : BitVec 32 := 2#32
  let c2_i32_1342 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2380 : BitVec 32 := Scalar.muli c2_i32_1567 v2116
  let c1_i32_1568 : BitVec 32 := 1#32
  let v2381 : BitVec 32 := Scalar.addi v2380 c1_i32_1568
  let c1_i32_1572 : BitVec 32 := 1#32
  let v2392 : BitVec 32 := Scalar.addi v2381 c1_i32_1572
  let v2393 : Index := Scalar.indexCast v2392
  let c0_1574 : Index := 0#32
  let c0_1575 : Index := 0#32
  ![1, v2393.toNat, 0, 0]
def k0_off24 (i : grid0.Coords) (k0_t1 : Fin (k0_t1_loop i).trips) (c1_i32_1620 : BitVec 32) : Fin 3 → Nat :=
  let c2_i32_1619 : BitVec 32 := 2#32
  let c2_i32_1340 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2449 : BitVec 32 := Scalar.muli c2_i32_1619 v2115
  let v2450 : BitVec 32 := Scalar.addi v2449 c1_i32_1620
  let c1_i32_1630 : BitVec 32 := 1#32
  let v2457 : BitVec 32 := Scalar.addi v2450 c1_i32_1630
  let v2458 : Index := Scalar.indexCast v2457
  let c0_1631 : Index := 0#32
  let c0_1632 : Index := 0#32
  ![v2458.toNat, 0, 0]
def k0_off25 (i : grid0.Coords) (k0_t1 : Fin (k0_t1_loop i).trips) : Fin 4 → Nat :=
  let c0_1646 : Index := 0#32
  let c2_i32_1641 : BitVec 32 := 2#32
  let c2_i32_1340 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2469 : BitVec 32 := Scalar.muli c2_i32_1641 v2115
  let c1_i32_1645 : BitVec 32 := 1#32
  let v2480 : BitVec 32 := Scalar.addi v2469 c1_i32_1645
  let v2481 : Index := Scalar.indexCast v2480
  let c0_1647 : Index := 0#32
  let c0_1648 : Index := 0#32
  ![0, v2481.toNat, 0, 0]
def k0_off26 (i : grid0.Coords) (k0_t1 : Fin (k0_t1_loop i).trips) : Fin 4 → Nat :=
  let c1_1714 : Index := 1#32
  let c2_i32_1709 : BitVec 32 := 2#32
  let c2_i32_1340 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2551 : BitVec 32 := Scalar.muli c2_i32_1709 v2115
  let c1_i32_1713 : BitVec 32 := 1#32
  let v2562 : BitVec 32 := Scalar.addi v2551 c1_i32_1713
  let v2563 : Index := Scalar.indexCast v2562
  let c0_1715 : Index := 0#32
  let c0_1716 : Index := 0#32
  ![1, v2563.toNat, 0, 0]
def k0_off27 (i : grid0.Coords) (k0_t1 : Fin (k0_t1_loop i).trips) : Fin 4 → Nat :=
  let c0_1779 : Index := 0#32
  let c2_i32_1773 : BitVec 32 := 2#32
  let c2_i32_1340 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2628 : BitVec 32 := Scalar.muli c2_i32_1773 v2115
  let c1_i32_1774 : BitVec 32 := 1#32
  let v2629 : BitVec 32 := Scalar.addi v2628 c1_i32_1774
  let c1_i32_1778 : BitVec 32 := 1#32
  let v2640 : BitVec 32 := Scalar.addi v2629 c1_i32_1778
  let v2641 : Index := Scalar.indexCast v2640
  let c0_1780 : Index := 0#32
  let c0_1781 : Index := 0#32
  ![0, v2641.toNat, 0, 0]
def k0_off28 (i : grid0.Coords) (k0_t1 : Fin (k0_t1_loop i).trips) : Fin 4 → Nat :=
  let c1_1849 : Index := 1#32
  let c2_i32_1843 : BitVec 32 := 2#32
  let c2_i32_1340 : BitVec 32 := 2#32
  let c2_i32_782 : BitVec 32 := 2#32
  let c2_i32_781 : BitVec 32 := 2#32
  let c0_i32_278 : BitVec 32 := 0#32
  let c1_i32_280 : BitVec 32 := 1#32
  let arg23 : BitVec 32 := Scf.iv c0_i32_278 c1_i32_280 k0_t1
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2712 : BitVec 32 := Scalar.muli c2_i32_1843 v2115
  let c1_i32_1844 : BitVec 32 := 1#32
  let v2713 : BitVec 32 := Scalar.addi v2712 c1_i32_1844
  let c1_i32_1848 : BitVec 32 := 1#32
  let v2724 : BitVec 32 := Scalar.addi v2713 c1_i32_1848
  let v2725 : Index := Scalar.indexCast v2724
  let c0_1850 : Index := 0#32
  let c0_1851 : Index := 0#32
  ![1, v2725.toNat, 0, 0]
def k0_off29 (i : grid0.Coords) (k0_t1 : Fin (k0_t1_loop i).trips) (c1_i32_1902 : BitVec 32) : Fin 3 → Nat :=
  let c2_i32_1901 : BitVec 32 := 2#32
  let c2_i32_1900 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2787 : BitVec 32 := Scalar.muli c2_i32_1901 v2786
  let v2788 : BitVec 32 := Scalar.addi v2787 c1_i32_1902
  let c1_i32_1912 : BitVec 32 := 1#32
  let v2795 : BitVec 32 := Scalar.addi v2788 c1_i32_1912
  let v2796 : Index := Scalar.indexCast v2795
  let c0_1913 : Index := 0#32
  let c0_1914 : Index := 0#32
  ![v2796.toNat, 0, 0]
def k0_off30 (i : grid0.Coords) (k0_t1 : Fin (k0_t1_loop i).trips) : Fin 4 → Nat :=
  let c0_1928 : Index := 0#32
  let c2_i32_1923 : BitVec 32 := 2#32
  let c2_i32_1900 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2807 : BitVec 32 := Scalar.muli c2_i32_1923 v2786
  let c1_i32_1927 : BitVec 32 := 1#32
  let v2818 : BitVec 32 := Scalar.addi v2807 c1_i32_1927
  let v2819 : Index := Scalar.indexCast v2818
  let c0_1929 : Index := 0#32
  let c0_1930 : Index := 0#32
  ![0, v2819.toNat, 0, 0]
def k0_off31 (i : grid0.Coords) (k0_t1 : Fin (k0_t1_loop i).trips) : Fin 4 → Nat :=
  let c1_1996 : Index := 1#32
  let c2_i32_1991 : BitVec 32 := 2#32
  let c2_i32_1900 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2889 : BitVec 32 := Scalar.muli c2_i32_1991 v2786
  let c1_i32_1995 : BitVec 32 := 1#32
  let v2900 : BitVec 32 := Scalar.addi v2889 c1_i32_1995
  let v2901 : Index := Scalar.indexCast v2900
  let c0_1997 : Index := 0#32
  let c0_1998 : Index := 0#32
  ![1, v2901.toNat, 0, 0]
def k0_off32 (i : grid0.Coords) (k0_t1 : Fin (k0_t1_loop i).trips) : Fin 4 → Nat :=
  let c0_2061 : Index := 0#32
  let c2_i32_2055 : BitVec 32 := 2#32
  let c2_i32_1900 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2966 : BitVec 32 := Scalar.muli c2_i32_2055 v2786
  let c1_i32_2056 : BitVec 32 := 1#32
  let v2967 : BitVec 32 := Scalar.addi v2966 c1_i32_2056
  let c1_i32_2060 : BitVec 32 := 1#32
  let v2978 : BitVec 32 := Scalar.addi v2967 c1_i32_2060
  let v2979 : Index := Scalar.indexCast v2978
  let c0_2062 : Index := 0#32
  let c0_2063 : Index := 0#32
  ![0, v2979.toNat, 0, 0]
def k0_off33 (i : grid0.Coords) (k0_t1 : Fin (k0_t1_loop i).trips) : Fin 4 → Nat :=
  let c1_2131 : Index := 1#32
  let c2_i32_2125 : BitVec 32 := 2#32
  let c2_i32_1900 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v3050 : BitVec 32 := Scalar.muli c2_i32_2125 v2786
  let c1_i32_2126 : BitVec 32 := 1#32
  let v3051 : BitVec 32 := Scalar.addi v3050 c1_i32_2126
  let c1_i32_2130 : BitVec 32 := 1#32
  let v3062 : BitVec 32 := Scalar.addi v3051 c1_i32_2130
  let v3063 : Index := Scalar.indexCast v3062
  let c0_2132 : Index := 0#32
  let c0_2133 : Index := 0#32
  ![1, v3063.toNat, 0, 0]
def k0_off34 (i : grid0.Coords) (k0_t1 : Fin (k0_t1_loop i).trips) (c1_i32_2178 : BitVec 32) : Fin 3 → Nat :=
  let c2_i32_2177 : BitVec 32 := 2#32
  let c2_i32_1898 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3119 : BitVec 32 := Scalar.muli c2_i32_2177 v2785
  let v3120 : BitVec 32 := Scalar.addi v3119 c1_i32_2178
  let c1_i32_2188 : BitVec 32 := 1#32
  let v3127 : BitVec 32 := Scalar.addi v3120 c1_i32_2188
  let v3128 : Index := Scalar.indexCast v3127
  let c0_2189 : Index := 0#32
  let c0_2190 : Index := 0#32
  ![v3128.toNat, 0, 0]
def k0_off35 (i : grid0.Coords) (k0_t1 : Fin (k0_t1_loop i).trips) : Fin 4 → Nat :=
  let c0_2204 : Index := 0#32
  let c2_i32_2199 : BitVec 32 := 2#32
  let c2_i32_1898 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3139 : BitVec 32 := Scalar.muli c2_i32_2199 v2785
  let c1_i32_2203 : BitVec 32 := 1#32
  let v3150 : BitVec 32 := Scalar.addi v3139 c1_i32_2203
  let v3151 : Index := Scalar.indexCast v3150
  let c0_2205 : Index := 0#32
  let c0_2206 : Index := 0#32
  ![0, v3151.toNat, 0, 0]
def k0_off36 (i : grid0.Coords) (k0_t1 : Fin (k0_t1_loop i).trips) : Fin 4 → Nat :=
  let c1_2272 : Index := 1#32
  let c2_i32_2267 : BitVec 32 := 2#32
  let c2_i32_1898 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3221 : BitVec 32 := Scalar.muli c2_i32_2267 v2785
  let c1_i32_2271 : BitVec 32 := 1#32
  let v3232 : BitVec 32 := Scalar.addi v3221 c1_i32_2271
  let v3233 : Index := Scalar.indexCast v3232
  let c0_2273 : Index := 0#32
  let c0_2274 : Index := 0#32
  ![1, v3233.toNat, 0, 0]
def k0_off37 (i : grid0.Coords) (k0_t1 : Fin (k0_t1_loop i).trips) : Fin 4 → Nat :=
  let c0_2337 : Index := 0#32
  let c2_i32_2331 : BitVec 32 := 2#32
  let c2_i32_1898 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3298 : BitVec 32 := Scalar.muli c2_i32_2331 v2785
  let c1_i32_2332 : BitVec 32 := 1#32
  let v3299 : BitVec 32 := Scalar.addi v3298 c1_i32_2332
  let c1_i32_2336 : BitVec 32 := 1#32
  let v3310 : BitVec 32 := Scalar.addi v3299 c1_i32_2336
  let v3311 : Index := Scalar.indexCast v3310
  let c0_2338 : Index := 0#32
  let c0_2339 : Index := 0#32
  ![0, v3311.toNat, 0, 0]
def k0_off38 (i : grid0.Coords) (k0_t1 : Fin (k0_t1_loop i).trips) : Fin 4 → Nat :=
  let c1_2407 : Index := 1#32
  let c2_i32_2401 : BitVec 32 := 2#32
  let c2_i32_1898 : BitVec 32 := 2#32
  let c2_i32_1897 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3382 : BitVec 32 := Scalar.muli c2_i32_2401 v2785
  let c1_i32_2402 : BitVec 32 := 1#32
  let v3383 : BitVec 32 := Scalar.addi v3382 c1_i32_2402
  let c1_i32_2406 : BitVec 32 := 1#32
  let v3394 : BitVec 32 := Scalar.addi v3383 c1_i32_2406
  let v3395 : Index := Scalar.indexCast v3394
  let c0_2408 : Index := 0#32
  let c0_2409 : Index := 0#32
  ![1, v3395.toNat, 0, 0]
def k0_off39 (i : grid0.Coords) (k0_t1 : Fin (k0_t1_loop i).trips) (c1_i32_2457 : BitVec 32) : Fin 3 → Nat :=
  let c2_i32_2456 : BitVec 32 := 2#32
  let c2_i32_2455 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3454 : BitVec 32 := Scalar.muli c2_i32_2456 v3453
  let v3455 : BitVec 32 := Scalar.addi v3454 c1_i32_2457
  let c1_i32_2467 : BitVec 32 := 1#32
  let v3462 : BitVec 32 := Scalar.addi v3455 c1_i32_2467
  let v3463 : Index := Scalar.indexCast v3462
  let c0_2468 : Index := 0#32
  let c0_2469 : Index := 0#32
  ![v3463.toNat, 0, 0]
def k0_off40 (i : grid0.Coords) (k0_t1 : Fin (k0_t1_loop i).trips) : Fin 4 → Nat :=
  let c0_2483 : Index := 0#32
  let c2_i32_2478 : BitVec 32 := 2#32
  let c2_i32_2455 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3474 : BitVec 32 := Scalar.muli c2_i32_2478 v3453
  let c1_i32_2482 : BitVec 32 := 1#32
  let v3485 : BitVec 32 := Scalar.addi v3474 c1_i32_2482
  let v3486 : Index := Scalar.indexCast v3485
  let c0_2484 : Index := 0#32
  let c0_2485 : Index := 0#32
  ![0, v3486.toNat, 0, 0]
def k0_off41 (i : grid0.Coords) (k0_t1 : Fin (k0_t1_loop i).trips) : Fin 4 → Nat :=
  let c1_2551 : Index := 1#32
  let c2_i32_2546 : BitVec 32 := 2#32
  let c2_i32_2455 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3556 : BitVec 32 := Scalar.muli c2_i32_2546 v3453
  let c1_i32_2550 : BitVec 32 := 1#32
  let v3567 : BitVec 32 := Scalar.addi v3556 c1_i32_2550
  let v3568 : Index := Scalar.indexCast v3567
  let c0_2552 : Index := 0#32
  let c0_2553 : Index := 0#32
  ![1, v3568.toNat, 0, 0]
def k0_off42 (i : grid0.Coords) (k0_t1 : Fin (k0_t1_loop i).trips) : Fin 4 → Nat :=
  let c0_2616 : Index := 0#32
  let c2_i32_2610 : BitVec 32 := 2#32
  let c2_i32_2455 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3633 : BitVec 32 := Scalar.muli c2_i32_2610 v3453
  let c1_i32_2611 : BitVec 32 := 1#32
  let v3634 : BitVec 32 := Scalar.addi v3633 c1_i32_2611
  let c1_i32_2615 : BitVec 32 := 1#32
  let v3645 : BitVec 32 := Scalar.addi v3634 c1_i32_2615
  let v3646 : Index := Scalar.indexCast v3645
  let c0_2617 : Index := 0#32
  let c0_2618 : Index := 0#32
  ![0, v3646.toNat, 0, 0]
def k0_off43 (i : grid0.Coords) (k0_t1 : Fin (k0_t1_loop i).trips) : Fin 4 → Nat :=
  let c1_2686 : Index := 1#32
  let c2_i32_2680 : BitVec 32 := 2#32
  let c2_i32_2455 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3717 : BitVec 32 := Scalar.muli c2_i32_2680 v3453
  let c1_i32_2681 : BitVec 32 := 1#32
  let v3718 : BitVec 32 := Scalar.addi v3717 c1_i32_2681
  let c1_i32_2685 : BitVec 32 := 1#32
  let v3729 : BitVec 32 := Scalar.addi v3718 c1_i32_2685
  let v3730 : Index := Scalar.indexCast v3729
  let c0_2687 : Index := 0#32
  let c0_2688 : Index := 0#32
  ![1, v3730.toNat, 0, 0]
def k0_off44 (i : grid0.Coords) (k0_t1 : Fin (k0_t1_loop i).trips) (c1_i32_2733 : BitVec 32) : Fin 3 → Nat :=
  let c2_i32_2732 : BitVec 32 := 2#32
  let c2_i32_2453 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3786 : BitVec 32 := Scalar.muli c2_i32_2732 v3452
  let v3787 : BitVec 32 := Scalar.addi v3786 c1_i32_2733
  let c1_i32_2743 : BitVec 32 := 1#32
  let v3794 : BitVec 32 := Scalar.addi v3787 c1_i32_2743
  let v3795 : Index := Scalar.indexCast v3794
  let c0_2744 : Index := 0#32
  let c0_2745 : Index := 0#32
  ![v3795.toNat, 0, 0]
def k0_off45 (i : grid0.Coords) (k0_t1 : Fin (k0_t1_loop i).trips) : Fin 4 → Nat :=
  let c0_2759 : Index := 0#32
  let c2_i32_2754 : BitVec 32 := 2#32
  let c2_i32_2453 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3806 : BitVec 32 := Scalar.muli c2_i32_2754 v3452
  let c1_i32_2758 : BitVec 32 := 1#32
  let v3817 : BitVec 32 := Scalar.addi v3806 c1_i32_2758
  let v3818 : Index := Scalar.indexCast v3817
  let c0_2760 : Index := 0#32
  let c0_2761 : Index := 0#32
  ![0, v3818.toNat, 0, 0]
def k0_off46 (i : grid0.Coords) (k0_t1 : Fin (k0_t1_loop i).trips) : Fin 4 → Nat :=
  let c1_2827 : Index := 1#32
  let c2_i32_2822 : BitVec 32 := 2#32
  let c2_i32_2453 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3888 : BitVec 32 := Scalar.muli c2_i32_2822 v3452
  let c1_i32_2826 : BitVec 32 := 1#32
  let v3899 : BitVec 32 := Scalar.addi v3888 c1_i32_2826
  let v3900 : Index := Scalar.indexCast v3899
  let c0_2828 : Index := 0#32
  let c0_2829 : Index := 0#32
  ![1, v3900.toNat, 0, 0]
def k0_off47 (i : grid0.Coords) (k0_t1 : Fin (k0_t1_loop i).trips) : Fin 4 → Nat :=
  let c0_2892 : Index := 0#32
  let c2_i32_2886 : BitVec 32 := 2#32
  let c2_i32_2453 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3965 : BitVec 32 := Scalar.muli c2_i32_2886 v3452
  let c1_i32_2887 : BitVec 32 := 1#32
  let v3966 : BitVec 32 := Scalar.addi v3965 c1_i32_2887
  let c1_i32_2891 : BitVec 32 := 1#32
  let v3977 : BitVec 32 := Scalar.addi v3966 c1_i32_2891
  let v3978 : Index := Scalar.indexCast v3977
  let c0_2893 : Index := 0#32
  let c0_2894 : Index := 0#32
  ![0, v3978.toNat, 0, 0]
def k0_off48 (i : grid0.Coords) (k0_t1 : Fin (k0_t1_loop i).trips) : Fin 4 → Nat :=
  let c1_2962 : Index := 1#32
  let c2_i32_2956 : BitVec 32 := 2#32
  let c2_i32_2453 : BitVec 32 := 2#32
  let c2_i32_1895 : BitVec 32 := 2#32
  let c2_i32_779 : BitVec 32 := 2#32
  let c0_i32_278 : BitVec 32 := 0#32
  let c1_i32_280 : BitVec 32 := 1#32
  let arg23 : BitVec 32 := Scf.iv c0_i32_278 c1_i32_280 k0_t1
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v4049 : BitVec 32 := Scalar.muli c2_i32_2956 v3452
  let c1_i32_2957 : BitVec 32 := 1#32
  let v4050 : BitVec 32 := Scalar.addi v4049 c1_i32_2957
  let c1_i32_2961 : BitVec 32 := 1#32
  let v4061 : BitVec 32 := Scalar.addi v4050 c1_i32_2961
  let v4062 : Index := Scalar.indexCast v4061
  let c0_2963 : Index := 0#32
  let c0_2964 : Index := 0#32
  ![1, v4062.toNat, 0, 0]
@[reducible] def k0_t2_loop (i : grid0.Coords) : Scf.Loop 32 :=
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let v614 : BitVec 32 := Scalar.addi c0_i32_278 v613
  let c1_i32_281 : BitVec 32 := 1#32
  ⟨v617, v614, c1_i32_281⟩
def k0_off49 (i : grid0.Coords) (k0_t2 : Fin (k0_t2_loop i).trips) (c1_i32_789 : BitVec 32) : Fin 3 → Nat :=
  let c2_i32_788 : BitVec 32 := 2#32
  let c2_i32_787 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1449 : BitVec 32 := Scalar.muli c2_i32_787 v1446
  let v1450 : BitVec 32 := Scalar.muli c2_i32_788 v1449
  let v1451 : BitVec 32 := Scalar.addi v1450 c1_i32_789
  let c1_i32_799 : BitVec 32 := 1#32
  let v1458 : BitVec 32 := Scalar.addi v1451 c1_i32_799
  let v1459 : Index := Scalar.indexCast v1458
  let c0_800 : Index := 0#32
  let c0_801 : Index := 0#32
  ![v1459.toNat, 0, 0]
def k0_off50 (i : grid0.Coords) (k0_t2 : Fin (k0_t2_loop i).trips) : Fin 4 → Nat :=
  let c0_815 : Index := 0#32
  let c2_i32_810 : BitVec 32 := 2#32
  let c2_i32_787 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1449 : BitVec 32 := Scalar.muli c2_i32_787 v1446
  let v1470 : BitVec 32 := Scalar.muli c2_i32_810 v1449
  let c1_i32_814 : BitVec 32 := 1#32
  let v1481 : BitVec 32 := Scalar.addi v1470 c1_i32_814
  let v1482 : Index := Scalar.indexCast v1481
  let c0_816 : Index := 0#32
  let c0_817 : Index := 0#32
  ![0, v1482.toNat, 0, 0]
def k0_off51 (i : grid0.Coords) (k0_t2 : Fin (k0_t2_loop i).trips) : Fin 4 → Nat :=
  let c1_883 : Index := 1#32
  let c2_i32_878 : BitVec 32 := 2#32
  let c2_i32_787 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1449 : BitVec 32 := Scalar.muli c2_i32_787 v1446
  let v1552 : BitVec 32 := Scalar.muli c2_i32_878 v1449
  let c1_i32_882 : BitVec 32 := 1#32
  let v1563 : BitVec 32 := Scalar.addi v1552 c1_i32_882
  let v1564 : Index := Scalar.indexCast v1563
  let c0_884 : Index := 0#32
  let c0_885 : Index := 0#32
  ![1, v1564.toNat, 0, 0]
def k0_off52 (i : grid0.Coords) (k0_t2 : Fin (k0_t2_loop i).trips) : Fin 4 → Nat :=
  let c0_948 : Index := 0#32
  let c2_i32_942 : BitVec 32 := 2#32
  let c2_i32_787 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1449 : BitVec 32 := Scalar.muli c2_i32_787 v1446
  let v1629 : BitVec 32 := Scalar.muli c2_i32_942 v1449
  let c1_i32_943 : BitVec 32 := 1#32
  let v1630 : BitVec 32 := Scalar.addi v1629 c1_i32_943
  let c1_i32_947 : BitVec 32 := 1#32
  let v1641 : BitVec 32 := Scalar.addi v1630 c1_i32_947
  let v1642 : Index := Scalar.indexCast v1641
  let c0_949 : Index := 0#32
  let c0_950 : Index := 0#32
  ![0, v1642.toNat, 0, 0]
def k0_off53 (i : grid0.Coords) (k0_t2 : Fin (k0_t2_loop i).trips) : Fin 4 → Nat :=
  let c1_1018 : Index := 1#32
  let c2_i32_1012 : BitVec 32 := 2#32
  let c2_i32_787 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1449 : BitVec 32 := Scalar.muli c2_i32_787 v1446
  let v1713 : BitVec 32 := Scalar.muli c2_i32_1012 v1449
  let c1_i32_1013 : BitVec 32 := 1#32
  let v1714 : BitVec 32 := Scalar.addi v1713 c1_i32_1013
  let c1_i32_1017 : BitVec 32 := 1#32
  let v1725 : BitVec 32 := Scalar.addi v1714 c1_i32_1017
  let v1726 : Index := Scalar.indexCast v1725
  let c0_1019 : Index := 0#32
  let c0_1020 : Index := 0#32
  ![1, v1726.toNat, 0, 0]
def k0_off54 (i : grid0.Coords) (k0_t2 : Fin (k0_t2_loop i).trips) (c1_i32_1065 : BitVec 32) : Fin 3 → Nat :=
  let c2_i32_1064 : BitVec 32 := 2#32
  let c2_i32_785 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1782 : BitVec 32 := Scalar.muli c2_i32_1064 v1448
  let v1783 : BitVec 32 := Scalar.addi v1782 c1_i32_1065
  let c1_i32_1075 : BitVec 32 := 1#32
  let v1790 : BitVec 32 := Scalar.addi v1783 c1_i32_1075
  let v1791 : Index := Scalar.indexCast v1790
  let c0_1076 : Index := 0#32
  let c0_1077 : Index := 0#32
  ![v1791.toNat, 0, 0]
def k0_off55 (i : grid0.Coords) (k0_t2 : Fin (k0_t2_loop i).trips) : Fin 4 → Nat :=
  let c0_1091 : Index := 0#32
  let c2_i32_1086 : BitVec 32 := 2#32
  let c2_i32_785 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1802 : BitVec 32 := Scalar.muli c2_i32_1086 v1448
  let c1_i32_1090 : BitVec 32 := 1#32
  let v1813 : BitVec 32 := Scalar.addi v1802 c1_i32_1090
  let v1814 : Index := Scalar.indexCast v1813
  let c0_1092 : Index := 0#32
  let c0_1093 : Index := 0#32
  ![0, v1814.toNat, 0, 0]
def k0_off56 (i : grid0.Coords) (k0_t2 : Fin (k0_t2_loop i).trips) : Fin 4 → Nat :=
  let c1_1159 : Index := 1#32
  let c2_i32_1154 : BitVec 32 := 2#32
  let c2_i32_785 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1884 : BitVec 32 := Scalar.muli c2_i32_1154 v1448
  let c1_i32_1158 : BitVec 32 := 1#32
  let v1895 : BitVec 32 := Scalar.addi v1884 c1_i32_1158
  let v1896 : Index := Scalar.indexCast v1895
  let c0_1160 : Index := 0#32
  let c0_1161 : Index := 0#32
  ![1, v1896.toNat, 0, 0]
def k0_off57 (i : grid0.Coords) (k0_t2 : Fin (k0_t2_loop i).trips) : Fin 4 → Nat :=
  let c0_1224 : Index := 0#32
  let c2_i32_1218 : BitVec 32 := 2#32
  let c2_i32_785 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v1961 : BitVec 32 := Scalar.muli c2_i32_1218 v1448
  let c1_i32_1219 : BitVec 32 := 1#32
  let v1962 : BitVec 32 := Scalar.addi v1961 c1_i32_1219
  let c1_i32_1223 : BitVec 32 := 1#32
  let v1973 : BitVec 32 := Scalar.addi v1962 c1_i32_1223
  let v1974 : Index := Scalar.indexCast v1973
  let c0_1225 : Index := 0#32
  let c0_1226 : Index := 0#32
  ![0, v1974.toNat, 0, 0]
def k0_off58 (i : grid0.Coords) (k0_t2 : Fin (k0_t2_loop i).trips) : Fin 4 → Nat :=
  let c1_1294 : Index := 1#32
  let c2_i32_1288 : BitVec 32 := 2#32
  let c2_i32_785 : BitVec 32 := 2#32
  let c2_i32_784 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1446 : BitVec 32 := Scalar.muli c2_i32_784 v1443
  let v1447 : BitVec 32 := Scalar.muli c2_i32_785 v1446
  let c1_i32_786 : BitVec 32 := 1#32
  let v1448 : BitVec 32 := Scalar.addi v1447 c1_i32_786
  let v2045 : BitVec 32 := Scalar.muli c2_i32_1288 v1448
  let c1_i32_1289 : BitVec 32 := 1#32
  let v2046 : BitVec 32 := Scalar.addi v2045 c1_i32_1289
  let c1_i32_1293 : BitVec 32 := 1#32
  let v2057 : BitVec 32 := Scalar.addi v2046 c1_i32_1293
  let v2058 : Index := Scalar.indexCast v2057
  let c0_1295 : Index := 0#32
  let c0_1296 : Index := 0#32
  ![1, v2058.toNat, 0, 0]
def k0_off59 (i : grid0.Coords) (k0_t2 : Fin (k0_t2_loop i).trips) (c1_i32_1344 : BitVec 32) : Fin 3 → Nat :=
  let c2_i32_1343 : BitVec 32 := 2#32
  let c2_i32_1342 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2117 : BitVec 32 := Scalar.muli c2_i32_1343 v2116
  let v2118 : BitVec 32 := Scalar.addi v2117 c1_i32_1344
  let c1_i32_1354 : BitVec 32 := 1#32
  let v2125 : BitVec 32 := Scalar.addi v2118 c1_i32_1354
  let v2126 : Index := Scalar.indexCast v2125
  let c0_1355 : Index := 0#32
  let c0_1356 : Index := 0#32
  ![v2126.toNat, 0, 0]
def k0_off60 (i : grid0.Coords) (k0_t2 : Fin (k0_t2_loop i).trips) : Fin 4 → Nat :=
  let c0_1370 : Index := 0#32
  let c2_i32_1365 : BitVec 32 := 2#32
  let c2_i32_1342 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2137 : BitVec 32 := Scalar.muli c2_i32_1365 v2116
  let c1_i32_1369 : BitVec 32 := 1#32
  let v2148 : BitVec 32 := Scalar.addi v2137 c1_i32_1369
  let v2149 : Index := Scalar.indexCast v2148
  let c0_1371 : Index := 0#32
  let c0_1372 : Index := 0#32
  ![0, v2149.toNat, 0, 0]
def k0_off61 (i : grid0.Coords) (k0_t2 : Fin (k0_t2_loop i).trips) : Fin 4 → Nat :=
  let c1_1438 : Index := 1#32
  let c2_i32_1433 : BitVec 32 := 2#32
  let c2_i32_1342 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2219 : BitVec 32 := Scalar.muli c2_i32_1433 v2116
  let c1_i32_1437 : BitVec 32 := 1#32
  let v2230 : BitVec 32 := Scalar.addi v2219 c1_i32_1437
  let v2231 : Index := Scalar.indexCast v2230
  let c0_1439 : Index := 0#32
  let c0_1440 : Index := 0#32
  ![1, v2231.toNat, 0, 0]
def k0_off62 (i : grid0.Coords) (k0_t2 : Fin (k0_t2_loop i).trips) : Fin 4 → Nat :=
  let c0_1503 : Index := 0#32
  let c2_i32_1497 : BitVec 32 := 2#32
  let c2_i32_1342 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2296 : BitVec 32 := Scalar.muli c2_i32_1497 v2116
  let c1_i32_1498 : BitVec 32 := 1#32
  let v2297 : BitVec 32 := Scalar.addi v2296 c1_i32_1498
  let c1_i32_1502 : BitVec 32 := 1#32
  let v2308 : BitVec 32 := Scalar.addi v2297 c1_i32_1502
  let v2309 : Index := Scalar.indexCast v2308
  let c0_1504 : Index := 0#32
  let c0_1505 : Index := 0#32
  ![0, v2309.toNat, 0, 0]
def k0_off63 (i : grid0.Coords) (k0_t2 : Fin (k0_t2_loop i).trips) : Fin 4 → Nat :=
  let c1_1573 : Index := 1#32
  let c2_i32_1567 : BitVec 32 := 2#32
  let c2_i32_1342 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2116 : BitVec 32 := Scalar.muli c2_i32_1342 v1445
  let v2380 : BitVec 32 := Scalar.muli c2_i32_1567 v2116
  let c1_i32_1568 : BitVec 32 := 1#32
  let v2381 : BitVec 32 := Scalar.addi v2380 c1_i32_1568
  let c1_i32_1572 : BitVec 32 := 1#32
  let v2392 : BitVec 32 := Scalar.addi v2381 c1_i32_1572
  let v2393 : Index := Scalar.indexCast v2392
  let c0_1574 : Index := 0#32
  let c0_1575 : Index := 0#32
  ![1, v2393.toNat, 0, 0]
def k0_off64 (i : grid0.Coords) (k0_t2 : Fin (k0_t2_loop i).trips) (c1_i32_1620 : BitVec 32) : Fin 3 → Nat :=
  let c2_i32_1619 : BitVec 32 := 2#32
  let c2_i32_1340 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2449 : BitVec 32 := Scalar.muli c2_i32_1619 v2115
  let v2450 : BitVec 32 := Scalar.addi v2449 c1_i32_1620
  let c1_i32_1630 : BitVec 32 := 1#32
  let v2457 : BitVec 32 := Scalar.addi v2450 c1_i32_1630
  let v2458 : Index := Scalar.indexCast v2457
  let c0_1631 : Index := 0#32
  let c0_1632 : Index := 0#32
  ![v2458.toNat, 0, 0]
def k0_off65 (i : grid0.Coords) (k0_t2 : Fin (k0_t2_loop i).trips) : Fin 4 → Nat :=
  let c0_1646 : Index := 0#32
  let c2_i32_1641 : BitVec 32 := 2#32
  let c2_i32_1340 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2469 : BitVec 32 := Scalar.muli c2_i32_1641 v2115
  let c1_i32_1645 : BitVec 32 := 1#32
  let v2480 : BitVec 32 := Scalar.addi v2469 c1_i32_1645
  let v2481 : Index := Scalar.indexCast v2480
  let c0_1647 : Index := 0#32
  let c0_1648 : Index := 0#32
  ![0, v2481.toNat, 0, 0]
def k0_off66 (i : grid0.Coords) (k0_t2 : Fin (k0_t2_loop i).trips) : Fin 4 → Nat :=
  let c1_1714 : Index := 1#32
  let c2_i32_1709 : BitVec 32 := 2#32
  let c2_i32_1340 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2551 : BitVec 32 := Scalar.muli c2_i32_1709 v2115
  let c1_i32_1713 : BitVec 32 := 1#32
  let v2562 : BitVec 32 := Scalar.addi v2551 c1_i32_1713
  let v2563 : Index := Scalar.indexCast v2562
  let c0_1715 : Index := 0#32
  let c0_1716 : Index := 0#32
  ![1, v2563.toNat, 0, 0]
def k0_off67 (i : grid0.Coords) (k0_t2 : Fin (k0_t2_loop i).trips) : Fin 4 → Nat :=
  let c0_1779 : Index := 0#32
  let c2_i32_1773 : BitVec 32 := 2#32
  let c2_i32_1340 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2628 : BitVec 32 := Scalar.muli c2_i32_1773 v2115
  let c1_i32_1774 : BitVec 32 := 1#32
  let v2629 : BitVec 32 := Scalar.addi v2628 c1_i32_1774
  let c1_i32_1778 : BitVec 32 := 1#32
  let v2640 : BitVec 32 := Scalar.addi v2629 c1_i32_1778
  let v2641 : Index := Scalar.indexCast v2640
  let c0_1780 : Index := 0#32
  let c0_1781 : Index := 0#32
  ![0, v2641.toNat, 0, 0]
def k0_off68 (i : grid0.Coords) (k0_t2 : Fin (k0_t2_loop i).trips) : Fin 4 → Nat :=
  let c1_1849 : Index := 1#32
  let c2_i32_1843 : BitVec 32 := 2#32
  let c2_i32_1340 : BitVec 32 := 2#32
  let c2_i32_782 : BitVec 32 := 2#32
  let c2_i32_781 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2114 : BitVec 32 := Scalar.muli c2_i32_1340 v1445
  let c1_i32_1341 : BitVec 32 := 1#32
  let v2115 : BitVec 32 := Scalar.addi v2114 c1_i32_1341
  let v2712 : BitVec 32 := Scalar.muli c2_i32_1843 v2115
  let c1_i32_1844 : BitVec 32 := 1#32
  let v2713 : BitVec 32 := Scalar.addi v2712 c1_i32_1844
  let c1_i32_1848 : BitVec 32 := 1#32
  let v2724 : BitVec 32 := Scalar.addi v2713 c1_i32_1848
  let v2725 : Index := Scalar.indexCast v2724
  let c0_1850 : Index := 0#32
  let c0_1851 : Index := 0#32
  ![1, v2725.toNat, 0, 0]
def k0_off69 (i : grid0.Coords) (k0_t2 : Fin (k0_t2_loop i).trips) (c1_i32_1902 : BitVec 32) : Fin 3 → Nat :=
  let c2_i32_1901 : BitVec 32 := 2#32
  let c2_i32_1900 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2787 : BitVec 32 := Scalar.muli c2_i32_1901 v2786
  let v2788 : BitVec 32 := Scalar.addi v2787 c1_i32_1902
  let c1_i32_1912 : BitVec 32 := 1#32
  let v2795 : BitVec 32 := Scalar.addi v2788 c1_i32_1912
  let v2796 : Index := Scalar.indexCast v2795
  let c0_1913 : Index := 0#32
  let c0_1914 : Index := 0#32
  ![v2796.toNat, 0, 0]
def k0_off70 (i : grid0.Coords) (k0_t2 : Fin (k0_t2_loop i).trips) : Fin 4 → Nat :=
  let c0_1928 : Index := 0#32
  let c2_i32_1923 : BitVec 32 := 2#32
  let c2_i32_1900 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2807 : BitVec 32 := Scalar.muli c2_i32_1923 v2786
  let c1_i32_1927 : BitVec 32 := 1#32
  let v2818 : BitVec 32 := Scalar.addi v2807 c1_i32_1927
  let v2819 : Index := Scalar.indexCast v2818
  let c0_1929 : Index := 0#32
  let c0_1930 : Index := 0#32
  ![0, v2819.toNat, 0, 0]
def k0_off71 (i : grid0.Coords) (k0_t2 : Fin (k0_t2_loop i).trips) : Fin 4 → Nat :=
  let c1_1996 : Index := 1#32
  let c2_i32_1991 : BitVec 32 := 2#32
  let c2_i32_1900 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2889 : BitVec 32 := Scalar.muli c2_i32_1991 v2786
  let c1_i32_1995 : BitVec 32 := 1#32
  let v2900 : BitVec 32 := Scalar.addi v2889 c1_i32_1995
  let v2901 : Index := Scalar.indexCast v2900
  let c0_1997 : Index := 0#32
  let c0_1998 : Index := 0#32
  ![1, v2901.toNat, 0, 0]
def k0_off72 (i : grid0.Coords) (k0_t2 : Fin (k0_t2_loop i).trips) : Fin 4 → Nat :=
  let c0_2061 : Index := 0#32
  let c2_i32_2055 : BitVec 32 := 2#32
  let c2_i32_1900 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v2966 : BitVec 32 := Scalar.muli c2_i32_2055 v2786
  let c1_i32_2056 : BitVec 32 := 1#32
  let v2967 : BitVec 32 := Scalar.addi v2966 c1_i32_2056
  let c1_i32_2060 : BitVec 32 := 1#32
  let v2978 : BitVec 32 := Scalar.addi v2967 c1_i32_2060
  let v2979 : Index := Scalar.indexCast v2978
  let c0_2062 : Index := 0#32
  let c0_2063 : Index := 0#32
  ![0, v2979.toNat, 0, 0]
def k0_off73 (i : grid0.Coords) (k0_t2 : Fin (k0_t2_loop i).trips) : Fin 4 → Nat :=
  let c1_2131 : Index := 1#32
  let c2_i32_2125 : BitVec 32 := 2#32
  let c2_i32_1900 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2786 : BitVec 32 := Scalar.muli c2_i32_1900 v2783
  let v3050 : BitVec 32 := Scalar.muli c2_i32_2125 v2786
  let c1_i32_2126 : BitVec 32 := 1#32
  let v3051 : BitVec 32 := Scalar.addi v3050 c1_i32_2126
  let c1_i32_2130 : BitVec 32 := 1#32
  let v3062 : BitVec 32 := Scalar.addi v3051 c1_i32_2130
  let v3063 : Index := Scalar.indexCast v3062
  let c0_2132 : Index := 0#32
  let c0_2133 : Index := 0#32
  ![1, v3063.toNat, 0, 0]
def k0_off74 (i : grid0.Coords) (k0_t2 : Fin (k0_t2_loop i).trips) (c1_i32_2178 : BitVec 32) : Fin 3 → Nat :=
  let c2_i32_2177 : BitVec 32 := 2#32
  let c2_i32_1898 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3119 : BitVec 32 := Scalar.muli c2_i32_2177 v2785
  let v3120 : BitVec 32 := Scalar.addi v3119 c1_i32_2178
  let c1_i32_2188 : BitVec 32 := 1#32
  let v3127 : BitVec 32 := Scalar.addi v3120 c1_i32_2188
  let v3128 : Index := Scalar.indexCast v3127
  let c0_2189 : Index := 0#32
  let c0_2190 : Index := 0#32
  ![v3128.toNat, 0, 0]
def k0_off75 (i : grid0.Coords) (k0_t2 : Fin (k0_t2_loop i).trips) : Fin 4 → Nat :=
  let c0_2204 : Index := 0#32
  let c2_i32_2199 : BitVec 32 := 2#32
  let c2_i32_1898 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3139 : BitVec 32 := Scalar.muli c2_i32_2199 v2785
  let c1_i32_2203 : BitVec 32 := 1#32
  let v3150 : BitVec 32 := Scalar.addi v3139 c1_i32_2203
  let v3151 : Index := Scalar.indexCast v3150
  let c0_2205 : Index := 0#32
  let c0_2206 : Index := 0#32
  ![0, v3151.toNat, 0, 0]
def k0_off76 (i : grid0.Coords) (k0_t2 : Fin (k0_t2_loop i).trips) : Fin 4 → Nat :=
  let c1_2272 : Index := 1#32
  let c2_i32_2267 : BitVec 32 := 2#32
  let c2_i32_1898 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3221 : BitVec 32 := Scalar.muli c2_i32_2267 v2785
  let c1_i32_2271 : BitVec 32 := 1#32
  let v3232 : BitVec 32 := Scalar.addi v3221 c1_i32_2271
  let v3233 : Index := Scalar.indexCast v3232
  let c0_2273 : Index := 0#32
  let c0_2274 : Index := 0#32
  ![1, v3233.toNat, 0, 0]
def k0_off77 (i : grid0.Coords) (k0_t2 : Fin (k0_t2_loop i).trips) : Fin 4 → Nat :=
  let c0_2337 : Index := 0#32
  let c2_i32_2331 : BitVec 32 := 2#32
  let c2_i32_1898 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3298 : BitVec 32 := Scalar.muli c2_i32_2331 v2785
  let c1_i32_2332 : BitVec 32 := 1#32
  let v3299 : BitVec 32 := Scalar.addi v3298 c1_i32_2332
  let c1_i32_2336 : BitVec 32 := 1#32
  let v3310 : BitVec 32 := Scalar.addi v3299 c1_i32_2336
  let v3311 : Index := Scalar.indexCast v3310
  let c0_2338 : Index := 0#32
  let c0_2339 : Index := 0#32
  ![0, v3311.toNat, 0, 0]
def k0_off78 (i : grid0.Coords) (k0_t2 : Fin (k0_t2_loop i).trips) : Fin 4 → Nat :=
  let c1_2407 : Index := 1#32
  let c2_i32_2401 : BitVec 32 := 2#32
  let c2_i32_1898 : BitVec 32 := 2#32
  let c2_i32_1897 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2783 : BitVec 32 := Scalar.muli c2_i32_1897 v1442
  let v2784 : BitVec 32 := Scalar.muli c2_i32_1898 v2783
  let c1_i32_1899 : BitVec 32 := 1#32
  let v2785 : BitVec 32 := Scalar.addi v2784 c1_i32_1899
  let v3382 : BitVec 32 := Scalar.muli c2_i32_2401 v2785
  let c1_i32_2402 : BitVec 32 := 1#32
  let v3383 : BitVec 32 := Scalar.addi v3382 c1_i32_2402
  let c1_i32_2406 : BitVec 32 := 1#32
  let v3394 : BitVec 32 := Scalar.addi v3383 c1_i32_2406
  let v3395 : Index := Scalar.indexCast v3394
  let c0_2408 : Index := 0#32
  let c0_2409 : Index := 0#32
  ![1, v3395.toNat, 0, 0]
def k0_off79 (i : grid0.Coords) (k0_t2 : Fin (k0_t2_loop i).trips) (c1_i32_2457 : BitVec 32) : Fin 3 → Nat :=
  let c2_i32_2456 : BitVec 32 := 2#32
  let c2_i32_2455 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3454 : BitVec 32 := Scalar.muli c2_i32_2456 v3453
  let v3455 : BitVec 32 := Scalar.addi v3454 c1_i32_2457
  let c1_i32_2467 : BitVec 32 := 1#32
  let v3462 : BitVec 32 := Scalar.addi v3455 c1_i32_2467
  let v3463 : Index := Scalar.indexCast v3462
  let c0_2468 : Index := 0#32
  let c0_2469 : Index := 0#32
  ![v3463.toNat, 0, 0]
def k0_off80 (i : grid0.Coords) (k0_t2 : Fin (k0_t2_loop i).trips) : Fin 4 → Nat :=
  let c0_2483 : Index := 0#32
  let c2_i32_2478 : BitVec 32 := 2#32
  let c2_i32_2455 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3474 : BitVec 32 := Scalar.muli c2_i32_2478 v3453
  let c1_i32_2482 : BitVec 32 := 1#32
  let v3485 : BitVec 32 := Scalar.addi v3474 c1_i32_2482
  let v3486 : Index := Scalar.indexCast v3485
  let c0_2484 : Index := 0#32
  let c0_2485 : Index := 0#32
  ![0, v3486.toNat, 0, 0]
def k0_off81 (i : grid0.Coords) (k0_t2 : Fin (k0_t2_loop i).trips) : Fin 4 → Nat :=
  let c1_2551 : Index := 1#32
  let c2_i32_2546 : BitVec 32 := 2#32
  let c2_i32_2455 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3556 : BitVec 32 := Scalar.muli c2_i32_2546 v3453
  let c1_i32_2550 : BitVec 32 := 1#32
  let v3567 : BitVec 32 := Scalar.addi v3556 c1_i32_2550
  let v3568 : Index := Scalar.indexCast v3567
  let c0_2552 : Index := 0#32
  let c0_2553 : Index := 0#32
  ![1, v3568.toNat, 0, 0]
def k0_off82 (i : grid0.Coords) (k0_t2 : Fin (k0_t2_loop i).trips) : Fin 4 → Nat :=
  let c0_2616 : Index := 0#32
  let c2_i32_2610 : BitVec 32 := 2#32
  let c2_i32_2455 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3633 : BitVec 32 := Scalar.muli c2_i32_2610 v3453
  let c1_i32_2611 : BitVec 32 := 1#32
  let v3634 : BitVec 32 := Scalar.addi v3633 c1_i32_2611
  let c1_i32_2615 : BitVec 32 := 1#32
  let v3645 : BitVec 32 := Scalar.addi v3634 c1_i32_2615
  let v3646 : Index := Scalar.indexCast v3645
  let c0_2617 : Index := 0#32
  let c0_2618 : Index := 0#32
  ![0, v3646.toNat, 0, 0]
def k0_off83 (i : grid0.Coords) (k0_t2 : Fin (k0_t2_loop i).trips) : Fin 4 → Nat :=
  let c1_2686 : Index := 1#32
  let c2_i32_2680 : BitVec 32 := 2#32
  let c2_i32_2455 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3453 : BitVec 32 := Scalar.muli c2_i32_2455 v2782
  let v3717 : BitVec 32 := Scalar.muli c2_i32_2680 v3453
  let c1_i32_2681 : BitVec 32 := 1#32
  let v3718 : BitVec 32 := Scalar.addi v3717 c1_i32_2681
  let c1_i32_2685 : BitVec 32 := 1#32
  let v3729 : BitVec 32 := Scalar.addi v3718 c1_i32_2685
  let v3730 : Index := Scalar.indexCast v3729
  let c0_2687 : Index := 0#32
  let c0_2688 : Index := 0#32
  ![1, v3730.toNat, 0, 0]
def k0_off84 (i : grid0.Coords) (k0_t2 : Fin (k0_t2_loop i).trips) (c1_i32_2733 : BitVec 32) : Fin 3 → Nat :=
  let c2_i32_2732 : BitVec 32 := 2#32
  let c2_i32_2453 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3786 : BitVec 32 := Scalar.muli c2_i32_2732 v3452
  let v3787 : BitVec 32 := Scalar.addi v3786 c1_i32_2733
  let c1_i32_2743 : BitVec 32 := 1#32
  let v3794 : BitVec 32 := Scalar.addi v3787 c1_i32_2743
  let v3795 : Index := Scalar.indexCast v3794
  let c0_2744 : Index := 0#32
  let c0_2745 : Index := 0#32
  ![v3795.toNat, 0, 0]
def k0_off85 (i : grid0.Coords) (k0_t2 : Fin (k0_t2_loop i).trips) : Fin 4 → Nat :=
  let c0_2759 : Index := 0#32
  let c2_i32_2754 : BitVec 32 := 2#32
  let c2_i32_2453 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3806 : BitVec 32 := Scalar.muli c2_i32_2754 v3452
  let c1_i32_2758 : BitVec 32 := 1#32
  let v3817 : BitVec 32 := Scalar.addi v3806 c1_i32_2758
  let v3818 : Index := Scalar.indexCast v3817
  let c0_2760 : Index := 0#32
  let c0_2761 : Index := 0#32
  ![0, v3818.toNat, 0, 0]
def k0_off86 (i : grid0.Coords) (k0_t2 : Fin (k0_t2_loop i).trips) : Fin 4 → Nat :=
  let c1_2827 : Index := 1#32
  let c2_i32_2822 : BitVec 32 := 2#32
  let c2_i32_2453 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3888 : BitVec 32 := Scalar.muli c2_i32_2822 v3452
  let c1_i32_2826 : BitVec 32 := 1#32
  let v3899 : BitVec 32 := Scalar.addi v3888 c1_i32_2826
  let v3900 : Index := Scalar.indexCast v3899
  let c0_2828 : Index := 0#32
  let c0_2829 : Index := 0#32
  ![1, v3900.toNat, 0, 0]
def k0_off87 (i : grid0.Coords) (k0_t2 : Fin (k0_t2_loop i).trips) : Fin 4 → Nat :=
  let c0_2892 : Index := 0#32
  let c2_i32_2886 : BitVec 32 := 2#32
  let c2_i32_2453 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v3965 : BitVec 32 := Scalar.muli c2_i32_2886 v3452
  let c1_i32_2887 : BitVec 32 := 1#32
  let v3966 : BitVec 32 := Scalar.addi v3965 c1_i32_2887
  let c1_i32_2891 : BitVec 32 := 1#32
  let v3977 : BitVec 32 := Scalar.addi v3966 c1_i32_2891
  let v3978 : Index := Scalar.indexCast v3977
  let c0_2893 : Index := 0#32
  let c0_2894 : Index := 0#32
  ![0, v3978.toNat, 0, 0]
def k0_off88 (i : grid0.Coords) (k0_t2 : Fin (k0_t2_loop i).trips) : Fin 4 → Nat :=
  let c1_2962 : Index := 1#32
  let c2_i32_2956 : BitVec 32 := 2#32
  let c2_i32_2453 : BitVec 32 := 2#32
  let c2_i32_1895 : BitVec 32 := 2#32
  let c2_i32_779 : BitVec 32 := 2#32
  let c0_i32_278 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_272 : BitVec 32 := 0#32
  let v597 : BitVec 1 := Scalar.cmpi .sgt v24 c0_i32_272
  let v598 : BitVec 32 := Scalar.extui v597
  let c0_i32_273 : BitVec 32 := 0#32
  let v599 : BitVec 1 := Scalar.cmpi .slt v24 c0_i32_273
  let v600 : BitVec 32 := Scalar.extui v599
  let v601 : BitVec 32 := Scalar.subi v598 v600
  let c16_i32 : BitVec 32 := 16#32
  let c0_i32_274 : BitVec 32 := 0#32
  let v602 : BitVec 1 := Scalar.cmpi .sgt c16_i32 c0_i32_274
  let v603 : BitVec 32 := Scalar.extui v602
  let c0_i32_275 : BitVec 32 := 0#32
  let v604 : BitVec 1 := Scalar.cmpi .slt c16_i32 c0_i32_275
  let v605 : BitVec 32 := Scalar.extui v604
  let v606 : BitVec 32 := Scalar.subi v603 v605
  let v607 : BitVec 1 := Scalar.cmpi .ne v601 v606
  let v608 : BitVec 32 := Scalar.remsi v24 c16_i32
  let c0_i32_276 : BitVec 32 := 0#32
  let v609 : BitVec 1 := Scalar.cmpi .ne v608 c0_i32_276
  let v610 : BitVec 1 := Scalar.andi v607 v609
  let v596 : BitVec 32 := Scalar.divsi v24 c16_i32
  let c1_i32_277 : BitVec 32 := 1#32
  let v611 : BitVec 32 := Scalar.subi v596 c1_i32_277
  let v612 : BitVec 32 := Scalar.select v610 v611 v596
  let v613 : BitVec 32 := Scalar.subi v612 c0_i32_278
  let c1_i32_279 : BitVec 32 := 1#32
  let v615 : BitVec 32 := Scalar.divsi v613 c1_i32_279
  let v616 : BitVec 32 := Scalar.muli v615 c1_i32_279
  let v617 : BitVec 32 := Scalar.addi c0_i32_278 v616
  let c1_i32_281 : BitVec 32 := 1#32
  let arg23 : BitVec 32 := Scf.iv v617 c1_i32_281 k0_t2
  let v1441 : BitVec 32 := Scalar.muli c2_i32_779 arg23
  let c1_i32_780 : BitVec 32 := 1#32
  let v1442 : BitVec 32 := Scalar.addi v1441 c1_i32_780
  let v2781 : BitVec 32 := Scalar.muli c2_i32_1895 v1442
  let c1_i32_1896 : BitVec 32 := 1#32
  let v2782 : BitVec 32 := Scalar.addi v2781 c1_i32_1896
  let v3451 : BitVec 32 := Scalar.muli c2_i32_2453 v2782
  let c1_i32_2454 : BitVec 32 := 1#32
  let v3452 : BitVec 32 := Scalar.addi v3451 c1_i32_2454
  let v4049 : BitVec 32 := Scalar.muli c2_i32_2956 v3452
  let c1_i32_2957 : BitVec 32 := 1#32
  let v4050 : BitVec 32 := Scalar.addi v4049 c1_i32_2957
  let c1_i32_2961 : BitVec 32 := 1#32
  let v4061 : BitVec 32 := Scalar.addi v4050 c1_i32_2961
  let v4062 : Index := Scalar.indexCast v4061
  let c0_2963 : Index := 0#32
  let c0_2964 : Index := 0#32
  ![1, v4062.toNat, 0, 0]
@[reducible] def k0_t3_loop (i : grid0.Coords) : Scf.Loop 32 :=
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_297 : BitVec 32 := 1#32
  ⟨v637, v659, c1_i32_297⟩
def k0_off89 (i : grid0.Coords) (k0_t3 : Fin (k0_t3_loop i).trips) (c1_i32_786 : BitVec 32) : Fin 3 → Nat :=
  let c2_i32_785 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1446 : BitVec 32 := Scalar.muli c2_i32_784 v1443
  let v1447 : BitVec 32 := Scalar.muli c2_i32_785 v1446
  let v1448 : BitVec 32 := Scalar.addi v1447 c1_i32_786
  let c1_i32_796 : BitVec 32 := 1#32
  let v1455 : BitVec 32 := Scalar.addi v1448 c1_i32_796
  let v1456 : Index := Scalar.indexCast v1455
  let c0_797 : Index := 0#32
  let c0_798 : Index := 0#32
  ![v1456.toNat, 0, 0]
def k0_off90 (i : grid0.Coords) (k0_t3 : Fin (k0_t3_loop i).trips) : Fin 4 → Nat :=
  let c0_812 : Index := 0#32
  let c2_i32_807 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1446 : BitVec 32 := Scalar.muli c2_i32_784 v1443
  let v1467 : BitVec 32 := Scalar.muli c2_i32_807 v1446
  let c1_i32_811 : BitVec 32 := 1#32
  let v1478 : BitVec 32 := Scalar.addi v1467 c1_i32_811
  let v1479 : Index := Scalar.indexCast v1478
  let c0_813 : Index := 0#32
  let c0_814 : Index := 0#32
  ![0, v1479.toNat, 0, 0]
def k0_off91 (i : grid0.Coords) (k0_t3 : Fin (k0_t3_loop i).trips) : Fin 4 → Nat :=
  let c1_880 : Index := 1#32
  let c2_i32_875 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1446 : BitVec 32 := Scalar.muli c2_i32_784 v1443
  let v1549 : BitVec 32 := Scalar.muli c2_i32_875 v1446
  let c1_i32_879 : BitVec 32 := 1#32
  let v1560 : BitVec 32 := Scalar.addi v1549 c1_i32_879
  let v1561 : Index := Scalar.indexCast v1560
  let c0_881 : Index := 0#32
  let c0_882 : Index := 0#32
  ![1, v1561.toNat, 0, 0]
def k0_off92 (i : grid0.Coords) (k0_t3 : Fin (k0_t3_loop i).trips) : Fin 4 → Nat :=
  let c0_945 : Index := 0#32
  let c2_i32_939 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1446 : BitVec 32 := Scalar.muli c2_i32_784 v1443
  let v1626 : BitVec 32 := Scalar.muli c2_i32_939 v1446
  let c1_i32_940 : BitVec 32 := 1#32
  let v1627 : BitVec 32 := Scalar.addi v1626 c1_i32_940
  let c1_i32_944 : BitVec 32 := 1#32
  let v1638 : BitVec 32 := Scalar.addi v1627 c1_i32_944
  let v1639 : Index := Scalar.indexCast v1638
  let c0_946 : Index := 0#32
  let c0_947 : Index := 0#32
  ![0, v1639.toNat, 0, 0]
def k0_off93 (i : grid0.Coords) (k0_t3 : Fin (k0_t3_loop i).trips) : Fin 4 → Nat :=
  let c1_1015 : Index := 1#32
  let c2_i32_1009 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1446 : BitVec 32 := Scalar.muli c2_i32_784 v1443
  let v1710 : BitVec 32 := Scalar.muli c2_i32_1009 v1446
  let c1_i32_1010 : BitVec 32 := 1#32
  let v1711 : BitVec 32 := Scalar.addi v1710 c1_i32_1010
  let c1_i32_1014 : BitVec 32 := 1#32
  let v1722 : BitVec 32 := Scalar.addi v1711 c1_i32_1014
  let v1723 : Index := Scalar.indexCast v1722
  let c0_1016 : Index := 0#32
  let c0_1017 : Index := 0#32
  ![1, v1723.toNat, 0, 0]
def k0_off94 (i : grid0.Coords) (k0_t3 : Fin (k0_t3_loop i).trips) (c1_i32_1062 : BitVec 32) : Fin 3 → Nat :=
  let c2_i32_1061 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1779 : BitVec 32 := Scalar.muli c2_i32_1061 v1445
  let v1780 : BitVec 32 := Scalar.addi v1779 c1_i32_1062
  let c1_i32_1072 : BitVec 32 := 1#32
  let v1787 : BitVec 32 := Scalar.addi v1780 c1_i32_1072
  let v1788 : Index := Scalar.indexCast v1787
  let c0_1073 : Index := 0#32
  let c0_1074 : Index := 0#32
  ![v1788.toNat, 0, 0]
def k0_off95 (i : grid0.Coords) (k0_t3 : Fin (k0_t3_loop i).trips) : Fin 4 → Nat :=
  let c0_1088 : Index := 0#32
  let c2_i32_1083 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1799 : BitVec 32 := Scalar.muli c2_i32_1083 v1445
  let c1_i32_1087 : BitVec 32 := 1#32
  let v1810 : BitVec 32 := Scalar.addi v1799 c1_i32_1087
  let v1811 : Index := Scalar.indexCast v1810
  let c0_1089 : Index := 0#32
  let c0_1090 : Index := 0#32
  ![0, v1811.toNat, 0, 0]
def k0_off96 (i : grid0.Coords) (k0_t3 : Fin (k0_t3_loop i).trips) : Fin 4 → Nat :=
  let c1_1156 : Index := 1#32
  let c2_i32_1151 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1881 : BitVec 32 := Scalar.muli c2_i32_1151 v1445
  let c1_i32_1155 : BitVec 32 := 1#32
  let v1892 : BitVec 32 := Scalar.addi v1881 c1_i32_1155
  let v1893 : Index := Scalar.indexCast v1892
  let c0_1157 : Index := 0#32
  let c0_1158 : Index := 0#32
  ![1, v1893.toNat, 0, 0]
def k0_off97 (i : grid0.Coords) (k0_t3 : Fin (k0_t3_loop i).trips) : Fin 4 → Nat :=
  let c0_1221 : Index := 0#32
  let c2_i32_1215 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1958 : BitVec 32 := Scalar.muli c2_i32_1215 v1445
  let c1_i32_1216 : BitVec 32 := 1#32
  let v1959 : BitVec 32 := Scalar.addi v1958 c1_i32_1216
  let c1_i32_1220 : BitVec 32 := 1#32
  let v1970 : BitVec 32 := Scalar.addi v1959 c1_i32_1220
  let v1971 : Index := Scalar.indexCast v1970
  let c0_1222 : Index := 0#32
  let c0_1223 : Index := 0#32
  ![0, v1971.toNat, 0, 0]
def k0_off98 (i : grid0.Coords) (k0_t3 : Fin (k0_t3_loop i).trips) : Fin 4 → Nat :=
  let c1_1291 : Index := 1#32
  let c2_i32_1285 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2042 : BitVec 32 := Scalar.muli c2_i32_1285 v1445
  let c1_i32_1286 : BitVec 32 := 1#32
  let v2043 : BitVec 32 := Scalar.addi v2042 c1_i32_1286
  let c1_i32_1290 : BitVec 32 := 1#32
  let v2054 : BitVec 32 := Scalar.addi v2043 c1_i32_1290
  let v2055 : Index := Scalar.indexCast v2054
  let c0_1292 : Index := 0#32
  let c0_1293 : Index := 0#32
  ![1, v2055.toNat, 0, 0]
def k0_off99 (i : grid0.Coords) (k0_t3 : Fin (k0_t3_loop i).trips) (c1_i32_1341 : BitVec 32) : Fin 3 → Nat :=
  let c2_i32_1340 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2114 : BitVec 32 := Scalar.muli c2_i32_1340 v2113
  let v2115 : BitVec 32 := Scalar.addi v2114 c1_i32_1341
  let c1_i32_1351 : BitVec 32 := 1#32
  let v2122 : BitVec 32 := Scalar.addi v2115 c1_i32_1351
  let v2123 : Index := Scalar.indexCast v2122
  let c0_1352 : Index := 0#32
  let c0_1353 : Index := 0#32
  ![v2123.toNat, 0, 0]
def k0_off100 (i : grid0.Coords) (k0_t3 : Fin (k0_t3_loop i).trips) : Fin 4 → Nat :=
  let c0_1367 : Index := 0#32
  let c2_i32_1362 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2134 : BitVec 32 := Scalar.muli c2_i32_1362 v2113
  let c1_i32_1366 : BitVec 32 := 1#32
  let v2145 : BitVec 32 := Scalar.addi v2134 c1_i32_1366
  let v2146 : Index := Scalar.indexCast v2145
  let c0_1368 : Index := 0#32
  let c0_1369 : Index := 0#32
  ![0, v2146.toNat, 0, 0]
def k0_off101 (i : grid0.Coords) (k0_t3 : Fin (k0_t3_loop i).trips) : Fin 4 → Nat :=
  let c1_1435 : Index := 1#32
  let c2_i32_1430 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2216 : BitVec 32 := Scalar.muli c2_i32_1430 v2113
  let c1_i32_1434 : BitVec 32 := 1#32
  let v2227 : BitVec 32 := Scalar.addi v2216 c1_i32_1434
  let v2228 : Index := Scalar.indexCast v2227
  let c0_1436 : Index := 0#32
  let c0_1437 : Index := 0#32
  ![1, v2228.toNat, 0, 0]
def k0_off102 (i : grid0.Coords) (k0_t3 : Fin (k0_t3_loop i).trips) : Fin 4 → Nat :=
  let c0_1500 : Index := 0#32
  let c2_i32_1494 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2293 : BitVec 32 := Scalar.muli c2_i32_1494 v2113
  let c1_i32_1495 : BitVec 32 := 1#32
  let v2294 : BitVec 32 := Scalar.addi v2293 c1_i32_1495
  let c1_i32_1499 : BitVec 32 := 1#32
  let v2305 : BitVec 32 := Scalar.addi v2294 c1_i32_1499
  let v2306 : Index := Scalar.indexCast v2305
  let c0_1501 : Index := 0#32
  let c0_1502 : Index := 0#32
  ![0, v2306.toNat, 0, 0]
def k0_off103 (i : grid0.Coords) (k0_t3 : Fin (k0_t3_loop i).trips) : Fin 4 → Nat :=
  let c1_1570 : Index := 1#32
  let c2_i32_1564 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2377 : BitVec 32 := Scalar.muli c2_i32_1564 v2113
  let c1_i32_1565 : BitVec 32 := 1#32
  let v2378 : BitVec 32 := Scalar.addi v2377 c1_i32_1565
  let c1_i32_1569 : BitVec 32 := 1#32
  let v2389 : BitVec 32 := Scalar.addi v2378 c1_i32_1569
  let v2390 : Index := Scalar.indexCast v2389
  let c0_1571 : Index := 0#32
  let c0_1572 : Index := 0#32
  ![1, v2390.toNat, 0, 0]
def k0_off104 (i : grid0.Coords) (k0_t3 : Fin (k0_t3_loop i).trips) (c1_i32_1617 : BitVec 32) : Fin 3 → Nat :=
  let c2_i32_1616 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2446 : BitVec 32 := Scalar.muli c2_i32_1616 v2112
  let v2447 : BitVec 32 := Scalar.addi v2446 c1_i32_1617
  let c1_i32_1627 : BitVec 32 := 1#32
  let v2454 : BitVec 32 := Scalar.addi v2447 c1_i32_1627
  let v2455 : Index := Scalar.indexCast v2454
  let c0_1628 : Index := 0#32
  let c0_1629 : Index := 0#32
  ![v2455.toNat, 0, 0]
def k0_off105 (i : grid0.Coords) (k0_t3 : Fin (k0_t3_loop i).trips) : Fin 4 → Nat :=
  let c0_1643 : Index := 0#32
  let c2_i32_1638 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2466 : BitVec 32 := Scalar.muli c2_i32_1638 v2112
  let c1_i32_1642 : BitVec 32 := 1#32
  let v2477 : BitVec 32 := Scalar.addi v2466 c1_i32_1642
  let v2478 : Index := Scalar.indexCast v2477
  let c0_1644 : Index := 0#32
  let c0_1645 : Index := 0#32
  ![0, v2478.toNat, 0, 0]
def k0_off106 (i : grid0.Coords) (k0_t3 : Fin (k0_t3_loop i).trips) : Fin 4 → Nat :=
  let c1_1711 : Index := 1#32
  let c2_i32_1706 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2548 : BitVec 32 := Scalar.muli c2_i32_1706 v2112
  let c1_i32_1710 : BitVec 32 := 1#32
  let v2559 : BitVec 32 := Scalar.addi v2548 c1_i32_1710
  let v2560 : Index := Scalar.indexCast v2559
  let c0_1712 : Index := 0#32
  let c0_1713 : Index := 0#32
  ![1, v2560.toNat, 0, 0]
def k0_off107 (i : grid0.Coords) (k0_t3 : Fin (k0_t3_loop i).trips) : Fin 4 → Nat :=
  let c0_1776 : Index := 0#32
  let c2_i32_1770 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2625 : BitVec 32 := Scalar.muli c2_i32_1770 v2112
  let c1_i32_1771 : BitVec 32 := 1#32
  let v2626 : BitVec 32 := Scalar.addi v2625 c1_i32_1771
  let c1_i32_1775 : BitVec 32 := 1#32
  let v2637 : BitVec 32 := Scalar.addi v2626 c1_i32_1775
  let v2638 : Index := Scalar.indexCast v2637
  let c0_1777 : Index := 0#32
  let c0_1778 : Index := 0#32
  ![0, v2638.toNat, 0, 0]
def k0_off108 (i : grid0.Coords) (k0_t3 : Fin (k0_t3_loop i).trips) : Fin 4 → Nat :=
  let c1_1846 : Index := 1#32
  let c2_i32_1840 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c1_i32_297 : BitVec 32 := 1#32
  let arg23 : BitVec 32 := Scf.iv v637 c1_i32_297 k0_t3
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2709 : BitVec 32 := Scalar.muli c2_i32_1840 v2112
  let c1_i32_1841 : BitVec 32 := 1#32
  let v2710 : BitVec 32 := Scalar.addi v2709 c1_i32_1841
  let c1_i32_1845 : BitVec 32 := 1#32
  let v2721 : BitVec 32 := Scalar.addi v2710 c1_i32_1845
  let v2722 : Index := Scalar.indexCast v2721
  let c0_1847 : Index := 0#32
  let c0_1848 : Index := 0#32
  ![1, v2722.toNat, 0, 0]
@[reducible] def k0_t4_loop (i : grid0.Coords) : Scf.Loop 32 :=
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let v656 : BitVec 32 := Scalar.addi v637 v655
  let c1_i32_298 : BitVec 32 := 1#32
  ⟨v659, v656, c1_i32_298⟩
def k0_off109 (i : grid0.Coords) (k0_t4 : Fin (k0_t4_loop i).trips) (c1_i32_786 : BitVec 32) : Fin 3 → Nat :=
  let c2_i32_785 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1446 : BitVec 32 := Scalar.muli c2_i32_784 v1443
  let v1447 : BitVec 32 := Scalar.muli c2_i32_785 v1446
  let v1448 : BitVec 32 := Scalar.addi v1447 c1_i32_786
  let c1_i32_796 : BitVec 32 := 1#32
  let v1455 : BitVec 32 := Scalar.addi v1448 c1_i32_796
  let v1456 : Index := Scalar.indexCast v1455
  let c0_797 : Index := 0#32
  let c0_798 : Index := 0#32
  ![v1456.toNat, 0, 0]
def k0_off110 (i : grid0.Coords) (k0_t4 : Fin (k0_t4_loop i).trips) : Fin 4 → Nat :=
  let c0_812 : Index := 0#32
  let c2_i32_807 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1446 : BitVec 32 := Scalar.muli c2_i32_784 v1443
  let v1467 : BitVec 32 := Scalar.muli c2_i32_807 v1446
  let c1_i32_811 : BitVec 32 := 1#32
  let v1478 : BitVec 32 := Scalar.addi v1467 c1_i32_811
  let v1479 : Index := Scalar.indexCast v1478
  let c0_813 : Index := 0#32
  let c0_814 : Index := 0#32
  ![0, v1479.toNat, 0, 0]
def k0_off111 (i : grid0.Coords) (k0_t4 : Fin (k0_t4_loop i).trips) : Fin 4 → Nat :=
  let c1_880 : Index := 1#32
  let c2_i32_875 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1446 : BitVec 32 := Scalar.muli c2_i32_784 v1443
  let v1549 : BitVec 32 := Scalar.muli c2_i32_875 v1446
  let c1_i32_879 : BitVec 32 := 1#32
  let v1560 : BitVec 32 := Scalar.addi v1549 c1_i32_879
  let v1561 : Index := Scalar.indexCast v1560
  let c0_881 : Index := 0#32
  let c0_882 : Index := 0#32
  ![1, v1561.toNat, 0, 0]
def k0_off112 (i : grid0.Coords) (k0_t4 : Fin (k0_t4_loop i).trips) : Fin 4 → Nat :=
  let c0_945 : Index := 0#32
  let c2_i32_939 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1446 : BitVec 32 := Scalar.muli c2_i32_784 v1443
  let v1626 : BitVec 32 := Scalar.muli c2_i32_939 v1446
  let c1_i32_940 : BitVec 32 := 1#32
  let v1627 : BitVec 32 := Scalar.addi v1626 c1_i32_940
  let c1_i32_944 : BitVec 32 := 1#32
  let v1638 : BitVec 32 := Scalar.addi v1627 c1_i32_944
  let v1639 : Index := Scalar.indexCast v1638
  let c0_946 : Index := 0#32
  let c0_947 : Index := 0#32
  ![0, v1639.toNat, 0, 0]
def k0_off113 (i : grid0.Coords) (k0_t4 : Fin (k0_t4_loop i).trips) : Fin 4 → Nat :=
  let c1_1015 : Index := 1#32
  let c2_i32_1009 : BitVec 32 := 2#32
  let c2_i32_784 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1446 : BitVec 32 := Scalar.muli c2_i32_784 v1443
  let v1710 : BitVec 32 := Scalar.muli c2_i32_1009 v1446
  let c1_i32_1010 : BitVec 32 := 1#32
  let v1711 : BitVec 32 := Scalar.addi v1710 c1_i32_1010
  let c1_i32_1014 : BitVec 32 := 1#32
  let v1722 : BitVec 32 := Scalar.addi v1711 c1_i32_1014
  let v1723 : Index := Scalar.indexCast v1722
  let c0_1016 : Index := 0#32
  let c0_1017 : Index := 0#32
  ![1, v1723.toNat, 0, 0]
def k0_off114 (i : grid0.Coords) (k0_t4 : Fin (k0_t4_loop i).trips) (c1_i32_1062 : BitVec 32) : Fin 3 → Nat :=
  let c2_i32_1061 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1779 : BitVec 32 := Scalar.muli c2_i32_1061 v1445
  let v1780 : BitVec 32 := Scalar.addi v1779 c1_i32_1062
  let c1_i32_1072 : BitVec 32 := 1#32
  let v1787 : BitVec 32 := Scalar.addi v1780 c1_i32_1072
  let v1788 : Index := Scalar.indexCast v1787
  let c0_1073 : Index := 0#32
  let c0_1074 : Index := 0#32
  ![v1788.toNat, 0, 0]
def k0_off115 (i : grid0.Coords) (k0_t4 : Fin (k0_t4_loop i).trips) : Fin 4 → Nat :=
  let c0_1088 : Index := 0#32
  let c2_i32_1083 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1799 : BitVec 32 := Scalar.muli c2_i32_1083 v1445
  let c1_i32_1087 : BitVec 32 := 1#32
  let v1810 : BitVec 32 := Scalar.addi v1799 c1_i32_1087
  let v1811 : Index := Scalar.indexCast v1810
  let c0_1089 : Index := 0#32
  let c0_1090 : Index := 0#32
  ![0, v1811.toNat, 0, 0]
def k0_off116 (i : grid0.Coords) (k0_t4 : Fin (k0_t4_loop i).trips) : Fin 4 → Nat :=
  let c1_1156 : Index := 1#32
  let c2_i32_1151 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1881 : BitVec 32 := Scalar.muli c2_i32_1151 v1445
  let c1_i32_1155 : BitVec 32 := 1#32
  let v1892 : BitVec 32 := Scalar.addi v1881 c1_i32_1155
  let v1893 : Index := Scalar.indexCast v1892
  let c0_1157 : Index := 0#32
  let c0_1158 : Index := 0#32
  ![1, v1893.toNat, 0, 0]
def k0_off117 (i : grid0.Coords) (k0_t4 : Fin (k0_t4_loop i).trips) : Fin 4 → Nat :=
  let c0_1221 : Index := 0#32
  let c2_i32_1215 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v1958 : BitVec 32 := Scalar.muli c2_i32_1215 v1445
  let c1_i32_1216 : BitVec 32 := 1#32
  let v1959 : BitVec 32 := Scalar.addi v1958 c1_i32_1216
  let c1_i32_1220 : BitVec 32 := 1#32
  let v1970 : BitVec 32 := Scalar.addi v1959 c1_i32_1220
  let v1971 : Index := Scalar.indexCast v1970
  let c0_1222 : Index := 0#32
  let c0_1223 : Index := 0#32
  ![0, v1971.toNat, 0, 0]
def k0_off118 (i : grid0.Coords) (k0_t4 : Fin (k0_t4_loop i).trips) : Fin 4 → Nat :=
  let c1_1291 : Index := 1#32
  let c2_i32_1285 : BitVec 32 := 2#32
  let c2_i32_782 : BitVec 32 := 2#32
  let c2_i32_781 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1443 : BitVec 32 := Scalar.muli c2_i32_781 arg23
  let v1444 : BitVec 32 := Scalar.muli c2_i32_782 v1443
  let c1_i32_783 : BitVec 32 := 1#32
  let v1445 : BitVec 32 := Scalar.addi v1444 c1_i32_783
  let v2042 : BitVec 32 := Scalar.muli c2_i32_1285 v1445
  let c1_i32_1286 : BitVec 32 := 1#32
  let v2043 : BitVec 32 := Scalar.addi v2042 c1_i32_1286
  let c1_i32_1290 : BitVec 32 := 1#32
  let v2054 : BitVec 32 := Scalar.addi v2043 c1_i32_1290
  let v2055 : Index := Scalar.indexCast v2054
  let c0_1292 : Index := 0#32
  let c0_1293 : Index := 0#32
  ![1, v2055.toNat, 0, 0]
def k0_off119 (i : grid0.Coords) (k0_t4 : Fin (k0_t4_loop i).trips) (c1_i32_1341 : BitVec 32) : Fin 3 → Nat :=
  let c2_i32_1340 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2114 : BitVec 32 := Scalar.muli c2_i32_1340 v2113
  let v2115 : BitVec 32 := Scalar.addi v2114 c1_i32_1341
  let c1_i32_1351 : BitVec 32 := 1#32
  let v2122 : BitVec 32 := Scalar.addi v2115 c1_i32_1351
  let v2123 : Index := Scalar.indexCast v2122
  let c0_1352 : Index := 0#32
  let c0_1353 : Index := 0#32
  ![v2123.toNat, 0, 0]
def k0_off120 (i : grid0.Coords) (k0_t4 : Fin (k0_t4_loop i).trips) : Fin 4 → Nat :=
  let c0_1367 : Index := 0#32
  let c2_i32_1362 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2134 : BitVec 32 := Scalar.muli c2_i32_1362 v2113
  let c1_i32_1366 : BitVec 32 := 1#32
  let v2145 : BitVec 32 := Scalar.addi v2134 c1_i32_1366
  let v2146 : Index := Scalar.indexCast v2145
  let c0_1368 : Index := 0#32
  let c0_1369 : Index := 0#32
  ![0, v2146.toNat, 0, 0]
def k0_off121 (i : grid0.Coords) (k0_t4 : Fin (k0_t4_loop i).trips) : Fin 4 → Nat :=
  let c1_1435 : Index := 1#32
  let c2_i32_1430 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2216 : BitVec 32 := Scalar.muli c2_i32_1430 v2113
  let c1_i32_1434 : BitVec 32 := 1#32
  let v2227 : BitVec 32 := Scalar.addi v2216 c1_i32_1434
  let v2228 : Index := Scalar.indexCast v2227
  let c0_1436 : Index := 0#32
  let c0_1437 : Index := 0#32
  ![1, v2228.toNat, 0, 0]
def k0_off122 (i : grid0.Coords) (k0_t4 : Fin (k0_t4_loop i).trips) : Fin 4 → Nat :=
  let c0_1500 : Index := 0#32
  let c2_i32_1494 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2293 : BitVec 32 := Scalar.muli c2_i32_1494 v2113
  let c1_i32_1495 : BitVec 32 := 1#32
  let v2294 : BitVec 32 := Scalar.addi v2293 c1_i32_1495
  let c1_i32_1499 : BitVec 32 := 1#32
  let v2305 : BitVec 32 := Scalar.addi v2294 c1_i32_1499
  let v2306 : Index := Scalar.indexCast v2305
  let c0_1501 : Index := 0#32
  let c0_1502 : Index := 0#32
  ![0, v2306.toNat, 0, 0]
def k0_off123 (i : grid0.Coords) (k0_t4 : Fin (k0_t4_loop i).trips) : Fin 4 → Nat :=
  let c1_1570 : Index := 1#32
  let c2_i32_1564 : BitVec 32 := 2#32
  let c2_i32_1339 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2113 : BitVec 32 := Scalar.muli c2_i32_1339 v1442
  let v2377 : BitVec 32 := Scalar.muli c2_i32_1564 v2113
  let c1_i32_1565 : BitVec 32 := 1#32
  let v2378 : BitVec 32 := Scalar.addi v2377 c1_i32_1565
  let c1_i32_1569 : BitVec 32 := 1#32
  let v2389 : BitVec 32 := Scalar.addi v2378 c1_i32_1569
  let v2390 : Index := Scalar.indexCast v2389
  let c0_1571 : Index := 0#32
  let c0_1572 : Index := 0#32
  ![1, v2390.toNat, 0, 0]
def k0_off124 (i : grid0.Coords) (k0_t4 : Fin (k0_t4_loop i).trips) (c1_i32_1617 : BitVec 32) : Fin 3 → Nat :=
  let c2_i32_1616 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2446 : BitVec 32 := Scalar.muli c2_i32_1616 v2112
  let v2447 : BitVec 32 := Scalar.addi v2446 c1_i32_1617
  let c1_i32_1627 : BitVec 32 := 1#32
  let v2454 : BitVec 32 := Scalar.addi v2447 c1_i32_1627
  let v2455 : Index := Scalar.indexCast v2454
  let c0_1628 : Index := 0#32
  let c0_1629 : Index := 0#32
  ![v2455.toNat, 0, 0]
def k0_off125 (i : grid0.Coords) (k0_t4 : Fin (k0_t4_loop i).trips) : Fin 4 → Nat :=
  let c0_1643 : Index := 0#32
  let c2_i32_1638 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2466 : BitVec 32 := Scalar.muli c2_i32_1638 v2112
  let c1_i32_1642 : BitVec 32 := 1#32
  let v2477 : BitVec 32 := Scalar.addi v2466 c1_i32_1642
  let v2478 : Index := Scalar.indexCast v2477
  let c0_1644 : Index := 0#32
  let c0_1645 : Index := 0#32
  ![0, v2478.toNat, 0, 0]
def k0_off126 (i : grid0.Coords) (k0_t4 : Fin (k0_t4_loop i).trips) : Fin 4 → Nat :=
  let c1_1711 : Index := 1#32
  let c2_i32_1706 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2548 : BitVec 32 := Scalar.muli c2_i32_1706 v2112
  let c1_i32_1710 : BitVec 32 := 1#32
  let v2559 : BitVec 32 := Scalar.addi v2548 c1_i32_1710
  let v2560 : Index := Scalar.indexCast v2559
  let c0_1712 : Index := 0#32
  let c0_1713 : Index := 0#32
  ![1, v2560.toNat, 0, 0]
def k0_off127 (i : grid0.Coords) (k0_t4 : Fin (k0_t4_loop i).trips) : Fin 4 → Nat :=
  let c0_1776 : Index := 0#32
  let c2_i32_1770 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2625 : BitVec 32 := Scalar.muli c2_i32_1770 v2112
  let c1_i32_1771 : BitVec 32 := 1#32
  let v2626 : BitVec 32 := Scalar.addi v2625 c1_i32_1771
  let c1_i32_1775 : BitVec 32 := 1#32
  let v2637 : BitVec 32 := Scalar.addi v2626 c1_i32_1775
  let v2638 : Index := Scalar.indexCast v2637
  let c0_1777 : Index := 0#32
  let c0_1778 : Index := 0#32
  ![0, v2638.toNat, 0, 0]
def k0_off128 (i : grid0.Coords) (k0_t4 : Fin (k0_t4_loop i).trips) : Fin 4 → Nat :=
  let c1_1846 : Index := 1#32
  let c2_i32_1840 : BitVec 32 := 2#32
  let c2_i32_1337 : BitVec 32 := 2#32
  let c2_i32_779 : BitVec 32 := 2#32
  let c2_i32 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_283 : BitVec 32 := 0#32
  let v621 : BitVec 1 := Scalar.cmpi .sgt v24 c0_i32_283
  let v622 : BitVec 32 := Scalar.extui v621
  let c0_i32_284 : BitVec 32 := 0#32
  let v623 : BitVec 1 := Scalar.cmpi .slt v24 c0_i32_284
  let v624 : BitVec 32 := Scalar.extui v623
  let v625 : BitVec 32 := Scalar.subi v622 v624
  let c16_i32_282 : BitVec 32 := 16#32
  let c0_i32_285 : BitVec 32 := 0#32
  let v626 : BitVec 1 := Scalar.cmpi .sgt c16_i32_282 c0_i32_285
  let v627 : BitVec 32 := Scalar.extui v626
  let c0_i32_286 : BitVec 32 := 0#32
  let v628 : BitVec 1 := Scalar.cmpi .slt c16_i32_282 c0_i32_286
  let v629 : BitVec 32 := Scalar.extui v628
  let v630 : BitVec 32 := Scalar.subi v627 v629
  let v631 : BitVec 1 := Scalar.cmpi .ne v625 v630
  let v632 : BitVec 32 := Scalar.remsi v24 c16_i32_282
  let c0_i32_287 : BitVec 32 := 0#32
  let v633 : BitVec 1 := Scalar.cmpi .ne v632 c0_i32_287
  let v634 : BitVec 1 := Scalar.andi v631 v633
  let v620 : BitVec 32 := Scalar.divsi v24 c16_i32_282
  let c1_i32_288 : BitVec 32 := 1#32
  let v635 : BitVec 32 := Scalar.subi v620 c1_i32_288
  let v636 : BitVec 32 := Scalar.select v634 v635 v620
  let v637 : BitVec 32 := Scalar.muli c2_i32 v636
  let c0_i32_290 : BitVec 32 := 0#32
  let v639 : BitVec 1 := Scalar.cmpi .sgt v24 c0_i32_290
  let v640 : BitVec 32 := Scalar.extui v639
  let c0_i32_291 : BitVec 32 := 0#32
  let v641 : BitVec 1 := Scalar.cmpi .slt v24 c0_i32_291
  let v642 : BitVec 32 := Scalar.extui v641
  let v643 : BitVec 32 := Scalar.subi v640 v642
  let c8_i32_289 : BitVec 32 := 8#32
  let c0_i32_292 : BitVec 32 := 0#32
  let v644 : BitVec 1 := Scalar.cmpi .sgt c8_i32_289 c0_i32_292
  let v645 : BitVec 32 := Scalar.extui v644
  let c0_i32_293 : BitVec 32 := 0#32
  let v646 : BitVec 1 := Scalar.cmpi .slt c8_i32_289 c0_i32_293
  let v647 : BitVec 32 := Scalar.extui v646
  let v648 : BitVec 32 := Scalar.subi v645 v647
  let v649 : BitVec 1 := Scalar.cmpi .ne v643 v648
  let v650 : BitVec 32 := Scalar.remsi v24 c8_i32_289
  let c0_i32_294 : BitVec 32 := 0#32
  let v651 : BitVec 1 := Scalar.cmpi .ne v650 c0_i32_294
  let v652 : BitVec 1 := Scalar.andi v649 v651
  let v638 : BitVec 32 := Scalar.divsi v24 c8_i32_289
  let c1_i32_295 : BitVec 32 := 1#32
  let v653 : BitVec 32 := Scalar.subi v638 c1_i32_295
  let v654 : BitVec 32 := Scalar.select v652 v653 v638
  let v655 : BitVec 32 := Scalar.subi v654 v637
  let c1_i32_296 : BitVec 32 := 1#32
  let v657 : BitVec 32 := Scalar.divsi v655 c1_i32_296
  let v658 : BitVec 32 := Scalar.muli v657 c1_i32_296
  let v659 : BitVec 32 := Scalar.addi v637 v658
  let c1_i32_298 : BitVec 32 := 1#32
  let arg23 : BitVec 32 := Scf.iv v659 c1_i32_298 k0_t4
  let v1441 : BitVec 32 := Scalar.muli c2_i32_779 arg23
  let c1_i32_780 : BitVec 32 := 1#32
  let v1442 : BitVec 32 := Scalar.addi v1441 c1_i32_780
  let v2111 : BitVec 32 := Scalar.muli c2_i32_1337 v1442
  let c1_i32_1338 : BitVec 32 := 1#32
  let v2112 : BitVec 32 := Scalar.addi v2111 c1_i32_1338
  let v2709 : BitVec 32 := Scalar.muli c2_i32_1840 v2112
  let c1_i32_1841 : BitVec 32 := 1#32
  let v2710 : BitVec 32 := Scalar.addi v2709 c1_i32_1841
  let c1_i32_1845 : BitVec 32 := 1#32
  let v2721 : BitVec 32 := Scalar.addi v2710 c1_i32_1845
  let v2722 : Index := Scalar.indexCast v2721
  let c0_1847 : Index := 0#32
  let c0_1848 : Index := 0#32
  ![1, v2722.toNat, 0, 0]
@[reducible] def k0_t5_loop (i : grid0.Coords) : Scf.Loop 32 :=
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_314 : BitVec 32 := 1#32
  ⟨v679, v701, c1_i32_314⟩
def k0_off129 (i : grid0.Coords) (k0_t5 : Fin (k0_t5_loop i).trips) (c1_i32_783 : BitVec 32) : Fin 3 → Nat :=
  let c2_i32_782 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1443 : BitVec 32 := Scalar.muli c2_i32_781 arg23
  let v1444 : BitVec 32 := Scalar.muli c2_i32_782 v1443
  let v1445 : BitVec 32 := Scalar.addi v1444 c1_i32_783
  let c1_i32_793 : BitVec 32 := 1#32
  let v1452 : BitVec 32 := Scalar.addi v1445 c1_i32_793
  let v1453 : Index := Scalar.indexCast v1452
  let c0_794 : Index := 0#32
  let c0_795 : Index := 0#32
  ![v1453.toNat, 0, 0]
def k0_off130 (i : grid0.Coords) (k0_t5 : Fin (k0_t5_loop i).trips) : Fin 4 → Nat :=
  let c0_809 : Index := 0#32
  let c2_i32_804 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1443 : BitVec 32 := Scalar.muli c2_i32_781 arg23
  let v1464 : BitVec 32 := Scalar.muli c2_i32_804 v1443
  let c1_i32_808 : BitVec 32 := 1#32
  let v1475 : BitVec 32 := Scalar.addi v1464 c1_i32_808
  let v1476 : Index := Scalar.indexCast v1475
  let c0_810 : Index := 0#32
  let c0_811 : Index := 0#32
  ![0, v1476.toNat, 0, 0]
def k0_off131 (i : grid0.Coords) (k0_t5 : Fin (k0_t5_loop i).trips) : Fin 4 → Nat :=
  let c1_877 : Index := 1#32
  let c2_i32_872 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1443 : BitVec 32 := Scalar.muli c2_i32_781 arg23
  let v1546 : BitVec 32 := Scalar.muli c2_i32_872 v1443
  let c1_i32_876 : BitVec 32 := 1#32
  let v1557 : BitVec 32 := Scalar.addi v1546 c1_i32_876
  let v1558 : Index := Scalar.indexCast v1557
  let c0_878 : Index := 0#32
  let c0_879 : Index := 0#32
  ![1, v1558.toNat, 0, 0]
def k0_off132 (i : grid0.Coords) (k0_t5 : Fin (k0_t5_loop i).trips) : Fin 4 → Nat :=
  let c0_942 : Index := 0#32
  let c2_i32_936 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1443 : BitVec 32 := Scalar.muli c2_i32_781 arg23
  let v1623 : BitVec 32 := Scalar.muli c2_i32_936 v1443
  let c1_i32_937 : BitVec 32 := 1#32
  let v1624 : BitVec 32 := Scalar.addi v1623 c1_i32_937
  let c1_i32_941 : BitVec 32 := 1#32
  let v1635 : BitVec 32 := Scalar.addi v1624 c1_i32_941
  let v1636 : Index := Scalar.indexCast v1635
  let c0_943 : Index := 0#32
  let c0_944 : Index := 0#32
  ![0, v1636.toNat, 0, 0]
def k0_off133 (i : grid0.Coords) (k0_t5 : Fin (k0_t5_loop i).trips) : Fin 4 → Nat :=
  let c1_1012 : Index := 1#32
  let c2_i32_1006 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1443 : BitVec 32 := Scalar.muli c2_i32_781 arg23
  let v1707 : BitVec 32 := Scalar.muli c2_i32_1006 v1443
  let c1_i32_1007 : BitVec 32 := 1#32
  let v1708 : BitVec 32 := Scalar.addi v1707 c1_i32_1007
  let c1_i32_1011 : BitVec 32 := 1#32
  let v1719 : BitVec 32 := Scalar.addi v1708 c1_i32_1011
  let v1720 : Index := Scalar.indexCast v1719
  let c0_1013 : Index := 0#32
  let c0_1014 : Index := 0#32
  ![1, v1720.toNat, 0, 0]
def k0_off134 (i : grid0.Coords) (k0_t5 : Fin (k0_t5_loop i).trips) (c1_i32_1059 : BitVec 32) : Fin 3 → Nat :=
  let c2_i32_1058 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1441 : BitVec 32 := Scalar.muli c2_i32_779 arg23
  let c1_i32_780 : BitVec 32 := 1#32
  let v1442 : BitVec 32 := Scalar.addi v1441 c1_i32_780
  let v1776 : BitVec 32 := Scalar.muli c2_i32_1058 v1442
  let v1777 : BitVec 32 := Scalar.addi v1776 c1_i32_1059
  let c1_i32_1069 : BitVec 32 := 1#32
  let v1784 : BitVec 32 := Scalar.addi v1777 c1_i32_1069
  let v1785 : Index := Scalar.indexCast v1784
  let c0_1070 : Index := 0#32
  let c0_1071 : Index := 0#32
  ![v1785.toNat, 0, 0]
def k0_off135 (i : grid0.Coords) (k0_t5 : Fin (k0_t5_loop i).trips) : Fin 4 → Nat :=
  let c0_1085 : Index := 0#32
  let c2_i32_1080 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1441 : BitVec 32 := Scalar.muli c2_i32_779 arg23
  let c1_i32_780 : BitVec 32 := 1#32
  let v1442 : BitVec 32 := Scalar.addi v1441 c1_i32_780
  let v1796 : BitVec 32 := Scalar.muli c2_i32_1080 v1442
  let c1_i32_1084 : BitVec 32 := 1#32
  let v1807 : BitVec 32 := Scalar.addi v1796 c1_i32_1084
  let v1808 : Index := Scalar.indexCast v1807
  let c0_1086 : Index := 0#32
  let c0_1087 : Index := 0#32
  ![0, v1808.toNat, 0, 0]
def k0_off136 (i : grid0.Coords) (k0_t5 : Fin (k0_t5_loop i).trips) : Fin 4 → Nat :=
  let c1_1153 : Index := 1#32
  let c2_i32_1148 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1441 : BitVec 32 := Scalar.muli c2_i32_779 arg23
  let c1_i32_780 : BitVec 32 := 1#32
  let v1442 : BitVec 32 := Scalar.addi v1441 c1_i32_780
  let v1878 : BitVec 32 := Scalar.muli c2_i32_1148 v1442
  let c1_i32_1152 : BitVec 32 := 1#32
  let v1889 : BitVec 32 := Scalar.addi v1878 c1_i32_1152
  let v1890 : Index := Scalar.indexCast v1889
  let c0_1154 : Index := 0#32
  let c0_1155 : Index := 0#32
  ![1, v1890.toNat, 0, 0]
def k0_off137 (i : grid0.Coords) (k0_t5 : Fin (k0_t5_loop i).trips) : Fin 4 → Nat :=
  let c0_1218 : Index := 0#32
  let c2_i32_1212 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1441 : BitVec 32 := Scalar.muli c2_i32_779 arg23
  let c1_i32_780 : BitVec 32 := 1#32
  let v1442 : BitVec 32 := Scalar.addi v1441 c1_i32_780
  let v1955 : BitVec 32 := Scalar.muli c2_i32_1212 v1442
  let c1_i32_1213 : BitVec 32 := 1#32
  let v1956 : BitVec 32 := Scalar.addi v1955 c1_i32_1213
  let c1_i32_1217 : BitVec 32 := 1#32
  let v1967 : BitVec 32 := Scalar.addi v1956 c1_i32_1217
  let v1968 : Index := Scalar.indexCast v1967
  let c0_1219 : Index := 0#32
  let c0_1220 : Index := 0#32
  ![0, v1968.toNat, 0, 0]
def k0_off138 (i : grid0.Coords) (k0_t5 : Fin (k0_t5_loop i).trips) : Fin 4 → Nat :=
  let c1_1288 : Index := 1#32
  let c2_i32_1282 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c1_i32_314 : BitVec 32 := 1#32
  let arg23 : BitVec 32 := Scf.iv v679 c1_i32_314 k0_t5
  let v1441 : BitVec 32 := Scalar.muli c2_i32_779 arg23
  let c1_i32_780 : BitVec 32 := 1#32
  let v1442 : BitVec 32 := Scalar.addi v1441 c1_i32_780
  let v2039 : BitVec 32 := Scalar.muli c2_i32_1282 v1442
  let c1_i32_1283 : BitVec 32 := 1#32
  let v2040 : BitVec 32 := Scalar.addi v2039 c1_i32_1283
  let c1_i32_1287 : BitVec 32 := 1#32
  let v2051 : BitVec 32 := Scalar.addi v2040 c1_i32_1287
  let v2052 : Index := Scalar.indexCast v2051
  let c0_1289 : Index := 0#32
  let c0_1290 : Index := 0#32
  ![1, v2052.toNat, 0, 0]
@[reducible] def k0_t6_loop (i : grid0.Coords) : Scf.Loop 32 :=
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let v698 : BitVec 32 := Scalar.addi v679 v697
  let c1_i32_315 : BitVec 32 := 1#32
  ⟨v701, v698, c1_i32_315⟩
def k0_off139 (i : grid0.Coords) (k0_t6 : Fin (k0_t6_loop i).trips) (c1_i32_783 : BitVec 32) : Fin 3 → Nat :=
  let c2_i32_782 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1443 : BitVec 32 := Scalar.muli c2_i32_781 arg23
  let v1444 : BitVec 32 := Scalar.muli c2_i32_782 v1443
  let v1445 : BitVec 32 := Scalar.addi v1444 c1_i32_783
  let c1_i32_793 : BitVec 32 := 1#32
  let v1452 : BitVec 32 := Scalar.addi v1445 c1_i32_793
  let v1453 : Index := Scalar.indexCast v1452
  let c0_794 : Index := 0#32
  let c0_795 : Index := 0#32
  ![v1453.toNat, 0, 0]
def k0_off140 (i : grid0.Coords) (k0_t6 : Fin (k0_t6_loop i).trips) : Fin 4 → Nat :=
  let c0_809 : Index := 0#32
  let c2_i32_804 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1443 : BitVec 32 := Scalar.muli c2_i32_781 arg23
  let v1464 : BitVec 32 := Scalar.muli c2_i32_804 v1443
  let c1_i32_808 : BitVec 32 := 1#32
  let v1475 : BitVec 32 := Scalar.addi v1464 c1_i32_808
  let v1476 : Index := Scalar.indexCast v1475
  let c0_810 : Index := 0#32
  let c0_811 : Index := 0#32
  ![0, v1476.toNat, 0, 0]
def k0_off141 (i : grid0.Coords) (k0_t6 : Fin (k0_t6_loop i).trips) : Fin 4 → Nat :=
  let c1_877 : Index := 1#32
  let c2_i32_872 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1443 : BitVec 32 := Scalar.muli c2_i32_781 arg23
  let v1546 : BitVec 32 := Scalar.muli c2_i32_872 v1443
  let c1_i32_876 : BitVec 32 := 1#32
  let v1557 : BitVec 32 := Scalar.addi v1546 c1_i32_876
  let v1558 : Index := Scalar.indexCast v1557
  let c0_878 : Index := 0#32
  let c0_879 : Index := 0#32
  ![1, v1558.toNat, 0, 0]
def k0_off142 (i : grid0.Coords) (k0_t6 : Fin (k0_t6_loop i).trips) : Fin 4 → Nat :=
  let c0_942 : Index := 0#32
  let c2_i32_936 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1443 : BitVec 32 := Scalar.muli c2_i32_781 arg23
  let v1623 : BitVec 32 := Scalar.muli c2_i32_936 v1443
  let c1_i32_937 : BitVec 32 := 1#32
  let v1624 : BitVec 32 := Scalar.addi v1623 c1_i32_937
  let c1_i32_941 : BitVec 32 := 1#32
  let v1635 : BitVec 32 := Scalar.addi v1624 c1_i32_941
  let v1636 : Index := Scalar.indexCast v1635
  let c0_943 : Index := 0#32
  let c0_944 : Index := 0#32
  ![0, v1636.toNat, 0, 0]
def k0_off143 (i : grid0.Coords) (k0_t6 : Fin (k0_t6_loop i).trips) : Fin 4 → Nat :=
  let c1_1012 : Index := 1#32
  let c2_i32_1006 : BitVec 32 := 2#32
  let c2_i32_781 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1443 : BitVec 32 := Scalar.muli c2_i32_781 arg23
  let v1707 : BitVec 32 := Scalar.muli c2_i32_1006 v1443
  let c1_i32_1007 : BitVec 32 := 1#32
  let v1708 : BitVec 32 := Scalar.addi v1707 c1_i32_1007
  let c1_i32_1011 : BitVec 32 := 1#32
  let v1719 : BitVec 32 := Scalar.addi v1708 c1_i32_1011
  let v1720 : Index := Scalar.indexCast v1719
  let c0_1013 : Index := 0#32
  let c0_1014 : Index := 0#32
  ![1, v1720.toNat, 0, 0]
def k0_off144 (i : grid0.Coords) (k0_t6 : Fin (k0_t6_loop i).trips) (c1_i32_1059 : BitVec 32) : Fin 3 → Nat :=
  let c2_i32_1058 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1441 : BitVec 32 := Scalar.muli c2_i32_779 arg23
  let c1_i32_780 : BitVec 32 := 1#32
  let v1442 : BitVec 32 := Scalar.addi v1441 c1_i32_780
  let v1776 : BitVec 32 := Scalar.muli c2_i32_1058 v1442
  let v1777 : BitVec 32 := Scalar.addi v1776 c1_i32_1059
  let c1_i32_1069 : BitVec 32 := 1#32
  let v1784 : BitVec 32 := Scalar.addi v1777 c1_i32_1069
  let v1785 : Index := Scalar.indexCast v1784
  let c0_1070 : Index := 0#32
  let c0_1071 : Index := 0#32
  ![v1785.toNat, 0, 0]
def k0_off145 (i : grid0.Coords) (k0_t6 : Fin (k0_t6_loop i).trips) : Fin 4 → Nat :=
  let c0_1085 : Index := 0#32
  let c2_i32_1080 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1441 : BitVec 32 := Scalar.muli c2_i32_779 arg23
  let c1_i32_780 : BitVec 32 := 1#32
  let v1442 : BitVec 32 := Scalar.addi v1441 c1_i32_780
  let v1796 : BitVec 32 := Scalar.muli c2_i32_1080 v1442
  let c1_i32_1084 : BitVec 32 := 1#32
  let v1807 : BitVec 32 := Scalar.addi v1796 c1_i32_1084
  let v1808 : Index := Scalar.indexCast v1807
  let c0_1086 : Index := 0#32
  let c0_1087 : Index := 0#32
  ![0, v1808.toNat, 0, 0]
def k0_off146 (i : grid0.Coords) (k0_t6 : Fin (k0_t6_loop i).trips) : Fin 4 → Nat :=
  let c1_1153 : Index := 1#32
  let c2_i32_1148 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1441 : BitVec 32 := Scalar.muli c2_i32_779 arg23
  let c1_i32_780 : BitVec 32 := 1#32
  let v1442 : BitVec 32 := Scalar.addi v1441 c1_i32_780
  let v1878 : BitVec 32 := Scalar.muli c2_i32_1148 v1442
  let c1_i32_1152 : BitVec 32 := 1#32
  let v1889 : BitVec 32 := Scalar.addi v1878 c1_i32_1152
  let v1890 : Index := Scalar.indexCast v1889
  let c0_1154 : Index := 0#32
  let c0_1155 : Index := 0#32
  ![1, v1890.toNat, 0, 0]
def k0_off147 (i : grid0.Coords) (k0_t6 : Fin (k0_t6_loop i).trips) : Fin 4 → Nat :=
  let c0_1218 : Index := 0#32
  let c2_i32_1212 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1441 : BitVec 32 := Scalar.muli c2_i32_779 arg23
  let c1_i32_780 : BitVec 32 := 1#32
  let v1442 : BitVec 32 := Scalar.addi v1441 c1_i32_780
  let v1955 : BitVec 32 := Scalar.muli c2_i32_1212 v1442
  let c1_i32_1213 : BitVec 32 := 1#32
  let v1956 : BitVec 32 := Scalar.addi v1955 c1_i32_1213
  let c1_i32_1217 : BitVec 32 := 1#32
  let v1967 : BitVec 32 := Scalar.addi v1956 c1_i32_1217
  let v1968 : Index := Scalar.indexCast v1967
  let c0_1219 : Index := 0#32
  let c0_1220 : Index := 0#32
  ![0, v1968.toNat, 0, 0]
def k0_off148 (i : grid0.Coords) (k0_t6 : Fin (k0_t6_loop i).trips) : Fin 4 → Nat :=
  let c1_1288 : Index := 1#32
  let c2_i32_1282 : BitVec 32 := 2#32
  let c2_i32_779 : BitVec 32 := 2#32
  let c2_i32_306 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_300 : BitVec 32 := 0#32
  let v663 : BitVec 1 := Scalar.cmpi .sgt v24 c0_i32_300
  let v664 : BitVec 32 := Scalar.extui v663
  let c0_i32_301 : BitVec 32 := 0#32
  let v665 : BitVec 1 := Scalar.cmpi .slt v24 c0_i32_301
  let v666 : BitVec 32 := Scalar.extui v665
  let v667 : BitVec 32 := Scalar.subi v664 v666
  let c8_i32_299 : BitVec 32 := 8#32
  let c0_i32_302 : BitVec 32 := 0#32
  let v668 : BitVec 1 := Scalar.cmpi .sgt c8_i32_299 c0_i32_302
  let v669 : BitVec 32 := Scalar.extui v668
  let c0_i32_303 : BitVec 32 := 0#32
  let v670 : BitVec 1 := Scalar.cmpi .slt c8_i32_299 c0_i32_303
  let v671 : BitVec 32 := Scalar.extui v670
  let v672 : BitVec 32 := Scalar.subi v669 v671
  let v673 : BitVec 1 := Scalar.cmpi .ne v667 v672
  let v674 : BitVec 32 := Scalar.remsi v24 c8_i32_299
  let c0_i32_304 : BitVec 32 := 0#32
  let v675 : BitVec 1 := Scalar.cmpi .ne v674 c0_i32_304
  let v676 : BitVec 1 := Scalar.andi v673 v675
  let v662 : BitVec 32 := Scalar.divsi v24 c8_i32_299
  let c1_i32_305 : BitVec 32 := 1#32
  let v677 : BitVec 32 := Scalar.subi v662 c1_i32_305
  let v678 : BitVec 32 := Scalar.select v676 v677 v662
  let v679 : BitVec 32 := Scalar.muli c2_i32_306 v678
  let c0_i32_307 : BitVec 32 := 0#32
  let v681 : BitVec 1 := Scalar.cmpi .sgt v24 c0_i32_307
  let v682 : BitVec 32 := Scalar.extui v681
  let c0_i32_308 : BitVec 32 := 0#32
  let v683 : BitVec 1 := Scalar.cmpi .slt v24 c0_i32_308
  let v684 : BitVec 32 := Scalar.extui v683
  let v685 : BitVec 32 := Scalar.subi v682 v684
  let c4_i32 : BitVec 32 := 4#32
  let c0_i32_309 : BitVec 32 := 0#32
  let v686 : BitVec 1 := Scalar.cmpi .sgt c4_i32 c0_i32_309
  let v687 : BitVec 32 := Scalar.extui v686
  let c0_i32_310 : BitVec 32 := 0#32
  let v688 : BitVec 1 := Scalar.cmpi .slt c4_i32 c0_i32_310
  let v689 : BitVec 32 := Scalar.extui v688
  let v690 : BitVec 32 := Scalar.subi v687 v689
  let v691 : BitVec 1 := Scalar.cmpi .ne v685 v690
  let v692 : BitVec 32 := Scalar.remsi v24 c4_i32
  let c0_i32_311 : BitVec 32 := 0#32
  let v693 : BitVec 1 := Scalar.cmpi .ne v692 c0_i32_311
  let v694 : BitVec 1 := Scalar.andi v691 v693
  let v680 : BitVec 32 := Scalar.divsi v24 c4_i32
  let c1_i32_312 : BitVec 32 := 1#32
  let v695 : BitVec 32 := Scalar.subi v680 c1_i32_312
  let v696 : BitVec 32 := Scalar.select v694 v695 v680
  let v697 : BitVec 32 := Scalar.subi v696 v679
  let c1_i32_313 : BitVec 32 := 1#32
  let v699 : BitVec 32 := Scalar.divsi v697 c1_i32_313
  let v700 : BitVec 32 := Scalar.muli v699 c1_i32_313
  let v701 : BitVec 32 := Scalar.addi v679 v700
  let c1_i32_315 : BitVec 32 := 1#32
  let arg23 : BitVec 32 := Scf.iv v701 c1_i32_315 k0_t6
  let v1441 : BitVec 32 := Scalar.muli c2_i32_779 arg23
  let c1_i32_780 : BitVec 32 := 1#32
  let v1442 : BitVec 32 := Scalar.addi v1441 c1_i32_780
  let v2039 : BitVec 32 := Scalar.muli c2_i32_1282 v1442
  let c1_i32_1283 : BitVec 32 := 1#32
  let v2040 : BitVec 32 := Scalar.addi v2039 c1_i32_1283
  let c1_i32_1287 : BitVec 32 := 1#32
  let v2051 : BitVec 32 := Scalar.addi v2040 c1_i32_1287
  let v2052 : Index := Scalar.indexCast v2051
  let c0_1289 : Index := 0#32
  let c0_1290 : Index := 0#32
  ![1, v2052.toNat, 0, 0]
@[reducible] def k0_t7_loop (i : grid0.Coords) : Scf.Loop 32 :=
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_332 : BitVec 32 := 1#32
  ⟨v721, v743, c1_i32_332⟩
def k0_off149 (i : grid0.Coords) (k0_t7 : Fin (k0_t7_loop i).trips) (c1_i32_780 : BitVec 32) : Fin 3 → Nat :=
  let c2_i32_779 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c1_i32_332 : BitVec 32 := 1#32
  let arg23 : BitVec 32 := Scf.iv v721 c1_i32_332 k0_t7
  let v1441 : BitVec 32 := Scalar.muli c2_i32_779 arg23
  let v1442 : BitVec 32 := Scalar.addi v1441 c1_i32_780
  let c1_i32_790 : BitVec 32 := 1#32
  let v1449 : BitVec 32 := Scalar.addi v1442 c1_i32_790
  let v1450 : Index := Scalar.indexCast v1449
  let c0_791 : Index := 0#32
  let c0_792 : Index := 0#32
  ![v1450.toNat, 0, 0]
def k0_off150 (i : grid0.Coords) (k0_t7 : Fin (k0_t7_loop i).trips) : Fin 4 → Nat :=
  let c0_806 : Index := 0#32
  let c2_i32_801 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c1_i32_332 : BitVec 32 := 1#32
  let arg23 : BitVec 32 := Scf.iv v721 c1_i32_332 k0_t7
  let v1461 : BitVec 32 := Scalar.muli c2_i32_801 arg23
  let c1_i32_805 : BitVec 32 := 1#32
  let v1472 : BitVec 32 := Scalar.addi v1461 c1_i32_805
  let v1473 : Index := Scalar.indexCast v1472
  let c0_807 : Index := 0#32
  let c0_808 : Index := 0#32
  ![0, v1473.toNat, 0, 0]
def k0_off151 (i : grid0.Coords) (k0_t7 : Fin (k0_t7_loop i).trips) : Fin 4 → Nat :=
  let c1_874 : Index := 1#32
  let c2_i32_869 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c1_i32_332 : BitVec 32 := 1#32
  let arg23 : BitVec 32 := Scf.iv v721 c1_i32_332 k0_t7
  let v1543 : BitVec 32 := Scalar.muli c2_i32_869 arg23
  let c1_i32_873 : BitVec 32 := 1#32
  let v1554 : BitVec 32 := Scalar.addi v1543 c1_i32_873
  let v1555 : Index := Scalar.indexCast v1554
  let c0_875 : Index := 0#32
  let c0_876 : Index := 0#32
  ![1, v1555.toNat, 0, 0]
def k0_off152 (i : grid0.Coords) (k0_t7 : Fin (k0_t7_loop i).trips) : Fin 4 → Nat :=
  let c0_939 : Index := 0#32
  let c2_i32_933 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c1_i32_332 : BitVec 32 := 1#32
  let arg23 : BitVec 32 := Scf.iv v721 c1_i32_332 k0_t7
  let v1620 : BitVec 32 := Scalar.muli c2_i32_933 arg23
  let c1_i32_934 : BitVec 32 := 1#32
  let v1621 : BitVec 32 := Scalar.addi v1620 c1_i32_934
  let c1_i32_938 : BitVec 32 := 1#32
  let v1632 : BitVec 32 := Scalar.addi v1621 c1_i32_938
  let v1633 : Index := Scalar.indexCast v1632
  let c0_940 : Index := 0#32
  let c0_941 : Index := 0#32
  ![0, v1633.toNat, 0, 0]
def k0_off153 (i : grid0.Coords) (k0_t7 : Fin (k0_t7_loop i).trips) : Fin 4 → Nat :=
  let c1_1009 : Index := 1#32
  let c2_i32_1003 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c1_i32_332 : BitVec 32 := 1#32
  let arg23 : BitVec 32 := Scf.iv v721 c1_i32_332 k0_t7
  let v1704 : BitVec 32 := Scalar.muli c2_i32_1003 arg23
  let c1_i32_1004 : BitVec 32 := 1#32
  let v1705 : BitVec 32 := Scalar.addi v1704 c1_i32_1004
  let c1_i32_1008 : BitVec 32 := 1#32
  let v1716 : BitVec 32 := Scalar.addi v1705 c1_i32_1008
  let v1717 : Index := Scalar.indexCast v1716
  let c0_1010 : Index := 0#32
  let c0_1011 : Index := 0#32
  ![1, v1717.toNat, 0, 0]
@[reducible] def k0_t8_loop (i : grid0.Coords) : Scf.Loop 32 :=
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let v740 : BitVec 32 := Scalar.addi v721 v739
  let c1_i32_333 : BitVec 32 := 1#32
  ⟨v743, v740, c1_i32_333⟩
def k0_off154 (i : grid0.Coords) (k0_t8 : Fin (k0_t8_loop i).trips) (c1_i32_780 : BitVec 32) : Fin 3 → Nat :=
  let c2_i32_779 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_333 : BitVec 32 := 1#32
  let arg23 : BitVec 32 := Scf.iv v743 c1_i32_333 k0_t8
  let v1441 : BitVec 32 := Scalar.muli c2_i32_779 arg23
  let v1442 : BitVec 32 := Scalar.addi v1441 c1_i32_780
  let c1_i32_790 : BitVec 32 := 1#32
  let v1449 : BitVec 32 := Scalar.addi v1442 c1_i32_790
  let v1450 : Index := Scalar.indexCast v1449
  let c0_791 : Index := 0#32
  let c0_792 : Index := 0#32
  ![v1450.toNat, 0, 0]
def k0_off155 (i : grid0.Coords) (k0_t8 : Fin (k0_t8_loop i).trips) : Fin 4 → Nat :=
  let c0_806 : Index := 0#32
  let c2_i32_801 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_333 : BitVec 32 := 1#32
  let arg23 : BitVec 32 := Scf.iv v743 c1_i32_333 k0_t8
  let v1461 : BitVec 32 := Scalar.muli c2_i32_801 arg23
  let c1_i32_805 : BitVec 32 := 1#32
  let v1472 : BitVec 32 := Scalar.addi v1461 c1_i32_805
  let v1473 : Index := Scalar.indexCast v1472
  let c0_807 : Index := 0#32
  let c0_808 : Index := 0#32
  ![0, v1473.toNat, 0, 0]
def k0_off156 (i : grid0.Coords) (k0_t8 : Fin (k0_t8_loop i).trips) : Fin 4 → Nat :=
  let c1_874 : Index := 1#32
  let c2_i32_869 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_333 : BitVec 32 := 1#32
  let arg23 : BitVec 32 := Scf.iv v743 c1_i32_333 k0_t8
  let v1543 : BitVec 32 := Scalar.muli c2_i32_869 arg23
  let c1_i32_873 : BitVec 32 := 1#32
  let v1554 : BitVec 32 := Scalar.addi v1543 c1_i32_873
  let v1555 : Index := Scalar.indexCast v1554
  let c0_875 : Index := 0#32
  let c0_876 : Index := 0#32
  ![1, v1555.toNat, 0, 0]
def k0_off157 (i : grid0.Coords) (k0_t8 : Fin (k0_t8_loop i).trips) : Fin 4 → Nat :=
  let c0_939 : Index := 0#32
  let c2_i32_933 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_333 : BitVec 32 := 1#32
  let arg23 : BitVec 32 := Scf.iv v743 c1_i32_333 k0_t8
  let v1620 : BitVec 32 := Scalar.muli c2_i32_933 arg23
  let c1_i32_934 : BitVec 32 := 1#32
  let v1621 : BitVec 32 := Scalar.addi v1620 c1_i32_934
  let c1_i32_938 : BitVec 32 := 1#32
  let v1632 : BitVec 32 := Scalar.addi v1621 c1_i32_938
  let v1633 : Index := Scalar.indexCast v1632
  let c0_940 : Index := 0#32
  let c0_941 : Index := 0#32
  ![0, v1633.toNat, 0, 0]
def k0_off158 (i : grid0.Coords) (k0_t8 : Fin (k0_t8_loop i).trips) : Fin 4 → Nat :=
  let c1_1009 : Index := 1#32
  let c2_i32_1003 : BitVec 32 := 2#32
  let c2_i32_323 : BitVec 32 := 2#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c0_i32_317 : BitVec 32 := 0#32
  let v705 : BitVec 1 := Scalar.cmpi .sgt v24 c0_i32_317
  let v706 : BitVec 32 := Scalar.extui v705
  let c0_i32_318 : BitVec 32 := 0#32
  let v707 : BitVec 1 := Scalar.cmpi .slt v24 c0_i32_318
  let v708 : BitVec 32 := Scalar.extui v707
  let v709 : BitVec 32 := Scalar.subi v706 v708
  let c4_i32_316 : BitVec 32 := 4#32
  let c0_i32_319 : BitVec 32 := 0#32
  let v710 : BitVec 1 := Scalar.cmpi .sgt c4_i32_316 c0_i32_319
  let v711 : BitVec 32 := Scalar.extui v710
  let c0_i32_320 : BitVec 32 := 0#32
  let v712 : BitVec 1 := Scalar.cmpi .slt c4_i32_316 c0_i32_320
  let v713 : BitVec 32 := Scalar.extui v712
  let v714 : BitVec 32 := Scalar.subi v711 v713
  let v715 : BitVec 1 := Scalar.cmpi .ne v709 v714
  let v716 : BitVec 32 := Scalar.remsi v24 c4_i32_316
  let c0_i32_321 : BitVec 32 := 0#32
  let v717 : BitVec 1 := Scalar.cmpi .ne v716 c0_i32_321
  let v718 : BitVec 1 := Scalar.andi v715 v717
  let v704 : BitVec 32 := Scalar.divsi v24 c4_i32_316
  let c1_i32_322 : BitVec 32 := 1#32
  let v719 : BitVec 32 := Scalar.subi v704 c1_i32_322
  let v720 : BitVec 32 := Scalar.select v718 v719 v704
  let v721 : BitVec 32 := Scalar.muli c2_i32_323 v720
  let c0_i32_325 : BitVec 32 := 0#32
  let v723 : BitVec 1 := Scalar.cmpi .sgt v24 c0_i32_325
  let v724 : BitVec 32 := Scalar.extui v723
  let c0_i32_326 : BitVec 32 := 0#32
  let v725 : BitVec 1 := Scalar.cmpi .slt v24 c0_i32_326
  let v726 : BitVec 32 := Scalar.extui v725
  let v727 : BitVec 32 := Scalar.subi v724 v726
  let c2_i32_324 : BitVec 32 := 2#32
  let c0_i32_327 : BitVec 32 := 0#32
  let v728 : BitVec 1 := Scalar.cmpi .sgt c2_i32_324 c0_i32_327
  let v729 : BitVec 32 := Scalar.extui v728
  let c0_i32_328 : BitVec 32 := 0#32
  let v730 : BitVec 1 := Scalar.cmpi .slt c2_i32_324 c0_i32_328
  let v731 : BitVec 32 := Scalar.extui v730
  let v732 : BitVec 32 := Scalar.subi v729 v731
  let v733 : BitVec 1 := Scalar.cmpi .ne v727 v732
  let v734 : BitVec 32 := Scalar.remsi v24 c2_i32_324
  let c0_i32_329 : BitVec 32 := 0#32
  let v735 : BitVec 1 := Scalar.cmpi .ne v734 c0_i32_329
  let v736 : BitVec 1 := Scalar.andi v733 v735
  let v722 : BitVec 32 := Scalar.divsi v24 c2_i32_324
  let c1_i32_330 : BitVec 32 := 1#32
  let v737 : BitVec 32 := Scalar.subi v722 c1_i32_330
  let v738 : BitVec 32 := Scalar.select v736 v737 v722
  let v739 : BitVec 32 := Scalar.subi v738 v721
  let c1_i32_331 : BitVec 32 := 1#32
  let v741 : BitVec 32 := Scalar.divsi v739 c1_i32_331
  let v742 : BitVec 32 := Scalar.muli v741 c1_i32_331
  let v743 : BitVec 32 := Scalar.addi v721 v742
  let c1_i32_333 : BitVec 32 := 1#32
  let arg23 : BitVec 32 := Scf.iv v743 c1_i32_333 k0_t8
  let v1704 : BitVec 32 := Scalar.muli c2_i32_1003 arg23
  let c1_i32_1004 : BitVec 32 := 1#32
  let v1705 : BitVec 32 := Scalar.addi v1704 c1_i32_1004
  let c1_i32_1008 : BitVec 32 := 1#32
  let v1716 : BitVec 32 := Scalar.addi v1705 c1_i32_1008
  let v1717 : Index := Scalar.indexCast v1716
  let c0_1010 : Index := 0#32
  let c0_1011 : Index := 0#32
  ![1, v1717.toNat, 0, 0]
def k0_cond5 (i : grid0.Coords) : BitVec 1 :=
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c2_i32_358 : BitVec 32 := 2#32
  let c0_i32_359 : BitVec 32 := 0#32
  let v770 : BitVec 1 := Scalar.cmpi .eq c2_i32_358 c0_i32_359
  let c1_i32_360 : BitVec 32 := 1#32
  let v771 : BitVec 32 := Scalar.select v770 c1_i32_360 c2_i32_358
  let v772 : BitVec 32 := Scalar.remsi v24 v771
  let c0_i32_362 : BitVec 32 := 0#32
  let v774 : BitVec 1 := Scalar.cmpi .slt v772 c0_i32_362
  let c0_i32_363 : BitVec 32 := 0#32
  let v775 : BitVec 1 := Scalar.cmpi .slt v771 c0_i32_363
  let v776 : BitVec 1 := Scalar.xori v774 v775
  let c0_i32_361 : BitVec 32 := 0#32
  let v773 : BitVec 1 := Scalar.cmpi .ne v772 c0_i32_361
  let v777 : BitVec 1 := Scalar.andi v776 v773
  let v778 : BitVec 32 := Scalar.addi v772 v771
  let v779 : BitVec 32 := Scalar.select v777 v778 v772
  let c1_i32_364 : BitVec 32 := 1#32
  let v780 : BitVec 1 := Scalar.cmpi .eq v779 c1_i32_364
  let v781 : BitVec 32 := Scalar.extui v780
  let c0_i32_365 : BitVec 32 := 0#32
  let v782 : BitVec 1 := Scalar.cmpi .ne v781 c0_i32_365
  v782

def k0_off159 (i : grid0.Coords) : Fin 4 → Nat :=
  let c0_793 : Index := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c1_i32_785 : BitVec 32 := 1#32
  let v1445 : BitVec 32 := Scalar.subi v24 c1_i32_785
  let c1_i32_792 : BitVec 32 := 1#32
  let v1458 : BitVec 32 := Scalar.addi v1445 c1_i32_792
  let v1459 : Index := Scalar.indexCast v1458
  let c0_794 : Index := 0#32
  let c0_795 : Index := 0#32
  ![0, v1459.toNat, 0, 0]
def k0_off160 (i : grid0.Coords) : Fin 4 → Nat :=
  let c1_841 : Index := 1#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_5 : BitVec 32 := 1#32
  let v23 : BitVec 32 := Scalar.subi v22 c1_i32_5
  let c0_i32_6 : BitVec 32 := 0#32
  let v24 : BitVec 32 := Scalar.maxsi v23 c0_i32_6
  let c1_i32_833 : BitVec 32 := 1#32
  let v1505 : BitVec 32 := Scalar.subi v24 c1_i32_833
  let c1_i32_840 : BitVec 32 := 1#32
  let v1518 : BitVec 32 := Scalar.addi v1505 c1_i32_840
  let v1519 : Index := Scalar.indexCast v1518
  let c0_842 : Index := 0#32
  let c0_843 : Index := 0#32
  ![1, v1519.toNat, 0, 0]
def k0_off161 (i : grid0.Coords) (c0_i32_379 : BitVec 32) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_378 : BitVec 32 := 1#32
  let v792 : BitVec 32 := Scalar.subi v22 c1_i32_378
  let v793 : BitVec 32 := Scalar.addi v792 c0_i32_379
  let c1_i32_390 : BitVec 32 := 1#32
  let v805 : BitVec 32 := Scalar.addi v793 c1_i32_390
  let v806 : Index := Scalar.indexCast v805
  let c0_391 : Index := 0#32
  let c0_392 : Index := 0#32
  ![v806.toNat, 0, 0]
def k0_off162 (i : grid0.Coords) : Fin 5 → Nat :=
  let arg0 : BitVec 32 := BitVec.ofNat 32 (i 0).val
  let c2_i32_394 : BitVec 32 := 2#32
  let c0_i32_395 : BitVec 32 := 0#32
  let v810 : BitVec 1 := Scalar.cmpi .eq c2_i32_394 c0_i32_395
  let c1_i32_396 : BitVec 32 := 1#32
  let v811 : BitVec 32 := Scalar.select v810 c1_i32_396 c2_i32_394
  let v812 : BitVec 32 := Scalar.remsi arg0 v811
  let c0_i32_398 : BitVec 32 := 0#32
  let v814 : BitVec 1 := Scalar.cmpi .slt v812 c0_i32_398
  let c0_i32_399 : BitVec 32 := 0#32
  let v815 : BitVec 1 := Scalar.cmpi .slt v811 c0_i32_399
  let v816 : BitVec 1 := Scalar.xori v814 v815
  let c0_i32_397 : BitVec 32 := 0#32
  let v813 : BitVec 1 := Scalar.cmpi .ne v812 c0_i32_397
  let v817 : BitVec 1 := Scalar.andi v816 v813
  let v818 : BitVec 32 := Scalar.addi v812 v811
  let v819 : BitVec 32 := Scalar.select v817 v818 v812
  let v820 : Index := Scalar.indexCast v819
  let c0_400 : Index := 0#32
  let c0_401 : Index := 0#32
  let c0_402 : Index := 0#32
  let c0_403 : Index := 0#32
  ![v820.toNat, 0, 0, 0, 0]
def k0_off163 (i : grid0.Coords) (c0_i32_379 : BitVec 32) : Fin 4 → Nat :=
  let c0_410 : Index := 0#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_378 : BitVec 32 := 1#32
  let v792 : BitVec 32 := Scalar.subi v22 c1_i32_378
  let v793 : BitVec 32 := Scalar.addi v792 c0_i32_379
  let c1_i32_409 : BitVec 32 := 1#32
  let v840 : BitVec 32 := Scalar.addi v793 c1_i32_409
  let v841 : Index := Scalar.indexCast v840
  let c0_411 : Index := 0#32
  let c0_412 : Index := 0#32
  ![0, v841.toNat, 0, 0]
def k0_off164 (i : grid0.Coords) : Fin 5 → Nat :=
  let arg0 : BitVec 32 := BitVec.ofNat 32 (i 0).val
  let c2_i32_432 : BitVec 32 := 2#32
  let c0_i32_433 : BitVec 32 := 0#32
  let v866 : BitVec 1 := Scalar.cmpi .eq c2_i32_432 c0_i32_433
  let c1_i32_434 : BitVec 32 := 1#32
  let v867 : BitVec 32 := Scalar.select v866 c1_i32_434 c2_i32_432
  let v868 : BitVec 32 := Scalar.remsi arg0 v867
  let c0_i32_436 : BitVec 32 := 0#32
  let v870 : BitVec 1 := Scalar.cmpi .slt v868 c0_i32_436
  let c0_i32_437 : BitVec 32 := 0#32
  let v871 : BitVec 1 := Scalar.cmpi .slt v867 c0_i32_437
  let v872 : BitVec 1 := Scalar.xori v870 v871
  let c0_i32_435 : BitVec 32 := 0#32
  let v869 : BitVec 1 := Scalar.cmpi .ne v868 c0_i32_435
  let v873 : BitVec 1 := Scalar.andi v872 v869
  let v874 : BitVec 32 := Scalar.addi v868 v867
  let v875 : BitVec 32 := Scalar.select v873 v874 v868
  let v876 : Index := Scalar.indexCast v875
  let c0_438 : Index := 0#32
  let c0_439 : Index := 0#32
  let c0_440 : Index := 0#32
  let c256_441 : Index := 256#32
  ![v876.toNat, 0, 0, 0, 256]
def k0_off165 (i : grid0.Coords) : Fin 5 → Nat :=
  let arg0 : BitVec 32 := BitVec.ofNat 32 (i 0).val
  let c2_i32_470 : BitVec 32 := 2#32
  let c0_i32_471 : BitVec 32 := 0#32
  let v922 : BitVec 1 := Scalar.cmpi .eq c2_i32_470 c0_i32_471
  let c1_i32_472 : BitVec 32 := 1#32
  let v923 : BitVec 32 := Scalar.select v922 c1_i32_472 c2_i32_470
  let v924 : BitVec 32 := Scalar.remsi arg0 v923
  let c0_i32_474 : BitVec 32 := 0#32
  let v926 : BitVec 1 := Scalar.cmpi .slt v924 c0_i32_474
  let c0_i32_475 : BitVec 32 := 0#32
  let v927 : BitVec 1 := Scalar.cmpi .slt v923 c0_i32_475
  let v928 : BitVec 1 := Scalar.xori v926 v927
  let c0_i32_473 : BitVec 32 := 0#32
  let v925 : BitVec 1 := Scalar.cmpi .ne v924 c0_i32_473
  let v929 : BitVec 1 := Scalar.andi v928 v925
  let v930 : BitVec 32 := Scalar.addi v924 v923
  let v931 : BitVec 32 := Scalar.select v929 v930 v924
  let v932 : Index := Scalar.indexCast v931
  let c1_476 : Index := 1#32
  let c0_477 : Index := 0#32
  let c0_478 : Index := 0#32
  let c0_479 : Index := 0#32
  ![v932.toNat, 1, 0, 0, 0]
def k0_off166 (i : grid0.Coords) (c0_i32_379 : BitVec 32) : Fin 4 → Nat :=
  let c1_486 : Index := 1#32
  let arg0 : BitVec 32 := BitVec.ofNat 32 (i 0).val
  let c128_i32 : BitVec 32 := 128#32
  let v0 : BitVec 32 := Scalar.muli arg0 c128_i32
  let c0_i32 : BitVec 32 := 0#32
  let v7 : BitVec 1 := Scalar.cmpi .sgt v0 c0_i32
  let v8 : BitVec 32 := Scalar.extui v7
  let c0_i32_1 : BitVec 32 := 0#32
  let v9 : BitVec 1 := Scalar.cmpi .slt v0 c0_i32_1
  let v10 : BitVec 32 := Scalar.extui v9
  let v11 : BitVec 32 := Scalar.subi v8 v10
  let c256_i32 : BitVec 32 := 256#32
  let c0_i32_2 : BitVec 32 := 0#32
  let v12 : BitVec 1 := Scalar.cmpi .sgt c256_i32 c0_i32_2
  let v13 : BitVec 32 := Scalar.extui v12
  let c0_i32_3 : BitVec 32 := 0#32
  let v14 : BitVec 1 := Scalar.cmpi .slt c256_i32 c0_i32_3
  let v15 : BitVec 32 := Scalar.extui v14
  let v16 : BitVec 32 := Scalar.subi v13 v15
  let v17 : BitVec 1 := Scalar.cmpi .ne v11 v16
  let v18 : BitVec 32 := Scalar.remsi v0 c256_i32
  let c0_i32_4 : BitVec 32 := 0#32
  let v19 : BitVec 1 := Scalar.cmpi .ne v18 c0_i32_4
  let v20 : BitVec 1 := Scalar.andi v17 v19
  let v6 : BitVec 32 := Scalar.divsi v0 c256_i32
  let c1_i32 : BitVec 32 := 1#32
  let v21 : BitVec 32 := Scalar.subi v6 c1_i32
  let v22 : BitVec 32 := Scalar.select v20 v21 v6
  let c1_i32_378 : BitVec 32 := 1#32
  let v792 : BitVec 32 := Scalar.subi v22 c1_i32_378
  let v793 : BitVec 32 := Scalar.addi v792 c0_i32_379
  let c1_i32_485 : BitVec 32 := 1#32
  let v952 : BitVec 32 := Scalar.addi v793 c1_i32_485
  let v953 : Index := Scalar.indexCast v952
  let c0_487 : Index := 0#32
  let c0_488 : Index := 0#32
  ![1, v953.toNat, 0, 0]
def k0_off167 (i : grid0.Coords) : Fin 5 → Nat :=
  let arg0 : BitVec 32 := BitVec.ofNat 32 (i 0).val
  let c2_i32_508 : BitVec 32 := 2#32
  let c0_i32_509 : BitVec 32 := 0#32
  let v978 : BitVec 1 := Scalar.cmpi .eq c2_i32_508 c0_i32_509
  let c1_i32_510 : BitVec 32 := 1#32
  let v979 : BitVec 32 := Scalar.select v978 c1_i32_510 c2_i32_508
  let v980 : BitVec 32 := Scalar.remsi arg0 v979
  let c0_i32_512 : BitVec 32 := 0#32
  let v982 : BitVec 1 := Scalar.cmpi .slt v980 c0_i32_512
  let c0_i32_513 : BitVec 32 := 0#32
  let v983 : BitVec 1 := Scalar.cmpi .slt v979 c0_i32_513
  let v984 : BitVec 1 := Scalar.xori v982 v983
  let c0_i32_511 : BitVec 32 := 0#32
  let v981 : BitVec 1 := Scalar.cmpi .ne v980 c0_i32_511
  let v985 : BitVec 1 := Scalar.andi v984 v981
  let v986 : BitVec 32 := Scalar.addi v980 v979
  let v987 : BitVec 32 := Scalar.select v985 v986 v980
  let v988 : Index := Scalar.indexCast v987
  let c1_514 : Index := 1#32
  let c0_515 : Index := 0#32
  let c0_516 : Index := 0#32
  let c256_517 : Index := 256#32
  ![v988.toNat, 1, 0, 0, 256]
def k0_off168 (i : grid0.Coords) : Fin 5 → Nat :=
  let arg0 : BitVec 32 := BitVec.ofNat 32 (i 0).val
  let c2_i32_548 : BitVec 32 := 2#32
  let c0_i32_549 : BitVec 32 := 0#32
  let v1036 : BitVec 1 := Scalar.cmpi .eq c2_i32_548 c0_i32_549
  let c1_i32_550 : BitVec 32 := 1#32
  let v1037 : BitVec 32 := Scalar.select v1036 c1_i32_550 c2_i32_548
  let v1038 : BitVec 32 := Scalar.remsi arg0 v1037
  let c0_i32_552 : BitVec 32 := 0#32
  let v1040 : BitVec 1 := Scalar.cmpi .slt v1038 c0_i32_552
  let c0_i32_553 : BitVec 32 := 0#32
  let v1041 : BitVec 1 := Scalar.cmpi .slt v1037 c0_i32_553
  let v1042 : BitVec 1 := Scalar.xori v1040 v1041
  let c0_i32_551 : BitVec 32 := 0#32
  let v1039 : BitVec 1 := Scalar.cmpi .ne v1038 c0_i32_551
  let v1043 : BitVec 1 := Scalar.andi v1042 v1039
  let v1044 : BitVec 32 := Scalar.addi v1038 v1037
  let v1045 : BitVec 32 := Scalar.select v1043 v1044 v1038
  let v1046 : Index := Scalar.indexCast v1045
  let c0_554 : Index := 0#32
  let c1_555 : Index := 1#32
  let c0_556 : Index := 0#32
  let c0_557 : Index := 0#32
  ![v1046.toNat, 0, 1, 0, 0]
def k0_off169 (i : grid0.Coords) : Fin 5 → Nat :=
  let arg0 : BitVec 32 := BitVec.ofNat 32 (i 0).val
  let c2_i32_586 : BitVec 32 := 2#32
  let c0_i32_587 : BitVec 32 := 0#32
  let v1092 : BitVec 1 := Scalar.cmpi .eq c2_i32_586 c0_i32_587
  let c1_i32_588 : BitVec 32 := 1#32
  let v1093 : BitVec 32 := Scalar.select v1092 c1_i32_588 c2_i32_586
  let v1094 : BitVec 32 := Scalar.remsi arg0 v1093
  let c0_i32_590 : BitVec 32 := 0#32
  let v1096 : BitVec 1 := Scalar.cmpi .slt v1094 c0_i32_590
  let c0_i32_591 : BitVec 32 := 0#32
  let v1097 : BitVec 1 := Scalar.cmpi .slt v1093 c0_i32_591
  let v1098 : BitVec 1 := Scalar.xori v1096 v1097
  let c0_i32_589 : BitVec 32 := 0#32
  let v1095 : BitVec 1 := Scalar.cmpi .ne v1094 c0_i32_589
  let v1099 : BitVec 1 := Scalar.andi v1098 v1095
  let v1100 : BitVec 32 := Scalar.addi v1094 v1093
  let v1101 : BitVec 32 := Scalar.select v1099 v1100 v1094
  let v1102 : Index := Scalar.indexCast v1101
  let c0_592 : Index := 0#32
  let c1_593 : Index := 1#32
  let c0_594 : Index := 0#32
  let c256_595 : Index := 256#32
  ![v1102.toNat, 0, 1, 0, 256]
def k0_off170 (i : grid0.Coords) : Fin 5 → Nat :=
  let arg0 : BitVec 32 := BitVec.ofNat 32 (i 0).val
  let c2_i32_624 : BitVec 32 := 2#32
  let c0_i32_625 : BitVec 32 := 0#32
  let v1148 : BitVec 1 := Scalar.cmpi .eq c2_i32_624 c0_i32_625
  let c1_i32_626 : BitVec 32 := 1#32
  let v1149 : BitVec 32 := Scalar.select v1148 c1_i32_626 c2_i32_624
  let v1150 : BitVec 32 := Scalar.remsi arg0 v1149
  let c0_i32_628 : BitVec 32 := 0#32
  let v1152 : BitVec 1 := Scalar.cmpi .slt v1150 c0_i32_628
  let c0_i32_629 : BitVec 32 := 0#32
  let v1153 : BitVec 1 := Scalar.cmpi .slt v1149 c0_i32_629
  let v1154 : BitVec 1 := Scalar.xori v1152 v1153
  let c0_i32_627 : BitVec 32 := 0#32
  let v1151 : BitVec 1 := Scalar.cmpi .ne v1150 c0_i32_627
  let v1155 : BitVec 1 := Scalar.andi v1154 v1151
  let v1156 : BitVec 32 := Scalar.addi v1150 v1149
  let v1157 : BitVec 32 := Scalar.select v1155 v1156 v1150
  let v1158 : Index := Scalar.indexCast v1157
  let c1_630 : Index := 1#32
  let c1_631 : Index := 1#32
  let c0_632 : Index := 0#32
  let c0_633 : Index := 0#32
  ![v1158.toNat, 1, 1, 0, 0]
def k0_off171 (i : grid0.Coords) : Fin 5 → Nat :=
  let arg0 : BitVec 32 := BitVec.ofNat 32 (i 0).val
  let c2_i32_662 : BitVec 32 := 2#32
  let c0_i32_663 : BitVec 32 := 0#32
  let v1204 : BitVec 1 := Scalar.cmpi .eq c2_i32_662 c0_i32_663
  let c1_i32_664 : BitVec 32 := 1#32
  let v1205 : BitVec 32 := Scalar.select v1204 c1_i32_664 c2_i32_662
  let v1206 : BitVec 32 := Scalar.remsi arg0 v1205
  let c0_i32_666 : BitVec 32 := 0#32
  let v1208 : BitVec 1 := Scalar.cmpi .slt v1206 c0_i32_666
  let c0_i32_667 : BitVec 32 := 0#32
  let v1209 : BitVec 1 := Scalar.cmpi .slt v1205 c0_i32_667
  let v1210 : BitVec 1 := Scalar.xori v1208 v1209
  let c0_i32_665 : BitVec 32 := 0#32
  let v1207 : BitVec 1 := Scalar.cmpi .ne v1206 c0_i32_665
  let v1211 : BitVec 1 := Scalar.andi v1210 v1207
  let v1212 : BitVec 32 := Scalar.addi v1206 v1205
  let v1213 : BitVec 32 := Scalar.select v1211 v1212 v1206
  let v1214 : Index := Scalar.indexCast v1213
  let c1_668 : Index := 1#32
  let c1_669 : Index := 1#32
  let c0_670 : Index := 0#32
  let c256_671 : Index := 256#32
  ![v1214.toNat, 1, 1, 0, 256]
def k0_mult9 (i : grid0.Coords) : BitVec 32 :=
  let arg0 : BitVec 32 := BitVec.ofNat 32 (i 0).val
  let c128_i32 : BitVec 32 := 128#32
  let v0 : BitVec 32 := Scalar.muli arg0 c128_i32
  v0
def k0_off172 (i : grid0.Coords) : Fin 2 → Nat :=
  let arg0 : BitVec 32 := BitVec.ofNat 32 (i 0).val
  let c128_i32 : BitVec 32 := 128#32
  let v0 : BitVec 32 := Scalar.muli arg0 c128_i32
  let v1255 : BitVec 32 := v0
  let v1256 : Index := Scalar.indexCast v1255
  let c0_693 : Index := 0#32
  ![v1256.toNat, 0]
def k0_off173 (i : grid0.Coords) (c0_i32_705 : BitVec 32) : Fin 4 → Nat :=
  let c0_706 : Index := 0#32
  let arg0 : BitVec 32 := BitVec.ofNat 32 (i 0).val
  let v1280 : BitVec 32 := Scalar.addi arg0 c0_i32_705
  let v1281 : Index := Scalar.indexCast v1280
  let c0_707 : Index := 0#32
  let c0_708 : Index := 0#32
  ![0, v1281.toNat, 0, 0]
def k0_mult10 (i : grid0.Coords) : BitVec 32 :=
  let arg0 : BitVec 32 := BitVec.ofNat 32 (i 0).val
  let c128_i32 : BitVec 32 := 128#32
  let v0 : BitVec 32 := Scalar.muli arg0 c128_i32
  v0
def k0_off174 (i : grid0.Coords) (c0_i32_752 : BitVec 32) : Fin 4 → Nat :=
  let c1_753 : Index := 1#32
  let arg0 : BitVec 32 := BitVec.ofNat 32 (i 0).val
  let v1377 : BitVec 32 := Scalar.addi arg0 c0_i32_752
  let v1378 : Index := Scalar.indexCast v1377
  let c0_754 : Index := 0#32
  let c0_755 : Index := 0#32
  ![1, v1378.toNat, 0, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S65x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x65x80x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16896x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x132x80x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x24x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2x2x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x640x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OddMlp.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OddMlpIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OddMlpRefIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== EvenMlp.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== EvenMlpRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== OddIn.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OddMlpS.lean ====
abbrev S128x1024 : Shape := ⟨2, ![128, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S128x1024, .f32⟩
  | .local _ .vmem, ⟨9, _⟩ => ⟨S128x1024, .bf16⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== OddMlpSRefIdeal.lean ====
abbrev S128x1024 : Shape := ⟨2, ![128, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x4096, .f32⟩
  | .hbm, ⟨25, _⟩ => ⟨S_, .f32⟩
  | .hbm, ⟨26, _⟩ => ⟨S128x4096, .f32⟩
  | .hbm, ⟨27, _⟩ => ⟨S128x4096, .f32⟩
  | .hbm, ⟨28, _⟩ => ⟨S128x4096, .f32⟩
  | .hbm, ⟨29, _⟩ => ⟨S128x1024, .f32⟩
  | .hbm, ⟨30, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== KvPost.lean ====
abbrev S16384x2432 : Shape := ⟨2, ![16384, 2432]⟩
abbrev S3x64 : Shape := ⟨2, ![3, 64]⟩
abbrev S3x128 : Shape := ⟨2, ![3, 128]⟩
abbrev S16384x512 : Shape := ⟨2, ![16384, 512]⟩
abbrev S16384x256 : Shape := ⟨2, ![16384, 256]⟩
abbrev S1024x768 : Shape := ⟨2, ![1024, 768]⟩
abbrev S1024x512 : Shape := ⟨2, ![1024, 512]⟩
abbrev S1024x256 : Shape := ⟨2, ![1024, 256]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S16384x2432, .f32⟩
  | .hbm, ⟨1, _⟩ => ⟨S3x64, .f32⟩
  | .hbm, ⟨2, _⟩ => ⟨S3x128, .f32⟩
  | .hbm, ⟨3, _⟩ => ⟨S16384x512, .f32⟩
  | .hbm, ⟨4, _⟩ => ⟨S16384x256, .f32⟩
  | .hbm, ⟨5, _⟩ => ⟨S512x256, .f32⟩
  | .local _ .vmem, ⟨0, _⟩ => ⟨S1024x768, .f32⟩
  | .local _ .vmem, ⟨1, _⟩ => ⟨S1024x768, .f32⟩
  | .local _ .vmem, ⟨2, _⟩ => ⟨S3x128, .f32⟩
  | .local _ .vmem, ⟨3, _⟩ => ⟨S1024x512, .f32⟩
  | .local _ .vmem, ⟨4, _⟩ => ⟨S1024x512, .f32⟩
  | .local _ .vmem, ⟨5, _⟩ => ⟨S1024x256, .f32⟩
  | .local _ .vmem, ⟨6, _⟩ => ⟨S1024x256, .f32⟩
  | _, _ => ⟨S16384x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvPostRefIdeal.lean ====
abbrev S16384x2432 : Shape := ⟨2, ![16384, 2432]⟩
abbrev S3x64 : Shape := ⟨2, ![3, 64]⟩
abbrev S16384x128 : Shape := ⟨2, ![16384, 128]⟩
abbrev S1x64 : Shape := ⟨2, ![1, 64]⟩
abbrev S64 : Shape := ⟨1, ![64]⟩
abbrev S16384x2x64 : Shape := ⟨3, ![16384, 2, 64]⟩
abbrev S_ : Shape := ⟨0, ![]⟩
abbrev S16384x2 : Shape := ⟨2, ![16384, 2]⟩
abbrev S16384x2x1 : Shape := ⟨3, ![16384, 2, 1]⟩
abbrev S1x1x64 : Shape := ⟨3, ![1, 1, 64]⟩
abbrev S16384x512 : Shape := ⟨2, ![16384, 512]⟩
abbrev S16384x256 : Shape := ⟨2, ![16384, 256]⟩
abbrev S512x256 : Shape := ⟨2, ![512, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x2432, .f32⟩
  | .hbm, ⟨1, _⟩ => ⟨S3x64, .f32⟩
  | .hbm, ⟨2, _⟩ => ⟨S16384x128, .f32⟩
  | .hbm, ⟨3, _⟩ => ⟨S16384x128, .f32⟩
  | .hbm, ⟨4, _⟩ => ⟨S1x64, .f32⟩
  | .hbm, ⟨5, _⟩ => ⟨S64, .f32⟩
  | .hbm, ⟨6, _⟩ => ⟨S16384x128, .f32⟩
  | .hbm, ⟨7, _⟩ => ⟨S16384x2x64, .f32⟩
  | .hbm, ⟨8, _⟩ => ⟨S16384x2x64, .f32⟩
  | .hbm, ⟨9, _⟩ => ⟨S_, .f32⟩
  | .hbm, ⟨10, _⟩ => ⟨S16384x2, .f32⟩
  | .hbm, ⟨11, _⟩ => ⟨S16384x2x1, .f32⟩
  | .hbm, ⟨12, _⟩ => ⟨S_, .f32⟩
  | .hbm, ⟨13, _⟩ => ⟨S16384x2x1, .f32⟩
  | .hbm, ⟨14, _⟩ => ⟨S16384x2x1, .f32⟩
  | .hbm, ⟨15, _⟩ => ⟨S_, .f32⟩
  | .hbm, ⟨16, _⟩ => ⟨S16384x2x1, .f32⟩
  | .hbm, ⟨17, _⟩ => ⟨S16384x2x1, .f32⟩
  | .hbm, ⟨18, _⟩ => ⟨S16384x2x1, .f32⟩
  | .hbm, ⟨19, _⟩ => ⟨S16384x2x64, .f32⟩
  | .hbm, ⟨20, _⟩ => ⟨S16384x2x64, .f32⟩
  | .hbm, ⟨21, _⟩ => ⟨S1x1x64, .f32⟩
  | .hbm, ⟨22, _⟩ => ⟨S16384x2x64, .f32⟩
  | .hbm, ⟨23, _⟩ => ⟨S16384x2x64, .f32⟩
  | .hbm, ⟨24, _⟩ => ⟨S16384x128, .f32⟩
  | .hbm, ⟨25, _⟩ => ⟨S16384x128, .f32⟩
  | .hbm, ⟨26, _⟩ => ⟨S16384x512, .f32⟩
  | .hbm, ⟨27, _⟩ => ⟨S1x64, .f32⟩
  | .hbm, ⟨28, _⟩ => ⟨S64, .f32⟩
  | .hbm, ⟨29, _⟩ => ⟨S16384x128, .f32⟩
  | .hbm, ⟨30, _⟩ => ⟨S16384x2x64, .f32⟩
  | .hbm, ⟨31, _⟩ => ⟨S16384x2x64, .f32⟩
  | .hbm, ⟨32, _⟩ => ⟨S_, .f32⟩
  | .hbm, ⟨33, _⟩ => ⟨S16384x2, .f32⟩
  | .hbm, ⟨34, _⟩ => ⟨S16384x2x1, .f32⟩
  | .hbm, ⟨35, _⟩ => ⟨S_, .f32⟩
  | .hbm, ⟨36, _⟩ => ⟨S16384x2x1, .f32⟩
  | .hbm, ⟨37, _⟩ => ⟨S16384x2x1, .f32⟩
  | .hbm, ⟨38, _⟩ => ⟨S_, .f32⟩
  | .hbm, ⟨39, _⟩ => ⟨S16384x2x1, .f32⟩
  | .hbm, ⟨40, _⟩ => ⟨S16384x2x1, .f32⟩
  | .hbm, ⟨41, _⟩ => ⟨S16384x2x1, .f32⟩
  | .hbm, ⟨42, _⟩ => ⟨S16384x2x64, .f32⟩
  | .hbm, ⟨43, _⟩ => ⟨S16384x2x64, .f32⟩
  | .hbm, ⟨44, _⟩ => ⟨S1x1x64, .f32⟩
  | .hbm, ⟨45, _⟩ => ⟨S16384x2x64, .f32⟩
  | .hbm, ⟨46, _⟩ => ⟨S16384x2x64, .f32⟩
  | .hbm, ⟨47, _⟩ => ⟨S16384x128, .f32⟩
  | .hbm, ⟨48, _⟩ => ⟨S16384x128, .f32⟩
  | .hbm, ⟨49, _⟩ => ⟨S16384x256, .f32⟩
  | .hbm, ⟨50, _⟩ => ⟨S512x256, .f32⟩
  | _, _ => ⟨S16384x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== KvPostS.lean ====
abbrev S128x2432 : Shape := ⟨2, ![128, 2432]⟩
abbrev S3x64 : Shape := ⟨2, ![3, 64]⟩
abbrev S32x512x256 : Shape := ⟨3, ![32, 512, 256]⟩
abbrev S3x128 : Shape := ⟨2, ![3, 128]⟩
abbrev S128x512 : Shape := ⟨2, ![128, 512]⟩
abbrev S128x256 : Shape := ⟨2, ![128, 256]⟩
abbrev S128x768 : Shape := ⟨2, ![128, 768]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S32x4x256 : Shape := ⟨3, ![32, 4, 256]⟩
abbrev S32x516x256 : Shape := ⟨3, ![32, 516, 256]⟩

abbrev nBuf : Space → Nat
  | .hbm => 9
  | .vmem => 4
  | .smem => 0
  | _ => 0

abbrev bufTy : (tb : Table) → Fin (tcTables nBuf tb) → BufTy
  | .hbm, ⟨0, _⟩ => ⟨S128x2432, .f32⟩
  | .hbm, ⟨1, _⟩ => ⟨S3x64, .f32⟩
  | .hbm, ⟨2, _⟩ => ⟨S32x512x256, .f32⟩
  | .hbm, ⟨3, _⟩ => ⟨S3x128, .f32⟩
  | .hbm, ⟨4, _⟩ => ⟨S128x512, .f32⟩
  | .hbm, ⟨5, _⟩ => ⟨S128x256, .f32⟩
  | .hbm, ⟨6, _⟩ => ⟨S32x4x256, .f32⟩
  | .hbm, ⟨7, _⟩ => ⟨S32x516x256, .f32⟩
  | .hbm, ⟨8, _⟩ => ⟨S32x512x256, .f32⟩
  | .local _ .vmem, ⟨0, _⟩ => ⟨S128x768, .f32⟩
  | .local _ .vmem, ⟨1, _⟩ => ⟨S3x128, .f32⟩
  | .local _ .vmem, ⟨2, _⟩ => ⟨S128x512, .f32⟩
  | .local _ .vmem, ⟨3, _⟩ => ⟨S128x256, .f32⟩
  | _, _ => ⟨S128x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KvPostSRefIdeal.lean ====
abbrev S128x2432 : Shape := ⟨2, ![128, 2432]⟩
abbrev S3x64 : Shape := ⟨2, ![3, 64]⟩
abbrev S32x512x256 : Shape := ⟨3, ![32, 512, 256]⟩
abbrev S128x128 : Shape := ⟨2, ![128, 128]⟩
abbrev S1x64 : Shape := ⟨2, ![1, 64]⟩
abbrev S64 : Shape := ⟨1, ![64]⟩
abbrev S128x2x64 : Shape := ⟨3, ![128, 2, 64]⟩
abbrev S_ : Shape := ⟨0, ![]⟩
abbrev S128x2 : Shape := ⟨2, ![128, 2]⟩
abbrev S128x2x1 : Shape := ⟨3, ![128, 2, 1]⟩
abbrev S1x1x64 : Shape := ⟨3, ![1, 1, 64]⟩
abbrev S128x512 : Shape := ⟨2, ![128, 512]⟩
abbrev S128x256 : Shape := ⟨2, ![128, 256]⟩
abbrev S32x4x256 : Shape := ⟨3, ![32, 4, 256]⟩
abbrev S32x516x256 : Shape := ⟨3, ![32, 516, 256]⟩

abbrev nBuf : Space → Nat
  | .hbm => 54
  | .vmem => 0
  | .smem => 0
  | _ => 0

abbrev bufTy : (tb : Table) → Fin (tcTables nBuf tb) → BufTy
  | .hbm, ⟨0, _⟩ => ⟨S128x2432, .f32⟩
  | .hbm, ⟨1, _⟩ => ⟨S3x64, .f32⟩
  | .hbm, ⟨2, _⟩ => ⟨S32x512x256, .f32⟩
  | .hbm, ⟨3, _⟩ => ⟨S128x128, .f32⟩
  | .hbm, ⟨4, _⟩ => ⟨S128x128, .f32⟩
  | .hbm, ⟨5, _⟩ => ⟨S1x64, .f32⟩
  | .hbm, ⟨6, _⟩ => ⟨S64, .f32⟩
  | .hbm, ⟨7, _⟩ => ⟨S128x128, .f32⟩
  | .hbm, ⟨8, _⟩ => ⟨S128x2x64, .f32⟩
  | .hbm, ⟨9, _⟩ => ⟨S128x2x64, .f32⟩
  | .hbm, ⟨10, _⟩ => ⟨S_, .f32⟩
  | .hbm, ⟨11, _⟩ => ⟨S128x2, .f32⟩
  | .hbm, ⟨12, _⟩ => ⟨S128x2x1, .f32⟩
  | .hbm, ⟨13, _⟩ => ⟨S_, .f32⟩
  | .hbm, ⟨14, _⟩ => ⟨S128x2x1, .f32⟩
  | .hbm, ⟨15, _⟩ => ⟨S128x2x1, .f32⟩
  | .hbm, ⟨16, _⟩ => ⟨S_, .f32⟩
  | .hbm, ⟨17, _⟩ => ⟨S128x2x1, .f32⟩
  | .hbm, ⟨18, _⟩ => ⟨S128x2x1, .f32⟩
  | .hbm, ⟨19, _⟩ => ⟨S128x2x1, .f32⟩
  | .hbm, ⟨20, _⟩ => ⟨S128x2x64, .f32⟩
  | .hbm, ⟨21, _⟩ => ⟨S128x2x64, .f32⟩
  | .hbm, ⟨22, _⟩ => ⟨S1x1x64, .f32⟩
  | .hbm, ⟨23, _⟩ => ⟨S128x2x64, .f32⟩
  | .hbm, ⟨24, _⟩ => ⟨S128x2x64, .f32⟩
  | .hbm, ⟨25, _⟩ => ⟨S128x128, .f32⟩
  | .hbm, ⟨26, _⟩ => ⟨S128x128, .f32⟩
  | .hbm, ⟨27, _⟩ => ⟨S128x512, .f32⟩
  | .hbm, ⟨28, _⟩ => ⟨S1x64, .f32⟩
  | .hbm, ⟨29, _⟩ => ⟨S64, .f32⟩
  | .hbm, ⟨30, _⟩ => ⟨S128x128, .f32⟩
  | .hbm, ⟨31, _⟩ => ⟨S128x2x64, .f32⟩
  | .hbm, ⟨32, _⟩ => ⟨S128x2x64, .f32⟩
  | .hbm, ⟨33, _⟩ => ⟨S_, .f32⟩
  | .hbm, ⟨34, _⟩ => ⟨S128x2, .f32⟩
  | .hbm, ⟨35, _⟩ => ⟨S128x2x1, .f32⟩
  | .hbm, ⟨36, _⟩ => ⟨S_, .f32⟩
  | .hbm, ⟨37, _⟩ => ⟨S128x2x1, .f32⟩
  | .hbm, ⟨38, _⟩ => ⟨S128x2x1, .f32⟩
  | .hbm, ⟨39, _⟩ => ⟨S_, .f32⟩
  | .hbm, ⟨40, _⟩ => ⟨S128x2x1, .f32⟩
  | .hbm, ⟨41, _⟩ => ⟨S128x2x1, .f32⟩
  | .hbm, ⟨42, _⟩ => ⟨S128x2x1, .f32⟩
  | .hbm, ⟨43, _⟩ => ⟨S128x2x64, .f32⟩
  | .hbm, ⟨44, _⟩ => ⟨S128x2x64, .f32⟩
  | .hbm, ⟨45, _⟩ => ⟨S1x1x64, .f32⟩
  | .hbm, ⟨46, _⟩ => ⟨S128x2x64, .f32⟩
  | .hbm, ⟨47, _⟩ => ⟨S128x2x64, .f32⟩
  | .hbm, ⟨48, _⟩ => ⟨S128x128, .f32⟩
  | .hbm, ⟨49, _⟩ => ⟨S128x128, .f32⟩
  | .hbm, ⟨50, _⟩ => ⟨S128x256, .f32⟩
  | .hbm, ⟨51, _⟩ => ⟨S32x4x256, .f32⟩
  | .hbm, ⟨52, _⟩ => ⟨S32x516x256, .f32⟩
  | .hbm, ⟨53, _⟩ => ⟨S32x512x256, .f32⟩
  | _, _ => ⟨S128x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== EvenIn.lean ====
abbrev S16384x1024 : Shape := ⟨2, ![16384, 1024]⟩
abbrev S1024 : Shape := ⟨1, ![1024]⟩
abbrev S1024x2328 : Shape := ⟨2, ![1024, 2328]⟩
abbrev S_ : Shape := ⟨0, ![]⟩
abbrev S1024x2432 : Shape := ⟨2, ![1024, 2432]⟩
abbrev S1x1024 : Shape := ⟨2, ![1, 1024]⟩
abbrev S16384x2432 : Shape := ⟨2, ![16384, 2432]⟩
abbrev S512x1024 : Shape := ⟨2, ![512, 1024]⟩
abbrev S512x2432 : Shape := ⟨2, ![512, 2432]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2328, .f32⟩
  | .hbm, ⟨3, _⟩ => ⟨S_, .i32⟩
  | .hbm, ⟨4, _⟩ => ⟨S_, .f32⟩
  | .hbm, ⟨5, _⟩ => ⟨S1024x2432, .f32⟩
  | .hbm, ⟨6, _⟩ => ⟨S1024x2432, .bf16⟩
  | .hbm, ⟨7, _⟩ => ⟨S1x1024, .f32⟩
  | .hbm, ⟨8, _⟩ => ⟨S16384x2432, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x2432, .f32⟩
  | .local _ .vmem, ⟨5, _⟩ => ⟨S512x2432, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInRefIdeal.lean ====
abbrev S16384x1024 : Shape := ⟨2, ![16384, 1024]⟩
abbrev S1024 : Shape := ⟨1, ![1024]⟩
abbrev S1024x2328 : Shape := ⟨2, ![1024, 2328]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2328 : Shape := ⟨2, ![16384, 2328]⟩
abbrev S16384x2432 : Shape := ⟨2, ![16384, 2432]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2328, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2328, .f32⟩
  | .hbm, ⟨20, _⟩ => ⟨S_, .i32⟩
  | .hbm, ⟨21, _⟩ => ⟨S_, .f32⟩
  | .hbm, ⟨22, _⟩ => ⟨S16384x2432, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Conv.lean ====
abbrev S16384x2432 : Shape := ⟨2, ![16384, 2432]⟩
abbrev S31x512 : Shape := ⟨2, ![31, 512]⟩
abbrev S512 : Shape := ⟨1, ![512]⟩
abbrev S1x16384x2432 : Shape := ⟨3, ![1, 16384, 2432]⟩
abbrev S_ : Shape := ⟨0, ![]⟩
abbrev S1x30x512 : Shape := ⟨3, ![1, 30, 512]⟩
abbrev S1x32x512 : Shape := ⟨3, ![1, 32, 512]⟩
abbrev S1x512 : Shape := ⟨2, ![1, 512]⟩
abbrev S1x16384x512 : Shape := ⟨3, ![1, 16384, 512]⟩
abbrev S1x256x1024 : Shape := ⟨3, ![1, 256, 1024]⟩
abbrev S1x256x512 : Shape := ⟨3, ![1, 256, 512]⟩
abbrev S288x512 : Shape := ⟨2, ![288, 512]⟩
abbrev S2x152x128 : Shape := ⟨3, ![2, 152, 128]⟩
abbrev S32x512 : Shape := ⟨2, ![32, 512]⟩
abbrev S256x512 : Shape := ⟨2, ![256, 512]⟩
abbrev S128x128 : Shape := ⟨2, ![128, 128]⟩
abbrev S1x128 : Shape := ⟨2, ![1, 128]⟩
abbrev S152x128 : Shape := ⟨2, ![152, 128]⟩
abbrev S1x152x128 : Shape := ⟨3, ![1, 152, 128]⟩
abbrev S1x128x128 : Shape := ⟨3, ![1, 128, 128]⟩
abbrev S144x128 : Shape := ⟨2, ![144, 128]⟩
abbrev S1x144x128 : Shape := ⟨3, ![1, 144, 128]⟩
abbrev S256 : Shape := ⟨1, ![256]⟩
abbrev S256x1 : Shape := ⟨2, ![256, 1]⟩
abbrev S30x512 : Shape := ⟨2, ![30, 512]⟩

abbrev nBuf : Space → Nat
  | .hbm => 16
  | .vmem => 12
  | .smem => 0
  | _ => 0

abbrev bufTy : (tb : Table) → Fin (tcTables nBuf tb) → BufTy
  | .hbm, ⟨0, _⟩ => ⟨S16384x2432, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x16384x2432, .f32⟩
  | .hbm, ⟨6, _⟩ => ⟨S_, .f32⟩
  | .hbm, ⟨7, _⟩ => ⟨S1x30x512, .f32⟩
  | .hbm, ⟨8, _⟩ => ⟨S_, .i32⟩
  | .hbm, ⟨9, _⟩ => ⟨S_, .f32⟩
  | .hbm, ⟨10, _⟩ => ⟨S1x32x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x16384x512, .f32⟩
  | .hbm, ⟨15, _⟩ => ⟨S1x30x512, .f32⟩
  | .local _ .vmem, ⟨0, _⟩ => ⟨S1x256x1024, .f32⟩
  | .local _ .vmem, ⟨1, _⟩ => ⟨S1x256x1024, .f32⟩
  | .local _ .vmem, ⟨2, _⟩ => ⟨S1x32x512, .f32⟩
  | .local _ .vmem, ⟨3, _⟩ => ⟨S31x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x256x512, .f32⟩
  | .local _ .vmem, ⟨8, _⟩ => ⟨S1x256x512, .f32⟩
  | .local _ .vmem, ⟨9, _⟩ => ⟨S1x30x512, .f32⟩
  | .local _ .vmem, ⟨10, _⟩ => ⟨S288x512, .f32⟩
  | .local _ .vmem, ⟨11, _⟩ => ⟨S2x152x128, .f32⟩
  | _, _ => ⟨S16384x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v1727 : BitVec 1 := Scalar.cmpi .eq arg1 c63_i32
  let v1728 : BitVec 32 := Scalar.extui v1727
  let c0_i32_1339 : BitVec 32 := 0#32
  let v1729 : BitVec 1 := Scalar.cmpi .ne v1728 c0_i32_1339
  v1729

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x30x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ConvRefIdeal.lean ====
abbrev S16384x2432 : Shape := ⟨2, ![16384, 2432]⟩
abbrev S31x512 : Shape := ⟨2, ![31, 512]⟩
abbrev S512 : Shape := ⟨1, ![512]⟩
abbrev S1x16384x2432 : Shape := ⟨3, ![1, 16384, 2432]⟩
abbrev S_ : Shape := ⟨0, ![]⟩
abbrev S1x30x512 : Shape := ⟨3, ![1, 30, 512]⟩
abbrev S1x16384x1024 : Shape := ⟨3, ![1, 16384, 1024]⟩
abbrev S1x16384x512 : Shape := ⟨3, ![1, 16384, 512]⟩
abbrev S1x16414x512 : Shape := ⟨3, ![1, 16414, 512]⟩

abbrev nBuf : Space → Nat
  | .hbm => 22
  | .vmem => 0
  | .smem => 0
  | _ => 0

abbrev bufTy : (tb : Table) → Fin (tcTables nBuf tb) → BufTy
  | .hbm, ⟨0, _⟩ => ⟨S16384x2432, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x16384x2432, .f32⟩
  | .hbm, ⟨6, _⟩ => ⟨S_, .f32⟩
  | .hbm, ⟨7, _⟩ => ⟨S1x30x512, .f32⟩
  | .hbm, ⟨8, _⟩ => ⟨S1x16384x1024, .f32⟩
  | .hbm, ⟨9, _⟩ => ⟨S1x16384x512, .f32⟩
  | .hbm, ⟨10, _⟩ => ⟨S1x16384x512, .f32⟩
  | .hbm, ⟨11, _⟩ => ⟨S1x16384x512, .f32⟩
  | .hbm, ⟨12, _⟩ => ⟨S1x16384x512, .f32⟩
  | .hbm, ⟨13, _⟩ => ⟨S_, .f32⟩
  | .hbm, ⟨14, _⟩ => ⟨S1x16384x512, .f32⟩
  | .hbm, ⟨15, _⟩ => ⟨S1x16384x512, .f32⟩
  | .hbm, ⟨16, _⟩ => ⟨S_, .f32⟩
  | .hbm, ⟨17, _⟩ => ⟨S1x16384x512, .f32⟩
  | .hbm, ⟨18, _⟩ => ⟨S1x16384x512, .f32⟩
  | .hbm, ⟨19, _⟩ => ⟨S1x16384x512, .f32⟩
  | .hbm, ⟨20, _⟩ => ⟨S1x16414x512, .f32⟩
  | .hbm, ⟨21, _⟩ => ⟨S1x30x512, .f32⟩
  | _, _ => ⟨S16384x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== ConvS.lean ====
abbrev S32x4x2432 : Shape := ⟨3, ![32, 4, 2432]⟩
abbrev S32x30x512 : Shape := ⟨3, ![32, 30, 512]⟩
abbrev S31x512 : Shape := ⟨2, ![31, 512]⟩
abbrev S512 : Shape := ⟨1, ![512]⟩
abbrev S_ : Shape := ⟨0, ![]⟩
abbrev S32x32x512 : Shape := ⟨3, ![32, 32, 512]⟩
abbrev S1x512 : Shape := ⟨2, ![1, 512]⟩
abbrev S32x4x512 : Shape := ⟨3, ![32, 4, 512]⟩
abbrev S1x4x1024 : Shape := ⟨3, ![1, 4, 1024]⟩
abbrev S1x32x512 : Shape := ⟨3, ![1, 32, 512]⟩
abbrev S1x4x512 : Shape := ⟨3, ![1, 4, 512]⟩
abbrev S1x30x512 : Shape := ⟨3, ![1, 30, 512]⟩
abbrev S36x512 : Shape := ⟨2, ![36, 512]⟩
abbrev S1x28x128 : Shape := ⟨3, ![1, 28, 128]⟩
abbrev S32x512 : Shape := ⟨2, ![32, 512]⟩
abbrev S4x512 : Shape := ⟨2, ![4, 512]⟩
abbrev S4x128 : Shape := ⟨2, ![4, 128]⟩
abbrev S1x128 : Shape := ⟨2, ![1, 128]⟩
abbrev S1x4x128 : Shape := ⟨3, ![1, 4, 128]⟩
abbrev S4 : Shape := ⟨1, ![4]⟩
abbrev S4x1 : Shape := ⟨2, ![4, 1]⟩
abbrev S30x512 : Shape := ⟨2, ![30, 512]⟩

abbrev nBuf : Space → Nat
  | .hbm => 14
  | .vmem => 14
  | .smem => 0
  | _ => 0

abbrev bufTy : (tb : Table) → Fin (tcTables nBuf tb) → BufTy
  | .hbm, ⟨0, _⟩ => ⟨S32x4x2432, .f32⟩
  | .hbm, ⟨1, _⟩ => ⟨S32x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S32x32x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S32x4x512, .f32⟩
  | .hbm, ⟨13, _⟩ => ⟨S32x30x512, .f32⟩
  | .local _ .vmem, ⟨0, _⟩ => ⟨S1x4x1024, .f32⟩
  | .local _ .vmem, ⟨1, _⟩ => ⟨S1x4x1024, .f32⟩
  | .local _ .vmem, ⟨2, _⟩ => ⟨S1x32x512, .f32⟩
  | .local _ .vmem, ⟨3, _⟩ => ⟨S1x32x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x4x512, .f32⟩
  | .local _ .vmem, ⟨9, _⟩ => ⟨S1x4x512, .f32⟩
  | .local _ .vmem, ⟨10, _⟩ => ⟨S1x30x512, .f32⟩
  | .local _ .vmem, ⟨11, _⟩ => ⟨S1x30x512, .f32⟩
  | .local _ .vmem, ⟨12, _⟩ => ⟨S36x512, .f32⟩
  | .local _ .vmem, ⟨13, _⟩ => ⟨S1x28x128, .f32⟩
  | _, _ => ⟨S32x4x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_506 : BitVec 32 := 0#32
  let v695 : BitVec 1 := Scalar.cmpi .eq arg1 c0_i32_506
  let v696 : BitVec 32 := Scalar.extui v695
  let c0_i32_507 : BitVec 32 := 0#32
  let v697 : BitVec 1 := Scalar.cmpi .ne v696 c0_i32_507
  v697

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvSRefIdeal.lean ====
abbrev S32x4x2432 : Shape := ⟨3, ![32, 4, 2432]⟩
abbrev S32x30x512 : Shape := ⟨3, ![32, 30, 512]⟩
abbrev S31x512 : Shape := ⟨2, ![31, 512]⟩
abbrev S512 : Shape := ⟨1, ![512]⟩
abbrev S32x4x1024 : Shape := ⟨3, ![32, 4, 1024]⟩
abbrev S32x4x512 : Shape := ⟨3, ![32, 4, 512]⟩
abbrev S_ : Shape := ⟨0, ![]⟩
abbrev S32x34x512 : Shape := ⟨3, ![32, 34, 512]⟩

abbrev nBuf : Space → Nat
  | .hbm => 20
  | .vmem => 0
  | .smem => 0
  | _ => 0

abbrev bufTy : (tb : Table) → Fin (tcTables nBuf tb) → BufTy
  | .hbm, ⟨0, _⟩ => ⟨S32x4x2432, .f32⟩
  | .hbm, ⟨1, _⟩ => ⟨S32x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S32x4x1024, .f32⟩
  | .hbm, ⟨7, _⟩ => ⟨S32x4x512, .f32⟩
  | .hbm, ⟨8, _⟩ => ⟨S32x4x512, .f32⟩
  | .hbm, ⟨9, _⟩ => ⟨S32x4x512, .f32⟩
  | .hbm, ⟨10, _⟩ => ⟨S32x4x512, .f32⟩
  | .hbm, ⟨11, _⟩ => ⟨S_, .f32⟩
  | .hbm, ⟨12, _⟩ => ⟨S32x4x512, .f32⟩
  | .hbm, ⟨13, _⟩ => ⟨S32x4x512, .f32⟩
  | .hbm, ⟨14, _⟩ => ⟨S_, .f32⟩
  | .hbm, ⟨15, _⟩ => ⟨S32x4x512, .f32⟩
  | .hbm, ⟨16, _⟩ => ⟨S32x4x512, .f32⟩
  | .hbm, ⟨17, _⟩ => ⟨S32x4x512, .f32⟩
  | .hbm, ⟨18, _⟩ => ⟨S32x34x512, .f32⟩
  | .hbm, ⟨19, _⟩ => ⟨S32x30x512, .f32⟩
  | _, _ => ⟨S32x4x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== HgrnS.lean ====
abbrev S32x4x4096 : Shape := ⟨3, ![32, 4, 4096]⟩
abbrev S32x8x128x128 : Shape := ⟨4, ![32, 8, 128, 128]⟩
abbrev S1024 : Shape := ⟨1, ![1024]⟩
abbrev S128 : Shape := ⟨1, ![128]⟩
abbrev S_ : Shape := ⟨0, ![]⟩
abbrev S32x64x4096 : Shape := ⟨3, ![32, 64, 4096]⟩
abbrev S64x64 : Shape := ⟨2, ![64, 64]⟩
abbrev S1x64x64 : Shape := ⟨3, ![1, 64, 64]⟩
abbrev S7x64x64 : Shape := ⟨3, ![7, 64, 64]⟩
abbrev S1x1024 : Shape := ⟨2, ![1, 1024]⟩
abbrev S1x128 : Shape := ⟨2, ![1, 128]⟩
abbrev S32x64x1024 : Shape := ⟨3, ![32, 64, 1024]⟩
abbrev S1x64x1024 : Shape := ⟨3, ![1, 64, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x1 : Shape := ⟨2, ![64, 1]⟩
abbrev S8x1 : Shape := ⟨2, ![8, 1]⟩
abbrev S1x64x128 : Shape := ⟨3, ![1, 64, 128]⟩
abbrev S64x128 : Shape := ⟨2, ![64, 128]⟩
abbrev S64x256 : Shape := ⟨2, ![64, 256]⟩
abbrev S32x128 : Shape := ⟨2, ![32, 128]⟩
abbrev S16x128 : Shape := ⟨2, ![16, 128]⟩
abbrev S8x128 : Shape := ⟨2, ![8, 128]⟩
abbrev S128x64 : Shape := ⟨2, ![128, 64]⟩
abbrev S64 : Shape := ⟨1, ![64]⟩

abbrev nBuf : Space → Nat
  | .hbm => 598
  | .vmem => 19
  | .smem => 0
  | _ => 0

abbrev hbmTy0_0 (i : Nat) : BufTy := match i % 128 with
  | 0 => ⟨S32x4x4096, .f32⟩
  | 1 => ⟨S32x8x128x128, .f32⟩
  | 2 => ⟨S1024, .f32⟩
  | 3 => ⟨S128, .f32⟩
  | 4 => ⟨S_, .i32⟩
  | 5 => ⟨S_, .f32⟩
  | 6 => ⟨S32x64x4096, .f32⟩
  | 7 => ⟨S64x64, .i32⟩
  | 8 => ⟨S64x64, .i32⟩
  | 9 => ⟨S_, .i32⟩
  | 10 => ⟨S_, .i32⟩
  | 11 => ⟨S64x64, .i32⟩
  | 12 => ⟨S64x64, .i32⟩
  | 13 => ⟨S64x64, .i32⟩
  | 14 => ⟨S_, .i32⟩
  | 15 => ⟨S64x64, .i32⟩
  | 16 => ⟨S64x64, .i1⟩
  | 17 => ⟨S64x64, .i32⟩
  | 18 => ⟨S64x64, .i32⟩
  | 19 => ⟨S_, .i32⟩
  | 20 => ⟨S64x64, .i32⟩
  | 21 => ⟨S64x64, .i1⟩
  | 22 => ⟨S64x64, .i1⟩
  | 23 => ⟨S_, .i32⟩
  | 24 => ⟨S64x64, .i32⟩
  | 25 => ⟨S64x64, .i32⟩
  | 26 => ⟨S64x64, .i32⟩
  | 27 => ⟨S_, .i32⟩
  | 28 => ⟨S_, .i32⟩
  | 29 => ⟨S64x64, .i32⟩
  | 30 => ⟨S64x64, .i32⟩
  | 31 => ⟨S64x64, .i32⟩
  | 32 => ⟨S_, .i32⟩
  | 33 => ⟨S64x64, .i32⟩
  | 34 => ⟨S64x64, .i1⟩
  | 35 => ⟨S64x64, .i32⟩
  | 36 => ⟨S64x64, .i32⟩
  | 37 => ⟨S_, .i32⟩
  | 38 => ⟨S64x64, .i32⟩
  | 39 => ⟨S64x64, .i1⟩
  | 40 => ⟨S64x64, .i1⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i1⟩
  | 57 => ⟨S_, .i32⟩
  | 58 => ⟨S64x64, .i32⟩
  | 59 => ⟨S64x64, .i1⟩
  | 60 => ⟨S_, .i32⟩
  | 61 => ⟨S_, .i1⟩
  | 62 => ⟨S64x64, .i1⟩
  | 63 => ⟨S64x64, .i1⟩
  | 64 => ⟨S64x64, .i1⟩
  | 65 => ⟨S64x64, .i32⟩
  | 66 => ⟨S64x64, .i32⟩
  | 67 => ⟨S64x64, .i32⟩
  | 68 => ⟨S_, .i32⟩
  | 69 => ⟨S64x64, .i32⟩
  | 70 => ⟨S64x64, .i1⟩
  | 71 => ⟨S64x64, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S64x64, .i32⟩
  | 79 => ⟨S64x64, .i32⟩
  | 80 => ⟨S_, .i32⟩
  | 81 => ⟨S64x64, .i32⟩
  | 82 => ⟨S64x64, .i1⟩
  | 83 => ⟨S_, .i32⟩
  | 84 => ⟨S64x64, .i32⟩
  | 85 => ⟨S64x64, .i1⟩
  | 86 => ⟨S_, .i32⟩
  | 87 => ⟨S_, .i1⟩
  | 88 => ⟨S64x64, .i1⟩
  | 89 => ⟨S64x64, .i1⟩
  | 90 => ⟨S64x64, .i1⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i1⟩
  | 97 => ⟨S64x64, .i1⟩
  | 98 => ⟨S_, .f32⟩
  | 99 => ⟨S_, .f32⟩
  | 100 => ⟨S64x64, .f32⟩
  | 101 => ⟨S64x64, .f32⟩
  | 102 => ⟨S64x64, .f32⟩
  | 103 => ⟨S_, .i32⟩
  | 104 => ⟨S_, .i32⟩
  | 105 => ⟨S64x64, .i32⟩
  | 106 => ⟨S64x64, .i32⟩
  | 107 => ⟨S64x64, .i32⟩
  | 108 => ⟨S_, .i32⟩
  | 109 => ⟨S64x64, .i32⟩
  | 110 => ⟨S64x64, .i1⟩
  | 111 => ⟨S64x64, .i32⟩
  | 112 => ⟨S64x64, .i32⟩
  | 113 => ⟨S_, .i32⟩
  | 114 => ⟨S64x64, .i32⟩
  | 115 => ⟨S64x64, .i1⟩
  | 116 => ⟨S64x64, .i1⟩
  | 117 => ⟨S_, .i32⟩
  | 118 => ⟨S64x64, .i32⟩
  | 119 => ⟨S64x64, .i32⟩
  | 120 => ⟨S64x64, .i32⟩
  | 121 => ⟨S_, .i32⟩
  | 122 => ⟨S_, .i32⟩
  | 123 => ⟨S64x64, .i32⟩
  | 124 => ⟨S64x64, .i32⟩
  | 125 => ⟨S64x64, .i32⟩
  | 126 => ⟨S_, .i32⟩
  | 127 => ⟨S64x64, .i32⟩
  | _ => ⟨S32x4x4096, .f32⟩

abbrev hbmTy0_1 (i : Nat) : BufTy := match i % 128 with
  | 0 => ⟨S64x64, .i1⟩
  | 1 => ⟨S64x64, .i32⟩
  | 2 => ⟨S64x64, .i32⟩
  | 3 => ⟨S_, .i32⟩
  | 4 => ⟨S64x64, .i32⟩
  | 5 => ⟨S64x64, .i1⟩
  | 6 => ⟨S64x64, .i1⟩
  | 7 => ⟨S_, .i32⟩
  | 8 => ⟨S64x64, .i32⟩
  | 9 => ⟨S64x64, .i32⟩
  | 10 => ⟨S64x64, .i32⟩
  | 11 => ⟨S64x64, .i1⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S64x64, .i32⟩
  | 19 => ⟨S64x64, .i32⟩
  | 20 => ⟨S_, .i32⟩
  | 21 => ⟨S64x64, .i32⟩
  | 22 => ⟨S64x64, .i1⟩
  | 23 => ⟨S_, .i32⟩
  | 24 => ⟨S64x64, .i32⟩
  | 25 => ⟨S64x64, .i1⟩
  | 26 => ⟨S_, .i32⟩
  | 27 => ⟨S_, .i1⟩
  | 28 => ⟨S64x64, .i1⟩
  | 29 => ⟨S64x64, .i1⟩
  | 30 => ⟨S64x64, .i1⟩
  | 31 => ⟨S64x64, .i32⟩
  | 32 => ⟨S64x64, .i32⟩
  | 33 => ⟨S64x64, .i32⟩
  | 34 => ⟨S_, .i32⟩
  | 35 => ⟨S64x64, .i32⟩
  | 36 => ⟨S64x64, .i1⟩
  | 37 => ⟨S64x64, .i1⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S64x64, .i32⟩
  | 45 => ⟨S64x64, .i32⟩
  | 46 => ⟨S_, .i32⟩
  | 47 => ⟨S64x64, .i32⟩
  | 48 => ⟨S64x64, .i1⟩
  | 49 => ⟨S_, .i32⟩
  | 50 => ⟨S64x64, .i32⟩
  | 51 => ⟨S64x64, .i1⟩
  | 52 => ⟨S_, .i32⟩
  | 53 => ⟨S_, .i1⟩
  | 54 => ⟨S64x64, .i1⟩
  | 55 => ⟨S64x64, .i1⟩
  | 56 => ⟨S64x64, .i1⟩
  | 57 => ⟨S64x64, .i32⟩
  | 58 => ⟨S64x64, .i32⟩
  | 59 => ⟨S64x64, .i32⟩
  | 60 => ⟨S_, .i32⟩
  | 61 => ⟨S64x64, .i32⟩
  | 62 => ⟨S64x64, .i1⟩
  | 63 => ⟨S64x64, .i1⟩
  | 64 => ⟨S_, .f32⟩
  | 65 => ⟨S_, .f32⟩
  | 66 => ⟨S64x64, .f32⟩
  | 67 => ⟨S64x64, .f32⟩
  | 68 => ⟨S64x64, .f32⟩
  | 69 => ⟨S_, .i32⟩
  | 70 => ⟨S_, .i32⟩
  | 71 => ⟨S64x64, .i32⟩
  | 72 => ⟨S64x64, .i32⟩
  | 73 => ⟨S64x64, .i32⟩
  | 74 => ⟨S_, .i32⟩
  | 75 => ⟨S64x64, .i32⟩
  | 76 => ⟨S64x64, .i1⟩
  | 77 => ⟨S64x64, .i32⟩
  | 78 => ⟨S64x64, .i32⟩
  | 79 => ⟨S_, .i32⟩
  | 80 => ⟨S64x64, .i32⟩
  | 81 => ⟨S64x64, .i1⟩
  | 82 => ⟨S64x64, .i1⟩
  | 83 => ⟨S_, .i32⟩
  | 84 => ⟨S64x64, .i32⟩
  | 85 => ⟨S64x64, .i32⟩
  | 86 => ⟨S64x64, .i32⟩
  | 87 => ⟨S_, .i32⟩
  | 88 => ⟨S_, .i32⟩
  | 89 => ⟨S64x64, .i32⟩
  | 90 => ⟨S64x64, .i32⟩
  | 91 => ⟨S64x64, .i32⟩
  | 92 => ⟨S_, .i32⟩
  | 93 => ⟨S64x64, .i32⟩
  | 94 => ⟨S64x64, .i1⟩
  | 95 => ⟨S64x64, .i32⟩
  | 96 => ⟨S64x64, .i32⟩
  | 97 => ⟨S_, .i32⟩
  | 98 => ⟨S64x64, .i32⟩
  | 99 => ⟨S64x64, .i1⟩
  | 100 => ⟨S64x64, .i1⟩
  | 101 => ⟨S_, .i32⟩
  | 102 => ⟨S64x64, .i32⟩
  | 103 => ⟨S64x64, .i32⟩
  | 104 => ⟨S64x64, .i32⟩
  | 105 => ⟨S64x64, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S64x64, .i32⟩
  | 113 => ⟨S64x64, .i32⟩
  | 114 => ⟨S_, .i32⟩
  | 115 => ⟨S64x64, .i32⟩
  | 116 => ⟨S64x64, .i1⟩
  | 117 => ⟨S_, .i32⟩
  | 118 => ⟨S64x64, .i32⟩
  | 119 => ⟨S64x64, .i1⟩
  | 120 => ⟨S_, .i32⟩
  | 121 => ⟨S_, .i1⟩
  | 122 => ⟨S64x64, .i1⟩
  | 123 => ⟨S64x64, .i1⟩
  | 124 => ⟨S64x64, .i1⟩
  | 125 => ⟨S64x64, .i32⟩
  | 126 => ⟨S64x64, .i32⟩
  | 127 => ⟨S64x64, .i32⟩
  | _ => ⟨S32x4x4096, .f32⟩

abbrev hbmTy0_2 (i : Nat) : BufTy := match i % 128 with
  | 0 => ⟨S_, .i32⟩
  | 1 => ⟨S64x64, .i32⟩
  | 2 => ⟨S64x64, .i1⟩
  | 3 => ⟨S64x64, .i1⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i1⟩
  | 15 => ⟨S_, .i32⟩
  | 16 => ⟨S64x64, .i32⟩
  | 17 => ⟨S64x64, .i1⟩
  | 18 => ⟨S_, .i32⟩
  | 19 => ⟨S_, .i1⟩
  | 20 => ⟨S64x64, .i1⟩
  | 21 => ⟨S64x64, .i1⟩
  | 22 => ⟨S64x64, .i1⟩
  | 23 => ⟨S64x64, .i32⟩
  | 24 => ⟨S64x64, .i32⟩
  | 25 => ⟨S64x64, .i32⟩
  | 26 => ⟨S_, .i32⟩
  | 27 => ⟨S64x64, .i32⟩
  | 28 => ⟨S64x64, .i1⟩
  | 29 => ⟨S64x64, .i1⟩
  | 30 => ⟨S_, .f32⟩
  | 31 => ⟨S_, .f32⟩
  | 32 => ⟨S64x64, .f32⟩
  | 33 => ⟨S64x64, .f32⟩
  | 34 => ⟨S64x64, .f32⟩
  | 35 => ⟨S_, .i32⟩
  | 36 => ⟨S_, .i32⟩
  | 37 => ⟨S64x64, .i32⟩
  | 38 => ⟨S64x64, .i32⟩
  | 39 => ⟨S64x64, .i32⟩
  | 40 => ⟨S_, .i32⟩
  | 41 => ⟨S64x64, .i32⟩
  | 42 => ⟨S64x64, .i1⟩
  | 43 => ⟨S64x64, .i32⟩
  | 44 => ⟨S64x64, .i32⟩
  | 45 => ⟨S_, .i32⟩
  | 46 => ⟨S64x64, .i32⟩
  | 47 => ⟨S64x64, .i1⟩
  | 48 => ⟨S64x64, .i1⟩
  | 49 => ⟨S_, .i32⟩
  | 50 => ⟨S64x64, .i32⟩
  | 51 => ⟨S64x64, .i32⟩
  | 52 => ⟨S64x64, .i32⟩
  | 53 => ⟨S_, .i32⟩
  | 54 => ⟨S_, .i32⟩
  | 55 => ⟨S64x64, .i32⟩
  | 56 => ⟨S64x64, .i32⟩
  | 57 => ⟨S64x64, .i32⟩
  | 58 => ⟨S_, .i32⟩
  | 59 => ⟨S64x64, .i32⟩
  | 60 => ⟨S64x64, .i1⟩
  | 61 => ⟨S64x64, .i32⟩
  | 62 => ⟨S64x64, .i32⟩
  | 63 => ⟨S_, .i32⟩
  | 64 => ⟨S64x64, .i32⟩
  | 65 => ⟨S64x64, .i1⟩
  | 66 => ⟨S64x64, .i1⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S64x64, .i32⟩
  | 79 => ⟨S64x64, .i32⟩
  | 80 => ⟨S_, .i32⟩
  | 81 => ⟨S64x64, .i32⟩
  | 82 => ⟨S64x64, .i1⟩
  | 83 => ⟨S_, .i32⟩
  | 84 => ⟨S64x64, .i32⟩
  | 85 => ⟨S64x64, .i1⟩
  | 86 => ⟨S_, .i32⟩
  | 87 => ⟨S_, .i1⟩
  | 88 => ⟨S64x64, .i1⟩
  | 89 => ⟨S64x64, .i1⟩
  | 90 => ⟨S64x64, .i1⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i1⟩
  | 97 => ⟨S64x64, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i1⟩
  | 109 => ⟨S_, .i32⟩
  | 110 => ⟨S64x64, .i32⟩
  | 111 => ⟨S64x64, .i1⟩
  | 112 => ⟨S_, .i32⟩
  | 113 => ⟨S_, .i1⟩
  | 114 => ⟨S64x64, .i1⟩
  | 115 => ⟨S64x64, .i1⟩
  | 116 => ⟨S64x64, .i1⟩
  | 117 => ⟨S64x64, .i32⟩
  | 118 => ⟨S64x64, .i32⟩
  | 119 => ⟨S64x64, .i32⟩
  | 120 => ⟨S_, .i32⟩
  | 121 => ⟨S64x64, .i32⟩
  | 122 => ⟨S64x64, .i1⟩
  | 123 => ⟨S64x64, .i1⟩
  | 124 => ⟨S_, .f32⟩
  | 125 => ⟨S_, .f32⟩
  | 126 => ⟨S64x64, .f32⟩
  | 127 => ⟨S64x64, .f32⟩
  | _ => ⟨S32x4x4096, .f32⟩

abbrev hbmTy0_3 (i : Nat) : BufTy := match i % 128 with
  | 0 => ⟨S64x64, .f32⟩
  | 1 => ⟨S_, .i32⟩
  | 2 => ⟨S_, .i32⟩
  | 3 => ⟨S64x64, .i32⟩
  | 4 => ⟨S64x64, .i32⟩
  | 5 => ⟨S64x64, .i32⟩
  | 6 => ⟨S_, .i32⟩
  | 7 => ⟨S64x64, .i32⟩
  | 8 => ⟨S64x64, .i1⟩
  | 9 => ⟨S64x64, .i32⟩
  | 10 => ⟨S64x64, .i32⟩
  | 11 => ⟨S_, .i32⟩
  | 12 => ⟨S64x64, .i32⟩
  | 13 => ⟨S64x64, .i1⟩
  | 14 => ⟨S64x64, .i1⟩
  | 15 => ⟨S_, .i32⟩
  | 16 => ⟨S64x64, .i32⟩
  | 17 => ⟨S64x64, .i32⟩
  | 18 => ⟨S64x64, .i32⟩
  | 19 => ⟨S_, .i32⟩
  | 20 => ⟨S_, .i32⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i1⟩
  | 27 => ⟨S64x64, .i32⟩
  | 28 => ⟨S64x64, .i32⟩
  | 29 => ⟨S_, .i32⟩
  | 30 => ⟨S64x64, .i32⟩
  | 31 => ⟨S64x64, .i1⟩
  | 32 => ⟨S64x64, .i1⟩
  | 33 => ⟨S_, .i32⟩
  | 34 => ⟨S64x64, .i32⟩
  | 35 => ⟨S64x64, .i32⟩
  | 36 => ⟨S64x64, .i32⟩
  | 37 => ⟨S64x64, .i1⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S64x64, .i32⟩
  | 45 => ⟨S64x64, .i32⟩
  | 46 => ⟨S_, .i32⟩
  | 47 => ⟨S64x64, .i32⟩
  | 48 => ⟨S64x64, .i1⟩
  | 49 => ⟨S_, .i32⟩
  | 50 => ⟨S64x64, .i32⟩
  | 51 => ⟨S64x64, .i1⟩
  | 52 => ⟨S_, .i32⟩
  | 53 => ⟨S_, .i1⟩
  | 54 => ⟨S64x64, .i1⟩
  | 55 => ⟨S64x64, .i1⟩
  | 56 => ⟨S64x64, .i1⟩
  | 57 => ⟨S64x64, .i32⟩
  | 58 => ⟨S64x64, .i32⟩
  | 59 => ⟨S64x64, .i32⟩
  | 60 => ⟨S_, .i32⟩
  | 61 => ⟨S64x64, .i32⟩
  | 62 => ⟨S64x64, .i1⟩
  | 63 => ⟨S64x64, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S64x64, .i32⟩
  | 71 => ⟨S64x64, .i32⟩
  | 72 => ⟨S_, .i32⟩
  | 73 => ⟨S64x64, .i32⟩
  | 74 => ⟨S64x64, .i1⟩
  | 75 => ⟨S_, .i32⟩
  | 76 => ⟨S64x64, .i32⟩
  | 77 => ⟨S64x64, .i1⟩
  | 78 => ⟨S_, .i32⟩
  | 79 => ⟨S_, .i1⟩
  | 80 => ⟨S64x64, .i1⟩
  | 81 => ⟨S64x64, .i1⟩
  | 82 => ⟨S64x64, .i1⟩
  | 83 => ⟨S64x64, .i32⟩
  | 84 => ⟨S64x64, .i32⟩
  | 85 => ⟨S64x64, .i32⟩
  | 86 => ⟨S_, .i32⟩
  | 87 => ⟨S64x64, .i32⟩
  | 88 => ⟨S64x64, .i1⟩
  | 89 => ⟨S64x64, .i1⟩
  | 90 => ⟨S_, .f32⟩
  | 91 => ⟨S_, .f32⟩
  | 92 => ⟨S64x64, .f32⟩
  | 93 => ⟨S64x64, .f32⟩
  | 94 => ⟨S64x64, .f32⟩
  | 95 => ⟨S_, .i32⟩
  | 96 => ⟨S_, .i32⟩
  | 97 => ⟨S64x64, .i32⟩
  | 98 => ⟨S64x64, .i32⟩
  | 99 => ⟨S64x64, .i32⟩
  | 100 => ⟨S_, .i32⟩
  | 101 => ⟨S64x64, .i32⟩
  | 102 => ⟨S64x64, .i1⟩
  | 103 => ⟨S64x64, .i32⟩
  | 104 => ⟨S64x64, .i32⟩
  | 105 => ⟨S_, .i32⟩
  | 106 => ⟨S64x64, .i32⟩
  | 107 => ⟨S64x64, .i1⟩
  | 108 => ⟨S64x64, .i1⟩
  | 109 => ⟨S_, .i32⟩
  | 110 => ⟨S64x64, .i32⟩
  | 111 => ⟨S64x64, .i32⟩
  | 112 => ⟨S64x64, .i32⟩
  | 113 => ⟨S_, .i32⟩
  | 114 => ⟨S_, .i32⟩
  | 115 => ⟨S64x64, .i32⟩
  | 116 => ⟨S64x64, .i32⟩
  | 117 => ⟨S64x64, .i32⟩
  | 118 => ⟨S_, .i32⟩
  | 119 => ⟨S64x64, .i32⟩
  | 120 => ⟨S64x64, .i1⟩
  | 121 => ⟨S64x64, .i32⟩
  | 122 => ⟨S64x64, .i32⟩
  | 123 => ⟨S_, .i32⟩
  | 124 => ⟨S64x64, .i32⟩
  | 125 => ⟨S64x64, .i1⟩
  | 126 => ⟨S64x64, .i1⟩
  | 127 => ⟨S_, .i32⟩
  | _ => ⟨S32x4x4096, .f32⟩

abbrev hbmTy0_4 (i : Nat) : BufTy := match i % 128 with
  | 0 => ⟨S64x64, .i32⟩
  | 1 => ⟨S64x64, .i32⟩
  | 2 => ⟨S64x64, .i32⟩
  | 3 => ⟨S64x64, .i1⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i1⟩
  | 15 => ⟨S_, .i32⟩
  | 16 => ⟨S64x64, .i32⟩
  | 17 => ⟨S64x64, .i1⟩
  | 18 => ⟨S_, .i32⟩
  | 19 => ⟨S_, .i1⟩
  | 20 => ⟨S64x64, .i1⟩
  | 21 => ⟨S64x64, .i1⟩
  | 22 => ⟨S64x64, .i1⟩
  | 23 => ⟨S64x64, .i32⟩
  | 24 => ⟨S64x64, .i32⟩
  | 25 => ⟨S64x64, .i32⟩
  | 26 => ⟨S_, .i32⟩
  | 27 => ⟨S64x64, .i32⟩
  | 28 => ⟨S64x64, .i1⟩
  | 29 => ⟨S64x64, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S64x64, .i32⟩
  | 37 => ⟨S64x64, .i32⟩
  | 38 => ⟨S_, .i32⟩
  | 39 => ⟨S64x64, .i32⟩
  | 40 => ⟨S64x64, .i1⟩
  | 41 => ⟨S_, .i32⟩
  | 42 => ⟨S64x64, .i32⟩
  | 43 => ⟨S64x64, .i1⟩
  | 44 => ⟨S_, .i32⟩
  | 45 => ⟨S_, .i1⟩
  | 46 => ⟨S64x64, .i1⟩
  | 47 => ⟨S64x64, .i1⟩
  | 48 => ⟨S64x64, .i1⟩
  | 49 => ⟨S64x64, .i32⟩
  | 50 => ⟨S64x64, .i32⟩
  | 51 => ⟨S64x64, .i32⟩
  | 52 => ⟨S_, .i32⟩
  | 53 => ⟨S64x64, .i32⟩
  | 54 => ⟨S64x64, .i1⟩
  | 55 => ⟨S64x64, .i1⟩
  | 56 => ⟨S_, .f32⟩
  | 57 => ⟨S_, .f32⟩
  | 58 => ⟨S64x64, .f32⟩
  | 59 => ⟨S64x64, .f32⟩
  | 60 => ⟨S64x64, .f32⟩
  | 61 => ⟨S64x64, .i1⟩
  | 62 => ⟨S_, .f32⟩
  | 63 => ⟨S_, .f32⟩
  | 64 => ⟨S64x64, .f32⟩
  | 65 => ⟨S64x64, .f32⟩
  | 66 => ⟨S64x64, .f32⟩
  | 67 => ⟨S64x64, .i1⟩
  | 68 => ⟨S_, .f32⟩
  | 69 => ⟨S_, .f32⟩
  | 70 => ⟨S64x64, .f32⟩
  | 71 => ⟨S64x64, .f32⟩
  | 72 => ⟨S64x64, .f32⟩
  | 73 => ⟨S1x64x64, .f32⟩
  | 74 => ⟨S1x64x64, .f32⟩
  | 75 => ⟨S1x64x64, .f32⟩
  | 76 => ⟨S1x64x64, .f32⟩
  | 77 => ⟨S1x64x64, .f32⟩
  | 78 => ⟨S1x64x64, .f32⟩
  | 79 => ⟨S1x64x64, .f32⟩
  | 80 => ⟨S7x64x64, .f32⟩
  | 81 => ⟨S1x1024, .f32⟩
  | 82 => ⟨S1x128, .f32⟩
  | 83 => ⟨S64x64, .bf16⟩
  | 84 => ⟨S32x64x1024, .f32⟩
  | 85 => ⟨S32x8x128x128, .f32⟩
  | _ => ⟨S32x4x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x4x4096, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S64x64, .bf16⟩
  | .local _ .vmem, ⟨13, _⟩ => ⟨S7x64x64, .f32⟩
  | .local _ .vmem, ⟨14, _⟩ => ⟨S1x64x1024, .f32⟩
  | .local _ .vmem, ⟨15, _⟩ => ⟨S1x64x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S8x128x128, .f32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v3 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v4 : Ref sig .tc := ⟨.hbm, 44, rfl⟩
abbrev main_v5 : Ref sig .tc := ⟨.hbm, 45, rfl⟩
abbrev main_c_2 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_1 : Ref sig .tc := ⟨.hbm, 54, rfl⟩
abbrev main_call3_v5 : Ref sig .tc := ⟨.hbm, 55, rfl⟩
abbrev main_call3_v6 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_c_3 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_v6 : Ref sig .tc := ⟨.hbm, 67, rfl⟩
abbrev main_c_3 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_c_4 : Ref sig .tc := ⟨.hbm, 72, rfl⟩
abbrev main_call4_v0 : Ref sig .tc := ⟨.hbm, 73, rfl⟩
abbrev main_call4_c : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_v5 : Ref sig .tc := ⟨.hbm, 81, rfl⟩
abbrev main_call4_v6 : Ref sig .tc := ⟨.hbm, 82, rfl⟩
abbrev main_call4_c_2 : Ref sig .tc := ⟨.hbm, 83, rfl⟩
abbrev main_call4_v7 : Ref sig .tc := ⟨.hbm, 84, rfl⟩
abbrev main_call4_v8 : Ref sig .tc := ⟨.hbm, 85, rfl⟩
abbrev main_call4_c_3 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_v10 : Ref sig .tc := ⟨.hbm, 93, rfl⟩
abbrev main_c_5 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_cst : Ref sig .tc := ⟨.hbm, 98, rfl⟩
abbrev main_cst_6 : Ref sig .tc := ⟨.hbm, 99, rfl⟩
abbrev main_call5_v0 : Ref sig .tc := ⟨.hbm, 100, rfl⟩
abbrev main_call5_v1 : Ref sig .tc := ⟨.hbm, 101, rfl⟩
abbrev main_v14 : Ref sig .tc := ⟨.hbm, 102, rfl⟩
abbrev main_c_7 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_v5 : Ref sig .tc := ⟨.hbm, 109, rfl⟩
abbrev main_call6_v6 : Ref sig .tc := ⟨.hbm, 110, rfl⟩
abbrev main_call6_v7 : Ref sig .tc := ⟨.hbm, 111, rfl⟩
abbrev main_call6_v8 : Ref sig .tc := ⟨.hbm, 112, rfl⟩
abbrev main_call6_c : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_0 : Ref sig .tc := ⟨.hbm, 117, rfl⟩
abbrev main_call6_v12 : Ref sig .tc := ⟨.hbm, 118, rfl⟩
abbrev main_call6_v13 : Ref sig .tc := ⟨.hbm, 119, rfl⟩
abbrev main_v15 : Ref sig .tc := ⟨.hbm, 120, rfl⟩
abbrev main_c_8 : Ref sig .tc := ⟨.hbm, 121, rfl⟩
abbrev main_call7_v0 : Ref sig .tc := ⟨.hbm, 122, rfl⟩
abbrev main_call7_v1 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_call7_v5 : Ref sig .tc := ⟨.hbm, 127, rfl⟩
abbrev main_call7_v6 : Ref sig .tc := ⟨.hbm, 128, rfl⟩
abbrev main_call7_v7 : Ref sig .tc := ⟨.hbm, 129, rfl⟩
abbrev main_call7_v8 : Ref sig .tc := ⟨.hbm, 130, rfl⟩
abbrev main_call7_c : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_0 : Ref sig .tc := ⟨.hbm, 135, rfl⟩
abbrev main_call7_v12 : Ref sig .tc := ⟨.hbm, 136, rfl⟩
abbrev main_call7_v13 : Ref sig .tc := ⟨.hbm, 137, rfl⟩
abbrev main_v16 : Ref sig .tc := ⟨.hbm, 138, rfl⟩
abbrev main_v17 : Ref sig .tc := ⟨.hbm, 139, rfl⟩
abbrev main_c_9 : Ref sig .tc := ⟨.hbm, 140, rfl⟩
abbrev main_call8_v0 : Ref sig .tc := ⟨.hbm, 141, rfl⟩
abbrev main_call8_c : Ref sig .tc := ⟨.hbm, 142, rfl⟩
abbrev main_call8_v1 : Ref sig .tc := ⟨.hbm, 143, rfl⟩
abbrev main_call8_c_0 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_call8_c_1 : Ref sig .tc := ⟨.hbm, 148, rfl⟩
abbrev main_call8_v5 : Ref sig .tc := ⟨.hbm, 149, rfl⟩
abbrev main_call8_v6 : Ref sig .tc := ⟨.hbm, 150, rfl⟩
abbrev main_call8_c_2 : Ref sig .tc := ⟨.hbm, 151, rfl⟩
abbrev main_call8_v7 : Ref sig .tc := ⟨.hbm, 152, rfl⟩
abbrev main_call8_v8 : Ref sig .tc := ⟨.hbm, 153, rfl⟩
abbrev main_call8_c_3 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_v12 : Ref sig .tc := ⟨.hbm, 158, rfl⟩
abbrev main_call8_v13 : Ref sig .tc := ⟨.hbm, 159, rfl⟩
abbrev main_call8_v14 : Ref sig .tc := ⟨.hbm, 160, rfl⟩
abbrev main_v18 : Ref sig .tc := ⟨.hbm, 161, rfl⟩
abbrev main_c_10 : Ref sig .tc := ⟨.hbm, 162, rfl⟩
abbrev main_v19 : Ref sig .tc := ⟨.hbm, 163, rfl⟩
abbrev main_v20 : Ref sig .tc := ⟨.hbm, 164, rfl⟩
abbrev main_v21 : Ref sig .tc := ⟨.hbm, 165, rfl⟩
abbrev main_c_11 : Ref sig .tc := ⟨.hbm, 166, rfl⟩
abbrev main_call9_v0 : Ref sig .tc := ⟨.hbm, 167, rfl⟩
abbrev main_call9_c : Ref sig .tc := ⟨.hbm, 168, rfl⟩
abbrev main_call9_v1 : Ref sig .tc := ⟨.hbm, 169, rfl⟩
abbrev main_call9_c_0 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_c_1 : Ref sig .tc := ⟨.hbm, 174, rfl⟩
abbrev main_call9_v5 : Ref sig .tc := ⟨.hbm, 175, rfl⟩
abbrev main_call9_v6 : Ref sig .tc := ⟨.hbm, 176, rfl⟩
abbrev main_call9_c_2 : Ref sig .tc := ⟨.hbm, 177, rfl⟩
abbrev main_call9_v7 : Ref sig .tc := ⟨.hbm, 178, rfl⟩
abbrev main_call9_v8 : Ref sig .tc := ⟨.hbm, 179, rfl⟩
abbrev main_call9_c_3 : Ref sig .tc := ⟨.hbm, 180, rfl⟩
abbrev main_call9_v9 : Ref sig .tc := ⟨.hbm, 181, rfl⟩
abbrev main_call9_v10 : Ref sig .tc := ⟨.hbm, 182, rfl⟩
abbrev main_call9_v11 : Ref sig .tc := ⟨.hbm, 183, rfl⟩
abbrev main_call9_v12 : Ref sig .tc := ⟨.hbm, 184, rfl⟩
abbrev main_call9_v13 : Ref sig .tc := ⟨.hbm, 185, rfl⟩
abbrev main_call9_v14 : Ref sig .tc := ⟨.hbm, 186, rfl⟩
abbrev main_v22 : Ref sig .tc := ⟨.hbm, 187, rfl⟩
abbrev main_c_12 : Ref sig .tc := ⟨.hbm, 188, rfl⟩
abbrev main_v23 : Ref sig .tc := ⟨.hbm, 189, rfl⟩
abbrev main_v24 : Ref sig .tc := ⟨.hbm, 190, rfl⟩
abbrev main_v25 : Ref sig .tc := ⟨.hbm, 191, rfl⟩
abbrev main_cst_13 : Ref sig .tc := ⟨.hbm, 192, rfl⟩
abbrev main_cst_14 : Ref sig .tc := ⟨.hbm, 193, rfl⟩
abbrev main_call10_v0 : Ref sig .tc := ⟨.hbm, 194, rfl⟩
abbrev main_call10_v1 : Ref sig .tc := ⟨.hbm, 195, rfl⟩
abbrev main_v26 : Ref sig .tc := ⟨.hbm, 196, rfl⟩
abbrev main_c_15 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_call11_v5 : Ref sig .tc := ⟨.hbm, 203, rfl⟩
abbrev main_call11_v6 : Ref sig .tc := ⟨.hbm, 204, rfl⟩
abbrev main_call11_v7 : Ref sig .tc := ⟨.hbm, 205, rfl⟩
abbrev main_call11_v8 : Ref sig .tc := ⟨.hbm, 206, rfl⟩
abbrev main_call11_c : Ref sig .tc := ⟨.hbm, 207, rfl⟩
abbrev main_call11_v9 : Ref sig .tc := ⟨.hbm, 208, rfl⟩
abbrev main_call11_v10 : Ref sig .tc := ⟨.hbm, 209, rfl⟩
abbrev main_call11_v11 : Ref sig .tc := ⟨.hbm, 210, rfl⟩
abbrev main_call11_c_0 : Ref sig .tc := ⟨.hbm, 211, rfl⟩
abbrev main_call11_v12 : Ref sig .tc := ⟨.hbm, 212, rfl⟩
abbrev main_call11_v13 : Ref sig .tc := ⟨.hbm, 213, rfl⟩
abbrev main_v27 : Ref sig .tc := ⟨.hbm, 214, rfl⟩
abbrev main_c_16 : Ref sig .tc := ⟨.hbm, 215, rfl⟩
abbrev main_call12_v0 : Ref sig .tc := ⟨.hbm, 216, rfl⟩
abbrev main_call12_v1 : Ref sig .tc := ⟨.hbm, 217, rfl⟩
abbrev main_call12_v2 : Ref sig .tc := ⟨.hbm, 218, rfl⟩
abbrev main_call12_v3 : Ref sig .tc := ⟨.hbm, 219, rfl⟩
abbrev main_call12_v4 : Ref sig .tc := ⟨.hbm, 220, rfl⟩
abbrev main_call12_v5 : Ref sig .tc := ⟨.hbm, 221, rfl⟩
abbrev main_call12_v6 : Ref sig .tc := ⟨.hbm, 222, rfl⟩
abbrev main_call12_v7 : Ref sig .tc := ⟨.hbm, 223, rfl⟩
abbrev main_call12_v8 : Ref sig .tc := ⟨.hbm, 224, rfl⟩
abbrev main_call12_c : Ref sig .tc := ⟨.hbm, 225, rfl⟩
abbrev main_call12_v9 : Ref sig .tc := ⟨.hbm, 226, rfl⟩
abbrev main_call12_v10 : Ref sig .tc := ⟨.hbm, 227, rfl⟩
abbrev main_call12_v11 : Ref sig .tc := ⟨.hbm, 228, rfl⟩
abbrev main_call12_c_0 : Ref sig .tc := ⟨.hbm, 229, rfl⟩
abbrev main_call12_v12 : Ref sig .tc := ⟨.hbm, 230, rfl⟩
abbrev main_call12_v13 : Ref sig .tc := ⟨.hbm, 231, rfl⟩
abbrev main_v28 : Ref sig .tc := ⟨.hbm, 232, rfl⟩
abbrev main_v29 : Ref sig .tc := ⟨.hbm, 233, rfl⟩
abbrev main_c_17 : Ref sig .tc := ⟨.hbm, 234, rfl⟩
abbrev main_call13_v0 : Ref sig .tc := ⟨.hbm, 235, rfl⟩
abbrev main_call13_c : Ref sig .tc := ⟨.hbm, 236, rfl⟩
abbrev main_call13_v1 : Ref sig .tc := ⟨.hbm, 237, rfl⟩
abbrev main_call13_c_0 : Ref sig .tc := ⟨.hbm, 238, rfl⟩
abbrev main_call13_v2 : Ref sig .tc := ⟨.hbm, 239, rfl⟩
abbrev main_call13_v3 : Ref sig .tc := ⟨.hbm, 240, rfl⟩
abbrev main_call13_v4 : Ref sig .tc := ⟨.hbm, 241, rfl⟩
abbrev main_call13_c_1 : Ref sig .tc := ⟨.hbm, 242, rfl⟩
abbrev main_call13_v5 : Ref sig .tc := ⟨.hbm, 243, rfl⟩
abbrev main_call13_v6 : Ref sig .tc := ⟨.hbm, 244, rfl⟩
abbrev main_call13_c_2 : Ref sig .tc := ⟨.hbm, 245, rfl⟩
abbrev main_call13_v7 : Ref sig .tc := ⟨.hbm, 246, rfl⟩
abbrev main_call13_v8 : Ref sig .tc := ⟨.hbm, 247, rfl⟩
abbrev main_call13_c_3 : Ref sig .tc := ⟨.hbm, 248, rfl⟩
abbrev main_call13_v9 : Ref sig .tc := ⟨.hbm, 249, rfl⟩
abbrev main_call13_v10 : Ref sig .tc := ⟨.hbm, 250, rfl⟩
abbrev main_call13_v11 : Ref sig .tc := ⟨.hbm, 251, rfl⟩
abbrev main_call13_v12 : Ref sig .tc := ⟨.hbm, 252, rfl⟩
abbrev main_call13_v13 : Ref sig .tc := ⟨.hbm, 253, rfl⟩
abbrev main_call13_v14 : Ref sig .tc := ⟨.hbm, 254, rfl⟩
abbrev main_v30 : Ref sig .tc := ⟨.hbm, 255, rfl⟩
abbrev main_c_18 : Ref sig .tc := ⟨.hbm, 256, rfl⟩
abbrev main_v31 : Ref sig .tc := ⟨.hbm, 257, rfl⟩
abbrev main_v32 : Ref sig .tc := ⟨.hbm, 258, rfl⟩
abbrev main_v33 : Ref sig .tc := ⟨.hbm, 259, rfl⟩
abbrev main_c_19 : Ref sig .tc := ⟨.hbm, 260, rfl⟩
abbrev main_call14_v0 : Ref sig .tc := ⟨.hbm, 261, rfl⟩
abbrev main_call14_c : Ref sig .tc := ⟨.hbm, 262, rfl⟩
abbrev main_call14_v1 : Ref sig .tc := ⟨.hbm, 263, rfl⟩
abbrev main_call14_c_0 : Ref sig .tc := ⟨.hbm, 264, rfl⟩
abbrev main_call14_v2 : Ref sig .tc := ⟨.hbm, 265, rfl⟩
abbrev main_call14_v3 : Ref sig .tc := ⟨.hbm, 266, rfl⟩
abbrev main_call14_v4 : Ref sig .tc := ⟨.hbm, 267, rfl⟩
abbrev main_call14_c_1 : Ref sig .tc := ⟨.hbm, 268, rfl⟩
abbrev main_call14_v5 : Ref sig .tc := ⟨.hbm, 269, rfl⟩
abbrev main_call14_v6 : Ref sig .tc := ⟨.hbm, 270, rfl⟩
abbrev main_call14_c_2 : Ref sig .tc := ⟨.hbm, 271, rfl⟩
abbrev main_call14_v7 : Ref sig .tc := ⟨.hbm, 272, rfl⟩
abbrev main_call14_v8 : Ref sig .tc := ⟨.hbm, 273, rfl⟩
abbrev main_call14_c_3 : Ref sig .tc := ⟨.hbm, 274, rfl⟩
abbrev main_call14_v9 : Ref sig .tc := ⟨.hbm, 275, rfl⟩
abbrev main_call14_v10 : Ref sig .tc := ⟨.hbm, 276, rfl⟩
abbrev main_call14_v11 : Ref sig .tc := ⟨.hbm, 277, rfl⟩
abbrev main_call14_v12 : Ref sig .tc := ⟨.hbm, 278, rfl⟩
abbrev main_call14_v13 : Ref sig .tc := ⟨.hbm, 279, rfl⟩
abbrev main_call14_v14 : Ref sig .tc := ⟨.hbm, 280, rfl⟩
abbrev main_v34 : Ref sig .tc := ⟨.hbm, 281, rfl⟩
abbrev main_c_20 : Ref sig .tc := ⟨.hbm, 282, rfl⟩
abbrev main_v35 : Ref sig .tc := ⟨.hbm, 283, rfl⟩
abbrev main_v36 : Ref sig .tc := ⟨.hbm, 284, rfl⟩
abbrev main_v37 : Ref sig .tc := ⟨.hbm, 285, rfl⟩
abbrev main_cst_21 : Ref sig .tc := ⟨.hbm, 286, rfl⟩
abbrev main_cst_22 : Ref sig .tc := ⟨.hbm, 287, rfl⟩
abbrev main_call15_v0 : Ref sig .tc := ⟨.hbm, 288, rfl⟩
abbrev main_call15_v1 : Ref sig .tc := ⟨.hbm, 289, rfl⟩
abbrev main_v38 : Ref sig .tc := ⟨.hbm, 290, rfl⟩
abbrev main_c_23 : Ref sig .tc := ⟨.hbm, 291, rfl⟩
abbrev main_call16_v0 : Ref sig .tc := ⟨.hbm, 292, rfl⟩
abbrev main_call16_v1 : Ref sig .tc := ⟨.hbm, 293, rfl⟩
abbrev main_call16_v2 : Ref sig .tc := ⟨.hbm, 294, rfl⟩
abbrev main_call16_v3 : Ref sig .tc := ⟨.hbm, 295, rfl⟩
abbrev main_call16_v4 : Ref sig .tc := ⟨.hbm, 296, rfl⟩
abbrev main_call16_v5 : Ref sig .tc := ⟨.hbm, 297, rfl⟩
abbrev main_call16_v6 : Ref sig .tc := ⟨.hbm, 298, rfl⟩
abbrev main_call16_v7 : Ref sig .tc := ⟨.hbm, 299, rfl⟩
abbrev main_call16_v8 : Ref sig .tc := ⟨.hbm, 300, rfl⟩
abbrev main_call16_c : Ref sig .tc := ⟨.hbm, 301, rfl⟩
abbrev main_call16_v9 : Ref sig .tc := ⟨.hbm, 302, rfl⟩
abbrev main_call16_v10 : Ref sig .tc := ⟨.hbm, 303, rfl⟩
abbrev main_call16_v11 : Ref sig .tc := ⟨.hbm, 304, rfl⟩
abbrev main_call16_c_0 : Ref sig .tc := ⟨.hbm, 305, rfl⟩
abbrev main_call16_v12 : Ref sig .tc := ⟨.hbm, 306, rfl⟩
abbrev main_call16_v13 : Ref sig .tc := ⟨.hbm, 307, rfl⟩
abbrev main_v39 : Ref sig .tc := ⟨.hbm, 308, rfl⟩
abbrev main_c_24 : Ref sig .tc := ⟨.hbm, 309, rfl⟩
abbrev main_call17_v0 : Ref sig .tc := ⟨.hbm, 310, rfl⟩
abbrev main_call17_v1 : Ref sig .tc := ⟨.hbm, 311, rfl⟩
abbrev main_call17_v2 : Ref sig .tc := ⟨.hbm, 312, rfl⟩
abbrev main_call17_v3 : Ref sig .tc := ⟨.hbm, 313, rfl⟩
abbrev main_call17_v4 : Ref sig .tc := ⟨.hbm, 314, rfl⟩
abbrev main_call17_v5 : Ref sig .tc := ⟨.hbm, 315, rfl⟩
abbrev main_call17_v6 : Ref sig .tc := ⟨.hbm, 316, rfl⟩
abbrev main_call17_v7 : Ref sig .tc := ⟨.hbm, 317, rfl⟩
abbrev main_call17_v8 : Ref sig .tc := ⟨.hbm, 318, rfl⟩
abbrev main_call17_c : Ref sig .tc := ⟨.hbm, 319, rfl⟩
abbrev main_call17_v9 : Ref sig .tc := ⟨.hbm, 320, rfl⟩
abbrev main_call17_v10 : Ref sig .tc := ⟨.hbm, 321, rfl⟩
abbrev main_call17_v11 : Ref sig .tc := ⟨.hbm, 322, rfl⟩
abbrev main_call17_c_0 : Ref sig .tc := ⟨.hbm, 323, rfl⟩
abbrev main_call17_v12 : Ref sig .tc := ⟨.hbm, 324, rfl⟩
abbrev main_call17_v13 : Ref sig .tc := ⟨.hbm, 325, rfl⟩
abbrev main_v40 : Ref sig .tc := ⟨.hbm, 326, rfl⟩
abbrev main_v41 : Ref sig .tc := ⟨.hbm, 327, rfl⟩
abbrev main_c_25 : Ref sig .tc := ⟨.hbm, 328, rfl⟩
abbrev main_call18_v0 : Ref sig .tc := ⟨.hbm, 329, rfl⟩
abbrev main_call18_c : Ref sig .tc := ⟨.hbm, 330, rfl⟩
abbrev main_call18_v1 : Ref sig .tc := ⟨.hbm, 331, rfl⟩
abbrev main_call18_c_0 : Ref sig .tc := ⟨.hbm, 332, rfl⟩
abbrev main_call18_v2 : Ref sig .tc := ⟨.hbm, 333, rfl⟩
abbrev main_call18_v3 : Ref sig .tc := ⟨.hbm, 334, rfl⟩
abbrev main_call18_v4 : Ref sig .tc := ⟨.hbm, 335, rfl⟩
abbrev main_call18_c_1 : Ref sig .tc := ⟨.hbm, 336, rfl⟩
abbrev main_call18_v5 : Ref sig .tc := ⟨.hbm, 337, rfl⟩
abbrev main_call18_v6 : Ref sig .tc := ⟨.hbm, 338, rfl⟩
abbrev main_call18_c_2 : Ref sig .tc := ⟨.hbm, 339, rfl⟩
abbrev main_call18_v7 : Ref sig .tc := ⟨.hbm, 340, rfl⟩
abbrev main_call18_v8 : Ref sig .tc := ⟨.hbm, 341, rfl⟩
abbrev main_call18_c_3 : Ref sig .tc := ⟨.hbm, 342, rfl⟩
abbrev main_call18_v9 : Ref sig .tc := ⟨.hbm, 343, rfl⟩
abbrev main_call18_v10 : Ref sig .tc := ⟨.hbm, 344, rfl⟩
abbrev main_call18_v11 : Ref sig .tc := ⟨.hbm, 345, rfl⟩
abbrev main_call18_v12 : Ref sig .tc := ⟨.hbm, 346, rfl⟩
abbrev main_call18_v13 : Ref sig .tc := ⟨.hbm, 347, rfl⟩
abbrev main_call18_v14 : Ref sig .tc := ⟨.hbm, 348, rfl⟩
abbrev main_v42 : Ref sig .tc := ⟨.hbm, 349, rfl⟩
abbrev main_c_26 : Ref sig .tc := ⟨.hbm, 350, rfl⟩
abbrev main_v43 : Ref sig .tc := ⟨.hbm, 351, rfl⟩
abbrev main_v44 : Ref sig .tc := ⟨.hbm, 352, rfl⟩
abbrev main_v45 : Ref sig .tc := ⟨.hbm, 353, rfl⟩
abbrev main_c_27 : Ref sig .tc := ⟨.hbm, 354, rfl⟩
abbrev main_call19_v0 : Ref sig .tc := ⟨.hbm, 355, rfl⟩
abbrev main_call19_c : Ref sig .tc := ⟨.hbm, 356, rfl⟩
abbrev main_call19_v1 : Ref sig .tc := ⟨.hbm, 357, rfl⟩
abbrev main_call19_c_0 : Ref sig .tc := ⟨.hbm, 358, rfl⟩
abbrev main_call19_v2 : Ref sig .tc := ⟨.hbm, 359, rfl⟩
abbrev main_call19_v3 : Ref sig .tc := ⟨.hbm, 360, rfl⟩
abbrev main_call19_v4 : Ref sig .tc := ⟨.hbm, 361, rfl⟩
abbrev main_call19_c_1 : Ref sig .tc := ⟨.hbm, 362, rfl⟩
abbrev main_call19_v5 : Ref sig .tc := ⟨.hbm, 363, rfl⟩
abbrev main_call19_v6 : Ref sig .tc := ⟨.hbm, 364, rfl⟩
abbrev main_call19_c_2 : Ref sig .tc := ⟨.hbm, 365, rfl⟩
abbrev main_call19_v7 : Ref sig .tc := ⟨.hbm, 366, rfl⟩
abbrev main_call19_v8 : Ref sig .tc := ⟨.hbm, 367, rfl⟩
abbrev main_call19_c_3 : Ref sig .tc := ⟨.hbm, 368, rfl⟩
abbrev main_call19_v9 : Ref sig .tc := ⟨.hbm, 369, rfl⟩
abbrev main_call19_v10 : Ref sig .tc := ⟨.hbm, 370, rfl⟩
abbrev main_call19_v11 : Ref sig .tc := ⟨.hbm, 371, rfl⟩
abbrev main_call19_v12 : Ref sig .tc := ⟨.hbm, 372, rfl⟩
abbrev main_call19_v13 : Ref sig .tc := ⟨.hbm, 373, rfl⟩
abbrev main_call19_v14 : Ref sig .tc := ⟨.hbm, 374, rfl⟩
abbrev main_v46 : Ref sig .tc := ⟨.hbm, 375, rfl⟩
abbrev main_c_28 : Ref sig .tc := ⟨.hbm, 376, rfl⟩
abbrev main_v47 : Ref sig .tc := ⟨.hbm, 377, rfl⟩
abbrev main_v48 : Ref sig .tc := ⟨.hbm, 378, rfl⟩
abbrev main_v49 : Ref sig .tc := ⟨.hbm, 379, rfl⟩
abbrev main_cst_29 : Ref sig .tc := ⟨.hbm, 380, rfl⟩
abbrev main_cst_30 : Ref sig .tc := ⟨.hbm, 381, rfl⟩
abbrev main_call20_v0 : Ref sig .tc := ⟨.hbm, 382, rfl⟩
abbrev main_call20_v1 : Ref sig .tc := ⟨.hbm, 383, rfl⟩
abbrev main_v50 : Ref sig .tc := ⟨.hbm, 384, rfl⟩
abbrev main_c_31 : Ref sig .tc := ⟨.hbm, 385, rfl⟩
abbrev main_call21_v0 : Ref sig .tc := ⟨.hbm, 386, rfl⟩
abbrev main_call21_v1 : Ref sig .tc := ⟨.hbm, 387, rfl⟩
abbrev main_call21_v2 : Ref sig .tc := ⟨.hbm, 388, rfl⟩
abbrev main_call21_v3 : Ref sig .tc := ⟨.hbm, 389, rfl⟩
abbrev main_call21_v4 : Ref sig .tc := ⟨.hbm, 390, rfl⟩
abbrev main_call21_v5 : Ref sig .tc := ⟨.hbm, 391, rfl⟩
abbrev main_call21_v6 : Ref sig .tc := ⟨.hbm, 392, rfl⟩
abbrev main_call21_v7 : Ref sig .tc := ⟨.hbm, 393, rfl⟩
abbrev main_call21_v8 : Ref sig .tc := ⟨.hbm, 394, rfl⟩
abbrev main_call21_c : Ref sig .tc := ⟨.hbm, 395, rfl⟩
abbrev main_call21_v9 : Ref sig .tc := ⟨.hbm, 396, rfl⟩
abbrev main_call21_v10 : Ref sig .tc := ⟨.hbm, 397, rfl⟩
abbrev main_call21_v11 : Ref sig .tc := ⟨.hbm, 398, rfl⟩
abbrev main_call21_c_0 : Ref sig .tc := ⟨.hbm, 399, rfl⟩
abbrev main_call21_v12 : Ref sig .tc := ⟨.hbm, 400, rfl⟩
abbrev main_call21_v13 : Ref sig .tc := ⟨.hbm, 401, rfl⟩
abbrev main_v51 : Ref sig .tc := ⟨.hbm, 402, rfl⟩
abbrev main_c_32 : Ref sig .tc := ⟨.hbm, 403, rfl⟩
abbrev main_call22_v0 : Ref sig .tc := ⟨.hbm, 404, rfl⟩
abbrev main_call22_v1 : Ref sig .tc := ⟨.hbm, 405, rfl⟩
abbrev main_call22_v2 : Ref sig .tc := ⟨.hbm, 406, rfl⟩
abbrev main_call22_v3 : Ref sig .tc := ⟨.hbm, 407, rfl⟩
abbrev main_call22_v4 : Ref sig .tc := ⟨.hbm, 408, rfl⟩
abbrev main_call22_v5 : Ref sig .tc := ⟨.hbm, 409, rfl⟩
abbrev main_call22_v6 : Ref sig .tc := ⟨.hbm, 410, rfl⟩
abbrev main_call22_v7 : Ref sig .tc := ⟨.hbm, 411, rfl⟩
abbrev main_call22_v8 : Ref sig .tc := ⟨.hbm, 412, rfl⟩
abbrev main_call22_c : Ref sig .tc := ⟨.hbm, 413, rfl⟩
abbrev main_call22_v9 : Ref sig .tc := ⟨.hbm, 414, rfl⟩
abbrev main_call22_v10 : Ref sig .tc := ⟨.hbm, 415, rfl⟩
abbrev main_call22_v11 : Ref sig .tc := ⟨.hbm, 416, rfl⟩
abbrev main_call22_c_0 : Ref sig .tc := ⟨.hbm, 417, rfl⟩
abbrev main_call22_v12 : Ref sig .tc := ⟨.hbm, 418, rfl⟩
abbrev main_call22_v13 : Ref sig .tc := ⟨.hbm, 419, rfl⟩
abbrev main_v52 : Ref sig .tc := ⟨.hbm, 420, rfl⟩
abbrev main_v53 : Ref sig .tc := ⟨.hbm, 421, rfl⟩
abbrev main_c_33 : Ref sig .tc := ⟨.hbm, 422, rfl⟩
abbrev main_call23_v0 : Ref sig .tc := ⟨.hbm, 423, rfl⟩
abbrev main_call23_c : Ref sig .tc := ⟨.hbm, 424, rfl⟩
abbrev main_call23_v1 : Ref sig .tc := ⟨.hbm, 425, rfl⟩
abbrev main_call23_c_0 : Ref sig .tc := ⟨.hbm, 426, rfl⟩
abbrev main_call23_v2 : Ref sig .tc := ⟨.hbm, 427, rfl⟩
abbrev main_call23_v3 : Ref sig .tc := ⟨.hbm, 428, rfl⟩
abbrev main_call23_v4 : Ref sig .tc := ⟨.hbm, 429, rfl⟩
abbrev main_call23_c_1 : Ref sig .tc := ⟨.hbm, 430, rfl⟩
abbrev main_call23_v5 : Ref sig .tc := ⟨.hbm, 431, rfl⟩
abbrev main_call23_v6 : Ref sig .tc := ⟨.hbm, 432, rfl⟩
abbrev main_call23_c_2 : Ref sig .tc := ⟨.hbm, 433, rfl⟩
abbrev main_call23_v7 : Ref sig .tc := ⟨.hbm, 434, rfl⟩
abbrev main_call23_v8 : Ref sig .tc := ⟨.hbm, 435, rfl⟩
abbrev main_call23_c_3 : Ref sig .tc := ⟨.hbm, 436, rfl⟩
abbrev main_call23_v9 : Ref sig .tc := ⟨.hbm, 437, rfl⟩
abbrev main_call23_v10 : Ref sig .tc := ⟨.hbm, 438, rfl⟩
abbrev main_call23_v11 : Ref sig .tc := ⟨.hbm, 439, rfl⟩
abbrev main_call23_v12 : Ref sig .tc := ⟨.hbm, 440, rfl⟩
abbrev main_call23_v13 : Ref sig .tc := ⟨.hbm, 441, rfl⟩
abbrev main_call23_v14 : Ref sig .tc := ⟨.hbm, 442, rfl⟩
abbrev main_v54 : Ref sig .tc := ⟨.hbm, 443, rfl⟩
abbrev main_c_34 : Ref sig .tc := ⟨.hbm, 444, rfl⟩
abbrev main_v55 : Ref sig .tc := ⟨.hbm, 445, rfl⟩
abbrev main_v56 : Ref sig .tc := ⟨.hbm, 446, rfl⟩
abbrev main_v57 : Ref sig .tc := ⟨.hbm, 447, rfl⟩
abbrev main_c_35 : Ref sig .tc := ⟨.hbm, 448, rfl⟩
abbrev main_call24_v0 : Ref sig .tc := ⟨.hbm, 449, rfl⟩
abbrev main_call24_c : Ref sig .tc := ⟨.hbm, 450, rfl⟩
abbrev main_call24_v1 : Ref sig .tc := ⟨.hbm, 451, rfl⟩
abbrev main_call24_c_0 : Ref sig .tc := ⟨.hbm, 452, rfl⟩
abbrev main_call24_v2 : Ref sig .tc := ⟨.hbm, 453, rfl⟩
abbrev main_call24_v3 : Ref sig .tc := ⟨.hbm, 454, rfl⟩
abbrev main_call24_v4 : Ref sig .tc := ⟨.hbm, 455, rfl⟩
abbrev main_call24_c_1 : Ref sig .tc := ⟨.hbm, 456, rfl⟩
abbrev main_call24_v5 : Ref sig .tc := ⟨.hbm, 457, rfl⟩
abbrev main_call24_v6 : Ref sig .tc := ⟨.hbm, 458, rfl⟩
abbrev main_call24_c_2 : Ref sig .tc := ⟨.hbm, 459, rfl⟩
abbrev main_call24_v7 : Ref sig .tc := ⟨.hbm, 460, rfl⟩
abbrev main_call24_v8 : Ref sig .tc := ⟨.hbm, 461, rfl⟩
abbrev main_call24_c_3 : Ref sig .tc := ⟨.hbm, 462, rfl⟩
abbrev main_call24_v9 : Ref sig .tc := ⟨.hbm, 463, rfl⟩
abbrev main_call24_v10 : Ref sig .tc := ⟨.hbm, 464, rfl⟩
abbrev main_call24_v11 : Ref sig .tc := ⟨.hbm, 465, rfl⟩
abbrev main_call24_v12 : Ref sig .tc := ⟨.hbm, 466, rfl⟩
abbrev main_call24_v13 : Ref sig .tc := ⟨.hbm, 467, rfl⟩
abbrev main_call24_v14 : Ref sig .tc := ⟨.hbm, 468, rfl⟩
abbrev main_v58 : Ref sig .tc := ⟨.hbm, 469, rfl⟩
abbrev main_c_36 : Ref sig .tc := ⟨.hbm, 470, rfl⟩
abbrev main_v59 : Ref sig .tc := ⟨.hbm, 471, rfl⟩
abbrev main_v60 : Ref sig .tc := ⟨.hbm, 472, rfl⟩
abbrev main_v61 : Ref sig .tc := ⟨.hbm, 473, rfl⟩
abbrev main_cst_37 : Ref sig .tc := ⟨.hbm, 474, rfl⟩
abbrev main_cst_38 : Ref sig .tc := ⟨.hbm, 475, rfl⟩
abbrev main_call25_v0 : Ref sig .tc := ⟨.hbm, 476, rfl⟩
abbrev main_call25_v1 : Ref sig .tc := ⟨.hbm, 477, rfl⟩
abbrev main_v62 : Ref sig .tc := ⟨.hbm, 478, rfl⟩
abbrev main_c_39 : Ref sig .tc := ⟨.hbm, 479, rfl⟩
abbrev main_call26_v0 : Ref sig .tc := ⟨.hbm, 480, rfl⟩
abbrev main_call26_v1 : Ref sig .tc := ⟨.hbm, 481, rfl⟩
abbrev main_call26_v2 : Ref sig .tc := ⟨.hbm, 482, rfl⟩
abbrev main_call26_v3 : Ref sig .tc := ⟨.hbm, 483, rfl⟩
abbrev main_call26_v4 : Ref sig .tc := ⟨.hbm, 484, rfl⟩
abbrev main_call26_v5 : Ref sig .tc := ⟨.hbm, 485, rfl⟩
abbrev main_call26_v6 : Ref sig .tc := ⟨.hbm, 486, rfl⟩
abbrev main_call26_v7 : Ref sig .tc := ⟨.hbm, 487, rfl⟩
abbrev main_call26_v8 : Ref sig .tc := ⟨.hbm, 488, rfl⟩
abbrev main_call26_c : Ref sig .tc := ⟨.hbm, 489, rfl⟩
abbrev main_call26_v9 : Ref sig .tc := ⟨.hbm, 490, rfl⟩
abbrev main_call26_v10 : Ref sig .tc := ⟨.hbm, 491, rfl⟩
abbrev main_call26_v11 : Ref sig .tc := ⟨.hbm, 492, rfl⟩
abbrev main_call26_c_0 : Ref sig .tc := ⟨.hbm, 493, rfl⟩
abbrev main_call26_v12 : Ref sig .tc := ⟨.hbm, 494, rfl⟩
abbrev main_call26_v13 : Ref sig .tc := ⟨.hbm, 495, rfl⟩
abbrev main_v63 : Ref sig .tc := ⟨.hbm, 496, rfl⟩
abbrev main_c_40 : Ref sig .tc := ⟨.hbm, 497, rfl⟩
abbrev main_call27_v0 : Ref sig .tc := ⟨.hbm, 498, rfl⟩
abbrev main_call27_v1 : Ref sig .tc := ⟨.hbm, 499, rfl⟩
abbrev main_call27_v2 : Ref sig .tc := ⟨.hbm, 500, rfl⟩
abbrev main_call27_v3 : Ref sig .tc := ⟨.hbm, 501, rfl⟩
abbrev main_call27_v4 : Ref sig .tc := ⟨.hbm, 502, rfl⟩
abbrev main_call27_v5 : Ref sig .tc := ⟨.hbm, 503, rfl⟩
abbrev main_call27_v6 : Ref sig .tc := ⟨.hbm, 504, rfl⟩
abbrev main_call27_v7 : Ref sig .tc := ⟨.hbm, 505, rfl⟩
abbrev main_call27_v8 : Ref sig .tc := ⟨.hbm, 506, rfl⟩
abbrev main_call27_c : Ref sig .tc := ⟨.hbm, 507, rfl⟩
abbrev main_call27_v9 : Ref sig .tc := ⟨.hbm, 508, rfl⟩
abbrev main_call27_v10 : Ref sig .tc := ⟨.hbm, 509, rfl⟩
abbrev main_call27_v11 : Ref sig .tc := ⟨.hbm, 510, rfl⟩
abbrev main_call27_c_0 : Ref sig .tc := ⟨.hbm, 511, rfl⟩
abbrev main_call27_v12 : Ref sig .tc := ⟨.hbm, 512, rfl⟩
abbrev main_call27_v13 : Ref sig .tc := ⟨.hbm, 513, rfl⟩
abbrev main_v64 : Ref sig .tc := ⟨.hbm, 514, rfl⟩
abbrev main_v65 : Ref sig .tc := ⟨.hbm, 515, rfl⟩
abbrev main_c_41 : Ref sig .tc := ⟨.hbm, 516, rfl⟩
abbrev main_call28_v0 : Ref sig .tc := ⟨.hbm, 517, rfl⟩
abbrev main_call28_c : Ref sig .tc := ⟨.hbm, 518, rfl⟩
abbrev main_call28_v1 : Ref sig .tc := ⟨.hbm, 519, rfl⟩
abbrev main_call28_c_0 : Ref sig .tc := ⟨.hbm, 520, rfl⟩
abbrev main_call28_v2 : Ref sig .tc := ⟨.hbm, 521, rfl⟩
abbrev main_call28_v3 : Ref sig .tc := ⟨.hbm, 522, rfl⟩
abbrev main_call28_v4 : Ref sig .tc := ⟨.hbm, 523, rfl⟩
abbrev main_call28_c_1 : Ref sig .tc := ⟨.hbm, 524, rfl⟩
abbrev main_call28_v5 : Ref sig .tc := ⟨.hbm, 525, rfl⟩
abbrev main_call28_v6 : Ref sig .tc := ⟨.hbm, 526, rfl⟩
abbrev main_call28_c_2 : Ref sig .tc := ⟨.hbm, 527, rfl⟩
abbrev main_call28_v7 : Ref sig .tc := ⟨.hbm, 528, rfl⟩
abbrev main_call28_v8 : Ref sig .tc := ⟨.hbm, 529, rfl⟩
abbrev main_call28_c_3 : Ref sig .tc := ⟨.hbm, 530, rfl⟩
abbrev main_call28_v9 : Ref sig .tc := ⟨.hbm, 531, rfl⟩
abbrev main_call28_v10 : Ref sig .tc := ⟨.hbm, 532, rfl⟩
abbrev main_call28_v11 : Ref sig .tc := ⟨.hbm, 533, rfl⟩
abbrev main_call28_v12 : Ref sig .tc := ⟨.hbm, 534, rfl⟩
abbrev main_call28_v13 : Ref sig .tc := ⟨.hbm, 535, rfl⟩
abbrev main_call28_v14 : Ref sig .tc := ⟨.hbm, 536, rfl⟩
abbrev main_v66 : Ref sig .tc := ⟨.hbm, 537, rfl⟩
abbrev main_c_42 : Ref sig .tc := ⟨.hbm, 538, rfl⟩
abbrev main_v67 : Ref sig .tc := ⟨.hbm, 539, rfl⟩
abbrev main_v68 : Ref sig .tc := ⟨.hbm, 540, rfl⟩
abbrev main_v69 : Ref sig .tc := ⟨.hbm, 541, rfl⟩
abbrev main_c_43 : Ref sig .tc := ⟨.hbm, 542, rfl⟩
abbrev main_call29_v0 : Ref sig .tc := ⟨.hbm, 543, rfl⟩
abbrev main_call29_c : Ref sig .tc := ⟨.hbm, 544, rfl⟩
abbrev main_call29_v1 : Ref sig .tc := ⟨.hbm, 545, rfl⟩
abbrev main_call29_c_0 : Ref sig .tc := ⟨.hbm, 546, rfl⟩
abbrev main_call29_v2 : Ref sig .tc := ⟨.hbm, 547, rfl⟩
abbrev main_call29_v3 : Ref sig .tc := ⟨.hbm, 548, rfl⟩
abbrev main_call29_v4 : Ref sig .tc := ⟨.hbm, 549, rfl⟩
abbrev main_call29_c_1 : Ref sig .tc := ⟨.hbm, 550, rfl⟩
abbrev main_call29_v5 : Ref sig .tc := ⟨.hbm, 551, rfl⟩
abbrev main_call29_v6 : Ref sig .tc := ⟨.hbm, 552, rfl⟩
abbrev main_call29_c_2 : Ref sig .tc := ⟨.hbm, 553, rfl⟩
abbrev main_call29_v7 : Ref sig .tc := ⟨.hbm, 554, rfl⟩
abbrev main_call29_v8 : Ref sig .tc := ⟨.hbm, 555, rfl⟩
abbrev main_call29_c_3 : Ref sig .tc := ⟨.hbm, 556, rfl⟩
abbrev main_call29_v9 : Ref sig .tc := ⟨.hbm, 557, rfl⟩
abbrev main_call29_v10 : Ref sig .tc := ⟨.hbm, 558, rfl⟩
abbrev main_call29_v11 : Ref sig .tc := ⟨.hbm, 559, rfl⟩
abbrev main_call29_v12 : Ref sig .tc := ⟨.hbm, 560, rfl⟩
abbrev main_call29_v13 : Ref sig .tc := ⟨.hbm, 561, rfl⟩
abbrev main_call29_v14 : Ref sig .tc := ⟨.hbm, 562, rfl⟩
abbrev main_v70 : Ref sig .tc := ⟨.hbm, 563, rfl⟩
abbrev main_c_44 : Ref sig .tc := ⟨.hbm, 564, rfl⟩
abbrev main_v71 : Ref sig .tc := ⟨.hbm, 565, rfl⟩
abbrev main_v72 : Ref sig .tc := ⟨.hbm, 566, rfl⟩
abbrev main_v73 : Ref sig .tc := ⟨.hbm, 567, rfl⟩
abbrev main_cst_45 : Ref sig .tc := ⟨.hbm, 568, rfl⟩
abbrev main_cst_46 : Ref sig .tc := ⟨.hbm, 569, rfl⟩
abbrev main_call30_v0 : Ref sig .tc := ⟨.hbm, 570, rfl⟩
abbrev main_call30_v1 : Ref sig .tc := ⟨.hbm, 571, rfl⟩
abbrev main_v74 : Ref sig .tc := ⟨.hbm, 572, rfl⟩
abbrev main_v75 : Ref sig .tc := ⟨.hbm, 573, rfl⟩
abbrev main_cst_47 : Ref sig .tc := ⟨.hbm, 574, rfl⟩
abbrev main_cst_48 : Ref sig .tc := ⟨.hbm, 575, rfl⟩
abbrev main_call31_v0 : Ref sig .tc := ⟨.hbm, 576, rfl⟩
abbrev main_call31_v1 : Ref sig .tc := ⟨.hbm, 577, rfl⟩
abbrev main_v76 : Ref sig .tc := ⟨.hbm, 578, rfl⟩
abbrev main_v77 : Ref sig .tc := ⟨.hbm, 579, rfl⟩
abbrev main_cst_49 : Ref sig .tc := ⟨.hbm, 580, rfl⟩
abbrev main_cst_50 : Ref sig .tc := ⟨.hbm, 581, rfl⟩
abbrev main_call32_v0 : Ref sig .tc := ⟨.hbm, 582, rfl⟩
abbrev main_call32_v1 : Ref sig .tc := ⟨.hbm, 583, rfl⟩
abbrev main_v78 : Ref sig .tc := ⟨.hbm, 584, rfl⟩
abbrev main_v79 : Ref sig .tc := ⟨.hbm, 585, rfl⟩
abbrev main_v80 : Ref sig .tc := ⟨.hbm, 586, rfl⟩
abbrev main_v81 : Ref sig .tc := ⟨.hbm, 587, rfl⟩
abbrev main_v82 : Ref sig .tc := ⟨.hbm, 588, rfl⟩
abbrev main_v83 : Ref sig .tc := ⟨.hbm, 589, rfl⟩
abbrev main_v84 : Ref sig .tc := ⟨.hbm, 590, rfl⟩
abbrev main_v85 : Ref sig .tc := ⟨.hbm, 591, rfl⟩
abbrev main_v86 : Ref sig .tc := ⟨.hbm, 592, rfl⟩
abbrev main_v87 : Ref sig .tc := ⟨.hbm, 593, rfl⟩
abbrev main_v88 : Ref sig .tc := ⟨.hbm, 594, rfl⟩
abbrev main_v89 : Ref sig .tc := ⟨.hbm, 595, rfl⟩
abbrev main_v90_0 : Ref sig .tc := ⟨.hbm, 596, rfl⟩
abbrev main_v90_1 : Ref sig .tc := ⟨.hbm, 597, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_1123 : BitVec 32 := 0#32
  let v5223 : BitVec 1 := Scalar.cmpi .eq arg2 c0_i32_1123
  let v5224 : BitVec 32 := Scalar.extui v5223
  let c0_i32_1124 : BitVec 32 := 0#32
  let v5225 : BitVec 1 := Scalar.cmpi .ne v5224 c0_i32_1124
  v5225

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S7x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== HgrnSRefIdeal.lean ====
abbrev S32x4x4096 : Shape := ⟨3, ![32, 4, 4096]⟩
abbrev S32x8x128x128 : Shape := ⟨4, ![32, 8, 128, 128]⟩
abbrev S1024 : Shape := ⟨1, ![1024]⟩
abbrev S128 : Shape := ⟨1, ![128]⟩
abbrev S32x4x1024 : Shape := ⟨3, ![32, 4, 1024]⟩
abbrev S_ : Shape := ⟨0, ![]⟩
abbrev S1x1x1024 : Shape := ⟨3, ![1, 1, 1024]⟩
abbrev S32x4x8x128 : Shape := ⟨4, ![32, 4, 8, 128]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x4x1x1 : Shape := ⟨5, ![1, 4, 4, 1, 1]⟩
abbrev S32x1x4x8x128 : Shape := ⟨5, ![32, 1, 4, 8, 128]⟩
abbrev S32x4x4x8x128 : Shape := ⟨5, ![32, 4, 4, 8, 128]⟩
abbrev S32x1x8x128 : Shape := ⟨4, ![32, 1, 8, 128]⟩
abbrev S32x8x128 : Shape := ⟨3, ![32, 8, 128]⟩
abbrev S32x8x128x1 : Shape := ⟨4, ![32, 8, 128, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x4x4096, .f32⟩
  | .hbm, ⟨1, _⟩ => ⟨S32x8x128x128, .f32⟩
  | .hbm, ⟨2, _⟩ => ⟨S1024, .f32⟩
  | .hbm, ⟨3, _⟩ => ⟨S128, .f32⟩
  | .hbm, ⟨4, _⟩ => ⟨S32x4x1024, .f32⟩
  | .hbm, ⟨5, _⟩ => ⟨S32x4x1024, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S32x4x1024, .f32⟩
  | .hbm, ⟨12, _⟩ => ⟨S32x4x1024, .f32⟩
  | .hbm, ⟨13, _⟩ => ⟨S_, .f32⟩
  | .hbm, ⟨14, _⟩ => ⟨S32x4x1024, .f32⟩
  | .hbm, ⟨15, _⟩ => ⟨S32x4x1024, .f32⟩
  | .hbm, ⟨16, _⟩ => ⟨S_, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S_, .f32⟩
  | .hbm, ⟨26, _⟩ => ⟨S32x4x1024, .f32⟩
  | .hbm, ⟨27, _⟩ => ⟨S32x4x1024, .f32⟩
  | .hbm, ⟨28, _⟩ => ⟨S32x4x8x128, .f32⟩
  | .hbm, ⟨29, _⟩ => ⟨S32x4x1024, .f32⟩
  | .hbm, ⟨30, _⟩ => ⟨S32x4x8x128, .f32⟩
  | .hbm, ⟨31, _⟩ => ⟨S32x4x8x128, .f32⟩
  | .hbm, ⟨32, _⟩ => ⟨S4, .i32⟩
  | .hbm, ⟨33, _⟩ => ⟨S1x4, .i32⟩
  | .hbm, ⟨34, _⟩ => ⟨S4, .i32⟩
  | .hbm, ⟨35, _⟩ => ⟨S4x1, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S1x4x4x1x1, .i1⟩
  | .hbm, ⟨40, _⟩ => ⟨S32x1x4x8x128, .f32⟩
  | .hbm, ⟨41, _⟩ => ⟨S_, .f32⟩
  | .hbm, ⟨42, _⟩ => ⟨S_, .f32⟩
  | .hbm, ⟨43, _⟩ => ⟨S32x4x4x8x128, .i1⟩
  | .hbm, ⟨44, _⟩ => ⟨S32x4x4x8x128, .f32⟩
  | .hbm, ⟨45, _⟩ => ⟨S32x4x4x8x128, .f32⟩
  | .hbm, ⟨46, _⟩ => ⟨S32x4x4x8x128, .f32⟩
  | .hbm, ⟨47, _⟩ => ⟨S_, .f32⟩
  | .hbm, ⟨48, _⟩ => ⟨S32x4x8x128, .f32⟩
  | .hbm, ⟨49, _⟩ => ⟨S32x1x8x128, .f32⟩
  | .hbm, ⟨50, _⟩ => ⟨S32x8x128, .f32⟩
  | .hbm, ⟨51, _⟩ => ⟨S32x8x128, .f32⟩
  | .hbm, ⟨52, _⟩ => ⟨S32x8x128x1, .f32⟩
  | .hbm, ⟨53, _⟩ => ⟨S32x8x128x128, .f32⟩
  | .hbm, ⟨54, _⟩ => ⟨S32x8x128x128, .f32⟩
  | .hbm, ⟨55, _⟩ => ⟨S32x1x8x128, .f32⟩
  | .hbm, ⟨56, _⟩ => ⟨S32x4x8x128, .f32⟩
  | .hbm, ⟨57, _⟩ => ⟨S32x4x8x128, .f32⟩
  | .hbm, ⟨58, _⟩ => ⟨S32x4x8x128, .f32⟩
  | .hbm, ⟨59, _⟩ => ⟨S32x4x8x128, .f32⟩
  | .hbm, ⟨60, _⟩ => ⟨S32x8x128x128, .f32⟩
  | .hbm, ⟨61, _⟩ => ⟨S32x8x128x128, .f32⟩
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== HgrnP.lean ====
abbrev S1x16384x4096 : Shape := ⟨3, ![1, 16384, 4096]⟩
abbrev S1024 : Shape := ⟨1, ![1024]⟩
abbrev S128 : Shape := ⟨1, ![128]⟩
abbrev S_ : Shape := ⟨0, ![]⟩
abbrev S1x8x128x128 : Shape := ⟨4, ![1, 8, 128, 128]⟩
abbrev S64x64 : Shape := ⟨2, ![64, 64]⟩
abbrev S1x64x64 : Shape := ⟨3, ![1, 64, 64]⟩
abbrev S7x64x64 : Shape := ⟨3, ![7, 64, 64]⟩
abbrev S1x1024 : Shape := ⟨2, ![1, 1024]⟩
abbrev S1x128 : Shape := ⟨2, ![1, 128]⟩
abbrev S1x16384x1024 : Shape := ⟨3, ![1, 16384, 1024]⟩
abbrev S1x128x1024 : Shape := ⟨3, ![1, 128, 1024]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x1 : Shape := ⟨2, ![64, 1]⟩
abbrev S8x1 : Shape := ⟨2, ![8, 1]⟩
abbrev S1x64x128 : Shape := ⟨3, ![1, 64, 128]⟩
abbrev S64x128 : Shape := ⟨2, ![64, 128]⟩
abbrev S64x256 : Shape := ⟨2, ![64, 256]⟩
abbrev S32x128 : Shape := ⟨2, ![32, 128]⟩
abbrev S16x128 : Shape := ⟨2, ![16, 128]⟩
abbrev S8x128 : Shape := ⟨2, ![8, 128]⟩
abbrev S128x64 : Shape := ⟨2, ![128, 64]⟩
abbrev S64 : Shape := ⟨1, ![64]⟩

abbrev nBuf : Space → Nat
  | .hbm => 596
  | .vmem => 17
  | .smem => 0
  | _ => 0

abbrev hbmTy0_0 (i : Nat) : BufTy := match i % 128 with
  | 0 => ⟨S1x16384x4096, .f32⟩
  | 1 => ⟨S1024, .f32⟩
  | 2 => ⟨S128, .f32⟩
  | 3 => ⟨S_, .f32⟩
  | 4 => ⟨S1x8x128x128, .f32⟩
  | 5 => ⟨S64x64, .i32⟩
  | 6 => ⟨S64x64, .i32⟩
  | 7 => ⟨S_, .i32⟩
  | 8 => ⟨S_, .i32⟩
  | 9 => ⟨S64x64, .i32⟩
  | 10 => ⟨S64x64, .i32⟩
  | 11 => ⟨S64x64, .i32⟩
  | 12 => ⟨S_, .i32⟩
  | 13 => ⟨S64x64, .i32⟩
  | 14 => ⟨S64x64, .i1⟩
  | 15 => ⟨S64x64, .i32⟩
  | 16 => ⟨S64x64, .i32⟩
  | 17 => ⟨S_, .i32⟩
  | 18 => ⟨S64x64, .i32⟩
  | 19 => ⟨S64x64, .i1⟩
  | 20 => ⟨S64x64, .i1⟩
  | 21 => ⟨S_, .i32⟩
  | 22 => ⟨S64x64, .i32⟩
  | 23 => ⟨S64x64, .i32⟩
  | 24 => ⟨S64x64, .i32⟩
  | 25 => ⟨S_, .i32⟩
  | 26 => ⟨S_, .i32⟩
  | 27 => ⟨S64x64, .i32⟩
  | 28 => ⟨S64x64, .i32⟩
  | 29 => ⟨S64x64, .i32⟩
  | 30 => ⟨S_, .i32⟩
  | 31 => ⟨S64x64, .i32⟩
  | 32 => ⟨S64x64, .i1⟩
  | 33 => ⟨S64x64, .i32⟩
  | 34 => ⟨S64x64, .i32⟩
  | 35 => ⟨S_, .i32⟩
  | 36 => ⟨S64x64, .i32⟩
  | 37 => ⟨S64x64, .i1⟩
  | 38 => ⟨S64x64, .i1⟩
  | 39 => ⟨S_, .i32⟩
  | 40 => ⟨S64x64, .i32⟩
  | 41 => ⟨S64x64, .i32⟩
  | 42 => ⟨S64x64, .i32⟩
  | 43 => ⟨S64x64, .i1⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S64x64, .i32⟩
  | 51 => ⟨S64x64, .i32⟩
  | 52 => ⟨S_, .i32⟩
  | 53 => ⟨S64x64, .i32⟩
  | 54 => ⟨S64x64, .i1⟩
  | 55 => ⟨S_, .i32⟩
  | 56 => ⟨S64x64, .i32⟩
  | 57 => ⟨S64x64, .i1⟩
  | 58 => ⟨S_, .i32⟩
  | 59 => ⟨S_, .i1⟩
  | 60 => ⟨S64x64, .i1⟩
  | 61 => ⟨S64x64, .i1⟩
  | 62 => ⟨S64x64, .i1⟩
  | 63 => ⟨S64x64, .i32⟩
  | 64 => ⟨S64x64, .i32⟩
  | 65 => ⟨S64x64, .i32⟩
  | 66 => ⟨S_, .i32⟩
  | 67 => ⟨S64x64, .i32⟩
  | 68 => ⟨S64x64, .i1⟩
  | 69 => ⟨S64x64, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i1⟩
  | 81 => ⟨S_, .i32⟩
  | 82 => ⟨S64x64, .i32⟩
  | 83 => ⟨S64x64, .i1⟩
  | 84 => ⟨S_, .i32⟩
  | 85 => ⟨S_, .i1⟩
  | 86 => ⟨S64x64, .i1⟩
  | 87 => ⟨S64x64, .i1⟩
  | 88 => ⟨S64x64, .i1⟩
  | 89 => ⟨S64x64, .i32⟩
  | 90 => ⟨S64x64, .i32⟩
  | 91 => ⟨S64x64, .i32⟩
  | 92 => ⟨S_, .i32⟩
  | 93 => ⟨S64x64, .i32⟩
  | 94 => ⟨S64x64, .i1⟩
  | 95 => ⟨S64x64, .i1⟩
  | 96 => ⟨S_, .f32⟩
  | 97 => ⟨S_, .f32⟩
  | 98 => ⟨S64x64, .f32⟩
  | 99 => ⟨S64x64, .f32⟩
  | 100 => ⟨S64x64, .f32⟩
  | 101 => ⟨S_, .i32⟩
  | 102 => ⟨S_, .i32⟩
  | 103 => ⟨S64x64, .i32⟩
  | 104 => ⟨S64x64, .i32⟩
  | 105 => ⟨S64x64, .i32⟩
  | 106 => ⟨S_, .i32⟩
  | 107 => ⟨S64x64, .i32⟩
  | 108 => ⟨S64x64, .i1⟩
  | 109 => ⟨S64x64, .i32⟩
  | 110 => ⟨S64x64, .i32⟩
  | 111 => ⟨S_, .i32⟩
  | 112 => ⟨S64x64, .i32⟩
  | 113 => ⟨S64x64, .i1⟩
  | 114 => ⟨S64x64, .i1⟩
  | 115 => ⟨S_, .i32⟩
  | 116 => ⟨S64x64, .i32⟩
  | 117 => ⟨S64x64, .i32⟩
  | 118 => ⟨S64x64, .i32⟩
  | 119 => ⟨S_, .i32⟩
  | 120 => ⟨S_, .i32⟩
  | 121 => ⟨S64x64, .i32⟩
  | 122 => ⟨S64x64, .i32⟩
  | 123 => ⟨S64x64, .i32⟩
  | 124 => ⟨S_, .i32⟩
  | 125 => ⟨S64x64, .i32⟩
  | 126 => ⟨S64x64, .i1⟩
  | 127 => ⟨S64x64, .i32⟩
  | _ => ⟨S1x16384x4096, .f32⟩

abbrev hbmTy0_1 (i : Nat) : BufTy := match i % 128 with
  | 0 => ⟨S64x64, .i32⟩
  | 1 => ⟨S_, .i32⟩
  | 2 => ⟨S64x64, .i32⟩
  | 3 => ⟨S64x64, .i1⟩
  | 4 => ⟨S64x64, .i1⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S64x64, .i32⟩
  | 17 => ⟨S64x64, .i32⟩
  | 18 => ⟨S_, .i32⟩
  | 19 => ⟨S64x64, .i32⟩
  | 20 => ⟨S64x64, .i1⟩
  | 21 => ⟨S_, .i32⟩
  | 22 => ⟨S64x64, .i32⟩
  | 23 => ⟨S64x64, .i1⟩
  | 24 => ⟨S_, .i32⟩
  | 25 => ⟨S_, .i1⟩
  | 26 => ⟨S64x64, .i1⟩
  | 27 => ⟨S64x64, .i1⟩
  | 28 => ⟨S64x64, .i1⟩
  | 29 => ⟨S64x64, .i32⟩
  | 30 => ⟨S64x64, .i32⟩
  | 31 => ⟨S64x64, .i32⟩
  | 32 => ⟨S_, .i32⟩
  | 33 => ⟨S64x64, .i32⟩
  | 34 => ⟨S64x64, .i1⟩
  | 35 => ⟨S64x64, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i1⟩
  | 47 => ⟨S_, .i32⟩
  | 48 => ⟨S64x64, .i32⟩
  | 49 => ⟨S64x64, .i1⟩
  | 50 => ⟨S_, .i32⟩
  | 51 => ⟨S_, .i1⟩
  | 52 => ⟨S64x64, .i1⟩
  | 53 => ⟨S64x64, .i1⟩
  | 54 => ⟨S64x64, .i1⟩
  | 55 => ⟨S64x64, .i32⟩
  | 56 => ⟨S64x64, .i32⟩
  | 57 => ⟨S64x64, .i32⟩
  | 58 => ⟨S_, .i32⟩
  | 59 => ⟨S64x64, .i32⟩
  | 60 => ⟨S64x64, .i1⟩
  | 61 => ⟨S64x64, .i1⟩
  | 62 => ⟨S_, .f32⟩
  | 63 => ⟨S_, .f32⟩
  | 64 => ⟨S64x64, .f32⟩
  | 65 => ⟨S64x64, .f32⟩
  | 66 => ⟨S64x64, .f32⟩
  | 67 => ⟨S_, .i32⟩
  | 68 => ⟨S_, .i32⟩
  | 69 => ⟨S64x64, .i32⟩
  | 70 => ⟨S64x64, .i32⟩
  | 71 => ⟨S64x64, .i32⟩
  | 72 => ⟨S_, .i32⟩
  | 73 => ⟨S64x64, .i32⟩
  | 74 => ⟨S64x64, .i1⟩
  | 75 => ⟨S64x64, .i32⟩
  | 76 => ⟨S64x64, .i32⟩
  | 77 => ⟨S_, .i32⟩
  | 78 => ⟨S64x64, .i32⟩
  | 79 => ⟨S64x64, .i1⟩
  | 80 => ⟨S64x64, .i1⟩
  | 81 => ⟨S_, .i32⟩
  | 82 => ⟨S64x64, .i32⟩
  | 83 => ⟨S64x64, .i32⟩
  | 84 => ⟨S64x64, .i32⟩
  | 85 => ⟨S_, .i32⟩
  | 86 => ⟨S_, .i32⟩
  | 87 => ⟨S64x64, .i32⟩
  | 88 => ⟨S64x64, .i32⟩
  | 89 => ⟨S64x64, .i32⟩
  | 90 => ⟨S_, .i32⟩
  | 91 => ⟨S64x64, .i32⟩
  | 92 => ⟨S64x64, .i1⟩
  | 93 => ⟨S64x64, .i32⟩
  | 94 => ⟨S64x64, .i32⟩
  | 95 => ⟨S_, .i32⟩
  | 96 => ⟨S64x64, .i32⟩
  | 97 => ⟨S64x64, .i1⟩
  | 98 => ⟨S64x64, .i1⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i1⟩
  | 115 => ⟨S_, .i32⟩
  | 116 => ⟨S64x64, .i32⟩
  | 117 => ⟨S64x64, .i1⟩
  | 118 => ⟨S_, .i32⟩
  | 119 => ⟨S_, .i1⟩
  | 120 => ⟨S64x64, .i1⟩
  | 121 => ⟨S64x64, .i1⟩
  | 122 => ⟨S64x64, .i1⟩
  | 123 => ⟨S64x64, .i32⟩
  | 124 => ⟨S64x64, .i32⟩
  | 125 => ⟨S64x64, .i32⟩
  | 126 => ⟨S_, .i32⟩
  | 127 => ⟨S64x64, .i32⟩
  | _ => ⟨S1x16384x4096, .f32⟩

abbrev hbmTy0_2 (i : Nat) : BufTy := match i % 128 with
  | 0 => ⟨S64x64, .i1⟩
  | 1 => ⟨S64x64, .i1⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S64x64, .i32⟩
  | 9 => ⟨S64x64, .i32⟩
  | 10 => ⟨S_, .i32⟩
  | 11 => ⟨S64x64, .i32⟩
  | 12 => ⟨S64x64, .i1⟩
  | 13 => ⟨S_, .i32⟩
  | 14 => ⟨S64x64, .i32⟩
  | 15 => ⟨S64x64, .i1⟩
  | 16 => ⟨S_, .i32⟩
  | 17 => ⟨S_, .i1⟩
  | 18 => ⟨S64x64, .i1⟩
  | 19 => ⟨S64x64, .i1⟩
  | 20 => ⟨S64x64, .i1⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i1⟩
  | 27 => ⟨S64x64, .i1⟩
  | 28 => ⟨S_, .f32⟩
  | 29 => ⟨S_, .f32⟩
  | 30 => ⟨S64x64, .f32⟩
  | 31 => ⟨S64x64, .f32⟩
  | 32 => ⟨S64x64, .f32⟩
  | 33 => ⟨S_, .i32⟩
  | 34 => ⟨S_, .i32⟩
  | 35 => ⟨S64x64, .i32⟩
  | 36 => ⟨S64x64, .i32⟩
  | 37 => ⟨S64x64, .i32⟩
  | 38 => ⟨S_, .i32⟩
  | 39 => ⟨S64x64, .i32⟩
  | 40 => ⟨S64x64, .i1⟩
  | 41 => ⟨S64x64, .i32⟩
  | 42 => ⟨S64x64, .i32⟩
  | 43 => ⟨S_, .i32⟩
  | 44 => ⟨S64x64, .i32⟩
  | 45 => ⟨S64x64, .i1⟩
  | 46 => ⟨S64x64, .i1⟩
  | 47 => ⟨S_, .i32⟩
  | 48 => ⟨S64x64, .i32⟩
  | 49 => ⟨S64x64, .i32⟩
  | 50 => ⟨S64x64, .i32⟩
  | 51 => ⟨S_, .i32⟩
  | 52 => ⟨S_, .i32⟩
  | 53 => ⟨S64x64, .i32⟩
  | 54 => ⟨S64x64, .i32⟩
  | 55 => ⟨S64x64, .i32⟩
  | 56 => ⟨S_, .i32⟩
  | 57 => ⟨S64x64, .i32⟩
  | 58 => ⟨S64x64, .i1⟩
  | 59 => ⟨S64x64, .i32⟩
  | 60 => ⟨S64x64, .i32⟩
  | 61 => ⟨S_, .i32⟩
  | 62 => ⟨S64x64, .i32⟩
  | 63 => ⟨S64x64, .i1⟩
  | 64 => ⟨S64x64, .i1⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i1⟩
  | 81 => ⟨S_, .i32⟩
  | 82 => ⟨S64x64, .i32⟩
  | 83 => ⟨S64x64, .i1⟩
  | 84 => ⟨S_, .i32⟩
  | 85 => ⟨S_, .i1⟩
  | 86 => ⟨S64x64, .i1⟩
  | 87 => ⟨S64x64, .i1⟩
  | 88 => ⟨S64x64, .i1⟩
  | 89 => ⟨S64x64, .i32⟩
  | 90 => ⟨S64x64, .i32⟩
  | 91 => ⟨S64x64, .i32⟩
  | 92 => ⟨S_, .i32⟩
  | 93 => ⟨S64x64, .i32⟩
  | 94 => ⟨S64x64, .i1⟩
  | 95 => ⟨S64x64, .i1⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S64x64, .i32⟩
  | 103 => ⟨S64x64, .i32⟩
  | 104 => ⟨S_, .i32⟩
  | 105 => ⟨S64x64, .i32⟩
  | 106 => ⟨S64x64, .i1⟩
  | 107 => ⟨S_, .i32⟩
  | 108 => ⟨S64x64, .i32⟩
  | 109 => ⟨S64x64, .i1⟩
  | 110 => ⟨S_, .i32⟩
  | 111 => ⟨S_, .i1⟩
  | 112 => ⟨S64x64, .i1⟩
  | 113 => ⟨S64x64, .i1⟩
  | 114 => ⟨S64x64, .i1⟩
  | 115 => ⟨S64x64, .i32⟩
  | 116 => ⟨S64x64, .i32⟩
  | 117 => ⟨S64x64, .i32⟩
  | 118 => ⟨S_, .i32⟩
  | 119 => ⟨S64x64, .i32⟩
  | 120 => ⟨S64x64, .i1⟩
  | 121 => ⟨S64x64, .i1⟩
  | 122 => ⟨S_, .f32⟩
  | 123 => ⟨S_, .f32⟩
  | 124 => ⟨S64x64, .f32⟩
  | 125 => ⟨S64x64, .f32⟩
  | 126 => ⟨S64x64, .f32⟩
  | 127 => ⟨S_, .i32⟩
  | _ => ⟨S1x16384x4096, .f32⟩

abbrev hbmTy0_3 (i : Nat) : BufTy := match i % 128 with
  | 0 => ⟨S_, .i32⟩
  | 1 => ⟨S64x64, .i32⟩
  | 2 => ⟨S64x64, .i32⟩
  | 3 => ⟨S64x64, .i32⟩
  | 4 => ⟨S_, .i32⟩
  | 5 => ⟨S64x64, .i32⟩
  | 6 => ⟨S64x64, .i1⟩
  | 7 => ⟨S64x64, .i32⟩
  | 8 => ⟨S64x64, .i32⟩
  | 9 => ⟨S_, .i32⟩
  | 10 => ⟨S64x64, .i32⟩
  | 11 => ⟨S64x64, .i1⟩
  | 12 => ⟨S64x64, .i1⟩
  | 13 => ⟨S_, .i32⟩
  | 14 => ⟨S64x64, .i32⟩
  | 15 => ⟨S64x64, .i32⟩
  | 16 => ⟨S64x64, .i32⟩
  | 17 => ⟨S_, .i32⟩
  | 18 => ⟨S_, .i32⟩
  | 19 => ⟨S64x64, .i32⟩
  | 20 => ⟨S64x64, .i32⟩
  | 21 => ⟨S64x64, .i32⟩
  | 22 => ⟨S_, .i32⟩
  | 23 => ⟨S64x64, .i32⟩
  | 24 => ⟨S64x64, .i1⟩
  | 25 => ⟨S64x64, .i32⟩
  | 26 => ⟨S64x64, .i32⟩
  | 27 => ⟨S_, .i32⟩
  | 28 => ⟨S64x64, .i32⟩
  | 29 => ⟨S64x64, .i1⟩
  | 30 => ⟨S64x64, .i1⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i1⟩
  | 47 => ⟨S_, .i32⟩
  | 48 => ⟨S64x64, .i32⟩
  | 49 => ⟨S64x64, .i1⟩
  | 50 => ⟨S_, .i32⟩
  | 51 => ⟨S_, .i1⟩
  | 52 => ⟨S64x64, .i1⟩
  | 53 => ⟨S64x64, .i1⟩
  | 54 => ⟨S64x64, .i1⟩
  | 55 => ⟨S64x64, .i32⟩
  | 56 => ⟨S64x64, .i32⟩
  | 57 => ⟨S64x64, .i32⟩
  | 58 => ⟨S_, .i32⟩
  | 59 => ⟨S64x64, .i32⟩
  | 60 => ⟨S64x64, .i1⟩
  | 61 => ⟨S64x64, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i1⟩
  | 73 => ⟨S_, .i32⟩
  | 74 => ⟨S64x64, .i32⟩
  | 75 => ⟨S64x64, .i1⟩
  | 76 => ⟨S_, .i32⟩
  | 77 => ⟨S_, .i1⟩
  | 78 => ⟨S64x64, .i1⟩
  | 79 => ⟨S64x64, .i1⟩
  | 80 => ⟨S64x64, .i1⟩
  | 81 => ⟨S64x64, .i32⟩
  | 82 => ⟨S64x64, .i32⟩
  | 83 => ⟨S64x64, .i32⟩
  | 84 => ⟨S_, .i32⟩
  | 85 => ⟨S64x64, .i32⟩
  | 86 => ⟨S64x64, .i1⟩
  | 87 => ⟨S64x64, .i1⟩
  | 88 => ⟨S_, .f32⟩
  | 89 => ⟨S_, .f32⟩
  | 90 => ⟨S64x64, .f32⟩
  | 91 => ⟨S64x64, .f32⟩
  | 92 => ⟨S64x64, .f32⟩
  | 93 => ⟨S_, .i32⟩
  | 94 => ⟨S_, .i32⟩
  | 95 => ⟨S64x64, .i32⟩
  | 96 => ⟨S64x64, .i32⟩
  | 97 => ⟨S64x64, .i32⟩
  | 98 => ⟨S_, .i32⟩
  | 99 => ⟨S64x64, .i32⟩
  | 100 => ⟨S64x64, .i1⟩
  | 101 => ⟨S64x64, .i32⟩
  | 102 => ⟨S64x64, .i32⟩
  | 103 => ⟨S_, .i32⟩
  | 104 => ⟨S64x64, .i32⟩
  | 105 => ⟨S64x64, .i1⟩
  | 106 => ⟨S64x64, .i1⟩
  | 107 => ⟨S_, .i32⟩
  | 108 => ⟨S64x64, .i32⟩
  | 109 => ⟨S64x64, .i32⟩
  | 110 => ⟨S64x64, .i32⟩
  | 111 => ⟨S_, .i32⟩
  | 112 => ⟨S_, .i32⟩
  | 113 => ⟨S64x64, .i32⟩
  | 114 => ⟨S64x64, .i32⟩
  | 115 => ⟨S64x64, .i32⟩
  | 116 => ⟨S_, .i32⟩
  | 117 => ⟨S64x64, .i32⟩
  | 118 => ⟨S64x64, .i1⟩
  | 119 => ⟨S64x64, .i32⟩
  | 120 => ⟨S64x64, .i32⟩
  | 121 => ⟨S_, .i32⟩
  | 122 => ⟨S64x64, .i32⟩
  | 123 => ⟨S64x64, .i1⟩
  | 124 => ⟨S64x64, .i1⟩
  | 125 => ⟨S_, .i32⟩
  | 126 => ⟨S64x64, .i32⟩
  | 127 => ⟨S64x64, .i32⟩
  | _ => ⟨S1x16384x4096, .f32⟩

abbrev hbmTy0_4 (i : Nat) : BufTy := match i % 128 with
  | 0 => ⟨S64x64, .i32⟩
  | 1 => ⟨S64x64, .i1⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S64x64, .i32⟩
  | 9 => ⟨S64x64, .i32⟩
  | 10 => ⟨S_, .i32⟩
  | 11 => ⟨S64x64, .i32⟩
  | 12 => ⟨S64x64, .i1⟩
  | 13 => ⟨S_, .i32⟩
  | 14 => ⟨S64x64, .i32⟩
  | 15 => ⟨S64x64, .i1⟩
  | 16 => ⟨S_, .i32⟩
  | 17 => ⟨S_, .i1⟩
  | 18 => ⟨S64x64, .i1⟩
  | 19 => ⟨S64x64, .i1⟩
  | 20 => ⟨S64x64, .i1⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i1⟩
  | 27 => ⟨S64x64, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S64x64, .i32⟩
  | 35 => ⟨S64x64, .i32⟩
  | 36 => ⟨S_, .i32⟩
  | 37 => ⟨S64x64, .i32⟩
  | 38 => ⟨S64x64, .i1⟩
  | 39 => ⟨S_, .i32⟩
  | 40 => ⟨S64x64, .i32⟩
  | 41 => ⟨S64x64, .i1⟩
  | 42 => ⟨S_, .i32⟩
  | 43 => ⟨S_, .i1⟩
  | 44 => ⟨S64x64, .i1⟩
  | 45 => ⟨S64x64, .i1⟩
  | 46 => ⟨S64x64, .i1⟩
  | 47 => ⟨S64x64, .i32⟩
  | 48 => ⟨S64x64, .i32⟩
  | 49 => ⟨S64x64, .i32⟩
  | 50 => ⟨S_, .i32⟩
  | 51 => ⟨S64x64, .i32⟩
  | 52 => ⟨S64x64, .i1⟩
  | 53 => ⟨S64x64, .i1⟩
  | 54 => ⟨S_, .f32⟩
  | 55 => ⟨S_, .f32⟩
  | 56 => ⟨S64x64, .f32⟩
  | 57 => ⟨S64x64, .f32⟩
  | 58 => ⟨S64x64, .f32⟩
  | 59 => ⟨S64x64, .i1⟩
  | 60 => ⟨S_, .f32⟩
  | 61 => ⟨S_, .f32⟩
  | 62 => ⟨S64x64, .f32⟩
  | 63 => ⟨S64x64, .f32⟩
  | 64 => ⟨S64x64, .f32⟩
  | 65 => ⟨S64x64, .i1⟩
  | 66 => ⟨S_, .f32⟩
  | 67 => ⟨S_, .f32⟩
  | 68 => ⟨S64x64, .f32⟩
  | 69 => ⟨S64x64, .f32⟩
  | 70 => ⟨S64x64, .f32⟩
  | 71 => ⟨S1x64x64, .f32⟩
  | 72 => ⟨S1x64x64, .f32⟩
  | 73 => ⟨S1x64x64, .f32⟩
  | 74 => ⟨S1x64x64, .f32⟩
  | 75 => ⟨S1x64x64, .f32⟩
  | 76 => ⟨S1x64x64, .f32⟩
  | 77 => ⟨S1x64x64, .f32⟩
  | 78 => ⟨S7x64x64, .f32⟩
  | 79 => ⟨S1x1024, .f32⟩
  | 80 => ⟨S1x128, .f32⟩
  | 81 => ⟨S64x64, .bf16⟩
  | 82 => ⟨S1x16384x1024, .f32⟩
  | 83 => ⟨S1x8x128x128, .f32⟩
  | _ => ⟨S1x16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x16384x4096, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x128, .f32⟩
  | .local _ .vmem, ⟨10, _⟩ => ⟨S1x8x128x128, .f32⟩
  | .local _ .vmem, ⟨11, _⟩ => ⟨S64x64, .bf16⟩
  | .local _ .vmem, ⟨12, _⟩ => ⟨S7x64x64, .f32⟩
  | .local _ .vmem, ⟨13, _⟩ => ⟨S1x128x1024, .f32⟩
  | .local _ .vmem, ⟨14, _⟩ => ⟨S1x128x1024, .f32⟩
  | .local _ .vmem, ⟨15, _⟩ => ⟨S1x8x128x128, .f32⟩
  | .local _ .vmem, ⟨16, _⟩ => ⟨S8x128x128, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v6 : Ref sig .tc := ⟨.hbm, 65, rfl⟩
abbrev main_c_2 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_c_3 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v10 : Ref sig .tc := ⟨.hbm, 91, rfl⟩
abbrev main_c_4 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_cst_5 : Ref sig .tc := ⟨.hbm, 96, rfl⟩
abbrev main_cst_6 : Ref sig .tc := ⟨.hbm, 97, rfl⟩
abbrev main_call4_v0 : Ref sig .tc := ⟨.hbm, 98, rfl⟩
abbrev main_call4_v1 : Ref sig .tc := ⟨.hbm, 99, rfl⟩
abbrev main_v14 : Ref sig .tc := ⟨.hbm, 100, rfl⟩
abbrev main_c_7 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_c : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_0 : Ref sig .tc := ⟨.hbm, 115, rfl⟩
abbrev main_call5_v12 : Ref sig .tc := ⟨.hbm, 116, rfl⟩
abbrev main_call5_v13 : Ref sig .tc := ⟨.hbm, 117, rfl⟩
abbrev main_v15 : Ref sig .tc := ⟨.hbm, 118, rfl⟩
abbrev main_c_8 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_call6_v5 : Ref sig .tc := ⟨.hbm, 125, rfl⟩
abbrev main_call6_v6 : Ref sig .tc := ⟨.hbm, 126, rfl⟩
abbrev main_call6_v7 : Ref sig .tc := ⟨.hbm, 127, rfl⟩
abbrev main_call6_v8 : Ref sig .tc := ⟨.hbm, 128, rfl⟩
abbrev main_call6_c : Ref sig .tc := ⟨.hbm, 129, rfl⟩
abbrev main_call6_v9 : Ref sig .tc := ⟨.hbm, 130, rfl⟩
abbrev main_call6_v10 : Ref sig .tc := ⟨.hbm, 131, rfl⟩
abbrev main_call6_v11 : Ref sig .tc := ⟨.hbm, 132, rfl⟩
abbrev main_call6_c_0 : Ref sig .tc := ⟨.hbm, 133, rfl⟩
abbrev main_call6_v12 : Ref sig .tc := ⟨.hbm, 134, rfl⟩
abbrev main_call6_v13 : Ref sig .tc := ⟨.hbm, 135, rfl⟩
abbrev main_v16 : Ref sig .tc := ⟨.hbm, 136, rfl⟩
abbrev main_v17 : Ref sig .tc := ⟨.hbm, 137, rfl⟩
abbrev main_c_9 : Ref sig .tc := ⟨.hbm, 138, rfl⟩
abbrev main_call7_v0 : Ref sig .tc := ⟨.hbm, 139, rfl⟩
abbrev main_call7_c : Ref sig .tc := ⟨.hbm, 140, rfl⟩
abbrev main_call7_v1 : Ref sig .tc := ⟨.hbm, 141, rfl⟩
abbrev main_call7_c_0 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_c_1 : Ref sig .tc := ⟨.hbm, 146, rfl⟩
abbrev main_call7_v5 : Ref sig .tc := ⟨.hbm, 147, rfl⟩
abbrev main_call7_v6 : Ref sig .tc := ⟨.hbm, 148, rfl⟩
abbrev main_call7_c_2 : Ref sig .tc := ⟨.hbm, 149, rfl⟩
abbrev main_call7_v7 : Ref sig .tc := ⟨.hbm, 150, rfl⟩
abbrev main_call7_v8 : Ref sig .tc := ⟨.hbm, 151, rfl⟩
abbrev main_call7_c_3 : Ref sig .tc := ⟨.hbm, 152, rfl⟩
abbrev main_call7_v9 : Ref sig .tc := ⟨.hbm, 153, rfl⟩
abbrev main_call7_v10 : Ref sig .tc := ⟨.hbm, 154, rfl⟩
abbrev main_call7_v11 : Ref sig .tc := ⟨.hbm, 155, rfl⟩
abbrev main_call7_v12 : Ref sig .tc := ⟨.hbm, 156, rfl⟩
abbrev main_call7_v13 : Ref sig .tc := ⟨.hbm, 157, rfl⟩
abbrev main_call7_v14 : Ref sig .tc := ⟨.hbm, 158, rfl⟩
abbrev main_v18 : Ref sig .tc := ⟨.hbm, 159, rfl⟩
abbrev main_c_10 : Ref sig .tc := ⟨.hbm, 160, rfl⟩
abbrev main_v19 : Ref sig .tc := ⟨.hbm, 161, rfl⟩
abbrev main_v20 : Ref sig .tc := ⟨.hbm, 162, rfl⟩
abbrev main_v21 : Ref sig .tc := ⟨.hbm, 163, rfl⟩
abbrev main_c_11 : Ref sig .tc := ⟨.hbm, 164, rfl⟩
abbrev main_call8_v0 : Ref sig .tc := ⟨.hbm, 165, rfl⟩
abbrev main_call8_c : Ref sig .tc := ⟨.hbm, 166, rfl⟩
abbrev main_call8_v1 : Ref sig .tc := ⟨.hbm, 167, rfl⟩
abbrev main_call8_c_0 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_call8_c_1 : Ref sig .tc := ⟨.hbm, 172, rfl⟩
abbrev main_call8_v5 : Ref sig .tc := ⟨.hbm, 173, rfl⟩
abbrev main_call8_v6 : Ref sig .tc := ⟨.hbm, 174, rfl⟩
abbrev main_call8_c_2 : Ref sig .tc := ⟨.hbm, 175, rfl⟩
abbrev main_call8_v7 : Ref sig .tc := ⟨.hbm, 176, rfl⟩
abbrev main_call8_v8 : Ref sig .tc := ⟨.hbm, 177, rfl⟩
abbrev main_call8_c_3 : Ref sig .tc := ⟨.hbm, 178, rfl⟩
abbrev main_call8_v9 : Ref sig .tc := ⟨.hbm, 179, rfl⟩
abbrev main_call8_v10 : Ref sig .tc := ⟨.hbm, 180, rfl⟩
abbrev main_call8_v11 : Ref sig .tc := ⟨.hbm, 181, rfl⟩
abbrev main_call8_v12 : Ref sig .tc := ⟨.hbm, 182, rfl⟩
abbrev main_call8_v13 : Ref sig .tc := ⟨.hbm, 183, rfl⟩
abbrev main_call8_v14 : Ref sig .tc := ⟨.hbm, 184, rfl⟩
abbrev main_v22 : Ref sig .tc := ⟨.hbm, 185, rfl⟩
abbrev main_c_12 : Ref sig .tc := ⟨.hbm, 186, rfl⟩
abbrev main_v23 : Ref sig .tc := ⟨.hbm, 187, rfl⟩
abbrev main_v24 : Ref sig .tc := ⟨.hbm, 188, rfl⟩
abbrev main_v25 : Ref sig .tc := ⟨.hbm, 189, rfl⟩
abbrev main_cst_13 : Ref sig .tc := ⟨.hbm, 190, rfl⟩
abbrev main_cst_14 : Ref sig .tc := ⟨.hbm, 191, rfl⟩
abbrev main_call9_v0 : Ref sig .tc := ⟨.hbm, 192, rfl⟩
abbrev main_call9_v1 : Ref sig .tc := ⟨.hbm, 193, rfl⟩
abbrev main_v26 : Ref sig .tc := ⟨.hbm, 194, rfl⟩
abbrev main_c_15 : Ref sig .tc := ⟨.hbm, 195, rfl⟩
abbrev main_call10_v0 : Ref sig .tc := ⟨.hbm, 196, rfl⟩
abbrev main_call10_v1 : Ref sig .tc := ⟨.hbm, 197, rfl⟩
abbrev main_call10_v2 : Ref sig .tc := ⟨.hbm, 198, rfl⟩
abbrev main_call10_v3 : Ref sig .tc := ⟨.hbm, 199, rfl⟩
abbrev main_call10_v4 : Ref sig .tc := ⟨.hbm, 200, rfl⟩
abbrev main_call10_v5 : Ref sig .tc := ⟨.hbm, 201, rfl⟩
abbrev main_call10_v6 : Ref sig .tc := ⟨.hbm, 202, rfl⟩
abbrev main_call10_v7 : Ref sig .tc := ⟨.hbm, 203, rfl⟩
abbrev main_call10_v8 : Ref sig .tc := ⟨.hbm, 204, rfl⟩
abbrev main_call10_c : Ref sig .tc := ⟨.hbm, 205, rfl⟩
abbrev main_call10_v9 : Ref sig .tc := ⟨.hbm, 206, rfl⟩
abbrev main_call10_v10 : Ref sig .tc := ⟨.hbm, 207, rfl⟩
abbrev main_call10_v11 : Ref sig .tc := ⟨.hbm, 208, rfl⟩
abbrev main_call10_c_0 : Ref sig .tc := ⟨.hbm, 209, rfl⟩
abbrev main_call10_v12 : Ref sig .tc := ⟨.hbm, 210, rfl⟩
abbrev main_call10_v13 : Ref sig .tc := ⟨.hbm, 211, rfl⟩
abbrev main_v27 : Ref sig .tc := ⟨.hbm, 212, rfl⟩
abbrev main_c_16 : Ref sig .tc := ⟨.hbm, 213, rfl⟩
abbrev main_call11_v0 : Ref sig .tc := ⟨.hbm, 214, rfl⟩
abbrev main_call11_v1 : Ref sig .tc := ⟨.hbm, 215, rfl⟩
abbrev main_call11_v2 : Ref sig .tc := ⟨.hbm, 216, rfl⟩
abbrev main_call11_v3 : Ref sig .tc := ⟨.hbm, 217, rfl⟩
abbrev main_call11_v4 : Ref sig .tc := ⟨.hbm, 218, rfl⟩
abbrev main_call11_v5 : Ref sig .tc := ⟨.hbm, 219, rfl⟩
abbrev main_call11_v6 : Ref sig .tc := ⟨.hbm, 220, rfl⟩
abbrev main_call11_v7 : Ref sig .tc := ⟨.hbm, 221, rfl⟩
abbrev main_call11_v8 : Ref sig .tc := ⟨.hbm, 222, rfl⟩
abbrev main_call11_c : Ref sig .tc := ⟨.hbm, 223, rfl⟩
abbrev main_call11_v9 : Ref sig .tc := ⟨.hbm, 224, rfl⟩
abbrev main_call11_v10 : Ref sig .tc := ⟨.hbm, 225, rfl⟩
abbrev main_call11_v11 : Ref sig .tc := ⟨.hbm, 226, rfl⟩
abbrev main_call11_c_0 : Ref sig .tc := ⟨.hbm, 227, rfl⟩
abbrev main_call11_v12 : Ref sig .tc := ⟨.hbm, 228, rfl⟩
abbrev main_call11_v13 : Ref sig .tc := ⟨.hbm, 229, rfl⟩
abbrev main_v28 : Ref sig .tc := ⟨.hbm, 230, rfl⟩
abbrev main_v29 : Ref sig .tc := ⟨.hbm, 231, rfl⟩
abbrev main_c_17 : Ref sig .tc := ⟨.hbm, 232, rfl⟩
abbrev main_call12_v0 : Ref sig .tc := ⟨.hbm, 233, rfl⟩
abbrev main_call12_c : Ref sig .tc := ⟨.hbm, 234, rfl⟩
abbrev main_call12_v1 : Ref sig .tc := ⟨.hbm, 235, rfl⟩
abbrev main_call12_c_0 : Ref sig .tc := ⟨.hbm, 236, rfl⟩
abbrev main_call12_v2 : Ref sig .tc := ⟨.hbm, 237, rfl⟩
abbrev main_call12_v3 : Ref sig .tc := ⟨.hbm, 238, rfl⟩
abbrev main_call12_v4 : Ref sig .tc := ⟨.hbm, 239, rfl⟩
abbrev main_call12_c_1 : Ref sig .tc := ⟨.hbm, 240, rfl⟩
abbrev main_call12_v5 : Ref sig .tc := ⟨.hbm, 241, rfl⟩
abbrev main_call12_v6 : Ref sig .tc := ⟨.hbm, 242, rfl⟩
abbrev main_call12_c_2 : Ref sig .tc := ⟨.hbm, 243, rfl⟩
abbrev main_call12_v7 : Ref sig .tc := ⟨.hbm, 244, rfl⟩
abbrev main_call12_v8 : Ref sig .tc := ⟨.hbm, 245, rfl⟩
abbrev main_call12_c_3 : Ref sig .tc := ⟨.hbm, 246, rfl⟩
abbrev main_call12_v9 : Ref sig .tc := ⟨.hbm, 247, rfl⟩
abbrev main_call12_v10 : Ref sig .tc := ⟨.hbm, 248, rfl⟩
abbrev main_call12_v11 : Ref sig .tc := ⟨.hbm, 249, rfl⟩
abbrev main_call12_v12 : Ref sig .tc := ⟨.hbm, 250, rfl⟩
abbrev main_call12_v13 : Ref sig .tc := ⟨.hbm, 251, rfl⟩
abbrev main_call12_v14 : Ref sig .tc := ⟨.hbm, 252, rfl⟩
abbrev main_v30 : Ref sig .tc := ⟨.hbm, 253, rfl⟩
abbrev main_c_18 : Ref sig .tc := ⟨.hbm, 254, rfl⟩
abbrev main_v31 : Ref sig .tc := ⟨.hbm, 255, rfl⟩
abbrev main_v32 : Ref sig .tc := ⟨.hbm, 256, rfl⟩
abbrev main_v33 : Ref sig .tc := ⟨.hbm, 257, rfl⟩
abbrev main_c_19 : Ref sig .tc := ⟨.hbm, 258, rfl⟩
abbrev main_call13_v0 : Ref sig .tc := ⟨.hbm, 259, rfl⟩
abbrev main_call13_c : Ref sig .tc := ⟨.hbm, 260, rfl⟩
abbrev main_call13_v1 : Ref sig .tc := ⟨.hbm, 261, rfl⟩
abbrev main_call13_c_0 : Ref sig .tc := ⟨.hbm, 262, rfl⟩
abbrev main_call13_v2 : Ref sig .tc := ⟨.hbm, 263, rfl⟩
abbrev main_call13_v3 : Ref sig .tc := ⟨.hbm, 264, rfl⟩
abbrev main_call13_v4 : Ref sig .tc := ⟨.hbm, 265, rfl⟩
abbrev main_call13_c_1 : Ref sig .tc := ⟨.hbm, 266, rfl⟩
abbrev main_call13_v5 : Ref sig .tc := ⟨.hbm, 267, rfl⟩
abbrev main_call13_v6 : Ref sig .tc := ⟨.hbm, 268, rfl⟩
abbrev main_call13_c_2 : Ref sig .tc := ⟨.hbm, 269, rfl⟩
abbrev main_call13_v7 : Ref sig .tc := ⟨.hbm, 270, rfl⟩
abbrev main_call13_v8 : Ref sig .tc := ⟨.hbm, 271, rfl⟩
abbrev main_call13_c_3 : Ref sig .tc := ⟨.hbm, 272, rfl⟩
abbrev main_call13_v9 : Ref sig .tc := ⟨.hbm, 273, rfl⟩
abbrev main_call13_v10 : Ref sig .tc := ⟨.hbm, 274, rfl⟩
abbrev main_call13_v11 : Ref sig .tc := ⟨.hbm, 275, rfl⟩
abbrev main_call13_v12 : Ref sig .tc := ⟨.hbm, 276, rfl⟩
abbrev main_call13_v13 : Ref sig .tc := ⟨.hbm, 277, rfl⟩
abbrev main_call13_v14 : Ref sig .tc := ⟨.hbm, 278, rfl⟩
abbrev main_v34 : Ref sig .tc := ⟨.hbm, 279, rfl⟩
abbrev main_c_20 : Ref sig .tc := ⟨.hbm, 280, rfl⟩
abbrev main_v35 : Ref sig .tc := ⟨.hbm, 281, rfl⟩
abbrev main_v36 : Ref sig .tc := ⟨.hbm, 282, rfl⟩
abbrev main_v37 : Ref sig .tc := ⟨.hbm, 283, rfl⟩
abbrev main_cst_21 : Ref sig .tc := ⟨.hbm, 284, rfl⟩
abbrev main_cst_22 : Ref sig .tc := ⟨.hbm, 285, rfl⟩
abbrev main_call14_v0 : Ref sig .tc := ⟨.hbm, 286, rfl⟩
abbrev main_call14_v1 : Ref sig .tc := ⟨.hbm, 287, rfl⟩
abbrev main_v38 : Ref sig .tc := ⟨.hbm, 288, rfl⟩
abbrev main_c_23 : Ref sig .tc := ⟨.hbm, 289, rfl⟩
abbrev main_call15_v0 : Ref sig .tc := ⟨.hbm, 290, rfl⟩
abbrev main_call15_v1 : Ref sig .tc := ⟨.hbm, 291, rfl⟩
abbrev main_call15_v2 : Ref sig .tc := ⟨.hbm, 292, rfl⟩
abbrev main_call15_v3 : Ref sig .tc := ⟨.hbm, 293, rfl⟩
abbrev main_call15_v4 : Ref sig .tc := ⟨.hbm, 294, rfl⟩
abbrev main_call15_v5 : Ref sig .tc := ⟨.hbm, 295, rfl⟩
abbrev main_call15_v6 : Ref sig .tc := ⟨.hbm, 296, rfl⟩
abbrev main_call15_v7 : Ref sig .tc := ⟨.hbm, 297, rfl⟩
abbrev main_call15_v8 : Ref sig .tc := ⟨.hbm, 298, rfl⟩
abbrev main_call15_c : Ref sig .tc := ⟨.hbm, 299, rfl⟩
abbrev main_call15_v9 : Ref sig .tc := ⟨.hbm, 300, rfl⟩
abbrev main_call15_v10 : Ref sig .tc := ⟨.hbm, 301, rfl⟩
abbrev main_call15_v11 : Ref sig .tc := ⟨.hbm, 302, rfl⟩
abbrev main_call15_c_0 : Ref sig .tc := ⟨.hbm, 303, rfl⟩
abbrev main_call15_v12 : Ref sig .tc := ⟨.hbm, 304, rfl⟩
abbrev main_call15_v13 : Ref sig .tc := ⟨.hbm, 305, rfl⟩
abbrev main_v39 : Ref sig .tc := ⟨.hbm, 306, rfl⟩
abbrev main_c_24 : Ref sig .tc := ⟨.hbm, 307, rfl⟩
abbrev main_call16_v0 : Ref sig .tc := ⟨.hbm, 308, rfl⟩
abbrev main_call16_v1 : Ref sig .tc := ⟨.hbm, 309, rfl⟩
abbrev main_call16_v2 : Ref sig .tc := ⟨.hbm, 310, rfl⟩
abbrev main_call16_v3 : Ref sig .tc := ⟨.hbm, 311, rfl⟩
abbrev main_call16_v4 : Ref sig .tc := ⟨.hbm, 312, rfl⟩
abbrev main_call16_v5 : Ref sig .tc := ⟨.hbm, 313, rfl⟩
abbrev main_call16_v6 : Ref sig .tc := ⟨.hbm, 314, rfl⟩
abbrev main_call16_v7 : Ref sig .tc := ⟨.hbm, 315, rfl⟩
abbrev main_call16_v8 : Ref sig .tc := ⟨.hbm, 316, rfl⟩
abbrev main_call16_c : Ref sig .tc := ⟨.hbm, 317, rfl⟩
abbrev main_call16_v9 : Ref sig .tc := ⟨.hbm, 318, rfl⟩
abbrev main_call16_v10 : Ref sig .tc := ⟨.hbm, 319, rfl⟩
abbrev main_call16_v11 : Ref sig .tc := ⟨.hbm, 320, rfl⟩
abbrev main_call16_c_0 : Ref sig .tc := ⟨.hbm, 321, rfl⟩
abbrev main_call16_v12 : Ref sig .tc := ⟨.hbm, 322, rfl⟩
abbrev main_call16_v13 : Ref sig .tc := ⟨.hbm, 323, rfl⟩
abbrev main_v40 : Ref sig .tc := ⟨.hbm, 324, rfl⟩
abbrev main_v41 : Ref sig .tc := ⟨.hbm, 325, rfl⟩
abbrev main_c_25 : Ref sig .tc := ⟨.hbm, 326, rfl⟩
abbrev main_call17_v0 : Ref sig .tc := ⟨.hbm, 327, rfl⟩
abbrev main_call17_c : Ref sig .tc := ⟨.hbm, 328, rfl⟩
abbrev main_call17_v1 : Ref sig .tc := ⟨.hbm, 329, rfl⟩
abbrev main_call17_c_0 : Ref sig .tc := ⟨.hbm, 330, rfl⟩
abbrev main_call17_v2 : Ref sig .tc := ⟨.hbm, 331, rfl⟩
abbrev main_call17_v3 : Ref sig .tc := ⟨.hbm, 332, rfl⟩
abbrev main_call17_v4 : Ref sig .tc := ⟨.hbm, 333, rfl⟩
abbrev main_call17_c_1 : Ref sig .tc := ⟨.hbm, 334, rfl⟩
abbrev main_call17_v5 : Ref sig .tc := ⟨.hbm, 335, rfl⟩
abbrev main_call17_v6 : Ref sig .tc := ⟨.hbm, 336, rfl⟩
abbrev main_call17_c_2 : Ref sig .tc := ⟨.hbm, 337, rfl⟩
abbrev main_call17_v7 : Ref sig .tc := ⟨.hbm, 338, rfl⟩
abbrev main_call17_v8 : Ref sig .tc := ⟨.hbm, 339, rfl⟩
abbrev main_call17_c_3 : Ref sig .tc := ⟨.hbm, 340, rfl⟩
abbrev main_call17_v9 : Ref sig .tc := ⟨.hbm, 341, rfl⟩
abbrev main_call17_v10 : Ref sig .tc := ⟨.hbm, 342, rfl⟩
abbrev main_call17_v11 : Ref sig .tc := ⟨.hbm, 343, rfl⟩
abbrev main_call17_v12 : Ref sig .tc := ⟨.hbm, 344, rfl⟩
abbrev main_call17_v13 : Ref sig .tc := ⟨.hbm, 345, rfl⟩
abbrev main_call17_v14 : Ref sig .tc := ⟨.hbm, 346, rfl⟩
abbrev main_v42 : Ref sig .tc := ⟨.hbm, 347, rfl⟩
abbrev main_c_26 : Ref sig .tc := ⟨.hbm, 348, rfl⟩
abbrev main_v43 : Ref sig .tc := ⟨.hbm, 349, rfl⟩
abbrev main_v44 : Ref sig .tc := ⟨.hbm, 350, rfl⟩
abbrev main_v45 : Ref sig .tc := ⟨.hbm, 351, rfl⟩
abbrev main_c_27 : Ref sig .tc := ⟨.hbm, 352, rfl⟩
abbrev main_call18_v0 : Ref sig .tc := ⟨.hbm, 353, rfl⟩
abbrev main_call18_c : Ref sig .tc := ⟨.hbm, 354, rfl⟩
abbrev main_call18_v1 : Ref sig .tc := ⟨.hbm, 355, rfl⟩
abbrev main_call18_c_0 : Ref sig .tc := ⟨.hbm, 356, rfl⟩
abbrev main_call18_v2 : Ref sig .tc := ⟨.hbm, 357, rfl⟩
abbrev main_call18_v3 : Ref sig .tc := ⟨.hbm, 358, rfl⟩
abbrev main_call18_v4 : Ref sig .tc := ⟨.hbm, 359, rfl⟩
abbrev main_call18_c_1 : Ref sig .tc := ⟨.hbm, 360, rfl⟩
abbrev main_call18_v5 : Ref sig .tc := ⟨.hbm, 361, rfl⟩
abbrev main_call18_v6 : Ref sig .tc := ⟨.hbm, 362, rfl⟩
abbrev main_call18_c_2 : Ref sig .tc := ⟨.hbm, 363, rfl⟩
abbrev main_call18_v7 : Ref sig .tc := ⟨.hbm, 364, rfl⟩
abbrev main_call18_v8 : Ref sig .tc := ⟨.hbm, 365, rfl⟩
abbrev main_call18_c_3 : Ref sig .tc := ⟨.hbm, 366, rfl⟩
abbrev main_call18_v9 : Ref sig .tc := ⟨.hbm, 367, rfl⟩
abbrev main_call18_v10 : Ref sig .tc := ⟨.hbm, 368, rfl⟩
abbrev main_call18_v11 : Ref sig .tc := ⟨.hbm, 369, rfl⟩
abbrev main_call18_v12 : Ref sig .tc := ⟨.hbm, 370, rfl⟩
abbrev main_call18_v13 : Ref sig .tc := ⟨.hbm, 371, rfl⟩
abbrev main_call18_v14 : Ref sig .tc := ⟨.hbm, 372, rfl⟩
abbrev main_v46 : Ref sig .tc := ⟨.hbm, 373, rfl⟩
abbrev main_c_28 : Ref sig .tc := ⟨.hbm, 374, rfl⟩
abbrev main_v47 : Ref sig .tc := ⟨.hbm, 375, rfl⟩
abbrev main_v48 : Ref sig .tc := ⟨.hbm, 376, rfl⟩
abbrev main_v49 : Ref sig .tc := ⟨.hbm, 377, rfl⟩
abbrev main_cst_29 : Ref sig .tc := ⟨.hbm, 378, rfl⟩
abbrev main_cst_30 : Ref sig .tc := ⟨.hbm, 379, rfl⟩
abbrev main_call19_v0 : Ref sig .tc := ⟨.hbm, 380, rfl⟩
abbrev main_call19_v1 : Ref sig .tc := ⟨.hbm, 381, rfl⟩
abbrev main_v50 : Ref sig .tc := ⟨.hbm, 382, rfl⟩
abbrev main_c_31 : Ref sig .tc := ⟨.hbm, 383, rfl⟩
abbrev main_call20_v0 : Ref sig .tc := ⟨.hbm, 384, rfl⟩
abbrev main_call20_v1 : Ref sig .tc := ⟨.hbm, 385, rfl⟩
abbrev main_call20_v2 : Ref sig .tc := ⟨.hbm, 386, rfl⟩
abbrev main_call20_v3 : Ref sig .tc := ⟨.hbm, 387, rfl⟩
abbrev main_call20_v4 : Ref sig .tc := ⟨.hbm, 388, rfl⟩
abbrev main_call20_v5 : Ref sig .tc := ⟨.hbm, 389, rfl⟩
abbrev main_call20_v6 : Ref sig .tc := ⟨.hbm, 390, rfl⟩
abbrev main_call20_v7 : Ref sig .tc := ⟨.hbm, 391, rfl⟩
abbrev main_call20_v8 : Ref sig .tc := ⟨.hbm, 392, rfl⟩
abbrev main_call20_c : Ref sig .tc := ⟨.hbm, 393, rfl⟩
abbrev main_call20_v9 : Ref sig .tc := ⟨.hbm, 394, rfl⟩
abbrev main_call20_v10 : Ref sig .tc := ⟨.hbm, 395, rfl⟩
abbrev main_call20_v11 : Ref sig .tc := ⟨.hbm, 396, rfl⟩
abbrev main_call20_c_0 : Ref sig .tc := ⟨.hbm, 397, rfl⟩
abbrev main_call20_v12 : Ref sig .tc := ⟨.hbm, 398, rfl⟩
abbrev main_call20_v13 : Ref sig .tc := ⟨.hbm, 399, rfl⟩
abbrev main_v51 : Ref sig .tc := ⟨.hbm, 400, rfl⟩
abbrev main_c_32 : Ref sig .tc := ⟨.hbm, 401, rfl⟩
abbrev main_call21_v0 : Ref sig .tc := ⟨.hbm, 402, rfl⟩
abbrev main_call21_v1 : Ref sig .tc := ⟨.hbm, 403, rfl⟩
abbrev main_call21_v2 : Ref sig .tc := ⟨.hbm, 404, rfl⟩
abbrev main_call21_v3 : Ref sig .tc := ⟨.hbm, 405, rfl⟩
abbrev main_call21_v4 : Ref sig .tc := ⟨.hbm, 406, rfl⟩
abbrev main_call21_v5 : Ref sig .tc := ⟨.hbm, 407, rfl⟩
abbrev main_call21_v6 : Ref sig .tc := ⟨.hbm, 408, rfl⟩
abbrev main_call21_v7 : Ref sig .tc := ⟨.hbm, 409, rfl⟩
abbrev main_call21_v8 : Ref sig .tc := ⟨.hbm, 410, rfl⟩
abbrev main_call21_c : Ref sig .tc := ⟨.hbm, 411, rfl⟩
abbrev main_call21_v9 : Ref sig .tc := ⟨.hbm, 412, rfl⟩
abbrev main_call21_v10 : Ref sig .tc := ⟨.hbm, 413, rfl⟩
abbrev main_call21_v11 : Ref sig .tc := ⟨.hbm, 414, rfl⟩
abbrev main_call21_c_0 : Ref sig .tc := ⟨.hbm, 415, rfl⟩
abbrev main_call21_v12 : Ref sig .tc := ⟨.hbm, 416, rfl⟩
abbrev main_call21_v13 : Ref sig .tc := ⟨.hbm, 417, rfl⟩
abbrev main_v52 : Ref sig .tc := ⟨.hbm, 418, rfl⟩
abbrev main_v53 : Ref sig .tc := ⟨.hbm, 419, rfl⟩
abbrev main_c_33 : Ref sig .tc := ⟨.hbm, 420, rfl⟩
abbrev main_call22_v0 : Ref sig .tc := ⟨.hbm, 421, rfl⟩
abbrev main_call22_c : Ref sig .tc := ⟨.hbm, 422, rfl⟩
abbrev main_call22_v1 : Ref sig .tc := ⟨.hbm, 423, rfl⟩
abbrev main_call22_c_0 : Ref sig .tc := ⟨.hbm, 424, rfl⟩
abbrev main_call22_v2 : Ref sig .tc := ⟨.hbm, 425, rfl⟩
abbrev main_call22_v3 : Ref sig .tc := ⟨.hbm, 426, rfl⟩
abbrev main_call22_v4 : Ref sig .tc := ⟨.hbm, 427, rfl⟩
abbrev main_call22_c_1 : Ref sig .tc := ⟨.hbm, 428, rfl⟩
abbrev main_call22_v5 : Ref sig .tc := ⟨.hbm, 429, rfl⟩
abbrev main_call22_v6 : Ref sig .tc := ⟨.hbm, 430, rfl⟩
abbrev main_call22_c_2 : Ref sig .tc := ⟨.hbm, 431, rfl⟩
abbrev main_call22_v7 : Ref sig .tc := ⟨.hbm, 432, rfl⟩
abbrev main_call22_v8 : Ref sig .tc := ⟨.hbm, 433, rfl⟩
abbrev main_call22_c_3 : Ref sig .tc := ⟨.hbm, 434, rfl⟩
abbrev main_call22_v9 : Ref sig .tc := ⟨.hbm, 435, rfl⟩
abbrev main_call22_v10 : Ref sig .tc := ⟨.hbm, 436, rfl⟩
abbrev main_call22_v11 : Ref sig .tc := ⟨.hbm, 437, rfl⟩
abbrev main_call22_v12 : Ref sig .tc := ⟨.hbm, 438, rfl⟩
abbrev main_call22_v13 : Ref sig .tc := ⟨.hbm, 439, rfl⟩
abbrev main_call22_v14 : Ref sig .tc := ⟨.hbm, 440, rfl⟩
abbrev main_v54 : Ref sig .tc := ⟨.hbm, 441, rfl⟩
abbrev main_c_34 : Ref sig .tc := ⟨.hbm, 442, rfl⟩
abbrev main_v55 : Ref sig .tc := ⟨.hbm, 443, rfl⟩
abbrev main_v56 : Ref sig .tc := ⟨.hbm, 444, rfl⟩
abbrev main_v57 : Ref sig .tc := ⟨.hbm, 445, rfl⟩
abbrev main_c_35 : Ref sig .tc := ⟨.hbm, 446, rfl⟩
abbrev main_call23_v0 : Ref sig .tc := ⟨.hbm, 447, rfl⟩
abbrev main_call23_c : Ref sig .tc := ⟨.hbm, 448, rfl⟩
abbrev main_call23_v1 : Ref sig .tc := ⟨.hbm, 449, rfl⟩
abbrev main_call23_c_0 : Ref sig .tc := ⟨.hbm, 450, rfl⟩
abbrev main_call23_v2 : Ref sig .tc := ⟨.hbm, 451, rfl⟩
abbrev main_call23_v3 : Ref sig .tc := ⟨.hbm, 452, rfl⟩
abbrev main_call23_v4 : Ref sig .tc := ⟨.hbm, 453, rfl⟩
abbrev main_call23_c_1 : Ref sig .tc := ⟨.hbm, 454, rfl⟩
abbrev main_call23_v5 : Ref sig .tc := ⟨.hbm, 455, rfl⟩
abbrev main_call23_v6 : Ref sig .tc := ⟨.hbm, 456, rfl⟩
abbrev main_call23_c_2 : Ref sig .tc := ⟨.hbm, 457, rfl⟩
abbrev main_call23_v7 : Ref sig .tc := ⟨.hbm, 458, rfl⟩
abbrev main_call23_v8 : Ref sig .tc := ⟨.hbm, 459, rfl⟩
abbrev main_call23_c_3 : Ref sig .tc := ⟨.hbm, 460, rfl⟩
abbrev main_call23_v9 : Ref sig .tc := ⟨.hbm, 461, rfl⟩
abbrev main_call23_v10 : Ref sig .tc := ⟨.hbm, 462, rfl⟩
abbrev main_call23_v11 : Ref sig .tc := ⟨.hbm, 463, rfl⟩
abbrev main_call23_v12 : Ref sig .tc := ⟨.hbm, 464, rfl⟩
abbrev main_call23_v13 : Ref sig .tc := ⟨.hbm, 465, rfl⟩
abbrev main_call23_v14 : Ref sig .tc := ⟨.hbm, 466, rfl⟩
abbrev main_v58 : Ref sig .tc := ⟨.hbm, 467, rfl⟩
abbrev main_c_36 : Ref sig .tc := ⟨.hbm, 468, rfl⟩
abbrev main_v59 : Ref sig .tc := ⟨.hbm, 469, rfl⟩
abbrev main_v60 : Ref sig .tc := ⟨.hbm, 470, rfl⟩
abbrev main_v61 : Ref sig .tc := ⟨.hbm, 471, rfl⟩
abbrev main_cst_37 : Ref sig .tc := ⟨.hbm, 472, rfl⟩
abbrev main_cst_38 : Ref sig .tc := ⟨.hbm, 473, rfl⟩
abbrev main_call24_v0 : Ref sig .tc := ⟨.hbm, 474, rfl⟩
abbrev main_call24_v1 : Ref sig .tc := ⟨.hbm, 475, rfl⟩
abbrev main_v62 : Ref sig .tc := ⟨.hbm, 476, rfl⟩
abbrev main_c_39 : Ref sig .tc := ⟨.hbm, 477, rfl⟩
abbrev main_call25_v0 : Ref sig .tc := ⟨.hbm, 478, rfl⟩
abbrev main_call25_v1 : Ref sig .tc := ⟨.hbm, 479, rfl⟩
abbrev main_call25_v2 : Ref sig .tc := ⟨.hbm, 480, rfl⟩
abbrev main_call25_v3 : Ref sig .tc := ⟨.hbm, 481, rfl⟩
abbrev main_call25_v4 : Ref sig .tc := ⟨.hbm, 482, rfl⟩
abbrev main_call25_v5 : Ref sig .tc := ⟨.hbm, 483, rfl⟩
abbrev main_call25_v6 : Ref sig .tc := ⟨.hbm, 484, rfl⟩
abbrev main_call25_v7 : Ref sig .tc := ⟨.hbm, 485, rfl⟩
abbrev main_call25_v8 : Ref sig .tc := ⟨.hbm, 486, rfl⟩
abbrev main_call25_c : Ref sig .tc := ⟨.hbm, 487, rfl⟩
abbrev main_call25_v9 : Ref sig .tc := ⟨.hbm, 488, rfl⟩
abbrev main_call25_v10 : Ref sig .tc := ⟨.hbm, 489, rfl⟩
abbrev main_call25_v11 : Ref sig .tc := ⟨.hbm, 490, rfl⟩
abbrev main_call25_c_0 : Ref sig .tc := ⟨.hbm, 491, rfl⟩
abbrev main_call25_v12 : Ref sig .tc := ⟨.hbm, 492, rfl⟩
abbrev main_call25_v13 : Ref sig .tc := ⟨.hbm, 493, rfl⟩
abbrev main_v63 : Ref sig .tc := ⟨.hbm, 494, rfl⟩
abbrev main_c_40 : Ref sig .tc := ⟨.hbm, 495, rfl⟩
abbrev main_call26_v0 : Ref sig .tc := ⟨.hbm, 496, rfl⟩
abbrev main_call26_v1 : Ref sig .tc := ⟨.hbm, 497, rfl⟩
abbrev main_call26_v2 : Ref sig .tc := ⟨.hbm, 498, rfl⟩
abbrev main_call26_v3 : Ref sig .tc := ⟨.hbm, 499, rfl⟩
abbrev main_call26_v4 : Ref sig .tc := ⟨.hbm, 500, rfl⟩
abbrev main_call26_v5 : Ref sig .tc := ⟨.hbm, 501, rfl⟩
abbrev main_call26_v6 : Ref sig .tc := ⟨.hbm, 502, rfl⟩
abbrev main_call26_v7 : Ref sig .tc := ⟨.hbm, 503, rfl⟩
abbrev main_call26_v8 : Ref sig .tc := ⟨.hbm, 504, rfl⟩
abbrev main_call26_c : Ref sig .tc := ⟨.hbm, 505, rfl⟩
abbrev main_call26_v9 : Ref sig .tc := ⟨.hbm, 506, rfl⟩
abbrev main_call26_v10 : Ref sig .tc := ⟨.hbm, 507, rfl⟩
abbrev main_call26_v11 : Ref sig .tc := ⟨.hbm, 508, rfl⟩
abbrev main_call26_c_0 : Ref sig .tc := ⟨.hbm, 509, rfl⟩
abbrev main_call26_v12 : Ref sig .tc := ⟨.hbm, 510, rfl⟩
abbrev main_call26_v13 : Ref sig .tc := ⟨.hbm, 511, rfl⟩
abbrev main_v64 : Ref sig .tc := ⟨.hbm, 512, rfl⟩
abbrev main_v65 : Ref sig .tc := ⟨.hbm, 513, rfl⟩
abbrev main_c_41 : Ref sig .tc := ⟨.hbm, 514, rfl⟩
abbrev main_call27_v0 : Ref sig .tc := ⟨.hbm, 515, rfl⟩
abbrev main_call27_c : Ref sig .tc := ⟨.hbm, 516, rfl⟩
abbrev main_call27_v1 : Ref sig .tc := ⟨.hbm, 517, rfl⟩
abbrev main_call27_c_0 : Ref sig .tc := ⟨.hbm, 518, rfl⟩
abbrev main_call27_v2 : Ref sig .tc := ⟨.hbm, 519, rfl⟩
abbrev main_call27_v3 : Ref sig .tc := ⟨.hbm, 520, rfl⟩
abbrev main_call27_v4 : Ref sig .tc := ⟨.hbm, 521, rfl⟩
abbrev main_call27_c_1 : Ref sig .tc := ⟨.hbm, 522, rfl⟩
abbrev main_call27_v5 : Ref sig .tc := ⟨.hbm, 523, rfl⟩
abbrev main_call27_v6 : Ref sig .tc := ⟨.hbm, 524, rfl⟩
abbrev main_call27_c_2 : Ref sig .tc := ⟨.hbm, 525, rfl⟩
abbrev main_call27_v7 : Ref sig .tc := ⟨.hbm, 526, rfl⟩
abbrev main_call27_v8 : Ref sig .tc := ⟨.hbm, 527, rfl⟩
abbrev main_call27_c_3 : Ref sig .tc := ⟨.hbm, 528, rfl⟩
abbrev main_call27_v9 : Ref sig .tc := ⟨.hbm, 529, rfl⟩
abbrev main_call27_v10 : Ref sig .tc := ⟨.hbm, 530, rfl⟩
abbrev main_call27_v11 : Ref sig .tc := ⟨.hbm, 531, rfl⟩
abbrev main_call27_v12 : Ref sig .tc := ⟨.hbm, 532, rfl⟩
abbrev main_call27_v13 : Ref sig .tc := ⟨.hbm, 533, rfl⟩
abbrev main_call27_v14 : Ref sig .tc := ⟨.hbm, 534, rfl⟩
abbrev main_v66 : Ref sig .tc := ⟨.hbm, 535, rfl⟩
abbrev main_c_42 : Ref sig .tc := ⟨.hbm, 536, rfl⟩
abbrev main_v67 : Ref sig .tc := ⟨.hbm, 537, rfl⟩
abbrev main_v68 : Ref sig .tc := ⟨.hbm, 538, rfl⟩
abbrev main_v69 : Ref sig .tc := ⟨.hbm, 539, rfl⟩
abbrev main_c_43 : Ref sig .tc := ⟨.hbm, 540, rfl⟩
abbrev main_call28_v0 : Ref sig .tc := ⟨.hbm, 541, rfl⟩
abbrev main_call28_c : Ref sig .tc := ⟨.hbm, 542, rfl⟩
abbrev main_call28_v1 : Ref sig .tc := ⟨.hbm, 543, rfl⟩
abbrev main_call28_c_0 : Ref sig .tc := ⟨.hbm, 544, rfl⟩
abbrev main_call28_v2 : Ref sig .tc := ⟨.hbm, 545, rfl⟩
abbrev main_call28_v3 : Ref sig .tc := ⟨.hbm, 546, rfl⟩
abbrev main_call28_v4 : Ref sig .tc := ⟨.hbm, 547, rfl⟩
abbrev main_call28_c_1 : Ref sig .tc := ⟨.hbm, 548, rfl⟩
abbrev main_call28_v5 : Ref sig .tc := ⟨.hbm, 549, rfl⟩
abbrev main_call28_v6 : Ref sig .tc := ⟨.hbm, 550, rfl⟩
abbrev main_call28_c_2 : Ref sig .tc := ⟨.hbm, 551, rfl⟩
abbrev main_call28_v7 : Ref sig .tc := ⟨.hbm, 552, rfl⟩
abbrev main_call28_v8 : Ref sig .tc := ⟨.hbm, 553, rfl⟩
abbrev main_call28_c_3 : Ref sig .tc := ⟨.hbm, 554, rfl⟩
abbrev main_call28_v9 : Ref sig .tc := ⟨.hbm, 555, rfl⟩
abbrev main_call28_v10 : Ref sig .tc := ⟨.hbm, 556, rfl⟩
abbrev main_call28_v11 : Ref sig .tc := ⟨.hbm, 557, rfl⟩
abbrev main_call28_v12 : Ref sig .tc := ⟨.hbm, 558, rfl⟩
abbrev main_call28_v13 : Ref sig .tc := ⟨.hbm, 559, rfl⟩
abbrev main_call28_v14 : Ref sig .tc := ⟨.hbm, 560, rfl⟩
abbrev main_v70 : Ref sig .tc := ⟨.hbm, 561, rfl⟩
abbrev main_c_44 : Ref sig .tc := ⟨.hbm, 562, rfl⟩
abbrev main_v71 : Ref sig .tc := ⟨.hbm, 563, rfl⟩
abbrev main_v72 : Ref sig .tc := ⟨.hbm, 564, rfl⟩
abbrev main_v73 : Ref sig .tc := ⟨.hbm, 565, rfl⟩
abbrev main_cst_45 : Ref sig .tc := ⟨.hbm, 566, rfl⟩
abbrev main_cst_46 : Ref sig .tc := ⟨.hbm, 567, rfl⟩
abbrev main_call29_v0 : Ref sig .tc := ⟨.hbm, 568, rfl⟩
abbrev main_call29_v1 : Ref sig .tc := ⟨.hbm, 569, rfl⟩
abbrev main_v74 : Ref sig .tc := ⟨.hbm, 570, rfl⟩
abbrev main_v75 : Ref sig .tc := ⟨.hbm, 571, rfl⟩
abbrev main_cst_47 : Ref sig .tc := ⟨.hbm, 572, rfl⟩
abbrev main_cst_48 : Ref sig .tc := ⟨.hbm, 573, rfl⟩
abbrev main_call30_v0 : Ref sig .tc := ⟨.hbm, 574, rfl⟩
abbrev main_call30_v1 : Ref sig .tc := ⟨.hbm, 575, rfl⟩
abbrev main_v76 : Ref sig .tc := ⟨.hbm, 576, rfl⟩
abbrev main_v77 : Ref sig .tc := ⟨.hbm, 577, rfl⟩
abbrev main_cst_49 : Ref sig .tc := ⟨.hbm, 578, rfl⟩
abbrev main_cst_50 : Ref sig .tc := ⟨.hbm, 579, rfl⟩
abbrev main_call31_v0 : Ref sig .tc := ⟨.hbm, 580, rfl⟩
abbrev main_call31_v1 : Ref sig .tc := ⟨.hbm, 581, rfl⟩
abbrev main_v78 : Ref sig .tc := ⟨.hbm, 582, rfl⟩
abbrev main_v79 : Ref sig .tc := ⟨.hbm, 583, rfl⟩
abbrev main_v80 : Ref sig .tc := ⟨.hbm, 584, rfl⟩
abbrev main_v81 : Ref sig .tc := ⟨.hbm, 585, rfl⟩
abbrev main_v82 : Ref sig .tc := ⟨.hbm, 586, rfl⟩
abbrev main_v83 : Ref sig .tc := ⟨.hbm, 587, rfl⟩
abbrev main_v84 : Ref sig .tc := ⟨.hbm, 588, rfl⟩
abbrev main_v85 : Ref sig .tc := ⟨.hbm, 589, rfl⟩
abbrev main_v86 : Ref sig .tc := ⟨.hbm, 590, rfl⟩
abbrev main_v87 : Ref sig .tc := ⟨.hbm, 591, rfl⟩
abbrev main_v88 : Ref sig .tc := ⟨.hbm, 592, rfl⟩
abbrev main_v89 : Ref sig .tc := ⟨.hbm, 593, rfl⟩
abbrev main_v90_0 : Ref sig .tc := ⟨.hbm, 594, rfl⟩
abbrev main_v90_1 : Ref sig .tc := ⟨.hbm, 595, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨3, ![1, 1, 128], ![false, false, false]⟩

def k0_cond2 (i : grid0.Coords) : BitVec 1 :=
  let arg2 : BitVec 32 := BitVec.ofNat 32 (i 2).val
  let c127_i32 : BitVec 32 := 127#32
  let v10439 : BitVec 1 := Scalar.cmpi .eq arg2 c127_i32
  let v10440 : BitVec 32 := Scalar.extui v10439
  let c0_i32_2265 : BitVec 32 := 0#32
  let v10441 : BitVec 1 := Scalar.cmpi .ne v10440 c0_i32_2265
  v10441

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S7x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S1x8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true, false]
-- ==== HgrnPRefIdeal.lean ====
abbrev S1x16384x4096 : Shape := ⟨3, ![1, 16384, 4096]⟩
abbrev S1024 : Shape := ⟨1, ![1024]⟩
abbrev S128 : Shape := ⟨1, ![128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S1x8x128x128 : Shape := ⟨4, ![1, 8, 128, 128]⟩
abbrev S1x256x64x4096 : Shape := ⟨4, ![1, 256, 64, 4096]⟩
abbrev S256x1x64x4096 : Shape := ⟨4, ![256, 1, 64, 4096]⟩
abbrev S1x1x64x4096 : Shape := ⟨4, ![1, 1, 64, 4096]⟩
abbrev S1x64x4096 : Shape := ⟨3, ![1, 64, 4096]⟩
abbrev S1x64x1024 : Shape := ⟨3, ![1, 64, 1024]⟩
abbrev S1x1x1024 : Shape := ⟨3, ![1, 1, 1024]⟩
abbrev S1x64x8x128 : Shape := ⟨4, ![1, 64, 8, 128]⟩
abbrev S1x64x64x1x1 : Shape := ⟨5, ![1, 64, 64, 1, 1]⟩
abbrev S1x1x64x8x128 : Shape := ⟨5, ![1, 1, 64, 8, 128]⟩
abbrev S1x64x64x8x128 : Shape := ⟨5, ![1, 64, 64, 8, 128]⟩
abbrev S1x1x8x128 : Shape := ⟨4, ![1, 1, 8, 128]⟩
abbrev S1x8x128 : Shape := ⟨3, ![1, 8, 128]⟩
abbrev S1x8x128x1 : Shape := ⟨4, ![1, 8, 128, 1]⟩

abbrev nBuf : Space → Nat
  | .hbm => 80
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1024, .f32⟩
  | .hbm, ⟨2, _⟩ => ⟨S128, .f32⟩
  | .hbm, ⟨3, _⟩ => ⟨S64, .i32⟩
  | .hbm, ⟨4, _⟩ => ⟨S1x64, .i32⟩
  | .hbm, ⟨5, _⟩ => ⟨S64, .i32⟩
  | .hbm, ⟨6, _⟩ => ⟨S64x1, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S_, .f32⟩
  | .hbm, ⟨11, _⟩ => ⟨S1x8x128x128, .f32⟩
  | .hbm, ⟨12, _⟩ => ⟨S1x256x64x4096, .f32⟩
  | .hbm, ⟨13, _⟩ => ⟨S256x1x64x4096, .f32⟩
  | .hbm, ⟨14, _⟩ => ⟨S_, .i32⟩
  | .hbm, ⟨15, _⟩ => ⟨S256x1x64x4096, .f32⟩
  | .hbm, ⟨16, _⟩ => ⟨S1024, .f32⟩
  | .hbm, ⟨17, _⟩ => ⟨S64x64, .i1⟩
  | .hbm, ⟨18, _⟩ => ⟨S_, .i32⟩
  | .hbm, ⟨19, _⟩ => ⟨S1x8x128x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x1x64x4096, .f32⟩
  | .hbm, ⟨26, _⟩ => ⟨S1x64x4096, .f32⟩
  | .hbm, ⟨27, _⟩ => ⟨S1x64x1024, .f32⟩
  | .hbm, ⟨28, _⟩ => ⟨S1x64x1024, .f32⟩
  | .hbm, ⟨29, _⟩ => ⟨S1x64x1024, .f32⟩
  | .hbm, ⟨30, _⟩ => ⟨S1x64x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x64x1024, .f32⟩
  | .hbm, ⟨35, _⟩ => ⟨S1x64x1024, .f32⟩
  | .hbm, ⟨36, _⟩ => ⟨S_, .f32⟩
  | .hbm, ⟨37, _⟩ => ⟨S1x64x1024, .f32⟩
  | .hbm, ⟨38, _⟩ => ⟨S1x64x1024, .f32⟩
  | .hbm, ⟨39, _⟩ => ⟨S_, .f32⟩
  | .hbm, ⟨40, _⟩ => ⟨S1x64x1024, .f32⟩
  | .hbm, ⟨41, _⟩ => ⟨S1x64x1024, .f32⟩
  | .hbm, ⟨42, _⟩ => ⟨S1x1x1024, .f32⟩
  | .hbm, ⟨43, _⟩ => ⟨S1x64x1024, .f32⟩
  | .hbm, ⟨44, _⟩ => ⟨S1x64x1024, .f32⟩
  | .hbm, ⟨45, _⟩ => ⟨S1x1x1024, .f32⟩
  | .hbm, ⟨46, _⟩ => ⟨S1x64x1024, .f32⟩
  | .hbm, ⟨47, _⟩ => ⟨S1x64x1024, .f32⟩
  | .hbm, ⟨48, _⟩ => ⟨S_, .f32⟩
  | .hbm, ⟨49, _⟩ => ⟨S1x64x1024, .f32⟩
  | .hbm, ⟨50, _⟩ => ⟨S1x64x1024, .f32⟩
  | .hbm, ⟨51, _⟩ => ⟨S1x64x8x128, .f32⟩
  | .hbm, ⟨52, _⟩ => ⟨S1x64x1024, .f32⟩
  | .hbm, ⟨53, _⟩ => ⟨S1x64x8x128, .f32⟩
  | .hbm, ⟨54, _⟩ => ⟨S1x64x8x128, .f32⟩
  | .hbm, ⟨55, _⟩ => ⟨S1x64x64x1x1, .i1⟩
  | .hbm, ⟨56, _⟩ => ⟨S1x1x64x8x128, .f32⟩
  | .hbm, ⟨57, _⟩ => ⟨S_, .f32⟩
  | .hbm, ⟨58, _⟩ => ⟨S_, .f32⟩
  | .hbm, ⟨59, _⟩ => ⟨S1x64x64x8x128, .i1⟩
  | .hbm, ⟨60, _⟩ => ⟨S1x64x64x8x128, .f32⟩
  | .hbm, ⟨61, _⟩ => ⟨S1x64x64x8x128, .f32⟩
  | .hbm, ⟨62, _⟩ => ⟨S1x64x64x8x128, .f32⟩
  | .hbm, ⟨63, _⟩ => ⟨S_, .f32⟩
  | .hbm, ⟨64, _⟩ => ⟨S1x64x8x128, .f32⟩
  | .hbm, ⟨65, _⟩ => ⟨S1x1x8x128, .f32⟩
  | .hbm, ⟨66, _⟩ => ⟨S1x8x128, .f32⟩
  | .hbm, ⟨67, _⟩ => ⟨S1x8x128, .f32⟩
  | .hbm, ⟨68, _⟩ => ⟨S1x8x128x1, .f32⟩
  | .hbm, ⟨69, _⟩ => ⟨S1x8x128x128, .f32⟩
  | .hbm, ⟨70, _⟩ => ⟨S1x8x128x128, .f32⟩
  | .hbm, ⟨71, _⟩ => ⟨S1x1x8x128, .f32⟩
  | .hbm, ⟨72, _⟩ => ⟨S1x64x8x128, .f32⟩
  | .hbm, ⟨73, _⟩ => ⟨S1x64x8x128, .f32⟩
  | .hbm, ⟨74, _⟩ => ⟨S1x64x8x128, .f32⟩
  | .hbm, ⟨75, _⟩ => ⟨S1x64x8x128, .f32⟩
  | .hbm, ⟨76, _⟩ => ⟨S1x8x128x128, .f32⟩
  | .hbm, ⟨77, _⟩ => ⟨S1x8x128x128, .f32⟩
  | .hbm, ⟨78, _⟩ => ⟨S_, .i32⟩
  | .hbm, ⟨79, _⟩ => ⟨S_, .i32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_while0c_c_4 : Ref sig .tc := ⟨.hbm, 20, rfl⟩
abbrev main_while0c_v11 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_c_1 : Ref sig .tc := ⟨.hbm, 24, rfl⟩
abbrev main_while0b_call0_v0 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_cst_4 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_v19 : Ref sig .tc := ⟨.hbm, 35, rfl⟩
abbrev main_while0b_cst_5 : Ref sig .tc := ⟨.hbm, 36, rfl⟩
abbrev main_while0b_v20 : Ref sig .tc := ⟨.hbm, 37, rfl⟩
abbrev main_while0b_v21 : Ref sig .tc := ⟨.hbm, 38, rfl⟩
abbrev main_while0b_cst_6 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_v29 : Ref sig .tc := ⟨.hbm, 47, rfl⟩
abbrev main_while0b_cst_7 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_cst_8 : Ref sig .tc := ⟨.hbm, 57, rfl⟩
abbrev main_while0b_call1_v0 : Ref sig .tc := ⟨.hbm, 58, rfl⟩
abbrev main_while0b_call1_v1 : Ref sig .tc := ⟨.hbm, 59, rfl⟩
abbrev main_while0b_call1_v2 : Ref sig .tc := ⟨.hbm, 60, rfl⟩
abbrev main_while0b_call1_v3 : Ref sig .tc := ⟨.hbm, 61, rfl⟩
abbrev main_while0b_v38 : Ref sig .tc := ⟨.hbm, 62, rfl⟩
abbrev main_while0b_cst_9 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_c_10 : Ref sig .tc := ⟨.hbm, 78, rfl⟩
abbrev main_while0b_v53 : Ref sig .tc := ⟨.hbm, 79, rfl⟩

abbrev nD : Nat := 1
abbrev τ : Topo := Topo.v7x

variable {F : FTy → Type} [FloatOps F]

abbrev main_while0_count : Scf.Loop 32 := ⟨0#32, 256#32, 1#32⟩
-- ==== Proof.Nsa.lean ====
/-
  The prompt attention's body as a program that only loads from and stores into the buffers it is
  handed: what such a program needs (`Own`, every buffer at some contents), and the rules by which
  "runs, and hands every buffer back" (`Safe`) passes from a program's statements to the program.
-/
module

public import proofs.«01_k».proof.KernelIdeal
public import Idealize.ShloMosaic.Lib.Pipeline.FrameBody
public import Idealize.ShloMosaic.Lib.Scf

@[expose] public section

noncomputable section

namespace Cert.KernelIdeal.Nsa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

/-- What one grid point is handed: the point and the twenty-two buffers (thirteen operands' blocks, the
    result's block, eight scratch buffers), each a whole memref. -/
structure Args where
  i : grid0.Coords
  a1 : Memref sig .tc .vmem S128x512 .f32
  h1 : a1.IsWhole
  a2 : Memref sig .tc .vmem S128x128 .f32
  h2 : a2.IsWhole
  a3 : Memref sig .tc .vmem S1x128 .f32
  h3 : a3.IsWhole
  a4 : Memref sig .tc .vmem S1024x128 .bf16
  h4 : a4.IsWhole
  a5 : Memref sig .tc .vmem S2x64x1024 .bf16
  h5 : a5.IsWhole
  a6 : Memref sig .tc .vmem S256x1024 .bf16
  h6 : a6.IsWhole
  a7 : Memref sig .tc .vmem S65x256x256 .bf16
  h7 : a7.IsWhole
  a8 : Memref sig .tc .vmem S2x65x80x256 .bf16
  h8 : a8.IsWhole
  a9 : Memref sig .tc .vmem S16896x128 .bf16
  h9 : a9.IsWhole
  a10 : Memref sig .tc .vmem S2x132x80x128 .bf16
  h10 : a10.IsWhole
  a11 : Memref sig .tc .vmem S2x24x512 .f32
  h11 : a11.IsWhole
  a12 : Memref sig .tc .vmem S2x2x2x256x512 .f32
  h12 : a12.IsWhole
  a13 : Memref sig .tc .vmem S2x640x512 .f32
  h13 : a13.IsWhole
  a14 : Memref sig .tc .vmem S128x512 .f32
  h14 : a14.IsWhole
  a15 : Memref sig .tc .vmem S2x1040x512 .f32
  h15 : a15.IsWhole
  a16 : Memref sig .tc .vmem S2x80x512 .f32
  h16 : a16.IsWhole
  a17 : Memref sig .tc .vmem S2x2x512x256 .bf16
  h17 : a17.IsWhole
  a18 : Memref sig .tc .vmem S2x512x128 .bf16
  h18 : a18.IsWhole
  a19 : Memref sig .tc .vmem S2x256x512 .f32
  h19 : a19.IsWhole
  a20 : Memref sig .tc .vmem S2x256x512 .f32
  h20 : a20.IsWhole
  a21 : Memref sig .tc .vmem S2x1x512 .f32
  h21 : a21.IsWhole
  a22 : Memref sig .tc .vmem S2x1x512 .f32
  h22 : a22.IsWhole

/-- A buffer held whole at some contents. -/
def Held (c : Dev nD) {s : Shape} {e : EltTy} (b : Memref sig .tc .vmem s e) : sProp 𝕄 :=
  iprop(∃ f, b.view.loc (c : Thread nD τ) ↦[b.view.set]{fullShare} f)

/-- The `k`-th of the buffers, held. -/
def nth (c : Dev nD) (A : Args) : Fin 22 → sProp 𝕄 :=
  ![Held c A.a1,
    Held c A.a2,
    Held c A.a3,
    Held c A.a4,
    Held c A.a5,
    Held c A.a6,
    Held c A.a7,
    Held c A.a8,
    Held c A.a9,
    Held c A.a10,
    Held c A.a11,
    Held c A.a12,
    Held c A.a13,
    Held c A.a14,
    Held c A.a15,
    Held c A.a16,
    Held c A.a17,
    Held c A.a18,
    Held c A.a19,
    Held c A.a20,
    Held c A.a21,
    Held c A.a22]

/-- All the buffers, held. -/
def Own (c : Dev nD) (A : Args) : sProp 𝕄 := bigSep Finset.univ (nth (F := F) c A)

theorem own_split (c : Dev nD) (A : Args) (k : Fin 22) :
    (Own c A : sProp 𝕄) = iprop(nth c A k ∗ bigSep (Finset.univ.erase k) (nth (F := F) c A)) :=
  bigSep_erase (Finset.mem_univ k)

/-- A program runs from the buffers held and hands them back. -/
def Safe (𝒱₀ : Variants) (c : Dev nD) (A : Args) {α : Type} (p : Prog (TpuEff nD τ sig (Elt F) Λ₀ .tc) α) : Prop :=
  (Own c A : sProp 𝕄) ⊢ wp frame (wpE defs₀ 𝒱₀ (c : Thread nD τ) none) Set.univ p fun _ => Own c A

variable {𝒱₀ : Variants} {c : Dev nD} {A : Args} {α β : Type}

theorem Safe.ret (a : α) : Safe (F := F) 𝒱₀ c A (pure a) := by
  unfold Safe; rw [wp_pure]; exact fupd_intro

theorem Safe.bind {p : Prog (TpuEff nD τ sig (Elt F) Λ₀ .tc) α} {f : α → Prog (TpuEff nD τ sig (Elt F) Λ₀ .tc) β}
    (hp : Safe 𝒱₀ c A p) (hf : ∀ a, Safe 𝒱₀ c A (f a)) : Safe 𝒱₀ c A (p >>= f) := by
  unfold Safe; rw [wp_bind]; exact hp.trans (wp_mono _ _ _ fun a => hf a)

theorem Safe.dite {P : Prop} [Decidable P] {p : P → Prog (TpuEff nD τ sig (Elt F) Λ₀ .tc) α}
    {q : ¬P → Prog (TpuEff nD τ sig (Elt F) Λ₀ .tc) α} (hp : ∀ h, Safe 𝒱₀ c A (p h)) (hq : ∀ h, Safe 𝒱₀ c A (q h)) :
    Safe 𝒱₀ c A (if h : P then p h else q h) := by
  by_cases h : P
  · rw [dif_pos h]; exact hp h
  · rw [dif_neg h]; exact hq h

theorem Safe.loop {w : Nat} {lb ub st : BitVec w} {hok : Scf.OK lb ub st} {init : α}
    {body : Fin (Scf.trips lb ub st) → α → Prog (TpuEff nD τ sig (Elt F) Λ₀ .tc) α}
    (hb : ∀ k a, Safe 𝒱₀ c A (body k a)) : Safe 𝒱₀ c A (Scf.for lb ub st hok init body) := by
  unfold Safe
  iintro H
  iapply (Scf.wp_for frame (wpE defs₀ 𝒱₀ (c : Thread nD τ) none) Set.univ lb ub st hok init body
    (fun _ _ => Own c A) (fun k a => hb k a))
  isplitl [H]
  · iexact H
  · iintro %a H; iexact H

/-- A load of a buffer held. -/
theorem held_load {s : Shape} {e : EltTy} {b : Memref sig .tc .vmem s e} {r : LoadRect s} {hl : b.view.LoadsAt r} {R : sProp 𝕄} :
    iprop(Held c b ∗ R) ⊢ wp frame (wpE (defs₀ (F := F)) 𝒱₀ (c : Thread nD τ) none) Set.univ (Prog.lift (.load b r hl) : Prog (TpuEff nD τ sig (Elt F) Λ₀ .tc) _) fun _ => iprop(Held c b ∗ R) := by
  unfold Held Prog.lift
  iintro ⟨⟨%f, H⟩, HR⟩
  iapply (wp_load 𝒱₀ (c : Thread nD τ) none Set.univ (S := b.view.set) (View.setOn_subset_set _ _)) $$ H
  iintro H
  rw [wp_ret]; imodintro
  isplitl [H]
  · iexists f; iexact H
  · iexact HR

/-- A store into a buffer held. -/
theorem held_store {s : Shape} {e : EltTy} {b : Memref sig .tc .vmem s e} {r : Rect s} {w : r.shape.Idx → Elt F e} {Mk : Finset r.shape.Idx}
    {hx : (b.access r).Stores Mk} {hm : Mk = Finset.univ ∨ ∀ a, r.stride a = 1} {R : sProp 𝕄} :
    iprop(Held c b ∗ R) ⊢ wp frame (wpE (defs₀ (F := F)) 𝒱₀ (c : Thread nD τ) none) Set.univ (Prog.lift (.store b r w Mk hx hm) : Prog (TpuEff nD τ sig (Elt F) Λ₀ .tc) _) fun _ => iprop(Held c b ∗ R) := by
  unfold Held Prog.lift
  iintro ⟨⟨%f, H⟩, HR⟩
  iapply (wp_store 𝒱₀ (c : Thread nD τ) none Set.univ (m := b) (r := r) (S := b.view.set) (((b.access r).setOn_subset_set Mk).trans (View.set_slice_subset _ _))) $$ H
  iintro H
  rw [wp_ret]; imodintro
  isplitl [H]
  · iexists _; iexact H
  · iexact HR

theorem Safe.at (k : Fin 22) {p : Prog (TpuEff nD τ sig (Elt F) Λ₀ .tc) α}
    (h : ∀ R : sProp 𝕄, iprop(nth c A k ∗ R) ⊢ wp frame (wpE defs₀ 𝒱₀ (c : Thread nD τ) none) Set.univ p fun _ => iprop(nth c A k ∗ R)) :
    Safe 𝒱₀ c A p := by
  unfold Safe; rw [own_split c A k]; exact h _

theorem ld1 {r : LoadRect S128x512} {hl : (A.a1).view.LoadsAt r} {f : _ → Prog (TpuEff nD τ sig (Elt F) Λ₀ .tc) β}
    (hf : ∀ a, Safe 𝒱₀ c A (f a)) : Safe 𝒱₀ c A (Prog.lift (.load A.a1 r hl) >>= f) :=
  Safe.bind (Safe.at 0 fun _ => held_load) hf
theorem ld2 {r : LoadRect S128x128} {hl : (A.a2).view.LoadsAt r} {f : _ → Prog (TpuEff nD τ sig (Elt F) Λ₀ .tc) β}
    (hf : ∀ a, Safe 𝒱₀ c A (f a)) : Safe 𝒱₀ c A (Prog.lift (.load A.a2 r hl) >>= f) :=
  Safe.bind (Safe.at 1 fun _ => held_load) hf
theorem ld3 {r : LoadRect S1x128} {hl : (A.a3).view.LoadsAt r} {f : _ → Prog (TpuEff nD τ sig (Elt F) Λ₀ .tc) β}
    (hf : ∀ a, Safe 𝒱₀ c A (f a)) : Safe 𝒱₀ c A (Prog.lift (.load A.a3 r hl) >>= f) :=
  Safe.bind (Safe.at 2 fun _ => held_load) hf
theorem ld4 {r : LoadRect S1024x128} {hl : (A.a4).view.LoadsAt r} {f : _ → Prog (TpuEff nD τ sig (Elt F) Λ₀ .tc) β}
    (hf : ∀ a, Safe 𝒱₀ c A (f a)) : Safe 𝒱₀ c A (Prog.lift (.load A.a4 r hl) >>= f) :=
  Safe.bind (Safe.at 3 fun _ => held_load) hf
theorem ld5 {r : LoadRect S2x64x1024} {hl : (A.a5).view.LoadsAt r} {f : _ → Prog (TpuEff nD τ sig (Elt F) Λ₀ .tc) β}
    (hf : ∀ a, Safe 𝒱₀ c A (f a)) : Safe 𝒱₀ c A (Prog.lift (.load A.a5 r hl) >>= f) :=
  Safe.bind (Safe.at 4 fun _ => held_load) hf
theorem ld6 {r : LoadRect S256x1024} {hl : (A.a6).view.LoadsAt r} {f : _ → Prog (TpuEff nD τ sig (Elt F) Λ₀ .tc) β}
    (hf : ∀ a, Safe 𝒱₀ c A (f a)) : Safe 𝒱₀ c A (Prog.lift (.load A.a6 r hl) >>= f) :=
  Safe.bind (Safe.at 5 fun _ => held_load) hf
theorem ld7 {r : LoadRect S65x256x256} {hl : (A.a7).view.LoadsAt r} {f : _ → Prog (TpuEff nD τ sig (Elt F) Λ₀ .tc) β}
    (hf : ∀ a, Safe 𝒱₀ c A (f a)) : Safe 𝒱₀ c A (Prog.lift (.load A.a7 r hl) >>= f) :=
  Safe.bind (Safe.at 6 fun _ => held_load) hf
theorem ld8 {r : LoadRect S2x65x80x256} {hl : (A.a8).view.LoadsAt r} {f : _ → Prog (TpuEff nD τ sig (Elt F) Λ₀ .tc) β}
    (hf : ∀ a, Safe 𝒱₀ c A (f a)) : Safe 𝒱₀ c A (Prog.lift (.load A.a8 r hl) >>= f) :=
  Safe.bind (Safe.at 7 fun _ => held_load) hf
theorem ld9 {r : LoadRect S16896x128} {hl : (A.a9).view.LoadsAt r} {f : _ → Prog (TpuEff nD τ sig (Elt F) Λ₀ .tc) β}
    (hf : ∀ a, Safe 𝒱₀ c A (f a)) : Safe 𝒱₀ c A (Prog.lift (.load A.a9 r hl) >>= f) :=
  Safe.bind (Safe.at 8 fun _ => held_load) hf
theorem ld10 {r : LoadRect S2x132x80x128} {hl : (A.a10).view.LoadsAt r} {f : _ → Prog (TpuEff nD τ sig (Elt F) Λ₀ .tc) β}
    (hf : ∀ a, Safe 𝒱₀ c A (f a)) : Safe 𝒱₀ c A (Prog.lift (.load A.a10 r hl) >>= f) :=
  Safe.bind (Safe.at 9 fun _ => held_load) hf
theorem ld11 {r : LoadRect S2x24x512} {hl : (A.a11).view.LoadsAt r} {f : _ → Prog (TpuEff nD τ sig (Elt F) Λ₀ .tc) β}
    (hf : ∀ a, Safe 𝒱₀ c A (f a)) : Safe 𝒱₀ c A (Prog.lift (.load A.a11 r hl) >>= f) :=
  Safe.bind (Safe.at 10 fun _ => held_load) hf
theorem ld12 {r : LoadRect S2x2x2x256x512} {hl : (A.a12).view.LoadsAt r} {f : _ → Prog (TpuEff nD τ sig (Elt F) Λ₀ .tc) β}
    (hf : ∀ a, Safe 𝒱₀ c A (f a)) : Safe 𝒱₀ c A (Prog.lift (.load A.a12 r hl) >>= f) :=
  Safe.bind (Safe.at 11 fun _ => held_load) hf
theorem ld13 {r : LoadRect S2x640x512} {hl : (A.a13).view.LoadsAt r} {f : _ → Prog (TpuEff nD τ sig (Elt F) Λ₀ .tc) β}
    (hf : ∀ a, Safe 𝒱₀ c A (f a)) : Safe 𝒱₀ c A (Prog.lift (.load A.a13 r hl) >>= f) :=
  Safe.bind (Safe.at 12 fun _ => held_load) hf
theorem ld14 {r : LoadRect S128x512} {hl : (A.a14).view.LoadsAt r} {f : _ → Prog (TpuEff nD τ sig (Elt F) Λ₀ .tc) β}
    (hf : ∀ a, Safe 𝒱₀ c A (f a)) : Safe 𝒱₀ c A (Prog.lift (.load A.a14 r hl) >>= f) :=
  Safe.bind (Safe.at 13 fun _ => held_load) hf
theorem st14 {r : Rect S128x512} {w : r.shape.Idx → Elt F .f32} {Mk : Finset r.shape.Idx}
    {hx : (A.a14.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a14 r w Mk hx hm) >>= f) :=
  Safe.bind (Safe.at 13 fun _ => held_store) hf
theorem ld15 {r : LoadRect S2x1040x512} {hl : (A.a15).view.LoadsAt r} {f : _ → Prog (TpuEff nD τ sig (Elt F) Λ₀ .tc) β}
    (hf : ∀ a, Safe 𝒱₀ c A (f a)) : Safe 𝒱₀ c A (Prog.lift (.load A.a15 r hl) >>= f) :=
  Safe.bind (Safe.at 14 fun _ => held_load) hf
theorem st15 {r : Rect S2x1040x512} {w : r.shape.Idx → Elt F .f32} {Mk : Finset r.shape.Idx}
    {hx : (A.a15.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a15 r w Mk hx hm) >>= f) :=
  Safe.bind (Safe.at 14 fun _ => held_store) hf
theorem ld16 {r : LoadRect S2x80x512} {hl : (A.a16).view.LoadsAt r} {f : _ → Prog (TpuEff nD τ sig (Elt F) Λ₀ .tc) β}
    (hf : ∀ a, Safe 𝒱₀ c A (f a)) : Safe 𝒱₀ c A (Prog.lift (.load A.a16 r hl) >>= f) :=
  Safe.bind (Safe.at 15 fun _ => held_load) hf
theorem st16 {r : Rect S2x80x512} {w : r.shape.Idx → Elt F .f32} {Mk : Finset r.shape.Idx}
    {hx : (A.a16.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a16 r w Mk hx hm) >>= f) :=
  Safe.bind (Safe.at 15 fun _ => held_store) hf
theorem ld17 {r : LoadRect S2x2x512x256} {hl : (A.a17).view.LoadsAt r} {f : _ → Prog (TpuEff nD τ sig (Elt F) Λ₀ .tc) β}
    (hf : ∀ a, Safe 𝒱₀ c A (f a)) : Safe 𝒱₀ c A (Prog.lift (.load A.a17 r hl) >>= f) :=
  Safe.bind (Safe.at 16 fun _ => held_load) hf
theorem st17 {r : Rect S2x2x512x256} {w : r.shape.Idx → Elt F .bf16} {Mk : Finset r.shape.Idx}
    {hx : (A.a17.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a17 r w Mk hx hm) >>= f) :=
  Safe.bind (Safe.at 16 fun _ => held_store) hf
theorem ld18 {r : LoadRect S2x512x128} {hl : (A.a18).view.LoadsAt r} {f : _ → Prog (TpuEff nD τ sig (Elt F) Λ₀ .tc) β}
    (hf : ∀ a, Safe 𝒱₀ c A (f a)) : Safe 𝒱₀ c A (Prog.lift (.load A.a18 r hl) >>= f) :=
  Safe.bind (Safe.at 17 fun _ => held_load) hf
theorem st18 {r : Rect S2x512x128} {w : r.shape.Idx → Elt F .bf16} {Mk : Finset r.shape.Idx}
    {hx : (A.a18.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a18 r w Mk hx hm) >>= f) :=
  Safe.bind (Safe.at 17 fun _ => held_store) hf
theorem ld19 {r : LoadRect S2x256x512} {hl : (A.a19).view.LoadsAt r} {f : _ → Prog (TpuEff nD τ sig (Elt F) Λ₀ .tc) β}
    (hf : ∀ a, Safe 𝒱₀ c A (f a)) : Safe 𝒱₀ c A (Prog.lift (.load A.a19 r hl) >>= f) :=
  Safe.bind (Safe.at 18 fun _ => held_load) hf
theorem st19 {r : Rect S2x256x512} {w : r.shape.Idx → Elt F .f32} {Mk : Finset r.shape.Idx}
    {hx : (A.a19.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a19 r w Mk hx hm) >>= f) :=
  Safe.bind (Safe.at 18 fun _ => held_store) hf
theorem ld20 {r : LoadRect S2x256x512} {hl : (A.a20).view.LoadsAt r} {f : _ → Prog (TpuEff nD τ sig (Elt F) Λ₀ .tc) β}
    (hf : ∀ a, Safe 𝒱₀ c A (f a)) : Safe 𝒱₀ c A (Prog.lift (.load A.a20 r hl) >>= f) :=
  Safe.bind (Safe.at 19 fun _ => held_load) hf
theorem st20 {r : Rect S2x256x512} {w : r.shape.Idx → Elt F .f32} {Mk : Finset r.shape.Idx}
    {hx : (A.a20.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a20 r w Mk hx hm) >>= f) :=
  Safe.bind (Safe.at 19 fun _ => held_store) hf
theorem ld21 {r : LoadRect S2x1x512} {hl : (A.a21).view.LoadsAt r} {f : _ → Prog (TpuEff nD τ sig (Elt F) Λ₀ .tc) β}
    (hf : ∀ a, Safe 𝒱₀ c A (f a)) : Safe 𝒱₀ c A (Prog.lift (.load A.a21 r hl) >>= f) :=
  Safe.bind (Safe.at 20 fun _ => held_load) hf
theorem st21 {r : Rect S2x1x512} {w : r.shape.Idx → Elt F .f32} {Mk : Finset r.shape.Idx}
    {hx : (A.a21.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a21 r w Mk hx hm) >>= f) :=
  Safe.bind (Safe.at 20 fun _ => held_store) hf
theorem ld22 {r : LoadRect S2x1x512} {hl : (A.a22).view.LoadsAt r} {f : _ → Prog (TpuEff nD τ sig (Elt F) Λ₀ .tc) β}
    (hf : ∀ a, Safe 𝒱₀ c A (f a)) : Safe 𝒱₀ c A (Prog.lift (.load A.a22 r hl) >>= f) :=
  Safe.bind (Safe.at 21 fun _ => held_load) hf
theorem st22 {r : Rect S2x1x512} {w : r.shape.Idx → Elt F .f32} {Mk : Finset r.shape.Idx}
    {hx : (A.a22.access r).Stores Mk} {hm : Mk = Finset.univ ∨ ∀ a, r.stride a = 1} {f : PUnit → Prog (TpuEff nD τ sig (Elt F) Λ₀ .tc) β}
    (hf : ∀ a, Safe 𝒱₀ c A (f a)) : Safe 𝒱₀ c A (Prog.lift (.store A.a22 r w Mk hx hm) >>= f) :=
  Safe.bind (Safe.at 21 fun _ => held_store) hf

end Cert.KernelIdeal.Nsa

end
-- ==== Proof.NsaParts1.lean ====
/-
  Each printed stretch of the attention body runs and hands every buffer back (group 1).
-/
module

public import proofs.«01_k».proof.Proof.Nsa

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s1 {arg0 k0_h2 k0_h3 k0_h4} : Safe (F := F) 𝒱₀ c A (k0_part1 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3 k0_h4) := by
  delta k0_part1; exact
    ld4 fun _ => ld18 fun _ => ld15 fun _ => st15 fun _ => ld15 fun _ => ld11 fun _ => ld15 fun _ => st15 fun _ =>
    ld15 fun _ => Safe.ret _

theorem s2 {v1477 v1479 v1480} : Safe (F := F) 𝒱₀ c A (k0_part2 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1477 v1479 v1480) := by
  delta k0_part2; exact
    ld5 fun _ => ld6 fun _ => ld4 fun _ => Safe.ret _

theorem s3 {arg0 k0_h2 k0_h3 k0_h4 v1523} : Safe (F := F) 𝒱₀ c A (k0_part3 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3 k0_h4 v1523) := by
  delta k0_part3; exact
    ld18 fun _ => ld15 fun _ => st15 fun _ => ld15 fun _ => ld11 fun _ => ld15 fun _ => st15 fun _ => ld15 fun _ =>
    Safe.ret _

theorem s4 {arg0 k0_h2 k0_h3 k0_h4} : Safe (F := F) 𝒱₀ c A (k0_part4 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3 k0_h4) := by
  delta k0_part4; exact
    ld4 fun _ => ld18 fun _ => ld15 fun _ => st15 fun _ => ld15 fun _ => ld11 fun _ => ld15 fun _ => st15 fun _ =>
    ld15 fun _ => Safe.ret _

theorem s5 {v1477 v1479 v1480} : Safe (F := F) 𝒱₀ c A (k0_part5 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1477 v1479 v1480) := by
  delta k0_part5; exact
    ld5 fun _ => ld6 fun _ => ld4 fun _ => Safe.ret _

theorem s6 {arg0 k0_h2 k0_h3 k0_h4 v1523} : Safe (F := F) 𝒱₀ c A (k0_part6 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3 k0_h4 v1523) := by
  delta k0_part6; exact
    ld18 fun _ => ld15 fun _ => st15 fun _ => ld15 fun _ => ld11 fun _ => ld15 fun _ => st15 fun _ => ld15 fun _ =>
    Safe.ret _

theorem s7 {arg0 k0_h2 k0_h3} : Safe (F := F) 𝒱₀ c A (k0_part7 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3) := by
  delta k0_part7; exact
    ld4 fun _ => ld18 fun _ => ld15 fun _ => st15 fun _ => ld15 fun _ => ld11 fun _ => ld15 fun _ => st15 fun _ =>
    ld15 fun _ => Safe.ret _

theorem s8 {v1474 v1476 v1477} : Safe (F := F) 𝒱₀ c A (k0_part8 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1474 v1476 v1477) := by
  delta k0_part8; exact
    ld5 fun _ => ld6 fun _ => ld4 fun _ => Safe.ret _

theorem s9 {arg0 k0_h2 k0_h3 v1520} : Safe (F := F) 𝒱₀ c A (k0_part9 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 k0_h3 v1520) := by
  delta k0_part9; exact
    ld18 fun _ => ld15 fun _ => st15 fun _ => ld15 fun _ => ld11 fun _ => ld15 fun _ => st15 fun _ => ld15 fun _ =>
    Safe.ret _

theorem s10 {arg0 k0_h2} : Safe (F := F) 𝒱₀ c A (k0_part10 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2) := by
  delta k0_part10; exact
    ld4 fun _ => ld18 fun _ => ld15 fun _ => st15 fun _ => ld15 fun _ => ld11 fun _ => ld15 fun _ => st15 fun _ =>
    ld15 fun _ => Safe.ret _

theorem s11 {v1471 v1473 v1474} : Safe (F := F) 𝒱₀ c A (k0_part11 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1471 v1473 v1474) := by
  delta k0_part11; exact
    ld5 fun _ => ld6 fun _ => ld4 fun _ => Safe.ret _

theorem s12 {arg0 k0_h2 v1517} : Safe (F := F) 𝒱₀ c A (k0_part12 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 k0_h2 v1517) := by
  delta k0_part12; exact
    ld18 fun _ => ld15 fun _ => st15 fun _ => ld15 fun _ => ld11 fun _ => ld15 fun _ => st15 fun _ => ld15 fun _ =>
    Safe.ret _

theorem s13 {c0_i32_278 c1_i32_280 k0_t1} : Safe (F := F) 𝒱₀ c A (k0_part13 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 c0_i32_278 c1_i32_280 k0_t1) := by
  delta k0_part13; exact
    ld17 fun _ => ld17 fun _ => ld7 fun _ => ld20 fun _ => st20 fun _ => Safe.ret _

theorem s14 {k0_t1 arg24 arg28 v1449} : Safe (F := F) 𝒱₀ c A (k0_part14 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 arg24 arg28 v1449) := by
  delta k0_part14; exact
    ld19 fun _ => ld16 fun _ => ld8 fun _ => ld16 fun _ => st16 fun _ => ld17 fun _ => ld17 fun _ => Safe.ret _

theorem s15 {k0_t1 arg25 arg29 v1449 v1498} : Safe (F := F) 𝒱₀ c A (k0_part15 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 arg25 arg29 v1449 v1498) := by
  delta k0_part15; exact
    ld7 fun _ => ld20 fun _ => st20 fun _ => ld19 fun _ => ld16 fun _ => ld8 fun _ => ld16 fun _ => st16 fun _ =>
    Safe.ret _

theorem s16 {k0_t1 arg26 arg30 v1449 v1533 v1534} : Safe (F := F) 𝒱₀ c A (k0_part16 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 arg26 arg30 v1449 v1533 v1534) := by
  delta k0_part16; exact
    ld17 fun _ => ld17 fun _ => ld7 fun _ => ld20 fun _ => st20 fun _ => ld19 fun _ => ld16 fun _ => ld8 fun _ =>
    Safe.ret _

theorem s17 {k0_t1 arg27 arg31 v1449 v1562 v1566 v1567} : Safe (F := F) 𝒱₀ c A (k0_part17 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 arg27 arg31 v1449 v1562 v1566 v1567) := by
  delta k0_part17; exact
    ld16 fun _ => st16 fun _ => ld17 fun _ => ld17 fun _ => ld7 fun _ => ld20 fun _ => st20 fun _ => ld19 fun _ =>
    Safe.ret _

theorem s18 {k0_t1 v1449 v1593 v1597 v1598} : Safe (F := F) 𝒱₀ c A (k0_part18 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1449 v1593 v1597 v1598) := by
  delta k0_part18; exact
    ld16 fun _ => ld8 fun _ => ld16 fun _ => st16 fun _ => ld17 fun _ => ld17 fun _ => ld7 fun _ => ld20 fun _ =>
    Safe.ret _

theorem s19 {k0_t1 v1449 v1467 v1471 v1626 v1628} : Safe (F := F) 𝒱₀ c A (k0_part19 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1449 v1467 v1471 v1626 v1628) := by
  delta k0_part19; exact
    ld16 fun _ => ld8 fun _ => ld16 fun _ => st16 fun _ => ld19 fun _ => st19 fun _ => ld17 fun _ => Safe.ret _

theorem s20 {k0_t1 v1449 v1508 v1512 v1657 v1658 v1660} : Safe (F := F) 𝒱₀ c A (k0_part20 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1449 v1508 v1512 v1657 v1658 v1660) := by
  delta k0_part20; exact
    ld17 fun _ => ld7 fun _ => ld20 fun _ => ld16 fun _ => ld8 fun _ => ld16 fun _ => st16 fun _ => ld19 fun _ =>
    Safe.ret _

theorem s21 {k0_t1 v1449 v1549 v1553 v1668} : Safe (F := F) 𝒱₀ c A (k0_part21 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1449 v1549 v1553 v1668) := by
  delta k0_part21; exact
    st19 fun _ => ld17 fun _ => ld17 fun _ => ld7 fun _ => ld20 fun _ => ld16 fun _ => Safe.ret _

theorem s22 {k0_t1 v1449 v1710 v1718 v1724} : Safe (F := F) 𝒱₀ c A (k0_part22 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1449 v1710 v1718 v1724) := by
  delta k0_part22; exact
    ld8 fun _ => ld16 fun _ => st16 fun _ => ld19 fun _ => st19 fun _ => ld17 fun _ => ld17 fun _ => ld7 fun _ => ld20
    fun _ => Safe.ret _

theorem s23 {k0_t1 v1448 v1590 v1594 v1752 v1754 v1755 c1_i32_1048} : Safe (F := F) 𝒱₀ c A (k0_part23 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1590 v1594 v1752 v1754 v1755 c1_i32_1048) := by
  delta k0_part23; exact
    ld16 fun _ => ld8 fun _ => ld16 fun _ => st16 fun _ => ld19 fun _ => st19 fun _ => ld17 fun _ => ld17 fun _ =>
    Safe.ret _

theorem s24 {k0_t1 v1448 v1631 v1655 v1783 v1784 v1786 v1787} : Safe (F := F) 𝒱₀ c A (k0_part24 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1631 v1655 v1783 v1784 v1786 v1787) := by
  delta k0_part24; exact
    ld7 fun _ => ld20 fun _ => st20 fun _ => ld19 fun _ => ld16 fun _ => ld8 fun _ => ld16 fun _ => st16 fun _ =>
    Safe.ret _

theorem s25 {k0_t1 v1448 v1673 v1697} : Safe (F := F) 𝒱₀ c A (k0_part25 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1673 v1697) := by
  delta k0_part25; exact
    ld17 fun _ => ld17 fun _ => ld7 fun _ => ld20 fun _ => st20 fun _ => ld19 fun _ => ld16 fun _ => Safe.ret _

theorem s26 {k0_t1 v1448 v1847 v1853 v1854} : Safe (F := F) 𝒱₀ c A (k0_part26 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1847 v1853 v1854) := by
  delta k0_part26; exact
    ld8 fun _ => ld16 fun _ => st16 fun _ => ld17 fun _ => ld17 fun _ => ld7 fun _ => ld20 fun _ => st20 fun _ => ld19
    fun _ => Safe.ret _

theorem s27 {k0_t1 v1448 v1715 v1739 v1883} : Safe (F := F) 𝒱₀ c A (k0_part27 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1715 v1739 v1883) := by
  delta k0_part27; exact
    ld16 fun _ => ld8 fun _ => ld16 fun _ => st16 fun _ => ld17 fun _ => ld17 fun _ => ld7 fun _ => Safe.ret _

theorem s28 {k0_t1 v1448 v1757 v1781 v1912 v1916} : Safe (F := F) 𝒱₀ c A (k0_part28 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1757 v1781 v1912 v1916) := by
  delta k0_part28; exact
    ld20 fun _ => st20 fun _ => ld19 fun _ => ld16 fun _ => ld8 fun _ => ld16 fun _ => st16 fun _ => Safe.ret _

theorem s29 {k0_t1 v1448 v1799 v1803 v1947 v1948} : Safe (F := F) 𝒱₀ c A (k0_part29 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1799 v1803 v1947 v1948) := by
  delta k0_part29; exact
    ld17 fun _ => ld17 fun _ => ld7 fun _ => ld20 fun _ => ld16 fun _ => ld8 fun _ => ld16 fun _ => st16 fun _ =>
    Safe.ret _

theorem s30 {k0_t1 v1448 v1840 v1844 v1958} : Safe (F := F) 𝒱₀ c A (k0_part30 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1840 v1844 v1958) := by
  delta k0_part30; exact
    ld19 fun _ => st19 fun _ => ld17 fun _ => ld17 fun _ => ld7 fun _ => ld20 fun _ => ld16 fun _ => Safe.ret _

theorem s31 {k0_t1 v1448 v2000 v2004 v2008 v2014} : Safe (F := F) 𝒱₀ c A (k0_part31 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v2000 v2004 v2008 v2014) := by
  delta k0_part31; exact
    ld8 fun _ => ld16 fun _ => st16 fun _ => ld19 fun _ => st19 fun _ => ld17 fun _ => ld17 fun _ => ld7 fun _ =>
    Safe.ret _

theorem s32 {k0_t1 v1448 v1881 v1885 v2042} : Safe (F := F) 𝒱₀ c A (k0_part32 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1881 v1885 v2042) := by
  delta k0_part32; exact
    ld20 fun _ => ld16 fun _ => ld8 fun _ => ld16 fun _ => st16 fun _ => ld19 fun _ => st19 fun _ => ld17 fun _ =>
    Safe.ret _

theorem s33 {k0_t1 v1448 v1922 v1926 v2073 v2074 v2076} : Safe (F := F) 𝒱₀ c A (k0_part33 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1448 v1922 v1926 v2073 v2074 v2076) := by
  delta k0_part33; exact
    ld17 fun _ => ld7 fun _ => ld20 fun _ => ld16 fun _ => ld8 fun _ => ld16 fun _ => st16 fun _ => Safe.ret _

theorem s34 {k0_t1 v1445 v1963 v1987 v2084} : Safe (F := F) 𝒱₀ c A (k0_part34 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1445 v1963 v1987 v2084) := by
  delta k0_part34; exact
    ld19 fun _ => st19 fun _ => ld17 fun _ => ld17 fun _ => ld7 fun _ => ld20 fun _ => st20 fun _ => ld19 fun _ =>
    Safe.ret _

theorem s35 {k0_t1 v1963 v2116 v2136 v2137 v2138 v2139} : Safe (F := F) 𝒱₀ c A (k0_part35 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1963 v2116 v2136 v2137 v2138 v2139) := by
  delta k0_part35; exact
    ld16 fun _ => ld8 fun _ => ld16 fun _ => st16 fun _ => ld17 fun _ => ld17 fun _ => ld7 fun _ => Safe.ret _

theorem s36 {k0_t1 v2005 v2029 v2116 v2170} : Safe (F := F) 𝒱₀ c A (k0_part36 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2005 v2029 v2116 v2170) := by
  delta k0_part36; exact
    ld20 fun _ => st20 fun _ => ld19 fun _ => ld16 fun _ => ld8 fun _ => ld16 fun _ => st16 fun _ => ld17 fun _ =>
    Safe.ret _

theorem s37 {k0_t1 v2047 v2071 v2116 v2200 v2201 v2203} : Safe (F := F) 𝒱₀ c A (k0_part37 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2047 v2071 v2116 v2200 v2201 v2203) := by
  delta k0_part37; exact
    ld17 fun _ => ld7 fun _ => ld20 fun _ => st20 fun _ => ld19 fun _ => ld16 fun _ => ld8 fun _ => Safe.ret _

theorem s38 {k0_t1 v2089 v2113 v2116 v2236} : Safe (F := F) 𝒱₀ c A (k0_part38 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2089 v2113 v2116 v2236) := by
  delta k0_part38; exact
    ld16 fun _ => st16 fun _ => ld17 fun _ => ld17 fun _ => ld7 fun _ => ld20 fun _ => st20 fun _ => ld19 fun _ =>
    ld16 fun _ => Safe.ret _

theorem s39 {k0_t1 v2116 v2134 v2138 v2260 v2264 v2266 v2268} : Safe (F := F) 𝒱₀ c A (k0_part39 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2116 v2134 v2138 v2260 v2264 v2266 v2268) := by
  delta k0_part39; exact
    ld8 fun _ => ld16 fun _ => st16 fun _ => ld17 fun _ => ld17 fun _ => ld7 fun _ => ld20 fun _ => Safe.ret _

theorem s40 {k0_t1 v2116 v2138 v2293 v2295 v2297 v2298 v2299} : Safe (F := F) 𝒱₀ c A (k0_part40 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2116 v2138 v2293 v2295 v2297 v2298 v2299) := by
  delta k0_part40; exact
    ld16 fun _ => ld8 fun _ => ld16 fun _ => st16 fun _ => ld19 fun _ => st19 fun _ => ld17 fun _ => ld17 fun _ =>
    Safe.ret _

theorem s41 {k0_t1 v2116 v2175 v2179 v2324 v2330 c1_i32_1525} : Safe (F := F) 𝒱₀ c A (k0_part41 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2116 v2175 v2179 v2324 v2330 c1_i32_1525) := by
  delta k0_part41; exact
    ld7 fun _ => ld20 fun _ => ld16 fun _ => ld8 fun _ => ld16 fun _ => st16 fun _ => ld19 fun _ => st19 fun _ =>
    Safe.ret _

theorem s42 {k0_t1 v2116 v2216 v2220 c2_i32_1549} : Safe (F := F) 𝒱₀ c A (k0_part42 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2116 v2216 v2220 c2_i32_1549) := by
  delta k0_part42; exact
    ld17 fun _ => ld17 fun _ => ld7 fun _ => ld20 fun _ => ld16 fun _ => ld8 fun _ => Safe.ret _

theorem s43 {k0_t1 v2116 v2257 v2261 v2377 v2391 v2397} : Safe (F := F) 𝒱₀ c A (k0_part43 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2116 v2257 v2261 v2377 v2391 v2397) := by
  delta k0_part43; exact
    ld16 fun _ => st16 fun _ => ld19 fun _ => st19 fun _ => ld17 fun _ => ld17 fun _ => ld7 fun _ => ld20 fun _ =>
    Safe.ret _

theorem s44 {k0_t1 v2115 v2419 v2423 v2427 v2428} : Safe (F := F) 𝒱₀ c A (k0_part44 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2419 v2423 v2427 v2428) := by
  delta k0_part44; exact
    ld16 fun _ => ld8 fun _ => ld16 fun _ => st16 fun _ => ld19 fun _ => st19 fun _ => ld17 fun _ => ld17 fun _ =>
    Safe.ret _

theorem s45 {k0_t1 v2115 v2298 v2322 v2456} : Safe (F := F) 𝒱₀ c A (k0_part45 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2298 v2322 v2456) := by
  delta k0_part45; exact
    ld7 fun _ => ld20 fun _ => st20 fun _ => ld19 fun _ => ld16 fun _ => ld8 fun _ => ld16 fun _ => st16 fun _ =>
    Safe.ret _

theorem s46 {k0_t1 v2115 v2340 v2364 v2491 v2492} : Safe (F := F) 𝒱₀ c A (k0_part46 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2340 v2364 v2491 v2492) := by
  delta k0_part46; exact
    ld17 fun _ => ld17 fun _ => ld7 fun _ => ld20 fun _ => st20 fun _ => ld19 fun _ => ld16 fun _ => ld8 fun _ =>
    Safe.ret _

theorem s47 {k0_t1 v2115 v2382 v2406 v2514 v2520 v2524} : Safe (F := F) 𝒱₀ c A (k0_part47 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2382 v2406 v2514 v2520 v2524) := by
  delta k0_part47; exact
    ld16 fun _ => st16 fun _ => ld17 fun _ => ld17 fun _ => ld7 fun _ => ld20 fun _ => st20 fun _ => ld19 fun _ =>
    Safe.ret _

theorem s48 {k0_t1 v2115 v2382 v2551 v2552 v2555} : Safe (F := F) 𝒱₀ c A (k0_part48 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2382 v2551 v2552 v2555) := by
  delta k0_part48; exact
    ld16 fun _ => ld8 fun _ => ld16 fun _ => st16 fun _ => ld17 fun _ => ld17 fun _ => ld7 fun _ => ld20 fun _ =>
    Safe.ret _

theorem s49 {k0_t1 v2115 v2424 v2448 v2584 v2585} : Safe (F := F) 𝒱₀ c A (k0_part49 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2424 v2448 v2584 v2585) := by
  delta k0_part49; exact
    st20 fun _ => ld19 fun _ => ld16 fun _ => ld8 fun _ => ld16 fun _ => st16 fun _ => ld17 fun _ => Safe.ret _

theorem s50 {k0_t1 v2115 v2466 v2470 v2614 v2615 v2617} : Safe (F := F) 𝒱₀ c A (k0_part50 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2466 v2470 v2614 v2615 v2617) := by
  delta k0_part50; exact
    ld17 fun _ => ld7 fun _ => ld20 fun _ => ld16 fun _ => ld8 fun _ => ld16 fun _ => st16 fun _ => ld19 fun _ =>
    Safe.ret _

theorem s51 {k0_t1 v2115 v2507 v2511 v2625 v2652} : Safe (F := F) 𝒱₀ c A (k0_part51 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2507 v2511 v2625 v2652) := by
  delta k0_part51; exact
    st19 fun _ => ld17 fun _ => ld17 fun _ => ld7 fun _ => ld20 fun _ => ld16 fun _ => Safe.ret _

theorem s52 {k0_t1 v2115 v2667 v2675 v2681} : Safe (F := F) 𝒱₀ c A (k0_part52 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2667 v2675 v2681) := by
  delta k0_part52; exact
    ld8 fun _ => ld16 fun _ => st16 fun _ => ld19 fun _ => st19 fun _ => ld17 fun _ => ld17 fun _ => ld7 fun _ => ld20
    fun _ => Safe.ret _

theorem s53 {k0_t1 v2115 v2548 v2552 v2709 v2711 v2713} : Safe (F := F) 𝒱₀ c A (k0_part53 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2548 v2552 v2709 v2711 v2713) := by
  delta k0_part53; exact
    ld16 fun _ => ld8 fun _ => ld16 fun _ => st16 fun _ => ld19 fun _ => st19 fun _ => ld17 fun _ => ld17 fun _ =>
    Safe.ret _

theorem s54 {k0_t1 v2115 v2589 v2593 v2740 v2741 v2743 v2745} : Safe (F := F) 𝒱₀ c A (k0_part54 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2115 v2589 v2593 v2740 v2741 v2743 v2745) := by
  delta k0_part54; exact
    ld7 fun _ => ld20 fun _ => ld16 fun _ => ld8 fun _ => ld16 fun _ => st16 fun _ => ld19 fun _ => st19 fun _ =>
    Safe.ret _

theorem s55 {k0_t1 v1442 v2630 v2654 v2779} : Safe (F := F) 𝒱₀ c A (k0_part55 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v1442 v2630 v2654 v2779) := by
  delta k0_part55; exact
    ld17 fun _ => ld17 fun _ => ld7 fun _ => ld20 fun _ => st20 fun _ => ld19 fun _ => Safe.ret _

theorem s56 {k0_t1 v2630 v2786 v2806 v2807 v2808 v2809} : Safe (F := F) 𝒱₀ c A (k0_part56 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2630 v2786 v2806 v2807 v2808 v2809) := by
  delta k0_part56; exact
    ld16 fun _ => ld8 fun _ => ld16 fun _ => st16 fun _ => ld17 fun _ => ld17 fun _ => ld7 fun _ => Safe.ret _

theorem s57 {k0_t1 v2672 v2696 v2786 v2840} : Safe (F := F) 𝒱₀ c A (k0_part57 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2672 v2696 v2786 v2840) := by
  delta k0_part57; exact
    ld20 fun _ => st20 fun _ => ld19 fun _ => ld16 fun _ => ld8 fun _ => ld16 fun _ => st16 fun _ => ld17 fun _ =>
    Safe.ret _

theorem s58 {k0_t1 v2714 v2738 v2786 v2870 v2871 v2873} : Safe (F := F) 𝒱₀ c A (k0_part58 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2714 v2738 v2786 v2870 v2871 v2873) := by
  delta k0_part58; exact
    ld17 fun _ => ld7 fun _ => ld20 fun _ => st20 fun _ => ld19 fun _ => ld16 fun _ => ld8 fun _ => Safe.ret _

theorem s59 {k0_t1 v2756 v2780 v2786 v2906} : Safe (F := F) 𝒱₀ c A (k0_part59 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2756 v2780 v2786 v2906) := by
  delta k0_part59; exact
    ld16 fun _ => st16 fun _ => ld17 fun _ => ld17 fun _ => ld7 fun _ => ld20 fun _ => st20 fun _ => ld19 fun _ =>
    ld16 fun _ => Safe.ret _

theorem s60 {k0_t1 v2786 v2804 v2808 v2930 v2934 v2936 v2938} : Safe (F := F) 𝒱₀ c A (k0_part60 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2786 v2804 v2808 v2930 v2934 v2936 v2938) := by
  delta k0_part60; exact
    ld8 fun _ => ld16 fun _ => st16 fun _ => ld17 fun _ => ld17 fun _ => ld7 fun _ => ld20 fun _ => Safe.ret _

theorem s61 {k0_t1 v2786 v2808 v2963 v2965 v2967 v2968 v2969} : Safe (F := F) 𝒱₀ c A (k0_part61 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2786 v2808 v2963 v2965 v2967 v2968 v2969) := by
  delta k0_part61; exact
    ld16 fun _ => ld8 fun _ => ld16 fun _ => st16 fun _ => ld19 fun _ => st19 fun _ => ld17 fun _ => ld17 fun _ =>
    Safe.ret _

theorem s62 {k0_t1 v2786 v2845 v2849 v2994 v3000 c1_i32_2083} : Safe (F := F) 𝒱₀ c A (k0_part62 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2786 v2845 v2849 v2994 v3000 c1_i32_2083) := by
  delta k0_part62; exact
    ld7 fun _ => ld20 fun _ => ld16 fun _ => ld8 fun _ => ld16 fun _ => st16 fun _ => ld19 fun _ => st19 fun _ =>
    Safe.ret _

theorem s63 {k0_t1 v2786 v2886 v2890 c2_i32_2107} : Safe (F := F) 𝒱₀ c A (k0_part63 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2786 v2886 v2890 c2_i32_2107) := by
  delta k0_part63; exact
    ld17 fun _ => ld17 fun _ => ld7 fun _ => ld20 fun _ => ld16 fun _ => ld8 fun _ => Safe.ret _

theorem s64 {k0_t1 v2786 v2927 v2931 v3047 v3061 v3067} : Safe (F := F) 𝒱₀ c A (k0_part64 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2786 v2927 v2931 v3047 v3061 v3067) := by
  delta k0_part64; exact
    ld16 fun _ => st16 fun _ => ld19 fun _ => st19 fun _ => ld17 fun _ => ld17 fun _ => ld7 fun _ => ld20 fun _ =>
    Safe.ret _

theorem s65 {k0_t1 v2785 v3089 v3093 v3097 v3098} : Safe (F := F) 𝒱₀ c A (k0_part65 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3089 v3093 v3097 v3098) := by
  delta k0_part65; exact
    ld16 fun _ => ld8 fun _ => ld16 fun _ => st16 fun _ => ld19 fun _ => st19 fun _ => ld17 fun _ => ld17 fun _ =>
    Safe.ret _

theorem s66 {k0_t1 v2785 v2968 v2992 v3126} : Safe (F := F) 𝒱₀ c A (k0_part66 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v2968 v2992 v3126) := by
  delta k0_part66; exact
    ld7 fun _ => ld20 fun _ => st20 fun _ => ld19 fun _ => ld16 fun _ => ld8 fun _ => ld16 fun _ => st16 fun _ =>
    Safe.ret _

theorem s67 {k0_t1 v2785 v3010 v3034 v3161 v3162} : Safe (F := F) 𝒱₀ c A (k0_part67 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3010 v3034 v3161 v3162) := by
  delta k0_part67; exact
    ld17 fun _ => ld17 fun _ => ld7 fun _ => ld20 fun _ => st20 fun _ => ld19 fun _ => ld16 fun _ => ld8 fun _ =>
    Safe.ret _

theorem s68 {k0_t1 v2785 v3052 v3076 v3184 v3190 v3194} : Safe (F := F) 𝒱₀ c A (k0_part68 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3052 v3076 v3184 v3190 v3194) := by
  delta k0_part68; exact
    ld16 fun _ => st16 fun _ => ld17 fun _ => ld17 fun _ => ld7 fun _ => ld20 fun _ => st20 fun _ => ld19 fun _ =>
    Safe.ret _

theorem s69 {k0_t1 v2785 v3052 v3221 v3222 v3225} : Safe (F := F) 𝒱₀ c A (k0_part69 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3052 v3221 v3222 v3225) := by
  delta k0_part69; exact
    ld16 fun _ => ld8 fun _ => ld16 fun _ => st16 fun _ => ld17 fun _ => ld17 fun _ => ld7 fun _ => ld20 fun _ =>
    Safe.ret _

theorem s70 {k0_t1 v2785 v3094 v3118 v3254 v3255} : Safe (F := F) 𝒱₀ c A (k0_part70 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3094 v3118 v3254 v3255) := by
  delta k0_part70; exact
    st20 fun _ => ld19 fun _ => ld16 fun _ => ld8 fun _ => ld16 fun _ => st16 fun _ => ld17 fun _ => Safe.ret _

theorem s71 {k0_t1 v2785 v3136 v3140 v3284 v3285 v3287} : Safe (F := F) 𝒱₀ c A (k0_part71 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3136 v3140 v3284 v3285 v3287) := by
  delta k0_part71; exact
    ld17 fun _ => ld7 fun _ => ld20 fun _ => ld16 fun _ => ld8 fun _ => ld16 fun _ => st16 fun _ => ld19 fun _ =>
    Safe.ret _

end Cert.KernelIdeal.Nsa

end
-- ==== Proof.NsaParts2.lean ====
/-
  Each printed stretch of the attention body runs and hands every buffer back (group 2).
-/
module

public import proofs.«01_k».proof.Proof.Nsa

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s72 {k0_t1 v2785 v3177 v3181 v3295 v3322} : Safe (F := F) 𝒱₀ c A (k0_part72 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3177 v3181 v3295 v3322) := by
  delta k0_part72; exact
    st19 fun _ => ld17 fun _ => ld17 fun _ => ld7 fun _ => ld20 fun _ => ld16 fun _ => Safe.ret _

theorem s73 {k0_t1 v2785 v3337 v3345 v3351} : Safe (F := F) 𝒱₀ c A (k0_part73 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3337 v3345 v3351) := by
  delta k0_part73; exact
    ld8 fun _ => ld16 fun _ => st16 fun _ => ld19 fun _ => st19 fun _ => ld17 fun _ => ld17 fun _ => ld7 fun _ => ld20
    fun _ => Safe.ret _

theorem s74 {k0_t1 v2785 v3218 v3222 v3379 v3381 v3383} : Safe (F := F) 𝒱₀ c A (k0_part74 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3218 v3222 v3379 v3381 v3383) := by
  delta k0_part74; exact
    ld16 fun _ => ld8 fun _ => ld16 fun _ => st16 fun _ => ld19 fun _ => st19 fun _ => ld17 fun _ => ld17 fun _ =>
    Safe.ret _

theorem s75 {k0_t1 v2785 v3259 v3263 v3410 v3411 v3413 v3415} : Safe (F := F) 𝒱₀ c A (k0_part75 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2785 v3259 v3263 v3410 v3411 v3413 v3415) := by
  delta k0_part75; exact
    ld7 fun _ => ld20 fun _ => ld16 fun _ => ld8 fun _ => ld16 fun _ => st16 fun _ => ld19 fun _ => st19 fun _ =>
    Safe.ret _

theorem s76 {k0_t1 v2782 v3300 v3324 v3449} : Safe (F := F) 𝒱₀ c A (k0_part76 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2782 v3300 v3324 v3449) := by
  delta k0_part76; exact
    ld17 fun _ => ld17 fun _ => ld7 fun _ => ld20 fun _ => st20 fun _ => ld19 fun _ => Safe.ret _

theorem s77 {k0_t1 v3453 v3474 v3478 v3480} : Safe (F := F) 𝒱₀ c A (k0_part77 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3474 v3478 v3480) := by
  delta k0_part77; exact
    ld16 fun _ => ld8 fun _ => ld16 fun _ => st16 fun _ => ld17 fun _ => ld17 fun _ => ld7 fun _ => ld20 fun _ => st20
    fun _ => Safe.ret _

theorem s78 {k0_t1 v3342 v3366 v3453 v3507} : Safe (F := F) 𝒱₀ c A (k0_part78 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3342 v3366 v3453 v3507) := by
  delta k0_part78; exact
    ld19 fun _ => ld16 fun _ => ld8 fun _ => ld16 fun _ => st16 fun _ => ld17 fun _ => ld17 fun _ => Safe.ret _

theorem s79 {k0_t1 v3384 v3408 v3453 v3537 v3543} : Safe (F := F) 𝒱₀ c A (k0_part79 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3384 v3408 v3453 v3537 v3543) := by
  delta k0_part79; exact
    ld7 fun _ => ld20 fun _ => st20 fun _ => ld19 fun _ => ld16 fun _ => ld8 fun _ => ld16 fun _ => st16 fun _ =>
    Safe.ret _

theorem s80 {k0_t1 v3426 v3450 v3453 v3577} : Safe (F := F) 𝒱₀ c A (k0_part80 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3426 v3450 v3453 v3577) := by
  delta k0_part80; exact
    ld17 fun _ => ld17 fun _ => ld7 fun _ => ld20 fun _ => st20 fun _ => ld19 fun _ => ld16 fun _ => Safe.ret _

theorem s81 {k0_t1 v3453 v3471 v3475 v3601 v3607} : Safe (F := F) 𝒱₀ c A (k0_part81 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3471 v3475 v3601 v3607) := by
  delta k0_part81; exact
    ld8 fun _ => ld16 fun _ => st16 fun _ => ld17 fun _ => ld17 fun _ => ld7 fun _ => ld20 fun _ => Safe.ret _

theorem s82 {k0_t1 v3453 v3630 v3634 v3638 v3640} : Safe (F := F) 𝒱₀ c A (k0_part82 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3630 v3634 v3638 v3640) := by
  delta k0_part82; exact
    ld16 fun _ => ld8 fun _ => ld16 fun _ => st16 fun _ => ld19 fun _ => st19 fun _ => ld17 fun _ => ld17 fun _ => ld7
    fun _ => Safe.ret _

theorem s83 {k0_t1 v3453 v3512 v3516 v3667 v3671} : Safe (F := F) 𝒱₀ c A (k0_part83 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3512 v3516 v3667 v3671) := by
  delta k0_part83; exact
    ld20 fun _ => ld16 fun _ => ld8 fun _ => ld16 fun _ => st16 fun _ => ld19 fun _ => st19 fun _ => Safe.ret _

theorem s84 {k0_t1 v3453 v3553 v3557 v3703 v3704} : Safe (F := F) 𝒱₀ c A (k0_part84 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3553 v3557 v3703 v3704) := by
  delta k0_part84; exact
    ld17 fun _ => ld17 fun _ => ld7 fun _ => ld20 fun _ => ld16 fun _ => ld8 fun _ => ld16 fun _ => Safe.ret _

theorem s85 {k0_t1 v3453 v3594 v3598 v3714 v3735} : Safe (F := F) 𝒱₀ c A (k0_part85 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3453 v3594 v3598 v3714 v3735) := by
  delta k0_part85; exact
    st16 fun _ => ld19 fun _ => st19 fun _ => ld17 fun _ => ld17 fun _ => ld7 fun _ => ld20 fun _ => ld16 fun _ =>
    Safe.ret _

theorem s86 {k0_t1 v3452 v3756 v3760 v3764 v3766 v3768} : Safe (F := F) 𝒱₀ c A (k0_part86 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3756 v3760 v3764 v3766 v3768) := by
  delta k0_part86; exact
    ld8 fun _ => ld16 fun _ => st16 fun _ => ld19 fun _ => st19 fun _ => ld17 fun _ => ld17 fun _ => ld7 fun _ =>
    Safe.ret _

theorem s87 {k0_t1 v3452 v3635 v3659 v3798} : Safe (F := F) 𝒱₀ c A (k0_part87 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3635 v3659 v3798) := by
  delta k0_part87; exact
    ld20 fun _ => st20 fun _ => ld19 fun _ => ld16 fun _ => ld8 fun _ => ld16 fun _ => st16 fun _ => ld17 fun _ =>
    Safe.ret _

theorem s88 {k0_t1 v3452 v3677 v3701 v3828 v3829 v3831} : Safe (F := F) 𝒱₀ c A (k0_part88 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3677 v3701 v3828 v3829 v3831) := by
  delta k0_part88; exact
    ld17 fun _ => ld7 fun _ => ld20 fun _ => st20 fun _ => ld19 fun _ => ld16 fun _ => ld8 fun _ => Safe.ret _

theorem s89 {k0_t1 v3452 v3719 v3743 v3864} : Safe (F := F) 𝒱₀ c A (k0_part89 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3719 v3743 v3864) := by
  delta k0_part89; exact
    ld16 fun _ => st16 fun _ => ld17 fun _ => ld17 fun _ => ld7 fun _ => ld20 fun _ => st20 fun _ => ld19 fun _ =>
    ld16 fun _ => Safe.ret _

theorem s90 {k0_t1 v3452 v3888 v3892 v3894 v3895} : Safe (F := F) 𝒱₀ c A (k0_part90 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3888 v3892 v3894 v3895) := by
  delta k0_part90; exact
    ld8 fun _ => ld16 fun _ => st16 fun _ => ld17 fun _ => ld17 fun _ => ld7 fun _ => ld20 fun _ => st20 fun _ =>
    Safe.ret _

theorem s91 {k0_t1 v3452 v3761 v3785} : Safe (F := F) 𝒱₀ c A (k0_part91 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3761 v3785) := by
  delta k0_part91; exact
    ld19 fun _ => ld16 fun _ => ld8 fun _ => ld16 fun _ => st16 fun _ => ld17 fun _ => ld17 fun _ => Safe.ret _

theorem s92 {k0_t1 v3452 v3803 v3807 v3957 v3958} : Safe (F := F) 𝒱₀ c A (k0_part92 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3803 v3807 v3957 v3958) := by
  delta k0_part92; exact
    ld7 fun _ => ld20 fun _ => ld16 fun _ => ld8 fun _ => ld16 fun _ => st16 fun _ => ld19 fun _ => st19 fun _ =>
    Safe.ret _

theorem s93 {k0_t1 v3452 v3844 v3848 v3992} : Safe (F := F) 𝒱₀ c A (k0_part93 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3844 v3848 v3992) := by
  delta k0_part93; exact
    ld17 fun _ => ld17 fun _ => ld7 fun _ => ld20 fun _ => ld16 fun _ => ld8 fun _ => Safe.ret _

theorem s94 {k0_t1 v3452 v3885 v3889 v4004 v4025} : Safe (F := F) 𝒱₀ c A (k0_part94 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v3885 v3889 v4004 v4025) := by
  delta k0_part94; exact
    ld16 fun _ => st16 fun _ => ld19 fun _ => st19 fun _ => ld17 fun _ => ld17 fun _ => ld7 fun _ => ld20 fun _ =>
    Safe.ret _

theorem s95 {k0_t1 v3452 v4046 v4050 v4054 v4056} : Safe (F := F) 𝒱₀ c A (k0_part95 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v3452 v4046 v4050 v4054 v4056) := by
  delta k0_part95; exact
    ld16 fun _ => ld8 fun _ => ld16 fun _ => st16 fun _ => ld19 fun _ => st19 fun _ => ld17 fun _ => ld17 fun _ =>
    Safe.ret _

theorem s98 {v617 c1_i32_281 k0_t2} : Safe (F := F) 𝒱₀ c A (k0_part98 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v617 c1_i32_281 k0_t2) := by
  delta k0_part98; exact
    ld17 fun _ => ld17 fun _ => ld7 fun _ => ld20 fun _ => st20 fun _ => Safe.ret _

theorem s99 {k0_t2 arg24 arg28 v1449} : Safe (F := F) 𝒱₀ c A (k0_part99 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 arg24 arg28 v1449) := by
  delta k0_part99; exact
    ld19 fun _ => ld16 fun _ => ld8 fun _ => ld16 fun _ => st16 fun _ => ld17 fun _ => ld17 fun _ => Safe.ret _

theorem s100 {k0_t2 arg25 arg29 v1449 v1498} : Safe (F := F) 𝒱₀ c A (k0_part100 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 arg25 arg29 v1449 v1498) := by
  delta k0_part100; exact
    ld7 fun _ => ld20 fun _ => st20 fun _ => ld19 fun _ => ld16 fun _ => ld8 fun _ => ld16 fun _ => st16 fun _ =>
    Safe.ret _

theorem s101 {k0_t2 arg26 arg30 v1449 v1533 v1534} : Safe (F := F) 𝒱₀ c A (k0_part101 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 arg26 arg30 v1449 v1533 v1534) := by
  delta k0_part101; exact
    ld17 fun _ => ld17 fun _ => ld7 fun _ => ld20 fun _ => st20 fun _ => ld19 fun _ => ld16 fun _ => ld8 fun _ =>
    Safe.ret _

theorem s102 {k0_t2 arg27 arg31 v1449 v1562 v1566 v1567} : Safe (F := F) 𝒱₀ c A (k0_part102 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 arg27 arg31 v1449 v1562 v1566 v1567) := by
  delta k0_part102; exact
    ld16 fun _ => st16 fun _ => ld17 fun _ => ld17 fun _ => ld7 fun _ => ld20 fun _ => st20 fun _ => ld19 fun _ =>
    Safe.ret _

theorem s103 {k0_t2 v1449 v1593 v1597 v1598} : Safe (F := F) 𝒱₀ c A (k0_part103 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1449 v1593 v1597 v1598) := by
  delta k0_part103; exact
    ld16 fun _ => ld8 fun _ => ld16 fun _ => st16 fun _ => ld17 fun _ => ld17 fun _ => ld7 fun _ => ld20 fun _ =>
    Safe.ret _

theorem s104 {k0_t2 v1449 v1467 v1471 v1626 v1628} : Safe (F := F) 𝒱₀ c A (k0_part104 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1449 v1467 v1471 v1626 v1628) := by
  delta k0_part104; exact
    ld16 fun _ => ld8 fun _ => ld16 fun _ => st16 fun _ => ld19 fun _ => st19 fun _ => ld17 fun _ => Safe.ret _

theorem s105 {k0_t2 v1449 v1508 v1512 v1657 v1658 v1660} : Safe (F := F) 𝒱₀ c A (k0_part105 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1449 v1508 v1512 v1657 v1658 v1660) := by
  delta k0_part105; exact
    ld17 fun _ => ld7 fun _ => ld20 fun _ => ld16 fun _ => ld8 fun _ => ld16 fun _ => st16 fun _ => ld19 fun _ =>
    Safe.ret _

theorem s106 {k0_t2 v1449 v1549 v1553 v1668} : Safe (F := F) 𝒱₀ c A (k0_part106 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1449 v1549 v1553 v1668) := by
  delta k0_part106; exact
    st19 fun _ => ld17 fun _ => ld17 fun _ => ld7 fun _ => ld20 fun _ => ld16 fun _ => Safe.ret _

theorem s107 {k0_t2 v1449 v1710 v1718 v1724} : Safe (F := F) 𝒱₀ c A (k0_part107 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1449 v1710 v1718 v1724) := by
  delta k0_part107; exact
    ld8 fun _ => ld16 fun _ => st16 fun _ => ld19 fun _ => st19 fun _ => ld17 fun _ => ld17 fun _ => ld7 fun _ => ld20
    fun _ => Safe.ret _

theorem s108 {k0_t2 v1448 v1590 v1594 v1752 v1754 v1755 c1_i32_1048} : Safe (F := F) 𝒱₀ c A (k0_part108 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1590 v1594 v1752 v1754 v1755 c1_i32_1048) := by
  delta k0_part108; exact
    ld16 fun _ => ld8 fun _ => ld16 fun _ => st16 fun _ => ld19 fun _ => st19 fun _ => ld17 fun _ => ld17 fun _ =>
    Safe.ret _

theorem s109 {k0_t2 v1448 v1631 v1655 v1783 v1784 v1786 v1787} : Safe (F := F) 𝒱₀ c A (k0_part109 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1631 v1655 v1783 v1784 v1786 v1787) := by
  delta k0_part109; exact
    ld7 fun _ => ld20 fun _ => st20 fun _ => ld19 fun _ => ld16 fun _ => ld8 fun _ => ld16 fun _ => st16 fun _ =>
    Safe.ret _

theorem s110 {k0_t2 v1448 v1673 v1697} : Safe (F := F) 𝒱₀ c A (k0_part110 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1673 v1697) := by
  delta k0_part110; exact
    ld17 fun _ => ld17 fun _ => ld7 fun _ => ld20 fun _ => st20 fun _ => ld19 fun _ => ld16 fun _ => Safe.ret _

theorem s111 {k0_t2 v1448 v1847 v1853 v1854} : Safe (F := F) 𝒱₀ c A (k0_part111 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1847 v1853 v1854) := by
  delta k0_part111; exact
    ld8 fun _ => ld16 fun _ => st16 fun _ => ld17 fun _ => ld17 fun _ => ld7 fun _ => ld20 fun _ => st20 fun _ => ld19
    fun _ => Safe.ret _

theorem s112 {k0_t2 v1448 v1715 v1739 v1883} : Safe (F := F) 𝒱₀ c A (k0_part112 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1715 v1739 v1883) := by
  delta k0_part112; exact
    ld16 fun _ => ld8 fun _ => ld16 fun _ => st16 fun _ => ld17 fun _ => ld17 fun _ => ld7 fun _ => Safe.ret _

theorem s113 {k0_t2 v1448 v1757 v1781 v1912 v1916} : Safe (F := F) 𝒱₀ c A (k0_part113 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1757 v1781 v1912 v1916) := by
  delta k0_part113; exact
    ld20 fun _ => st20 fun _ => ld19 fun _ => ld16 fun _ => ld8 fun _ => ld16 fun _ => st16 fun _ => Safe.ret _

theorem s114 {k0_t2 v1448 v1799 v1803 v1947 v1948} : Safe (F := F) 𝒱₀ c A (k0_part114 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1799 v1803 v1947 v1948) := by
  delta k0_part114; exact
    ld17 fun _ => ld17 fun _ => ld7 fun _ => ld20 fun _ => ld16 fun _ => ld8 fun _ => ld16 fun _ => st16 fun _ =>
    Safe.ret _

theorem s115 {k0_t2 v1448 v1840 v1844 v1958} : Safe (F := F) 𝒱₀ c A (k0_part115 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1840 v1844 v1958) := by
  delta k0_part115; exact
    ld19 fun _ => st19 fun _ => ld17 fun _ => ld17 fun _ => ld7 fun _ => ld20 fun _ => ld16 fun _ => Safe.ret _

theorem s116 {k0_t2 v1448 v2000 v2004 v2008 v2014} : Safe (F := F) 𝒱₀ c A (k0_part116 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v2000 v2004 v2008 v2014) := by
  delta k0_part116; exact
    ld8 fun _ => ld16 fun _ => st16 fun _ => ld19 fun _ => st19 fun _ => ld17 fun _ => ld17 fun _ => ld7 fun _ =>
    Safe.ret _

theorem s117 {k0_t2 v1448 v1881 v1885 v2042} : Safe (F := F) 𝒱₀ c A (k0_part117 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1881 v1885 v2042) := by
  delta k0_part117; exact
    ld20 fun _ => ld16 fun _ => ld8 fun _ => ld16 fun _ => st16 fun _ => ld19 fun _ => st19 fun _ => ld17 fun _ =>
    Safe.ret _

theorem s118 {k0_t2 v1448 v1922 v1926 v2073 v2074 v2076} : Safe (F := F) 𝒱₀ c A (k0_part118 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1448 v1922 v1926 v2073 v2074 v2076) := by
  delta k0_part118; exact
    ld17 fun _ => ld7 fun _ => ld20 fun _ => ld16 fun _ => ld8 fun _ => ld16 fun _ => st16 fun _ => Safe.ret _

theorem s119 {k0_t2 v1445 v1963 v1987 v2084} : Safe (F := F) 𝒱₀ c A (k0_part119 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1445 v1963 v1987 v2084) := by
  delta k0_part119; exact
    ld19 fun _ => st19 fun _ => ld17 fun _ => ld17 fun _ => ld7 fun _ => ld20 fun _ => st20 fun _ => ld19 fun _ =>
    Safe.ret _

theorem s120 {k0_t2 v1963 v2116 v2136 v2137 v2138 v2139} : Safe (F := F) 𝒱₀ c A (k0_part120 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1963 v2116 v2136 v2137 v2138 v2139) := by
  delta k0_part120; exact
    ld16 fun _ => ld8 fun _ => ld16 fun _ => st16 fun _ => ld17 fun _ => ld17 fun _ => ld7 fun _ => Safe.ret _

theorem s121 {k0_t2 v2005 v2029 v2116 v2170} : Safe (F := F) 𝒱₀ c A (k0_part121 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2005 v2029 v2116 v2170) := by
  delta k0_part121; exact
    ld20 fun _ => st20 fun _ => ld19 fun _ => ld16 fun _ => ld8 fun _ => ld16 fun _ => st16 fun _ => ld17 fun _ =>
    Safe.ret _

theorem s122 {k0_t2 v2047 v2071 v2116 v2200 v2201 v2203} : Safe (F := F) 𝒱₀ c A (k0_part122 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2047 v2071 v2116 v2200 v2201 v2203) := by
  delta k0_part122; exact
    ld17 fun _ => ld7 fun _ => ld20 fun _ => st20 fun _ => ld19 fun _ => ld16 fun _ => ld8 fun _ => Safe.ret _

theorem s123 {k0_t2 v2089 v2113 v2116 v2236} : Safe (F := F) 𝒱₀ c A (k0_part123 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2089 v2113 v2116 v2236) := by
  delta k0_part123; exact
    ld16 fun _ => st16 fun _ => ld17 fun _ => ld17 fun _ => ld7 fun _ => ld20 fun _ => st20 fun _ => ld19 fun _ =>
    ld16 fun _ => Safe.ret _

theorem s124 {k0_t2 v2116 v2134 v2138 v2260 v2264 v2266 v2268} : Safe (F := F) 𝒱₀ c A (k0_part124 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2116 v2134 v2138 v2260 v2264 v2266 v2268) := by
  delta k0_part124; exact
    ld8 fun _ => ld16 fun _ => st16 fun _ => ld17 fun _ => ld17 fun _ => ld7 fun _ => ld20 fun _ => Safe.ret _

theorem s125 {k0_t2 v2116 v2138 v2293 v2295 v2297 v2298 v2299} : Safe (F := F) 𝒱₀ c A (k0_part125 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2116 v2138 v2293 v2295 v2297 v2298 v2299) := by
  delta k0_part125; exact
    ld16 fun _ => ld8 fun _ => ld16 fun _ => st16 fun _ => ld19 fun _ => st19 fun _ => ld17 fun _ => ld17 fun _ =>
    Safe.ret _

theorem s126 {k0_t2 v2116 v2175 v2179 v2324 v2330 c1_i32_1525} : Safe (F := F) 𝒱₀ c A (k0_part126 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2116 v2175 v2179 v2324 v2330 c1_i32_1525) := by
  delta k0_part126; exact
    ld7 fun _ => ld20 fun _ => ld16 fun _ => ld8 fun _ => ld16 fun _ => st16 fun _ => ld19 fun _ => st19 fun _ =>
    Safe.ret _

theorem s127 {k0_t2 v2116 v2216 v2220 c2_i32_1549} : Safe (F := F) 𝒱₀ c A (k0_part127 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2116 v2216 v2220 c2_i32_1549) := by
  delta k0_part127; exact
    ld17 fun _ => ld17 fun _ => ld7 fun _ => ld20 fun _ => ld16 fun _ => ld8 fun _ => Safe.ret _

theorem s128 {k0_t2 v2116 v2257 v2261 v2377 v2391 v2397} : Safe (F := F) 𝒱₀ c A (k0_part128 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2116 v2257 v2261 v2377 v2391 v2397) := by
  delta k0_part128; exact
    ld16 fun _ => st16 fun _ => ld19 fun _ => st19 fun _ => ld17 fun _ => ld17 fun _ => ld7 fun _ => ld20 fun _ =>
    Safe.ret _

theorem s129 {k0_t2 v2115 v2419 v2423 v2427 v2428} : Safe (F := F) 𝒱₀ c A (k0_part129 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2419 v2423 v2427 v2428) := by
  delta k0_part129; exact
    ld16 fun _ => ld8 fun _ => ld16 fun _ => st16 fun _ => ld19 fun _ => st19 fun _ => ld17 fun _ => ld17 fun _ =>
    Safe.ret _

theorem s130 {k0_t2 v2115 v2298 v2322 v2456} : Safe (F := F) 𝒱₀ c A (k0_part130 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2298 v2322 v2456) := by
  delta k0_part130; exact
    ld7 fun _ => ld20 fun _ => st20 fun _ => ld19 fun _ => ld16 fun _ => ld8 fun _ => ld16 fun _ => st16 fun _ =>
    Safe.ret _

theorem s131 {k0_t2 v2115 v2340 v2364 v2491 v2492} : Safe (F := F) 𝒱₀ c A (k0_part131 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2340 v2364 v2491 v2492) := by
  delta k0_part131; exact
    ld17 fun _ => ld17 fun _ => ld7 fun _ => ld20 fun _ => st20 fun _ => ld19 fun _ => ld16 fun _ => ld8 fun _ =>
    Safe.ret _

theorem s132 {k0_t2 v2115 v2382 v2406 v2514 v2520 v2524} : Safe (F := F) 𝒱₀ c A (k0_part132 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2382 v2406 v2514 v2520 v2524) := by
  delta k0_part132; exact
    ld16 fun _ => st16 fun _ => ld17 fun _ => ld17 fun _ => ld7 fun _ => ld20 fun _ => st20 fun _ => ld19 fun _ =>
    Safe.ret _

theorem s133 {k0_t2 v2115 v2382 v2551 v2552 v2555} : Safe (F := F) 𝒱₀ c A (k0_part133 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2382 v2551 v2552 v2555) := by
  delta k0_part133; exact
    ld16 fun _ => ld8 fun _ => ld16 fun _ => st16 fun _ => ld17 fun _ => ld17 fun _ => ld7 fun _ => ld20 fun _ =>
    Safe.ret _

theorem s134 {k0_t2 v2115 v2424 v2448 v2584 v2585} : Safe (F := F) 𝒱₀ c A (k0_part134 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2424 v2448 v2584 v2585) := by
  delta k0_part134; exact
    st20 fun _ => ld19 fun _ => ld16 fun _ => ld8 fun _ => ld16 fun _ => st16 fun _ => ld17 fun _ => Safe.ret _

theorem s135 {k0_t2 v2115 v2466 v2470 v2614 v2615 v2617} : Safe (F := F) 𝒱₀ c A (k0_part135 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2466 v2470 v2614 v2615 v2617) := by
  delta k0_part135; exact
    ld17 fun _ => ld7 fun _ => ld20 fun _ => ld16 fun _ => ld8 fun _ => ld16 fun _ => st16 fun _ => ld19 fun _ =>
    Safe.ret _

theorem s136 {k0_t2 v2115 v2507 v2511 v2625 v2652} : Safe (F := F) 𝒱₀ c A (k0_part136 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2507 v2511 v2625 v2652) := by
  delta k0_part136; exact
    st19 fun _ => ld17 fun _ => ld17 fun _ => ld7 fun _ => ld20 fun _ => ld16 fun _ => Safe.ret _

theorem s137 {k0_t2 v2115 v2667 v2675 v2681} : Safe (F := F) 𝒱₀ c A (k0_part137 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2667 v2675 v2681) := by
  delta k0_part137; exact
    ld8 fun _ => ld16 fun _ => st16 fun _ => ld19 fun _ => st19 fun _ => ld17 fun _ => ld17 fun _ => ld7 fun _ => ld20
    fun _ => Safe.ret _

theorem s138 {k0_t2 v2115 v2548 v2552 v2709 v2711 v2713} : Safe (F := F) 𝒱₀ c A (k0_part138 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2548 v2552 v2709 v2711 v2713) := by
  delta k0_part138; exact
    ld16 fun _ => ld8 fun _ => ld16 fun _ => st16 fun _ => ld19 fun _ => st19 fun _ => ld17 fun _ => ld17 fun _ =>
    Safe.ret _

theorem s139 {k0_t2 v2115 v2589 v2593 v2740 v2741 v2743 v2745} : Safe (F := F) 𝒱₀ c A (k0_part139 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2115 v2589 v2593 v2740 v2741 v2743 v2745) := by
  delta k0_part139; exact
    ld7 fun _ => ld20 fun _ => ld16 fun _ => ld8 fun _ => ld16 fun _ => st16 fun _ => ld19 fun _ => st19 fun _ =>
    Safe.ret _

theorem s140 {k0_t2 v1442 v2630 v2654 v2779} : Safe (F := F) 𝒱₀ c A (k0_part140 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v1442 v2630 v2654 v2779) := by
  delta k0_part140; exact
    ld17 fun _ => ld17 fun _ => ld7 fun _ => ld20 fun _ => st20 fun _ => ld19 fun _ => Safe.ret _

theorem s141 {k0_t2 v2630 v2786 v2806 v2807 v2808 v2809} : Safe (F := F) 𝒱₀ c A (k0_part141 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2630 v2786 v2806 v2807 v2808 v2809) := by
  delta k0_part141; exact
    ld16 fun _ => ld8 fun _ => ld16 fun _ => st16 fun _ => ld17 fun _ => ld17 fun _ => ld7 fun _ => Safe.ret _

theorem s142 {k0_t2 v2672 v2696 v2786 v2840} : Safe (F := F) 𝒱₀ c A (k0_part142 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2672 v2696 v2786 v2840) := by
  delta k0_part142; exact
    ld20 fun _ => st20 fun _ => ld19 fun _ => ld16 fun _ => ld8 fun _ => ld16 fun _ => st16 fun _ => ld17 fun _ =>
    Safe.ret _

theorem s143 {k0_t2 v2714 v2738 v2786 v2870 v2871 v2873} : Safe (F := F) 𝒱₀ c A (k0_part143 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2714 v2738 v2786 v2870 v2871 v2873) := by
  delta k0_part143; exact
    ld17 fun _ => ld7 fun _ => ld20 fun _ => st20 fun _ => ld19 fun _ => ld16 fun _ => ld8 fun _ => Safe.ret _

theorem s144 {k0_t2 v2756 v2780 v2786 v2906} : Safe (F := F) 𝒱₀ c A (k0_part144 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2756 v2780 v2786 v2906) := by
  delta k0_part144; exact
    ld16 fun _ => st16 fun _ => ld17 fun _ => ld17 fun _ => ld7 fun _ => ld20 fun _ => st20 fun _ => ld19 fun _ =>
    ld16 fun _ => Safe.ret _

end Cert.KernelIdeal.Nsa

end
-- ==== Proof.NsaParts3.lean ====
/-
  Each printed stretch of the attention body runs and hands every buffer back (group 3).
-/
module

public import proofs.«01_k».proof.Proof.Nsa

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s145 {k0_t2 v2786 v2804 v2808 v2930 v2934 v2936 v2938} : Safe (F := F) 𝒱₀ c A (k0_part145 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2786 v2804 v2808 v2930 v2934 v2936 v2938) := by
  delta k0_part145; exact
    ld8 fun _ => ld16 fun _ => st16 fun _ => ld17 fun _ => ld17 fun _ => ld7 fun _ => ld20 fun _ => Safe.ret _

theorem s146 {k0_t2 v2786 v2808 v2963 v2965 v2967 v2968 v2969} : Safe (F := F) 𝒱₀ c A (k0_part146 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2786 v2808 v2963 v2965 v2967 v2968 v2969) := by
  delta k0_part146; exact
    ld16 fun _ => ld8 fun _ => ld16 fun _ => st16 fun _ => ld19 fun _ => st19 fun _ => ld17 fun _ => ld17 fun _ =>
    Safe.ret _

theorem s147 {k0_t2 v2786 v2845 v2849 v2994 v3000 c1_i32_2083} : Safe (F := F) 𝒱₀ c A (k0_part147 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2786 v2845 v2849 v2994 v3000 c1_i32_2083) := by
  delta k0_part147; exact
    ld7 fun _ => ld20 fun _ => ld16 fun _ => ld8 fun _ => ld16 fun _ => st16 fun _ => ld19 fun _ => st19 fun _ =>
    Safe.ret _

theorem s148 {k0_t2 v2786 v2886 v2890 c2_i32_2107} : Safe (F := F) 𝒱₀ c A (k0_part148 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2786 v2886 v2890 c2_i32_2107) := by
  delta k0_part148; exact
    ld17 fun _ => ld17 fun _ => ld7 fun _ => ld20 fun _ => ld16 fun _ => ld8 fun _ => Safe.ret _

theorem s149 {k0_t2 v2786 v2927 v2931 v3047 v3061 v3067} : Safe (F := F) 𝒱₀ c A (k0_part149 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2786 v2927 v2931 v3047 v3061 v3067) := by
  delta k0_part149; exact
    ld16 fun _ => st16 fun _ => ld19 fun _ => st19 fun _ => ld17 fun _ => ld17 fun _ => ld7 fun _ => ld20 fun _ =>
    Safe.ret _

theorem s150 {k0_t2 v2785 v3089 v3093 v3097 v3098} : Safe (F := F) 𝒱₀ c A (k0_part150 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3089 v3093 v3097 v3098) := by
  delta k0_part150; exact
    ld16 fun _ => ld8 fun _ => ld16 fun _ => st16 fun _ => ld19 fun _ => st19 fun _ => ld17 fun _ => ld17 fun _ =>
    Safe.ret _

theorem s151 {k0_t2 v2785 v2968 v2992 v3126} : Safe (F := F) 𝒱₀ c A (k0_part151 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v2968 v2992 v3126) := by
  delta k0_part151; exact
    ld7 fun _ => ld20 fun _ => st20 fun _ => ld19 fun _ => ld16 fun _ => ld8 fun _ => ld16 fun _ => st16 fun _ =>
    Safe.ret _

theorem s152 {k0_t2 v2785 v3010 v3034 v3161 v3162} : Safe (F := F) 𝒱₀ c A (k0_part152 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3010 v3034 v3161 v3162) := by
  delta k0_part152; exact
    ld17 fun _ => ld17 fun _ => ld7 fun _ => ld20 fun _ => st20 fun _ => ld19 fun _ => ld16 fun _ => ld8 fun _ =>
    Safe.ret _

theorem s153 {k0_t2 v2785 v3052 v3076 v3184 v3190 v3194} : Safe (F := F) 𝒱₀ c A (k0_part153 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3052 v3076 v3184 v3190 v3194) := by
  delta k0_part153; exact
    ld16 fun _ => st16 fun _ => ld17 fun _ => ld17 fun _ => ld7 fun _ => ld20 fun _ => st20 fun _ => ld19 fun _ =>
    Safe.ret _

theorem s154 {k0_t2 v2785 v3052 v3221 v3222 v3225} : Safe (F := F) 𝒱₀ c A (k0_part154 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3052 v3221 v3222 v3225) := by
  delta k0_part154; exact
    ld16 fun _ => ld8 fun _ => ld16 fun _ => st16 fun _ => ld17 fun _ => ld17 fun _ => ld7 fun _ => ld20 fun _ =>
    Safe.ret _

theorem s155 {k0_t2 v2785 v3094 v3118 v3254 v3255} : Safe (F := F) 𝒱₀ c A (k0_part155 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3094 v3118 v3254 v3255) := by
  delta k0_part155; exact
    st20 fun _ => ld19 fun _ => ld16 fun _ => ld8 fun _ => ld16 fun _ => st16 fun _ => ld17 fun _ => Safe.ret _

theorem s156 {k0_t2 v2785 v3136 v3140 v3284 v3285 v3287} : Safe (F := F) 𝒱₀ c A (k0_part156 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3136 v3140 v3284 v3285 v3287) := by
  delta k0_part156; exact
    ld17 fun _ => ld7 fun _ => ld20 fun _ => ld16 fun _ => ld8 fun _ => ld16 fun _ => st16 fun _ => ld19 fun _ =>
    Safe.ret _

theorem s157 {k0_t2 v2785 v3177 v3181 v3295 v3322} : Safe (F := F) 𝒱₀ c A (k0_part157 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3177 v3181 v3295 v3322) := by
  delta k0_part157; exact
    st19 fun _ => ld17 fun _ => ld17 fun _ => ld7 fun _ => ld20 fun _ => ld16 fun _ => Safe.ret _

theorem s158 {k0_t2 v2785 v3337 v3345 v3351} : Safe (F := F) 𝒱₀ c A (k0_part158 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3337 v3345 v3351) := by
  delta k0_part158; exact
    ld8 fun _ => ld16 fun _ => st16 fun _ => ld19 fun _ => st19 fun _ => ld17 fun _ => ld17 fun _ => ld7 fun _ => ld20
    fun _ => Safe.ret _

theorem s159 {k0_t2 v2785 v3218 v3222 v3379 v3381 v3383} : Safe (F := F) 𝒱₀ c A (k0_part159 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3218 v3222 v3379 v3381 v3383) := by
  delta k0_part159; exact
    ld16 fun _ => ld8 fun _ => ld16 fun _ => st16 fun _ => ld19 fun _ => st19 fun _ => ld17 fun _ => ld17 fun _ =>
    Safe.ret _

theorem s160 {k0_t2 v2785 v3259 v3263 v3410 v3411 v3413 v3415} : Safe (F := F) 𝒱₀ c A (k0_part160 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2785 v3259 v3263 v3410 v3411 v3413 v3415) := by
  delta k0_part160; exact
    ld7 fun _ => ld20 fun _ => ld16 fun _ => ld8 fun _ => ld16 fun _ => st16 fun _ => ld19 fun _ => st19 fun _ =>
    Safe.ret _

theorem s161 {k0_t2 v2782 v3300 v3324 v3449} : Safe (F := F) 𝒱₀ c A (k0_part161 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2782 v3300 v3324 v3449) := by
  delta k0_part161; exact
    ld17 fun _ => ld17 fun _ => ld7 fun _ => ld20 fun _ => st20 fun _ => ld19 fun _ => Safe.ret _

theorem s162 {k0_t2 v3453 v3474 v3478 v3480} : Safe (F := F) 𝒱₀ c A (k0_part162 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3474 v3478 v3480) := by
  delta k0_part162; exact
    ld16 fun _ => ld8 fun _ => ld16 fun _ => st16 fun _ => ld17 fun _ => ld17 fun _ => ld7 fun _ => ld20 fun _ => st20
    fun _ => Safe.ret _

theorem s163 {k0_t2 v3342 v3366 v3453 v3507} : Safe (F := F) 𝒱₀ c A (k0_part163 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3342 v3366 v3453 v3507) := by
  delta k0_part163; exact
    ld19 fun _ => ld16 fun _ => ld8 fun _ => ld16 fun _ => st16 fun _ => ld17 fun _ => ld17 fun _ => Safe.ret _

theorem s164 {k0_t2 v3384 v3408 v3453 v3537 v3543} : Safe (F := F) 𝒱₀ c A (k0_part164 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3384 v3408 v3453 v3537 v3543) := by
  delta k0_part164; exact
    ld7 fun _ => ld20 fun _ => st20 fun _ => ld19 fun _ => ld16 fun _ => ld8 fun _ => ld16 fun _ => st16 fun _ =>
    Safe.ret _

theorem s165 {k0_t2 v3426 v3450 v3453 v3577} : Safe (F := F) 𝒱₀ c A (k0_part165 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3426 v3450 v3453 v3577) := by
  delta k0_part165; exact
    ld17 fun _ => ld17 fun _ => ld7 fun _ => ld20 fun _ => st20 fun _ => ld19 fun _ => ld16 fun _ => Safe.ret _

theorem s166 {k0_t2 v3453 v3471 v3475 v3601 v3607} : Safe (F := F) 𝒱₀ c A (k0_part166 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3471 v3475 v3601 v3607) := by
  delta k0_part166; exact
    ld8 fun _ => ld16 fun _ => st16 fun _ => ld17 fun _ => ld17 fun _ => ld7 fun _ => ld20 fun _ => Safe.ret _

theorem s167 {k0_t2 v3453 v3630 v3634 v3638 v3640} : Safe (F := F) 𝒱₀ c A (k0_part167 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3630 v3634 v3638 v3640) := by
  delta k0_part167; exact
    ld16 fun _ => ld8 fun _ => ld16 fun _ => st16 fun _ => ld19 fun _ => st19 fun _ => ld17 fun _ => ld17 fun _ => ld7
    fun _ => Safe.ret _

theorem s168 {k0_t2 v3453 v3512 v3516 v3667 v3671} : Safe (F := F) 𝒱₀ c A (k0_part168 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3512 v3516 v3667 v3671) := by
  delta k0_part168; exact
    ld20 fun _ => ld16 fun _ => ld8 fun _ => ld16 fun _ => st16 fun _ => ld19 fun _ => st19 fun _ => Safe.ret _

theorem s169 {k0_t2 v3453 v3553 v3557 v3703 v3704} : Safe (F := F) 𝒱₀ c A (k0_part169 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3553 v3557 v3703 v3704) := by
  delta k0_part169; exact
    ld17 fun _ => ld17 fun _ => ld7 fun _ => ld20 fun _ => ld16 fun _ => ld8 fun _ => ld16 fun _ => Safe.ret _

theorem s170 {k0_t2 v3453 v3594 v3598 v3714 v3735} : Safe (F := F) 𝒱₀ c A (k0_part170 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3453 v3594 v3598 v3714 v3735) := by
  delta k0_part170; exact
    st16 fun _ => ld19 fun _ => st19 fun _ => ld17 fun _ => ld17 fun _ => ld7 fun _ => ld20 fun _ => ld16 fun _ =>
    Safe.ret _

theorem s171 {k0_t2 v3452 v3756 v3760 v3764 v3766 v3768} : Safe (F := F) 𝒱₀ c A (k0_part171 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3756 v3760 v3764 v3766 v3768) := by
  delta k0_part171; exact
    ld8 fun _ => ld16 fun _ => st16 fun _ => ld19 fun _ => st19 fun _ => ld17 fun _ => ld17 fun _ => ld7 fun _ =>
    Safe.ret _

theorem s172 {k0_t2 v3452 v3635 v3659 v3798} : Safe (F := F) 𝒱₀ c A (k0_part172 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3635 v3659 v3798) := by
  delta k0_part172; exact
    ld20 fun _ => st20 fun _ => ld19 fun _ => ld16 fun _ => ld8 fun _ => ld16 fun _ => st16 fun _ => ld17 fun _ =>
    Safe.ret _

theorem s173 {k0_t2 v3452 v3677 v3701 v3828 v3829 v3831} : Safe (F := F) 𝒱₀ c A (k0_part173 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3677 v3701 v3828 v3829 v3831) := by
  delta k0_part173; exact
    ld17 fun _ => ld7 fun _ => ld20 fun _ => st20 fun _ => ld19 fun _ => ld16 fun _ => ld8 fun _ => Safe.ret _

theorem s174 {k0_t2 v3452 v3719 v3743 v3864} : Safe (F := F) 𝒱₀ c A (k0_part174 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3719 v3743 v3864) := by
  delta k0_part174; exact
    ld16 fun _ => st16 fun _ => ld17 fun _ => ld17 fun _ => ld7 fun _ => ld20 fun _ => st20 fun _ => ld19 fun _ =>
    ld16 fun _ => Safe.ret _

theorem s175 {k0_t2 v3452 v3888 v3892 v3894 v3895} : Safe (F := F) 𝒱₀ c A (k0_part175 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3888 v3892 v3894 v3895) := by
  delta k0_part175; exact
    ld8 fun _ => ld16 fun _ => st16 fun _ => ld17 fun _ => ld17 fun _ => ld7 fun _ => ld20 fun _ => st20 fun _ =>
    Safe.ret _

theorem s176 {k0_t2 v3452 v3761 v3785} : Safe (F := F) 𝒱₀ c A (k0_part176 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3761 v3785) := by
  delta k0_part176; exact
    ld19 fun _ => ld16 fun _ => ld8 fun _ => ld16 fun _ => st16 fun _ => ld17 fun _ => ld17 fun _ => Safe.ret _

theorem s177 {k0_t2 v3452 v3803 v3807 v3957 v3958} : Safe (F := F) 𝒱₀ c A (k0_part177 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3803 v3807 v3957 v3958) := by
  delta k0_part177; exact
    ld7 fun _ => ld20 fun _ => ld16 fun _ => ld8 fun _ => ld16 fun _ => st16 fun _ => ld19 fun _ => st19 fun _ =>
    Safe.ret _

theorem s178 {k0_t2 v3452 v3844 v3848 v3992} : Safe (F := F) 𝒱₀ c A (k0_part178 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3844 v3848 v3992) := by
  delta k0_part178; exact
    ld17 fun _ => ld17 fun _ => ld7 fun _ => ld20 fun _ => ld16 fun _ => ld8 fun _ => Safe.ret _

theorem s179 {k0_t2 v3452 v3885 v3889 v4004 v4025} : Safe (F := F) 𝒱₀ c A (k0_part179 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v3885 v3889 v4004 v4025) := by
  delta k0_part179; exact
    ld16 fun _ => st16 fun _ => ld19 fun _ => st19 fun _ => ld17 fun _ => ld17 fun _ => ld7 fun _ => ld20 fun _ =>
    Safe.ret _

theorem s180 {k0_t2 v3452 v4046 v4050 v4054 v4056} : Safe (F := F) 𝒱₀ c A (k0_part180 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v3452 v4046 v4050 v4054 v4056) := by
  delta k0_part180; exact
    ld16 fun _ => ld8 fun _ => ld16 fun _ => st16 fun _ => ld19 fun _ => st19 fun _ => ld17 fun _ => ld17 fun _ =>
    Safe.ret _

theorem s183 {v637 c1_i32_297 k0_t3 arg24 arg28} : Safe (F := F) 𝒱₀ c A (k0_part183 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v637 c1_i32_297 k0_t3 arg24 arg28) := by
  delta k0_part183; exact
    ld17 fun _ => ld17 fun _ => ld7 fun _ => ld20 fun _ => st20 fun _ => ld19 fun _ => Safe.ret _

theorem s184 {k0_t3 arg24 v1446 v1466 v1467 v1468 v1469} : Safe (F := F) 𝒱₀ c A (k0_part184 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 arg24 v1446 v1466 v1467 v1468 v1469) := by
  delta k0_part184; exact
    ld16 fun _ => ld8 fun _ => ld16 fun _ => st16 fun _ => ld17 fun _ => ld17 fun _ => ld7 fun _ => Safe.ret _

theorem s185 {k0_t3 arg25 arg29 v1446 v1500} : Safe (F := F) 𝒱₀ c A (k0_part185 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 arg25 arg29 v1446 v1500) := by
  delta k0_part185; exact
    ld20 fun _ => st20 fun _ => ld19 fun _ => ld16 fun _ => ld8 fun _ => ld16 fun _ => st16 fun _ => ld17 fun _ =>
    Safe.ret _

theorem s186 {k0_t3 arg26 arg30 v1446 v1530 v1531 v1533} : Safe (F := F) 𝒱₀ c A (k0_part186 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 arg26 arg30 v1446 v1530 v1531 v1533) := by
  delta k0_part186; exact
    ld17 fun _ => ld7 fun _ => ld20 fun _ => st20 fun _ => ld19 fun _ => ld16 fun _ => ld8 fun _ => Safe.ret _

theorem s187 {k0_t3 arg27 arg31 v1446 v1566} : Safe (F := F) 𝒱₀ c A (k0_part187 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 arg27 arg31 v1446 v1566) := by
  delta k0_part187; exact
    ld16 fun _ => st16 fun _ => ld17 fun _ => ld17 fun _ => ld7 fun _ => ld20 fun _ => st20 fun _ => ld19 fun _ =>
    ld16 fun _ => Safe.ret _

theorem s188 {k0_t3 v1446 v1464 v1468 v1590 v1594 v1596 v1598} : Safe (F := F) 𝒱₀ c A (k0_part188 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1446 v1464 v1468 v1590 v1594 v1596 v1598) := by
  delta k0_part188; exact
    ld8 fun _ => ld16 fun _ => st16 fun _ => ld17 fun _ => ld17 fun _ => ld7 fun _ => ld20 fun _ => Safe.ret _

theorem s189 {k0_t3 v1446 v1468 v1623 v1625 v1627 v1628 v1629} : Safe (F := F) 𝒱₀ c A (k0_part189 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1446 v1468 v1623 v1625 v1627 v1628 v1629) := by
  delta k0_part189; exact
    ld16 fun _ => ld8 fun _ => ld16 fun _ => st16 fun _ => ld19 fun _ => st19 fun _ => ld17 fun _ => ld17 fun _ =>
    Safe.ret _

theorem s190 {k0_t3 v1446 v1505 v1509 v1654 v1660 c1_i32_967} : Safe (F := F) 𝒱₀ c A (k0_part190 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1446 v1505 v1509 v1654 v1660 c1_i32_967) := by
  delta k0_part190; exact
    ld7 fun _ => ld20 fun _ => ld16 fun _ => ld8 fun _ => ld16 fun _ => st16 fun _ => ld19 fun _ => st19 fun _ =>
    Safe.ret _

theorem s191 {k0_t3 v1446 v1546 v1550 c2_i32_991} : Safe (F := F) 𝒱₀ c A (k0_part191 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1446 v1546 v1550 c2_i32_991) := by
  delta k0_part191; exact
    ld17 fun _ => ld17 fun _ => ld7 fun _ => ld20 fun _ => ld16 fun _ => ld8 fun _ => Safe.ret _

theorem s192 {k0_t3 v1446 v1587 v1591 v1707 v1721 v1727} : Safe (F := F) 𝒱₀ c A (k0_part192 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1446 v1587 v1591 v1707 v1721 v1727) := by
  delta k0_part192; exact
    ld16 fun _ => st16 fun _ => ld19 fun _ => st19 fun _ => ld17 fun _ => ld17 fun _ => ld7 fun _ => ld20 fun _ =>
    Safe.ret _

theorem s193 {k0_t3 v1445 v1749 v1753 v1757 v1758} : Safe (F := F) 𝒱₀ c A (k0_part193 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1749 v1753 v1757 v1758) := by
  delta k0_part193; exact
    ld16 fun _ => ld8 fun _ => ld16 fun _ => st16 fun _ => ld19 fun _ => st19 fun _ => ld17 fun _ => ld17 fun _ =>
    Safe.ret _

theorem s194 {k0_t3 v1445 v1628 v1652 v1786} : Safe (F := F) 𝒱₀ c A (k0_part194 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1628 v1652 v1786) := by
  delta k0_part194; exact
    ld7 fun _ => ld20 fun _ => st20 fun _ => ld19 fun _ => ld16 fun _ => ld8 fun _ => ld16 fun _ => st16 fun _ =>
    Safe.ret _

theorem s195 {k0_t3 v1445 v1670 v1694 v1821 v1822} : Safe (F := F) 𝒱₀ c A (k0_part195 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1670 v1694 v1821 v1822) := by
  delta k0_part195; exact
    ld17 fun _ => ld17 fun _ => ld7 fun _ => ld20 fun _ => st20 fun _ => ld19 fun _ => ld16 fun _ => ld8 fun _ =>
    Safe.ret _

theorem s196 {k0_t3 v1445 v1712 v1736 v1844 v1850 v1854} : Safe (F := F) 𝒱₀ c A (k0_part196 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1712 v1736 v1844 v1850 v1854) := by
  delta k0_part196; exact
    ld16 fun _ => st16 fun _ => ld17 fun _ => ld17 fun _ => ld7 fun _ => ld20 fun _ => st20 fun _ => ld19 fun _ =>
    Safe.ret _

theorem s197 {k0_t3 v1445 v1712 v1881 v1882 v1885} : Safe (F := F) 𝒱₀ c A (k0_part197 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1712 v1881 v1882 v1885) := by
  delta k0_part197; exact
    ld16 fun _ => ld8 fun _ => ld16 fun _ => st16 fun _ => ld17 fun _ => ld17 fun _ => ld7 fun _ => ld20 fun _ =>
    Safe.ret _

theorem s198 {k0_t3 v1445 v1754 v1778 v1914 v1915} : Safe (F := F) 𝒱₀ c A (k0_part198 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1754 v1778 v1914 v1915) := by
  delta k0_part198; exact
    st20 fun _ => ld19 fun _ => ld16 fun _ => ld8 fun _ => ld16 fun _ => st16 fun _ => ld17 fun _ => Safe.ret _

theorem s199 {k0_t3 v1445 v1796 v1800 v1944 v1945 v1947} : Safe (F := F) 𝒱₀ c A (k0_part199 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1796 v1800 v1944 v1945 v1947) := by
  delta k0_part199; exact
    ld17 fun _ => ld7 fun _ => ld20 fun _ => ld16 fun _ => ld8 fun _ => ld16 fun _ => st16 fun _ => ld19 fun _ =>
    Safe.ret _

theorem s200 {k0_t3 v1445 v1837 v1841 v1955 v1982} : Safe (F := F) 𝒱₀ c A (k0_part200 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1837 v1841 v1955 v1982) := by
  delta k0_part200; exact
    st19 fun _ => ld17 fun _ => ld17 fun _ => ld7 fun _ => ld20 fun _ => ld16 fun _ => Safe.ret _

theorem s201 {k0_t3 v1445 v1997 v2005 v2011} : Safe (F := F) 𝒱₀ c A (k0_part201 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1997 v2005 v2011) := by
  delta k0_part201; exact
    ld8 fun _ => ld16 fun _ => st16 fun _ => ld19 fun _ => st19 fun _ => ld17 fun _ => ld17 fun _ => ld7 fun _ => ld20
    fun _ => Safe.ret _

theorem s202 {k0_t3 v1445 v1878 v1882 v2039 v2041 v2043} : Safe (F := F) 𝒱₀ c A (k0_part202 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1878 v1882 v2039 v2041 v2043) := by
  delta k0_part202; exact
    ld16 fun _ => ld8 fun _ => ld16 fun _ => st16 fun _ => ld19 fun _ => st19 fun _ => ld17 fun _ => ld17 fun _ =>
    Safe.ret _

theorem s203 {k0_t3 v1445 v1919 v1923 v2070 v2071 v2073 v2075} : Safe (F := F) 𝒱₀ c A (k0_part203 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1445 v1919 v1923 v2070 v2071 v2073 v2075) := by
  delta k0_part203; exact
    ld7 fun _ => ld20 fun _ => ld16 fun _ => ld8 fun _ => ld16 fun _ => st16 fun _ => ld19 fun _ => st19 fun _ =>
    Safe.ret _

theorem s204 {k0_t3 v1442 v1960 v1984 v2109} : Safe (F := F) 𝒱₀ c A (k0_part204 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v1442 v1960 v1984 v2109) := by
  delta k0_part204; exact
    ld17 fun _ => ld17 fun _ => ld7 fun _ => ld20 fun _ => st20 fun _ => ld19 fun _ => Safe.ret _

theorem s205 {k0_t3 v2113 v2134 v2138 v2140} : Safe (F := F) 𝒱₀ c A (k0_part205 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2134 v2138 v2140) := by
  delta k0_part205; exact
    ld16 fun _ => ld8 fun _ => ld16 fun _ => st16 fun _ => ld17 fun _ => ld17 fun _ => ld7 fun _ => ld20 fun _ => st20
    fun _ => Safe.ret _

theorem s206 {k0_t3 v2002 v2026 v2113 v2167} : Safe (F := F) 𝒱₀ c A (k0_part206 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2002 v2026 v2113 v2167) := by
  delta k0_part206; exact
    ld19 fun _ => ld16 fun _ => ld8 fun _ => ld16 fun _ => st16 fun _ => ld17 fun _ => ld17 fun _ => Safe.ret _

theorem s207 {k0_t3 v2044 v2068 v2113 v2197 v2203} : Safe (F := F) 𝒱₀ c A (k0_part207 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2044 v2068 v2113 v2197 v2203) := by
  delta k0_part207; exact
    ld7 fun _ => ld20 fun _ => st20 fun _ => ld19 fun _ => ld16 fun _ => ld8 fun _ => ld16 fun _ => st16 fun _ =>
    Safe.ret _

theorem s208 {k0_t3 v2086 v2110 v2113 v2237} : Safe (F := F) 𝒱₀ c A (k0_part208 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2086 v2110 v2113 v2237) := by
  delta k0_part208; exact
    ld17 fun _ => ld17 fun _ => ld7 fun _ => ld20 fun _ => st20 fun _ => ld19 fun _ => ld16 fun _ => Safe.ret _

theorem s209 {k0_t3 v2113 v2131 v2135 v2261 v2267} : Safe (F := F) 𝒱₀ c A (k0_part209 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2131 v2135 v2261 v2267) := by
  delta k0_part209; exact
    ld8 fun _ => ld16 fun _ => st16 fun _ => ld17 fun _ => ld17 fun _ => ld7 fun _ => ld20 fun _ => Safe.ret _

theorem s210 {k0_t3 v2113 v2290 v2294 v2298 v2300} : Safe (F := F) 𝒱₀ c A (k0_part210 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2290 v2294 v2298 v2300) := by
  delta k0_part210; exact
    ld16 fun _ => ld8 fun _ => ld16 fun _ => st16 fun _ => ld19 fun _ => st19 fun _ => ld17 fun _ => ld17 fun _ => ld7
    fun _ => Safe.ret _

theorem s211 {k0_t3 v2113 v2172 v2176 v2327 v2331} : Safe (F := F) 𝒱₀ c A (k0_part211 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2172 v2176 v2327 v2331) := by
  delta k0_part211; exact
    ld20 fun _ => ld16 fun _ => ld8 fun _ => ld16 fun _ => st16 fun _ => ld19 fun _ => st19 fun _ => Safe.ret _

theorem s212 {k0_t3 v2113 v2213 v2217 v2363 v2364} : Safe (F := F) 𝒱₀ c A (k0_part212 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2213 v2217 v2363 v2364) := by
  delta k0_part212; exact
    ld17 fun _ => ld17 fun _ => ld7 fun _ => ld20 fun _ => ld16 fun _ => ld8 fun _ => ld16 fun _ => Safe.ret _

theorem s213 {k0_t3 v2113 v2254 v2258 v2374 v2395} : Safe (F := F) 𝒱₀ c A (k0_part213 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2113 v2254 v2258 v2374 v2395) := by
  delta k0_part213; exact
    st16 fun _ => ld19 fun _ => st19 fun _ => ld17 fun _ => ld17 fun _ => ld7 fun _ => ld20 fun _ => ld16 fun _ =>
    Safe.ret _

theorem s214 {k0_t3 v2112 v2416 v2420 v2424 v2426 v2428} : Safe (F := F) 𝒱₀ c A (k0_part214 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2416 v2420 v2424 v2426 v2428) := by
  delta k0_part214; exact
    ld8 fun _ => ld16 fun _ => st16 fun _ => ld19 fun _ => st19 fun _ => ld17 fun _ => ld17 fun _ => ld7 fun _ =>
    Safe.ret _

theorem s215 {k0_t3 v2112 v2295 v2319 v2458} : Safe (F := F) 𝒱₀ c A (k0_part215 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2295 v2319 v2458) := by
  delta k0_part215; exact
    ld20 fun _ => st20 fun _ => ld19 fun _ => ld16 fun _ => ld8 fun _ => ld16 fun _ => st16 fun _ => ld17 fun _ =>
    Safe.ret _

theorem s216 {k0_t3 v2112 v2337 v2361 v2488 v2489 v2491} : Safe (F := F) 𝒱₀ c A (k0_part216 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2337 v2361 v2488 v2489 v2491) := by
  delta k0_part216; exact
    ld17 fun _ => ld7 fun _ => ld20 fun _ => st20 fun _ => ld19 fun _ => ld16 fun _ => ld8 fun _ => Safe.ret _

theorem s217 {k0_t3 v2112 v2379 v2403 v2524} : Safe (F := F) 𝒱₀ c A (k0_part217 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2379 v2403 v2524) := by
  delta k0_part217; exact
    ld16 fun _ => st16 fun _ => ld17 fun _ => ld17 fun _ => ld7 fun _ => ld20 fun _ => st20 fun _ => ld19 fun _ =>
    ld16 fun _ => Safe.ret _

end Cert.KernelIdeal.Nsa

end
-- ==== Proof.NsaParts4.lean ====
/-
  Each printed stretch of the attention body runs and hands every buffer back (group 4).
-/
module

public import proofs.«01_k».proof.Proof.Nsa

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s218 {k0_t3 v2112 v2548 v2552 v2554 v2555} : Safe (F := F) 𝒱₀ c A (k0_part218 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2548 v2552 v2554 v2555) := by
  delta k0_part218; exact
    ld8 fun _ => ld16 fun _ => st16 fun _ => ld17 fun _ => ld17 fun _ => ld7 fun _ => ld20 fun _ => st20 fun _ =>
    Safe.ret _

theorem s219 {k0_t3 v2112 v2421 v2445} : Safe (F := F) 𝒱₀ c A (k0_part219 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2421 v2445) := by
  delta k0_part219; exact
    ld19 fun _ => ld16 fun _ => ld8 fun _ => ld16 fun _ => st16 fun _ => ld17 fun _ => ld17 fun _ => Safe.ret _

theorem s220 {k0_t3 v2112 v2463 v2467 v2617 v2618} : Safe (F := F) 𝒱₀ c A (k0_part220 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2463 v2467 v2617 v2618) := by
  delta k0_part220; exact
    ld7 fun _ => ld20 fun _ => ld16 fun _ => ld8 fun _ => ld16 fun _ => st16 fun _ => ld19 fun _ => st19 fun _ =>
    Safe.ret _

theorem s221 {k0_t3 v2112 v2504 v2508 v2652} : Safe (F := F) 𝒱₀ c A (k0_part221 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2504 v2508 v2652) := by
  delta k0_part221; exact
    ld17 fun _ => ld17 fun _ => ld7 fun _ => ld20 fun _ => ld16 fun _ => ld8 fun _ => Safe.ret _

theorem s222 {k0_t3 v2112 v2545 v2549 v2664 v2685} : Safe (F := F) 𝒱₀ c A (k0_part222 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2545 v2549 v2664 v2685) := by
  delta k0_part222; exact
    ld16 fun _ => st16 fun _ => ld19 fun _ => st19 fun _ => ld17 fun _ => ld17 fun _ => ld7 fun _ => ld20 fun _ =>
    Safe.ret _

theorem s223 {k0_t3 v2112 v2706 v2710 v2714 v2716} : Safe (F := F) 𝒱₀ c A (k0_part223 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t3 v2112 v2706 v2710 v2714 v2716) := by
  delta k0_part223; exact
    ld16 fun _ => ld8 fun _ => ld16 fun _ => st16 fun _ => ld19 fun _ => st19 fun _ => ld17 fun _ => ld17 fun _ =>
    Safe.ret _

theorem s225 {v659 c1_i32_298 k0_t4 arg24 arg28} : Safe (F := F) 𝒱₀ c A (k0_part225 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v659 c1_i32_298 k0_t4 arg24 arg28) := by
  delta k0_part225; exact
    ld17 fun _ => ld17 fun _ => ld7 fun _ => ld20 fun _ => st20 fun _ => ld19 fun _ => Safe.ret _

theorem s226 {k0_t4 arg24 v1446 v1466 v1467 v1468 v1469} : Safe (F := F) 𝒱₀ c A (k0_part226 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 arg24 v1446 v1466 v1467 v1468 v1469) := by
  delta k0_part226; exact
    ld16 fun _ => ld8 fun _ => ld16 fun _ => st16 fun _ => ld17 fun _ => ld17 fun _ => ld7 fun _ => Safe.ret _

theorem s227 {k0_t4 arg25 arg29 v1446 v1500} : Safe (F := F) 𝒱₀ c A (k0_part227 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 arg25 arg29 v1446 v1500) := by
  delta k0_part227; exact
    ld20 fun _ => st20 fun _ => ld19 fun _ => ld16 fun _ => ld8 fun _ => ld16 fun _ => st16 fun _ => ld17 fun _ =>
    Safe.ret _

theorem s228 {k0_t4 arg26 arg30 v1446 v1530 v1531 v1533} : Safe (F := F) 𝒱₀ c A (k0_part228 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 arg26 arg30 v1446 v1530 v1531 v1533) := by
  delta k0_part228; exact
    ld17 fun _ => ld7 fun _ => ld20 fun _ => st20 fun _ => ld19 fun _ => ld16 fun _ => ld8 fun _ => Safe.ret _

theorem s229 {k0_t4 arg27 arg31 v1446 v1566} : Safe (F := F) 𝒱₀ c A (k0_part229 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 arg27 arg31 v1446 v1566) := by
  delta k0_part229; exact
    ld16 fun _ => st16 fun _ => ld17 fun _ => ld17 fun _ => ld7 fun _ => ld20 fun _ => st20 fun _ => ld19 fun _ =>
    ld16 fun _ => Safe.ret _

theorem s230 {k0_t4 v1446 v1464 v1468 v1590 v1594 v1596 v1598} : Safe (F := F) 𝒱₀ c A (k0_part230 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1446 v1464 v1468 v1590 v1594 v1596 v1598) := by
  delta k0_part230; exact
    ld8 fun _ => ld16 fun _ => st16 fun _ => ld17 fun _ => ld17 fun _ => ld7 fun _ => ld20 fun _ => Safe.ret _

theorem s231 {k0_t4 v1446 v1468 v1623 v1625 v1627 v1628 v1629} : Safe (F := F) 𝒱₀ c A (k0_part231 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1446 v1468 v1623 v1625 v1627 v1628 v1629) := by
  delta k0_part231; exact
    ld16 fun _ => ld8 fun _ => ld16 fun _ => st16 fun _ => ld19 fun _ => st19 fun _ => ld17 fun _ => ld17 fun _ =>
    Safe.ret _

theorem s232 {k0_t4 v1446 v1505 v1509 v1654 v1660 c1_i32_967} : Safe (F := F) 𝒱₀ c A (k0_part232 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1446 v1505 v1509 v1654 v1660 c1_i32_967) := by
  delta k0_part232; exact
    ld7 fun _ => ld20 fun _ => ld16 fun _ => ld8 fun _ => ld16 fun _ => st16 fun _ => ld19 fun _ => st19 fun _ =>
    Safe.ret _

theorem s233 {k0_t4 v1446 v1546 v1550 c2_i32_991} : Safe (F := F) 𝒱₀ c A (k0_part233 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1446 v1546 v1550 c2_i32_991) := by
  delta k0_part233; exact
    ld17 fun _ => ld17 fun _ => ld7 fun _ => ld20 fun _ => ld16 fun _ => ld8 fun _ => Safe.ret _

theorem s234 {k0_t4 v1446 v1587 v1591 v1707 v1721 v1727} : Safe (F := F) 𝒱₀ c A (k0_part234 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1446 v1587 v1591 v1707 v1721 v1727) := by
  delta k0_part234; exact
    ld16 fun _ => st16 fun _ => ld19 fun _ => st19 fun _ => ld17 fun _ => ld17 fun _ => ld7 fun _ => ld20 fun _ =>
    Safe.ret _

theorem s235 {k0_t4 v1445 v1749 v1753 v1757 v1758} : Safe (F := F) 𝒱₀ c A (k0_part235 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1749 v1753 v1757 v1758) := by
  delta k0_part235; exact
    ld16 fun _ => ld8 fun _ => ld16 fun _ => st16 fun _ => ld19 fun _ => st19 fun _ => ld17 fun _ => ld17 fun _ =>
    Safe.ret _

theorem s236 {k0_t4 v1445 v1628 v1652 v1786} : Safe (F := F) 𝒱₀ c A (k0_part236 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1628 v1652 v1786) := by
  delta k0_part236; exact
    ld7 fun _ => ld20 fun _ => st20 fun _ => ld19 fun _ => ld16 fun _ => ld8 fun _ => ld16 fun _ => st16 fun _ =>
    Safe.ret _

theorem s237 {k0_t4 v1445 v1670 v1694 v1821 v1822} : Safe (F := F) 𝒱₀ c A (k0_part237 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1670 v1694 v1821 v1822) := by
  delta k0_part237; exact
    ld17 fun _ => ld17 fun _ => ld7 fun _ => ld20 fun _ => st20 fun _ => ld19 fun _ => ld16 fun _ => ld8 fun _ =>
    Safe.ret _

theorem s238 {k0_t4 v1445 v1712 v1736 v1844 v1850 v1854} : Safe (F := F) 𝒱₀ c A (k0_part238 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1712 v1736 v1844 v1850 v1854) := by
  delta k0_part238; exact
    ld16 fun _ => st16 fun _ => ld17 fun _ => ld17 fun _ => ld7 fun _ => ld20 fun _ => st20 fun _ => ld19 fun _ =>
    Safe.ret _

theorem s239 {k0_t4 v1445 v1712 v1881 v1882 v1885} : Safe (F := F) 𝒱₀ c A (k0_part239 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1712 v1881 v1882 v1885) := by
  delta k0_part239; exact
    ld16 fun _ => ld8 fun _ => ld16 fun _ => st16 fun _ => ld17 fun _ => ld17 fun _ => ld7 fun _ => ld20 fun _ =>
    Safe.ret _

theorem s240 {k0_t4 v1445 v1754 v1778 v1914 v1915} : Safe (F := F) 𝒱₀ c A (k0_part240 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1754 v1778 v1914 v1915) := by
  delta k0_part240; exact
    st20 fun _ => ld19 fun _ => ld16 fun _ => ld8 fun _ => ld16 fun _ => st16 fun _ => ld17 fun _ => Safe.ret _

theorem s241 {k0_t4 v1445 v1796 v1800 v1944 v1945 v1947} : Safe (F := F) 𝒱₀ c A (k0_part241 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1796 v1800 v1944 v1945 v1947) := by
  delta k0_part241; exact
    ld17 fun _ => ld7 fun _ => ld20 fun _ => ld16 fun _ => ld8 fun _ => ld16 fun _ => st16 fun _ => ld19 fun _ =>
    Safe.ret _

theorem s242 {k0_t4 v1445 v1837 v1841 v1955 v1982} : Safe (F := F) 𝒱₀ c A (k0_part242 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1837 v1841 v1955 v1982) := by
  delta k0_part242; exact
    st19 fun _ => ld17 fun _ => ld17 fun _ => ld7 fun _ => ld20 fun _ => ld16 fun _ => Safe.ret _

theorem s243 {k0_t4 v1445 v1997 v2005 v2011} : Safe (F := F) 𝒱₀ c A (k0_part243 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1997 v2005 v2011) := by
  delta k0_part243; exact
    ld8 fun _ => ld16 fun _ => st16 fun _ => ld19 fun _ => st19 fun _ => ld17 fun _ => ld17 fun _ => ld7 fun _ => ld20
    fun _ => Safe.ret _

theorem s244 {k0_t4 v1445 v1878 v1882 v2039 v2041 v2043} : Safe (F := F) 𝒱₀ c A (k0_part244 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1878 v1882 v2039 v2041 v2043) := by
  delta k0_part244; exact
    ld16 fun _ => ld8 fun _ => ld16 fun _ => st16 fun _ => ld19 fun _ => st19 fun _ => ld17 fun _ => ld17 fun _ =>
    Safe.ret _

theorem s245 {k0_t4 v1445 v1919 v1923 v2070 v2071 v2073 v2075} : Safe (F := F) 𝒱₀ c A (k0_part245 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1445 v1919 v1923 v2070 v2071 v2073 v2075) := by
  delta k0_part245; exact
    ld7 fun _ => ld20 fun _ => ld16 fun _ => ld8 fun _ => ld16 fun _ => st16 fun _ => ld19 fun _ => st19 fun _ =>
    Safe.ret _

theorem s246 {k0_t4 v1442 v1960 v1984 v2109} : Safe (F := F) 𝒱₀ c A (k0_part246 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v1442 v1960 v1984 v2109) := by
  delta k0_part246; exact
    ld17 fun _ => ld17 fun _ => ld7 fun _ => ld20 fun _ => st20 fun _ => ld19 fun _ => Safe.ret _

theorem s247 {k0_t4 v2113 v2134 v2138 v2140} : Safe (F := F) 𝒱₀ c A (k0_part247 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2134 v2138 v2140) := by
  delta k0_part247; exact
    ld16 fun _ => ld8 fun _ => ld16 fun _ => st16 fun _ => ld17 fun _ => ld17 fun _ => ld7 fun _ => ld20 fun _ => st20
    fun _ => Safe.ret _

theorem s248 {k0_t4 v2002 v2026 v2113 v2167} : Safe (F := F) 𝒱₀ c A (k0_part248 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2002 v2026 v2113 v2167) := by
  delta k0_part248; exact
    ld19 fun _ => ld16 fun _ => ld8 fun _ => ld16 fun _ => st16 fun _ => ld17 fun _ => ld17 fun _ => Safe.ret _

theorem s249 {k0_t4 v2044 v2068 v2113 v2197 v2203} : Safe (F := F) 𝒱₀ c A (k0_part249 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2044 v2068 v2113 v2197 v2203) := by
  delta k0_part249; exact
    ld7 fun _ => ld20 fun _ => st20 fun _ => ld19 fun _ => ld16 fun _ => ld8 fun _ => ld16 fun _ => st16 fun _ =>
    Safe.ret _

theorem s250 {k0_t4 v2086 v2110 v2113 v2237} : Safe (F := F) 𝒱₀ c A (k0_part250 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2086 v2110 v2113 v2237) := by
  delta k0_part250; exact
    ld17 fun _ => ld17 fun _ => ld7 fun _ => ld20 fun _ => st20 fun _ => ld19 fun _ => ld16 fun _ => Safe.ret _

theorem s251 {k0_t4 v2113 v2131 v2135 v2261 v2267} : Safe (F := F) 𝒱₀ c A (k0_part251 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2131 v2135 v2261 v2267) := by
  delta k0_part251; exact
    ld8 fun _ => ld16 fun _ => st16 fun _ => ld17 fun _ => ld17 fun _ => ld7 fun _ => ld20 fun _ => Safe.ret _

theorem s252 {k0_t4 v2113 v2290 v2294 v2298 v2300} : Safe (F := F) 𝒱₀ c A (k0_part252 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2290 v2294 v2298 v2300) := by
  delta k0_part252; exact
    ld16 fun _ => ld8 fun _ => ld16 fun _ => st16 fun _ => ld19 fun _ => st19 fun _ => ld17 fun _ => ld17 fun _ => ld7
    fun _ => Safe.ret _

theorem s253 {k0_t4 v2113 v2172 v2176 v2327 v2331} : Safe (F := F) 𝒱₀ c A (k0_part253 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2172 v2176 v2327 v2331) := by
  delta k0_part253; exact
    ld20 fun _ => ld16 fun _ => ld8 fun _ => ld16 fun _ => st16 fun _ => ld19 fun _ => st19 fun _ => Safe.ret _

theorem s254 {k0_t4 v2113 v2213 v2217 v2363 v2364} : Safe (F := F) 𝒱₀ c A (k0_part254 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2213 v2217 v2363 v2364) := by
  delta k0_part254; exact
    ld17 fun _ => ld17 fun _ => ld7 fun _ => ld20 fun _ => ld16 fun _ => ld8 fun _ => ld16 fun _ => Safe.ret _

theorem s255 {k0_t4 v2113 v2254 v2258 v2374 v2395} : Safe (F := F) 𝒱₀ c A (k0_part255 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2113 v2254 v2258 v2374 v2395) := by
  delta k0_part255; exact
    st16 fun _ => ld19 fun _ => st19 fun _ => ld17 fun _ => ld17 fun _ => ld7 fun _ => ld20 fun _ => ld16 fun _ =>
    Safe.ret _

theorem s256 {k0_t4 v2112 v2416 v2420 v2424 v2426 v2428} : Safe (F := F) 𝒱₀ c A (k0_part256 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2416 v2420 v2424 v2426 v2428) := by
  delta k0_part256; exact
    ld8 fun _ => ld16 fun _ => st16 fun _ => ld19 fun _ => st19 fun _ => ld17 fun _ => ld17 fun _ => ld7 fun _ =>
    Safe.ret _

theorem s257 {k0_t4 v2112 v2295 v2319 v2458} : Safe (F := F) 𝒱₀ c A (k0_part257 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2295 v2319 v2458) := by
  delta k0_part257; exact
    ld20 fun _ => st20 fun _ => ld19 fun _ => ld16 fun _ => ld8 fun _ => ld16 fun _ => st16 fun _ => ld17 fun _ =>
    Safe.ret _

theorem s258 {k0_t4 v2112 v2337 v2361 v2488 v2489 v2491} : Safe (F := F) 𝒱₀ c A (k0_part258 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2337 v2361 v2488 v2489 v2491) := by
  delta k0_part258; exact
    ld17 fun _ => ld7 fun _ => ld20 fun _ => st20 fun _ => ld19 fun _ => ld16 fun _ => ld8 fun _ => Safe.ret _

theorem s259 {k0_t4 v2112 v2379 v2403 v2524} : Safe (F := F) 𝒱₀ c A (k0_part259 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2379 v2403 v2524) := by
  delta k0_part259; exact
    ld16 fun _ => st16 fun _ => ld17 fun _ => ld17 fun _ => ld7 fun _ => ld20 fun _ => st20 fun _ => ld19 fun _ =>
    ld16 fun _ => Safe.ret _

theorem s260 {k0_t4 v2112 v2548 v2552 v2554 v2555} : Safe (F := F) 𝒱₀ c A (k0_part260 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2548 v2552 v2554 v2555) := by
  delta k0_part260; exact
    ld8 fun _ => ld16 fun _ => st16 fun _ => ld17 fun _ => ld17 fun _ => ld7 fun _ => ld20 fun _ => st20 fun _ =>
    Safe.ret _

theorem s261 {k0_t4 v2112 v2421 v2445} : Safe (F := F) 𝒱₀ c A (k0_part261 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2421 v2445) := by
  delta k0_part261; exact
    ld19 fun _ => ld16 fun _ => ld8 fun _ => ld16 fun _ => st16 fun _ => ld17 fun _ => ld17 fun _ => Safe.ret _

theorem s262 {k0_t4 v2112 v2463 v2467 v2617 v2618} : Safe (F := F) 𝒱₀ c A (k0_part262 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2463 v2467 v2617 v2618) := by
  delta k0_part262; exact
    ld7 fun _ => ld20 fun _ => ld16 fun _ => ld8 fun _ => ld16 fun _ => st16 fun _ => ld19 fun _ => st19 fun _ =>
    Safe.ret _

theorem s263 {k0_t4 v2112 v2504 v2508 v2652} : Safe (F := F) 𝒱₀ c A (k0_part263 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2504 v2508 v2652) := by
  delta k0_part263; exact
    ld17 fun _ => ld17 fun _ => ld7 fun _ => ld20 fun _ => ld16 fun _ => ld8 fun _ => Safe.ret _

theorem s264 {k0_t4 v2112 v2545 v2549 v2664 v2685} : Safe (F := F) 𝒱₀ c A (k0_part264 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2545 v2549 v2664 v2685) := by
  delta k0_part264; exact
    ld16 fun _ => st16 fun _ => ld19 fun _ => st19 fun _ => ld17 fun _ => ld17 fun _ => ld7 fun _ => ld20 fun _ =>
    Safe.ret _

theorem s265 {k0_t4 v2112 v2706 v2710 v2714 v2716} : Safe (F := F) 𝒱₀ c A (k0_part265 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t4 v2112 v2706 v2710 v2714 v2716) := by
  delta k0_part265; exact
    ld16 fun _ => ld8 fun _ => ld16 fun _ => st16 fun _ => ld19 fun _ => st19 fun _ => ld17 fun _ => ld17 fun _ =>
    Safe.ret _

theorem s267 {v679 c1_i32_314 k0_t5 arg24 arg28} : Safe (F := F) 𝒱₀ c A (k0_part267 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v679 c1_i32_314 k0_t5 arg24 arg28) := by
  delta k0_part267; exact
    ld17 fun _ => ld17 fun _ => ld7 fun _ => ld20 fun _ => st20 fun _ => ld19 fun _ => Safe.ret _

theorem s268 {k0_t5 v1443 v1464 v1468 v1470} : Safe (F := F) 𝒱₀ c A (k0_part268 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1464 v1468 v1470) := by
  delta k0_part268; exact
    ld16 fun _ => ld8 fun _ => ld16 fun _ => st16 fun _ => ld17 fun _ => ld17 fun _ => ld7 fun _ => ld20 fun _ => st20
    fun _ => Safe.ret _

theorem s269 {k0_t5 arg25 arg29 v1443 v1497} : Safe (F := F) 𝒱₀ c A (k0_part269 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 arg25 arg29 v1443 v1497) := by
  delta k0_part269; exact
    ld19 fun _ => ld16 fun _ => ld8 fun _ => ld16 fun _ => st16 fun _ => ld17 fun _ => ld17 fun _ => Safe.ret _

theorem s270 {k0_t5 arg26 arg30 v1443 v1527 v1533} : Safe (F := F) 𝒱₀ c A (k0_part270 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 arg26 arg30 v1443 v1527 v1533) := by
  delta k0_part270; exact
    ld7 fun _ => ld20 fun _ => st20 fun _ => ld19 fun _ => ld16 fun _ => ld8 fun _ => ld16 fun _ => st16 fun _ =>
    Safe.ret _

theorem s271 {k0_t5 arg27 arg31 v1443 v1567} : Safe (F := F) 𝒱₀ c A (k0_part271 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 arg27 arg31 v1443 v1567) := by
  delta k0_part271; exact
    ld17 fun _ => ld17 fun _ => ld7 fun _ => ld20 fun _ => st20 fun _ => ld19 fun _ => ld16 fun _ => Safe.ret _

theorem s272 {k0_t5 v1443 v1461 v1465 v1591 v1597} : Safe (F := F) 𝒱₀ c A (k0_part272 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1461 v1465 v1591 v1597) := by
  delta k0_part272; exact
    ld8 fun _ => ld16 fun _ => st16 fun _ => ld17 fun _ => ld17 fun _ => ld7 fun _ => ld20 fun _ => Safe.ret _

theorem s273 {k0_t5 v1443 v1620 v1624 v1628 v1630} : Safe (F := F) 𝒱₀ c A (k0_part273 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1620 v1624 v1628 v1630) := by
  delta k0_part273; exact
    ld16 fun _ => ld8 fun _ => ld16 fun _ => st16 fun _ => ld19 fun _ => st19 fun _ => ld17 fun _ => ld17 fun _ => ld7
    fun _ => Safe.ret _

theorem s274 {k0_t5 v1443 v1502 v1506 v1657 v1661} : Safe (F := F) 𝒱₀ c A (k0_part274 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1502 v1506 v1657 v1661) := by
  delta k0_part274; exact
    ld20 fun _ => ld16 fun _ => ld8 fun _ => ld16 fun _ => st16 fun _ => ld19 fun _ => st19 fun _ => Safe.ret _

theorem s275 {k0_t5 v1443 v1543 v1547 v1693 v1694} : Safe (F := F) 𝒱₀ c A (k0_part275 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1543 v1547 v1693 v1694) := by
  delta k0_part275; exact
    ld17 fun _ => ld17 fun _ => ld7 fun _ => ld20 fun _ => ld16 fun _ => ld8 fun _ => ld16 fun _ => Safe.ret _

theorem s276 {k0_t5 v1443 v1584 v1588 v1704 v1725} : Safe (F := F) 𝒱₀ c A (k0_part276 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1443 v1584 v1588 v1704 v1725) := by
  delta k0_part276; exact
    st16 fun _ => ld19 fun _ => st19 fun _ => ld17 fun _ => ld17 fun _ => ld7 fun _ => ld20 fun _ => ld16 fun _ =>
    Safe.ret _

theorem s277 {k0_t5 v1442 v1746 v1750 v1754 v1756 v1758} : Safe (F := F) 𝒱₀ c A (k0_part277 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1746 v1750 v1754 v1756 v1758) := by
  delta k0_part277; exact
    ld8 fun _ => ld16 fun _ => st16 fun _ => ld19 fun _ => st19 fun _ => ld17 fun _ => ld17 fun _ => ld7 fun _ =>
    Safe.ret _

theorem s278 {k0_t5 v1442 v1625 v1649 v1788} : Safe (F := F) 𝒱₀ c A (k0_part278 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1625 v1649 v1788) := by
  delta k0_part278; exact
    ld20 fun _ => st20 fun _ => ld19 fun _ => ld16 fun _ => ld8 fun _ => ld16 fun _ => st16 fun _ => ld17 fun _ =>
    Safe.ret _

theorem s279 {k0_t5 v1442 v1667 v1691 v1818 v1819 v1821} : Safe (F := F) 𝒱₀ c A (k0_part279 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1667 v1691 v1818 v1819 v1821) := by
  delta k0_part279; exact
    ld17 fun _ => ld7 fun _ => ld20 fun _ => st20 fun _ => ld19 fun _ => ld16 fun _ => ld8 fun _ => Safe.ret _

theorem s280 {k0_t5 v1442 v1709 v1733 v1854} : Safe (F := F) 𝒱₀ c A (k0_part280 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1709 v1733 v1854) := by
  delta k0_part280; exact
    ld16 fun _ => st16 fun _ => ld17 fun _ => ld17 fun _ => ld7 fun _ => ld20 fun _ => st20 fun _ => ld19 fun _ =>
    ld16 fun _ => Safe.ret _

theorem s281 {k0_t5 v1442 v1878 v1882 v1884 v1885} : Safe (F := F) 𝒱₀ c A (k0_part281 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1878 v1882 v1884 v1885) := by
  delta k0_part281; exact
    ld8 fun _ => ld16 fun _ => st16 fun _ => ld17 fun _ => ld17 fun _ => ld7 fun _ => ld20 fun _ => st20 fun _ =>
    Safe.ret _

theorem s282 {k0_t5 v1442 v1751 v1775} : Safe (F := F) 𝒱₀ c A (k0_part282 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1751 v1775) := by
  delta k0_part282; exact
    ld19 fun _ => ld16 fun _ => ld8 fun _ => ld16 fun _ => st16 fun _ => ld17 fun _ => ld17 fun _ => Safe.ret _

theorem s283 {k0_t5 v1442 v1793 v1797 v1947 v1948} : Safe (F := F) 𝒱₀ c A (k0_part283 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1793 v1797 v1947 v1948) := by
  delta k0_part283; exact
    ld7 fun _ => ld20 fun _ => ld16 fun _ => ld8 fun _ => ld16 fun _ => st16 fun _ => ld19 fun _ => st19 fun _ =>
    Safe.ret _

theorem s284 {k0_t5 v1442 v1834 v1838 v1982} : Safe (F := F) 𝒱₀ c A (k0_part284 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1834 v1838 v1982) := by
  delta k0_part284; exact
    ld17 fun _ => ld17 fun _ => ld7 fun _ => ld20 fun _ => ld16 fun _ => ld8 fun _ => Safe.ret _

theorem s285 {k0_t5 v1442 v1875 v1879 v1994 v2015} : Safe (F := F) 𝒱₀ c A (k0_part285 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v1875 v1879 v1994 v2015) := by
  delta k0_part285; exact
    ld16 fun _ => st16 fun _ => ld19 fun _ => st19 fun _ => ld17 fun _ => ld17 fun _ => ld7 fun _ => ld20 fun _ =>
    Safe.ret _

theorem s286 {k0_t5 v1442 v2036 v2040 v2044 v2046} : Safe (F := F) 𝒱₀ c A (k0_part286 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t5 v1442 v2036 v2040 v2044 v2046) := by
  delta k0_part286; exact
    ld16 fun _ => ld8 fun _ => ld16 fun _ => st16 fun _ => ld19 fun _ => st19 fun _ => ld17 fun _ => ld17 fun _ =>
    Safe.ret _

theorem s288 {v701 c1_i32_315 k0_t6 arg24 arg28} : Safe (F := F) 𝒱₀ c A (k0_part288 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v701 c1_i32_315 k0_t6 arg24 arg28) := by
  delta k0_part288; exact
    ld17 fun _ => ld17 fun _ => ld7 fun _ => ld20 fun _ => st20 fun _ => ld19 fun _ => Safe.ret _

theorem s289 {k0_t6 v1443 v1464 v1468 v1470} : Safe (F := F) 𝒱₀ c A (k0_part289 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1464 v1468 v1470) := by
  delta k0_part289; exact
    ld16 fun _ => ld8 fun _ => ld16 fun _ => st16 fun _ => ld17 fun _ => ld17 fun _ => ld7 fun _ => ld20 fun _ => st20
    fun _ => Safe.ret _

theorem s290 {k0_t6 arg25 arg29 v1443 v1497} : Safe (F := F) 𝒱₀ c A (k0_part290 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 arg25 arg29 v1443 v1497) := by
  delta k0_part290; exact
    ld19 fun _ => ld16 fun _ => ld8 fun _ => ld16 fun _ => st16 fun _ => ld17 fun _ => ld17 fun _ => Safe.ret _

theorem s291 {k0_t6 arg26 arg30 v1443 v1527 v1533} : Safe (F := F) 𝒱₀ c A (k0_part291 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 arg26 arg30 v1443 v1527 v1533) := by
  delta k0_part291; exact
    ld7 fun _ => ld20 fun _ => st20 fun _ => ld19 fun _ => ld16 fun _ => ld8 fun _ => ld16 fun _ => st16 fun _ =>
    Safe.ret _

end Cert.KernelIdeal.Nsa

end
-- ==== Proof.NsaParts5.lean ====
/-
  Each printed stretch of the attention body runs and hands every buffer back (group 5).
-/
module

public import proofs.«01_k».proof.Proof.Nsa

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s292 {k0_t6 arg27 arg31 v1443 v1567} : Safe (F := F) 𝒱₀ c A (k0_part292 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 arg27 arg31 v1443 v1567) := by
  delta k0_part292; exact
    ld17 fun _ => ld17 fun _ => ld7 fun _ => ld20 fun _ => st20 fun _ => ld19 fun _ => ld16 fun _ => Safe.ret _

theorem s293 {k0_t6 v1443 v1461 v1465 v1591 v1597} : Safe (F := F) 𝒱₀ c A (k0_part293 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1461 v1465 v1591 v1597) := by
  delta k0_part293; exact
    ld8 fun _ => ld16 fun _ => st16 fun _ => ld17 fun _ => ld17 fun _ => ld7 fun _ => ld20 fun _ => Safe.ret _

theorem s294 {k0_t6 v1443 v1620 v1624 v1628 v1630} : Safe (F := F) 𝒱₀ c A (k0_part294 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1620 v1624 v1628 v1630) := by
  delta k0_part294; exact
    ld16 fun _ => ld8 fun _ => ld16 fun _ => st16 fun _ => ld19 fun _ => st19 fun _ => ld17 fun _ => ld17 fun _ => ld7
    fun _ => Safe.ret _

theorem s295 {k0_t6 v1443 v1502 v1506 v1657 v1661} : Safe (F := F) 𝒱₀ c A (k0_part295 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1502 v1506 v1657 v1661) := by
  delta k0_part295; exact
    ld20 fun _ => ld16 fun _ => ld8 fun _ => ld16 fun _ => st16 fun _ => ld19 fun _ => st19 fun _ => Safe.ret _

theorem s296 {k0_t6 v1443 v1543 v1547 v1693 v1694} : Safe (F := F) 𝒱₀ c A (k0_part296 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1543 v1547 v1693 v1694) := by
  delta k0_part296; exact
    ld17 fun _ => ld17 fun _ => ld7 fun _ => ld20 fun _ => ld16 fun _ => ld8 fun _ => ld16 fun _ => Safe.ret _

theorem s297 {k0_t6 v1443 v1584 v1588 v1704 v1725} : Safe (F := F) 𝒱₀ c A (k0_part297 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1443 v1584 v1588 v1704 v1725) := by
  delta k0_part297; exact
    st16 fun _ => ld19 fun _ => st19 fun _ => ld17 fun _ => ld17 fun _ => ld7 fun _ => ld20 fun _ => ld16 fun _ =>
    Safe.ret _

theorem s298 {k0_t6 v1442 v1746 v1750 v1754 v1756 v1758} : Safe (F := F) 𝒱₀ c A (k0_part298 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1746 v1750 v1754 v1756 v1758) := by
  delta k0_part298; exact
    ld8 fun _ => ld16 fun _ => st16 fun _ => ld19 fun _ => st19 fun _ => ld17 fun _ => ld17 fun _ => ld7 fun _ =>
    Safe.ret _

theorem s299 {k0_t6 v1442 v1625 v1649 v1788} : Safe (F := F) 𝒱₀ c A (k0_part299 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1625 v1649 v1788) := by
  delta k0_part299; exact
    ld20 fun _ => st20 fun _ => ld19 fun _ => ld16 fun _ => ld8 fun _ => ld16 fun _ => st16 fun _ => ld17 fun _ =>
    Safe.ret _

theorem s300 {k0_t6 v1442 v1667 v1691 v1818 v1819 v1821} : Safe (F := F) 𝒱₀ c A (k0_part300 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1667 v1691 v1818 v1819 v1821) := by
  delta k0_part300; exact
    ld17 fun _ => ld7 fun _ => ld20 fun _ => st20 fun _ => ld19 fun _ => ld16 fun _ => ld8 fun _ => Safe.ret _

theorem s301 {k0_t6 v1442 v1709 v1733 v1854} : Safe (F := F) 𝒱₀ c A (k0_part301 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1709 v1733 v1854) := by
  delta k0_part301; exact
    ld16 fun _ => st16 fun _ => ld17 fun _ => ld17 fun _ => ld7 fun _ => ld20 fun _ => st20 fun _ => ld19 fun _ =>
    ld16 fun _ => Safe.ret _

theorem s302 {k0_t6 v1442 v1878 v1882 v1884 v1885} : Safe (F := F) 𝒱₀ c A (k0_part302 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1878 v1882 v1884 v1885) := by
  delta k0_part302; exact
    ld8 fun _ => ld16 fun _ => st16 fun _ => ld17 fun _ => ld17 fun _ => ld7 fun _ => ld20 fun _ => st20 fun _ =>
    Safe.ret _

theorem s303 {k0_t6 v1442 v1751 v1775} : Safe (F := F) 𝒱₀ c A (k0_part303 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1751 v1775) := by
  delta k0_part303; exact
    ld19 fun _ => ld16 fun _ => ld8 fun _ => ld16 fun _ => st16 fun _ => ld17 fun _ => ld17 fun _ => Safe.ret _

theorem s304 {k0_t6 v1442 v1793 v1797 v1947 v1948} : Safe (F := F) 𝒱₀ c A (k0_part304 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1793 v1797 v1947 v1948) := by
  delta k0_part304; exact
    ld7 fun _ => ld20 fun _ => ld16 fun _ => ld8 fun _ => ld16 fun _ => st16 fun _ => ld19 fun _ => st19 fun _ =>
    Safe.ret _

theorem s305 {k0_t6 v1442 v1834 v1838 v1982} : Safe (F := F) 𝒱₀ c A (k0_part305 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1834 v1838 v1982) := by
  delta k0_part305; exact
    ld17 fun _ => ld17 fun _ => ld7 fun _ => ld20 fun _ => ld16 fun _ => ld8 fun _ => Safe.ret _

theorem s306 {k0_t6 v1442 v1875 v1879 v1994 v2015} : Safe (F := F) 𝒱₀ c A (k0_part306 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v1875 v1879 v1994 v2015) := by
  delta k0_part306; exact
    ld16 fun _ => st16 fun _ => ld19 fun _ => st19 fun _ => ld17 fun _ => ld17 fun _ => ld7 fun _ => ld20 fun _ =>
    Safe.ret _

theorem s307 {k0_t6 v1442 v2036 v2040 v2044 v2046} : Safe (F := F) 𝒱₀ c A (k0_part307 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t6 v1442 v2036 v2040 v2044 v2046) := by
  delta k0_part307; exact
    ld16 fun _ => ld8 fun _ => ld16 fun _ => st16 fun _ => ld19 fun _ => st19 fun _ => ld17 fun _ => ld17 fun _ =>
    Safe.ret _

theorem s309 {v721 c1_i32_332 k0_t7 arg24 arg28} : Safe (F := F) 𝒱₀ c A (k0_part309 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v721 c1_i32_332 k0_t7 arg24 arg28) := by
  delta k0_part309; exact
    ld17 fun _ => ld17 fun _ => ld7 fun _ => ld20 fun _ => st20 fun _ => ld19 fun _ => ld16 fun _ => Safe.ret _

theorem s310 {k0_t7 arg23 v1461 v1465 v1471 c1_i32_805} : Safe (F := F) 𝒱₀ c A (k0_part310 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1461 v1465 v1471 c1_i32_805) := by
  delta k0_part310; exact
    ld8 fun _ => ld16 fun _ => st16 fun _ => ld17 fun _ => ld17 fun _ => ld7 fun _ => ld20 fun _ => st20 fun _ => ld19
    fun _ => Safe.ret _

theorem s311 {k0_t7 arg25 arg29 arg23 v1500} : Safe (F := F) 𝒱₀ c A (k0_part311 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg25 arg29 arg23 v1500) := by
  delta k0_part311; exact
    ld16 fun _ => ld8 fun _ => ld16 fun _ => st16 fun _ => ld17 fun _ => ld17 fun _ => ld7 fun _ => Safe.ret _

theorem s312 {k0_t7 arg26 arg30 arg23 v1530 v1533} : Safe (F := F) 𝒱₀ c A (k0_part312 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg26 arg30 arg23 v1530 v1533) := by
  delta k0_part312; exact
    ld20 fun _ => st20 fun _ => ld19 fun _ => ld16 fun _ => ld8 fun _ => ld16 fun _ => st16 fun _ => Safe.ret _

theorem s313 {k0_t7 arg27 arg31 arg23 v1565 v1566} : Safe (F := F) 𝒱₀ c A (k0_part313 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg27 arg31 arg23 v1565 v1566) := by
  delta k0_part313; exact
    ld17 fun _ => ld17 fun _ => ld7 fun _ => ld20 fun _ => st20 fun _ => ld19 fun _ => ld16 fun _ => ld8 fun _ =>
    Safe.ret _

theorem s314 {k0_t7 arg23 v1458 v1462 v1594 v1598 v1599 cst_911} : Safe (F := F) 𝒱₀ c A (k0_part314 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1458 v1462 v1594 v1598 v1599 cst_911) := by
  delta k0_part314; exact
    ld16 fun _ => st16 fun _ => ld17 fun _ => ld17 fun _ => ld7 fun _ => ld20 fun _ => ld16 fun _ => Safe.ret _

theorem s315 {k0_t7 arg23 v1617 v1621 v1625 v1631 c1_i32_938} : Safe (F := F) 𝒱₀ c A (k0_part315 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1617 v1621 v1625 v1631 c1_i32_938) := by
  delta k0_part315; exact
    ld8 fun _ => ld16 fun _ => st16 fun _ => ld19 fun _ => st19 fun _ => ld17 fun _ => ld17 fun _ => ld7 fun _ => ld20
    fun _ => Safe.ret _

theorem s316 {k0_t7 arg23 v1499 v1503 v1659 v1660} : Safe (F := F) 𝒱₀ c A (k0_part316 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1499 v1503 v1659 v1660) := by
  delta k0_part316; exact
    ld16 fun _ => ld8 fun _ => ld16 fun _ => st16 fun _ => ld19 fun _ => st19 fun _ => ld17 fun _ => Safe.ret _

theorem s317 {k0_t7 arg23 v1540 v1544 v1690 v1691 v1693} : Safe (F := F) 𝒱₀ c A (k0_part317 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1540 v1544 v1690 v1691 v1693) := by
  delta k0_part317; exact
    ld17 fun _ => ld7 fun _ => ld20 fun _ => ld16 fun _ => ld8 fun _ => ld16 fun _ => st16 fun _ => ld19 fun _ =>
    Safe.ret _

theorem s318 {k0_t7 arg23 v1581 v1585 v1701 v1726} : Safe (F := F) 𝒱₀ c A (k0_part318 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t7 arg23 v1581 v1585 v1701 v1726) := by
  delta k0_part318; exact
    st19 fun _ => ld17 fun _ => ld17 fun _ => ld7 fun _ => ld20 fun _ => ld16 fun _ => Safe.ret _

theorem s319 {v743 c1_i32_333 k0_t8 arg24 arg28} : Safe (F := F) 𝒱₀ c A (k0_part319 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v743 c1_i32_333 k0_t8 arg24 arg28) := by
  delta k0_part319; exact
    ld17 fun _ => ld17 fun _ => ld7 fun _ => ld20 fun _ => st20 fun _ => ld19 fun _ => ld16 fun _ => Safe.ret _

theorem s320 {k0_t8 arg23 v1461 v1465 v1471 c1_i32_805} : Safe (F := F) 𝒱₀ c A (k0_part320 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1461 v1465 v1471 c1_i32_805) := by
  delta k0_part320; exact
    ld8 fun _ => ld16 fun _ => st16 fun _ => ld17 fun _ => ld17 fun _ => ld7 fun _ => ld20 fun _ => st20 fun _ => ld19
    fun _ => Safe.ret _

theorem s321 {k0_t8 arg25 arg29 arg23 v1500} : Safe (F := F) 𝒱₀ c A (k0_part321 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg25 arg29 arg23 v1500) := by
  delta k0_part321; exact
    ld16 fun _ => ld8 fun _ => ld16 fun _ => st16 fun _ => ld17 fun _ => ld17 fun _ => ld7 fun _ => Safe.ret _

theorem s322 {k0_t8 arg26 arg30 arg23 v1530 v1533} : Safe (F := F) 𝒱₀ c A (k0_part322 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg26 arg30 arg23 v1530 v1533) := by
  delta k0_part322; exact
    ld20 fun _ => st20 fun _ => ld19 fun _ => ld16 fun _ => ld8 fun _ => ld16 fun _ => st16 fun _ => Safe.ret _

theorem s323 {k0_t8 arg27 arg31 arg23 v1565 v1566} : Safe (F := F) 𝒱₀ c A (k0_part323 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg27 arg31 arg23 v1565 v1566) := by
  delta k0_part323; exact
    ld17 fun _ => ld17 fun _ => ld7 fun _ => ld20 fun _ => st20 fun _ => ld19 fun _ => ld16 fun _ => ld8 fun _ =>
    Safe.ret _

theorem s324 {k0_t8 arg23 v1458 v1462 v1594 v1598 v1599 cst_911} : Safe (F := F) 𝒱₀ c A (k0_part324 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1458 v1462 v1594 v1598 v1599 cst_911) := by
  delta k0_part324; exact
    ld16 fun _ => st16 fun _ => ld17 fun _ => ld17 fun _ => ld7 fun _ => ld20 fun _ => ld16 fun _ => Safe.ret _

theorem s325 {k0_t8 arg23 v1617 v1621 v1625 v1631 c1_i32_938} : Safe (F := F) 𝒱₀ c A (k0_part325 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1617 v1621 v1625 v1631 c1_i32_938) := by
  delta k0_part325; exact
    ld8 fun _ => ld16 fun _ => st16 fun _ => ld19 fun _ => st19 fun _ => ld17 fun _ => ld17 fun _ => ld7 fun _ => ld20
    fun _ => Safe.ret _

theorem s326 {k0_t8 arg23 v1499 v1503 v1659 v1660} : Safe (F := F) 𝒱₀ c A (k0_part326 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1499 v1503 v1659 v1660) := by
  delta k0_part326; exact
    ld16 fun _ => ld8 fun _ => ld16 fun _ => st16 fun _ => ld19 fun _ => st19 fun _ => ld17 fun _ => Safe.ret _

theorem s327 {k0_t8 arg23 v1540 v1544 v1690 v1691 v1693} : Safe (F := F) 𝒱₀ c A (k0_part327 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1540 v1544 v1690 v1691 v1693) := by
  delta k0_part327; exact
    ld17 fun _ => ld7 fun _ => ld20 fun _ => ld16 fun _ => ld8 fun _ => ld16 fun _ => st16 fun _ => ld19 fun _ =>
    Safe.ret _

theorem s328 {k0_t8 arg23 v1581 v1585 v1701 v1726} : Safe (F := F) 𝒱₀ c A (k0_part328 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t8 arg23 v1581 v1585 v1701 v1726) := by
  delta k0_part328; exact
    st19 fun _ => ld17 fun _ => ld17 fun _ => ld7 fun _ => ld20 fun _ => ld16 fun _ => Safe.ret _

theorem s329 {v24 k0_h5} : Safe (F := F) 𝒱₀ c A (k0_part329 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 k0_h5) := by
  delta k0_part329; exact
    ld19 fun _ => ld22 fun _ => ld21 fun _ => ld16 fun _ => ld8 fun _ => ld16 fun _ => st16 fun _ => ld21 fun _ =>
    st21 fun _ => ld19 fun _ => Safe.ret _

theorem s330 {v24 k0_h5 v1471} : Safe (F := F) 𝒱₀ c A (k0_part330 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 k0_h5 v1471) := by
  delta k0_part330; exact
    ld22 fun _ => ld21 fun _ => ld16 fun _ => ld8 fun _ => ld16 fun _ => st16 fun _ => ld21 fun _ => st21 fun _ =>
    ld19 fun _ => Safe.ret _

theorem s331 {v24 k0_h5 v1502} : Safe (F := F) 𝒱₀ c A (k0_part331 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 k0_h5 v1502) := by
  delta k0_part331; exact
    ld22 fun _ => ld21 fun _ => ld16 fun _ => ld8 fun _ => ld16 fun _ => st16 fun _ => ld21 fun _ => st21 fun _ =>
    ld19 fun _ => ld22 fun _ => Safe.ret _

set_option maxHeartbeats 4000000 in
theorem s332 : Safe (F := F) 𝒱₀ c A (k0_part332 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22) := by
  delta k0_part332; exact
    ld1 fun _ => Safe.dite (fun _ => ld15 fun _ => st15 fun _ => Safe.ret _) fun _ => Safe.ret _

theorem s333 {v1 v2 v28 v30 v37 v38} : Safe (F := F) 𝒱₀ c A (k0_part333 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1 v2 v28 v30 v37 v38) := by
  delta k0_part333; exact
    ld3 fun _ => ld3 fun _ => Safe.ret _

theorem s334 {v1 v2 v50 v74 v75 v77 v81} : Safe (F := F) 𝒱₀ c A (k0_part334 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1 v2 v50 v74 v75 v77 v81) := by
  delta k0_part334; exact
    ld3 fun _ => ld3 fun _ => Safe.ret _

theorem s335 {v1 v2 v123} : Safe (F := F) 𝒱₀ c A (k0_part335 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1 v2 v123) := by
  delta k0_part335; exact
    ld18 fun _ => st18 fun _ => ld3 fun _ => Safe.ret _

theorem s336 {v1 v2 v153 v165} : Safe (F := F) 𝒱₀ c A (k0_part336 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v1 v2 v153 v165) := by
  delta k0_part336; exact
    ld3 fun _ => ld3 fun _ => Safe.ret _

theorem s337 {arg0 v150 v173 v197 v198 v200 v207 cst_81} : Safe (F := F) 𝒱₀ c A (k0_part337 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v150 v173 v197 v198 v200 v207 cst_81) := by
  delta k0_part337; exact
    ld3 fun _ => ld18 fun _ => st18 fun _ => Safe.ret _

theorem s339 {v252 v294} : Safe (F := F) 𝒱₀ c A (k0_part339 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v252 v294) := by
  delta k0_part339; exact
    Safe.ret _

theorem s340 {v252 v330 v339} : Safe (F := F) 𝒱₀ c A (k0_part340 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v252 v330 v339) := by
  delta k0_part340; exact
    Safe.ret _

theorem s341 {v252 v378 v384} : Safe (F := F) 𝒱₀ c A (k0_part341 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v252 v378 v384) := by
  delta k0_part341; exact
    Safe.ret _

theorem s342 {v252 v426 v429} : Safe (F := F) 𝒱₀ c A (k0_part342 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v252 v426 v429) := by
  delta k0_part342; exact
    Safe.ret _

theorem s343 {v122 v252 v474} : Safe (F := F) 𝒱₀ c A (k0_part343 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v122 v252 v474) := by
  delta k0_part343; exact
    ld17 fun _ => st17 fun _ => ld17 fun _ => st17 fun _ => Safe.ret _

theorem s344 {v221 v514} : Safe (F := F) 𝒱₀ c A (k0_part344 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v221 v514) := by
  delta k0_part344; exact
    ld17 fun _ => st17 fun _ => ld17 fun _ => st17 fun _ => ld16 fun _ => st16 fun _ => ld17 fun _ => ld17 fun _ =>
    Safe.ret _

theorem s345 {v544} : Safe (F := F) 𝒱₀ c A (k0_part345 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v544) := by
  delta k0_part345; exact
    ld7 fun _ => ld19 fun _ => st19 fun _ => ld17 fun _ => ld17 fun _ => ld7 fun _ => ld19 fun _ => st19 fun _ => ld17
    fun _ => ld17 fun _ => Safe.ret _

theorem s346 {v24 v570} : Safe (F := F) 𝒱₀ c A (k0_part346 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v570) := by
  delta k0_part346; exact
    ld7 fun _ => ld19 fun _ => st19 fun _ => ld17 fun _ => ld17 fun _ => ld7 fun _ => ld19 fun _ => st19 fun _ =>
    Safe.ret _

theorem s352 {arg0 v22 v783} : Safe (F := F) 𝒱₀ c A (k0_part352 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v22 v783) := by
  delta k0_part352; exact
    ld21 fun _ => ld21 fun _ => ld17 fun _ => ld17 fun _ => ld7 fun _ => Safe.ret _

theorem s353 {v783 v785 v793 v798 v809 v819} : Safe (F := F) 𝒱₀ c A (k0_part353 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v783 v785 v793 v798 v809 v819) := by
  delta k0_part353; exact
    ld12 fun _ => ld16 fun _ => ld8 fun _ => ld16 fun _ => st16 fun _ => Safe.ret _

theorem s354 {arg0 v787 v793 v854 v855} : Safe (F := F) 𝒱₀ c A (k0_part354 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v787 v793 v854 v855) := by
  delta k0_part354; exact
    ld17 fun _ => ld17 fun _ => ld7 fun _ => ld12 fun _ => Safe.ret _

theorem s355 {arg0 v783 v793 v889 v891} : Safe (F := F) 𝒱₀ c A (k0_part355 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v783 v793 v889 v891) := by
  delta k0_part355; exact
    ld16 fun _ => ld8 fun _ => ld16 fun _ => st16 fun _ => ld17 fun _ => ld17 fun _ => ld7 fun _ => Safe.ret _

theorem s356 {v789 v793 v910 v921 v923 v924} : Safe (F := F) 𝒱₀ c A (k0_part356 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v789 v793 v910 v921 v923 v924) := by
  delta k0_part356; exact
    ld12 fun _ => ld16 fun _ => ld8 fun _ => ld16 fun _ => st16 fun _ => Safe.ret _

theorem s357 {arg0 v783 v793 v962} : Safe (F := F) 𝒱₀ c A (k0_part357 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v783 v793 v962) := by
  delta k0_part357; exact
    ld17 fun _ => ld17 fun _ => ld7 fun _ => ld12 fun _ => Safe.ret _

theorem s358 {v22 v783 v791 v793 v995 v996} : Safe (F := F) 𝒱₀ c A (k0_part358 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v22 v783 v791 v793 v995 v996) := by
  delta k0_part358; exact
    ld16 fun _ => ld8 fun _ => ld16 fun _ => st16 fun _ => ld17 fun _ => ld17 fun _ => Safe.ret _

theorem s359 {arg0 v830 v1019 v1024 v1030 c1_i32_544} : Safe (F := F) 𝒱₀ c A (k0_part359 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v830 v1019 v1024 v1030 c1_i32_544) := by
  delta k0_part359; exact
    ld7 fun _ => ld12 fun _ => ld16 fun _ => ld8 fun _ => Safe.ret _

theorem s360 {arg0 v783 v1019 v1059 v1065 v1068} : Safe (F := F) 𝒱₀ c A (k0_part360 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v783 v1019 v1059 v1065 v1068) := by
  delta k0_part360; exact
    ld16 fun _ => st16 fun _ => ld17 fun _ => ld17 fun _ => ld7 fun _ => Safe.ret _

theorem s361 {v783 v886 v1019 v1080 v1091} : Safe (F := F) 𝒱₀ c A (k0_part361 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v783 v886 v1019 v1080 v1091) := by
  delta k0_part361; exact
    ld12 fun _ => ld16 fun _ => ld8 fun _ => ld16 fun _ => st16 fun _ => Safe.ret _

theorem s362 {arg0 v942 v1019 v1136 v1137} : Safe (F := F) 𝒱₀ c A (k0_part362 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v942 v1019 v1136 v1137) := by
  delta k0_part362; exact
    ld17 fun _ => ld17 fun _ => ld7 fun _ => ld12 fun _ => ld16 fun _ => Safe.ret _

theorem s363 {arg0 v783 v1019 v1171 v1173 v1174} : Safe (F := F) 𝒱₀ c A (k0_part363 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v783 v1019 v1171 v1173 v1174) := by
  delta k0_part363; exact
    ld8 fun _ => ld16 fun _ => st16 fun _ => ld17 fun _ => ld17 fun _ => ld7 fun _ => Safe.ret _

theorem s364 {v998 v1019 v1192 v1203 v1205 v1206 c0_i32_665} : Safe (F := F) 𝒱₀ c A (k0_part364 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v998 v1019 v1192 v1203 v1205 v1206 c0_i32_665) := by
  delta k0_part364; exact
    ld12 fun _ => ld16 fun _ => ld8 fun _ => ld16 fun _ => st16 fun _ => ld2 fun _ => Safe.ret _

theorem s365 {arg0 v0 v1244} : Safe (F := F) 𝒱₀ c A (k0_part365 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v0 v1244) := by
  delta k0_part365; exact
    ld16 fun _ => ld16 fun _ => ld9 fun _ => ld18 fun _ => ld13 fun _ => Safe.ret _

theorem s366 {arg0 v249_0 v1246 v1254 v1279} : Safe (F := F) 𝒱₀ c A (k0_part366 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v249_0 v1246 v1254 v1279) := by
  delta k0_part366; exact
    ld10 fun _ => ld10 fun _ => ld10 fun _ => ld10 fun _ => ld10 fun _ => Safe.ret _

theorem s367 {v0 v1246 v1308 v1323} : Safe (F := F) 𝒱₀ c A (k0_part367 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v0 v1246 v1308 v1323) := by
  delta k0_part367; exact
    ld14 fun _ => st14 fun _ => ld14 fun _ => st14 fun _ => ld14 fun _ => st14 fun _ => ld14 fun _ => st14 fun _ =>
    ld16 fun _ => ld16 fun _ => ld9 fun _ => ld18 fun _ => Safe.ret _

theorem s368 {arg0 v0 v1358} : Safe (F := F) 𝒱₀ c A (k0_part368 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v0 v1358) := by
  delta k0_part368; exact
    ld13 fun _ => ld10 fun _ => ld10 fun _ => ld10 fun _ => ld10 fun _ => Safe.ret _

theorem s369 {v249_2 v1246 v1351 v1376 v1380 v1384 v1388 v1392} : Safe (F := F) 𝒱₀ c A (k0_part369 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v249_2 v1246 v1351 v1376 v1380 v1384 v1388 v1392) := by
  delta k0_part369; exact
    ld10 fun _ => ld14 fun _ => st14 fun _ => ld14 fun _ => st14 fun _ => ld14 fun _ => st14 fun _ => Safe.ret _

end Cert.KernelIdeal.Nsa

end
-- ==== Proof.NsaSwitch.lean ====
/-
  The branch on how much of the compressed sequence a query block can see: every branch runs and hands the buffers back.
-/
module

public import proofs.«01_k».proof.Proof.NsaParts1
public import proofs.«01_k».proof.Proof.NsaParts2
public import proofs.«01_k».proof.Proof.NsaParts3
public import proofs.«01_k».proof.Proof.NsaParts4
public import proofs.«01_k».proof.Proof.NsaParts5

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

set_option maxHeartbeats 4000000 in
theorem s338 {arg0 v5 v247} : Safe (F := F) 𝒱₀ c A (k0_part338 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 arg0 v5 v247) := by
  delta k0_part338; exact
    Safe.dite (fun _ => Safe.dite (fun _ => Safe.dite (fun _ => Safe.bind s1 fun ⟨_, _, _⟩ => Safe.bind s2 fun ⟨_, _,
    _⟩ => Safe.bind s3 fun ⟨_, _, _, _⟩ => ld5 fun _ => ld6 fun _ => Safe.bind (Safe.ret _) fun (_, _, _, _) =>
    Safe.bind (Safe.ret _) fun (_, _, _, _) => Safe.bind (Safe.ret _) fun (_, _, _, _) => Safe.ret _) fun _ =>
    Safe.bind s4 fun ⟨_, _, _⟩ => Safe.bind s5 fun ⟨_, _, _⟩ => Safe.bind s6 fun ⟨_, _, _, _⟩ => ld5 fun _ => ld6 fun
    _ => Safe.bind (Safe.ret _) fun (_, _, _, _) => Safe.bind (Safe.ret _) fun (_, _, _, _) => Safe.bind (Safe.ret _)
    fun (_, _, _, _) => Safe.ret _) fun _ => Safe.bind s7 fun ⟨_, _, _⟩ => Safe.bind s8 fun ⟨_, _, _⟩ => Safe.bind s9
    fun ⟨_, _, _, _⟩ => ld5 fun _ => ld6 fun _ => Safe.bind (Safe.ret _) fun (_, _, _, _) => Safe.bind (Safe.ret _)
    fun (_, _, _, _) => Safe.ret _) fun _ => Safe.bind s10 fun ⟨_, _, _⟩ => Safe.bind s11 fun ⟨_, _, _⟩ => Safe.bind
    s12 fun ⟨_, _, _, _⟩ => ld5 fun _ => ld6 fun _ => Safe.bind (Safe.ret _) fun (_, _, _, _) => Safe.ret _

end Cert.KernelIdeal.Nsa

end
-- ==== Proof.NsaLoops.lean ====
/-
  The loops over the selected key tiles, and the diagonal tile: they run and hand the buffers back.
-/
module

public import proofs.«01_k».proof.Proof.NsaParts1
public import proofs.«01_k».proof.Proof.NsaParts2
public import proofs.«01_k».proof.Proof.NsaParts3
public import proofs.«01_k».proof.Proof.NsaParts4
public import proofs.«01_k».proof.Proof.NsaParts5

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

theorem s96 {c0_i32_278 c1_i32_280 k0_t1 arg24 arg25 arg26 arg27 arg28 arg29 arg30 arg31} : Safe (F := F) 𝒱₀ c A (k0_part96 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 c0_i32_278 c1_i32_280 k0_t1 arg24 arg25 arg26 arg27 arg28 arg29 arg30 arg31) := by
  delta k0_part96; exact
    Safe.bind s13 fun ⟨_, _, _, _, _⟩ => Safe.bind s14 fun ⟨_, _⟩ => Safe.bind s15 fun ⟨_, _, _, _⟩ => Safe.bind s16
    fun ⟨_, _, _, _, _⟩ => Safe.bind s17 fun ⟨_, _, _, _, _⟩ => Safe.bind s18 fun ⟨_, _⟩ => Safe.bind s19 fun ⟨_, _,
    _, _, _⟩ => Safe.bind s20 fun ⟨_, _⟩ => Safe.bind s21 fun ⟨_, _, _, _, _⟩ => Safe.bind s22 fun ⟨_, _, _, _, _⟩ =>
    Safe.bind s23 fun ⟨_, _, _, _, _, _⟩ => Safe.bind s24 fun ⟨_, _⟩ => Safe.bind s25 fun ⟨_, _, _, _, _⟩ => Safe.bind
    s26 fun ⟨_, _⟩ => Safe.bind s27 fun ⟨_, _, _⟩ => Safe.bind s28 fun ⟨_, _, _, _⟩ => Safe.bind s29 fun ⟨_, _⟩ =>
    Safe.bind s30 fun ⟨_, _, _, _, _, _⟩ => Safe.bind s31 fun ⟨_, _⟩ => Safe.bind s32 fun ⟨_, _, _, _, _⟩ => Safe.bind
    s33 fun ⟨_, _⟩ => Safe.bind s34 fun ⟨_, _, _, _, _, _, _, _⟩ => Safe.bind s35 fun _ => Safe.bind s36 fun ⟨_, _, _,
    _, _⟩ => Safe.bind s37 fun ⟨_, _, _⟩ => Safe.bind s38 fun ⟨_, _, _, _, _, _⟩ => Safe.bind s39 fun ⟨_, _, _, _, _⟩
    => Safe.bind s40 fun ⟨_, _, _, _⟩ => Safe.bind s41 fun ⟨_, _, _⟩ => Safe.bind s42 fun ⟨_, _, _, _⟩ => Safe.bind
    s43 fun ⟨_, _, _, _, _, _⟩ => Safe.bind s44 fun ⟨_, _⟩ => Safe.bind s45 fun ⟨_, _, _, _⟩ => Safe.bind s46 fun ⟨_,
    _, _, _, _⟩ => Safe.bind s47 fun ⟨_, _, _, _⟩ => Safe.bind s48 fun ⟨_, _⟩ => Safe.bind s49 fun ⟨_, _, _, _, _⟩ =>
    Safe.bind s50 fun ⟨_, _, _⟩ => Safe.bind s51 fun ⟨_, _, _, _, _⟩ => Safe.bind s52 fun ⟨_, _, _, _⟩ => Safe.bind
    s53 fun ⟨_, _, _, _, _, _⟩ => Safe.bind s54 fun ⟨_, _⟩ => Safe.bind s55 fun ⟨_, _, _, _, _, _, _, _, _⟩ =>
    Safe.bind s56 fun _ => Safe.bind s57 fun ⟨_, _, _, _, _⟩ => Safe.bind s58 fun ⟨_, _, _⟩ => Safe.bind s59 fun ⟨_,
    _, _, _, _, _⟩ => Safe.bind s60 fun ⟨_, _, _, _, _⟩ => Safe.bind s61 fun ⟨_, _, _, _⟩ => Safe.bind s62 fun ⟨_, _,
    _⟩ => Safe.bind s63 fun ⟨_, _, _, _⟩ => Safe.bind s64 fun ⟨_, _, _, _, _, _⟩ => Safe.bind s65 fun ⟨_, _⟩ =>
    Safe.bind s66 fun ⟨_, _, _, _⟩ => Safe.bind s67 fun ⟨_, _, _, _, _⟩ => Safe.bind s68 fun ⟨_, _, _, _⟩ => Safe.bind
    s69 fun ⟨_, _⟩ => Safe.bind s70 fun ⟨_, _, _, _, _⟩ => Safe.bind s71 fun ⟨_, _, _⟩ => Safe.bind s72 fun ⟨_, _, _,
    _, _⟩ => Safe.ret _

theorem s97 {k0_t1 v2782 v2785 v3218 v3222 v3259 v3263 v3300 v3324 v3337 v3342 v3345 v3351} : Safe (F := F) 𝒱₀ c A (k0_part97 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t1 v2782 v2785 v3218 v3222 v3259 v3263 v3300 v3324 v3337 v3342 v3345 v3351) := by
  delta k0_part97; exact
    Safe.bind s73 fun ⟨_, _, _, _⟩ => Safe.bind s74 fun ⟨_, _, _, _, _, _⟩ => Safe.bind s75 fun ⟨_, _⟩ => Safe.bind
    s76 fun ⟨_, _, _, _, _, _, _, _⟩ => Safe.bind s77 fun _ => Safe.bind s78 fun ⟨_, _, _, _⟩ => Safe.bind s79 fun ⟨_,
    _, _⟩ => Safe.bind s80 fun ⟨_, _, _, _⟩ => Safe.bind s81 fun ⟨_, _, _, _, _⟩ => Safe.bind s82 fun ⟨_, _, _⟩ =>
    Safe.bind s83 fun ⟨_, _, _, _⟩ => Safe.bind s84 fun ⟨_, _, _⟩ => Safe.bind s85 fun ⟨_, _, _, _, _, _, _⟩ =>
    Safe.bind s86 fun ⟨_, _⟩ => Safe.bind s87 fun ⟨_, _, _, _, _⟩ => Safe.bind s88 fun ⟨_, _, _⟩ => Safe.bind s89 fun
    ⟨_, _, _, _, _, _⟩ => Safe.bind s90 fun _ => Safe.bind s91 fun ⟨_, _, _⟩ => Safe.bind s92 fun ⟨_, _, _⟩ =>
    Safe.bind s93 fun ⟨_, _, _⟩ => Safe.bind s94 fun ⟨_, _, _, _, _, _⟩ => Safe.bind s95 fun ⟨_, _⟩ => ld7 fun _ =>
    ld20 fun _ => ld16 fun _ => ld8 fun _ => Safe.ret _

theorem s181 {v617 c1_i32_281 k0_t2 arg24 arg25 arg26 arg27 arg28 arg29 arg30 arg31} : Safe (F := F) 𝒱₀ c A (k0_part181 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v617 c1_i32_281 k0_t2 arg24 arg25 arg26 arg27 arg28 arg29 arg30 arg31) := by
  delta k0_part181; exact
    Safe.bind s98 fun ⟨_, _, _, _, _⟩ => Safe.bind s99 fun ⟨_, _⟩ => Safe.bind s100 fun ⟨_, _, _, _⟩ => Safe.bind s101
    fun ⟨_, _, _, _, _⟩ => Safe.bind s102 fun ⟨_, _, _, _, _⟩ => Safe.bind s103 fun ⟨_, _⟩ => Safe.bind s104 fun ⟨_,
    _, _, _, _⟩ => Safe.bind s105 fun ⟨_, _⟩ => Safe.bind s106 fun ⟨_, _, _, _, _⟩ => Safe.bind s107 fun ⟨_, _, _, _,
    _⟩ => Safe.bind s108 fun ⟨_, _, _, _, _, _⟩ => Safe.bind s109 fun ⟨_, _⟩ => Safe.bind s110 fun ⟨_, _, _, _, _⟩ =>
    Safe.bind s111 fun ⟨_, _⟩ => Safe.bind s112 fun ⟨_, _, _⟩ => Safe.bind s113 fun ⟨_, _, _, _⟩ => Safe.bind s114 fun
    ⟨_, _⟩ => Safe.bind s115 fun ⟨_, _, _, _, _, _⟩ => Safe.bind s116 fun ⟨_, _⟩ => Safe.bind s117 fun ⟨_, _, _, _, _⟩
    => Safe.bind s118 fun ⟨_, _⟩ => Safe.bind s119 fun ⟨_, _, _, _, _, _, _, _⟩ => Safe.bind s120 fun _ => Safe.bind
    s121 fun ⟨_, _, _, _, _⟩ => Safe.bind s122 fun ⟨_, _, _⟩ => Safe.bind s123 fun ⟨_, _, _, _, _, _⟩ => Safe.bind
    s124 fun ⟨_, _, _, _, _⟩ => Safe.bind s125 fun ⟨_, _, _, _⟩ => Safe.bind s126 fun ⟨_, _, _⟩ => Safe.bind s127 fun
    ⟨_, _, _, _⟩ => Safe.bind s128 fun ⟨_, _, _, _, _, _⟩ => Safe.bind s129 fun ⟨_, _⟩ => Safe.bind s130 fun ⟨_, _, _,
    _⟩ => Safe.bind s131 fun ⟨_, _, _, _, _⟩ => Safe.bind s132 fun ⟨_, _, _, _⟩ => Safe.bind s133 fun ⟨_, _⟩ =>
    Safe.bind s134 fun ⟨_, _, _, _, _⟩ => Safe.bind s135 fun ⟨_, _, _⟩ => Safe.bind s136 fun ⟨_, _, _, _, _⟩ =>
    Safe.bind s137 fun ⟨_, _, _, _⟩ => Safe.bind s138 fun ⟨_, _, _, _, _, _⟩ => Safe.bind s139 fun ⟨_, _⟩ => Safe.bind
    s140 fun ⟨_, _, _, _, _, _, _, _, _⟩ => Safe.bind s141 fun _ => Safe.bind s142 fun ⟨_, _, _, _, _⟩ => Safe.bind
    s143 fun ⟨_, _, _⟩ => Safe.bind s144 fun ⟨_, _, _, _, _, _⟩ => Safe.bind s145 fun ⟨_, _, _, _, _⟩ => Safe.bind
    s146 fun ⟨_, _, _, _⟩ => Safe.bind s147 fun ⟨_, _, _⟩ => Safe.bind s148 fun ⟨_, _, _, _⟩ => Safe.bind s149 fun ⟨_,
    _, _, _, _, _⟩ => Safe.bind s150 fun ⟨_, _⟩ => Safe.bind s151 fun ⟨_, _, _, _⟩ => Safe.bind s152 fun ⟨_, _, _, _,
    _⟩ => Safe.bind s153 fun ⟨_, _, _, _⟩ => Safe.bind s154 fun ⟨_, _⟩ => Safe.bind s155 fun ⟨_, _, _, _, _⟩ =>
    Safe.bind s156 fun ⟨_, _, _⟩ => Safe.bind s157 fun ⟨_, _, _, _, _⟩ => Safe.ret _

theorem s182 {k0_t2 v2782 v2785 v3218 v3222 v3259 v3263 v3300 v3324 v3337 v3342 v3345 v3351} : Safe (F := F) 𝒱₀ c A (k0_part182 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 k0_t2 v2782 v2785 v3218 v3222 v3259 v3263 v3300 v3324 v3337 v3342 v3345 v3351) := by
  delta k0_part182; exact
    Safe.bind s158 fun ⟨_, _, _, _⟩ => Safe.bind s159 fun ⟨_, _, _, _, _, _⟩ => Safe.bind s160 fun ⟨_, _⟩ => Safe.bind
    s161 fun ⟨_, _, _, _, _, _, _, _⟩ => Safe.bind s162 fun _ => Safe.bind s163 fun ⟨_, _, _, _⟩ => Safe.bind s164 fun
    ⟨_, _, _⟩ => Safe.bind s165 fun ⟨_, _, _, _⟩ => Safe.bind s166 fun ⟨_, _, _, _, _⟩ => Safe.bind s167 fun ⟨_, _, _⟩
    => Safe.bind s168 fun ⟨_, _, _, _⟩ => Safe.bind s169 fun ⟨_, _, _⟩ => Safe.bind s170 fun ⟨_, _, _, _, _, _, _⟩ =>
    Safe.bind s171 fun ⟨_, _⟩ => Safe.bind s172 fun ⟨_, _, _, _, _⟩ => Safe.bind s173 fun ⟨_, _, _⟩ => Safe.bind s174
    fun ⟨_, _, _, _, _, _⟩ => Safe.bind s175 fun _ => Safe.bind s176 fun ⟨_, _, _⟩ => Safe.bind s177 fun ⟨_, _, _⟩ =>
    Safe.bind s178 fun ⟨_, _, _⟩ => Safe.bind s179 fun ⟨_, _, _, _, _, _⟩ => Safe.bind s180 fun ⟨_, _⟩ => ld7 fun _ =>
    ld20 fun _ => ld16 fun _ => ld8 fun _ => Safe.ret _

theorem s224 {v637 c1_i32_297 k0_t3 arg24 arg25 arg26 arg27 arg28 arg29 arg30 arg31} : Safe (F := F) 𝒱₀ c A (k0_part224 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v637 c1_i32_297 k0_t3 arg24 arg25 arg26 arg27 arg28 arg29 arg30 arg31) := by
  delta k0_part224; exact
    Safe.bind s183 fun ⟨_, _, _, _, _, _, _, _⟩ => Safe.bind s184 fun _ => Safe.bind s185 fun ⟨_, _, _, _, _⟩ =>
    Safe.bind s186 fun ⟨_, _, _⟩ => Safe.bind s187 fun ⟨_, _, _, _, _, _⟩ => Safe.bind s188 fun ⟨_, _, _, _, _⟩ =>
    Safe.bind s189 fun ⟨_, _, _, _⟩ => Safe.bind s190 fun ⟨_, _, _⟩ => Safe.bind s191 fun ⟨_, _, _, _⟩ => Safe.bind
    s192 fun ⟨_, _, _, _, _, _⟩ => Safe.bind s193 fun ⟨_, _⟩ => Safe.bind s194 fun ⟨_, _, _, _⟩ => Safe.bind s195 fun
    ⟨_, _, _, _, _⟩ => Safe.bind s196 fun ⟨_, _, _, _⟩ => Safe.bind s197 fun ⟨_, _⟩ => Safe.bind s198 fun ⟨_, _, _, _,
    _⟩ => Safe.bind s199 fun ⟨_, _, _⟩ => Safe.bind s200 fun ⟨_, _, _, _, _⟩ => Safe.bind s201 fun ⟨_, _, _, _⟩ =>
    Safe.bind s202 fun ⟨_, _, _, _, _, _⟩ => Safe.bind s203 fun ⟨_, _⟩ => Safe.bind s204 fun ⟨_, _, _, _, _, _, _, _⟩
    => Safe.bind s205 fun _ => Safe.bind s206 fun ⟨_, _, _, _⟩ => Safe.bind s207 fun ⟨_, _, _⟩ => Safe.bind s208 fun
    ⟨_, _, _, _⟩ => Safe.bind s209 fun ⟨_, _, _, _, _⟩ => Safe.bind s210 fun ⟨_, _, _⟩ => Safe.bind s211 fun ⟨_, _, _,
    _⟩ => Safe.bind s212 fun ⟨_, _, _⟩ => Safe.bind s213 fun ⟨_, _, _, _, _, _, _⟩ => Safe.bind s214 fun ⟨_, _⟩ =>
    Safe.bind s215 fun ⟨_, _, _, _, _⟩ => Safe.bind s216 fun ⟨_, _, _⟩ => Safe.bind s217 fun ⟨_, _, _, _, _, _⟩ =>
    Safe.bind s218 fun _ => Safe.bind s219 fun ⟨_, _, _⟩ => Safe.bind s220 fun ⟨_, _, _⟩ => Safe.bind s221 fun ⟨_, _,
    _⟩ => Safe.bind s222 fun ⟨_, _, _, _, _, _⟩ => Safe.bind s223 fun ⟨_, _⟩ => ld7 fun _ => ld20 fun _ => Safe.ret _

theorem s266 {v659 c1_i32_298 k0_t4 arg24 arg25 arg26 arg27 arg28 arg29 arg30 arg31} : Safe (F := F) 𝒱₀ c A (k0_part266 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v659 c1_i32_298 k0_t4 arg24 arg25 arg26 arg27 arg28 arg29 arg30 arg31) := by
  delta k0_part266; exact
    Safe.bind s225 fun ⟨_, _, _, _, _, _, _, _⟩ => Safe.bind s226 fun _ => Safe.bind s227 fun ⟨_, _, _, _, _⟩ =>
    Safe.bind s228 fun ⟨_, _, _⟩ => Safe.bind s229 fun ⟨_, _, _, _, _, _⟩ => Safe.bind s230 fun ⟨_, _, _, _, _⟩ =>
    Safe.bind s231 fun ⟨_, _, _, _⟩ => Safe.bind s232 fun ⟨_, _, _⟩ => Safe.bind s233 fun ⟨_, _, _, _⟩ => Safe.bind
    s234 fun ⟨_, _, _, _, _, _⟩ => Safe.bind s235 fun ⟨_, _⟩ => Safe.bind s236 fun ⟨_, _, _, _⟩ => Safe.bind s237 fun
    ⟨_, _, _, _, _⟩ => Safe.bind s238 fun ⟨_, _, _, _⟩ => Safe.bind s239 fun ⟨_, _⟩ => Safe.bind s240 fun ⟨_, _, _, _,
    _⟩ => Safe.bind s241 fun ⟨_, _, _⟩ => Safe.bind s242 fun ⟨_, _, _, _, _⟩ => Safe.bind s243 fun ⟨_, _, _, _⟩ =>
    Safe.bind s244 fun ⟨_, _, _, _, _, _⟩ => Safe.bind s245 fun ⟨_, _⟩ => Safe.bind s246 fun ⟨_, _, _, _, _, _, _, _⟩
    => Safe.bind s247 fun _ => Safe.bind s248 fun ⟨_, _, _, _⟩ => Safe.bind s249 fun ⟨_, _, _⟩ => Safe.bind s250 fun
    ⟨_, _, _, _⟩ => Safe.bind s251 fun ⟨_, _, _, _, _⟩ => Safe.bind s252 fun ⟨_, _, _⟩ => Safe.bind s253 fun ⟨_, _, _,
    _⟩ => Safe.bind s254 fun ⟨_, _, _⟩ => Safe.bind s255 fun ⟨_, _, _, _, _, _, _⟩ => Safe.bind s256 fun ⟨_, _⟩ =>
    Safe.bind s257 fun ⟨_, _, _, _, _⟩ => Safe.bind s258 fun ⟨_, _, _⟩ => Safe.bind s259 fun ⟨_, _, _, _, _, _⟩ =>
    Safe.bind s260 fun _ => Safe.bind s261 fun ⟨_, _, _⟩ => Safe.bind s262 fun ⟨_, _, _⟩ => Safe.bind s263 fun ⟨_, _,
    _⟩ => Safe.bind s264 fun ⟨_, _, _, _, _, _⟩ => Safe.bind s265 fun ⟨_, _⟩ => ld7 fun _ => ld20 fun _ => Safe.ret _

theorem s287 {v679 c1_i32_314 k0_t5 arg24 arg25 arg26 arg27 arg28 arg29 arg30 arg31} : Safe (F := F) 𝒱₀ c A (k0_part287 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v679 c1_i32_314 k0_t5 arg24 arg25 arg26 arg27 arg28 arg29 arg30 arg31) := by
  delta k0_part287; exact
    Safe.bind s267 fun ⟨_, _, _, _, _, _, _⟩ => Safe.bind s268 fun _ => Safe.bind s269 fun ⟨_, _, _, _⟩ => Safe.bind
    s270 fun ⟨_, _, _⟩ => Safe.bind s271 fun ⟨_, _, _, _⟩ => Safe.bind s272 fun ⟨_, _, _, _, _⟩ => Safe.bind s273 fun
    ⟨_, _, _⟩ => Safe.bind s274 fun ⟨_, _, _, _⟩ => Safe.bind s275 fun ⟨_, _, _⟩ => Safe.bind s276 fun ⟨_, _, _, _, _,
    _, _⟩ => Safe.bind s277 fun ⟨_, _⟩ => Safe.bind s278 fun ⟨_, _, _, _, _⟩ => Safe.bind s279 fun ⟨_, _, _⟩ =>
    Safe.bind s280 fun ⟨_, _, _, _, _, _⟩ => Safe.bind s281 fun _ => Safe.bind s282 fun ⟨_, _, _⟩ => Safe.bind s283
    fun ⟨_, _, _⟩ => Safe.bind s284 fun ⟨_, _, _⟩ => Safe.bind s285 fun ⟨_, _, _, _, _, _⟩ => Safe.bind s286 fun ⟨_,
    _⟩ => ld7 fun _ => ld20 fun _ => ld16 fun _ => ld8 fun _ => Safe.ret _

theorem s308 {v701 c1_i32_315 k0_t6 arg24 arg25 arg26 arg27 arg28 arg29 arg30 arg31} : Safe (F := F) 𝒱₀ c A (k0_part308 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v701 c1_i32_315 k0_t6 arg24 arg25 arg26 arg27 arg28 arg29 arg30 arg31) := by
  delta k0_part308; exact
    Safe.bind s288 fun ⟨_, _, _, _, _, _, _⟩ => Safe.bind s289 fun _ => Safe.bind s290 fun ⟨_, _, _, _⟩ => Safe.bind
    s291 fun ⟨_, _, _⟩ => Safe.bind s292 fun ⟨_, _, _, _⟩ => Safe.bind s293 fun ⟨_, _, _, _, _⟩ => Safe.bind s294 fun
    ⟨_, _, _⟩ => Safe.bind s295 fun ⟨_, _, _, _⟩ => Safe.bind s296 fun ⟨_, _, _⟩ => Safe.bind s297 fun ⟨_, _, _, _, _,
    _, _⟩ => Safe.bind s298 fun ⟨_, _⟩ => Safe.bind s299 fun ⟨_, _, _, _, _⟩ => Safe.bind s300 fun ⟨_, _, _⟩ =>
    Safe.bind s301 fun ⟨_, _, _, _, _, _⟩ => Safe.bind s302 fun _ => Safe.bind s303 fun ⟨_, _, _⟩ => Safe.bind s304
    fun ⟨_, _, _⟩ => Safe.bind s305 fun ⟨_, _, _⟩ => Safe.bind s306 fun ⟨_, _, _, _, _, _⟩ => Safe.bind s307 fun ⟨_,
    _⟩ => ld7 fun _ => ld20 fun _ => ld16 fun _ => ld8 fun _ => Safe.ret _

set_option maxHeartbeats 4000000 in
theorem s350 {v24 v703_0 v703_1 v703_2 v703_3 v703_4 v703_5 v703_6 v703_7 v721 c2_i32_324 v722 v723} : Safe (F := F) 𝒱₀ c A (k0_part350 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v703_0 v703_1 v703_2 v703_3 v703_4 v703_5 v703_6 v703_7 v721 c2_i32_324 v722 v723) := by
  delta k0_part350; exact
    Safe.bind (Safe.loop fun _ (_, _, _, _, _, _, _, _) => Safe.bind s309 fun ⟨_, _, _, _, _, _, _⟩ => Safe.bind s310
    fun ⟨_, _⟩ => Safe.bind s311 fun ⟨_, _, _⟩ => Safe.bind s312 fun ⟨_, _, _, _⟩ => Safe.bind s313 fun ⟨_, _, _, _,
    _, _⟩ => Safe.bind s314 fun ⟨_, _, _, _, _, _⟩ => Safe.bind s315 fun ⟨_, _, _⟩ => Safe.bind s316 fun ⟨_, _, _, _,
    _⟩ => Safe.bind s317 fun ⟨_, _, _⟩ => Safe.bind s318 fun ⟨_, _, _, _, _⟩ => ld8 fun _ => ld16 fun _ => st16 fun _
    => ld19 fun _ => st19 fun _ => Safe.ret _) fun (_, _, _, _, _, _, _, _) => Safe.bind (Safe.loop fun _ (_, _, _, _,
    _, _, _, _) => Safe.bind s319 fun ⟨_, _, _, _, _, _, _⟩ => Safe.bind s320 fun ⟨_, _⟩ => Safe.bind s321 fun ⟨_, _,
    _⟩ => Safe.bind s322 fun ⟨_, _, _, _⟩ => Safe.bind s323 fun ⟨_, _, _, _, _, _⟩ => Safe.bind s324 fun ⟨_, _, _, _,
    _, _⟩ => Safe.bind s325 fun ⟨_, _, _⟩ => Safe.bind s326 fun ⟨_, _, _, _, _⟩ => Safe.bind s327 fun ⟨_, _, _⟩ =>
    Safe.bind s328 fun ⟨_, _, _, _, _⟩ => ld8 fun _ => ld16 fun _ => st16 fun _ => ld19 fun _ => st19 fun _ =>
    Safe.ret _) fun (_, _, _, _, _, _, _, _) => ld21 fun _ => st21 fun _ => ld22 fun _ => st22 fun _ => ld21 fun _ =>
    st21 fun _ => ld22 fun _ => st22 fun _ => Safe.ret _

set_option maxHeartbeats 4000000 in
theorem s351 {v24 v745_2 v745_3 v745_6 v745_7} : Safe (F := F) 𝒱₀ c A (k0_part351 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v745_2 v745_3 v745_6 v745_7) := by
  delta k0_part351; exact
    ld21 fun _ => st21 fun _ => ld22 fun _ => st22 fun _ => ld21 fun _ => st21 fun _ => ld22 fun _ => st22 fun _ =>
    Safe.dite (fun _ => Safe.bind s329 fun _ => Safe.bind s330 fun _ => Safe.bind s331 fun ⟨_, _, _⟩ => ld21 fun _ =>
    ld16 fun _ => ld8 fun _ => ld16 fun _ => st16 fun _ => ld21 fun _ => st21 fun _ => ld21 fun _ => ld21 fun _ =>
    Safe.ret _) fun _ => ld21 fun _ => ld21 fun _ => Safe.ret _

set_option maxHeartbeats 4000000 in
theorem s347 {v24 v552 v565 v578 v591 v592 v593 v594 v595 c16_i32 v596 v598} : Safe (F := F) 𝒱₀ c A (k0_part347 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v552 v565 v578 v591 v592 v593 v594 v595 c16_i32 v596 v598) := by
  delta k0_part347; exact
    Safe.bind (Safe.loop fun _ (_, _, _, _, _, _, _, _) => Safe.bind s96 fun ⟨_, _, _, _, _, _, _, _, _, _, _, _⟩ =>
    Safe.bind s97 fun ⟨_, _, _, _, _, _, _, _, _, _⟩ => ld16 fun _ => st16 fun _ => ld19 fun _ => st19 fun _ =>
    Safe.ret _) fun (_, _, _, _, _, _, _, _) => Safe.bind (Safe.loop fun _ (_, _, _, _, _, _, _, _) => Safe.bind s181
    fun ⟨_, _, _, _, _, _, _, _, _, _, _, _⟩ => Safe.bind s182 fun ⟨_, _, _, _, _, _, _, _, _, _⟩ => ld16 fun _ =>
    st16 fun _ => ld19 fun _ => st19 fun _ => Safe.ret _) fun (_, _, _, _, _, _, _, _) => Safe.ret _

set_option maxHeartbeats 4000000 in
theorem s348 {v24 v619_0 v619_1 v619_2 v619_3 v619_4 v619_5 v619_6 v619_7 v637 c8_i32_289 v638 v639} : Safe (F := F) 𝒱₀ c A (k0_part348 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v619_0 v619_1 v619_2 v619_3 v619_4 v619_5 v619_6 v619_7 v637 c8_i32_289 v638 v639) := by
  delta k0_part348; exact
    Safe.bind (Safe.loop fun _ (_, _, _, _, _, _, _, _) => Safe.bind s224 fun ⟨_, _, _, _, _, _, _, _, _, _, _⟩ =>
    ld16 fun _ => ld8 fun _ => ld16 fun _ => st16 fun _ => ld19 fun _ => st19 fun _ => Safe.ret _) fun (_, _, _, _, _,
    _, _, _) => Safe.bind (Safe.loop fun _ (_, _, _, _, _, _, _, _) => Safe.bind s266 fun ⟨_, _, _, _, _, _, _, _, _,
    _, _⟩ => ld16 fun _ => ld8 fun _ => ld16 fun _ => st16 fun _ => ld19 fun _ => st19 fun _ => Safe.ret _) fun (_, _,
    _, _, _, _, _, _) => Safe.ret _

set_option maxHeartbeats 4000000 in
theorem s349 {v24 v661_0 v661_1 v661_2 v661_3 v661_4 v661_5 v661_6 v661_7 v679 c4_i32 v680 v681} : Safe (F := F) 𝒱₀ c A (k0_part349 (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 v24 v661_0 v661_1 v661_2 v661_3 v661_4 v661_5 v661_6 v661_7 v679 c4_i32 v680 v681) := by
  delta k0_part349; exact
    Safe.bind (Safe.loop fun _ (_, _, _, _, _, _, _, _) => Safe.bind s287 fun ⟨_, _, _, _, _, _, _, _, _⟩ => ld16 fun
    _ => st16 fun _ => ld19 fun _ => st19 fun _ => Safe.ret _) fun (_, _, _, _, _, _, _, _) => Safe.bind (Safe.loop
    fun _ (_, _, _, _, _, _, _, _) => Safe.bind s308 fun ⟨_, _, _, _, _, _, _, _, _⟩ => ld16 fun _ => st16 fun _ =>
    ld19 fun _ => st19 fun _ => Safe.ret _) fun (_, _, _, _, _, _, _, _) => Safe.ret _

end Cert.KernelIdeal.Nsa

end
-- ==== Proof.NsaBody.lean ====
/-
  The whole attention body runs and hands every buffer back.
-/
module

public import proofs.«01_k».proof.Proof.NsaSwitch
public import proofs.«01_k».proof.Proof.NsaLoops

@[expose] public section

noncomputable section

namespace Cert.KernelIdeal.Nsa

open Idealize.ShloMosaic Idealize.ShloMosaic.TcCoe
open Idealize.SL Idealize.SL.Sem

variable {F : FTy → Type} [FloatOps F] [Facts] {𝒱₀ : Variants} {c : Dev nD} {A : Args}

set_option maxHeartbeats 8000000 in
theorem s0 : Safe (F := F) 𝒱₀ c A (cc0_nsa_prompt (F := F) A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22) := by
  delta cc0_nsa_prompt; exact
    Safe.bind s332 fun ⟨_, _, _, _, _, _, _, _, _, _, _⟩ => Safe.bind s333 fun ⟨_, _, _, _, _⟩ => Safe.bind s334 fun
    ⟨_, _⟩ => Safe.bind s335 fun ⟨_, _, _⟩ => Safe.bind s336 fun ⟨_, _, _, _, _, _⟩ => Safe.bind s337 fun ⟨_, _⟩ =>
    Safe.bind s338 fun ⟨_, _, _, _⟩ => Safe.bind s339 fun ⟨_, _⟩ => Safe.bind s340 fun ⟨_, _⟩ => Safe.bind s341 fun
    ⟨_, _⟩ => Safe.bind s342 fun _ => Safe.bind s343 fun _ => Safe.bind s344 fun _ => Safe.bind s345 fun ⟨_, _, _⟩ =>
    Safe.bind s346 fun ⟨_, _, _, _, _, _, _, _, _⟩ => Safe.bind s347 fun ⟨_, _, _, _, _, _, _, _, _, _, _, _⟩ =>
    Safe.bind s348 fun ⟨_, _, _, _, _, _, _, _, _, _, _, _⟩ => Safe.bind s349 fun ⟨_, _, _, _, _, _, _, _, _, _, _, _⟩
    => Safe.bind s350 fun ⟨_, _, _, _⟩ => Safe.bind s351 fun ⟨_, _, _⟩ => Safe.bind s352 fun ⟨_, _, _, _, _, _⟩ =>
    Safe.bind s353 fun ⟨_, _, _⟩ => Safe.bind s354 fun ⟨_, _, _⟩ => Safe.bind s355 fun ⟨_, _, _, _⟩ => Safe.bind s356
    fun ⟨_, _⟩ => Safe.bind s357 fun ⟨_, _⟩ => Safe.bind s358 fun ⟨_, _, _, _, _⟩ => Safe.bind s359 fun ⟨_, _, _⟩ =>
    Safe.bind s360 fun ⟨_, _⟩ => Safe.bind s361 fun ⟨_, _⟩ => Safe.bind s362 fun ⟨_, _, _⟩ => Safe.bind s363 fun ⟨_,
    _, _, _, _⟩ => Safe.bind s364 fun _ => Safe.bind s365 fun ⟨_, _, _⟩ => Safe.bind s366 fun ⟨_, _⟩ => Safe.bind s367
    fun ⟨_, _⟩ => Safe.bind s368 fun ⟨_, _, _, _, _⟩ => Safe.bind s369 fun _ => ld14 fun _ => st14 fun _ => Safe.ret _

end Cert.KernelIdeal.Nsa

end
-- ==== Proof.NsaHost.lean ====
/-
  What the host code before the attention call does to the argument arrays: nothing.
-/
module

public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Nsa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The argument arrays. -/
def given : List (Ref sig .tc) := [main_arg0, main_arg1, main_arg2, main_arg3, main_arg4, main_arg5, main_arg6, main_arg7, main_arg8]

/-- A host operation that allocates nothing and writes no argument array. -/
def Plain (op : HloOp τ sig (Elt F)) : Prop := op.fresh = ∅ ∧ ∀ b ∈ given, Proc.devRef .tc b ∉ op.writes

theorem hostOps0_plain : (hostOps0 : List (HloOp τ sig (Elt F))).Forall Plain := by
  simp only [hostOps0, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_1_plain : (hostOps0_1 : List (HloOp τ sig (Elt F))).Forall Plain := by
  simp only [hostOps0_1, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_2_plain : (hostOps0_2 : List (HloOp τ sig (Elt F))).Forall Plain := by
  simp only [hostOps0_2, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_3_plain : (hostOps0_3 : List (HloOp τ sig (Elt F))).Forall Plain := by
  simp only [hostOps0_3, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_4_plain : (hostOps0_4 : List (HloOp τ sig (Elt F))).Forall Plain := by
  simp only [hostOps0_4, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_5_plain : (hostOps0_5 : List (HloOp τ sig (Elt F))).Forall Plain := by
  simp only [hostOps0_5, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_6_plain : (hostOps0_6 : List (HloOp τ sig (Elt F))).Forall Plain := by
  simp only [hostOps0_6, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_7_plain : (hostOps0_7 : List (HloOp τ sig (Elt F))).Forall Plain := by
  simp only [hostOps0_7, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_8_plain : (hostOps0_8 : List (HloOp τ sig (Elt F))).Forall Plain := by
  simp only [hostOps0_8, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_9_plain : (hostOps0_9 : List (HloOp τ sig (Elt F))).Forall Plain := by
  simp only [hostOps0_9, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_10_plain : (hostOps0_10 : List (HloOp τ sig (Elt F))).Forall Plain := by
  simp only [hostOps0_10, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_11_plain : (hostOps0_11 : List (HloOp τ sig (Elt F))).Forall Plain := by
  simp only [hostOps0_11, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_12_plain : (hostOps0_12 : List (HloOp τ sig (Elt F))).Forall Plain := by
  simp only [hostOps0_12, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_13_plain : (hostOps0_13 : List (HloOp τ sig (Elt F))).Forall Plain := by
  simp only [hostOps0_13, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_14_plain : (hostOps0_14 : List (HloOp τ sig (Elt F))).Forall Plain := by
  simp only [hostOps0_14, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_15_plain : (hostOps0_15 : List (HloOp τ sig (Elt F))).Forall Plain := by
  simp only [hostOps0_15, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_16_plain : (hostOps0_16 : List (HloOp τ sig (Elt F))).Forall Plain := by
  simp only [hostOps0_16, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_17_plain : (hostOps0_17 : List (HloOp τ sig (Elt F))).Forall Plain := by
  simp only [hostOps0_17, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_18_plain : (hostOps0_18 : List (HloOp τ sig (Elt F))).Forall Plain := by
  simp only [hostOps0_18, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_19_plain : (hostOps0_19 : List (HloOp τ sig (Elt F))).Forall Plain := by
  simp only [hostOps0_19, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_20_plain : (hostOps0_20 : List (HloOp τ sig (Elt F))).Forall Plain := by
  simp only [hostOps0_20, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_21_plain : (hostOps0_21 : List (HloOp τ sig (Elt F))).Forall Plain := by
  simp only [hostOps0_21, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_22_plain : (hostOps0_22 : List (HloOp τ sig (Elt F))).Forall Plain := by
  simp only [hostOps0_22, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_23_plain : (hostOps0_23 : List (HloOp τ sig (Elt F))).Forall Plain := by
  simp only [hostOps0_23, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_24_plain : (hostOps0_24 : List (HloOp τ sig (Elt F))).Forall Plain := by
  simp only [hostOps0_24, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_25_plain : (hostOps0_25 : List (HloOp τ sig (Elt F))).Forall Plain := by
  simp only [hostOps0_25, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_26_plain : (hostOps0_26 : List (HloOp τ sig (Elt F))).Forall Plain := by
  simp only [hostOps0_26, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_27_plain : (hostOps0_27 : List (HloOp τ sig (Elt F))).Forall Plain := by
  simp only [hostOps0_27, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_28_plain : (hostOps0_28 : List (HloOp τ sig (Elt F))).Forall Plain := by
  simp only [hostOps0_28, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_29_plain : (hostOps0_29 : List (HloOp τ sig (Elt F))).Forall Plain := by
  simp only [hostOps0_29, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_30_plain : (hostOps0_30 : List (HloOp τ sig (Elt F))).Forall Plain := by
  simp only [hostOps0_30, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_31_plain : (hostOps0_31 : List (HloOp τ sig (Elt F))).Forall Plain := by
  simp only [hostOps0_31, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_32_plain : (hostOps0_32 : List (HloOp τ sig (Elt F))).Forall Plain := by
  simp only [hostOps0_32, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_33_plain : (hostOps0_33 : List (HloOp τ sig (Elt F))).Forall Plain := by
  simp only [hostOps0_33, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_34_plain : (hostOps0_34 : List (HloOp τ sig (Elt F))).Forall Plain := by
  simp only [hostOps0_34, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_35_plain : (hostOps0_35 : List (HloOp τ sig (Elt F))).Forall Plain := by
  simp only [hostOps0_35, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_36_plain : (hostOps0_36 : List (HloOp τ sig (Elt F))).Forall Plain := by
  simp only [hostOps0_36, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_37_plain : (hostOps0_37 : List (HloOp τ sig (Elt F))).Forall Plain := by
  simp only [hostOps0_37, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_38_plain : (hostOps0_38 : List (HloOp τ sig (Elt F))).Forall Plain := by
  simp only [hostOps0_38, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_39_plain : (hostOps0_39 : List (HloOp τ sig (Elt F))).Forall Plain := by
  simp only [hostOps0_39, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_40_plain : (hostOps0_40 : List (HloOp τ sig (Elt F))).Forall Plain := by
  simp only [hostOps0_40, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_41_plain : (hostOps0_41 : List (HloOp τ sig (Elt F))).Forall Plain := by
  simp only [hostOps0_41, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_42_plain : (hostOps0_42 : List (HloOp τ sig (Elt F))).Forall Plain := by
  simp only [hostOps0_42, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_43_plain : (hostOps0_43 : List (HloOp τ sig (Elt F))).Forall Plain := by
  simp only [hostOps0_43, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_44_plain : (hostOps0_44 : List (HloOp τ sig (Elt F))).Forall Plain := by
  simp only [hostOps0_44, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_45_plain : (hostOps0_45 : List (HloOp τ sig (Elt F))).Forall Plain := by
  simp only [hostOps0_45, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_46_plain : (hostOps0_46 : List (HloOp τ sig (Elt F))).Forall Plain := by
  simp only [hostOps0_46, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_47_plain : (hostOps0_47 : List (HloOp τ sig (Elt F))).Forall Plain := by
  simp only [hostOps0_47, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)
theorem hostOps0_48_plain : (hostOps0_48 : List (HloOp τ sig (Elt F))).Forall Plain := by
  simp only [hostOps0_48, List.Forall, Plain, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first
    | rfl
    | exact fun b hb => StableHlo.devRef_ne_of_ne (by revert hb b; decide)

/-- The host operations, stretch by stretch. -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

theorem stretches_plain : (stretches (F := F)).Forall fun ops => ops.Forall Plain := by
  simp only [List.Forall]; exact ⟨hostOps0_plain, hostOps0_1_plain, hostOps0_2_plain, hostOps0_3_plain, hostOps0_4_plain, hostOps0_5_plain, hostOps0_6_plain, hostOps0_7_plain, hostOps0_8_plain, hostOps0_9_plain, hostOps0_10_plain, hostOps0_11_plain, hostOps0_12_plain, hostOps0_13_plain, hostOps0_14_plain, hostOps0_15_plain, hostOps0_16_plain, hostOps0_17_plain, hostOps0_18_plain, hostOps0_19_plain, hostOps0_20_plain, hostOps0_21_plain, hostOps0_22_plain, hostOps0_23_plain, hostOps0_24_plain, hostOps0_25_plain, hostOps0_26_plain, hostOps0_27_plain, hostOps0_28_plain, hostOps0_29_plain, hostOps0_30_plain, hostOps0_31_plain, hostOps0_32_plain, hostOps0_33_plain, hostOps0_34_plain, hostOps0_35_plain, hostOps0_36_plain, hostOps0_37_plain, hostOps0_38_plain, hostOps0_39_plain, hostOps0_40_plain, hostOps0_41_plain, hostOps0_42_plain, hostOps0_43_plain, hostOps0_44_plain, hostOps0_45_plain, hostOps0_46_plain, hostOps0_47_plain, hostOps0_48_plain⟩

theorem stretches_sub : (stretches (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub⟩

theorem forall_mem {α : Type} {P : α → Prop} {l : List α} (h : l.Forall P) : ∀ a ∈ l, P a := List.forall_iff_forall_mem.mp h

theorem stretches_fresh : (stretches (F := F)).Forall fun ops => ops.Forall fun op => op.fresh = ∅ :=
  List.forall_iff_forall_mem.mpr fun ops ho => List.forall_iff_forall_mem.mpr fun op h =>
    (forall_mem (forall_mem stretches_plain ops ho) op h).1

variable (m : (ℓ : Loc nD τ sig) → Buf (Elt F) ℓ)

/-- A core's buffers as the attention call finds them: after every host operation before it. -/
abbrev found (c : Dev nD) (b : Ref sig .tc) : Buf (Elt F) ((c : Thread nD τ).loc b) :=
  StableHlo.after (List.flatten stretches) (fun b => m (c, b)) (Proc.devRef .tc b)

/-- An argument array is found as launched. -/
theorem found_given (c : Dev nD) {b : Ref sig .tc} (hb : b ∈ given) : found m c b = m ((c : Thread nD τ).loc b) :=
  StableHlo.after_of_forall_not_mem (b := Proc.devRef .tc b) _ _ fun op ho => by
    obtain ⟨ops, h₁, h₂⟩ := List.mem_flatten.mp ho
    exact (forall_mem (forall_mem stretches_plain ops h₁) op h₂).2 b hb

set_option maxHeartbeats 2000000 in
/-- The host code runs and reaches the call with the buffers as `found` says. -/
theorem reach (𝒱₀ : Variants) :
    Pipeline.HMain (Ix := Unit) (Name := ℕ) (U := UR sig nD τ) (Lvl := ℕ) cfgs 0 defs₀ 𝒱₀ m (main (F := F)) (found m) :=
  Pipeline.hmain_prefixes cfgs 0 defs₀ 𝒱₀ m main stretches stretches_sub stretches_fresh main_chain

end Cert.KernelIdeal.Nsa

end
-- ==== Proof.NsaFrame.lean ====
/-
  The prompt attention's frame: at every grid point the body runs and hands its buffers back, so the launch
  terminates with every argument array as it was and every semaphore counter at zero.
-/
module

public import proofs.«01_k».proof.Proof.NsaBody
public import proofs.«01_k».proof.Proof.NsaHost
public import proofs.«01_k».proof.Proof.Gen.KernelIdeal.Points

@[expose] public section

set_option maxRecDepth 16384

noncomputable section

namespace Cert.KernelIdeal.Nsa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal.Gen

variable {F : FTy → Type} [FloatOps F]

local notation "𝕄" => MT nD τ sig Unit (Elt F) ℕ (UR sig nD τ) ℕ

/-- What the body is handed at point `t`. -/
def handed (t : Fin cfg0.N) : Args :=
  ⟨(grid0.coords t),
    (win0_0.stage (cfg0.slots t 0)),
    (hstage0_0 ((cfg0.slots t 0).cast nbuf0_0)),
    (win0_1.stage (cfg0.slots t 1)),
    (hstage0_1 ((cfg0.slots t 1).cast nbuf0_1)),
    (win0_2.stage (cfg0.slots t 2)),
    (hstage0_2 ((cfg0.slots t 2).cast nbuf0_2)),
    (win0_3.stage (cfg0.slots t 3)),
    (hstage0_3 ((cfg0.slots t 3).cast nbuf0_3)),
    (win0_4.stage (cfg0.slots t 4)),
    (hstage0_4 ((cfg0.slots t 4).cast nbuf0_4)),
    (win0_5.stage (cfg0.slots t 5)),
    (hstage0_5 ((cfg0.slots t 5).cast nbuf0_5)),
    (win0_6.stage (cfg0.slots t 6)),
    (hstage0_6 ((cfg0.slots t 6).cast nbuf0_6)),
    (win0_7.stage (cfg0.slots t 7)),
    (hstage0_7 ((cfg0.slots t 7).cast nbuf0_7)),
    (win0_8.stage (cfg0.slots t 8)),
    (hstage0_8 ((cfg0.slots t 8).cast nbuf0_8)),
    (win0_9.stage (cfg0.slots t 9)),
    (hstage0_9 ((cfg0.slots t 9).cast nbuf0_9)),
    (win0_10.stage (cfg0.slots t 10)),
    (hstage0_10 ((cfg0.slots t 10).cast nbuf0_10)),
    (win0_11.stage (cfg0.slots t 11)),
    (hstage0_11 ((cfg0.slots t 11).cast nbuf0_11)),
    (win0_12.stage (cfg0.slots t 12)),
    (hstage0_12 ((cfg0.slots t 12).cast nbuf0_12)),
    (win0_13.stage (cfg0.slots t 13)),
    (hstage0_13 ((cfg0.slots t 13).cast nbuf0_13)),
    (Memref.whole cc0_scratch0),
    (Memref.isWhole_whole _),
    (Memref.whole cc0_scratch1),
    (Memref.isWhole_whole _),
    (Memref.whole cc0_scratch2),
    (Memref.isWhole_whole _),
    (Memref.whole cc0_scratch3),
    (Memref.isWhole_whole _),
    (Memref.whole cc0_scratch4),
    (Memref.isWhole_whole _),
    (Memref.whole cc0_scratch5),
    (Memref.isWhole_whole _),
    (Memref.whole cc0_scratch6),
    (Memref.isWhole_whole _),
    (Memref.whole cc0_scratch7),
    (Memref.isWhole_whole _)⟩

/-- The buffers one by one: the windows' current buffers, then the scratch buffers. -/
theorem own_handed (c : Dev nD) (t : Fin cfg0.N) :
    (Own c (handed t) : sProp 𝕄) = iprop(Held c (win0_0.stage (cfg0.slots t 0)) ∗ Held c (win0_1.stage (cfg0.slots t 1)) ∗ Held c (win0_2.stage (cfg0.slots t 2)) ∗ Held c (win0_3.stage (cfg0.slots t 3)) ∗ Held c (win0_4.stage (cfg0.slots t 4)) ∗ Held c (win0_5.stage (cfg0.slots t 5)) ∗ Held c (win0_6.stage (cfg0.slots t 6)) ∗ Held c (win0_7.stage (cfg0.slots t 7)) ∗ Held c (win0_8.stage (cfg0.slots t 8)) ∗ Held c (win0_9.stage (cfg0.slots t 9)) ∗ Held c (win0_10.stage (cfg0.slots t 10)) ∗ Held c (win0_11.stage (cfg0.slots t 11)) ∗ Held c (win0_12.stage (cfg0.slots t 12)) ∗ Held c (win0_13.stage (cfg0.slots t 13)) ∗ Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7)) :=
  bigSep_univ_eq_bigSepL [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide) _

theorem held_of_owns (c : Dev nD) {s : Shape} {e : EltTy} (b : Memref sig .tc .vmem s e) (X : s.Idx → Elt F e) :
    (owns (c : Thread nD τ) b fullShare X : sProp 𝕄) ⊢ Held c b := by
  unfold owns Held; iintro ⟨%f, -, H⟩; iexists f; iexact H

theorem held_of_whole0 (c : Dev nD) :
    (iprop(∃ f : Buf (Elt F) ((c : Thread nD τ).loc cc0_scratch0), ((c : Thread nD τ).loc cc0_scratch0) ↦{fullShare} f) : sProp 𝕄) ⊢ Held c (Memref.whole cc0_scratch0) := by
  unfold Held; simp only [Memref.view_whole, View.set_whole]; exact .rfl

theorem whole_of_held0 (c : Dev nD) :
    (Held c (Memref.whole cc0_scratch0) : sProp 𝕄) ⊢ iprop(∃ f : Buf (Elt F) ((c : Thread nD τ).loc cc0_scratch0), ((c : Thread nD τ).loc cc0_scratch0) ↦{fullShare} f) := by
  unfold Held; simp only [Memref.view_whole, View.set_whole]; exact .rfl

theorem held_of_whole1 (c : Dev nD) :
    (iprop(∃ f : Buf (Elt F) ((c : Thread nD τ).loc cc0_scratch1), ((c : Thread nD τ).loc cc0_scratch1) ↦{fullShare} f) : sProp 𝕄) ⊢ Held c (Memref.whole cc0_scratch1) := by
  unfold Held; simp only [Memref.view_whole, View.set_whole]; exact .rfl

theorem whole_of_held1 (c : Dev nD) :
    (Held c (Memref.whole cc0_scratch1) : sProp 𝕄) ⊢ iprop(∃ f : Buf (Elt F) ((c : Thread nD τ).loc cc0_scratch1), ((c : Thread nD τ).loc cc0_scratch1) ↦{fullShare} f) := by
  unfold Held; simp only [Memref.view_whole, View.set_whole]; exact .rfl

theorem held_of_whole2 (c : Dev nD) :
    (iprop(∃ f : Buf (Elt F) ((c : Thread nD τ).loc cc0_scratch2), ((c : Thread nD τ).loc cc0_scratch2) ↦{fullShare} f) : sProp 𝕄) ⊢ Held c (Memref.whole cc0_scratch2) := by
  unfold Held; simp only [Memref.view_whole, View.set_whole]; exact .rfl

theorem whole_of_held2 (c : Dev nD) :
    (Held c (Memref.whole cc0_scratch2) : sProp 𝕄) ⊢ iprop(∃ f : Buf (Elt F) ((c : Thread nD τ).loc cc0_scratch2), ((c : Thread nD τ).loc cc0_scratch2) ↦{fullShare} f) := by
  unfold Held; simp only [Memref.view_whole, View.set_whole]; exact .rfl

theorem held_of_whole3 (c : Dev nD) :
    (iprop(∃ f : Buf (Elt F) ((c : Thread nD τ).loc cc0_scratch3), ((c : Thread nD τ).loc cc0_scratch3) ↦{fullShare} f) : sProp 𝕄) ⊢ Held c (Memref.whole cc0_scratch3) := by
  unfold Held; simp only [Memref.view_whole, View.set_whole]; exact .rfl

theorem whole_of_held3 (c : Dev nD) :
    (Held c (Memref.whole cc0_scratch3) : sProp 𝕄) ⊢ iprop(∃ f : Buf (Elt F) ((c : Thread nD τ).loc cc0_scratch3), ((c : Thread nD τ).loc cc0_scratch3) ↦{fullShare} f) := by
  unfold Held; simp only [Memref.view_whole, View.set_whole]; exact .rfl

theorem held_of_whole4 (c : Dev nD) :
    (iprop(∃ f : Buf (Elt F) ((c : Thread nD τ).loc cc0_scratch4), ((c : Thread nD τ).loc cc0_scratch4) ↦{fullShare} f) : sProp 𝕄) ⊢ Held c (Memref.whole cc0_scratch4) := by
  unfold Held; simp only [Memref.view_whole, View.set_whole]; exact .rfl

theorem whole_of_held4 (c : Dev nD) :
    (Held c (Memref.whole cc0_scratch4) : sProp 𝕄) ⊢ iprop(∃ f : Buf (Elt F) ((c : Thread nD τ).loc cc0_scratch4), ((c : Thread nD τ).loc cc0_scratch4) ↦{fullShare} f) := by
  unfold Held; simp only [Memref.view_whole, View.set_whole]; exact .rfl

theorem held_of_whole5 (c : Dev nD) :
    (iprop(∃ f : Buf (Elt F) ((c : Thread nD τ).loc cc0_scratch5), ((c : Thread nD τ).loc cc0_scratch5) ↦{fullShare} f) : sProp 𝕄) ⊢ Held c (Memref.whole cc0_scratch5) := by
  unfold Held; simp only [Memref.view_whole, View.set_whole]; exact .rfl

theorem whole_of_held5 (c : Dev nD) :
    (Held c (Memref.whole cc0_scratch5) : sProp 𝕄) ⊢ iprop(∃ f : Buf (Elt F) ((c : Thread nD τ).loc cc0_scratch5), ((c : Thread nD τ).loc cc0_scratch5) ↦{fullShare} f) := by
  unfold Held; simp only [Memref.view_whole, View.set_whole]; exact .rfl

theorem held_of_whole6 (c : Dev nD) :
    (iprop(∃ f : Buf (Elt F) ((c : Thread nD τ).loc cc0_scratch6), ((c : Thread nD τ).loc cc0_scratch6) ↦{fullShare} f) : sProp 𝕄) ⊢ Held c (Memref.whole cc0_scratch6) := by
  unfold Held; simp only [Memref.view_whole, View.set_whole]; exact .rfl

theorem whole_of_held6 (c : Dev nD) :
    (Held c (Memref.whole cc0_scratch6) : sProp 𝕄) ⊢ iprop(∃ f : Buf (Elt F) ((c : Thread nD τ).loc cc0_scratch6), ((c : Thread nD τ).loc cc0_scratch6) ↦{fullShare} f) := by
  unfold Held; simp only [Memref.view_whole, View.set_whole]; exact .rfl

theorem held_of_whole7 (c : Dev nD) :
    (iprop(∃ f : Buf (Elt F) ((c : Thread nD τ).loc cc0_scratch7), ((c : Thread nD τ).loc cc0_scratch7) ↦{fullShare} f) : sProp 𝕄) ⊢ Held c (Memref.whole cc0_scratch7) := by
  unfold Held; simp only [Memref.view_whole, View.set_whole]; exact .rfl

theorem whole_of_held7 (c : Dev nD) :
    (Held c (Memref.whole cc0_scratch7) : sProp 𝕄) ⊢ iprop(∃ f : Buf (Elt F) ((c : Thread nD τ).loc cc0_scratch7), ((c : Thread nD τ).loc cc0_scratch7) ↦{fullShare} f) := by
  unfold Held; simp only [Memref.view_whole, View.set_whole]; exact .rfl

theorem owns_of_held (c : Dev nD) {s : Shape} {e : EltTy} (b : Memref sig .tc .vmem s e) :
    (Held c b : sProp 𝕄) ⊢ iprop(∃ X, ⌜True⌝ ∗ owns (c : Thread nD τ) b fullShare X) := by
  unfold owns Held; iintro ⟨%f, H⟩; iexists _; isplitr
  · ipureintro; trivial
  · iexists f; isplitr
    · ipureintro; rfl
    · iexact H

/-- A program that hands back what it takes, between a state that holds it and a state it gives. -/
theorem carry {c : Dev nD} {α : Type} {p : Prog (TpuEff nD τ sig (Elt F) Λ₀ .tc) α} {O R I J : sProp 𝕄}
    (hp : O ⊢ wp frame (wpE (defs₀ (F := F)) Variants.none (c : Thread nD τ) none) Set.univ p fun _ => O)
    (hI : I ⊢ iprop(O ∗ R)) (hJ : iprop(O ∗ R) ⊢ J) :
    I ⊢ wp frame (wpE (defs₀ (F := F)) Variants.none (c : Thread nD τ) none) Set.univ p fun _ => J := by
  refine hI.trans ?_
  iintro ⟨H, R⟩
  iapply (wp_wand_r frame (wpE (defs₀ (F := F)) Variants.none (c : Thread nD τ) none) Set.univ)
  isplitl [H]
  · iapply hp; iexact H
  · iintro %_ H
    iapply hJ
    isplitl [H]
    · iexact H
    · iexact R

variable (m : (ℓ : Loc nD τ sig) → Buf (Elt F) ℓ) (ρ : Dev nD → PrngReg)

/-- The proof data: each window's array as the call finds it; of what the body leaves in a buffer, nothing is said. -/
def data (c : Dev nD) : RDat τ (Elt F) Unit ℕ (UR sig nD τ) ℕ (cfgs 0) c where
  A w := found m c (Pipeline.arrRef spec0 w)
  after _ _ _ _ := True
  Φ _ := Pipeline.ΦA (U := UR sig nD τ) spec0 c
  q w := Pipeline.shareOf spec0 w
  owed _ := 0

theorem row (t : Fin cfg0.N) : defs₀ (F := F) .tc cfg0.body (cfg0.bodyArgs t (cfg0.slots t)) = bodyAt0 t := by
  unfold defs₀; rw [Defs.onTc_tc]

set_option maxHeartbeats 2000000 in
/-- The body at a point, as the pipeline states it. -/
theorem point (c : Dev nD) (t : Fin cfg0.N) (P : sProp 𝕄) (Y : (w : Fin cfg0.W) → (cfg0.win w).block.Idx → Elt F (cfg0.win w).elt) :
    iprop(Pipeline.ΦA (U := UR sig nD τ) spec0 c ∗ P
        ∗ bigSep Finset.univ fun w : Fin 14 => owns (c : Thread nD τ) ((cfg0.win w).stage (cfg0.slots t w)) fullShare (Y w))
      ⊢ wp frame (wpE (defs₀ (F := F)) Variants.none (c : Thread nD τ) none) Set.univ (bodyAt0 t) fun _ =>
        iprop(Pipeline.ΦA (U := UR sig nD τ) spec0 c ∗ P
          ∗ bigSep Finset.univ fun w : Fin 14 => iprop(∃ X, ⌜True⌝ ∗ owns (c : Thread nD τ) ((cfg0.win w).stage (cfg0.slots t w)) fullShare X)) := by
  refine carry (p := bodyAt0 t) (s0 (A := handed t)) (R := iprop((∃ r, prngReg c r) ∗ P)) ?_ ?_
  · rw [own_handed, bigSep_W0]
    unfold Pipeline.ΦA
    rw [scopedRest0_eq]
    iintro ⟨⟨⟨S0, S1, S2, S3, S4, S5, S6, S7⟩, G⟩, P, W0, W1, W2, W3, W4, W5, W6, W7, W8, W9, W10, W11, W12, W13⟩
    isplitl [S0 S1 S2 S3 S4 S5 S6 S7 W0 W1 W2 W3 W4 W5 W6 W7 W8 W9 W10 W11 W12 W13]
    · isplitl [W0]
      · iapply (held_of_owns c (win0_0.stage (cfg0.slots t 0)) (Y 0)); iexact W0
      isplitl [W1]
      · iapply (held_of_owns c (win0_1.stage (cfg0.slots t 1)) (Y 1)); iexact W1
      isplitl [W2]
      · iapply (held_of_owns c (win0_2.stage (cfg0.slots t 2)) (Y 2)); iexact W2
      isplitl [W3]
      · iapply (held_of_owns c (win0_3.stage (cfg0.slots t 3)) (Y 3)); iexact W3
      isplitl [W4]
      · iapply (held_of_owns c (win0_4.stage (cfg0.slots t 4)) (Y 4)); iexact W4
      isplitl [W5]
      · iapply (held_of_owns c (win0_5.stage (cfg0.slots t 5)) (Y 5)); iexact W5
      isplitl [W6]
      · iapply (held_of_owns c (win0_6.stage (cfg0.slots t 6)) (Y 6)); iexact W6
      isplitl [W7]
      · iapply (held_of_owns c (win0_7.stage (cfg0.slots t 7)) (Y 7)); iexact W7
      isplitl [W8]
      · iapply (held_of_owns c (win0_8.stage (cfg0.slots t 8)) (Y 8)); iexact W8
      isplitl [W9]
      · iapply (held_of_owns c (win0_9.stage (cfg0.slots t 9)) (Y 9)); iexact W9
      isplitl [W10]
      · iapply (held_of_owns c (win0_10.stage (cfg0.slots t 10)) (Y 10)); iexact W10
      isplitl [W11]
      · iapply (held_of_owns c (win0_11.stage (cfg0.slots t 11)) (Y 11)); iexact W11
      isplitl [W12]
      · iapply (held_of_owns c (win0_12.stage (cfg0.slots t 12)) (Y 12)); iexact W12
      isplitl [W13]
      · iapply (held_of_owns c (win0_13.stage (cfg0.slots t 13)) (Y 13)); iexact W13
      isplitl [S0]
      · iapply (held_of_whole0 c); iexact S0
      isplitl [S1]
      · iapply (held_of_whole1 c); iexact S1
      isplitl [S2]
      · iapply (held_of_whole2 c); iexact S2
      isplitl [S3]
      · iapply (held_of_whole3 c); iexact S3
      isplitl [S4]
      · iapply (held_of_whole4 c); iexact S4
      isplitl [S5]
      · iapply (held_of_whole5 c); iexact S5
      isplitl [S6]
      · iapply (held_of_whole6 c); iexact S6
      iapply (held_of_whole7 c); iexact S7
    · isplitl [G]
      · iexact G
      · iexact P
  · rw [own_handed, bigSep_W0]
    unfold Pipeline.ΦA
    rw [scopedRest0_eq]
    iintro ⟨⟨W0, W1, W2, W3, W4, W5, W6, W7, W8, W9, W10, W11, W12, W13, S0, S1, S2, S3, S4, S5, S6, S7⟩, G, P⟩
    isplitl [S0 S1 S2 S3 S4 S5 S6 S7 G]
    · isplitl [S0 S1 S2 S3 S4 S5 S6 S7]
      · isplitl [S0]
        · iapply (whole_of_held0 c); iexact S0
        isplitl [S1]
        · iapply (whole_of_held1 c); iexact S1
        isplitl [S2]
        · iapply (whole_of_held2 c); iexact S2
        isplitl [S3]
        · iapply (whole_of_held3 c); iexact S3
        isplitl [S4]
        · iapply (whole_of_held4 c); iexact S4
        isplitl [S5]
        · iapply (whole_of_held5 c); iexact S5
        isplitl [S6]
        · iapply (whole_of_held6 c); iexact S6
        iapply (whole_of_held7 c); iexact S7
      · iexact G
    isplitl [P]
    · iexact P
    isplitl [W0]
    · iapply (owns_of_held c (win0_0.stage (cfg0.slots t 0))); iexact W0
    isplitl [W1]
    · iapply (owns_of_held c (win0_1.stage (cfg0.slots t 1))); iexact W1
    isplitl [W2]
    · iapply (owns_of_held c (win0_2.stage (cfg0.slots t 2))); iexact W2
    isplitl [W3]
    · iapply (owns_of_held c (win0_3.stage (cfg0.slots t 3))); iexact W3
    isplitl [W4]
    · iapply (owns_of_held c (win0_4.stage (cfg0.slots t 4))); iexact W4
    isplitl [W5]
    · iapply (owns_of_held c (win0_5.stage (cfg0.slots t 5))); iexact W5
    isplitl [W6]
    · iapply (owns_of_held c (win0_6.stage (cfg0.slots t 6))); iexact W6
    isplitl [W7]
    · iapply (owns_of_held c (win0_7.stage (cfg0.slots t 7))); iexact W7
    isplitl [W8]
    · iapply (owns_of_held c (win0_8.stage (cfg0.slots t 8))); iexact W8
    isplitl [W9]
    · iapply (owns_of_held c (win0_9.stage (cfg0.slots t 9))); iexact W9
    isplitl [W10]
    · iapply (owns_of_held c (win0_10.stage (cfg0.slots t 10))); iexact W10
    isplitl [W11]
    · iapply (owns_of_held c (win0_11.stage (cfg0.slots t 11))); iexact W11
    isplitl [W12]
    · iapply (owns_of_held c (win0_12.stage (cfg0.slots t 12))); iexact W12
    iapply (owns_of_held c (win0_13.stage (cfg0.slots t 13))); iexact W13

theorem body_ok (c : Dev nD) : (data m c).BodyObligation (defs₀ (F := F)) Variants.none () Set.univ := fun t Y _ => by
  rw [row]
  exact triple_restated (point c t _ Y) rfl .rfl fun _ => .rfl

/-- What a run leaves: the argument arrays as they were, every semaphore counter at zero. -/
def Kept (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0

set_option maxHeartbeats 4000000 in
set_option backward.isDefEq.respectTransparency.types false in
/-- The launch terminates, keeps its arguments and returns every semaphore to zero, over any floats. -/
theorem run : θ_run defs (onTc (τ := τ) (main (F := F))) (s₀ m ρ) (Kept m) :=
  RDat.θ_run_frame_track_shared (cfgs := cfgs) (p := (0 : Fin 1)) (kit₀ := launch₀0) (defs₀ := defs₀) (𝒱₀ := Variants.none)
    (rdat := data m) (m := m) (g := ρ) (main := main) (hbody := body_ok m) (hq := fun _ _ _ => rfl) (howed := fun _ _ => rfl)
    (V := found m) (hmain := reach m Variants.none) (hA := fun _ _ => rfl) (hin := fun _ => .rfl) (hout := fun _ => .rfl)
    (Q' := Kept m) (hQ' := fun r h => ⟨fun c => ⟨(show _ = found m c main_arg0 from h.1.arr_in c 1 rfl).trans (found_given m c (b := main_arg0) (by decide)),
      ((h.1 c).2 main_arg1 (Pipeline.mem_restRefs_of main_arg1 (by decide) (by decide))).trans (found_given m c (b := main_arg1) (by decide)),
      ((h.1 c).2 main_arg2 (Pipeline.mem_restRefs_of main_arg2 (by decide) (by decide))).trans (found_given m c (b := main_arg2) (by decide)),
      ((h.1 c).2 main_arg3 (Pipeline.mem_restRefs_of main_arg3 (by decide) (by decide))).trans (found_given m c (b := main_arg3) (by decide)),
      ((h.1 c).2 main_arg4 (Pipeline.mem_restRefs_of main_arg4 (by decide) (by decide))).trans (found_given m c (b := main_arg4) (by decide)),
      ((h.1 c).2 main_arg5 (Pipeline.mem_restRefs_of main_arg5 (by decide) (by decide))).trans (found_given m c (b := main_arg5) (by decide)),
      ((h.1 c).2 main_arg6 (Pipeline.mem_restRefs_of main_arg6 (by decide) (by decide))).trans (found_given m c (b := main_arg6) (by decide)),
      ((h.1 c).2 main_arg7 (Pipeline.mem_restRefs_of main_arg7 (by decide) (by decide))).trans (found_given m c (b := main_arg7) (by decide)),
      ((h.1 c).2 main_arg8 (Pipeline.mem_restRefs_of main_arg8 (by decide) (by decide))).trans (found_given m c (b := main_arg8) (by decide))⟩, h.2⟩)

end Cert.KernelIdeal.Nsa

end
-- ==== Proof.NsaSame.lean ====
/- The attention kernel as printed and as the ideal pass prints it are one text: the run of the one is the run of the
   other, read at the machine's own floats. -/
module

public import proofs.«01_k».proof.Defs
public import proofs.«01_k».proof.Proof.Gen.Kernel
public import proofs.«01_k».proof.Proof.Gen.KernelIdeal
public import proofs.«01_k».proof.Proof.NsaFrame

@[expose] public section

noncomputable section

namespace Cert.NsaSame

open Idealize.ShloMosaic Idealize.ShloMosaic.TcCoe Idealize.SL.Sem

variable (F : FTy → Type) [FloatOps F]

instance : Cert.Kernel.Facts := Cert.Kernel.Gen.facts
instance : Cert.KernelIdeal.Facts := Cert.KernelIdeal.Gen.facts

set_option maxHeartbeats 4000000 in
/-- The two programs' statements agree. -/
theorem main_eq : Cert.KernelIdeal.main (F := F) = Cert.Kernel.main (F := F) := by rfl

set_option smartUnfolding false in
set_option maxHeartbeats 4000000 in
/-- The two programs' kernel bodies agree. -/
theorem defs_eq : Cert.KernelIdeal.defs (F := F) = Cert.Kernel.defs (F := F) := by rfl

/-- What the printed kernel's run leaves. -/
theorem run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (Cert.KernelIdeal.Nsa.Kept m) := by
  have h := Cert.KernelIdeal.Nsa.run (F := F) m ρ
  rw [main_eq, defs_eq] at h
  exact h

theorem frame : Cert.quiescent_Kernel (hKernel := Cert.Kernel.Gen.facts) := fun m ρ _ => run Bits m ρ

end Cert.NsaSame

end
-- ==== Proof.Rows.lean ====
/-
  The row mathematics of the two kinds of product call: the RMS norm of a row, the norm followed by a product,
  and the squared-ReLU feed-forward map of a row, over the extended reals.
-/
module

public import Idealize.ShloMosaic.Lib.Pointwise
public import Idealize.ShloMosaic.Lib.Pipeline.Value

@[expose] public section

noncomputable section

namespace Cert.Rows

open Idealize.ShloMosaic Idealize.ShloMosaic.ValueIdx

/-- The RMS norm of a row of 1024 numbers, scaled by `g`. -/
def nrm (x g : Fin 1024 → EReal) (l : Fin 1024) : EReal :=
  x l * Ideal.rsqrt (Ideal.div (∑ k, x k * x k) (Ideal.ofBits .f32 0x44800000#32) + Ideal.ofBits .f32 0x358637BD#32) * g l

/-- Entry `k` of the hidden layer: the normalised row against column `k`, cut at zero and squared. -/
def hid {K : Nat} (x g : Fin 1024 → EReal) (wu : Fin 1024 → Fin K → EReal) (k : Fin K) : EReal :=
  max (∑ l, nrm x g l * wu l k) 0 * max (∑ l, nrm x g l * wu l k) 0

/-- The feed-forward map of a row, added to the row. -/
def mlp (x g : Fin 1024 → EReal) (wu : Fin 1024 → Fin 4096 → EReal) (wd : Fin 4096 → Fin 1024 → EReal) (n : Fin 1024) : EReal :=
  x n + ∑ k, hid x g wu k * wd k n

/-- `a` with the first `j` runs of 1024 terms of `f` added to it, one run after the other. -/
def part (a : EReal) (f : Fin 4096 → EReal) : Nat → EReal
  | 0 => a
  | j + 1 => part a f j + ∑ k : Fin 1024, if h : 1024 * j + k.val < 4096 then f ⟨1024 * j + k.val, h⟩ else 0

theorem part_succ (a : EReal) (f : Fin 4096 → EReal) (j : Nat) (hj : j < 4) :
    part a f (j + 1) = part a f j + ∑ k : Fin 1024, f ⟨1024 * j + k.val, by omega⟩ := by
  show _ + _ = _ + _
  congr 1
  exact Finset.sum_congr rfl fun k _ => dif_pos _

/-- The four runs added first to last onto `a` are the whole sum added to `a`. -/
theorem part_four (a : EReal) (f : Fin 4096 → EReal) : part a f 4 = a + ∑ k, f k := by
  rw [part_succ a f 3 (by omega), part_succ a f 2 (by omega), part_succ a f 1 (by omega), part_succ a f 0 (by omega)]
  have h := Fin.sum_univ_add (a := 1024) (b := 3072) f
  have h2 := Fin.sum_univ_add (a := 1024) (b := 2048) (fun k : Fin 3072 => f (Fin.natAdd 1024 k))
  have h3 := Fin.sum_univ_add (a := 1024) (b := 1024) (fun k : Fin 2048 => f (Fin.natAdd 1024 (Fin.natAdd 1024 k)))
  rw [show (∑ k, f k) = _ from h, h2, h3]
  unfold part
  simp only [← add_assoc]
  rfl

end Cert.Rows

end
-- ==== Proof.OddMlpValue.lean ====
/-
  The value of the odd layer's exit on the prompt: the tiles' folds over the hidden layer's
  four runs are, row by row, the projected row plus the feed-forward map of its norm.
-/
module

public import proofs.«01_k».proof.Defs
public import proofs.«01_k».proof.Proof.Gen.OddMlpIdeal.Value
public import proofs.«01_k».proof.Proof.Gen.OddMlpRefIdeal.Run
public import proofs.«01_k».proof.Proof.Rows

@[expose] public section

set_option maxRecDepth 16384

noncomputable section

namespace Cert.OddMlpIdeal.Value

open Cert.OddMlpIdeal Cert.OddMlpIdeal.Gen Idealize.ShloMosaic Idealize.ShloMosaic.TcCoe Idealize.SL.Sem
open Cert.Rows

theorem hz : (![0, 0] : Fin 2 → Nat) = fun _ => 0 := funext fun a => by fin_cases a <;> rfl

section AnyFloat
variable {F : FTy → Type} [FloatOps F]

/-- The first point of a tile leaves the normalised rows. -/
theorem keepA (c : Dev nD) (i : grid0.Coords) (a0 : Memref sig .tc .vmem S1024x1024 .f32) (h0 : a0.IsWhole) (a1 : Memref sig .tc .vmem S1024x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .f32) (h8 : a8.IsWhole)
    (hc0 : cond0_0 i) (hc1 : ¬cond0_1 i) (x0 : Vec F S1024x1024 .f32) (x1 : Vec F S1024x1024 .f32) (x2 : Vec F S1024x1024 .bf16) (x3 : Vec F S1x1024 .f32) (x4 : Vec F S1024x1024 .bf16) (x5 : Vec F S1024x1024 .bf16) :
    sout0_A_0 c i a0 h0 a1 h1 a2 h2 a3 h3 a4 h4 a5 h5 a6 h6 a7 h7 a8 h8 hc0 hc1 x0 x1 x2 x3 x4 x5 = k0_pay2 x0 x1 x2 x3 := by
  unfold sout0_A_0
  rw [View.read_writes_eq_canon _ _ _ (scover0_A_0 c i a0 h0 a1 h1 a2 h2 a3 h3 a4 h4 a5 h5 a6 h6 a7 h7 a8 h8 hc0 hc1 x0 x1 x2 x3 x4 x5)]
  unfold kernelRun0_A
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S1x1024) hz, shapeCast_self]

/-- … and the projected rows with the first run of the hidden layer added. -/
theorem accA (c : Dev nD) (i : grid0.Coords) (a0 : Memref sig .tc .vmem S1024x1024 .f32) (h0 : a0.IsWhole) (a1 : Memref sig .tc .vmem S1024x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .f32) (h8 : a8.IsWhole)
    (hc0 : cond0_0 i) (hc1 : ¬cond0_1 i) (x0 : Vec F S1024x1024 .f32) (x1 : Vec F S1024x1024 .f32) (x2 : Vec F S1024x1024 .bf16) (x3 : Vec F S1x1024 .f32) (x4 : Vec F S1024x1024 .bf16) (x5 : Vec F S1024x1024 .bf16) :
    sout0_A_1 c i a0 h0 a1 h1 a2 h2 a3 h3 a4 h4 a5 h5 a6 h6 a7 h7 a8 h8 hc0 hc1 x0 x1 x2 x3 x4 x5
      = k0_pay4 (k0_pay2 x0 x1 x2 x3) x4 (k0_pay3 x0 x1 x2) x5 := by
  unfold sout0_A_1
  rw [View.read_writes_eq_canon _ _ _ (scover0_A_1 c i a0 h0 a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S1024x1024) hz]
  simp only [View.readCov_unit_zero (S := S1024x1024) _ hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S1x1024) hz, shapeCast_self]

/-- A middle point adds its run to what the point before left. -/
theorem accB (c : Dev nD) (i : grid0.Coords) (a0 : Memref sig .tc .vmem S1024x1024 .f32) (h0 : a0.IsWhole) (a1 : Memref sig .tc .vmem S1024x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .f32) (h8 : a8.IsWhole)
    (hc0 : ¬cond0_0 i) (hc1 : ¬cond0_1 i) (x0 : Vec F S1024x1024 .f32) (x1 : Vec F S1024x1024 .f32) (x2 : Vec F S1024x1024 .bf16) (x3 : Vec F S1x1024 .f32) (x4 : Vec F S1024x1024 .bf16) (x5 : Vec F S1024x1024 .bf16) (s0 : Vec F S1024x1024 .bf16) (s1 : Vec F S1024x1024 .f32) :
    sout0_B_1 c i a0 h0 a1 h1 a2 h2 a3 h3 a4 h4 a5 h5 a6 h6 a7 h7 a8 h8 hc0 hc1 x0 x1 x2 x3 x4 x5 s0 s1 = k0_pay4 s0 x4 s1 x5 := by
  unfold sout0_B_1
  rw [View.read_writes_eq_canon _ _ _ (scover0_B_1 c i a0 h0 a1 h1 a2 h2 a3 h3 a4 h4 a5 h5 a6 h6 a7 h7 a8 h8 hc0 hc1 x0 x1 x2 x3 x4 x5 s0 s1)]
  unfold kernelRun0_B
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S1x1024) hz, shapeCast_self]

/-- So does the last point. -/
theorem accC (c : Dev nD) (i : grid0.Coords) (a0 : Memref sig .tc .vmem S1024x1024 .f32) (h0 : a0.IsWhole) (a1 : Memref sig .tc .vmem S1024x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .f32) (h8 : a8.IsWhole)
    (hc0 : ¬cond0_0 i) (hc1 : cond0_1 i) (x0 : Vec F S1024x1024 .f32) (x1 : Vec F S1024x1024 .f32) (x2 : Vec F S1024x1024 .bf16) (x3 : Vec F S1x1024 .f32) (x4 : Vec F S1024x1024 .bf16) (x5 : Vec F S1024x1024 .bf16) (s0 : Vec F S1024x1024 .bf16) (s1 : Vec F S1024x1024 .f32) :
    sout0_C_1 c i a0 h0 a1 h1 a2 h2 a3 h3 a4 h4 a5 h5 a6 h6 a7 h7 a8 h8 hc0 hc1 x0 x1 x2 x3 x4 x5 s0 s1 = k0_pay4 s0 x4 s1 x5 := by
  unfold sout0_C_1
  rw [View.read_writes_eq_canon _ _ _ (scover0_C_1 c i a0 h0 a1 h1 a2 h2 a3 h3 a4 h4 a5 h5 a6 h6 a7 h7 a8 h8 hc0 hc1 x0 x1 x2 x3 x4 x5 s0 s1)]
  unfold kernelRun0_C
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S1x1024) hz, shapeCast_self]

/-- The last point's output is the accumulator it has just stored. -/
theorem outC (c : Dev nD) (i : grid0.Coords) (a0 : Memref sig .tc .vmem S1024x1024 .f32) (h0 : a0.IsWhole) (a1 : Memref sig .tc .vmem S1024x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .f32) (h8 : a8.IsWhole)
    (hc0 : ¬cond0_0 i) (hc1 : cond0_1 i) (x0 : Vec F S1024x1024 .f32) (x1 : Vec F S1024x1024 .f32) (x2 : Vec F S1024x1024 .bf16) (x3 : Vec F S1x1024 .f32) (x4 : Vec F S1024x1024 .bf16) (x5 : Vec F S1024x1024 .bf16) (s0 : Vec F S1024x1024 .bf16) (s1 : Vec F S1024x1024 .f32) :
    out0_C_6 c i a0 h0 a1 h1 a2 h2 a3 h3 a4 h4 a5 h5 a6 h6 a7 h7 a8 h8 hc0 hc1 x0 x1 x2 x3 x4 x5 s0 s1 = k0_pay4 s0 x4 s1 x5 := by
  unfold out0_C_6
  rw [View.read_writes_eq_canon _ _ _ (cover0_C_6 c i a0 h0 a1 h1 a2 h2 a3 h3 a4 h4 a5 h5 a6 h6 a7 h7 a8 h8 hc0 hc1 x0 x1 x2 x3 x4 x5 s0 s1)]
  unfold kernelRun0_C
  dsimp only
  sl_unfold_words
  rw [View.canon_unit_zero (S := S1024x1024) hz]
  simp only [View.readCov_unit_zero (S := S1024x1024) _ hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S1x1024) hz, shapeCast_self]

end AnyFloat

/-! The payloads at an entry. -/

theorem pay1_apply (x0 : Vec Ideal S1024x1024 .f32) (x1 : Vec Ideal S1024x1024 .f32) (x2 : Vec Ideal S1024x1024 .bf16) (a : Fin 1024) (n : Fin 1024) :
    k0_pay1 x0 x1 x2 (ix2 a n) = x0 (ix2 a n) + ∑ k, x1 (ix2 a k) * x2 (ix2 k n) := by
  pointwise [Gen.k0_pay1]

theorem pay3_apply (x0 : Vec Ideal S1024x1024 .f32) (x1 : Vec Ideal S1024x1024 .f32) (x2 : Vec Ideal S1024x1024 .bf16) (a : Fin 1024) (n : Fin 1024) :
    k0_pay3 x0 x1 x2 (ix2 a n) = k0_pay1 x0 x1 x2 (ix2 a n) := by
  unfold k0_pay3
  generalize k0_pay1 x0 x1 x2 = y
  pointwise

theorem pay2_apply (x0 : Vec Ideal S1024x1024 .f32) (x1 : Vec Ideal S1024x1024 .f32) (x2 : Vec Ideal S1024x1024 .bf16) (x3 : Vec Ideal S1x1024 .f32) (a : Fin 1024) (l : Fin 1024) :
    k0_pay2 x0 x1 x2 x3 (ix2 a l) = nrm (fun n => k0_pay1 x0 x1 x2 (ix2 a n)) (fun n => x3 (ix2 0 n)) l := by
  unfold k0_pay2 nrm
  generalize k0_pay1 x0 x1 x2 = y
  pointwise

theorem pay4_apply (v3 : Vec Ideal S1024x1024 .bf16) (v4 : Vec Ideal S1024x1024 .bf16) (v9 : Vec Ideal S1024x1024 .f32)
    (v12 : Vec Ideal S1024x1024 .bf16) (a : Fin 1024) (n : Fin 1024) :
    k0_pay4 v3 v4 v9 v12 (ix2 a n) = v9 (ix2 a n)
      + ∑ k, max (∑ l, v3 (ix2 a l) * v4 (ix2 l k)) 0 * max (∑ l, v3 (ix2 a l) * v4 (ix2 l k)) 0 * v12 (ix2 k n) := by
  pointwise [Gen.k0_pay4]

variable (m : (ℓ : Loc nD τ sig) → Buf (Elt Ideal) ℓ) (ρ : Dev nD → PrngReg)

theorem N_eq : cfg0.N = 64 := N_0

theorem row_lt (n : Nat) (h : n < cfg0.N) (a : Fin 1024) : 1024 * (n / 4) + a.val < 16384 := by have := N_eq; omega
theorem run_lt (n : Nat) (k : Fin 1024) : 1024 * (n % 4) + k.val < 4096 := by omega

theorem idx_facts : ∀ t : Fin cfg0.N, win0_0.index t (0 : Fin 2) = t.val / 4 ∧ win0_0.index t (1 : Fin 2) = 0 ∧ win0_1.index t (0 : Fin 2) = t.val / 4 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = t.val % 4 ∧ win0_5.index t (0 : Fin 2) = t.val % 4 ∧ win0_5.index t (1 : Fin 2) = 0 ∧ win0_6.index t (0 : Fin 2) = t.val / 4 ∧ win0_6.index t (1 : Fin 2) = 0 :=
  (by decide +kernel : ∀ t : Fin grid0.N, _)

theorem V_main_v0 (c : Dev nD) : (V m c main_v0 : Vec Ideal S1024x1024 .bf16) = (m ((c : Thread nD τ).loc main_arg2) : Vec Ideal S1024x1024 .f32) := by
  show StableHlo.after hostOps0 _ _ = _
  after_results
  rfl

theorem V_main_v1 (c : Dev nD) : (V m c main_v1 : Vec Ideal S1024x4096 .bf16) = (m ((c : Thread nD τ).loc main_arg4) : Vec Ideal S1024x4096 .f32) := by
  show StableHlo.after hostOps0 _ _ = _
  after_results
  rfl

theorem V_main_v2 (c : Dev nD) : (V m c main_v2 : Vec Ideal S4096x1024 .bf16) = (m ((c : Thread nD τ).loc main_arg5) : Vec Ideal S4096x1024 .f32) := by
  show StableHlo.after hostOps0 _ _ = _
  after_results
  rfl

theorem V_main_v3 (c : Dev nD) : (V m c main_v3 : Vec Ideal S1x1024 .f32) = shapeCast S1x1024 (m ((c : Thread nD τ).loc main_arg3)) shapeCasts_S1024_S1x1024 := by
  show StableHlo.after hostOps0 _ _ = _
  after_results
  rfl

theorem blk0 (c : Dev nD) (t : Fin cfg0.N) (a : Fin 1024) (n : Fin 1024) :
    (iblk m c 0 t : Vec Ideal S1024x1024 .f32) (ix2 a n) = m ((c : Thread nD τ).loc main_arg0) (ix2 ⟨1024 * (t.val / 4) + a.val, row_lt t.val t.isLt a⟩ n) := by
  have hf := idx_facts t
  show V m c main_arg0 (((cfg0.win 0).blk t).view.emb (ix2 a n)) = _
  have he : ((cfg0.win 0).blk t).view.emb (ix2 a n) = (ix2 (⟨1024 * (t.val / 4) + a.val, row_lt t.val t.isLt a⟩) n : S16384x1024.Idx) := by
    funext d
    apply Fin.ext
    match d with
    | ⟨0, _⟩ => show win0_0.index t (0 : Fin 2) * 1024 + 1 * a.val = 1024 * (t.val / 4) + a.val; rw [hf.1]; omega
    | ⟨1, _⟩ => show win0_0.index t (1 : Fin 2) * 1024 + 1 * n.val = n.val; rw [hf.2.1]; omega
  rw [he, V_main_arg0]

theorem blk1 (c : Dev nD) (t : Fin cfg0.N) (a : Fin 1024) (k : Fin 1024) :
    (iblk m c 1 t : Vec Ideal S1024x1024 .f32) (ix2 a k) = m ((c : Thread nD τ).loc main_arg1) (ix2 ⟨1024 * (t.val / 4) + a.val, row_lt t.val t.isLt a⟩ k) := by
  have hf := idx_facts t
  show V m c main_arg1 (((cfg0.win 1).blk t).view.emb (ix2 a k)) = _
  have he : ((cfg0.win 1).blk t).view.emb (ix2 a k) = (ix2 (⟨1024 * (t.val / 4) + a.val, row_lt t.val t.isLt a⟩) k : S16384x1024.Idx) := by
    funext d
    apply Fin.ext
    match d with
    | ⟨0, _⟩ => show win0_1.index t (0 : Fin 2) * 1024 + 1 * a.val = 1024 * (t.val / 4) + a.val; rw [hf.2.2.1]; omega
    | ⟨1, _⟩ => show win0_1.index t (1 : Fin 2) * 1024 + 1 * k.val = k.val; rw [hf.2.2.2.1]; omega
  rw [he, V_main_arg1]

theorem blk2 (c : Dev nD) (t : Fin cfg0.N) (k : Fin 1024) (n : Fin 1024) :
    (iblk m c 2 t : Vec Ideal S1024x1024 .bf16) (ix2 k n) = m ((c : Thread nD τ).loc main_arg2) (ix2 k n) := by
  have hf := idx_facts t
  show V m c main_v0 (((cfg0.win 2).blk t).view.emb (ix2 k n)) = _
  have he : ((cfg0.win 2).blk t).view.emb (ix2 k n) = (ix2 k n : S1024x1024.Idx) := by
    funext d
    apply Fin.ext
    match d with
    | ⟨0, _⟩ => show win0_2.index t (0 : Fin 2) * 1024 + 1 * k.val = k.val; rw [hf.2.2.2.2.1]; omega
    | ⟨1, _⟩ => show win0_2.index t (1 : Fin 2) * 1024 + 1 * n.val = n.val; rw [hf.2.2.2.2.2.1]; omega
  rw [he, V_main_v0]

theorem blk3 (c : Dev nD) (t : Fin cfg0.N) (l : Fin 1024) :
    (iblk m c 3 t : Vec Ideal S1x1024 .f32) (ix2 0 l) = m ((c : Thread nD τ).loc main_arg3) (ix1 l) := by
  have hf := idx_facts t
  show V m c main_v3 (((cfg0.win 3).blk t).view.emb (ix2 0 l)) = _
  have he : ((cfg0.win 3).blk t).view.emb (ix2 0 l) = (ix2 0 l : S1x1024.Idx) := by
    funext d
    apply Fin.ext
    match d with
    | ⟨0, _⟩ => show win0_3.index t (0 : Fin 2) * 1 + 1 * 0 = 0; rw [hf.2.2.2.2.2.2.1]
    | ⟨1, _⟩ => show win0_3.index t (1 : Fin 2) * 1024 + 1 * l.val = l.val; rw [hf.2.2.2.2.2.2.2.1]; omega
  rw [he, V_main_v3]
  pointwise

theorem blk4 (c : Dev nD) (t : Fin cfg0.N) (l : Fin 1024) (k : Fin 1024) :
    (iblk m c 4 t : Vec Ideal S1024x1024 .bf16) (ix2 l k) = m ((c : Thread nD τ).loc main_arg4) (ix2 l ⟨1024 * (t.val % 4) + k.val, run_lt t.val k⟩) := by
  have hf := idx_facts t
  show V m c main_v1 (((cfg0.win 4).blk t).view.emb (ix2 l k)) = _
  have he : ((cfg0.win 4).blk t).view.emb (ix2 l k) = (ix2 l (⟨1024 * (t.val % 4) + k.val, run_lt t.val k⟩) : S1024x4096.Idx) := by
    funext d
    apply Fin.ext
    match d with
    | ⟨0, _⟩ => show win0_4.index t (0 : Fin 2) * 1024 + 1 * l.val = l.val; rw [hf.2.2.2.2.2.2.2.2.1]; omega
    | ⟨1, _⟩ => show win0_4.index t (1 : Fin 2) * 1024 + 1 * k.val = 1024 * (t.val % 4) + k.val; rw [hf.2.2.2.2.2.2.2.2.2.1]; omega
  rw [he, V_main_v1]

theorem blk5 (c : Dev nD) (t : Fin cfg0.N) (k : Fin 1024) (n : Fin 1024) :
    (iblk m c 5 t : Vec Ideal S1024x1024 .bf16) (ix2 k n) = m ((c : Thread nD τ).loc main_arg5) (ix2 ⟨1024 * (t.val % 4) + k.val, run_lt t.val k⟩ n) := by
  have hf := idx_facts t
  show V m c main_v2 (((cfg0.win 5).blk t).view.emb (ix2 k n)) = _
  have he : ((cfg0.win 5).blk t).view.emb (ix2 k n) = (ix2 (⟨1024 * (t.val % 4) + k.val, run_lt t.val k⟩) n : S4096x1024.Idx) := by
    funext d
    apply Fin.ext
    match d with
    | ⟨0, _⟩ => show win0_5.index t (0 : Fin 2) * 1024 + 1 * k.val = 1024 * (t.val % 4) + k.val; rw [hf.2.2.2.2.2.2.2.2.2.2.1]; omega
    | ⟨1, _⟩ => show win0_5.index t (1 : Fin 2) * 1024 + 1 * n.val = n.val; rw [hf.2.2.2.2.2.2.2.2.2.2.2.1]; omega
  rw [he, V_main_v2]

/-- A matrix by its two coordinates. -/
def at2 {R C : Nat} (x : (⟨2, ![R, C]⟩ : Shape).Idx → EReal) (r : Fin R) (k : Fin C) : EReal := x (ix2 r k)

/-- Row `r` after the projection. -/
def rowX (c : Dev nD) (r : Fin 16384) : Fin 1024 → EReal := fun n => at2 (m ((c : Thread nD τ).loc main_arg0)) r n + ∑ k : Fin 1024, at2 (m ((c : Thread nD τ).loc main_arg1)) r k * at2 (m ((c : Thread nD τ).loc main_arg2)) k n
/-- The scale and the two weights, by coordinates. -/
def scaleG (c : Dev nD) : Fin 1024 → EReal := fun l => m ((c : Thread nD τ).loc main_arg3) (ix1 l)
def upW (c : Dev nD) : Fin 1024 → Fin 4096 → EReal := fun l k => m ((c : Thread nD τ).loc main_arg4) (ix2 l k)
def downW (c : Dev nD) : Fin 4096 → Fin 1024 → EReal := fun k n => m ((c : Thread nD τ).loc main_arg5) (ix2 k n)

/-- The term hidden unit `k` adds to entry `n` of row `r`. -/
def term (c : Dev nD) (r : Fin 16384) (n : Fin 1024) (k : Fin 4096) : EReal :=
  hid (rowX m c r) (scaleG m c) (upW m c) k * downW m c k n

theorem proj_eq (c : Dev nD) (t : Fin cfg0.N) (a : Fin 1024) (n : Fin 1024) :
    k0_pay1 (iblk m c 0 t) (iblk m c 1 t) (iblk m c 2 t) (ix2 a n) = rowX m c ⟨1024 * (t.val / 4) + a.val, row_lt t.val t.isLt a⟩ n := by
  refine (pay1_apply _ _ _ a n).trans ?_
  simp only [blk0, blk1, blk2, blk3, blk4, blk5]
  rfl

theorem norm_eq (c : Dev nD) (t : Fin cfg0.N) (a : Fin 1024) (l : Fin 1024) :
    k0_pay2 (iblk m c 0 t) (iblk m c 1 t) (iblk m c 2 t) (iblk m c 3 t) (ix2 a l) = nrm (rowX m c ⟨1024 * (t.val / 4) + a.val, row_lt t.val t.isLt a⟩) (scaleG m c) l := by
  refine (pay2_apply _ _ _ _ a l).trans ?_
  simp only [proj_eq, blk3]
  rfl

theorem step_eq (c : Dev nD) (t : Fin cfg0.N) (h : Vec Ideal S1024x1024 .bf16) (v : Vec Ideal S1024x1024 .f32)
    (hh : ∀ (a : Fin 1024) (l : Fin 1024), h (ix2 a l) = nrm (rowX m c ⟨1024 * (t.val / 4) + a.val, row_lt t.val t.isLt a⟩) (scaleG m c) l) (a : Fin 1024) (n : Fin 1024) :
    k0_pay4 h (iblk m c 4 t) v (iblk m c 5 t) (ix2 a n)
      = v (ix2 a n) + ∑ k : Fin 1024, term m c ⟨1024 * (t.val / 4) + a.val, row_lt t.val t.isLt a⟩ n ⟨1024 * (t.val % 4) + k.val, run_lt t.val k⟩ := by
  refine (pay4_apply h _ v _ a n).trans ?_
  simp only [hh, blk4, blk5]
  rfl

/-- The first point of a tile. -/
theorem first (c : Dev nD) (t : Fin cfg0.N) (h0 : t.val % 4 = 0) :
    (∀ (a : Fin 1024) (l : Fin 1024), (outsAt0 m c t.val t.isLt).2.1 (ix2 a l) = nrm (rowX m c ⟨1024 * (t.val / 4) + a.val, row_lt t.val t.isLt a⟩) (scaleG m c) l)
    ∧ (∀ (a : Fin 1024) (k : Fin 1024), (outsAt0 m c t.val t.isLt).2.2 (ix2 a k) = part (rowX m c ⟨1024 * (t.val / 4) + a.val, row_lt t.val t.isLt a⟩ k) (term m c ⟨1024 * (t.val / 4) + a.val, row_lt t.val t.isLt a⟩ k) (t.val % 4 + 1)) := by
  rw [outsAt0_A m c t h0 (by omega)]
  dsimp only
  rw [keepA, accA]
  refine ⟨fun a l => norm_eq m c t a l, fun a k => ?_⟩
  refine (step_eq m c t _ _ (fun a l => norm_eq m c t a l) a k).trans ?_
  rw [pay3_apply, proj_eq, part_succ _ _ _ (by omega : t.val % 4 < 4)]
  congr 1
  rw [h0]
  rfl

/-- What the two carried buffers hold after point `n`: the normalised rows of its tile, and the projected rows with the
    runs of the hidden layer up to the point's own added. -/
theorem carried (c : Dev nD) : ∀ (n : Nat) (hn : n < cfg0.N),
    (∀ (a : Fin 1024) (l : Fin 1024), (outsAt0 m c n hn).2.1 (ix2 a l)
        = nrm (rowX m c ⟨1024 * (n / 4) + a.val, row_lt n hn a⟩) (scaleG m c) l)
    ∧ (∀ (a : Fin 1024) (k : Fin 1024), (outsAt0 m c n hn).2.2 (ix2 a k)
        = part (rowX m c ⟨1024 * (n / 4) + a.val, row_lt n hn a⟩ k) (term m c ⟨1024 * (n / 4) + a.val, row_lt n hn a⟩ k) (n % 4 + 1)) := by
  intro n
  induction n with
  | zero => exact fun hn => first m c ⟨0, hn⟩ rfl
  | succ n ih =>
    intro hn
    by_cases h0 : (n + 1) % 4 = 0
    · exact first m c ⟨n + 1, hn⟩ h0
    obtain ⟨i1, i2⟩ := ih (by omega)
    have hd : (n + 1) / 4 = n / 4 := by omega
    have hm : (n + 1) % 4 = n % 4 + 1 := by omega
    have hk : ∀ (a : Fin 1024) (l : Fin 1024), (outsAt0 m c n (by omega)).2.1 (ix2 a l)
        = nrm (rowX m c ⟨1024 * ((n + 1) / 4) + a.val, row_lt (n + 1) hn a⟩) (scaleG m c) l := by
      intro a l; rw [i1]; simp only [hd]
    have hs : ∀ (a : Fin 1024) (k : Fin 1024), k0_pay4 (outsAt0 m c n (by omega)).2.1 (iblk m c 4 ⟨n + 1, hn⟩) (outsAt0 m c n (by omega)).2.2 (iblk m c 5 ⟨n + 1, hn⟩) (ix2 a k)
        = part (rowX m c ⟨1024 * ((n + 1) / 4) + a.val, row_lt (n + 1) hn a⟩ k) (term m c ⟨1024 * ((n + 1) / 4) + a.val, row_lt (n + 1) hn a⟩ k) ((n + 1) % 4 + 1) := by
      intro a k
      refine (step_eq m c ⟨n + 1, hn⟩ _ _ hk a k).trans ?_
      rw [i2, part_succ _ _ _ (by omega : (n + 1) % 4 < 4)]
      simp only [hd, hm]
    by_cases h1 : (n + 1) % 4 = 3
    · have e := outsAt0_C m c ⟨n + 1, hn⟩ h0 h1
      dsimp only at e
      rw [e]
      refine ⟨hk, fun a k => ?_⟩
      dsimp only
      rw [accC]
      exact hs a k
    · have e := outsAt0_B m c ⟨n + 1, hn⟩ h0 h1
      dsimp only at e
      rw [e]
      refine ⟨hk, fun a k => ?_⟩
      dsimp only
      rw [accB]
      exact hs a k

/-- The result: every projected row with the feed-forward map of its norm added. -/
def result (c : Dev nD) : Buf (Elt Ideal) ((c : Thread nD τ).loc main_v4) := fun i => mlp (rowX m c (i 0)) (scaleG m c) (upW m c) (downW m c) (i 1)

/-- The output block of a tile's last point. -/
theorem last (c : Dev nD) (t : Fin cfg0.N) (h1 : t.val % 4 = 3) (a : Fin 1024) (n : Fin 1024) :
    (outsAt0 m c t.val t.isLt).1 (ix2 a n) = mlp (rowX m c ⟨1024 * (t.val / 4) + a.val, row_lt t.val t.isLt a⟩) (scaleG m c) (upW m c) (downW m c) n := by
  have h2 := (carried m c t.val t.isLt).2 a n
  have e := outsAt0_C m c t (by omega) h1
  rw [e] at h2 ⊢
  dsimp only at h2 ⊢
  rw [accC] at h2
  rw [outC, h2, h1]
  exact part_four _ _

theorem flushed_eq (c : Dev nD) (t : Fin cfg0.N) (hfl : (cfg0.win 6).flush t = true) :
    (dats m 0 c).flushed 6 t = ((cfg0.win 6).blk t).view.read (Elt Ideal) (result m c) := by
  have hf := idx_facts t
  rw [flushed6]
  funext j
  obtain ⟨a, n, rfl⟩ : ∃ (a : Fin 1024) (n : Fin 1024), j = ix2 a n := ⟨j 0, j 1, eq_ix2 j⟩
  show (outsAt0 m c t.val t.isLt).1 (ix2 a n) = result m c (((cfg0.win 6).blk t).view.emb (ix2 a n))
  have he : ((cfg0.win 6).blk t).view.emb (ix2 a n) = (ix2 ⟨1024 * (t.val / 4) + a.val, row_lt t.val t.isLt a⟩ n : S16384x1024.Idx) := by
    funext d
    apply Fin.ext
    match d with
    | ⟨0, _⟩ => show win0_6.index t (0 : Fin 2) * 1024 + 1 * a.val = 1024 * (t.val / 4) + a.val; rw [hf.2.2.2.2.2.2.2.2.2.2.2.2.1]; omega
    | ⟨1, _⟩ => show win0_6.index t (1 : Fin 2) * 1024 + 1 * n.val = n.val; rw [hf.2.2.2.2.2.2.2.2.2.2.2.2.2]; omega
  rw [he]
  exact last m c t ((flush0_6 t).mp hfl) a n

theorem final_o (c : Dev nD) : (dats m 0 c).arrAt 6 cfg0.N = result m c :=
  (dats m 0 c).arrAt_eq_of_cover 6 (result m c) (flushed_eq m c) fun i => by
    have h0 : (i 0 : Nat) < 16384 := (i 0).isLt
    have h1 : (i 1 : Nat) < 1024 := (i 1).isLt
    have hN := N_eq
    obtain ⟨t, hte⟩ : ∃ t : Fin cfg0.N, t.val = 4 * ((i 0 : Nat) / 1024) + 3 := ⟨⟨4 * ((i 0 : Nat) / 1024) + 3, by omega⟩, rfl⟩
    have hf := idx_facts t
    refine ⟨t, (flush0_6 t).mpr (by omega), ?_⟩
    show i ∈ ((View.whole main_v4).slice (win0_6.rect t)).set
    rw [View.set_slice_whole, Rect.mem_set_unit]
    intro a
    match a with
    | ⟨0, _⟩ =>
      show win0_6.index t (0 : Fin 2) * 1024 ≤ (i 0 : Nat) ∧ (i 0 : Nat) < win0_6.index t (0 : Fin 2) * 1024 + 1024
      rw [hf.2.2.2.2.2.2.2.2.2.2.2.2.1]; omega
    | ⟨1, _⟩ =>
      show win0_6.index t (1 : Fin 2) * 1024 ≤ (i 1 : Nat) ∧ (i 1 : Nat) < win0_6.index t (1 : Fin 2) * 1024 + 1024
      rw [hf.2.2.2.2.2.2.2.2.2.2.2.2.2]; omega

end Cert.OddMlpIdeal.Value

namespace Cert.OddMlpValue

open Idealize.ShloMosaic Idealize.ShloMosaic.TcCoe Idealize.SL.Sem Cert.Rows

/-- The kernel and the reference agree: both leave every projected row with the feed-forward map of its norm added. -/
theorem algebraic : Cert.algebraic_OddMlpIdeal_OddMlpRefIdeal (hOddMlpIdeal := Cert.OddMlpIdeal.Gen.facts)
    (hOddMlpRefIdeal := Cert.OddMlpRefIdeal.Gen.facts) := by
  intro m g m' g' _ hargs
  refine ⟨fun c => Cert.OddMlpIdeal.Value.result m c, ?_, ?_⟩
  · exact (θ_run Cert.OddMlpIdeal.defs _ _).mono
      (fun r h c => ⟨(Cert.OddMlpIdeal.Value.post6 m r h c).trans (Cert.OddMlpIdeal.Value.final_o m c),
        Cert.OddMlpIdeal.Value.kept_main_arg0 m r h c, Cert.OddMlpIdeal.Value.kept_main_arg1 m r h c, Cert.OddMlpIdeal.Value.kept_main_arg2 m r h c, Cert.OddMlpIdeal.Value.kept_main_arg3 m r h c, Cert.OddMlpIdeal.Value.kept_main_arg4 m r h c, Cert.OddMlpIdeal.Value.kept_main_arg5 m r h c⟩) (Cert.OddMlpIdeal.Gen.run_main m g)
  · refine (θ_run Cert.OddMlpRefIdeal.defs _ _).mono (fun r h c => ⟨(h c).1.trans ?_, (h c).2⟩) (Cert.OddMlpRefIdeal.Value.run m' g')
    obtain ⟨h0, h1, h2, h3, h4, h5⟩ := hargs c
    rw [h0, h1, h2, h3, h4, h5]
    funext j
    obtain ⟨a, n, rfl⟩ : ∃ (a : Fin 16384) (n : Fin 1024), j = ix2 a n := ⟨j 0, j 1, eq_ix2 j⟩
    unfold Cert.OddMlpIdeal.Value.result mlp hid nrm Cert.OddMlpIdeal.Value.rowX Cert.OddMlpIdeal.Value.scaleG Cert.OddMlpIdeal.Value.upW Cert.OddMlpIdeal.Value.downW Cert.OddMlpIdeal.Value.at2
    pointwise

end Cert.OddMlpValue

end
-- ==== Proof.EvenMlpValue.lean ====
/-
  The value of the even layer's exit on the prompt: the tiles' folds over the hidden layer's
  four runs are, row by row, the projected row plus the feed-forward map of its norm.
-/
module

public import proofs.«01_k».proof.Defs
public import proofs.«01_k».proof.Proof.Gen.EvenMlpIdeal.Value
public import proofs.«01_k».proof.Proof.Gen.EvenMlpRefIdeal.Run
public import proofs.«01_k».proof.Proof.Rows

@[expose] public section

set_option maxRecDepth 16384

noncomputable section

namespace Cert.EvenMlpIdeal.Value

open Cert.EvenMlpIdeal Cert.EvenMlpIdeal.Gen Idealize.ShloMosaic Idealize.ShloMosaic.TcCoe Idealize.SL.Sem
open Cert.Rows

theorem hz : (![0, 0] : Fin 2 → Nat) = fun _ => 0 := funext fun a => by fin_cases a <;> rfl

section AnyFloat
variable {F : FTy → Type} [FloatOps F]

/-- The first point of a tile leaves the normalised rows. -/
theorem keepA (c : Dev nD) (i : grid0.Coords) (a0 : Memref sig .tc .vmem S1024x1024 .f32) (h0 : a0.IsWhole) (a1 : Memref sig .tc .vmem S1024x512 .f32) (h1 : a1.IsWhole) (a2 : Memref sig .tc .vmem S1024x512 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
    (hc0 : cond0_0 i) (hc1 : ¬cond0_1 i) (x0 : Vec F S1024x1024 .f32) (x1 : Vec F S1024x512 .f32) (x2 : Vec F S1024x512 .f32) (x3 : Vec F S512x1024 .bf16) (x4 : Vec F S512x1024 .bf16) (x5 : Vec F S1x1024 .f32) (x6 : Vec F S1024x1024 .bf16) (x7 : Vec F S1024x1024 .bf16) :
    sout0_A_0 c i a0 h0 a1 h1 a2 h2 a3 h3 a4 h4 a5 h5 a6 h6 a7 h7 a8 h8 a9 h9 a10 h10 hc0 hc1 x0 x1 x2 x3 x4 x5 x6 x7 = k0_pay2 x0 x1 x3 x2 x4 x5 := by
  unfold sout0_A_0
  rw [View.read_writes_eq_canon _ _ _ (scover0_A_0 c i a0 h0 a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1024x1024) hz, View.ld_unit_zero (S := S1024x512) hz, View.ld_unit_zero (S := S1x1024) hz, View.ld_unit_zero (S := S512x1024) hz, shapeCast_self]

/-- … and the projected rows with the first run of the hidden layer added. -/
theorem accA (c : Dev nD) (i : grid0.Coords) (a0 : Memref sig .tc .vmem S1024x1024 .f32) (h0 : a0.IsWhole) (a1 : Memref sig .tc .vmem S1024x512 .f32) (h1 : a1.IsWhole) (a2 : Memref sig .tc .vmem S1024x512 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
    (hc0 : cond0_0 i) (hc1 : ¬cond0_1 i) (x0 : Vec F S1024x1024 .f32) (x1 : Vec F S1024x512 .f32) (x2 : Vec F S1024x512 .f32) (x3 : Vec F S512x1024 .bf16) (x4 : Vec F S512x1024 .bf16) (x5 : Vec F S1x1024 .f32) (x6 : Vec F S1024x1024 .bf16) (x7 : Vec F S1024x1024 .bf16) :
    sout0_A_1 c i a0 h0 a1 h1 a2 h2 a3 h3 a4 h4 a5 h5 a6 h6 a7 h7 a8 h8 a9 h9 a10 h10 hc0 hc1 x0 x1 x2 x3 x4 x5 x6 x7
      = k0_pay4 (k0_pay2 x0 x1 x3 x2 x4 x5) x6 (k0_pay3 x0 x1 x3 x2 x4) x7 := by
  unfold sout0_A_1
  rw [View.read_writes_eq_canon _ _ _ (scover0_A_1 c i a0 h0 a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_cons_unit_zero (S := S1024x1024) hz]
  simp only [View.readCov_unit_zero (S := S1024x1024) _ hz]
  simp only [View.readAt_eq_ld, h0.read_unread, h1.read_unread, h2.read_unread, h3.read_unread, h4.read_unread, h5.read_unread, h6.read_unread, h7.read_unread, h8.read_unread, h9.read_unread, h10.read_unread, View.ld_unit_zero (S := S1024x1024) hz, View.ld_unit_zero (S := S1024x512) hz, View.ld_unit_zero (S := S1x1024) hz, View.ld_unit_zero (S := S512x1024) hz, shapeCast_self]

/-- A middle point adds its run to what the point before left. -/
theorem accB (c : Dev nD) (i : grid0.Coords) (a0 : Memref sig .tc .vmem S1024x1024 .f32) (h0 : a0.IsWhole) (a1 : Memref sig .tc .vmem S1024x512 .f32) (h1 : a1.IsWhole) (a2 : Memref sig .tc .vmem S1024x512 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
    (hc0 : ¬cond0_0 i) (hc1 : ¬cond0_1 i) (x0 : Vec F S1024x1024 .f32) (x1 : Vec F S1024x512 .f32) (x2 : Vec F S1024x512 .f32) (x3 : Vec F S512x1024 .bf16) (x4 : Vec F S512x1024 .bf16) (x5 : Vec F S1x1024 .f32) (x6 : Vec F S1024x1024 .bf16) (x7 : Vec F S1024x1024 .bf16) (s0 : Vec F S1024x1024 .bf16) (s1 : Vec F S1024x1024 .f32) :
    sout0_B_1 c i a0 h0 a1 h1 a2 h2 a3 h3 a4 h4 a5 h5 a6 h6 a7 h7 a8 h8 a9 h9 a10 h10 hc0 hc1 x0 x1 x2 x3 x4 x5 x6 x7 s0 s1 = k0_pay4 s0 x6 s1 x7 := by
  unfold sout0_B_1
  rw [View.read_writes_eq_canon _ _ _ (scover0_B_1 c i a0 h0 a1 h1 a2 h2 a3 h3 a4 h4 a5 h5 a6 h6 a7 h7 a8 h8 a9 h9 a10 h10 hc0 hc1 x0 x1 x2 x3 x4 x5 x6 x7 s0 s1)]
  unfold kernelRun0_B
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1024x1024) hz, View.ld_unit_zero (S := S1024x512) hz, View.ld_unit_zero (S := S1x1024) hz, View.ld_unit_zero (S := S512x1024) hz, shapeCast_self]

/-- So does the last point. -/
theorem accC (c : Dev nD) (i : grid0.Coords) (a0 : Memref sig .tc .vmem S1024x1024 .f32) (h0 : a0.IsWhole) (a1 : Memref sig .tc .vmem S1024x512 .f32) (h1 : a1.IsWhole) (a2 : Memref sig .tc .vmem S1024x512 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
    (hc0 : ¬cond0_0 i) (hc1 : cond0_1 i) (x0 : Vec F S1024x1024 .f32) (x1 : Vec F S1024x512 .f32) (x2 : Vec F S1024x512 .f32) (x3 : Vec F S512x1024 .bf16) (x4 : Vec F S512x1024 .bf16) (x5 : Vec F S1x1024 .f32) (x6 : Vec F S1024x1024 .bf16) (x7 : Vec F S1024x1024 .bf16) (s0 : Vec F S1024x1024 .bf16) (s1 : Vec F S1024x1024 .f32) :
    sout0_C_1 c i a0 h0 a1 h1 a2 h2 a3 h3 a4 h4 a5 h5 a6 h6 a7 h7 a8 h8 a9 h9 a10 h10 hc0 hc1 x0 x1 x2 x3 x4 x5 x6 x7 s0 s1 = k0_pay4 s0 x6 s1 x7 := by
  unfold sout0_C_1
  rw [View.read_writes_eq_canon _ _ _ (scover0_C_1 c i a0 h0 a1 h1 a2 h2 a3 h3 a4 h4 a5 h5 a6 h6 a7 h7 a8 h8 a9 h9 a10 h10 hc0 hc1 x0 x1 x2 x3 x4 x5 x6 x7 s0 s1)]
  unfold kernelRun0_C
  dsimp only
  sl_unfold_words
  rw [View.canon_unit_zero (S := S1024x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1024x1024) hz, View.ld_unit_zero (S := S1024x512) hz, View.ld_unit_zero (S := S1x1024) hz, View.ld_unit_zero (S := S512x1024) hz, shapeCast_self]

/-- The last point's output is the accumulator it has just stored. -/
theorem outC (c : Dev nD) (i : grid0.Coords) (a0 : Memref sig .tc .vmem S1024x1024 .f32) (h0 : a0.IsWhole) (a1 : Memref sig .tc .vmem S1024x512 .f32) (h1 : a1.IsWhole) (a2 : Memref sig .tc .vmem S1024x512 .f32) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .bf16) (h9 : a9.IsWhole) (a10 : Memref sig .tc .vmem S1024x1024 .f32) (h10 : a10.IsWhole)
    (hc0 : ¬cond0_0 i) (hc1 : cond0_1 i) (x0 : Vec F S1024x1024 .f32) (x1 : Vec F S1024x512 .f32) (x2 : Vec F S1024x512 .f32) (x3 : Vec F S512x1024 .bf16) (x4 : Vec F S512x1024 .bf16) (x5 : Vec F S1x1024 .f32) (x6 : Vec F S1024x1024 .bf16) (x7 : Vec F S1024x1024 .bf16) (s0 : Vec F S1024x1024 .bf16) (s1 : Vec F S1024x1024 .f32) :
    out0_C_8 c i a0 h0 a1 h1 a2 h2 a3 h3 a4 h4 a5 h5 a6 h6 a7 h7 a8 h8 a9 h9 a10 h10 hc0 hc1 x0 x1 x2 x3 x4 x5 x6 x7 s0 s1 = k0_pay4 s0 x6 s1 x7 := by
  unfold out0_C_8
  rw [View.read_writes_eq_canon _ _ _ (cover0_C_8 c i a0 h0 a1 h1 a2 h2 a3 h3 a4 h4 a5 h5 a6 h6 a7 h7 a8 h8 a9 h9 a10 h10 hc0 hc1 x0 x1 x2 x3 x4 x5 x6 x7 s0 s1)]
  unfold kernelRun0_C
  dsimp only
  sl_unfold_words
  rw [View.canon_unit_zero (S := S1024x1024) hz]
  simp only [View.readCov_unit_zero (S := S1024x1024) _ hz]
  simp only [View.readAt_eq_ld, h0.read_unread, h1.read_unread, h2.read_unread, h3.read_unread, h4.read_unread, h5.read_unread, h6.read_unread, h7.read_unread, h8.read_unread, h9.read_unread, h10.read_unread, View.ld_unit_zero (S := S1024x1024) hz, View.ld_unit_zero (S := S1024x512) hz, View.ld_unit_zero (S := S1x1024) hz, View.ld_unit_zero (S := S512x1024) hz, shapeCast_self]

end AnyFloat

/-! The payloads at an entry. -/

theorem pay1_apply (x0 : Vec Ideal S1024x1024 .f32) (x1 : Vec Ideal S1024x512 .f32) (x3 : Vec Ideal S512x1024 .bf16) (x2 : Vec Ideal S1024x512 .f32) (x4 : Vec Ideal S512x1024 .bf16) (a : Fin 1024) (n : Fin 1024) :
    k0_pay1 x0 x1 x3 x2 x4 (ix2 a n) = x0 (ix2 a n) + ∑ k, x1 (ix2 a k) * x3 (ix2 k n) + ∑ k, x2 (ix2 a k) * x4 (ix2 k n) := by
  pointwise [Gen.k0_pay1]

theorem pay3_apply (x0 : Vec Ideal S1024x1024 .f32) (x1 : Vec Ideal S1024x512 .f32) (x3 : Vec Ideal S512x1024 .bf16) (x2 : Vec Ideal S1024x512 .f32) (x4 : Vec Ideal S512x1024 .bf16) (a : Fin 1024) (n : Fin 1024) :
    k0_pay3 x0 x1 x3 x2 x4 (ix2 a n) = k0_pay1 x0 x1 x3 x2 x4 (ix2 a n) := by
  unfold k0_pay3
  generalize k0_pay1 x0 x1 x3 x2 x4 = y
  pointwise

theorem pay2_apply (x0 : Vec Ideal S1024x1024 .f32) (x1 : Vec Ideal S1024x512 .f32) (x3 : Vec Ideal S512x1024 .bf16) (x2 : Vec Ideal S1024x512 .f32) (x4 : Vec Ideal S512x1024 .bf16) (x5 : Vec Ideal S1x1024 .f32) (a : Fin 1024) (l : Fin 1024) :
    k0_pay2 x0 x1 x3 x2 x4 x5 (ix2 a l) = nrm (fun n => k0_pay1 x0 x1 x3 x2 x4 (ix2 a n)) (fun n => x5 (ix2 0 n)) l := by
  unfold k0_pay2 nrm
  generalize k0_pay1 x0 x1 x3 x2 x4 = y
  pointwise

theorem pay4_apply (v3 : Vec Ideal S1024x1024 .bf16) (v4 : Vec Ideal S1024x1024 .bf16) (v9 : Vec Ideal S1024x1024 .f32)
    (v12 : Vec Ideal S1024x1024 .bf16) (a : Fin 1024) (n : Fin 1024) :
    k0_pay4 v3 v4 v9 v12 (ix2 a n) = v9 (ix2 a n)
      + ∑ k, max (∑ l, v3 (ix2 a l) * v4 (ix2 l k)) 0 * max (∑ l, v3 (ix2 a l) * v4 (ix2 l k)) 0 * v12 (ix2 k n) := by
  pointwise [Gen.k0_pay4]

variable (m : (ℓ : Loc nD τ sig) → Buf (Elt Ideal) ℓ) (ρ : Dev nD → PrngReg)

theorem N_eq : cfg0.N = 64 := N_0

theorem row_lt (n : Nat) (h : n < cfg0.N) (a : Fin 1024) : 1024 * (n / 4) + a.val < 16384 := by have := N_eq; omega
theorem run_lt (n : Nat) (k : Fin 1024) : 1024 * (n % 4) + k.val < 4096 := by omega

theorem idx_facts : ∀ t : Fin cfg0.N, win0_0.index t (0 : Fin 2) = t.val / 4 ∧ win0_0.index t (1 : Fin 2) = 0 ∧ win0_1.index t (0 : Fin 2) = t.val / 4 ∧ win0_1.index t (1 : Fin 2) = 0 ∧ win0_2.index t (0 : Fin 2) = t.val / 4 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = t.val % 4 ∧ win0_7.index t (0 : Fin 2) = t.val % 4 ∧ win0_7.index t (1 : Fin 2) = 0 ∧ win0_8.index t (0 : Fin 2) = t.val / 4 ∧ win0_8.index t (1 : Fin 2) = 0 :=
  (by decide +kernel : ∀ t : Fin grid0.N, _)

theorem V_main_v1 (c : Dev nD) : (V m c main_v1 : Vec Ideal S512x1024 .bf16) = (extractStridedSlice S512x1024 ![0, 0] (m ((c : Thread nD τ).loc main_arg3) : Vec Ideal S1024x1024 .f32) slices_S1024x1024_S512x1024_0_0 : Vec Ideal S512x1024 .f32) := by
  show StableHlo.after hostOps0 _ _ = _
  after_results
  rfl

theorem V_main_v3 (c : Dev nD) : (V m c main_v3 : Vec Ideal S512x1024 .bf16) = (extractStridedSlice S512x1024 ![512, 0] (m ((c : Thread nD τ).loc main_arg3) : Vec Ideal S1024x1024 .f32) slices_S1024x1024_S512x1024_512_0 : Vec Ideal S512x1024 .f32) := by
  show StableHlo.after hostOps0 _ _ = _
  after_results
  rfl

theorem V_main_v4 (c : Dev nD) : (V m c main_v4 : Vec Ideal S1024x4096 .bf16) = (m ((c : Thread nD τ).loc main_arg5) : Vec Ideal S1024x4096 .f32) := by
  show StableHlo.after hostOps0 _ _ = _
  after_results
  rfl

theorem V_main_v5 (c : Dev nD) : (V m c main_v5 : Vec Ideal S4096x1024 .bf16) = (m ((c : Thread nD τ).loc main_arg6) : Vec Ideal S4096x1024 .f32) := by
  show StableHlo.after hostOps0 _ _ = _
  after_results
  rfl

theorem V_main_v6 (c : Dev nD) : (V m c main_v6 : Vec Ideal S1x1024 .f32) = shapeCast S1x1024 (m ((c : Thread nD τ).loc main_arg4)) shapeCasts_S1024_S1x1024 := by
  show StableHlo.after hostOps0 _ _ = _
  after_results
  rfl

theorem blk0 (c : Dev nD) (t : Fin cfg0.N) (a : Fin 1024) (n : Fin 1024) :
    (iblk m c 0 t : Vec Ideal S1024x1024 .f32) (ix2 a n) = m ((c : Thread nD τ).loc main_arg0) (ix2 ⟨1024 * (t.val / 4) + a.val, row_lt t.val t.isLt a⟩ n) := by
  have hf := idx_facts t
  show V m c main_arg0 (((cfg0.win 0).blk t).view.emb (ix2 a n)) = _
  have he : ((cfg0.win 0).blk t).view.emb (ix2 a n) = (ix2 (⟨1024 * (t.val / 4) + a.val, row_lt t.val t.isLt a⟩) n : S16384x1024.Idx) := by
    funext d
    apply Fin.ext
    match d with
    | ⟨0, _⟩ => show win0_0.index t (0 : Fin 2) * 1024 + 1 * a.val = 1024 * (t.val / 4) + a.val; rw [hf.1]; omega
    | ⟨1, _⟩ => show win0_0.index t (1 : Fin 2) * 1024 + 1 * n.val = n.val; rw [hf.2.1]; omega
  rw [he, V_main_arg0]

theorem blk1 (c : Dev nD) (t : Fin cfg0.N) (a : Fin 1024) (k : Fin 512) :
    (iblk m c 1 t : Vec Ideal S1024x512 .f32) (ix2 a k) = m ((c : Thread nD τ).loc main_arg1) (ix2 ⟨1024 * (t.val / 4) + a.val, row_lt t.val t.isLt a⟩ k) := by
  have hf := idx_facts t
  show V m c main_arg1 (((cfg0.win 1).blk t).view.emb (ix2 a k)) = _
  have he : ((cfg0.win 1).blk t).view.emb (ix2 a k) = (ix2 (⟨1024 * (t.val / 4) + a.val, row_lt t.val t.isLt a⟩) k : S16384x512.Idx) := by
    funext d
    apply Fin.ext
    match d with
    | ⟨0, _⟩ => show win0_1.index t (0 : Fin 2) * 1024 + 1 * a.val = 1024 * (t.val / 4) + a.val; rw [hf.2.2.1]; omega
    | ⟨1, _⟩ => show win0_1.index t (1 : Fin 2) * 512 + 1 * k.val = k.val; rw [hf.2.2.2.1]; omega
  rw [he, V_main_arg1]

theorem blk2 (c : Dev nD) (t : Fin cfg0.N) (a : Fin 1024) (k : Fin 512) :
    (iblk m c 2 t : Vec Ideal S1024x512 .f32) (ix2 a k) = m ((c : Thread nD τ).loc main_arg2) (ix2 ⟨1024 * (t.val / 4) + a.val, row_lt t.val t.isLt a⟩ k) := by
  have hf := idx_facts t
  show V m c main_arg2 (((cfg0.win 2).blk t).view.emb (ix2 a k)) = _
  have he : ((cfg0.win 2).blk t).view.emb (ix2 a k) = (ix2 (⟨1024 * (t.val / 4) + a.val, row_lt t.val t.isLt a⟩) k : S16384x512.Idx) := by
    funext d
    apply Fin.ext
    match d with
    | ⟨0, _⟩ => show win0_2.index t (0 : Fin 2) * 1024 + 1 * a.val = 1024 * (t.val / 4) + a.val; rw [hf.2.2.2.2.1]; omega
    | ⟨1, _⟩ => show win0_2.index t (1 : Fin 2) * 512 + 1 * k.val = k.val; rw [hf.2.2.2.2.2.1]; omega
  rw [he, V_main_arg2]

theorem blk3 (c : Dev nD) (t : Fin cfg0.N) (k : Fin 512) (n : Fin 1024) :
    (iblk m c 3 t : Vec Ideal S512x1024 .bf16) (ix2 k n) = m ((c : Thread nD τ).loc main_arg3) (ix2 ⟨k.val, by omega⟩ n) := by
  have hf := idx_facts t
  show V m c main_v1 (((cfg0.win 3).blk t).view.emb (ix2 k n)) = _
  have he : ((cfg0.win 3).blk t).view.emb (ix2 k n) = (ix2 k n : S512x1024.Idx) := by
    funext d
    apply Fin.ext
    match d with
    | ⟨0, _⟩ => show win0_3.index t (0 : Fin 2) * 512 + 1 * k.val = k.val; rw [hf.2.2.2.2.2.2.1]; omega
    | ⟨1, _⟩ => show win0_3.index t (1 : Fin 2) * 1024 + 1 * n.val = n.val; rw [hf.2.2.2.2.2.2.2.1]; omega
  rw [he, V_main_v1]
  pointwise

theorem blk4 (c : Dev nD) (t : Fin cfg0.N) (k : Fin 512) (n : Fin 1024) :
    (iblk m c 4 t : Vec Ideal S512x1024 .bf16) (ix2 k n) = m ((c : Thread nD τ).loc main_arg3) (ix2 ⟨512 + k.val, by omega⟩ n) := by
  have hf := idx_facts t
  show V m c main_v3 (((cfg0.win 4).blk t).view.emb (ix2 k n)) = _
  have he : ((cfg0.win 4).blk t).view.emb (ix2 k n) = (ix2 k n : S512x1024.Idx) := by
    funext d
    apply Fin.ext
    match d with
    | ⟨0, _⟩ => show win0_4.index t (0 : Fin 2) * 512 + 1 * k.val = k.val; rw [hf.2.2.2.2.2.2.2.2.1]; omega
    | ⟨1, _⟩ => show win0_4.index t (1 : Fin 2) * 1024 + 1 * n.val = n.val; rw [hf.2.2.2.2.2.2.2.2.2.1]; omega
  rw [he, V_main_v3]
  pointwise

theorem blk5 (c : Dev nD) (t : Fin cfg0.N) (l : Fin 1024) :
    (iblk m c 5 t : Vec Ideal S1x1024 .f32) (ix2 0 l) = m ((c : Thread nD τ).loc main_arg4) (ix1 l) := by
  have hf := idx_facts t
  show V m c main_v6 (((cfg0.win 5).blk t).view.emb (ix2 0 l)) = _
  have he : ((cfg0.win 5).blk t).view.emb (ix2 0 l) = (ix2 0 l : S1x1024.Idx) := by
    funext d
    apply Fin.ext
    match d with
    | ⟨0, _⟩ => show win0_5.index t (0 : Fin 2) * 1 + 1 * 0 = 0; rw [hf.2.2.2.2.2.2.2.2.2.2.1]
    | ⟨1, _⟩ => show win0_5.index t (1 : Fin 2) * 1024 + 1 * l.val = l.val; rw [hf.2.2.2.2.2.2.2.2.2.2.2.1]; omega
  rw [he, V_main_v6]
  pointwise

theorem blk6 (c : Dev nD) (t : Fin cfg0.N) (l : Fin 1024) (k : Fin 1024) :
    (iblk m c 6 t : Vec Ideal S1024x1024 .bf16) (ix2 l k) = m ((c : Thread nD τ).loc main_arg5) (ix2 l ⟨1024 * (t.val % 4) + k.val, run_lt t.val k⟩) := by
  have hf := idx_facts t
  show V m c main_v4 (((cfg0.win 6).blk t).view.emb (ix2 l k)) = _
  have he : ((cfg0.win 6).blk t).view.emb (ix2 l k) = (ix2 l (⟨1024 * (t.val % 4) + k.val, run_lt t.val k⟩) : S1024x4096.Idx) := by
    funext d
    apply Fin.ext
    match d with
    | ⟨0, _⟩ => show win0_6.index t (0 : Fin 2) * 1024 + 1 * l.val = l.val; rw [hf.2.2.2.2.2.2.2.2.2.2.2.2.1]; omega
    | ⟨1, _⟩ => show win0_6.index t (1 : Fin 2) * 1024 + 1 * k.val = 1024 * (t.val % 4) + k.val; rw [hf.2.2.2.2.2.2.2.2.2.2.2.2.2.1]; omega
  rw [he, V_main_v4]

theorem blk7 (c : Dev nD) (t : Fin cfg0.N) (k : Fin 1024) (n : Fin 1024) :
    (iblk m c 7 t : Vec Ideal S1024x1024 .bf16) (ix2 k n) = m ((c : Thread nD τ).loc main_arg6) (ix2 ⟨1024 * (t.val % 4) + k.val, run_lt t.val k⟩ n) := by
  have hf := idx_facts t
  show V m c main_v5 (((cfg0.win 7).blk t).view.emb (ix2 k n)) = _
  have he : ((cfg0.win 7).blk t).view.emb (ix2 k n) = (ix2 (⟨1024 * (t.val % 4) + k.val, run_lt t.val k⟩) n : S4096x1024.Idx) := by
    funext d
    apply Fin.ext
    match d with
    | ⟨0, _⟩ => show win0_7.index t (0 : Fin 2) * 1024 + 1 * k.val = 1024 * (t.val % 4) + k.val; rw [hf.2.2.2.2.2.2.2.2.2.2.2.2.2.2.1]; omega
    | ⟨1, _⟩ => show win0_7.index t (1 : Fin 2) * 1024 + 1 * n.val = n.val; rw [hf.2.2.2.2.2.2.2.2.2.2.2.2.2.2.2.1]; omega
  rw [he, V_main_v5]

/-- A matrix by its two coordinates. -/
def at2 {R C : Nat} (x : (⟨2, ![R, C]⟩ : Shape).Idx → EReal) (r : Fin R) (k : Fin C) : EReal := x (ix2 r k)

/-- Row `r` after the projection. -/
def rowX (c : Dev nD) (r : Fin 16384) : Fin 1024 → EReal := fun n => at2 (m ((c : Thread nD τ).loc main_arg0)) r n + ∑ k : Fin 512, at2 (m ((c : Thread nD τ).loc main_arg1)) r k * at2 (m ((c : Thread nD τ).loc main_arg3)) ⟨k.val, by omega⟩ n + ∑ k : Fin 512, at2 (m ((c : Thread nD τ).loc main_arg2)) r k * at2 (m ((c : Thread nD τ).loc main_arg3)) ⟨512 + k.val, by omega⟩ n
/-- The scale and the two weights, by coordinates. -/
def scaleG (c : Dev nD) : Fin 1024 → EReal := fun l => m ((c : Thread nD τ).loc main_arg4) (ix1 l)
def upW (c : Dev nD) : Fin 1024 → Fin 4096 → EReal := fun l k => m ((c : Thread nD τ).loc main_arg5) (ix2 l k)
def downW (c : Dev nD) : Fin 4096 → Fin 1024 → EReal := fun k n => m ((c : Thread nD τ).loc main_arg6) (ix2 k n)

/-- The term hidden unit `k` adds to entry `n` of row `r`. -/
def term (c : Dev nD) (r : Fin 16384) (n : Fin 1024) (k : Fin 4096) : EReal :=
  hid (rowX m c r) (scaleG m c) (upW m c) k * downW m c k n

theorem proj_eq (c : Dev nD) (t : Fin cfg0.N) (a : Fin 1024) (n : Fin 1024) :
    k0_pay1 (iblk m c 0 t) (iblk m c 1 t) (iblk m c 3 t) (iblk m c 2 t) (iblk m c 4 t) (ix2 a n) = rowX m c ⟨1024 * (t.val / 4) + a.val, row_lt t.val t.isLt a⟩ n := by
  refine (pay1_apply _ _ _ _ _ a n).trans ?_
  simp only [blk0, blk1, blk2, blk3, blk4, blk5, blk6, blk7]
  rfl

theorem norm_eq (c : Dev nD) (t : Fin cfg0.N) (a : Fin 1024) (l : Fin 1024) :
    k0_pay2 (iblk m c 0 t) (iblk m c 1 t) (iblk m c 3 t) (iblk m c 2 t) (iblk m c 4 t) (iblk m c 5 t) (ix2 a l) = nrm (rowX m c ⟨1024 * (t.val / 4) + a.val, row_lt t.val t.isLt a⟩) (scaleG m c) l := by
  refine (pay2_apply _ _ _ _ _ _ a l).trans ?_
  simp only [proj_eq, blk5]
  rfl

theorem step_eq (c : Dev nD) (t : Fin cfg0.N) (h : Vec Ideal S1024x1024 .bf16) (v : Vec Ideal S1024x1024 .f32)
    (hh : ∀ (a : Fin 1024) (l : Fin 1024), h (ix2 a l) = nrm (rowX m c ⟨1024 * (t.val / 4) + a.val, row_lt t.val t.isLt a⟩) (scaleG m c) l) (a : Fin 1024) (n : Fin 1024) :
    k0_pay4 h (iblk m c 6 t) v (iblk m c 7 t) (ix2 a n)
      = v (ix2 a n) + ∑ k : Fin 1024, term m c ⟨1024 * (t.val / 4) + a.val, row_lt t.val t.isLt a⟩ n ⟨1024 * (t.val % 4) + k.val, run_lt t.val k⟩ := by
  refine (pay4_apply h _ v _ a n).trans ?_
  simp only [hh, blk6, blk7]
  rfl

/-- The first point of a tile. -/
theorem first (c : Dev nD) (t : Fin cfg0.N) (h0 : t.val % 4 = 0) :
    (∀ (a : Fin 1024) (l : Fin 1024), (outsAt0 m c t.val t.isLt).2.1 (ix2 a l) = nrm (rowX m c ⟨1024 * (t.val / 4) + a.val, row_lt t.val t.isLt a⟩) (scaleG m c) l)
    ∧ (∀ (a : Fin 1024) (k : Fin 1024), (outsAt0 m c t.val t.isLt).2.2 (ix2 a k) = part (rowX m c ⟨1024 * (t.val / 4) + a.val, row_lt t.val t.isLt a⟩ k) (term m c ⟨1024 * (t.val / 4) + a.val, row_lt t.val t.isLt a⟩ k) (t.val % 4 + 1)) := by
  rw [outsAt0_A m c t h0 (by omega)]
  dsimp only
  rw [keepA, accA]
  refine ⟨fun a l => norm_eq m c t a l, fun a k => ?_⟩
  refine (step_eq m c t _ _ (fun a l => norm_eq m c t a l) a k).trans ?_
  rw [pay3_apply, proj_eq, part_succ _ _ _ (by omega : t.val % 4 < 4)]
  congr 1
  rw [h0]
  rfl

/-- What the two carried buffers hold after point `n`: the normalised rows of its tile, and the projected rows with the
    runs of the hidden layer up to the point's own added. -/
theorem carried (c : Dev nD) : ∀ (n : Nat) (hn : n < cfg0.N),
    (∀ (a : Fin 1024) (l : Fin 1024), (outsAt0 m c n hn).2.1 (ix2 a l)
        = nrm (rowX m c ⟨1024 * (n / 4) + a.val, row_lt n hn a⟩) (scaleG m c) l)
    ∧ (∀ (a : Fin 1024) (k : Fin 1024), (outsAt0 m c n hn).2.2 (ix2 a k)
        = part (rowX m c ⟨1024 * (n / 4) + a.val, row_lt n hn a⟩ k) (term m c ⟨1024 * (n / 4) + a.val, row_lt n hn a⟩ k) (n % 4 + 1)) := by
  intro n
  induction n with
  | zero => exact fun hn => first m c ⟨0, hn⟩ rfl
  | succ n ih =>
    intro hn
    by_cases h0 : (n + 1) % 4 = 0
    · exact first m c ⟨n + 1, hn⟩ h0
    obtain ⟨i1, i2⟩ := ih (by omega)
    have hd : (n + 1) / 4 = n / 4 := by omega
    have hm : (n + 1) % 4 = n % 4 + 1 := by omega
    have hk : ∀ (a : Fin 1024) (l : Fin 1024), (outsAt0 m c n (by omega)).2.1 (ix2 a l)
        = nrm (rowX m c ⟨1024 * ((n + 1) / 4) + a.val, row_lt (n + 1) hn a⟩) (scaleG m c) l := by
      intro a l; rw [i1]; simp only [hd]
    have hs : ∀ (a : Fin 1024) (k : Fin 1024), k0_pay4 (outsAt0 m c n (by omega)).2.1 (iblk m c 6 ⟨n + 1, hn⟩) (outsAt0 m c n (by omega)).2.2 (iblk m c 7 ⟨n + 1, hn⟩) (ix2 a k)
        = part (rowX m c ⟨1024 * ((n + 1) / 4) + a.val, row_lt (n + 1) hn a⟩ k) (term m c ⟨1024 * ((n + 1) / 4) + a.val, row_lt (n + 1) hn a⟩ k) ((n + 1) % 4 + 1) := by
      intro a k
      refine (step_eq m c ⟨n + 1, hn⟩ _ _ hk a k).trans ?_
      rw [i2, part_succ _ _ _ (by omega : (n + 1) % 4 < 4)]
      simp only [hd, hm]
    by_cases h1 : (n + 1) % 4 = 3
    · have e := outsAt0_C m c ⟨n + 1, hn⟩ h0 h1
      dsimp only at e
      rw [e]
      refine ⟨hk, fun a k => ?_⟩
      dsimp only
      rw [accC]
      exact hs a k
    · have e := outsAt0_B m c ⟨n + 1, hn⟩ h0 h1
      dsimp only at e
      rw [e]
      refine ⟨hk, fun a k => ?_⟩
      dsimp only
      rw [accB]
      exact hs a k

/-- The result: every projected row with the feed-forward map of its norm added. -/
def result (c : Dev nD) : Buf (Elt Ideal) ((c : Thread nD τ).loc main_v7) := fun i => mlp (rowX m c (i 0)) (scaleG m c) (upW m c) (downW m c) (i 1)

/-- The output block of a tile's last point. -/
theorem last (c : Dev nD) (t : Fin cfg0.N) (h1 : t.val % 4 = 3) (a : Fin 1024) (n : Fin 1024) :
    (outsAt0 m c t.val t.isLt).1 (ix2 a n) = mlp (rowX m c ⟨1024 * (t.val / 4) + a.val, row_lt t.val t.isLt a⟩) (scaleG m c) (upW m c) (downW m c) n := by
  have h2 := (carried m c t.val t.isLt).2 a n
  have e := outsAt0_C m c t (by omega) h1
  rw [e] at h2 ⊢
  dsimp only at h2 ⊢
  rw [accC] at h2
  rw [outC, h2, h1]
  exact part_four _ _

theorem flushed_eq (c : Dev nD) (t : Fin cfg0.N) (hfl : (cfg0.win 8).flush t = true) :
    (dats m 0 c).flushed 8 t = ((cfg0.win 8).blk t).view.read (Elt Ideal) (result m c) := by
  have hf := idx_facts t
  rw [flushed8]
  funext j
  obtain ⟨a, n, rfl⟩ : ∃ (a : Fin 1024) (n : Fin 1024), j = ix2 a n := ⟨j 0, j 1, eq_ix2 j⟩
  show (outsAt0 m c t.val t.isLt).1 (ix2 a n) = result m c (((cfg0.win 8).blk t).view.emb (ix2 a n))
  have he : ((cfg0.win 8).blk t).view.emb (ix2 a n) = (ix2 ⟨1024 * (t.val / 4) + a.val, row_lt t.val t.isLt a⟩ n : S16384x1024.Idx) := by
    funext d
    apply Fin.ext
    match d with
    | ⟨0, _⟩ => show win0_8.index t (0 : Fin 2) * 1024 + 1 * a.val = 1024 * (t.val / 4) + a.val; rw [hf.2.2.2.2.2.2.2.2.2.2.2.2.2.2.2.2.1]; omega
    | ⟨1, _⟩ => show win0_8.index t (1 : Fin 2) * 1024 + 1 * n.val = n.val; rw [hf.2.2.2.2.2.2.2.2.2.2.2.2.2.2.2.2.2]; omega
  rw [he]
  exact last m c t ((flush0_8 t).mp hfl) a n

theorem final_o (c : Dev nD) : (dats m 0 c).arrAt 8 cfg0.N = result m c :=
  (dats m 0 c).arrAt_eq_of_cover 8 (result m c) (flushed_eq m c) fun i => by
    have h0 : (i 0 : Nat) < 16384 := (i 0).isLt
    have h1 : (i 1 : Nat) < 1024 := (i 1).isLt
    have hN := N_eq
    obtain ⟨t, hte⟩ : ∃ t : Fin cfg0.N, t.val = 4 * ((i 0 : Nat) / 1024) + 3 := ⟨⟨4 * ((i 0 : Nat) / 1024) + 3, by omega⟩, rfl⟩
    have hf := idx_facts t
    refine ⟨t, (flush0_8 t).mpr (by omega), ?_⟩
    show i ∈ ((View.whole main_v7).slice (win0_8.rect t)).set
    rw [View.set_slice_whole, Rect.mem_set_unit]
    intro a
    match a with
    | ⟨0, _⟩ =>
      show win0_8.index t (0 : Fin 2) * 1024 ≤ (i 0 : Nat) ∧ (i 0 : Nat) < win0_8.index t (0 : Fin 2) * 1024 + 1024
      rw [hf.2.2.2.2.2.2.2.2.2.2.2.2.2.2.2.2.1]; omega
    | ⟨1, _⟩ =>
      show win0_8.index t (1 : Fin 2) * 1024 ≤ (i 1 : Nat) ∧ (i 1 : Nat) < win0_8.index t (1 : Fin 2) * 1024 + 1024
      rw [hf.2.2.2.2.2.2.2.2.2.2.2.2.2.2.2.2.2]; omega

end Cert.EvenMlpIdeal.Value

namespace Cert.EvenMlpValue

open Idealize.ShloMosaic Idealize.ShloMosaic.TcCoe Idealize.SL.Sem Cert.Rows

/-- The kernel and the reference agree: both leave every projected row with the feed-forward map of its norm added. -/
theorem algebraic : Cert.algebraic_EvenMlpIdeal_EvenMlpRefIdeal (hEvenMlpIdeal := Cert.EvenMlpIdeal.Gen.facts)
    (hEvenMlpRefIdeal := Cert.EvenMlpRefIdeal.Gen.facts) := by
  intro m g m' g' _ hargs
  refine ⟨fun c => Cert.EvenMlpIdeal.Value.result m c, ?_, ?_⟩
  · exact (θ_run Cert.EvenMlpIdeal.defs _ _).mono
      (fun r h c => ⟨(Cert.EvenMlpIdeal.Value.post8 m r h c).trans (Cert.EvenMlpIdeal.Value.final_o m c),
        Cert.EvenMlpIdeal.Value.kept_main_arg0 m r h c, Cert.EvenMlpIdeal.Value.kept_main_arg1 m r h c, Cert.EvenMlpIdeal.Value.kept_main_arg2 m r h c, Cert.EvenMlpIdeal.Value.kept_main_arg3 m r h c, Cert.EvenMlpIdeal.Value.kept_main_arg4 m r h c, Cert.EvenMlpIdeal.Value.kept_main_arg5 m r h c, Cert.EvenMlpIdeal.Value.kept_main_arg6 m r h c⟩) (Cert.EvenMlpIdeal.Gen.run_main m g)
  · refine (θ_run Cert.EvenMlpRefIdeal.defs _ _).mono (fun r h c => ⟨(h c).1.trans ?_, (h c).2⟩) (Cert.EvenMlpRefIdeal.Value.run m' g')
    obtain ⟨h0, h1, h2, h3, h4, h5, h6⟩ := hargs c
    unfold Cert.EvenMlpRefIdeal.Value.res_main_v21
    rw [h0, h1, h2, h3, h4, h5, h6]
    funext j
    obtain ⟨a, n, rfl⟩ : ∃ (a : Fin 16384) (n : Fin 1024), j = ix2 a n := ⟨j 0, j 1, eq_ix2 j⟩
    unfold Cert.EvenMlpIdeal.Value.result mlp hid nrm Cert.EvenMlpIdeal.Value.rowX Cert.EvenMlpIdeal.Value.scaleG Cert.EvenMlpIdeal.Value.upW Cert.EvenMlpIdeal.Value.downW Cert.EvenMlpIdeal.Value.at2
    pointwise
    simp only [add_assoc]

end Cert.EvenMlpValue

end
-- ==== Proof.OddInValue.lean ====
/-
  The value of the odd layer's entry projection: every row normalised and multiplied by the weights.
-/
module

public import proofs.«01_k».proof.Defs
public import proofs.«01_k».proof.Proof.Gen.OddInIdeal.Value
public import proofs.«01_k».proof.Proof.Gen.OddInRefIdeal.Run
public import proofs.«01_k».proof.Proof.Rows

@[expose] public section

set_option maxRecDepth 16384

noncomputable section

namespace Cert.OddInIdeal.Value

open Cert.OddInIdeal Cert.OddInIdeal.Gen Idealize.ShloMosaic Idealize.ShloMosaic.TcCoe Idealize.SL.Sem
open Cert.Rows

theorem hz : (![0, 0] : Fin 2 → Nat) = fun _ => 0 := funext fun a => by fin_cases a <;> rfl

section AnyFloat
variable {F : FTy → Type} [FloatOps F]

/-- The body leaves its payload of the three input blocks. -/
theorem out_eq (x0 : Vec F S512x1024 .f32) (x1 : Vec F S1x1024 .f32) (x2 : Vec F S1024x4096 .bf16) :
    out0_3 x0 x1 x2 = k0_pay1 x0 x1 x2 := by
  unfold out0_3
  rw [View.canon_unit_zero hz, View.ld_unit_zero hz, View.ld_unit_zero hz, View.ld_unit_zero hz]

end AnyFloat

/-- The payload at an entry: the normalised row against the weight's column. -/
theorem pay_apply (x0 : Vec Ideal S512x1024 .f32) (x1 : Vec Ideal S1x1024 .f32) (x2 : Vec Ideal S1024x4096 .bf16)
    (a : Fin 512) (n : Fin 4096) :
    k0_pay1 x0 x1 x2 (ix2 a n) = ∑ l, nrm (fun l => x0 (ix2 a l)) (fun l => x1 (ix2 0 l)) l * x2 (ix2 l n) := by
  unfold nrm
  pointwise [Gen.k0_pay1]

variable (m : (ℓ : Loc nD τ sig) → Buf (Elt Ideal) ℓ) (ρ : Dev nD → PrngReg)

/-- The result: every row normalised and multiplied by the weights. -/
def G (x : Vec Ideal S16384x1024 .f32) (g : Vec Ideal S1024 .f32) (w : Vec Ideal S1024x4096 .f32) : Vec Ideal S16384x4096 .f32 :=
  fun i => ∑ l, nrm (fun l => x (ix2 (i 0) l)) (fun l => g (ix1 l)) l * w (ix2 l (i 1))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_eq : cfg0.N = 32 := N_0

/-- The three input blocks of a point, read at an entry: rows `512 t …` of the first argument, the whole scale, the
    whole weight. -/
theorem blk0 (c : Dev nD) (t : Fin cfg0.N) (a : Fin 512) (l : Fin 1024) :
    (iblk m c 0 t : Vec Ideal S512x1024 .f32) (ix2 a l)
      = m ((c : Thread nD τ).loc main_arg0) (ix2 ⟨512 * t.val + a.val, by have := t.isLt; have := N_eq; omega⟩ l) := by
  have hf := idx_facts t
  show V m c main_arg0 (((cfg0.win 0).blk t).view.emb (ix2 a l)) = _
  rw [V_main_arg0]
  congr 1
  funext d
  apply Fin.ext
  match d with
  | ⟨0, _⟩ => show win0_0.index t (0 : Fin 2) * 512 + 1 * a.val = 512 * t.val + a.val; rw [hf.1]; omega
  | ⟨1, _⟩ => show win0_0.index t (1 : Fin 2) * 1024 + 1 * l.val = l.val; rw [hf.2.1]; omega

theorem V_v1 (c : Dev nD) : (V m c main_v1 : Vec Ideal S1x1024 .f32)
    = shapeCast S1x1024 (m ((c : Thread nD τ).loc main_arg1)) shapeCasts_S1024_S1x1024 := by
  show StableHlo.after hostOps0 _ _ = _
  after_results
  rfl

theorem V_v0 (c : Dev nD) : (V m c main_v0 : Vec Ideal S1024x4096 .bf16)
    = (m ((c : Thread nD τ).loc main_arg2) : Vec Ideal S1024x4096 .f32) := by
  show StableHlo.after hostOps0 _ _ = _
  after_results
  rfl

theorem blk1 (c : Dev nD) (t : Fin cfg0.N) (l : Fin 1024) :
    (iblk m c 1 t : Vec Ideal S1x1024 .f32) (ix2 0 l) = m ((c : Thread nD τ).loc main_arg1) (ix1 l) := by
  have hf := idx_facts t
  show V m c main_v1 (((cfg0.win 1).blk t).view.emb (ix2 0 l)) = _
  have he : ((cfg0.win 1).blk t).view.emb (ix2 0 l) = (ix2 0 l : S1x1024.Idx) := by
    funext d
    apply Fin.ext
    match d with
    | ⟨0, _⟩ => show win0_1.index t (0 : Fin 2) * 1 + 1 * 0 = 0; rw [hf.2.2.1]
    | ⟨1, _⟩ => show win0_1.index t (1 : Fin 2) * 1024 + 1 * l.val = l.val; rw [hf.2.2.2.1]; omega
  rw [he, V_v1]
  pointwise

theorem blk2 (c : Dev nD) (t : Fin cfg0.N) (l : Fin 1024) (n : Fin 4096) :
    (iblk m c 2 t : Vec Ideal S1024x4096 .bf16) (ix2 l n) = m ((c : Thread nD τ).loc main_arg2) (ix2 l n) := by
  have hf := idx_facts t
  show V m c main_v0 (((cfg0.win 2).blk t).view.emb (ix2 l n)) = _
  have he : ((cfg0.win 2).blk t).view.emb (ix2 l n) = (ix2 l n : S1024x4096.Idx) := by
    funext d
    apply Fin.ext
    match d with
    | ⟨0, _⟩ => show win0_2.index t (0 : Fin 2) * 1024 + 1 * l.val = l.val; rw [hf.2.2.2.2.1]; omega
    | ⟨1, _⟩ => show win0_2.index t (1 : Fin 2) * 4096 + 1 * n.val = n.val; rw [hf.2.2.2.2.2.1]; omega
  rw [he, V_v0]

/-- The result as a function of the arguments as launched. -/
abbrev result (c : Dev nD) : Buf (Elt Ideal) ((c : Thread nD τ).loc main_v2) :=
  G (m ((c : Thread nD τ).loc main_arg0)) (m ((c : Thread nD τ).loc main_arg1)) (m ((c : Thread nD τ).loc main_arg2))

/-- What a point writes back is its block of the result. -/
theorem flushed_eq (c : Dev nD) (t : Fin cfg0.N) (_ : (cfg0.win 3).flush t = true) :
    (dats m 0 c).flushed 3 t = ((cfg0.win 3).blk t).view.read (Elt Ideal) (result m c) := by
  have hf := idx_facts t
  rw [flushed3, out_eq]
  funext j
  obtain ⟨a, n, rfl⟩ : ∃ (a : Fin 512) (n : Fin 4096), j = ix2 a n := ⟨j 0, j 1, eq_ix2 j⟩
  show k0_pay1 (iblk m c 0 t) (iblk m c 1 t) (iblk m c 2 t) (ix2 a n) = result m c (((cfg0.win 3).blk t).view.emb (ix2 a n))
  have he : ((cfg0.win 3).blk t).view.emb (ix2 a n)
      = (ix2 ⟨512 * t.val + a.val, by have := t.isLt; have := N_eq; omega⟩ n : S16384x4096.Idx) := by
    funext d
    apply Fin.ext
    match d with
    | ⟨0, _⟩ => show win0_3.index t (0 : Fin 2) * 512 + 1 * a.val = 512 * t.val + a.val; rw [hf.2.2.2.2.2.2.1]; omega
    | ⟨1, _⟩ => show win0_3.index t (1 : Fin 2) * 4096 + 1 * n.val = n.val; rw [hf.2.2.2.2.2.2.2]; omega
  rw [he]
  refine (pay_apply _ _ _ a n).trans ?_
  simp only [blk0, blk1, blk2]
  rfl

/-- Every entry of the result lies in a written block. -/
theorem final_o (c : Dev nD) : (dats m 0 c).arrAt 3 cfg0.N = result m c :=
  (dats m 0 c).arrAt_eq_of_cover 3 (result m c) (flushed_eq m c) fun i => by
    have h0 : (i 0 : Nat) < 16384 := (i 0).isLt
    have h1 : (i 1 : Nat) < 4096 := (i 1).isLt
    have hN := N_eq
    have ht : (i 0 : Nat) / 512 < cfg0.N := by omega
    have hf := idx_facts ⟨(i 0 : Nat) / 512, ht⟩
    refine ⟨⟨(i 0 : Nat) / 512, ht⟩, (by decide +kernel : ∀ t : Fin grid0.N, win0_3.flush t = true) _, ?_⟩
    show i ∈ ((View.whole main_v2).slice (win0_3.rect ⟨(i 0 : Nat) / 512, ht⟩)).set
    rw [View.set_slice_whole, Rect.mem_set_unit]
    intro a
    match a with
    | ⟨0, _⟩ =>
      show win0_3.index ⟨(i 0 : Nat) / 512, ht⟩ (0 : Fin 2) * 512 ≤ (i 0 : Nat) ∧ (i 0 : Nat) < win0_3.index ⟨(i 0 : Nat) / 512, ht⟩ (0 : Fin 2) * 512 + 512
      rw [hf.2.2.2.2.2.2.1]; dsimp only; omega
    | ⟨1, _⟩ =>
      show win0_3.index ⟨(i 0 : Nat) / 512, ht⟩ (1 : Fin 2) * 4096 ≤ (i 1 : Nat) ∧ (i 1 : Nat) < win0_3.index ⟨(i 0 : Nat) / 512, ht⟩ (1 : Fin 2) * 4096 + 4096
      rw [hf.2.2.2.2.2.2.2]; omega

end Cert.OddInIdeal.Value

namespace Cert.OddInValue

open Idealize.ShloMosaic Idealize.ShloMosaic.TcCoe Idealize.SL.Sem Cert.Rows

/-- The kernel and the reference agree: both leave every row normalised and multiplied by the weights. -/
theorem algebraic : Cert.algebraic_OddInIdeal_OddInRefIdeal (hOddInIdeal := Cert.OddInIdeal.Gen.facts)
    (hOddInRefIdeal := Cert.OddInRefIdeal.Gen.facts) := by
  intro m g m' g' _ hargs
  refine ⟨fun c => Cert.OddInIdeal.Value.result m c, ?_, ?_⟩
  · exact (θ_run Cert.OddInIdeal.defs _ _).mono
      (fun r h c => ⟨(h c).1.trans (Cert.OddInIdeal.Value.final_o m c), (h c).2⟩) (Cert.OddInIdeal.Value.run_blocks m g)
  · refine (θ_run Cert.OddInRefIdeal.defs _ _).mono (fun r h c => ⟨(h c).1.trans ?_, (h c).2⟩) (Cert.OddInRefIdeal.Value.run m' g')
    obtain ⟨h0, h1, h2⟩ := hargs c
    rw [h0, h1, h2]
    funext j
    obtain ⟨a, n, rfl⟩ : ∃ (a : Fin 16384) (n : Fin 4096), j = ix2 a n := ⟨j 0, j 1, eq_ix2 j⟩
    unfold Cert.OddInIdeal.Value.result Cert.OddInIdeal.Value.G nrm
    pointwise

end Cert.OddInValue

end
-- ==== Proof.OddMlpSValue.lean ====
/-
  The value of the odd layer's exit on the samples: the tiles' folds over the hidden layer's
  four runs are, row by row, the projected row plus the feed-forward map of its norm.
-/
module

public import proofs.«01_k».proof.Defs
public import proofs.«01_k».proof.Proof.Gen.OddMlpSIdeal.Value
public import proofs.«01_k».proof.Proof.Gen.OddMlpSRefIdeal.Run
public import proofs.«01_k».proof.Proof.Rows

@[expose] public section

set_option maxRecDepth 16384

noncomputable section

namespace Cert.OddMlpSIdeal.Value

open Cert.OddMlpSIdeal Cert.OddMlpSIdeal.Gen Idealize.ShloMosaic Idealize.ShloMosaic.TcCoe Idealize.SL.Sem
open Cert.Rows

theorem hz : (![0, 0] : Fin 2 → Nat) = fun _ => 0 := funext fun a => by fin_cases a <;> rfl

section AnyFloat
variable {F : FTy → Type} [FloatOps F]

/-- The first point of a tile leaves the normalised rows. -/
theorem keepA (c : Dev nD) (i : grid0.Coords) (a0 : Memref sig .tc .vmem S128x1024 .f32) (h0 : a0.IsWhole) (a1 : Memref sig .tc .vmem S128x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S128x1024 .f32) (h6 : a6.IsWhole) (a7 : Memref sig .tc .vmem S128x1024 .bf16) (h7 : a7.IsWhole) (a8 : Memref sig .tc .vmem S128x1024 .f32) (h8 : a8.IsWhole)
    (hc0 : cond0_0 i) (hc1 : ¬cond0_1 i) (x0 : Vec F S128x1024 .f32) (x1 : Vec F S128x1024 .f32) (x2 : Vec F S1024x1024 .bf16) (x3 : Vec F S1x1024 .f32) (x4 : Vec F S1024x1024 .bf16) (x5 : Vec F S1024x1024 .bf16) :
    sout0_A_0 c i a0 h0 a1 h1 a2 h2 a3 h3 a4 h4 a5 h5 a6 h6 a7 h7 a8 h8 hc0 hc1 x0 x1 x2 x3 x4 x5 = k0_pay2 x0 x1 x2 x3 := by
  unfold sout0_A_0
  rw [View.read_writes_eq_canon _ _ _ (scover0_A_0 c i a0 h0 a1 h1 a2 h2 a3 h3 a4 h4 a5 h5 a6 h6 a7 h7 a8 h8 hc0 hc1 x0 x1 x2 x3 x4 x5)]
  unfold kernelRun0_A
  dsimp only
  sl_unfold_words
  rw [View.canon_unit_zero (S := S128x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S128x1024) hz, View.ld_unit_zero (S := S1x1024) hz, shapeCast_self]

/-- … and the projected rows with the first run of the hidden layer added. -/
theorem accA (c : Dev nD) (i : grid0.Coords) (a0 : Memref sig .tc .vmem S128x1024 .f32) (h0 : a0.IsWhole) (a1 : Memref sig .tc .vmem S128x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S128x1024 .f32) (h6 : a6.IsWhole) (a7 : Memref sig .tc .vmem S128x1024 .bf16) (h7 : a7.IsWhole) (a8 : Memref sig .tc .vmem S128x1024 .f32) (h8 : a8.IsWhole)
    (hc0 : cond0_0 i) (hc1 : ¬cond0_1 i) (x0 : Vec F S128x1024 .f32) (x1 : Vec F S128x1024 .f32) (x2 : Vec F S1024x1024 .bf16) (x3 : Vec F S1x1024 .f32) (x4 : Vec F S1024x1024 .bf16) (x5 : Vec F S1024x1024 .bf16) :
    sout0_A_1 c i a0 h0 a1 h1 a2 h2 a3 h3 a4 h4 a5 h5 a6 h6 a7 h7 a8 h8 hc0 hc1 x0 x1 x2 x3 x4 x5
      = k0_pay4 (k0_pay2 x0 x1 x2 x3) x4 (k0_pay3 x0 x1 x2) x5 := by
  unfold sout0_A_1
  rw [View.read_writes_eq_canon _ _ _ (scover0_A_1 c i a0 h0 a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S128x1024) hz]
  simp only [View.readCov_unit_zero (S := S128x1024) _ hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S128x1024) hz, View.ld_unit_zero (S := S1x1024) hz, shapeCast_self]

/-- A middle point adds its run to what the point before left. -/
theorem accB (c : Dev nD) (i : grid0.Coords) (a0 : Memref sig .tc .vmem S128x1024 .f32) (h0 : a0.IsWhole) (a1 : Memref sig .tc .vmem S128x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S128x1024 .f32) (h6 : a6.IsWhole) (a7 : Memref sig .tc .vmem S128x1024 .bf16) (h7 : a7.IsWhole) (a8 : Memref sig .tc .vmem S128x1024 .f32) (h8 : a8.IsWhole)
    (hc0 : ¬cond0_0 i) (hc1 : ¬cond0_1 i) (x0 : Vec F S128x1024 .f32) (x1 : Vec F S128x1024 .f32) (x2 : Vec F S1024x1024 .bf16) (x3 : Vec F S1x1024 .f32) (x4 : Vec F S1024x1024 .bf16) (x5 : Vec F S1024x1024 .bf16) (s0 : Vec F S128x1024 .bf16) (s1 : Vec F S128x1024 .f32) :
    sout0_B_1 c i a0 h0 a1 h1 a2 h2 a3 h3 a4 h4 a5 h5 a6 h6 a7 h7 a8 h8 hc0 hc1 x0 x1 x2 x3 x4 x5 s0 s1 = k0_pay4 s0 x4 s1 x5 := by
  unfold sout0_B_1
  rw [View.read_writes_eq_canon _ _ _ (scover0_B_1 c i a0 h0 a1 h1 a2 h2 a3 h3 a4 h4 a5 h5 a6 h6 a7 h7 a8 h8 hc0 hc1 x0 x1 x2 x3 x4 x5 s0 s1)]
  unfold kernelRun0_B
  dsimp only
  sl_unfold_words
  rw [View.canon_unit_zero (S := S128x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S128x1024) hz, View.ld_unit_zero (S := S1x1024) hz, shapeCast_self]

/-- So does the last point. -/
theorem accC (c : Dev nD) (i : grid0.Coords) (a0 : Memref sig .tc .vmem S128x1024 .f32) (h0 : a0.IsWhole) (a1 : Memref sig .tc .vmem S128x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S128x1024 .f32) (h6 : a6.IsWhole) (a7 : Memref sig .tc .vmem S128x1024 .bf16) (h7 : a7.IsWhole) (a8 : Memref sig .tc .vmem S128x1024 .f32) (h8 : a8.IsWhole)
    (hc0 : ¬cond0_0 i) (hc1 : cond0_1 i) (x0 : Vec F S128x1024 .f32) (x1 : Vec F S128x1024 .f32) (x2 : Vec F S1024x1024 .bf16) (x3 : Vec F S1x1024 .f32) (x4 : Vec F S1024x1024 .bf16) (x5 : Vec F S1024x1024 .bf16) (s0 : Vec F S128x1024 .bf16) (s1 : Vec F S128x1024 .f32) :
    sout0_C_1 c i a0 h0 a1 h1 a2 h2 a3 h3 a4 h4 a5 h5 a6 h6 a7 h7 a8 h8 hc0 hc1 x0 x1 x2 x3 x4 x5 s0 s1 = k0_pay4 s0 x4 s1 x5 := by
  unfold sout0_C_1
  rw [View.read_writes_eq_canon _ _ _ (scover0_C_1 c i a0 h0 a1 h1 a2 h2 a3 h3 a4 h4 a5 h5 a6 h6 a7 h7 a8 h8 hc0 hc1 x0 x1 x2 x3 x4 x5 s0 s1)]
  unfold kernelRun0_C
  dsimp only
  sl_unfold_words
  rw [View.canon_unit_zero (S := S128x1024) hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S128x1024) hz, View.ld_unit_zero (S := S1x1024) hz, shapeCast_self]

/-- The last point's output is the accumulator it has just stored. -/
theorem outC (c : Dev nD) (i : grid0.Coords) (a0 : Memref sig .tc .vmem S128x1024 .f32) (h0 : a0.IsWhole) (a1 : Memref sig .tc .vmem S128x1024 .f32) (h1 : a1.IsWhole) (a2 : Memref sig .tc .vmem S1024x1024 .bf16) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S128x1024 .f32) (h6 : a6.IsWhole) (a7 : Memref sig .tc .vmem S128x1024 .bf16) (h7 : a7.IsWhole) (a8 : Memref sig .tc .vmem S128x1024 .f32) (h8 : a8.IsWhole)
    (hc0 : ¬cond0_0 i) (hc1 : cond0_1 i) (x0 : Vec F S128x1024 .f32) (x1 : Vec F S128x1024 .f32) (x2 : Vec F S1024x1024 .bf16) (x3 : Vec F S1x1024 .f32) (x4 : Vec F S1024x1024 .bf16) (x5 : Vec F S1024x1024 .bf16) (s0 : Vec F S128x1024 .bf16) (s1 : Vec F S128x1024 .f32) :
    out0_C_6 c i a0 h0 a1 h1 a2 h2 a3 h3 a4 h4 a5 h5 a6 h6 a7 h7 a8 h8 hc0 hc1 x0 x1 x2 x3 x4 x5 s0 s1 = k0_pay4 s0 x4 s1 x5 := by
  unfold out0_C_6
  rw [View.read_writes_eq_canon _ _ _ (cover0_C_6 c i a0 h0 a1 h1 a2 h2 a3 h3 a4 h4 a5 h5 a6 h6 a7 h7 a8 h8 hc0 hc1 x0 x1 x2 x3 x4 x5 s0 s1)]
  unfold kernelRun0_C
  dsimp only
  sl_unfold_words
  rw [View.canon_unit_zero (S := S128x1024) hz]
  simp only [View.readCov_unit_zero (S := S128x1024) _ hz]
  simp only [View.readAt_eq_ld, h0.read_unread, h1.read_unread, h2.read_unread, h3.read_unread, h4.read_unread, h5.read_unread, h6.read_unread, h7.read_unread, h8.read_unread, View.ld_unit_zero (S := S1024x1024) hz, View.ld_unit_zero (S := S128x1024) hz, View.ld_unit_zero (S := S1x1024) hz, shapeCast_self]

end AnyFloat

/-! The payloads at an entry. -/

theorem pay1_apply (x0 : Vec Ideal S128x1024 .f32) (x1 : Vec Ideal S128x1024 .f32) (x2 : Vec Ideal S1024x1024 .bf16) (a : Fin 128) (n : Fin 1024) :
    k0_pay1 x0 x1 x2 (ix2 a n) = x0 (ix2 a n) + ∑ k, x1 (ix2 a k) * x2 (ix2 k n) := by
  pointwise [Gen.k0_pay1]

theorem pay3_apply (x0 : Vec Ideal S128x1024 .f32) (x1 : Vec Ideal S128x1024 .f32) (x2 : Vec Ideal S1024x1024 .bf16) (a : Fin 128) (n : Fin 1024) :
    k0_pay3 x0 x1 x2 (ix2 a n) = k0_pay1 x0 x1 x2 (ix2 a n) := by
  unfold k0_pay3
  generalize k0_pay1 x0 x1 x2 = y
  pointwise

theorem pay2_apply (x0 : Vec Ideal S128x1024 .f32) (x1 : Vec Ideal S128x1024 .f32) (x2 : Vec Ideal S1024x1024 .bf16) (x3 : Vec Ideal S1x1024 .f32) (a : Fin 128) (l : Fin 1024) :
    k0_pay2 x0 x1 x2 x3 (ix2 a l) = nrm (fun n => k0_pay1 x0 x1 x2 (ix2 a n)) (fun n => x3 (ix2 0 n)) l := by
  unfold k0_pay2 nrm
  generalize k0_pay1 x0 x1 x2 = y
  pointwise

theorem pay4_apply (v3 : Vec Ideal S128x1024 .bf16) (v4 : Vec Ideal S1024x1024 .bf16) (v9 : Vec Ideal S128x1024 .f32)
    (v12 : Vec Ideal S1024x1024 .bf16) (a : Fin 128) (n : Fin 1024) :
    k0_pay4 v3 v4 v9 v12 (ix2 a n) = v9 (ix2 a n)
      + ∑ k, max (∑ l, v3 (ix2 a l) * v4 (ix2 l k)) 0 * max (∑ l, v3 (ix2 a l) * v4 (ix2 l k)) 0 * v12 (ix2 k n) := by
  pointwise [Gen.k0_pay4]

variable (m : (ℓ : Loc nD τ sig) → Buf (Elt Ideal) ℓ) (ρ : Dev nD → PrngReg)

theorem N_eq : cfg0.N = 4 := N_0

theorem row_lt (n : Nat) (h : n < cfg0.N) (a : Fin 128) : 128 * (n / 4) + a.val < 128 := by have := N_eq; omega
theorem run_lt (n : Nat) (k : Fin 1024) : 1024 * (n % 4) + k.val < 4096 := by omega

theorem idx_facts : ∀ t : Fin cfg0.N, win0_0.index t (0 : Fin 2) = t.val / 4 ∧ win0_0.index t (1 : Fin 2) = 0 ∧ win0_1.index t (0 : Fin 2) = t.val / 4 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = t.val % 4 ∧ win0_5.index t (0 : Fin 2) = t.val % 4 ∧ win0_5.index t (1 : Fin 2) = 0 ∧ win0_6.index t (0 : Fin 2) = t.val / 4 ∧ win0_6.index t (1 : Fin 2) = 0 :=
  (by decide +kernel : ∀ t : Fin grid0.N, _)

theorem V_main_v0 (c : Dev nD) : (V m c main_v0 : Vec Ideal S1024x1024 .bf16) = (m ((c : Thread nD τ).loc main_arg2) : Vec Ideal S1024x1024 .f32) := by
  show StableHlo.after hostOps0 _ _ = _
  after_results
  rfl

theorem V_main_v1 (c : Dev nD) : (V m c main_v1 : Vec Ideal S1024x4096 .bf16) = (m ((c : Thread nD τ).loc main_arg4) : Vec Ideal S1024x4096 .f32) := by
  show StableHlo.after hostOps0 _ _ = _
  after_results
  rfl

theorem V_main_v2 (c : Dev nD) : (V m c main_v2 : Vec Ideal S4096x1024 .bf16) = (m ((c : Thread nD τ).loc main_arg5) : Vec Ideal S4096x1024 .f32) := by
  show StableHlo.after hostOps0 _ _ = _
  after_results
  rfl

theorem V_main_v3 (c : Dev nD) : (V m c main_v3 : Vec Ideal S1x1024 .f32) = shapeCast S1x1024 (m ((c : Thread nD τ).loc main_arg3)) shapeCasts_S1024_S1x1024 := by
  show StableHlo.after hostOps0 _ _ = _
  after_results
  rfl

theorem blk0 (c : Dev nD) (t : Fin cfg0.N) (a : Fin 128) (n : Fin 1024) :
    (iblk m c 0 t : Vec Ideal S128x1024 .f32) (ix2 a n) = m ((c : Thread nD τ).loc main_arg0) (ix2 ⟨128 * (t.val / 4) + a.val, row_lt t.val t.isLt a⟩ n) := by
  have hf := idx_facts t
  show V m c main_arg0 (((cfg0.win 0).blk t).view.emb (ix2 a n)) = _
  have he : ((cfg0.win 0).blk t).view.emb (ix2 a n) = (ix2 (⟨128 * (t.val / 4) + a.val, row_lt t.val t.isLt a⟩) n : S128x1024.Idx) := by
    funext d
    apply Fin.ext
    match d with
    | ⟨0, _⟩ => show win0_0.index t (0 : Fin 2) * 128 + 1 * a.val = 128 * (t.val / 4) + a.val; rw [hf.1]; omega
    | ⟨1, _⟩ => show win0_0.index t (1 : Fin 2) * 1024 + 1 * n.val = n.val; rw [hf.2.1]; omega
  rw [he, V_main_arg0]

theorem blk1 (c : Dev nD) (t : Fin cfg0.N) (a : Fin 128) (k : Fin 1024) :
    (iblk m c 1 t : Vec Ideal S128x1024 .f32) (ix2 a k) = m ((c : Thread nD τ).loc main_arg1) (ix2 ⟨128 * (t.val / 4) + a.val, row_lt t.val t.isLt a⟩ k) := by
  have hf := idx_facts t
  show V m c main_arg1 (((cfg0.win 1).blk t).view.emb (ix2 a k)) = _
  have he : ((cfg0.win 1).blk t).view.emb (ix2 a k) = (ix2 (⟨128 * (t.val / 4) + a.val, row_lt t.val t.isLt a⟩) k : S128x1024.Idx) := by
    funext d
    apply Fin.ext
    match d with
    | ⟨0, _⟩ => show win0_1.index t (0 : Fin 2) * 128 + 1 * a.val = 128 * (t.val / 4) + a.val; rw [hf.2.2.1]; omega
    | ⟨1, _⟩ => show win0_1.index t (1 : Fin 2) * 1024 + 1 * k.val = k.val; rw [hf.2.2.2.1]; omega
  rw [he, V_main_arg1]

theorem blk2 (c : Dev nD) (t : Fin cfg0.N) (k : Fin 1024) (n : Fin 1024) :
    (iblk m c 2 t : Vec Ideal S1024x1024 .bf16) (ix2 k n) = m ((c : Thread nD τ).loc main_arg2) (ix2 k n) := by
  have hf := idx_facts t
  show V m c main_v0 (((cfg0.win 2).blk t).view.emb (ix2 k n)) = _
  have he : ((cfg0.win 2).blk t).view.emb (ix2 k n) = (ix2 k n : S1024x1024.Idx) := by
    funext d
    apply Fin.ext
    match d with
    | ⟨0, _⟩ => show win0_2.index t (0 : Fin 2) * 1024 + 1 * k.val = k.val; rw [hf.2.2.2.2.1]; omega
    | ⟨1, _⟩ => show win0_2.index t (1 : Fin 2) * 1024 + 1 * n.val = n.val; rw [hf.2.2.2.2.2.1]; omega
  rw [he, V_main_v0]

theorem blk3 (c : Dev nD) (t : Fin cfg0.N) (l : Fin 1024) :
    (iblk m c 3 t : Vec Ideal S1x1024 .f32) (ix2 0 l) = m ((c : Thread nD τ).loc main_arg3) (ix1 l) := by
  have hf := idx_facts t
  show V m c main_v3 (((cfg0.win 3).blk t).view.emb (ix2 0 l)) = _
  have he : ((cfg0.win 3).blk t).view.emb (ix2 0 l) = (ix2 0 l : S1x1024.Idx) := by
    funext d
    apply Fin.ext
    match d with
    | ⟨0, _⟩ => show win0_3.index t (0 : Fin 2) * 1 + 1 * 0 = 0; rw [hf.2.2.2.2.2.2.1]
    | ⟨1, _⟩ => show win0_3.index t (1 : Fin 2) * 1024 + 1 * l.val = l.val; rw [hf.2.2.2.2.2.2.2.1]; omega
  rw [he, V_main_v3]
  pointwise

theorem blk4 (c : Dev nD) (t : Fin cfg0.N) (l : Fin 1024) (k : Fin 1024) :
    (iblk m c 4 t : Vec Ideal S1024x1024 .bf16) (ix2 l k) = m ((c : Thread nD τ).loc main_arg4) (ix2 l ⟨1024 * (t.val % 4) + k.val, run_lt t.val k⟩) := by
  have hf := idx_facts t
  show V m c main_v1 (((cfg0.win 4).blk t).view.emb (ix2 l k)) = _
  have he : ((cfg0.win 4).blk t).view.emb (ix2 l k) = (ix2 l (⟨1024 * (t.val % 4) + k.val, run_lt t.val k⟩) : S1024x4096.Idx) := by
    funext d
    apply Fin.ext
    match d with
    | ⟨0, _⟩ => show win0_4.index t (0 : Fin 2) * 1024 + 1 * l.val = l.val; rw [hf.2.2.2.2.2.2.2.2.1]; omega
    | ⟨1, _⟩ => show win0_4.index t (1 : Fin 2) * 1024 + 1 * k.val = 1024 * (t.val % 4) + k.val; rw [hf.2.2.2.2.2.2.2.2.2.1]; omega
  rw [he, V_main_v1]

theorem blk5 (c : Dev nD) (t : Fin cfg0.N) (k : Fin 1024) (n : Fin 1024) :
    (iblk m c 5 t : Vec Ideal S1024x1024 .bf16) (ix2 k n) = m ((c : Thread nD τ).loc main_arg5) (ix2 ⟨1024 * (t.val % 4) + k.val, run_lt t.val k⟩ n) := by
  have hf := idx_facts t
  show V m c main_v2 (((cfg0.win 5).blk t).view.emb (ix2 k n)) = _
  have he : ((cfg0.win 5).blk t).view.emb (ix2 k n) = (ix2 (⟨1024 * (t.val % 4) + k.val, run_lt t.val k⟩) n : S4096x1024.Idx) := by
    funext d
    apply Fin.ext
    match d with
    | ⟨0, _⟩ => show win0_5.index t (0 : Fin 2) * 1024 + 1 * k.val = 1024 * (t.val % 4) + k.val; rw [hf.2.2.2.2.2.2.2.2.2.2.1]; omega
    | ⟨1, _⟩ => show win0_5.index t (1 : Fin 2) * 1024 + 1 * n.val = n.val; rw [hf.2.2.2.2.2.2.2.2.2.2.2.1]; omega
  rw [he, V_main_v2]

/-- A matrix by its two coordinates. -/
def at2 {R C : Nat} (x : (⟨2, ![R, C]⟩ : Shape).Idx → EReal) (r : Fin R) (k : Fin C) : EReal := x (ix2 r k)

/-- Row `r` after the projection. -/
def rowX (c : Dev nD) (r : Fin 128) : Fin 1024 → EReal := fun n => at2 (m ((c : Thread nD τ).loc main_arg0)) r n + ∑ k : Fin 1024, at2 (m ((c : Thread nD τ).loc main_arg1)) r k * at2 (m ((c : Thread nD τ).loc main_arg2)) k n
/-- The scale and the two weights, by coordinates. -/
def scaleG (c : Dev nD) : Fin 1024 → EReal := fun l => m ((c : Thread nD τ).loc main_arg3) (ix1 l)
def upW (c : Dev nD) : Fin 1024 → Fin 4096 → EReal := fun l k => m ((c : Thread nD τ).loc main_arg4) (ix2 l k)
def downW (c : Dev nD) : Fin 4096 → Fin 1024 → EReal := fun k n => m ((c : Thread nD τ).loc main_arg5) (ix2 k n)

/-- The term hidden unit `k` adds to entry `n` of row `r`. -/
def term (c : Dev nD) (r : Fin 128) (n : Fin 1024) (k : Fin 4096) : EReal :=
  hid (rowX m c r) (scaleG m c) (upW m c) k * downW m c k n

theorem proj_eq (c : Dev nD) (t : Fin cfg0.N) (a : Fin 128) (n : Fin 1024) :
    k0_pay1 (iblk m c 0 t) (iblk m c 1 t) (iblk m c 2 t) (ix2 a n) = rowX m c ⟨128 * (t.val / 4) + a.val, row_lt t.val t.isLt a⟩ n := by
  refine (pay1_apply _ _ _ a n).trans ?_
  simp only [blk0, blk1, blk2, blk3, blk4, blk5]
  rfl

theorem norm_eq (c : Dev nD) (t : Fin cfg0.N) (a : Fin 128) (l : Fin 1024) :
    k0_pay2 (iblk m c 0 t) (iblk m c 1 t) (iblk m c 2 t) (iblk m c 3 t) (ix2 a l) = nrm (rowX m c ⟨128 * (t.val / 4) + a.val, row_lt t.val t.isLt a⟩) (scaleG m c) l := by
  refine (pay2_apply _ _ _ _ a l).trans ?_
  simp only [proj_eq, blk3]
  rfl

theorem step_eq (c : Dev nD) (t : Fin cfg0.N) (h : Vec Ideal S128x1024 .bf16) (v : Vec Ideal S128x1024 .f32)
    (hh : ∀ (a : Fin 128) (l : Fin 1024), h (ix2 a l) = nrm (rowX m c ⟨128 * (t.val / 4) + a.val, row_lt t.val t.isLt a⟩) (scaleG m c) l) (a : Fin 128) (n : Fin 1024) :
    k0_pay4 h (iblk m c 4 t) v (iblk m c 5 t) (ix2 a n)
      = v (ix2 a n) + ∑ k : Fin 1024, term m c ⟨128 * (t.val / 4) + a.val, row_lt t.val t.isLt a⟩ n ⟨1024 * (t.val % 4) + k.val, run_lt t.val k⟩ := by
  refine (pay4_apply h _ v _ a n).trans ?_
  simp only [hh, blk4, blk5]
  rfl

/-- The first point of a tile. -/
theorem first (c : Dev nD) (t : Fin cfg0.N) (h0 : t.val % 4 = 0) :
    (∀ (a : Fin 128) (l : Fin 1024), (outsAt0 m c t.val t.isLt).2.1 (ix2 a l) = nrm (rowX m c ⟨128 * (t.val / 4) + a.val, row_lt t.val t.isLt a⟩) (scaleG m c) l)
    ∧ (∀ (a : Fin 128) (k : Fin 1024), (outsAt0 m c t.val t.isLt).2.2 (ix2 a k) = part (rowX m c ⟨128 * (t.val / 4) + a.val, row_lt t.val t.isLt a⟩ k) (term m c ⟨128 * (t.val / 4) + a.val, row_lt t.val t.isLt a⟩ k) (t.val % 4 + 1)) := by
  rw [outsAt0_A m c t h0 (by omega)]
  dsimp only
  rw [keepA, accA]
  refine ⟨fun a l => norm_eq m c t a l, fun a k => ?_⟩
  refine (step_eq m c t _ _ (fun a l => norm_eq m c t a l) a k).trans ?_
  rw [pay3_apply, proj_eq, part_succ _ _ _ (by omega : t.val % 4 < 4)]
  congr 1
  rw [h0]
  rfl

/-- What the two carried buffers hold after point `n`: the normalised rows of its tile, and the projected rows with the
    runs of the hidden layer up to the point's own added. -/
theorem carried (c : Dev nD) : ∀ (n : Nat) (hn : n < cfg0.N),
    (∀ (a : Fin 128) (l : Fin 1024), (outsAt0 m c n hn).2.1 (ix2 a l)
        = nrm (rowX m c ⟨128 * (n / 4) + a.val, row_lt n hn a⟩) (scaleG m c) l)
    ∧ (∀ (a : Fin 128) (k : Fin 1024), (outsAt0 m c n hn).2.2 (ix2 a k)
        = part (rowX m c ⟨128 * (n / 4) + a.val, row_lt n hn a⟩ k) (term m c ⟨128 * (n / 4) + a.val, row_lt n hn a⟩ k) (n % 4 + 1)) := by
  intro n
  induction n with
  | zero => exact fun hn => first m c ⟨0, hn⟩ rfl
  | succ n ih =>
    intro hn
    by_cases h0 : (n + 1) % 4 = 0
    · exact first m c ⟨n + 1, hn⟩ h0
    obtain ⟨i1, i2⟩ := ih (by omega)
    have hd : (n + 1) / 4 = n / 4 := by omega
    have hm : (n + 1) % 4 = n % 4 + 1 := by omega
    have hk : ∀ (a : Fin 128) (l : Fin 1024), (outsAt0 m c n (by omega)).2.1 (ix2 a l)
        = nrm (rowX m c ⟨128 * ((n + 1) / 4) + a.val, row_lt (n + 1) hn a⟩) (scaleG m c) l := by
      intro a l; rw [i1]; simp only [hd]
    have hs : ∀ (a : Fin 128) (k : Fin 1024), k0_pay4 (outsAt0 m c n (by omega)).2.1 (iblk m c 4 ⟨n + 1, hn⟩) (outsAt0 m c n (by omega)).2.2 (iblk m c 5 ⟨n + 1, hn⟩) (ix2 a k)
        = part (rowX m c ⟨128 * ((n + 1) / 4) + a.val, row_lt (n + 1) hn a⟩ k) (term m c ⟨128 * ((n + 1) / 4) + a.val, row_lt (n + 1) hn a⟩ k) ((n + 1) % 4 + 1) := by
      intro a k
      refine (step_eq m c ⟨n + 1, hn⟩ _ _ hk a k).trans ?_
      rw [i2, part_succ _ _ _ (by omega : (n + 1) % 4 < 4)]
      simp only [hd, hm]
    by_cases h1 : (n + 1) % 4 = 3
    · have e := outsAt0_C m c ⟨n + 1, hn⟩ h0 h1
      dsimp only at e
      rw [e]
      refine ⟨hk, fun a k => ?_⟩
      dsimp only
      rw [accC]
      exact hs a k
    · have e := outsAt0_B m c ⟨n + 1, hn⟩ h0 h1
      dsimp only at e
      rw [e]
      refine ⟨hk, fun a k => ?_⟩
      dsimp only
      rw [accB]
      exact hs a k

/-- The result: every projected row with the feed-forward map of its norm added. -/
def result (c : Dev nD) : Buf (Elt Ideal) ((c : Thread nD τ).loc main_v4) := fun i => mlp (rowX m c (i 0)) (scaleG m c) (upW m c) (downW m c) (i 1)

/-- The output block of a tile's last point. -/
theorem last (c : Dev nD) (t : Fin cfg0.N) (h1 : t.val % 4 = 3) (a : Fin 128) (n : Fin 1024) :
    (outsAt0 m c t.val t.isLt).1 (ix2 a n) = mlp (rowX m c ⟨128 * (t.val / 4) + a.val, row_lt t.val t.isLt a⟩) (scaleG m c) (upW m c) (downW m c) n := by
  have h2 := (carried m c t.val t.isLt).2 a n
  have e := outsAt0_C m c t (by omega) h1
  rw [e] at h2 ⊢
  dsimp only at h2 ⊢
  rw [accC] at h2
  rw [outC, h2, h1]
  exact part_four _ _

theorem flushed_eq (c : Dev nD) (t : Fin cfg0.N) (hfl : (cfg0.win 6).flush t = true) :
    (dats m 0 c).flushed 6 t = ((cfg0.win 6).blk t).view.read (Elt Ideal) (result m c) := by
  have hf := idx_facts t
  rw [flushed6]
  funext j
  obtain ⟨a, n, rfl⟩ : ∃ (a : Fin 128) (n : Fin 1024), j = ix2 a n := ⟨j 0, j 1, eq_ix2 j⟩
  show (outsAt0 m c t.val t.isLt).1 (ix2 a n) = result m c (((cfg0.win 6).blk t).view.emb (ix2 a n))
  have he : ((cfg0.win 6).blk t).view.emb (ix2 a n) = (ix2 ⟨128 * (t.val / 4) + a.val, row_lt t.val t.isLt a⟩ n : S128x1024.Idx) := by
    funext d
    apply Fin.ext
    match d with
    | ⟨0, _⟩ => show win0_6.index t (0 : Fin 2) * 128 + 1 * a.val = 128 * (t.val / 4) + a.val; rw [hf.2.2.2.2.2.2.2.2.2.2.2.2.1]; omega
    | ⟨1, _⟩ => show win0_6.index t (1 : Fin 2) * 1024 + 1 * n.val = n.val; rw [hf.2.2.2.2.2.2.2.2.2.2.2.2.2]; omega
  rw [he]
  exact last m c t ((flush0_6 t).mp hfl) a n

theorem final_o (c : Dev nD) : (dats m 0 c).arrAt 6 cfg0.N = result m c :=
  (dats m 0 c).arrAt_eq_of_cover 6 (result m c) (flushed_eq m c) fun i => by
    have h0 : (i 0 : Nat) < 128 := (i 0).isLt
    have h1 : (i 1 : Nat) < 1024 := (i 1).isLt
    have hN := N_eq
    obtain ⟨t, hte⟩ : ∃ t : Fin cfg0.N, t.val = 4 * ((i 0 : Nat) / 128) + 3 := ⟨⟨4 * ((i 0 : Nat) / 128) + 3, by omega⟩, rfl⟩
    have hf := idx_facts t
    refine ⟨t, (flush0_6 t).mpr (by omega), ?_⟩
    show i ∈ ((View.whole main_v4).slice (win0_6.rect t)).set
    rw [View.set_slice_whole, Rect.mem_set_unit]
    intro a
    match a with
    | ⟨0, _⟩ =>
      show win0_6.index t (0 : Fin 2) * 128 ≤ (i 0 : Nat) ∧ (i 0 : Nat) < win0_6.index t (0 : Fin 2) * 128 + 128
      rw [hf.2.2.2.2.2.2.2.2.2.2.2.2.1]; omega
    | ⟨1, _⟩ =>
      show win0_6.index t (1 : Fin 2) * 1024 ≤ (i 1 : Nat) ∧ (i 1 : Nat) < win0_6.index t (1 : Fin 2) * 1024 + 1024
      rw [hf.2.2.2.2.2.2.2.2.2.2.2.2.2]; omega

end Cert.OddMlpSIdeal.Value

namespace Cert.OddMlpSValue

open Idealize.ShloMosaic Idealize.ShloMosaic.TcCoe Idealize.SL.Sem Cert.Rows

/-- The kernel and the reference agree: both leave every projected row with the feed-forward map of its norm added. -/
theorem algebraic : Cert.algebraic_OddMlpSIdeal_OddMlpSRefIdeal (hOddMlpSIdeal := Cert.OddMlpSIdeal.Gen.facts)
    (hOddMlpSRefIdeal := Cert.OddMlpSRefIdeal.Gen.facts) := by
  intro m g m' g' _ hargs
  refine ⟨fun c => Cert.OddMlpSIdeal.Value.result m c, ?_, ?_⟩
  · exact (θ_run Cert.OddMlpSIdeal.defs _ _).mono
      (fun r h c => ⟨(Cert.OddMlpSIdeal.Value.post6 m r h c).trans (Cert.OddMlpSIdeal.Value.final_o m c),
        Cert.OddMlpSIdeal.Value.kept_main_arg0 m r h c, Cert.OddMlpSIdeal.Value.kept_main_arg1 m r h c, Cert.OddMlpSIdeal.Value.kept_main_arg2 m r h c, Cert.OddMlpSIdeal.Value.kept_main_arg3 m r h c, Cert.OddMlpSIdeal.Value.kept_main_arg4 m r h c, Cert.OddMlpSIdeal.Value.kept_main_arg5 m r h c⟩) (Cert.OddMlpSIdeal.Gen.run_main m g)
  · refine (θ_run Cert.OddMlpSRefIdeal.defs _ _).mono (fun r h c => ⟨(h c).1.trans ?_, (h c).2⟩) (Cert.OddMlpSRefIdeal.Value.run m' g')
    obtain ⟨h0, h1, h2, h3, h4, h5⟩ := hargs c
    rw [h0, h1, h2, h3, h4, h5]
    funext j
    obtain ⟨a, n, rfl⟩ : ∃ (a : Fin 128) (n : Fin 1024), j = ix2 a n := ⟨j 0, j 1, eq_ix2 j⟩
    unfold Cert.OddMlpSIdeal.Value.result mlp hid nrm Cert.OddMlpSIdeal.Value.rowX Cert.OddMlpSIdeal.Value.scaleG Cert.OddMlpSIdeal.Value.upW Cert.OddMlpSIdeal.Value.downW Cert.OddMlpSIdeal.Value.at2
    pointwise

end Cert.OddMlpSValue

end
-- ==== Proof.KvRows.lean ====
/-
  The mathematics of the key norm: the two heads of a 128-wide piece, each normalised over its own 64 entries. The
  kernel sums over all 128 entries with the other head's set to zero and multiplies by the inverse of 64; the
  reference sums over the head and divides by 64.
-/
module

public import Idealize.ShloMosaic.Lib.Pointwise
public import Idealize.ShloMosaic.Lib.Pipeline.Value

@[expose] public section

noncomputable section

namespace Cert.KvRows

open Idealize.ShloMosaic

/-- The piece with each head normalised over its own 64 entries, scaled by `g`. -/
def pn (r : Fin 128 → EReal) (g : Fin 64 → EReal) (n : Fin 128) : EReal :=
  r n * Ideal.rsqrt (Ideal.div
      (∑ d : Fin 64, r ⟨n.val / 64 * 64 + d.val, by omega⟩ * r ⟨n.val / 64 * 64 + d.val, by omega⟩)
      (Ideal.ofBits .f32 0x42800000#32) + Ideal.ofBits .f32 0x358637BD#32)
    * g ⟨n.val % 64, by omega⟩

/-- The product with the word of the inverse of 64 is the quotient by the word of 64. -/
theorem mul_inv64 (x : EReal) :
    x * Ideal.ofBits .f32 0x3C800000#32 = Ideal.div x (Ideal.ofBits .f32 0x42800000#32) := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

/-- The lane test: a lane is in the first head exactly when its number is below 64. -/
theorem lane (n : Fin 128) :
    IntOp.cmpi CmpIPredicate.slt (BitVec.ofNat 32 n.val) 64#32 = if n.val < 64 then 1#1 else 0#1 := by
  revert n; decide

theorem sel {α : Type} (n : Fin 128) (a b : α) :
    Scalar.select (IntOp.cmpi CmpIPredicate.slt (BitVec.ofNat 32 n.val) 64#32) a b = if n.val < 64 then a else b := by
  rw [lane]
  unfold Scalar.select
  split <;> simp

/-- The sum over the 128 lanes with the second head's set to zero is the sum over the first head. -/
theorem sum_lo (f : Fin 128 → EReal) :
    (∑ x : Fin 128, if x.val < 64 then f x else 0) = ∑ d : Fin 64, f ⟨d.val, by omega⟩ := by
  refine (Fin.sum_univ_add (a := 64) (b := 64) (fun x : Fin 128 => if x.val < 64 then f x else 0)).trans ?_
  have h2 : (∑ d : Fin 64, (fun x : Fin 128 => if x.val < 64 then f x else 0) (Fin.natAdd 64 d)) = 0 :=
    Finset.sum_eq_zero fun d _ => if_neg (by show ¬ 64 + d.val < 64; omega)
  rw [h2, add_zero]
  exact Finset.sum_congr rfl fun d _ => if_pos d.isLt

/-- The sum over the 128 lanes with the first head's set to zero is the sum over the second head. -/
theorem sum_hi (f : Fin 128 → EReal) :
    (∑ x : Fin 128, if x.val < 64 then 0 else f x) = ∑ d : Fin 64, f ⟨64 + d.val, by omega⟩ := by
  refine (Fin.sum_univ_add (a := 64) (b := 64) (fun x : Fin 128 => if x.val < 64 then 0 else f x)).trans ?_
  have h2 : (∑ d : Fin 64, (fun x : Fin 128 => if x.val < 64 then 0 else f x) (Fin.castAdd 64 d)) = 0 :=
    Finset.sum_eq_zero fun d _ => if_pos d.isLt
  rw [h2, zero_add]
  exact Finset.sum_congr rfl fun d _ => if_neg (by show ¬ 64 + d.val < 64; omega)

/-- The kernel's form of the norm. -/
def kn (r : Fin 128 → EReal) (g : Fin 128 → EReal) (n : Fin 128) : EReal :=
  r n * Scalar.select (IntOp.cmpi CmpIPredicate.slt (BitVec.ofNat 32 n.val) 64#32)
      (Ideal.rsqrt ((∑ x : Fin 128, Scalar.select (IntOp.cmpi CmpIPredicate.slt (BitVec.ofNat 32 x.val) 64#32) (r x * r x) 0)
        * Ideal.ofBits .f32 0x3C800000#32 + Ideal.ofBits .f32 0x358637BD#32))
      (Ideal.rsqrt ((∑ x : Fin 128, Scalar.select (IntOp.cmpi CmpIPredicate.slt (BitVec.ofNat 32 x.val) 64#32) 0 (r x * r x))
        * Ideal.ofBits .f32 0x3C800000#32 + Ideal.ofBits .f32 0x358637BD#32))
    * g n

/-- The kernel's form is the norm of the two heads, where its scales are the heads' scales twice over. -/
theorem kn_eq (r : Fin 128 → EReal) (g : Fin 128 → EReal) (g' : Fin 64 → EReal)
    (hg : ∀ n : Fin 128, g n = g' ⟨n.val % 64, by omega⟩) (n : Fin 128) : kn r g n = pn r g' n := by
  unfold kn pn
  simp only [sel, mul_inv64, sum_lo (fun x => r x * r x), sum_hi (fun x => r x * r x), hg]
  by_cases h : n.val < 64
  · have h0 : n.val / 64 * 64 = 0 := by omega
    simp only [if_pos h, h0, zero_add]
  · have h0 : n.val / 64 * 64 = 64 := by omega
    simp only [if_neg h, h0]

end Cert.KvRows

end
-- ==== Proof.KvPostValue.lean ====
/-
  The value of the key and value projection's finishing call: the pieces copied, the selection's and the window's keys
  normalised head by head, and the last rows kept as the window's state.
-/
module

public import proofs.«01_k».proof.Defs
public import proofs.«01_k».proof.Proof.Gen.KvPostIdeal.Frame
public import proofs.«01_k».proof.Proof.Gen.KvPostRefIdeal.Run
public import proofs.«01_k».proof.Proof.KvRows
public import Idealize.ShloMosaic.Lib.Pipeline.Value
public import Idealize.ShloMosaic.Lib.WholeRead
public import Idealize.ShloMosaic.Lib.WritesUnit

@[expose] public section

set_option maxRecDepth 16384

noncomputable section

namespace Cert.KvPostIdeal.Value

open Cert.KvPostIdeal Cert.KvPostIdeal.Gen Idealize.ShloMosaic Idealize.ShloMosaic.TcCoe Idealize.SL.Sem
open Cert.KvRows

/-- Row `a` of the first result's tile: its entries from the input tile `x0` and the scales `x1`. -/
def kvRow (x0 : Fin 768 → EReal) (x1 : Fin 128 → EReal) (n : Fin 512) : EReal :=
  if h : 256 ≤ n.val ∧ n.val < 384 then kn (fun k => x0 ⟨256 + k.val, by omega⟩) x1 ⟨n.val - 256, by omega⟩
  else x0 ⟨n.val, by omega⟩

/-- Row `a` of the second result's tile. -/
def winRow (x0 : Fin 768 → EReal) (x1 : Fin 128 → EReal) (n : Fin 256) : EReal :=
  if h : n.val < 128 then kn (fun k => x0 ⟨512 + k.val, by omega⟩) x1 ⟨n.val, h⟩
  else x0 ⟨512 + n.val, by omega⟩

section Tile
variable (x0 : Vec Ideal S1024x768 .f32) (x1 : Vec Ideal S1x128 .f32) (a : Fin 1024)

theorem pay1_apply (n : Fin 128) :
    k0_pay1 x0 x1 (ix2 a n) = kn (fun k => x0 (ix2 a ⟨512 + k.val, by omega⟩)) (fun k => x1 (ix2 0 k)) n := by
  unfold kn
  pointwise [Gen.k0_pay1]

theorem pay4_apply (n : Fin 128) :
    k0_pay4 x0 x1 (ix2 a n) = kn (fun k => x0 (ix2 a ⟨256 + k.val, by omega⟩)) (fun k => x1 (ix2 0 k)) n := by
  unfold kn
  pointwise [Gen.k0_pay4]

theorem pay2_apply (n : Fin 128) : k0_pay2 x0 (ix2 a n) = x0 (ix2 a ⟨640 + n.val, by omega⟩) := by
  pointwise [Gen.k0_pay2]

theorem pay3_apply (n : Fin 256) : k0_pay3 x0 (ix2 a n) = x0 (ix2 a ⟨n.val, by omega⟩) := by
  pointwise [Gen.k0_pay3]

theorem pay5_apply (n : Fin 128) : k0_pay5 x0 (ix2 a n) = x0 (ix2 a ⟨384 + n.val, by omega⟩) := by
  pointwise [Gen.k0_pay5]

end Tile

section Block
variable (c : Dev nD) (i : grid0.Coords) (arg1 : Memref sig .tc .vmem S1024x768 .f32) (harg1 : arg1.IsWhole)
  (arg2 : Memref sig .tc .vmem S3x128 .f32) (harg2 : arg2.IsWhole) (arg3 : Memref sig .tc .vmem S1024x512 .f32)
  (harg3 : arg3.IsWhole) (arg4 : Memref sig .tc .vmem S1024x256 .f32) (harg4 : arg4.IsWhole)
  (x0 : Vec Ideal S1024x768 .f32) (x1 : Vec Ideal S3x128 .f32) (a : Fin 1024)

theorem whole0 : View.readAt (Elt Ideal) arg1.view
    (Rect.unit (s := S1024x768) ![0, 0] ![1024, 768] inb_S1024x768_S1024x768_0_0).toLoadRect (harg1.unread x0) = x0 := by
  funext y
  refine (harg1.readAt_unread x0 _ y).trans (congrArg x0 ?_)
  funext d
  apply Fin.ext
  match d with
  | ⟨0, _⟩ => show 0 + 1 * (y 0).val = (y 0).val; omega
  | ⟨1, _⟩ => show 0 + 1 * (y 1).val = (y 1).val; omega

theorem row1 (k : Fin 128) : View.readAt (Elt Ideal) arg2.view
    (Rect.unit (s := S3x128) ![1, 0] ![1, 128] inb_S3x128_S1x128_1_0).toLoadRect (harg2.unread x1)
    (ix2 (0 : Fin 1) k : S1x128.Idx) = x1 (ix2 1 k) := by
  refine (harg2.readAt_unread x1 _ _).trans (congrArg x1 ?_)
  funext d
  apply Fin.ext
  match d with
  | ⟨0, _⟩ => rfl
  | ⟨1, _⟩ => show 0 + 1 * k.val = k.val; omega

theorem row2 (k : Fin 128) : View.readAt (Elt Ideal) arg2.view
    (Rect.unit (s := S3x128) ![2, 0] ![1, 128] inb_S3x128_S1x128_2_0).toLoadRect (harg2.unread x1)
    (ix2 (0 : Fin 1) k : S1x128.Idx) = x1 (ix2 2 k) := by
  refine (harg2.readAt_unread x1 _ _).trans (congrArg x1 ?_)
  funext d
  apply Fin.ext
  match d with
  | ⟨0, _⟩ => rfl
  | ⟨1, _⟩ => show 0 + 1 * k.val = k.val; omega

/-- The three stores of the first result's tile, read back at an entry. -/
theorem out2_apply (n : Fin 512) : out0_A_2 c i arg1 harg1 arg2 harg2 arg3 harg3 arg4 harg4 x0 x1 (ix2 a n)
    = kvRow (fun k => x0 (ix2 a k)) (fun k => x1 (ix2 1 k)) n := by
  unfold out0_A_2 kernelRun0_A kernelRun0_A.sl.r_1 kvRow
  dsimp only
  by_cases h3 : 384 ≤ n.val
  · rw [dif_neg (by omega)]
    refine (View.read_writes_cons_unit_of_mem _ _ _ _ _ (ix2 a n) (ix2 a (⟨n.val - 384, by omega⟩ : Fin 128)) rfl ?_).trans ?_
    · intro d
      match d with
      | ⟨0, _⟩ => show a.val = 0 + a.val; omega
      | ⟨1, _⟩ => show n.val = 384 + (n.val - 384); omega
    · rw [whole0]
      refine (pay5_apply _ _ _).trans (congrArg x0 ?_)
      congr 1
      exact Fin.ext (by show 384 + (n.val - 384) = n.val; omega)
  · rw [View.read_writes_cons_unit_of_not_mem _ _ _ _ _ _ rfl (1 : Fin 2) (Or.inl (by show n.val < 384; omega))]
    by_cases h2 : 256 ≤ n.val
    · rw [dif_pos (by omega)]
      refine (View.read_writes_cons_unit_of_mem _ _ _ _ _ (ix2 a n) (ix2 a (⟨n.val - 256, by omega⟩ : Fin 128)) rfl ?_).trans ?_
      · intro d
        match d with
        | ⟨0, _⟩ => show a.val = 0 + a.val; omega
        | ⟨1, _⟩ => show n.val = 256 + (n.val - 256); omega
      · rw [whole0]
        refine (pay4_apply _ _ _ _).trans ?_
        congr 1
        funext k
        exact row1 _ _ _ k
    · rw [dif_neg (by omega),
        View.read_writes_cons_unit_of_not_mem _ _ _ _ _ _ rfl (1 : Fin 2) (Or.inl (by show n.val < 256; omega))]
      refine (View.read_writes_cons_unit_of_mem _ _ _ _ _ (ix2 a n) (ix2 a (⟨n.val, by omega⟩ : Fin 256)) rfl ?_).trans ?_
      · intro d
        match d with
        | ⟨0, _⟩ => show a.val = 0 + a.val; omega
        | ⟨1, _⟩ => show n.val = 0 + n.val; omega
      · rw [whole0]
        exact pay3_apply _ _ _

/-- The two stores of the second result's tile, read back at an entry. -/
theorem out3_apply (n : Fin 256) : out0_A_3 c i arg1 harg1 arg2 harg2 arg3 harg3 arg4 harg4 x0 x1 (ix2 a n)
    = winRow (fun k => x0 (ix2 a k)) (fun k => x1 (ix2 2 k)) n := by
  unfold out0_A_3 kernelRun0_A winRow
  dsimp only
  by_cases h : n.val < 128
  · rw [dif_pos h,
      View.read_writes_cons_unit_of_not_mem _ _ _ _ _ _ rfl (1 : Fin 2) (Or.inl (by show n.val < 128; omega))]
    refine (View.read_writes_cons_unit_of_mem _ _ _ _ _ (ix2 a n) (ix2 a (⟨n.val, h⟩ : Fin 128)) rfl ?_).trans ?_
    · intro d
      match d with
      | ⟨0, _⟩ => show a.val = 0 + a.val; omega
      | ⟨1, _⟩ => show n.val = 0 + n.val; omega
    · try unfold kernelRun0_A.sl.r
      rw [whole0]
      refine (pay1_apply _ _ _ _).trans ?_
      congr 1
      funext k
      exact row2 _ _ _ k
  · rw [dif_neg h]
    refine (View.read_writes_cons_unit_of_mem _ _ _ _ _ (ix2 a n) (ix2 a (⟨n.val - 128, by omega⟩ : Fin 128)) rfl ?_).trans ?_
    · intro d
      match d with
      | ⟨0, _⟩ => show a.val = 0 + a.val; omega
      | ⟨1, _⟩ => show n.val = 128 + (n.val - 128); omega
    · try unfold kernelRun0_A.sl.r
      rw [whole0]
      refine (pay2_apply _ _ _).trans (congrArg x0 ?_)
      congr 1
      exact Fin.ext (by show 640 + (n.val - 128) = 512 + n.val; omega)

end Block

/-- The first result: columns 1536 to 2047 of the projection, the third piece's two heads normalised. -/
def G1 (x : Vec Ideal S16384x2432 .f32) (g : Vec Ideal S3x64 .f32) : Vec Ideal S16384x512 .f32 := fun i =>
  if h : 256 ≤ (i 1).val ∧ (i 1).val < 384 then
    pn (fun k => x (ix2 (i 0) ⟨1792 + k.val, by omega⟩)) (fun k => g (ix2 1 k)) ⟨(i 1).val - 256, by omega⟩
  else x (ix2 (i 0) ⟨1536 + (i 1).val, by have : (i 1).val < 512 := (i 1).isLt; omega⟩)

/-- The second result: columns 2048 to 2303 of the projection, the first piece's two heads normalised. -/
def G2 (x : Vec Ideal S16384x2432 .f32) (g : Vec Ideal S3x64 .f32) : Vec Ideal S16384x256 .f32 := fun i =>
  if h : (i 1).val < 128 then
    pn (fun k => x (ix2 (i 0) ⟨2048 + k.val, by omega⟩)) (fun k => g (ix2 2 k)) ⟨(i 1).val, h⟩
  else x (ix2 (i 0) ⟨2048 + (i 1).val, by have : (i 1).val < 256 := (i 1).isLt; omega⟩)

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 2
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N_eq : cfg0.N = 16 := N_0

theorem V_v0 (c : Dev nD) : (V m c main_v0 : Vec Ideal S3x128 .f32)
    = concatenate S3x128 1 [⟨S3x64, (m ((c : Thread nD τ).loc main_arg1) : Vec Ideal S3x64 .f32)⟩,
        ⟨S3x64, (m ((c : Thread nD τ).loc main_arg1) : Vec Ideal S3x64 .f32)⟩] concatenates_S3x64_S3x64_S3x128_d1 := by
  show StableHlo.after hostOps0 _ _ = _
  after_results

/-- A point's tile of the projection, read at an entry. -/
theorem blk0 (c : Dev nD) (t : Fin cfg0.N) (a : Fin 1024) (l : Fin 768) :
    (X0_0 m c t : Vec Ideal S1024x768 .f32) (ix2 a l)
      = m ((c : Thread nD τ).loc main_arg0)
          (ix2 (⟨1024 * t.val + a.val, by have := t.isLt; have := N_eq; omega⟩ : Fin 16384) (⟨1536 + l.val, by omega⟩ : Fin 2432)) := by
  have hf := idx_facts t
  unfold X0_0 Pipeline.Window.fill
  rw [dif_pos (moved0_0 t _)]
  show V m c main_arg0 (((cfg0.win 0).blk t).view.emb _) = _
  rw [V_main_arg0]
  congr 1
  funext d
  apply Fin.ext
  match d with
  | ⟨0, _⟩ => show win0_0.index t (0 : Fin 2) * 1024 + 1 * a.val = 1024 * t.val + a.val; rw [hf.1]; omega
  | ⟨1, _⟩ => show win0_0.index t (1 : Fin 2) * 768 + 1 * l.val = 1536 + l.val; rw [hf.2.1]; omega

/-- The scales, twice over. -/
theorem blk1 (c : Dev nD) (t : Fin cfg0.N) (b : Fin 3) (l : Fin 128) :
    (iblk m c 1 t : Vec Ideal S3x128 .f32) (ix2 b l)
      = m ((c : Thread nD τ).loc main_arg1) (ix2 b (⟨l.val % 64, by omega⟩ : Fin 64)) := by
  have hf := idx_facts t
  show V m c main_v0 (((cfg0.win 1).blk t).view.emb (ix2 b l)) = _
  have he : ((cfg0.win 1).blk t).view.emb (ix2 b l) = (ix2 b l : S3x128.Idx) := by
    funext d
    apply Fin.ext
    match d with
    | ⟨0, _⟩ => show win0_1.index t (0 : Fin 2) * 3 + 1 * b.val = b.val; rw [hf.2.2.1]; omega
    | ⟨1, _⟩ => show win0_1.index t (1 : Fin 2) * 128 + 1 * l.val = l.val; rw [hf.2.2.2.1]; omega
  rw [he, V_v0]
  generalize (m ((c : Thread nD τ).loc main_arg1) : Vec Ideal S3x64 .f32) = g
  pointwise
  split
  · next h => exact congrArg g (congrArg (ix2 b) (Fin.ext (by show l.val = l.val % 64; omega)))
  · next h => exact congrArg g (congrArg (ix2 b) (Fin.ext (by show l.val - 64 = l.val % 64; omega)))

/-- The results as functions of the arguments as launched. -/
abbrev result1 (c : Dev nD) : Buf (Elt Ideal) ((c : Thread nD τ).loc main_v1_0) :=
  G1 (m ((c : Thread nD τ).loc main_arg0)) (m ((c : Thread nD τ).loc main_arg1))
abbrev result2 (c : Dev nD) : Buf (Elt Ideal) ((c : Thread nD τ).loc main_v1_1) :=
  G2 (m ((c : Thread nD τ).loc main_arg0)) (m ((c : Thread nD τ).loc main_arg1))

theorem left2 (c : Dev nD) (t : Fin cfg0.N) (a : Fin 1024) (n : Fin 512) :
    (outsAt0 m c t).1 (ix2 a n) = kvRow (fun k => (X0_0 m c t : Vec Ideal S1024x768 .f32) (ix2 a k))
      (fun k => (iblk m c 1 t : Vec Ideal S3x128 .f32) (ix2 1 k)) n := by
  unfold outsAt0
  dsimp only
  exact out2_apply c (grid0.coords t) (ms0_0 t) (hs0_0 t) (ms0_1 t) (hs0_1 t) (ms0_2 t) (hs0_2 t) (ms0_3 t) (hs0_3 t) _ _ a n

/-- What a point writes back is its block of the first result. -/
theorem flushed_eq2 (c : Dev nD) (t : Fin cfg0.N) (_ : (cfg0.win 2).flush t = true) :
    (dats m 0 c).flushed 2 t = ((cfg0.win 2).blk t).view.read (Elt Ideal) (result1 m c) := by
  have hf := idx_facts t
  rw [show (dats m 0 c).flushed 2 t = (cfg0.win 2).cut (grid0.coords t) ((dats m 0 c).after 2 t) from rfl, after0_2]
  funext j
  obtain ⟨a, n, rfl⟩ : ∃ (a : Fin 1024) (n : Fin 512), j = ix2 a n := ⟨j 0, j 1, eq_ix2 j⟩
  show (outsAt0 m c t).1 (ix2 a n) = result1 m c (((cfg0.win 2).blk t).view.emb (ix2 a n))
  have he : ((cfg0.win 2).blk t).view.emb (ix2 a n)
      = (ix2 ⟨1024 * t.val + a.val, by have := t.isLt; have := N_eq; omega⟩ n : S16384x512.Idx) := by
    funext d
    apply Fin.ext
    match d with
    | ⟨0, _⟩ => show win0_2.index t (0 : Fin 2) * 1024 + 1 * a.val = 1024 * t.val + a.val; rw [hf.2.2.2.2.1]; omega
    | ⟨1, _⟩ => show win0_2.index t (1 : Fin 2) * 512 + 1 * n.val = n.val; rw [hf.2.2.2.2.2.1]; omega
  rw [he]
  refine (left2 m c t a n).trans ?_
  show _ = G1 _ _ (ix2 _ n)
  unfold kvRow G1
  by_cases h : 256 ≤ n.val ∧ n.val < 384
  · rw [dif_pos h]
    refine Eq.trans ?_ (dif_pos h).symm
    rw [kn_eq _ _ (fun k => m ((c : Thread nD τ).loc main_arg1) (ix2 1 k)) (fun k => blk1 m c t 1 k)]
    congr 1
    funext k
    refine (blk0 m c t a _).trans (congrArg _ (congrArg (ix2 _) (Fin.ext ?_)))
    show 1536 + (256 + k.val) = 1792 + k.val
    omega
  · rw [dif_neg h]
    refine Eq.trans ?_ (dif_neg h).symm
    exact blk0 m c t a _

theorem left3 (c : Dev nD) (t : Fin cfg0.N) (a : Fin 1024) (n : Fin 256) :
    (outsAt0 m c t).2 (ix2 a n) = winRow (fun k => (X0_0 m c t : Vec Ideal S1024x768 .f32) (ix2 a k))
      (fun k => (iblk m c 1 t : Vec Ideal S3x128 .f32) (ix2 2 k)) n := by
  unfold outsAt0
  dsimp only
  exact out3_apply c (grid0.coords t) (ms0_0 t) (hs0_0 t) (ms0_1 t) (hs0_1 t) (ms0_2 t) (hs0_2 t) (ms0_3 t) (hs0_3 t) _ _ a n

/-- What a point writes back is its block of the second result. -/
theorem flushed_eq3 (c : Dev nD) (t : Fin cfg0.N) (_ : (cfg0.win 3).flush t = true) :
    (dats m 0 c).flushed 3 t = ((cfg0.win 3).blk t).view.read (Elt Ideal) (result2 m c) := by
  have hf := idx_facts t
  rw [show (dats m 0 c).flushed 3 t = (cfg0.win 3).cut (grid0.coords t) ((dats m 0 c).after 3 t) from rfl, after0_3]
  funext j
  obtain ⟨a, n, rfl⟩ : ∃ (a : Fin 1024) (n : Fin 256), j = ix2 a n := ⟨j 0, j 1, eq_ix2 j⟩
  show (outsAt0 m c t).2 (ix2 a n) = result2 m c (((cfg0.win 3).blk t).view.emb (ix2 a n))
  have he : ((cfg0.win 3).blk t).view.emb (ix2 a n)
      = (ix2 ⟨1024 * t.val + a.val, by have := t.isLt; have := N_eq; omega⟩ n : S16384x256.Idx) := by
    funext d
    apply Fin.ext
    match d with
    | ⟨0, _⟩ => show win0_3.index t (0 : Fin 2) * 1024 + 1 * a.val = 1024 * t.val + a.val; rw [hf.2.2.2.2.2.2.1]; omega
    | ⟨1, _⟩ => show win0_3.index t (1 : Fin 2) * 256 + 1 * n.val = n.val; rw [hf.2.2.2.2.2.2.2]; omega
  rw [he]
  refine (left3 m c t a n).trans ?_
  show _ = G2 _ _ (ix2 _ n)
  unfold winRow G2
  by_cases h : n.val < 128
  · rw [dif_pos h]
    refine Eq.trans ?_ (dif_pos h).symm
    rw [kn_eq _ _ (fun k => m ((c : Thread nD τ).loc main_arg1) (ix2 2 k)) (fun k => blk1 m c t 2 k)]
    congr 1
    funext k
    refine (blk0 m c t a _).trans (congrArg _ (congrArg (ix2 _) (Fin.ext ?_)))
    show 1536 + (512 + k.val) = 2048 + k.val
    omega
  · rw [dif_neg h]
    refine Eq.trans ?_ (dif_neg h).symm
    refine (blk0 m c t a _).trans (congrArg _ (congrArg (ix2 _) (Fin.ext ?_)))
    show 1536 + (512 + n.val) = 2048 + n.val
    omega

/-- Every entry of the results lies in a written block. -/
theorem final2 (c : Dev nD) : (dats m 0 c).arrAt 2 cfg0.N = result1 m c :=
  (dats m 0 c).arrAt_eq_of_cover 2 (result1 m c) (flushed_eq2 m c) fun i => by
    have h0 : (i 0 : Nat) < 16384 := (i 0).isLt
    have h1 : (i 1 : Nat) < 512 := (i 1).isLt
    have hN := N_eq
    have ht : (i 0 : Nat) / 1024 < cfg0.N := by omega
    have hf := idx_facts ⟨(i 0 : Nat) / 1024, ht⟩
    refine ⟨⟨(i 0 : Nat) / 1024, ht⟩, (by decide +kernel : ∀ t : Fin grid0.N, win0_2.flush t = true) _, ?_⟩
    show i ∈ ((View.whole main_v1_0).slice (win0_2.rect ⟨(i 0 : Nat) / 1024, ht⟩)).set
    rw [View.set_slice_whole, Rect.mem_set_unit]
    intro a
    match a with
    | ⟨0, _⟩ =>
      show win0_2.index ⟨(i 0 : Nat) / 1024, ht⟩ (0 : Fin 2) * 1024 ≤ (i 0 : Nat) ∧ (i 0 : Nat) < win0_2.index ⟨(i 0 : Nat) / 1024, ht⟩ (0 : Fin 2) * 1024 + 1024
      rw [hf.2.2.2.2.1]; dsimp only; omega
    | ⟨1, _⟩ =>
      show win0_2.index ⟨(i 0 : Nat) / 1024, ht⟩ (1 : Fin 2) * 512 ≤ (i 1 : Nat) ∧ (i 1 : Nat) < win0_2.index ⟨(i 0 : Nat) / 1024, ht⟩ (1 : Fin 2) * 512 + 512
      rw [hf.2.2.2.2.2.1]; omega

theorem final3 (c : Dev nD) : (dats m 0 c).arrAt 3 cfg0.N = result2 m c :=
  (dats m 0 c).arrAt_eq_of_cover 3 (result2 m c) (flushed_eq3 m c) fun i => by
    have h0 : (i 0 : Nat) < 16384 := (i 0).isLt
    have h1 : (i 1 : Nat) < 256 := (i 1).isLt
    have hN := N_eq
    have ht : (i 0 : Nat) / 1024 < cfg0.N := by omega
    have hf := idx_facts ⟨(i 0 : Nat) / 1024, ht⟩
    refine ⟨⟨(i 0 : Nat) / 1024, ht⟩, (by decide +kernel : ∀ t : Fin grid0.N, win0_3.flush t = true) _, ?_⟩
    show i ∈ ((View.whole main_v1_1).slice (win0_3.rect ⟨(i 0 : Nat) / 1024, ht⟩)).set
    rw [View.set_slice_whole, Rect.mem_set_unit]
    intro a
    match a with
    | ⟨0, _⟩ =>
      show win0_3.index ⟨(i 0 : Nat) / 1024, ht⟩ (0 : Fin 2) * 1024 ≤ (i 0 : Nat) ∧ (i 0 : Nat) < win0_3.index ⟨(i 0 : Nat) / 1024, ht⟩ (0 : Fin 2) * 1024 + 1024
      rw [hf.2.2.2.2.2.2.1]; dsimp only; omega
    | ⟨1, _⟩ =>
      show win0_3.index ⟨(i 0 : Nat) / 1024, ht⟩ (1 : Fin 2) * 256 ≤ (i 1 : Nat) ∧ (i 1 : Nat) < win0_3.index ⟨(i 0 : Nat) / 1024, ht⟩ (1 : Fin 2) * 256 + 256
      rw [hf.2.2.2.2.2.2.2]; omega

/-- The window's state: the last 512 rows. -/
def lastRows (r : Vec Ideal S16384x256 .f32) : Vec Ideal S512x256 .f32 :=
  extractStridedSlice S512x256 ![15872, 0] r slices_S16384x256_S512x256_15872_0

abbrev result3 (c : Dev nD) : Buf (Elt Ideal) ((c : Thread nD τ).loc main_v2) := lastRows (result2 m c)

theorem exit_rows (c : Dev nD) :
    Pipeline.withArrays (cfgs 0).spec c (V0 m c) (fun w => (dats m 0 c).arrAt w (cfgs 0).N) (Proc.devRef .tc main_v1_1)
      = result2 m c :=
  (Pipeline.withArrays_arr spec0 launch0.win.arr_inj c (V0 m c) _ 3).trans (final3 m c)

/-- What the operation after the call leaves. -/
theorem tail_eq (c : Dev nD) : Pipeline.afterTail₀ cfgs (dats m) 0 (V0 m) [hostOps1] c main_v2 = result3 m c := by
  unfold Pipeline.afterTail₀
  show StableHlo.after (hostOps1 ++ []) _ _ = _
  simp only [List.append_nil]
  after_results
  rw [exit_rows]
  rfl

theorem run_results : θ_run defs (onTc (τ := τ) (main (F := Ideal))) ⟨m, fun _ => 0, ρ⟩ fun r => ∀ c : Dev nD,
      r.2.mem ((c : Thread nD τ).loc main_v1_0) = result1 m c
      ∧ r.2.mem ((c : Thread nD τ).loc main_v2) = result3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final2 m c),
      ((h.1 c).2 main_v2 (Pipeline.mem_restRefs_of main_v2 (by decide) (by decide))).trans (tail_eq m c), h.2 c⟩)
    (θ_run_and (run_main m ρ) (unchanged m ρ))

end Cert.KvPostIdeal.Value

namespace Cert.KvPostRefIdeal.Value

open Cert.KvPostRefIdeal Cert.KvPostRefIdeal.Gen Idealize.ShloMosaic Idealize.ShloMosaic.TcCoe Idealize.SL.Sem
open Cert.KvRows

/-- The reference's norm of the two heads of a piece. -/
def normed {F : FTy → Type} [FloatOps F] (x : FVec F S16384x128 .f32) (g : FVec F S1x64 .f32) : FVec F S16384x128 .f32 :=
  shapeCast _ (mulf (mulf (shapeCast _ x shapeCasts_S16384x128_S16384x2x64)
    (broadcastInDim S16384x2x64 ![0, 1, 2] bcast_S16384x2x1_S16384x2x64_0_1_2 (Host.rsqrt (addf (Host.divf
      (broadcastInDim S16384x2x1 ![0, 1] bcast_S16384x2_S16384x2x1_0_1 (Host.reduceAdd
        (mulf (shapeCast _ x shapeCasts_S16384x128_S16384x2x64) (shapeCast _ x shapeCasts_S16384x128_S16384x2x64))
        (constant S_ .f32 0x00000000#32) reducesTo_S16384x2x64_S16384x2_d2 h_S_))
      (broadcastInDim S16384x2x1 ![] bcast_S_S16384x2x1 (constant S_ .f32 0x42800000#32)))
      (broadcastInDim S16384x2x1 ![] bcast_S_S16384x2x1 (constant S_ .f32 0x358637BD#32))))))
    (broadcastInDim S16384x2x64 ![0, 1, 2] bcast_S1x1x64_S16384x2x64_0_1_2
      (broadcastInDim S1x1x64 ![2] bcast_S64_S1x1x64_2 (shapeCast _ g shapeCasts_S1x64_S64))))
    shapeCasts_S16384x2x64_S16384x128

theorem normed_apply (x : FVec Ideal S16384x128 .f32) (g : FVec Ideal S1x64 .f32) (a : Fin 16384) (n : Fin 128) :
    normed x g (ix2 a n) = pn (fun k => x (ix2 a k)) (fun k => g (ix2 0 k)) n := by
  unfold normed pn
  pointwise

theorem four_apply (x0 x1 x2 x3 : Vec Ideal S16384x128 .f32) (a : Fin 16384) (n : Fin 512) :
    (concatenate S16384x512 1 [⟨S16384x128, x0⟩, ⟨S16384x128, x1⟩, ⟨S16384x128, x2⟩, ⟨S16384x128, x3⟩]
      concatenates_S16384x128_S16384x128_S16384x128_S16384x128_S16384x512_d1 : Vec Ideal S16384x512 .f32) (ix2 a n)
      = if h0 : n.val < 128 then x0 (ix2 a ⟨n.val, h0⟩)
        else if h1 : n.val - 128 < 128 then x1 (ix2 a ⟨n.val - 128, h1⟩)
        else if h2 : n.val - 128 - 128 < 128 then x2 (ix2 a ⟨n.val - 128 - 128, h2⟩)
        else x3 (ix2 a ⟨n.val - 128 - 128 - 128, by omega⟩) := by
  pointwise

theorem two_apply (x0 x1 : Vec Ideal S16384x128 .f32) (a : Fin 16384) (n : Fin 256) :
    (concatenate S16384x256 1 [⟨S16384x128, x0⟩, ⟨S16384x128, x1⟩]
      concatenates_S16384x128_S16384x128_S16384x256_d1 : Vec Ideal S16384x256 .f32) (ix2 a n)
      = if h0 : n.val < 128 then x0 (ix2 a ⟨n.val, h0⟩) else x1 (ix2 a ⟨n.val - 128, by omega⟩) := by
  pointwise

section Pieces
variable (x : Vec Ideal S16384x2432 .f32) (g : Vec Ideal S3x64 .f32)

theorem first_eq : (concatenate S16384x512 1 [
      ⟨S16384x128, (extractStridedSlice S16384x128 ![0, 1536] x slices_S16384x2432_S16384x128_0_1536 : Vec Ideal S16384x128 .f32)⟩,
      ⟨S16384x128, (extractStridedSlice S16384x128 ![0, 1664] x slices_S16384x2432_S16384x128_0_1664 : Vec Ideal S16384x128 .f32)⟩,
      ⟨S16384x128, (normed (F := Ideal) (extractStridedSlice S16384x128 ![0, 1792] x slices_S16384x2432_S16384x128_0_1792)
        (extractStridedSlice S1x64 ![1, 0] g slices_S3x64_S1x64_1_0) : Vec Ideal S16384x128 .f32)⟩,
      ⟨S16384x128, (extractStridedSlice S16384x128 ![0, 1920] x slices_S16384x2432_S16384x128_0_1920 : Vec Ideal S16384x128 .f32)⟩]
      concatenates_S16384x128_S16384x128_S16384x128_S16384x128_S16384x512_d1 : Vec Ideal S16384x512 .f32)
    = Cert.KvPostIdeal.Value.G1 x g := by
  funext j
  obtain ⟨a, n, rfl⟩ : ∃ (a : Fin 16384) (n : Fin 512), j = ix2 a n := ⟨j 0, j 1, eq_ix2 j⟩
  refine (four_apply _ _ _ _ a n).trans ?_
  unfold Cert.KvPostIdeal.Value.G1
  by_cases h0 : n.val < 128
  · rw [dif_pos h0]
    refine Eq.trans ?_ (dif_neg (by show ¬ (256 ≤ n.val ∧ n.val < 384); omega)).symm
    pointwise
  rw [dif_neg h0]
  by_cases h1 : n.val - 128 < 128
  · rw [dif_pos h1]
    refine Eq.trans ?_ (dif_neg (by show ¬ (256 ≤ n.val ∧ n.val < 384); omega)).symm
    pointwise
    exact congrArg x (congrArg (ix2 a) (Fin.ext (by show 1664 + (n.val - 128) = 1536 + n.val; omega)))
  rw [dif_neg h1]
  by_cases h2 : n.val - 128 - 128 < 128
  · rw [dif_pos h2]
    refine Eq.trans ?_ (dif_pos (by show 256 ≤ n.val ∧ n.val < 384; omega)).symm
    refine (normed_apply _ _ _ _).trans ?_
    unfold pn
    pointwise
    rfl
  · rw [dif_neg h2]
    refine Eq.trans ?_ (dif_neg (by show ¬ (256 ≤ n.val ∧ n.val < 384); omega)).symm
    pointwise
    exact congrArg x (congrArg (ix2 a) (Fin.ext (by show 1920 + (n.val - 128 - 128 - 128) = 1536 + n.val; omega)))

theorem second_eq : (concatenate S16384x256 1 [
      ⟨S16384x128, (normed (F := Ideal) (extractStridedSlice S16384x128 ![0, 2048] x slices_S16384x2432_S16384x128_0_2048)
        (extractStridedSlice S1x64 ![2, 0] g slices_S3x64_S1x64_2_0) : Vec Ideal S16384x128 .f32)⟩,
      ⟨S16384x128, (extractStridedSlice S16384x128 ![0, 2176] x slices_S16384x2432_S16384x128_0_2176 : Vec Ideal S16384x128 .f32)⟩]
      concatenates_S16384x128_S16384x128_S16384x256_d1 : Vec Ideal S16384x256 .f32)
    = Cert.KvPostIdeal.Value.G2 x g := by
  funext j
  obtain ⟨a, n, rfl⟩ : ∃ (a : Fin 16384) (n : Fin 256), j = ix2 a n := ⟨j 0, j 1, eq_ix2 j⟩
  refine (two_apply _ _ a n).trans ?_
  unfold Cert.KvPostIdeal.Value.G2
  by_cases h0 : n.val < 128
  · rw [dif_pos h0]
    refine Eq.trans ?_ (dif_pos (by show n.val < 128; omega)).symm
    refine (normed_apply _ _ _ _).trans ?_
    unfold pn
    pointwise
  · rw [dif_neg h0]
    refine Eq.trans ?_ (dif_neg (by show ¬ n.val < 128; omega)).symm
    pointwise
    exact congrArg x (congrArg (ix2 a) (Fin.ext (by show 2176 + (n.val - 128) = 2048 + n.val; omega)))

end Pieces

end Cert.KvPostRefIdeal.Value

namespace Cert.KvPostValue

open Idealize.ShloMosaic Idealize.ShloMosaic.TcCoe Idealize.SL.Sem

/-- The kernel and the reference agree on both results. -/
theorem algebraic : Cert.algebraic_KvPostIdeal_KvPostRefIdeal (hKvPostIdeal := Cert.KvPostIdeal.Gen.facts)
    (hKvPostRefIdeal := Cert.KvPostRefIdeal.Gen.facts) := by
  intro m g m' g' _ hargs
  refine ⟨fun c => Cert.KvPostIdeal.Value.result1 m c, fun c => Cert.KvPostIdeal.Value.result3 m c,
    Cert.KvPostIdeal.Value.run_results m g, ?_⟩
  refine (θ_run Cert.KvPostRefIdeal.defs _ _).mono
    (fun r h c => ⟨(h c).1.trans ?_, (h c).2.1.trans ?_, (h c).2.2⟩) (Cert.KvPostRefIdeal.Value.run m' g')
  · obtain ⟨h0, h1⟩ := hargs c
    rw [h0, h1]
    exact Cert.KvPostRefIdeal.Value.first_eq _ _
  · obtain ⟨h0, h1⟩ := hargs c
    rw [h0, h1]
    exact congrArg Cert.KvPostIdeal.Value.lastRows (Cert.KvPostRefIdeal.Value.second_eq _ _)

end Cert.KvPostValue

end
-- ==== Proof.KvPostSValue.lean ====
/-
  The value of the key and value projection's finishing call: the pieces copied, the selection's and the window's keys
  normalised head by head, and the new rows joined to the window's state.
-/
module

public import proofs.«01_k».proof.Defs
public import proofs.«01_k».proof.Proof.Gen.KvPostSIdeal.Frame
public import proofs.«01_k».proof.Proof.Gen.KvPostSRefIdeal.Run
public import proofs.«01_k».proof.Proof.KvRows
public import Idealize.ShloMosaic.Lib.Pipeline.Value
public import Idealize.ShloMosaic.Lib.WholeRead
public import Idealize.ShloMosaic.Lib.WritesUnit

@[expose] public section

set_option maxRecDepth 16384

noncomputable section

namespace Cert.KvPostSIdeal.Value

open Cert.KvPostSIdeal Cert.KvPostSIdeal.Gen Idealize.ShloMosaic Idealize.ShloMosaic.TcCoe Idealize.SL.Sem
open Cert.KvRows

/-- Row `a` of the first result's tile: its entries from the input tile `x0` and the scales `x1`. -/
def kvRow (x0 : Fin 768 → EReal) (x1 : Fin 128 → EReal) (n : Fin 512) : EReal :=
  if h : 256 ≤ n.val ∧ n.val < 384 then kn (fun k => x0 ⟨256 + k.val, by omega⟩) x1 ⟨n.val - 256, by omega⟩
  else x0 ⟨n.val, by omega⟩

/-- Row `a` of the second result's tile. -/
def winRow (x0 : Fin 768 → EReal) (x1 : Fin 128 → EReal) (n : Fin 256) : EReal :=
  if h : n.val < 128 then kn (fun k => x0 ⟨512 + k.val, by omega⟩) x1 ⟨n.val, h⟩
  else x0 ⟨512 + n.val, by omega⟩

section Tile
variable (x0 : Vec Ideal S128x768 .f32) (x1 : Vec Ideal S1x128 .f32) (a : Fin 128)

theorem pay1_apply (n : Fin 128) :
    k0_pay1 x0 x1 (ix2 a n) = kn (fun k => x0 (ix2 a ⟨512 + k.val, by omega⟩)) (fun k => x1 (ix2 0 k)) n := by
  unfold kn
  pointwise [Gen.k0_pay1]

theorem pay4_apply (n : Fin 128) :
    k0_pay4 x0 x1 (ix2 a n) = kn (fun k => x0 (ix2 a ⟨256 + k.val, by omega⟩)) (fun k => x1 (ix2 0 k)) n := by
  unfold kn
  pointwise [Gen.k0_pay4]

theorem pay2_apply (n : Fin 128) : k0_pay2 x0 (ix2 a n) = x0 (ix2 a ⟨640 + n.val, by omega⟩) := by
  pointwise [Gen.k0_pay2]

theorem pay3_apply (n : Fin 256) : k0_pay3 x0 (ix2 a n) = x0 (ix2 a ⟨n.val, by omega⟩) := by
  pointwise [Gen.k0_pay3]

theorem pay5_apply (n : Fin 128) : k0_pay5 x0 (ix2 a n) = x0 (ix2 a ⟨384 + n.val, by omega⟩) := by
  pointwise [Gen.k0_pay5]

end Tile

section Block
variable (c : Dev nD) (i : grid0.Coords) (arg1 : Memref sig .tc .vmem S128x768 .f32) (harg1 : arg1.IsWhole)
  (arg2 : Memref sig .tc .vmem S3x128 .f32) (harg2 : arg2.IsWhole) (arg3 : Memref sig .tc .vmem S128x512 .f32)
  (harg3 : arg3.IsWhole) (arg4 : Memref sig .tc .vmem S128x256 .f32) (harg4 : arg4.IsWhole)
  (x0 : Vec Ideal S128x768 .f32) (x1 : Vec Ideal S3x128 .f32) (a : Fin 128)

theorem whole0 : View.readAt (Elt Ideal) arg1.view
    (Rect.unit (s := S128x768) ![0, 0] ![128, 768] inb_S128x768_S128x768_0_0).toLoadRect (harg1.unread x0) = x0 := by
  funext y
  refine (harg1.readAt_unread x0 _ y).trans (congrArg x0 ?_)
  funext d
  apply Fin.ext
  match d with
  | ⟨0, _⟩ => show 0 + 1 * (y 0).val = (y 0).val; omega
  | ⟨1, _⟩ => show 0 + 1 * (y 1).val = (y 1).val; omega

theorem row1 (k : Fin 128) : View.readAt (Elt Ideal) arg2.view
    (Rect.unit (s := S3x128) ![1, 0] ![1, 128] inb_S3x128_S1x128_1_0).toLoadRect (harg2.unread x1)
    (ix2 (0 : Fin 1) k : S1x128.Idx) = x1 (ix2 1 k) := by
  refine (harg2.readAt_unread x1 _ _).trans (congrArg x1 ?_)
  funext d
  apply Fin.ext
  match d with
  | ⟨0, _⟩ => rfl
  | ⟨1, _⟩ => show 0 + 1 * k.val = k.val; omega

theorem row2 (k : Fin 128) : View.readAt (Elt Ideal) arg2.view
    (Rect.unit (s := S3x128) ![2, 0] ![1, 128] inb_S3x128_S1x128_2_0).toLoadRect (harg2.unread x1)
    (ix2 (0 : Fin 1) k : S1x128.Idx) = x1 (ix2 2 k) := by
  refine (harg2.readAt_unread x1 _ _).trans (congrArg x1 ?_)
  funext d
  apply Fin.ext
  match d with
  | ⟨0, _⟩ => rfl
  | ⟨1, _⟩ => show 0 + 1 * k.val = k.val; omega

/-- The three stores of the first result's tile, read back at an entry. -/
theorem out2_apply (n : Fin 512) : out0_A_2 c i arg1 harg1 arg2 harg2 arg3 harg3 arg4 harg4 x0 x1 (ix2 a n)
    = kvRow (fun k => x0 (ix2 a k)) (fun k => x1 (ix2 1 k)) n := by
  unfold out0_A_2 kernelRun0_A kernelRun0_A.sl.r_1 kvRow
  dsimp only
  by_cases h3 : 384 ≤ n.val
  · rw [dif_neg (by omega)]
    refine (View.read_writes_cons_unit_of_mem _ _ _ _ _ (ix2 a n) (ix2 a (⟨n.val - 384, by omega⟩ : Fin 128)) rfl ?_).trans ?_
    · intro d
      match d with
      | ⟨0, _⟩ => show a.val = 0 + a.val; omega
      | ⟨1, _⟩ => show n.val = 384 + (n.val - 384); omega
    · rw [whole0]
      refine (pay5_apply _ _ _).trans (congrArg x0 ?_)
      congr 1
      exact Fin.ext (by show 384 + (n.val - 384) = n.val; omega)
  · rw [View.read_writes_cons_unit_of_not_mem _ _ _ _ _ _ rfl (1 : Fin 2) (Or.inl (by show n.val < 384; omega))]
    by_cases h2 : 256 ≤ n.val
    · rw [dif_pos (by omega)]
      refine (View.read_writes_cons_unit_of_mem _ _ _ _ _ (ix2 a n) (ix2 a (⟨n.val - 256, by omega⟩ : Fin 128)) rfl ?_).trans ?_
      · intro d
        match d with
        | ⟨0, _⟩ => show a.val = 0 + a.val; omega
        | ⟨1, _⟩ => show n.val = 256 + (n.val - 256); omega
      · rw [whole0]
        refine (pay4_apply _ _ _ _).trans ?_
        congr 1
        funext k
        exact row1 _ _ _ k
    · rw [dif_neg (by omega),
        View.read_writes_cons_unit_of_not_mem _ _ _ _ _ _ rfl (1 : Fin 2) (Or.inl (by show n.val < 256; omega))]
      refine (View.read_writes_cons_unit_of_mem _ _ _ _ _ (ix2 a n) (ix2 a (⟨n.val, by omega⟩ : Fin 256)) rfl ?_).trans ?_
      · intro d
        match d with
        | ⟨0, _⟩ => show a.val = 0 + a.val; omega
        | ⟨1, _⟩ => show n.val = 0 + n.val; omega
      · rw [whole0]
        exact pay3_apply _ _ _

/-- The two stores of the second result's tile, read back at an entry. -/
theorem out3_apply (n : Fin 256) : out0_A_3 c i arg1 harg1 arg2 harg2 arg3 harg3 arg4 harg4 x0 x1 (ix2 a n)
    = winRow (fun k => x0 (ix2 a k)) (fun k => x1 (ix2 2 k)) n := by
  unfold out0_A_3 kernelRun0_A winRow
  dsimp only
  by_cases h : n.val < 128
  · rw [dif_pos h,
      View.read_writes_cons_unit_of_not_mem _ _ _ _ _ _ rfl (1 : Fin 2) (Or.inl (by show n.val < 128; omega))]
    refine (View.read_writes_cons_unit_of_mem _ _ _ _ _ (ix2 a n) (ix2 a (⟨n.val, h⟩ : Fin 128)) rfl ?_).trans ?_
    · intro d
      match d with
      | ⟨0, _⟩ => show a.val = 0 + a.val; omega
      | ⟨1, _⟩ => show n.val = 0 + n.val; omega
    · try unfold kernelRun0_A.sl.r
      rw [whole0]
      refine (pay1_apply _ _ _ _).trans ?_
      congr 1
      funext k
      exact row2 _ _ _ k
  · rw [dif_neg h]
    refine (View.read_writes_cons_unit_of_mem _ _ _ _ _ (ix2 a n) (ix2 a (⟨n.val - 128, by omega⟩ : Fin 128)) rfl ?_).trans ?_
    · intro d
      match d with
      | ⟨0, _⟩ => show a.val = 0 + a.val; omega
      | ⟨1, _⟩ => show n.val = 128 + (n.val - 128); omega
    · try unfold kernelRun0_A.sl.r
      rw [whole0]
      refine (pay2_apply _ _ _).trans (congrArg x0 ?_)
      congr 1
      exact Fin.ext (by show 640 + (n.val - 128) = 512 + n.val; omega)

end Block

/-- The first result: columns 1536 to 2047 of the projection, the third piece's two heads normalised. -/
def G1 (x : Vec Ideal S128x2432 .f32) (g : Vec Ideal S3x64 .f32) : Vec Ideal S128x512 .f32 := fun i =>
  if h : 256 ≤ (i 1).val ∧ (i 1).val < 384 then
    pn (fun k => x (ix2 (i 0) ⟨1792 + k.val, by omega⟩)) (fun k => g (ix2 1 k)) ⟨(i 1).val - 256, by omega⟩
  else x (ix2 (i 0) ⟨1536 + (i 1).val, by have : (i 1).val < 512 := (i 1).isLt; omega⟩)

/-- The second result: columns 2048 to 2303 of the projection, the first piece's two heads normalised. -/
def G2 (x : Vec Ideal S128x2432 .f32) (g : Vec Ideal S3x64 .f32) : Vec Ideal S128x256 .f32 := fun i =>
  if h : (i 1).val < 128 then
    pn (fun k => x (ix2 (i 0) ⟨2048 + k.val, by omega⟩)) (fun k => g (ix2 2 k)) ⟨(i 1).val, h⟩
  else x (ix2 (i 0) ⟨2048 + (i 1).val, by have : (i 1).val < 256 := (i 1).isLt; omega⟩)

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 2
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N_eq : cfg0.N = 1 := N_0

theorem V_v0 (c : Dev nD) : (V m c main_v0 : Vec Ideal S3x128 .f32)
    = concatenate S3x128 1 [⟨S3x64, (m ((c : Thread nD τ).loc main_arg1) : Vec Ideal S3x64 .f32)⟩,
        ⟨S3x64, (m ((c : Thread nD τ).loc main_arg1) : Vec Ideal S3x64 .f32)⟩] concatenates_S3x64_S3x64_S3x128_d1 := by
  show StableHlo.after hostOps0 _ _ = _
  after_results

/-- A point's tile of the projection, read at an entry. -/
theorem blk0 (c : Dev nD) (t : Fin cfg0.N) (a : Fin 128) (l : Fin 768) :
    (X0_0 m c t : Vec Ideal S128x768 .f32) (ix2 a l)
      = m ((c : Thread nD τ).loc main_arg0)
          (ix2 (⟨128 * t.val + a.val, by have := t.isLt; have := N_eq; omega⟩ : Fin 128) (⟨1536 + l.val, by omega⟩ : Fin 2432)) := by
  have hf := idx_facts t
  unfold X0_0 Pipeline.Window.fill
  rw [dif_pos (moved0_0 t _)]
  show V m c main_arg0 (((cfg0.win 0).blk t).view.emb _) = _
  rw [V_main_arg0]
  congr 1
  funext d
  apply Fin.ext
  match d with
  | ⟨0, _⟩ => show win0_0.index t (0 : Fin 2) * 128 + 1 * a.val = 128 * t.val + a.val; rw [hf.1]; omega
  | ⟨1, _⟩ => show win0_0.index t (1 : Fin 2) * 768 + 1 * l.val = 1536 + l.val; rw [hf.2.1]; omega

/-- The scales, twice over. -/
theorem blk1 (c : Dev nD) (t : Fin cfg0.N) (b : Fin 3) (l : Fin 128) :
    (iblk m c 1 t : Vec Ideal S3x128 .f32) (ix2 b l)
      = m ((c : Thread nD τ).loc main_arg1) (ix2 b (⟨l.val % 64, by omega⟩ : Fin 64)) := by
  have hf := idx_facts t
  show V m c main_v0 (((cfg0.win 1).blk t).view.emb (ix2 b l)) = _
  have he : ((cfg0.win 1).blk t).view.emb (ix2 b l) = (ix2 b l : S3x128.Idx) := by
    funext d
    apply Fin.ext
    match d with
    | ⟨0, _⟩ => show win0_1.index t (0 : Fin 2) * 3 + 1 * b.val = b.val; rw [hf.2.2.1]; omega
    | ⟨1, _⟩ => show win0_1.index t (1 : Fin 2) * 128 + 1 * l.val = l.val; rw [hf.2.2.2.1]; omega
  rw [he, V_v0]
  generalize (m ((c : Thread nD τ).loc main_arg1) : Vec Ideal S3x64 .f32) = g
  pointwise
  split
  · next h => exact congrArg g (congrArg (ix2 b) (Fin.ext (by show l.val = l.val % 64; omega)))
  · next h => exact congrArg g (congrArg (ix2 b) (Fin.ext (by show l.val - 64 = l.val % 64; omega)))

/-- The results as functions of the arguments as launched. -/
abbrev result1 (c : Dev nD) : Buf (Elt Ideal) ((c : Thread nD τ).loc main_v1_0) :=
  G1 (m ((c : Thread nD τ).loc main_arg0)) (m ((c : Thread nD τ).loc main_arg1))
abbrev result2 (c : Dev nD) : Buf (Elt Ideal) ((c : Thread nD τ).loc main_v1_1) :=
  G2 (m ((c : Thread nD τ).loc main_arg0)) (m ((c : Thread nD τ).loc main_arg1))

theorem left2 (c : Dev nD) (t : Fin cfg0.N) (a : Fin 128) (n : Fin 512) :
    (outsAt0 m c t).1 (ix2 a n) = kvRow (fun k => (X0_0 m c t : Vec Ideal S128x768 .f32) (ix2 a k))
      (fun k => (iblk m c 1 t : Vec Ideal S3x128 .f32) (ix2 1 k)) n := by
  unfold outsAt0
  dsimp only
  exact out2_apply c (grid0.coords t) (ms0_0 t) (hs0_0 t) (ms0_1 t) (hs0_1 t) (ms0_2 t) (hs0_2 t) (ms0_3 t) (hs0_3 t) _ _ a n

/-- What a point writes back is its block of the first result. -/
theorem flushed_eq2 (c : Dev nD) (t : Fin cfg0.N) (_ : (cfg0.win 2).flush t = true) :
    (dats m 0 c).flushed 2 t = ((cfg0.win 2).blk t).view.read (Elt Ideal) (result1 m c) := by
  have hf := idx_facts t
  rw [show (dats m 0 c).flushed 2 t = (cfg0.win 2).cut (grid0.coords t) ((dats m 0 c).after 2 t) from rfl, after0_2]
  funext j
  obtain ⟨a, n, rfl⟩ : ∃ (a : Fin 128) (n : Fin 512), j = ix2 a n := ⟨j 0, j 1, eq_ix2 j⟩
  show (outsAt0 m c t).1 (ix2 a n) = result1 m c (((cfg0.win 2).blk t).view.emb (ix2 a n))
  have he : ((cfg0.win 2).blk t).view.emb (ix2 a n)
      = (ix2 ⟨128 * t.val + a.val, by have := t.isLt; have := N_eq; omega⟩ n : S128x512.Idx) := by
    funext d
    apply Fin.ext
    match d with
    | ⟨0, _⟩ => show win0_2.index t (0 : Fin 2) * 128 + 1 * a.val = 128 * t.val + a.val; rw [hf.2.2.2.2.1]; omega
    | ⟨1, _⟩ => show win0_2.index t (1 : Fin 2) * 512 + 1 * n.val = n.val; rw [hf.2.2.2.2.2.1]; omega
  rw [he]
  refine (left2 m c t a n).trans ?_
  show _ = G1 _ _ (ix2 _ n)
  unfold kvRow G1
  by_cases h : 256 ≤ n.val ∧ n.val < 384
  · rw [dif_pos h]
    refine Eq.trans ?_ (dif_pos h).symm
    rw [kn_eq _ _ (fun k => m ((c : Thread nD τ).loc main_arg1) (ix2 1 k)) (fun k => blk1 m c t 1 k)]
    congr 1
    funext k
    refine (blk0 m c t a _).trans (congrArg _ (congrArg (ix2 _) (Fin.ext ?_)))
    show 1536 + (256 + k.val) = 1792 + k.val
    omega
  · rw [dif_neg h]
    refine Eq.trans ?_ (dif_neg h).symm
    exact blk0 m c t a _

theorem left3 (c : Dev nD) (t : Fin cfg0.N) (a : Fin 128) (n : Fin 256) :
    (outsAt0 m c t).2 (ix2 a n) = winRow (fun k => (X0_0 m c t : Vec Ideal S128x768 .f32) (ix2 a k))
      (fun k => (iblk m c 1 t : Vec Ideal S3x128 .f32) (ix2 2 k)) n := by
  unfold outsAt0
  dsimp only
  exact out3_apply c (grid0.coords t) (ms0_0 t) (hs0_0 t) (ms0_1 t) (hs0_1 t) (ms0_2 t) (hs0_2 t) (ms0_3 t) (hs0_3 t) _ _ a n

/-- What a point writes back is its block of the second result. -/
theorem flushed_eq3 (c : Dev nD) (t : Fin cfg0.N) (_ : (cfg0.win 3).flush t = true) :
    (dats m 0 c).flushed 3 t = ((cfg0.win 3).blk t).view.read (Elt Ideal) (result2 m c) := by
  have hf := idx_facts t
  rw [show (dats m 0 c).flushed 3 t = (cfg0.win 3).cut (grid0.coords t) ((dats m 0 c).after 3 t) from rfl, after0_3]
  funext j
  obtain ⟨a, n, rfl⟩ : ∃ (a : Fin 128) (n : Fin 256), j = ix2 a n := ⟨j 0, j 1, eq_ix2 j⟩
  show (outsAt0 m c t).2 (ix2 a n) = result2 m c (((cfg0.win 3).blk t).view.emb (ix2 a n))
  have he : ((cfg0.win 3).blk t).view.emb (ix2 a n)
      = (ix2 ⟨128 * t.val + a.val, by have := t.isLt; have := N_eq; omega⟩ n : S128x256.Idx) := by
    funext d
    apply Fin.ext
    match d with
    | ⟨0, _⟩ => show win0_3.index t (0 : Fin 2) * 128 + 1 * a.val = 128 * t.val + a.val; rw [hf.2.2.2.2.2.2.1]; omega
    | ⟨1, _⟩ => show win0_3.index t (1 : Fin 2) * 256 + 1 * n.val = n.val; rw [hf.2.2.2.2.2.2.2]; omega
  rw [he]
  refine (left3 m c t a n).trans ?_
  show _ = G2 _ _ (ix2 _ n)
  unfold winRow G2
  by_cases h : n.val < 128
  · rw [dif_pos h]
    refine Eq.trans ?_ (dif_pos h).symm
    rw [kn_eq _ _ (fun k => m ((c : Thread nD τ).loc main_arg1) (ix2 2 k)) (fun k => blk1 m c t 2 k)]
    congr 1
    funext k
    refine (blk0 m c t a _).trans (congrArg _ (congrArg (ix2 _) (Fin.ext ?_)))
    show 1536 + (512 + k.val) = 2048 + k.val
    omega
  · rw [dif_neg h]
    refine Eq.trans ?_ (dif_neg h).symm
    refine (blk0 m c t a _).trans (congrArg _ (congrArg (ix2 _) (Fin.ext ?_)))
    show 1536 + (512 + n.val) = 2048 + n.val
    omega

/-- Every entry of the results lies in a written block. -/
theorem final2 (c : Dev nD) : (dats m 0 c).arrAt 2 cfg0.N = result1 m c :=
  (dats m 0 c).arrAt_eq_of_cover 2 (result1 m c) (flushed_eq2 m c) fun i => by
    have h0 : (i 0 : Nat) < 128 := (i 0).isLt
    have h1 : (i 1 : Nat) < 512 := (i 1).isLt
    have hN := N_eq
    have ht : (i 0 : Nat) / 128 < cfg0.N := by omega
    have hf := idx_facts ⟨(i 0 : Nat) / 128, ht⟩
    refine ⟨⟨(i 0 : Nat) / 128, ht⟩, (by decide +kernel : ∀ t : Fin grid0.N, win0_2.flush t = true) _, ?_⟩
    show i ∈ ((View.whole main_v1_0).slice (win0_2.rect ⟨(i 0 : Nat) / 128, ht⟩)).set
    rw [View.set_slice_whole, Rect.mem_set_unit]
    intro a
    match a with
    | ⟨0, _⟩ =>
      show win0_2.index ⟨(i 0 : Nat) / 128, ht⟩ (0 : Fin 2) * 128 ≤ (i 0 : Nat) ∧ (i 0 : Nat) < win0_2.index ⟨(i 0 : Nat) / 128, ht⟩ (0 : Fin 2) * 128 + 128
      rw [hf.2.2.2.2.1]; dsimp only; omega
    | ⟨1, _⟩ =>
      show win0_2.index ⟨(i 0 : Nat) / 128, ht⟩ (1 : Fin 2) * 512 ≤ (i 1 : Nat) ∧ (i 1 : Nat) < win0_2.index ⟨(i 0 : Nat) / 128, ht⟩ (1 : Fin 2) * 512 + 512
      rw [hf.2.2.2.2.2.1]; omega

theorem final3 (c : Dev nD) : (dats m 0 c).arrAt 3 cfg0.N = result2 m c :=
  (dats m 0 c).arrAt_eq_of_cover 3 (result2 m c) (flushed_eq3 m c) fun i => by
    have h0 : (i 0 : Nat) < 128 := (i 0).isLt
    have h1 : (i 1 : Nat) < 256 := (i 1).isLt
    have hN := N_eq
    have ht : (i 0 : Nat) / 128 < cfg0.N := by omega
    have hf := idx_facts ⟨(i 0 : Nat) / 128, ht⟩
    refine ⟨⟨(i 0 : Nat) / 128, ht⟩, (by decide +kernel : ∀ t : Fin grid0.N, win0_3.flush t = true) _, ?_⟩
    show i ∈ ((View.whole main_v1_1).slice (win0_3.rect ⟨(i 0 : Nat) / 128, ht⟩)).set
    rw [View.set_slice_whole, Rect.mem_set_unit]
    intro a
    match a with
    | ⟨0, _⟩ =>
      show win0_3.index ⟨(i 0 : Nat) / 128, ht⟩ (0 : Fin 2) * 128 ≤ (i 0 : Nat) ∧ (i 0 : Nat) < win0_3.index ⟨(i 0 : Nat) / 128, ht⟩ (0 : Fin 2) * 128 + 128
      rw [hf.2.2.2.2.2.2.1]; dsimp only; omega
    | ⟨1, _⟩ =>
      show win0_3.index ⟨(i 0 : Nat) / 128, ht⟩ (1 : Fin 2) * 256 ≤ (i 1 : Nat) ∧ (i 1 : Nat) < win0_3.index ⟨(i 0 : Nat) / 128, ht⟩ (1 : Fin 2) * 256 + 256
      rw [hf.2.2.2.2.2.2.2]; omega

/-- The window's new state: the rows joined to the old state, the last 512 of each sequence. -/
def joined (w : Vec Ideal S32x512x256 .f32) (r : Vec Ideal S128x256 .f32) : Vec Ideal S32x512x256 .f32 :=
  extractStridedSlice S32x512x256 ![0, 4, 0]
    (concatenate S32x516x256 1 [⟨S32x512x256, w⟩, ⟨S32x4x256, shapeCast S32x4x256 r shapeCasts_S128x256_S32x4x256⟩]
      concatenates_S32x512x256_S32x4x256_S32x516x256_d1 : Vec Ideal S32x516x256 .f32) slices_S32x516x256_S32x512x256_0_4_0

abbrev result3 (c : Dev nD) : Buf (Elt Ideal) ((c : Thread nD τ).loc main_v4) :=
  joined (m ((c : Thread nD τ).loc main_arg2)) (result2 m c)

theorem exit_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

theorem exit_rows (c : Dev nD) :
    Pipeline.withArrays (cfgs 0).spec c (V0 m c) (fun w => (dats m 0 c).arrAt w (cfgs 0).N) (Proc.devRef .tc main_v1_1)
      = result2 m c :=
  (Pipeline.withArrays_arr spec0 launch0.win.arr_inj c (V0 m c) _ 3).trans (final3 m c)

/-- What the operations after the call leave. -/
theorem tail_eq (c : Dev nD) : Pipeline.afterTail₀ cfgs (dats m) 0 (V0 m) [hostOps1] c main_v4 = result3 m c := by
  unfold Pipeline.afterTail₀
  show StableHlo.after (hostOps1 ++ []) _ _ = _
  simp only [List.append_nil]
  after_results
  rw [exit_arg2, exit_rows]
  rfl

theorem run_results : θ_run defs (onTc (τ := τ) (main (F := Ideal))) ⟨m, fun _ => 0, ρ⟩ fun r => ∀ c : Dev nD,
      r.2.mem ((c : Thread nD τ).loc main_v1_0) = result1 m c
      ∧ r.2.mem ((c : Thread nD τ).loc main_v4) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m c),
      ((h.1 c).2 main_v4 (Pipeline.mem_restRefs_of main_v4 (by decide) (by decide))).trans (tail_eq m c), h.2 c⟩)
    (θ_run_and (run_main m ρ) (unchanged m ρ))

end Cert.KvPostSIdeal.Value

namespace Cert.KvPostSRefIdeal.Value

open Cert.KvPostSRefIdeal Cert.KvPostSRefIdeal.Gen Idealize.ShloMosaic Idealize.ShloMosaic.TcCoe Idealize.SL.Sem
open Cert.KvRows

/-- The reference's norm of the two heads of a piece. -/
def normed {F : FTy → Type} [FloatOps F] (x : FVec F S128x128 .f32) (g : FVec F S1x64 .f32) : FVec F S128x128 .f32 :=
  shapeCast _ (mulf (mulf (shapeCast _ x shapeCasts_S128x128_S128x2x64)
    (broadcastInDim S128x2x64 ![0, 1, 2] bcast_S128x2x1_S128x2x64_0_1_2 (Host.rsqrt (addf (Host.divf
      (broadcastInDim S128x2x1 ![0, 1] bcast_S128x2_S128x2x1_0_1 (Host.reduceAdd
        (mulf (shapeCast _ x shapeCasts_S128x128_S128x2x64) (shapeCast _ x shapeCasts_S128x128_S128x2x64))
        (constant S_ .f32 0x00000000#32) reducesTo_S128x2x64_S128x2_d2 h_S_))
      (broadcastInDim S128x2x1 ![] bcast_S_S128x2x1 (constant S_ .f32 0x42800000#32)))
      (broadcastInDim S128x2x1 ![] bcast_S_S128x2x1 (constant S_ .f32 0x358637BD#32))))))
    (broadcastInDim S128x2x64 ![0, 1, 2] bcast_S1x1x64_S128x2x64_0_1_2
      (broadcastInDim S1x1x64 ![2] bcast_S64_S1x1x64_2 (shapeCast _ g shapeCasts_S1x64_S64))))
    shapeCasts_S128x2x64_S128x128

theorem normed_apply (x : FVec Ideal S128x128 .f32) (g : FVec Ideal S1x64 .f32) (a : Fin 128) (n : Fin 128) :
    normed x g (ix2 a n) = pn (fun k => x (ix2 a k)) (fun k => g (ix2 0 k)) n := by
  unfold normed pn
  pointwise

theorem four_apply (x0 x1 x2 x3 : Vec Ideal S128x128 .f32) (a : Fin 128) (n : Fin 512) :
    (concatenate S128x512 1 [⟨S128x128, x0⟩, ⟨S128x128, x1⟩, ⟨S128x128, x2⟩, ⟨S128x128, x3⟩]
      concatenates_S128x128_S128x128_S128x128_S128x128_S128x512_d1 : Vec Ideal S128x512 .f32) (ix2 a n)
      = if h0 : n.val < 128 then x0 (ix2 a ⟨n.val, h0⟩)
        else if h1 : n.val - 128 < 128 then x1 (ix2 a ⟨n.val - 128, h1⟩)
        else if h2 : n.val - 128 - 128 < 128 then x2 (ix2 a ⟨n.val - 128 - 128, h2⟩)
        else x3 (ix2 a ⟨n.val - 128 - 128 - 128, by omega⟩) := by
  pointwise

theorem two_apply (x0 x1 : Vec Ideal S128x128 .f32) (a : Fin 128) (n : Fin 256) :
    (concatenate S128x256 1 [⟨S128x128, x0⟩, ⟨S128x128, x1⟩]
      concatenates_S128x128_S128x128_S128x256_d1 : Vec Ideal S128x256 .f32) (ix2 a n)
      = if h0 : n.val < 128 then x0 (ix2 a ⟨n.val, h0⟩) else x1 (ix2 a ⟨n.val - 128, by omega⟩) := by
  pointwise

section Pieces
variable (x : Vec Ideal S128x2432 .f32) (g : Vec Ideal S3x64 .f32)

theorem first_eq : (concatenate S128x512 1 [
      ⟨S128x128, (extractStridedSlice S128x128 ![0, 1536] x slices_S128x2432_S128x128_0_1536 : Vec Ideal S128x128 .f32)⟩,
      ⟨S128x128, (extractStridedSlice S128x128 ![0, 1664] x slices_S128x2432_S128x128_0_1664 : Vec Ideal S128x128 .f32)⟩,
      ⟨S128x128, (normed (F := Ideal) (extractStridedSlice S128x128 ![0, 1792] x slices_S128x2432_S128x128_0_1792)
        (extractStridedSlice S1x64 ![1, 0] g slices_S3x64_S1x64_1_0) : Vec Ideal S128x128 .f32)⟩,
      ⟨S128x128, (extractStridedSlice S128x128 ![0, 1920] x slices_S128x2432_S128x128_0_1920 : Vec Ideal S128x128 .f32)⟩]
      concatenates_S128x128_S128x128_S128x128_S128x128_S128x512_d1 : Vec Ideal S128x512 .f32)
    = Cert.KvPostSIdeal.Value.G1 x g := by
  funext j
  obtain ⟨a, n, rfl⟩ : ∃ (a : Fin 128) (n : Fin 512), j = ix2 a n := ⟨j 0, j 1, eq_ix2 j⟩
  refine (four_apply _ _ _ _ a n).trans ?_
  unfold Cert.KvPostSIdeal.Value.G1
  by_cases h0 : n.val < 128
  · rw [dif_pos h0]
    refine Eq.trans ?_ (dif_neg (by show ¬ (256 ≤ n.val ∧ n.val < 384); omega)).symm
    pointwise
  rw [dif_neg h0]
  by_cases h1 : n.val - 128 < 128
  · rw [dif_pos h1]
    refine Eq.trans ?_ (dif_neg (by show ¬ (256 ≤ n.val ∧ n.val < 384); omega)).symm
    pointwise
    exact congrArg x (congrArg (ix2 a) (Fin.ext (by show 1664 + (n.val - 128) = 1536 + n.val; omega)))
  rw [dif_neg h1]
  by_cases h2 : n.val - 128 - 128 < 128
  · rw [dif_pos h2]
    refine Eq.trans ?_ (dif_pos (by show 256 ≤ n.val ∧ n.val < 384; omega)).symm
    refine (normed_apply _ _ _ _).trans ?_
    unfold pn
    pointwise
    rfl
  · rw [dif_neg h2]
    refine Eq.trans ?_ (dif_neg (by show ¬ (256 ≤ n.val ∧ n.val < 384); omega)).symm
    pointwise
    exact congrArg x (congrArg (ix2 a) (Fin.ext (by show 1920 + (n.val - 128 - 128 - 128) = 1536 + n.val; omega)))

theorem second_eq : (concatenate S128x256 1 [
      ⟨S128x128, (normed (F := Ideal) (extractStridedSlice S128x128 ![0, 2048] x slices_S128x2432_S128x128_0_2048)
        (extractStridedSlice S1x64 ![2, 0] g slices_S3x64_S1x64_2_0) : Vec Ideal S128x128 .f32)⟩,
      ⟨S128x128, (extractStridedSlice S128x128 ![0, 2176] x slices_S128x2432_S128x128_0_2176 : Vec Ideal S128x128 .f32)⟩]
      concatenates_S128x128_S128x128_S128x256_d1 : Vec Ideal S128x256 .f32)
    = Cert.KvPostSIdeal.Value.G2 x g := by
  funext j
  obtain ⟨a, n, rfl⟩ : ∃ (a : Fin 128) (n : Fin 256), j = ix2 a n := ⟨j 0, j 1, eq_ix2 j⟩
  refine (two_apply _ _ a n).trans ?_
  unfold Cert.KvPostSIdeal.Value.G2
  by_cases h0 : n.val < 128
  · rw [dif_pos h0]
    refine Eq.trans ?_ (dif_pos (by show n.val < 128; omega)).symm
    refine (normed_apply _ _ _ _).trans ?_
    unfold pn
    pointwise
  · rw [dif_neg h0]
    refine Eq.trans ?_ (dif_neg (by show ¬ n.val < 128; omega)).symm
    pointwise
    exact congrArg x (congrArg (ix2 a) (Fin.ext (by show 2176 + (n.val - 128) = 2048 + n.val; omega)))

end Pieces

end Cert.KvPostSRefIdeal.Value

namespace Cert.KvPostSValue

open Idealize.ShloMosaic Idealize.ShloMosaic.TcCoe Idealize.SL.Sem

/-- The kernel and the reference agree on both results. -/
theorem algebraic : Cert.algebraic_KvPostSIdeal_KvPostSRefIdeal (hKvPostSIdeal := Cert.KvPostSIdeal.Gen.facts)
    (hKvPostSRefIdeal := Cert.KvPostSRefIdeal.Gen.facts) := by
  intro m g m' g' _ hargs
  refine ⟨fun c => Cert.KvPostSIdeal.Value.result1 m c, fun c => Cert.KvPostSIdeal.Value.result3 m c,
    Cert.KvPostSIdeal.Value.run_results m g, ?_⟩
  refine (θ_run Cert.KvPostSRefIdeal.defs _ _).mono
    (fun r h c => ⟨(h c).1.trans ?_, (h c).2.1.trans ?_, (h c).2.2⟩) (Cert.KvPostSRefIdeal.Value.run m' g')
  · obtain ⟨h0, h1, h2⟩ := hargs c
    rw [h0, h1]
    exact Cert.KvPostSRefIdeal.Value.first_eq _ _
  · obtain ⟨h0, h1, h2⟩ := hargs c
    rw [h0, h1, h2]
    exact congrArg (Cert.KvPostSIdeal.Value.joined _) (Cert.KvPostSRefIdeal.Value.second_eq _ _)

end Cert.KvPostSValue

end
-- ==== Proof.EvenInValue.lean ====
/-
  The value of the even layer's entry projection: every row normalised and multiplied by the weights, which are
  padded with columns of zeros.
-/
module

public import proofs.«01_k».proof.Defs
public import proofs.«01_k».proof.Proof.Gen.EvenInIdeal.Value
public import proofs.«01_k».proof.Proof.Gen.EvenInRefIdeal.Run
public import proofs.«01_k».proof.Proof.Rows

@[expose] public section

set_option maxRecDepth 16384

noncomputable section

namespace Cert.EvenInIdeal.Value

open Cert.EvenInIdeal Cert.EvenInIdeal.Gen Idealize.ShloMosaic Idealize.ShloMosaic.TcCoe Idealize.SL.Sem
open Cert.Rows

theorem hz : (![0, 0] : Fin 2 → Nat) = fun _ => 0 := funext fun a => by fin_cases a <;> rfl

section AnyFloat
variable {F : FTy → Type} [FloatOps F]

/-- The body leaves its payload of the three input blocks. -/
theorem out_eq (x0 : Vec F S512x1024 .f32) (x1 : Vec F S1x1024 .f32) (x2 : Vec F S1024x2432 .bf16) :
    out0_3 x0 x1 x2 = k0_pay1 x0 x1 x2 := by
  unfold out0_3
  rw [View.canon_unit_zero hz, View.ld_unit_zero hz, View.ld_unit_zero hz, View.ld_unit_zero hz]

end AnyFloat

/-- The payload at an entry: the normalised row against the weight's column. -/
theorem pay_apply (x0 : Vec Ideal S512x1024 .f32) (x1 : Vec Ideal S1x1024 .f32) (x2 : Vec Ideal S1024x2432 .bf16)
    (a : Fin 512) (n : Fin 2432) :
    k0_pay1 x0 x1 x2 (ix2 a n) = ∑ l, nrm (fun l => x0 (ix2 a l)) (fun l => x1 (ix2 0 l)) l * x2 (ix2 l n) := by
  unfold nrm
  pointwise [Gen.k0_pay1]

variable (m : (ℓ : Loc nD τ sig) → Buf (Elt Ideal) ℓ) (ρ : Dev nD → PrngReg)

/-- The result: every row normalised and multiplied by the weights, then zeros. -/
def G (x : Vec Ideal S16384x1024 .f32) (g : Vec Ideal S1024 .f32) (w : Vec Ideal S1024x2328 .f32) : Vec Ideal S16384x2432 .f32 :=
  fun i => if h : (i 1).val < 2328 then ∑ l, nrm (fun l => x (ix2 (i 0) l)) (fun l => g (ix1 l)) l * w (ix2 l ⟨(i 1).val, h⟩)
    else 0

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_eq : cfg0.N = 32 := N_0

/-- The three input blocks of a point, read at an entry: rows `512 t …` of the first argument, the whole scale, the
    whole weight. -/
theorem blk0 (c : Dev nD) (t : Fin cfg0.N) (a : Fin 512) (l : Fin 1024) :
    (iblk m c 0 t : Vec Ideal S512x1024 .f32) (ix2 a l)
      = m ((c : Thread nD τ).loc main_arg0) (ix2 ⟨512 * t.val + a.val, by have := t.isLt; have := N_eq; omega⟩ l) := by
  have hf := idx_facts t
  show V m c main_arg0 (((cfg0.win 0).blk t).view.emb (ix2 a l)) = _
  rw [V_main_arg0]
  congr 1
  funext d
  apply Fin.ext
  match d with
  | ⟨0, _⟩ => show win0_0.index t (0 : Fin 2) * 512 + 1 * a.val = 512 * t.val + a.val; rw [hf.1]; omega
  | ⟨1, _⟩ => show win0_0.index t (1 : Fin 2) * 1024 + 1 * l.val = l.val; rw [hf.2.1]; omega

theorem V_v2 (c : Dev nD) : (V m c main_v2 : Vec Ideal S1x1024 .f32)
    = shapeCast S1x1024 (m ((c : Thread nD τ).loc main_arg1)) shapeCasts_S1024_S1x1024 := by
  show StableHlo.after (hostOps0 ++ (hostOps0_1 ++ (hostOps0_2 ++ []))) _ _ = _
  simp only [List.cons_append, List.nil_append]
  after_results
  rfl

theorem V_v1 (c : Dev nD) : (V m c main_v1 : Vec Ideal S1024x2432 .bf16)
    = (pad S1024x2432 ![0, 0] ![0, 104] ![0, 0] (m ((c : Thread nD τ).loc main_arg2) : Vec Ideal S1024x2328 .f32)
        (sitofp (F := Ideal) .f32 (constantI S_ 32 0#32) : Vec Ideal S_ .f32) pads_S1024x2328_S1024x2432_000_01040 h_S_
        : Vec Ideal S1024x2432 .f32) := by
  show StableHlo.after (hostOps0 ++ (hostOps0_1 ++ (hostOps0_2 ++ []))) _ _ = _
  simp only [List.cons_append, List.nil_append]
  after_results
  rfl

theorem zero_apply (k : S_.Idx) : (sitofp (F := Ideal) .f32 (constantI S_ 32 0#32) : Vec Ideal S_ .f32) k = 0 := by
  pointwise
  show ((((0#32 : BitVec 32).toInt : ℝ)) : EReal) = 0
  simp

theorem padded_apply (w : Vec Ideal S1024x2328 .f32) (l : Fin 1024) (n : Fin 2432) :
    (pad S1024x2432 ![0, 0] ![0, 104] ![0, 0] w (sitofp (F := Ideal) .f32 (constantI S_ 32 0#32) : Vec Ideal S_ .f32)
        pads_S1024x2328_S1024x2432_000_01040 h_S_ : Vec Ideal S1024x2432 .f32) (ix2 l n)
      = if h : n.val < 2328 then w (ix2 l ⟨n.val, h⟩) else 0 := by
  rw [← zero_apply (fun a => a.elim0)]
  pointwise

theorem blk1 (c : Dev nD) (t : Fin cfg0.N) (l : Fin 1024) :
    (iblk m c 1 t : Vec Ideal S1x1024 .f32) (ix2 0 l) = m ((c : Thread nD τ).loc main_arg1) (ix1 l) := by
  have hf := idx_facts t
  show V m c main_v2 (((cfg0.win 1).blk t).view.emb (ix2 0 l)) = _
  have he : ((cfg0.win 1).blk t).view.emb (ix2 0 l) = (ix2 0 l : S1x1024.Idx) := by
    funext d
    apply Fin.ext
    match d with
    | ⟨0, _⟩ => show win0_1.index t (0 : Fin 2) * 1 + 1 * 0 = 0; rw [hf.2.2.1]
    | ⟨1, _⟩ => show win0_1.index t (1 : Fin 2) * 1024 + 1 * l.val = l.val; rw [hf.2.2.2.1]; omega
  rw [he, V_v2]
  pointwise

theorem blk2 (c : Dev nD) (t : Fin cfg0.N) (l : Fin 1024) (n : Fin 2432) :
    (iblk m c 2 t : Vec Ideal S1024x2432 .bf16) (ix2 l n)
      = if h : n.val < 2328 then m ((c : Thread nD τ).loc main_arg2) (ix2 l (⟨n.val, h⟩ : Fin 2328)) else (0 : EReal) := by
  have hf := idx_facts t
  show V m c main_v1 (((cfg0.win 2).blk t).view.emb (ix2 l n)) = _
  have he : ((cfg0.win 2).blk t).view.emb (ix2 l n) = (ix2 l n : S1024x2432.Idx) := by
    funext d
    apply Fin.ext
    match d with
    | ⟨0, _⟩ => show win0_2.index t (0 : Fin 2) * 1024 + 1 * l.val = l.val; rw [hf.2.2.2.2.1]; omega
    | ⟨1, _⟩ => show win0_2.index t (1 : Fin 2) * 2432 + 1 * n.val = n.val; rw [hf.2.2.2.2.2.1]; omega
  rw [he, V_v1]
  exact padded_apply _ l n

/-- The result as a function of the arguments as launched. -/
abbrev result (c : Dev nD) : Buf (Elt Ideal) ((c : Thread nD τ).loc main_v3) :=
  G (m ((c : Thread nD τ).loc main_arg0)) (m ((c : Thread nD τ).loc main_arg1)) (m ((c : Thread nD τ).loc main_arg2))

/-- What a point writes back is its block of the result. -/
theorem flushed_eq (c : Dev nD) (t : Fin cfg0.N) (_ : (cfg0.win 3).flush t = true) :
    (dats m 0 c).flushed 3 t = ((cfg0.win 3).blk t).view.read (Elt Ideal) (result m c) := by
  have hf := idx_facts t
  rw [flushed3, out_eq]
  funext j
  obtain ⟨a, n, rfl⟩ : ∃ (a : Fin 512) (n : Fin 2432), j = ix2 a n := ⟨j 0, j 1, eq_ix2 j⟩
  show k0_pay1 (iblk m c 0 t) (iblk m c 1 t) (iblk m c 2 t) (ix2 a n) = result m c (((cfg0.win 3).blk t).view.emb (ix2 a n))
  have he : ((cfg0.win 3).blk t).view.emb (ix2 a n)
      = (ix2 ⟨512 * t.val + a.val, by have := t.isLt; have := N_eq; omega⟩ n : S16384x2432.Idx) := by
    funext d
    apply Fin.ext
    match d with
    | ⟨0, _⟩ => show win0_3.index t (0 : Fin 2) * 512 + 1 * a.val = 512 * t.val + a.val; rw [hf.2.2.2.2.2.2.1]; omega
    | ⟨1, _⟩ => show win0_3.index t (1 : Fin 2) * 2432 + 1 * n.val = n.val; rw [hf.2.2.2.2.2.2.2]; omega
  rw [he]
  refine (pay_apply _ _ _ a n).trans ?_
  simp only [blk0, blk1, blk2]
  show _ = G _ _ _ (ix2 _ n)
  unfold G
  by_cases h : n.val < 2328
  · simp only [dif_pos h]
    split
    · rfl
    · exact absurd h (by assumption)
  · simp only [dif_neg h, mul_zero, Finset.sum_const_zero]
    split
    · exact absurd (by assumption) h
    · rfl

/-- Every entry of the result lies in a written block. -/
theorem final_o (c : Dev nD) : (dats m 0 c).arrAt 3 cfg0.N = result m c :=
  (dats m 0 c).arrAt_eq_of_cover 3 (result m c) (flushed_eq m c) fun i => by
    have h0 : (i 0 : Nat) < 16384 := (i 0).isLt
    have h1 : (i 1 : Nat) < 2432 := (i 1).isLt
    have hN := N_eq
    have ht : (i 0 : Nat) / 512 < cfg0.N := by omega
    have hf := idx_facts ⟨(i 0 : Nat) / 512, ht⟩
    refine ⟨⟨(i 0 : Nat) / 512, ht⟩, (by decide +kernel : ∀ t : Fin grid0.N, win0_3.flush t = true) _, ?_⟩
    show i ∈ ((View.whole main_v3).slice (win0_3.rect ⟨(i 0 : Nat) / 512, ht⟩)).set
    rw [View.set_slice_whole, Rect.mem_set_unit]
    intro a
    match a with
    | ⟨0, _⟩ =>
      show win0_3.index ⟨(i 0 : Nat) / 512, ht⟩ (0 : Fin 2) * 512 ≤ (i 0 : Nat) ∧ (i 0 : Nat) < win0_3.index ⟨(i 0 : Nat) / 512, ht⟩ (0 : Fin 2) * 512 + 512
      rw [hf.2.2.2.2.2.2.1]; dsimp only; omega
    | ⟨1, _⟩ =>
      show win0_3.index ⟨(i 0 : Nat) / 512, ht⟩ (1 : Fin 2) * 2432 ≤ (i 1 : Nat) ∧ (i 1 : Nat) < win0_3.index ⟨(i 0 : Nat) / 512, ht⟩ (1 : Fin 2) * 2432 + 2432
      rw [hf.2.2.2.2.2.2.2]; omega

end Cert.EvenInIdeal.Value

namespace Cert.EvenInRefIdeal.Value

open Cert.EvenInRefIdeal Cert.EvenInRefIdeal.Gen Idealize.ShloMosaic Idealize.ShloMosaic.TcCoe Idealize.SL.Sem

theorem zero_apply (k : S_.Idx) : (sitofp (F := Ideal) .f32 (constantI S_ 32 0#32) : Vec Ideal S_ .f32) k = 0 := by
  pointwise
  show ((((0#32 : BitVec 32).toInt : ℝ)) : EReal) = 0
  simp

theorem padded_apply (y : Vec Ideal S16384x2328 .f32) (a : Fin 16384) (n : Fin 2432) :
    (pad S16384x2432 ![0, 0] ![0, 104] ![0, 0] y (sitofp (F := Ideal) .f32 (constantI S_ 32 0#32) : Vec Ideal S_ .f32)
        pads_S16384x2328_S16384x2432_000_01040 h_S_ : Vec Ideal S16384x2432 .f32) (ix2 a n)
      = if h : n.val < 2328 then y (ix2 a ⟨n.val, h⟩) else 0 := by
  rw [← zero_apply (fun a => a.elim0)]
  pointwise

end Cert.EvenInRefIdeal.Value

namespace Cert.EvenInValue

open Idealize.ShloMosaic Idealize.ShloMosaic.TcCoe Idealize.SL.Sem Cert.Rows

/-- The kernel and the reference agree: both leave every row normalised and multiplied by the weights. -/
theorem algebraic : Cert.algebraic_EvenInIdeal_EvenInRefIdeal (hEvenInIdeal := Cert.EvenInIdeal.Gen.facts)
    (hEvenInRefIdeal := Cert.EvenInRefIdeal.Gen.facts) := by
  intro m g m' g' _ hargs
  refine ⟨fun c => Cert.EvenInIdeal.Value.result m c, ?_, ?_⟩
  · exact (θ_run Cert.EvenInIdeal.defs _ _).mono
      (fun r h c => ⟨(h c).1.trans (Cert.EvenInIdeal.Value.final_o m c), (h c).2⟩) (Cert.EvenInIdeal.Value.run_blocks m g)
  · refine (θ_run Cert.EvenInRefIdeal.defs _ _).mono (fun r h c => ⟨(h c).1.trans ?_, (h c).2⟩) (Cert.EvenInRefIdeal.Value.run m' g')
    obtain ⟨h0, h1, h2⟩ := hargs c
    rw [h0, h1, h2]
    funext j
    obtain ⟨a, n, rfl⟩ : ∃ (a : Fin 16384) (n : Fin 2432), j = ix2 a n := ⟨j 0, j 1, eq_ix2 j⟩
    refine (Cert.EvenInRefIdeal.Value.padded_apply _ a n).trans ?_
    show _ = Cert.EvenInIdeal.Value.G _ _ _ (ix2 a n)
    unfold Cert.EvenInIdeal.Value.G
    by_cases h : n.val < 2328
    · rw [dif_pos h]
      refine Eq.trans ?_ (dif_pos h).symm
      unfold nrm
      pointwise
    · rw [dif_neg h]
      split
      · exact absurd (by assumption) h
      · rfl

end Cert.EvenInValue

end
-- ==== Proof.ConvValue.lean ====
/-
  The rows the prompt's convolution keeps for the step after: the last gated rows, from the last point's own tile.
-/
module

public import proofs.«01_k».proof.Defs
public import proofs.«01_k».proof.Proof.Gen.ConvIdeal.Value
public import proofs.«01_k».proof.Proof.Gen.ConvRefIdeal.Run
public import Idealize.ShloMosaic.Lib.Pointwise
public import Idealize.ShloMosaic.Lib.WholeRead
public import Idealize.ShloMosaic.Lib.WritesUnit

@[expose] public section

set_option maxRecDepth 16384

noncomputable section

namespace Cert.ConvIdeal.Value

open Cert.ConvIdeal Cert.ConvIdeal.Gen Idealize.ShloMosaic Idealize.ShloMosaic.TcCoe Idealize.SL.Sem

/-- A gated entry: the first half's value times the logistic of the second half's. -/
def glu (a b : EReal) : EReal := a * Ideal.logistic b

section Pay

theorem pay2_apply (v : Vec Ideal S30x512 .f32) (r : Fin 30) (n : Fin 512) : k0_pay2 v (ix3 0 r n) = v (ix2 r n) := by
  pointwise [Gen.k0_pay2]

theorem pay5_apply (v w : Vec Ideal S1x256x512 .f32) (r : Fin 256) (n : Fin 512) :
    k0_pay5 v w (ix2 r n) = glu (v (ix3 0 r n)) (w (ix3 0 r n)) := by
  unfold glu
  pointwise [Gen.k0_pay5]

end Pay

section Block
variable (c : Dev nD) (i : grid0.Coords) (arg2 : Memref sig .tc .vmem S1x256x1024 .f32) (harg2 : arg2.IsWhole)
  (arg3 : Memref sig .tc .vmem S1x32x512 .f32) (harg3 : arg3.IsWhole) (arg4 : Memref sig .tc .vmem S31x512 .f32)
  (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32)
  (harg7 : arg7.IsWhole) (arg8 : Memref sig .tc .vmem S1x256x512 .f32) (harg8 : arg8.IsWhole)
  (arg9 : Memref sig .tc .vmem S1x30x512 .f32) (harg9 : arg9.IsWhole) (arg10 : Memref sig .tc .vmem S288x512 .f32)
  (harg10 : arg10.IsWhole) (arg11 : Memref sig .tc .vmem S2x152x128 .f32) (harg11 : arg11.IsWhole)
  (hc0 : ¬cond0_0 i) (hc1 : cond0_1 i) (hc2 : ¬cond0_2 i)
  (x0 : Vec Ideal S1x256x1024 .f32) (x1 : Vec Ideal S1x32x512 .f32) (x2 : Vec Ideal S31x512 .f32)
  (x3 x4 x5 : Vec Ideal S1x512 .f32) (acc : Vec Ideal S288x512 .f32)

theorem half0 (a : Fin 256) (n : Fin 512) : View.readAt (Elt Ideal) arg2.view
    (Rect.unit (s := S1x256x1024) ![0, 0, 0] ![1, 256, 512] inb_S1x256x1024_S1x256x512_0_0_0).toLoadRect (harg2.unread x0)
    (ix3 (0 : Fin 1) a n : S1x256x512.Idx) = x0 (ix3 0 a ⟨n.val, by omega⟩) := by
  refine (harg2.readAt_unread x0 _ _).trans (congrArg x0 ?_)
  funext d
  apply Fin.ext
  match d with
  | ⟨0, _⟩ => rfl
  | ⟨1, _⟩ => show 0 + 1 * a.val = a.val; omega
  | ⟨2, _⟩ => show 0 + 1 * n.val = n.val; omega

theorem half1 (a : Fin 256) (n : Fin 512) : View.readAt (Elt Ideal) arg2.view
    (Rect.unit (s := S1x256x1024) ![0, 0, 512] ![1, 256, 512] inb_S1x256x1024_S1x256x512_0_0_512).toLoadRect (harg2.unread x0)
    (ix3 (0 : Fin 1) a n : S1x256x512.Idx) = x0 (ix3 0 a ⟨512 + n.val, by omega⟩) := by
  refine (harg2.readAt_unread x0 _ _).trans (congrArg x0 ?_)
  funext d
  apply Fin.ext
  match d with
  | ⟨0, _⟩ => rfl
  | ⟨1, _⟩ => show 0 + 1 * a.val = a.val; omega
  | ⟨2, _⟩ => show 512 + 1 * n.val = 512 + n.val; omega

/-- What the last point leaves in the second output, at an entry. -/
theorem out7_apply (r : Fin 30) (n : Fin 512) : out0_C_7 c i arg2 harg2 arg3 harg3 arg4 harg4 arg5 harg5 arg6 harg6
      arg7 harg7 arg8 harg8 arg9 harg9 arg10 harg10 arg11 harg11 hc0 hc1 hc2 x0 x1 x2 x3 x4 x5 acc (ix3 0 r n)
    = glu (x0 (ix3 0 ⟨226 + r.val, by omega⟩ ⟨n.val, by omega⟩)) (x0 (ix3 0 ⟨226 + r.val, by omega⟩ ⟨512 + n.val, by omega⟩)) := by
  unfold out0_C_7 kernelRun0_C
  dsimp only
  refine (View.read_writes_cons_unit_of_mem _ _ _ _ _ (ix3 0 r n) (ix3 (0 : Fin 1) r n) rfl ?_).trans ?_
  · intro d
    match d with
    | ⟨0, _⟩ => rfl
    | ⟨1, _⟩ => show r.val = 0 + r.val; omega
    | ⟨2, _⟩ => show n.val = 0 + n.val; omega
  refine (pay2_apply _ r n).trans ?_
  unfold kernelRun0_C.sl.v1733
  have hix : (Rect.unit (s := S288x512) ![258, 0] ![30, 512] inb_S288x512_S30x512_258_0).toLoadRect.idx (ix2 r n)
      = (ix2 (⟨258 + r.val, by omega⟩ : Fin 288) n : S288x512.Idx) := by
    funext d
    apply Fin.ext
    match d with
    | ⟨0, _⟩ => show 258 + 1 * r.val = 258 + r.val; omega
    | ⟨1, _⟩ => show 0 + 1 * n.val = n.val; omega
  show View.read (Elt Ideal) arg10.view _ _ = _
  refine (congrArg _ hix).trans ?_
  unfold kernelRun0_C.sl.HS0_1
  refine (View.read_writes_cons_unit_of_mem _ _ _ _ _ _ (ix2 (⟨226 + r.val, by omega⟩ : Fin 256) n) rfl ?_).trans ?_
  · intro d
    match d with
    | ⟨0, _⟩ => show 258 + r.val = 32 + (226 + r.val); omega
    | ⟨1, _⟩ => show n.val = 0 + n.val; omega
  · refine (pay5_apply _ _ _ _).trans ?_
    exact congrArg₂ glu (half0 _ _ _ _ _) (half1 _ _ _ _ _)

end Block

/-- The result: the last thirty gated rows. -/
def G (x : Vec Ideal S16384x2432 .f32) : Vec Ideal S1x30x512 .f32 := fun i =>
  glu (x (ix2 ⟨16354 + (i 1).val, by have : (i 1).val < 30 := (i 1).isLt; omega⟩ ⟨(i 2).val, by have : (i 2).val < 512 := (i 2).isLt; omega⟩))
    (x (ix2 ⟨16354 + (i 1).val, by have : (i 1).val < 30 := (i 1).isLt; omega⟩ ⟨512 + (i 2).val, by have : (i 2).val < 512 := (i 2).isLt; omega⟩))

variable (m : (ℓ : Loc nD τ sig) → Buf (Elt Ideal) ℓ) (ρ : Dev nD → PrngReg)

theorem idx_facts : ∀ t : Fin cfg0.N, win0_0.index t (0 : Fin 3) = 0 ∧ win0_0.index t (1 : Fin 3) = t.val
    ∧ win0_0.index t (2 : Fin 3) = 0
    ∧ win0_7.index t (0 : Fin 3) = 0 ∧ win0_7.index t (1 : Fin 3) = 0 ∧ win0_7.index t (2 : Fin 3) = 0 :=
  (by decide +kernel : ∀ t : Fin grid0.N, _)

theorem N_eq : cfg0.N = 64 := N_0

theorem V_v0 (c : Dev nD) : (V m c main_v0 : Vec Ideal S1x16384x2432 .f32)
    = broadcastInDim S1x16384x2432 ![1, 2] bcast_S16384x2432_S1x16384x2432_1_2
        (m ((c : Thread nD τ).loc main_arg0) : Vec Ideal S16384x2432 .f32) := by
  show StableHlo.after (hostOps0 ++ (hostOps0_1 ++ (hostOps0_2 ++ []))) _ _ = _
  simp only [List.cons_append, List.nil_append]
  after_results

theorem lifted_apply (g : Vec Ideal S16384x2432 .f32) (a : Fin 16384) (l : Fin 2432) :
    (broadcastInDim S1x16384x2432 ![1, 2] bcast_S16384x2432_S1x16384x2432_1_2 g : Vec Ideal S1x16384x2432 .f32) (ix3 0 a l)
      = g (ix2 a l) := by
  pointwise

/-- A point's rows of the projection, read at an entry. -/
theorem blk0 (c : Dev nD) (t : Fin cfg0.N) (a : Fin 256) (l : Fin 1024) :
    (X0_0 m c t : Vec Ideal S1x256x1024 .f32) (ix3 0 a l)
      = m ((c : Thread nD τ).loc main_arg0)
          (ix2 (⟨256 * t.val + a.val, by have := t.isLt; have := N_eq; omega⟩ : Fin 16384) (⟨l.val, by omega⟩ : Fin 2432)) := by
  have hf := idx_facts t
  unfold X0_0 Pipeline.Window.fill
  rw [dif_pos (moved0_0 t _)]
  show V m c main_v0 (((cfg0.win 0).blk t).view.emb _) = _
  rw [V_v0]
  refine Eq.trans (congrArg _ ?_) (lifted_apply _ (⟨256 * t.val + a.val, by have := t.isLt; have := N_eq; omega⟩ : Fin 16384) (⟨l.val, by omega⟩ : Fin 2432))
  funext d
  apply Fin.ext
  match d with
  | ⟨0, _⟩ => show win0_0.index t (0 : Fin 3) * 1 + 1 * 0 = 0; rw [hf.1]
  | ⟨1, _⟩ => show win0_0.index t (1 : Fin 3) * 256 + 1 * a.val = 256 * t.val + a.val; rw [hf.2.1]; omega
  | ⟨2, _⟩ => show win0_0.index t (2 : Fin 3) * 1024 + 1 * l.val = l.val; rw [hf.2.2.1]; omega

/-- The result as a function of the arguments as launched. -/
abbrev result (c : Dev nD) : Buf (Elt Ideal) ((c : Thread nD τ).loc main_v6_1) :=
  G (m ((c : Thread nD τ).loc main_arg0))

/-- The second output is written back at the last point only. -/
theorem last_of_flush : ∀ t : Fin cfg0.N, (cfg0.win 7).flush t = true → t.val = 63 :=
  (by decide +kernel : ∀ t : Fin grid0.N, win0_7.flush t = true → t.val = 63)

theorem left7 (c : Dev nD) (t : Fin cfg0.N) (ht : t.val = 63) (r : Fin 30) (n : Fin 512) :
    (outsAt0 m c t.val t.isLt).2.1 (ix3 0 r n)
      = glu ((X0_0 m c t : Vec Ideal S1x256x1024 .f32) (ix3 0 ⟨226 + r.val, by omega⟩ ⟨n.val, by omega⟩))
          ((X0_0 m c t : Vec Ideal S1x256x1024 .f32) (ix3 0 ⟨226 + r.val, by omega⟩ ⟨512 + n.val, by omega⟩)) := by
  rw [outsAt0_C m c t (by omega) (by omega) (by omega)]
  dsimp only
  exact out7_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1
    (Memref.isWhole_whole _) _ _ _ _ _ _ _ _ _ _ r n

/-- What the last point writes back is the result. -/
theorem flushed_eq7 (c : Dev nD) (t : Fin cfg0.N) (hfl : (cfg0.win 7).flush t = true) :
    (dats m 0 c).flushed 7 t = ((cfg0.win 7).blk t).view.read (Elt Ideal) (result m c) := by
  have hf := idx_facts t
  have ht := last_of_flush t hfl
  rw [flushed7]
  funext j
  obtain ⟨b, r, n, rfl⟩ : ∃ (b : Fin 1) (r : Fin 30) (n : Fin 512), j = ix3 b r n := ⟨j 0, j 1, j 2, eq_ix3 j⟩
  obtain rfl : b = 0 := Subsingleton.elim _ _
  show (outsAt0 m c t.val t.isLt).2.1 (ix3 0 r n) = result m c (((cfg0.win 7).blk t).view.emb (ix3 0 r n))
  have he : ((cfg0.win 7).blk t).view.emb (ix3 0 r n) = (ix3 0 r n : S1x30x512.Idx) := by
    funext d
    apply Fin.ext
    match d with
    | ⟨0, _⟩ => show win0_7.index t (0 : Fin 3) * 1 + 1 * 0 = 0; rw [hf.2.2.2.1]
    | ⟨1, _⟩ => show win0_7.index t (1 : Fin 3) * 30 + 1 * r.val = r.val; rw [hf.2.2.2.2.1]; omega
    | ⟨2, _⟩ => show win0_7.index t (2 : Fin 3) * 512 + 1 * n.val = n.val; rw [hf.2.2.2.2.2]; omega
  rw [he]
  refine (left7 m c t ht r n).trans ?_
  show _ = G _ (ix3 0 r n)
  unfold G
  have hrow : ∀ l : Fin 1024, (X0_0 m c t : Vec Ideal S1x256x1024 .f32) (ix3 0 ⟨226 + r.val, by omega⟩ l)
      = m ((c : Thread nD τ).loc main_arg0) (ix2 (⟨16354 + r.val, by omega⟩ : Fin 16384) (⟨l.val, by omega⟩ : Fin 2432)) := fun l => by
    refine (blk0 m c t _ l).trans (congrArg _ (congrArg (fun a => ix2 a _) (Fin.ext ?_)))
    show 256 * t.val + (226 + r.val) = 16354 + r.val
    omega
  exact congrArg₂ glu (hrow _) (hrow _)

/-- Every entry of the result lies in the block the last point writes. -/
theorem final_o (c : Dev nD) : (dats m 0 c).arrAt 7 cfg0.N = result m c :=
  (dats m 0 c).arrAt_eq_of_cover 7 (result m c) (flushed_eq7 m c) fun i => by
    have h0 : (i 0 : Nat) < 1 := (i 0).isLt
    have h1 : (i 1 : Nat) < 30 := (i 1).isLt
    have h2 : (i 2 : Nat) < 512 := (i 2).isLt
    have ht : 63 < cfg0.N := by have hN := N_eq; omega
    have hf := idx_facts ⟨63, ht⟩
    refine ⟨⟨63, ht⟩, (by decide +kernel : ∀ t : Fin grid0.N, t.val = 63 → win0_7.flush t = true) _ rfl, ?_⟩
    show i ∈ ((View.whole main_v6_1).slice (win0_7.rect ⟨63, ht⟩)).set
    rw [View.set_slice_whole, Rect.mem_set_unit]
    intro a
    match a with
    | ⟨0, _⟩ =>
      show win0_7.index ⟨63, ht⟩ (0 : Fin 3) * 1 ≤ (i 0 : Nat) ∧ (i 0 : Nat) < win0_7.index ⟨63, ht⟩ (0 : Fin 3) * 1 + 1
      rw [hf.2.2.2.1]; omega
    | ⟨1, _⟩ =>
      show win0_7.index ⟨63, ht⟩ (1 : Fin 3) * 30 ≤ (i 1 : Nat) ∧ (i 1 : Nat) < win0_7.index ⟨63, ht⟩ (1 : Fin 3) * 30 + 30
      rw [hf.2.2.2.2.1]; omega
    | ⟨2, _⟩ =>
      show win0_7.index ⟨63, ht⟩ (2 : Fin 3) * 512 ≤ (i 2 : Nat) ∧ (i 2 : Nat) < win0_7.index ⟨63, ht⟩ (2 : Fin 3) * 512 + 512
      rw [hf.2.2.2.2.2]; omega

end Cert.ConvIdeal.Value

namespace Cert.ConvRefIdeal.Value

open Cert.ConvRefIdeal Cert.ConvRefIdeal.Gen Idealize.ShloMosaic Idealize.ShloMosaic.TcCoe Idealize.SL.Sem

/-- The last thirty of the joined rows, read at an entry. -/
theorem kept_apply (st : Vec Ideal S1x30x512 .f32) (y : Vec Ideal S1x16384x512 .f32) (r : Fin 30) (n : Fin 512) :
    (extractStridedSlice S1x30x512 ![0, 16384, 0] (concatenate S1x16414x512 1 [⟨S1x30x512, st⟩, ⟨S1x16384x512, y⟩]
      concatenates_S1x30x512_S1x16384x512_S1x16414x512_d1) slices_S1x16414x512_S1x30x512_0_16384_0 : Vec Ideal S1x30x512 .f32) (ix3 0 r n)
      = y (ix3 0 ⟨16354 + r.val, by omega⟩ n) := by
  pointwise
  rw [dif_neg (by omega)]
  congr 2
  exact Fin.ext (by show 16384 + r.val - 30 = 16354 + r.val; omega)

end Cert.ConvRefIdeal.Value

namespace Cert.ConvValue

open Idealize.ShloMosaic Idealize.ShloMosaic.TcCoe Idealize.SL.Sem

/-- The kernel and the reference agree on the rows kept for the step after. -/
theorem algebraic : Cert.algebraic_ConvIdeal_ConvRefIdeal (hConvIdeal := Cert.ConvIdeal.Gen.facts)
    (hConvRefIdeal := Cert.ConvRefIdeal.Gen.facts) := by
  intro m g m' g' _ hargs
  refine ⟨fun c => Cert.ConvIdeal.Value.result m c, ?_, ?_⟩
  · exact (θ_run Cert.ConvIdeal.defs _ _).mono
      (fun r h c => ⟨(h c).2.1.trans (Cert.ConvIdeal.Value.final_o m c), (h c).2.2⟩) (Cert.ConvIdeal.Value.run_blocks m g)
  · refine (θ_run Cert.ConvRefIdeal.defs _ _).mono (fun r h c => ⟨(h c).1.trans ?_, (h c).2⟩) (Cert.ConvRefIdeal.Value.run m' g')
    obtain ⟨h0, _⟩ := hargs c
    rw [h0]
    funext j
    obtain ⟨b, r, n, rfl⟩ : ∃ (b : Fin 1) (r : Fin 30) (n : Fin 512), j = ix3 b r n := ⟨j 0, j 1, j 2, eq_ix3 j⟩
    obtain rfl : b = 0 := Subsingleton.elim _ _
    refine (Cert.ConvRefIdeal.Value.kept_apply _ _ r n).trans ?_
    show _ = Cert.ConvIdeal.Value.G _ (ix3 0 r n)
    unfold Cert.ConvIdeal.Value.G Cert.ConvIdeal.Value.glu Ideal.logistic
    pointwise

end Cert.ConvValue

end
-- ==== Proof.ConvSValue.lean ====
/-
  The rows the samples' convolution keeps for the step after: the last of the state, then the step's own gated rows.
-/
module

public import proofs.«01_k».proof.Defs
public import proofs.«01_k».proof.Proof.Gen.ConvSIdeal.Value
public import proofs.«01_k».proof.Proof.Gen.ConvSRefIdeal.Run
public import Idealize.ShloMosaic.Lib.Pointwise
public import Idealize.ShloMosaic.Lib.WholeRead
public import Idealize.ShloMosaic.Lib.WritesUnit

@[expose] public section

set_option maxRecDepth 16384

noncomputable section

namespace Cert.ConvSIdeal.Value

open Cert.ConvSIdeal Cert.ConvSIdeal.Gen Idealize.ShloMosaic Idealize.ShloMosaic.TcCoe Idealize.SL.Sem

/-- A gated entry: the first half's value times the logistic of the second half's. -/
def glu (a b : EReal) : EReal := a * Ideal.logistic b

section Pay

theorem pay2_apply (v : Vec Ideal S30x512 .f32) (r : Fin 30) (n : Fin 512) : k0_pay2 v (ix3 0 r n) = v (ix2 r n) := by
  pointwise [Gen.k0_pay2]

theorem pay3_apply (v : Vec Ideal S1x32x512 .f32) (r : Fin 32) (n : Fin 512) : k0_pay3 v (ix2 r n) = v (ix3 0 r n) := by
  pointwise [Gen.k0_pay3]

theorem pay4_apply (v w : Vec Ideal S1x4x512 .f32) (r : Fin 4) (n : Fin 512) :
    k0_pay4 v w (ix2 r n) = glu (v (ix3 0 r n)) (w (ix3 0 r n)) := by
  unfold glu
  pointwise [Gen.k0_pay4]

end Pay

section Block
variable (c : Dev nD) (i : grid0.Coords) (arg2 : Memref sig .tc .vmem S1x4x1024 .f32) (harg2 : arg2.IsWhole)
  (arg3 : Memref sig .tc .vmem S1x32x512 .f32) (harg3 : arg3.IsWhole) (arg4 : Memref sig .tc .vmem S31x512 .f32)
  (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32)
  (harg7 : arg7.IsWhole) (arg8 : Memref sig .tc .vmem S1x4x512 .f32) (harg8 : arg8.IsWhole)
  (arg9 : Memref sig .tc .vmem S1x30x512 .f32) (harg9 : arg9.IsWhole) (arg10 : Memref sig .tc .vmem S36x512 .f32)
  (harg10 : arg10.IsWhole) (arg11 : Memref sig .tc .vmem S1x28x128 .f32) (harg11 : arg11.IsWhole)
  (hc0 : cond0_0 i) (hc1 : cond0_1 i)
  (x0 : Vec Ideal S1x4x1024 .f32) (x1 : Vec Ideal S1x32x512 .f32) (x2 : Vec Ideal S31x512 .f32)
  (x3 x4 x5 : Vec Ideal S1x512 .f32)

theorem whole1 : View.readAt (Elt Ideal) arg3.view
    (Rect.unit (s := S1x32x512) ![0, 0, 0] ![1, 32, 512] inb_S1x32x512_S1x32x512_0_0_0).toLoadRect (harg3.unread x1) = x1 := by
  funext y
  refine (harg3.readAt_unread x1 _ y).trans (congrArg x1 ?_)
  funext d
  apply Fin.ext
  match d with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem half0 (a : Fin 4) (n : Fin 512) : View.readAt (Elt Ideal) arg2.view
    (Rect.unit (s := S1x4x1024) ![0, 0, 0] ![1, 4, 512] inb_S1x4x1024_S1x4x512_0_0_0).toLoadRect (harg2.unread x0)
    (ix3 (0 : Fin 1) a n : S1x4x512.Idx) = x0 (ix3 0 a ⟨n.val, by omega⟩) := by
  refine (harg2.readAt_unread x0 _ _).trans (congrArg x0 ?_)
  funext d
  apply Fin.ext
  match d with
  | ⟨0, _⟩ => rfl
  | ⟨1, _⟩ => show 0 + 1 * a.val = a.val; omega
  | ⟨2, _⟩ => show 0 + 1 * n.val = n.val; omega

theorem half1 (a : Fin 4) (n : Fin 512) : View.readAt (Elt Ideal) arg2.view
    (Rect.unit (s := S1x4x1024) ![0, 0, 512] ![1, 4, 512] inb_S1x4x1024_S1x4x512_0_0_512).toLoadRect (harg2.unread x0)
    (ix3 (0 : Fin 1) a n : S1x4x512.Idx) = x0 (ix3 0 a ⟨512 + n.val, by omega⟩) := by
  refine (harg2.readAt_unread x0 _ _).trans (congrArg x0 ?_)
  funext d
  apply Fin.ext
  match d with
  | ⟨0, _⟩ => rfl
  | ⟨1, _⟩ => show 0 + 1 * a.val = a.val; omega
  | ⟨2, _⟩ => show 512 + 1 * n.val = 512 + n.val; omega

/-- What a point leaves in the second output, at an entry. -/
theorem out7_apply (r : Fin 30) (n : Fin 512) : out0_A_7 c i arg2 harg2 arg3 harg3 arg4 harg4 arg5 harg5 arg6 harg6
      arg7 harg7 arg8 harg8 arg9 harg9 arg10 harg10 arg11 harg11 hc0 hc1 x0 x1 x2 x3 x4 x5 (ix3 0 r n)
    = if h : r.val < 26 then x1 (ix3 0 ⟨6 + r.val, by omega⟩ n)
      else glu (x0 (ix3 0 ⟨r.val - 26, by omega⟩ ⟨n.val, by omega⟩)) (x0 (ix3 0 ⟨r.val - 26, by omega⟩ ⟨512 + n.val, by omega⟩)) := by
  unfold out0_A_7 kernelRun0_A
  dsimp only
  refine (View.read_writes_cons_unit_of_mem _ _ _ _ _ (ix3 0 r n) (ix3 (0 : Fin 1) r n) rfl ?_).trans ?_
  · intro d
    match d with
    | ⟨0, _⟩ => rfl
    | ⟨1, _⟩ => show r.val = 0 + r.val; omega
    | ⟨2, _⟩ => show n.val = 0 + n.val; omega
  refine (pay2_apply _ r n).trans ?_
  unfold kernelRun0_A.sl.v698
  have hix : (Rect.unit (s := S36x512) ![6, 0] ![30, 512] inb_S36x512_S30x512_6_0).toLoadRect.idx (ix2 r n)
      = (ix2 (⟨6 + r.val, by omega⟩ : Fin 36) n : S36x512.Idx) := by
    funext d
    apply Fin.ext
    match d with
    | ⟨0, _⟩ => show 6 + 1 * r.val = 6 + r.val; omega
    | ⟨1, _⟩ => show 0 + 1 * n.val = n.val; omega
  show View.read (Elt Ideal) arg10.view _ _ = _
  refine (congrArg _ hix).trans ?_
  unfold kernelRun0_A.sl.HS0_2
  split
  · next h =>
    refine (View.read_writes_cons_unit_of_not_mem _ _ _ _ _ _ rfl (0 : Fin 2) (Or.inl (by show 6 + r.val < 32; omega))).trans ?_
    refine (View.read_writes_cons_unit_of_mem _ _ _ _ _ _ (ix2 (⟨6 + r.val, by omega⟩ : Fin 32) n) rfl ?_).trans ?_
    · intro d
      match d with
      | ⟨0, _⟩ => show 6 + r.val = 0 + (6 + r.val); omega
      | ⟨1, _⟩ => show n.val = 0 + n.val; omega
    · rw [whole1]
      exact pay3_apply _ _ _
  · next h =>
    refine (View.read_writes_cons_unit_of_mem _ _ _ _ _ _ (ix2 (⟨r.val - 26, by omega⟩ : Fin 4) n) rfl ?_).trans ?_
    · intro d
      match d with
      | ⟨0, _⟩ => show 6 + r.val = 32 + (r.val - 26); omega
      | ⟨1, _⟩ => show n.val = 0 + n.val; omega
    · refine (pay4_apply _ _ _ _).trans ?_
      exact congrArg₂ glu (half0 _ _ _ _ _) (half1 _ _ _ _ _)

end Block

/-- The result: the last 26 rows of the state, then the step's four gated rows. -/
def G (x : Vec Ideal S32x4x2432 .f32) (st : Vec Ideal S32x30x512 .f32) : Vec Ideal S32x30x512 .f32 := fun i =>
  if h : (i 1).val < 26 then st (ix3 (i 0) ⟨4 + (i 1).val, by omega⟩ (i 2))
  else glu (x (ix3 (i 0) ⟨(i 1).val - 26, by have : (i 1).val < 30 := (i 1).isLt; omega⟩ ⟨(i 2).val, by have : (i 2).val < 512 := (i 2).isLt; omega⟩))
    (x (ix3 (i 0) ⟨(i 1).val - 26, by have : (i 1).val < 30 := (i 1).isLt; omega⟩ ⟨512 + (i 2).val, by have : (i 2).val < 512 := (i 2).isLt; omega⟩))

variable (m : (ℓ : Loc nD τ sig) → Buf (Elt Ideal) ℓ) (ρ : Dev nD → PrngReg)

theorem idx_facts : ∀ t : Fin cfg0.N, win0_0.index t (0 : Fin 3) = t.val ∧ win0_0.index t (1 : Fin 3) = 0
    ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0 :=
  (by decide +kernel : ∀ t : Fin grid0.N, _)

theorem N_eq : cfg0.N = 32 := N_0

theorem V_v0 (c : Dev nD) : (V m c main_v0 : Vec Ideal S32x32x512 .f32)
    = pad S32x32x512 ![0, 2, 0] ![0, 0, 0] ![0, 0, 0] (m ((c : Thread nD τ).loc main_arg1) : Vec Ideal S32x30x512 .f32)
        (sitofp (F := Ideal) .f32 (constantI S_ 32 0#32) : Vec Ideal S_ .f32) pads_S32x30x512_S32x32x512_000_200_000 h_S_ := by
  show StableHlo.after (hostOps0 ++ (hostOps0_1 ++ (hostOps0_2 ++ []))) _ _ = _
  simp only [List.cons_append, List.nil_append]
  after_results
  rfl

/-- The state under two rows of padding, read at a row of the state. -/
theorem padded_apply (g : Vec Ideal S32x30x512 .f32) (z : Vec Ideal S_ .f32) (b : Fin 32) (r : Fin 26) (n : Fin 512) :
    (pad S32x32x512 ![0, 2, 0] ![0, 0, 0] ![0, 0, 0] g z pads_S32x30x512_S32x32x512_000_200_000 h_S_ : Vec Ideal S32x32x512 .f32)
      (ix3 b (⟨6 + r.val, by omega⟩ : Fin 32) n) = g (ix3 b (⟨4 + r.val, by omega⟩ : Fin 30) n) := by
  pointwise
  rw [dif_pos (by omega)]
  congr 2
  exact Fin.ext (by show 6 + r.val - 2 = 4 + r.val; omega)

/-- A point's rows of the projection, read at an entry. -/
theorem blk0 (c : Dev nD) (t : Fin cfg0.N) (a : Fin 4) (l : Fin 1024) :
    (X0_0 m c t : Vec Ideal S1x4x1024 .f32) (ix3 0 a l)
      = m ((c : Thread nD τ).loc main_arg0)
          (ix3 (⟨t.val, by have := t.isLt; have := N_eq; omega⟩ : Fin 32) a (⟨l.val, by omega⟩ : Fin 2432)) := by
  have hf := idx_facts t
  unfold X0_0 Pipeline.Window.fill
  rw [dif_pos (moved0_0 t _)]
  show V m c main_arg0 (((cfg0.win 0).blk t).view.emb _) = _
  rw [V_main_arg0]
  congr 1
  funext d
  apply Fin.ext
  match d with
  | ⟨0, _⟩ => show win0_0.index t (0 : Fin 3) * 1 + 1 * 0 = t.val; rw [hf.1]; omega
  | ⟨1, _⟩ => show win0_0.index t (1 : Fin 3) * 4 + 1 * a.val = a.val; rw [hf.2.1]; omega
  | ⟨2, _⟩ => show win0_0.index t (2 : Fin 3) * 1024 + 1 * l.val = l.val; rw [hf.2.2.1]; omega

/-- A point's padded state, read at a row of the state. -/
theorem blk1 (c : Dev nD) (t : Fin cfg0.N) (r : Fin 26) (n : Fin 512) :
    (iblk m c 1 t : Vec Ideal S1x32x512 .f32) (ix3 0 (⟨6 + r.val, by omega⟩ : Fin 32) n)
      = m ((c : Thread nD τ).loc main_arg1)
          (ix3 (⟨t.val, by have := t.isLt; have := N_eq; omega⟩ : Fin 32) (⟨4 + r.val, by omega⟩ : Fin 30) n) := by
  have hf := idx_facts t
  show V m c main_v0 (((cfg0.win 1).blk t).view.emb (ix3 0 (⟨6 + r.val, by omega⟩ : Fin 32) n)) = _
  have he : ((cfg0.win 1).blk t).view.emb (ix3 0 (⟨6 + r.val, by omega⟩ : Fin 32) n)
      = (ix3 (⟨t.val, by have := t.isLt; have := N_eq; omega⟩ : Fin 32) (⟨6 + r.val, by omega⟩ : Fin 32) n : S32x32x512.Idx) := by
    funext d
    apply Fin.ext
    match d with
    | ⟨0, _⟩ => show win0_1.index t (0 : Fin 3) * 1 + 1 * 0 = t.val; rw [hf.2.2.2.1]; omega
    | ⟨1, _⟩ => show win0_1.index t (1 : Fin 3) * 32 + 1 * (6 + r.val) = 6 + r.val; rw [hf.2.2.2.2.1]; omega
    | ⟨2, _⟩ => show win0_1.index t (2 : Fin 3) * 512 + 1 * n.val = n.val; rw [hf.2.2.2.2.2.1]; omega
  rw [he, V_v0]
  exact padded_apply _ _ _ r n

/-- The result as a function of the arguments as launched. -/
abbrev result (c : Dev nD) : Buf (Elt Ideal) ((c : Thread nD τ).loc main_v4_1) :=
  G (m ((c : Thread nD τ).loc main_arg0)) (m ((c : Thread nD τ).loc main_arg1))

theorem left7 (c : Dev nD) (t : Fin cfg0.N) (r : Fin 30) (n : Fin 512) :
    (outsAt0 m c t).2 (ix3 0 r n)
      = if h : r.val < 26 then (iblk m c 1 t : Vec Ideal S1x32x512 .f32) (ix3 0 ⟨6 + r.val, by omega⟩ n)
        else glu ((X0_0 m c t : Vec Ideal S1x4x1024 .f32) (ix3 0 ⟨r.val - 26, by omega⟩ ⟨n.val, by omega⟩))
          ((X0_0 m c t : Vec Ideal S1x4x1024 .f32) (ix3 0 ⟨r.val - 26, by omega⟩ ⟨512 + n.val, by omega⟩)) := by
  unfold outsAt0
  dsimp only
  exact out7_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1
    (Memref.isWhole_whole _) (hcond0_0 t) (hcond0_1 t) _ _ _ _ _ _ r n

/-- What a point writes back is its block of the result. -/
theorem flushed_eq7 (c : Dev nD) (t : Fin cfg0.N) (_ : (cfg0.win 7).flush t = true) :
    (dats m 0 c).flushed 7 t = ((cfg0.win 7).blk t).view.read (Elt Ideal) (result m c) := by
  have hf := idx_facts t
  rw [flushed7]
  funext j
  obtain ⟨b, r, n, rfl⟩ : ∃ (b : Fin 1) (r : Fin 30) (n : Fin 512), j = ix3 b r n := ⟨j 0, j 1, j 2, eq_ix3 j⟩
  obtain rfl : b = 0 := Subsingleton.elim _ _
  show (outsAt0 m c t).2 (ix3 0 r n) = result m c (((cfg0.win 7).blk t).view.emb (ix3 0 r n))
  have he : ((cfg0.win 7).blk t).view.emb (ix3 0 r n)
      = (ix3 (⟨t.val, by have := t.isLt; have := N_eq; omega⟩ : Fin 32) r n : S32x30x512.Idx) := by
    funext d
    apply Fin.ext
    match d with
    | ⟨0, _⟩ => show win0_7.index t (0 : Fin 3) * 1 + 1 * 0 = t.val; rw [hf.2.2.2.2.2.2.1]; omega
    | ⟨1, _⟩ => show win0_7.index t (1 : Fin 3) * 30 + 1 * r.val = r.val; rw [hf.2.2.2.2.2.2.2.1]; omega
    | ⟨2, _⟩ => show win0_7.index t (2 : Fin 3) * 512 + 1 * n.val = n.val; rw [hf.2.2.2.2.2.2.2.2]; omega
  rw [he]
  refine (left7 m c t r n).trans ?_
  show _ = G _ _ (ix3 _ r n)
  unfold G
  by_cases h : r.val < 26
  · rw [dif_pos h]
    refine Eq.trans ?_ (dif_pos h).symm
    exact blk1 m c t ⟨r.val, h⟩ n
  · rw [dif_neg h]
    refine Eq.trans ?_ (dif_neg h).symm
    exact congrArg₂ glu (blk0 m c t _ _) (blk0 m c t _ _)

/-- Every entry of the result lies in a written block. -/
theorem final_o (c : Dev nD) : (dats m 0 c).arrAt 7 cfg0.N = result m c :=
  (dats m 0 c).arrAt_eq_of_cover 7 (result m c) (flushed_eq7 m c) fun i => by
    have h0 : (i 0 : Nat) < 32 := (i 0).isLt
    have h1 : (i 1 : Nat) < 30 := (i 1).isLt
    have h2 : (i 2 : Nat) < 512 := (i 2).isLt
    have hN := N_eq
    have ht : (i 0 : Nat) < cfg0.N := by omega
    have hf := idx_facts ⟨(i 0 : Nat), ht⟩
    refine ⟨⟨(i 0 : Nat), ht⟩, (by decide +kernel : ∀ t : Fin grid0.N, win0_7.flush t = true) _, ?_⟩
    show i ∈ ((View.whole main_v4_1).slice (win0_7.rect ⟨(i 0 : Nat), ht⟩)).set
    rw [View.set_slice_whole, Rect.mem_set_unit]
    intro a
    match a with
    | ⟨0, _⟩ =>
      show win0_7.index ⟨(i 0 : Nat), ht⟩ (0 : Fin 3) * 1 ≤ (i 0 : Nat) ∧ (i 0 : Nat) < win0_7.index ⟨(i 0 : Nat), ht⟩ (0 : Fin 3) * 1 + 1
      rw [hf.2.2.2.2.2.2.1]; dsimp only; omega
    | ⟨1, _⟩ =>
      show win0_7.index ⟨(i 0 : Nat), ht⟩ (1 : Fin 3) * 30 ≤ (i 1 : Nat) ∧ (i 1 : Nat) < win0_7.index ⟨(i 0 : Nat), ht⟩ (1 : Fin 3) * 30 + 30
      rw [hf.2.2.2.2.2.2.2.1]; omega
    | ⟨2, _⟩ =>
      show win0_7.index ⟨(i 0 : Nat), ht⟩ (2 : Fin 3) * 512 ≤ (i 2 : Nat) ∧ (i 2 : Nat) < win0_7.index ⟨(i 0 : Nat), ht⟩ (2 : Fin 3) * 512 + 512
      rw [hf.2.2.2.2.2.2.2.2]; omega

end Cert.ConvSIdeal.Value

namespace Cert.ConvSRefIdeal.Value

open Cert.ConvSRefIdeal Cert.ConvSRefIdeal.Gen Idealize.ShloMosaic Idealize.ShloMosaic.TcCoe Idealize.SL.Sem

/-- The joined rows without the first four, read at an entry. -/
theorem kept_apply (st : Vec Ideal S32x30x512 .f32) (y : Vec Ideal S32x4x512 .f32) (b : Fin 32) (r : Fin 30) (n : Fin 512) :
    (extractStridedSlice S32x30x512 ![0, 4, 0] (concatenate S32x34x512 1 [⟨S32x30x512, st⟩, ⟨S32x4x512, y⟩]
      concatenates_S32x30x512_S32x4x512_S32x34x512_d1) slices_S32x34x512_S32x30x512_0_4_0 : Vec Ideal S32x30x512 .f32) (ix3 b r n)
      = if h : 4 + r.val < 30 then st (ix3 b ⟨4 + r.val, h⟩ n) else y (ix3 b ⟨4 + r.val - 30, by omega⟩ n) := by
  pointwise

end Cert.ConvSRefIdeal.Value

namespace Cert.ConvSValue

open Idealize.ShloMosaic Idealize.ShloMosaic.TcCoe Idealize.SL.Sem

/-- The kernel and the reference agree on the rows kept for the step after. -/
theorem algebraic : Cert.algebraic_ConvSIdeal_ConvSRefIdeal (hConvSIdeal := Cert.ConvSIdeal.Gen.facts)
    (hConvSRefIdeal := Cert.ConvSRefIdeal.Gen.facts) := by
  intro m g m' g' _ hargs
  refine ⟨fun c => Cert.ConvSIdeal.Value.result m c, ?_, ?_⟩
  · exact (θ_run Cert.ConvSIdeal.defs _ _).mono
      (fun r h c => ⟨(h c).2.1.trans (Cert.ConvSIdeal.Value.final_o m c), (h c).2.2⟩) (Cert.ConvSIdeal.Value.run_blocks m g)
  · refine (θ_run Cert.ConvSRefIdeal.defs _ _).mono (fun r h c => ⟨(h c).1.trans ?_, (h c).2⟩) (Cert.ConvSRefIdeal.Value.run m' g')
    obtain ⟨h0, h1, _⟩ := hargs c
    rw [h0, h1]
    funext j
    obtain ⟨b, r, n, rfl⟩ : ∃ (b : Fin 32) (r : Fin 30) (n : Fin 512), j = ix3 b r n := ⟨j 0, j 1, j 2, eq_ix3 j⟩
    refine (Cert.ConvSRefIdeal.Value.kept_apply _ _ b r n).trans ?_
    show _ = Cert.ConvSIdeal.Value.G _ _ (ix3 b r n)
    unfold Cert.ConvSIdeal.Value.G
    by_cases h : r.val < 26
    · rw [dif_pos (by omega)]
      refine Eq.trans ?_ (dif_pos h).symm
      rfl
    · rw [dif_neg (by omega)]
      refine Eq.trans ?_ (dif_neg h).symm
      have hr : (⟨4 + r.val - 30, by omega⟩ : Fin 4) = ⟨r.val - 26, by omega⟩ := Fin.ext (by show 4 + r.val - 30 = r.val - 26; omega)
      rw [hr]
      unfold Cert.ConvSIdeal.Value.glu Ideal.logistic
      pointwise

end Cert.ConvSValue

end
-- ==== Proof.HgrnSHeads.lean ====
/-
  What a point of the samples' HGRN2 call writes to the states: the body writes each of the eight heads' states to a scratch array and
  updates them there; the last write to a head's rows is the one read back.
-/
module

public import proofs.«01_k».proof.Proof.Gen.HgrnSIdeal.Value
public import Idealize.ShloMosaic.Lib.Pointwise
public import Idealize.ShloMosaic.Lib.WholeRead
public import Idealize.ShloMosaic.Lib.WritesUnit

@[expose] public section

set_option maxRecDepth 16384

noncomputable section

namespace Cert.HgrnSIdeal.Value

open Cert.HgrnSIdeal Cert.HgrnSIdeal.Gen Idealize.ShloMosaic Idealize.ShloMosaic.TcCoe Idealize.SL.Sem
/-- One head's new state (transposed), of its lower bounds, gates' logits and values, the table and its state. -/
def upd (i : grid0.Coords) (lb : Vec Ideal S1x128 .f32) (fz v : Vec Ideal S1x64x128 .f32) (tab : Vec Ideal S64x64 .bf16)
    (st : Vec Ideal S1x128x128 .f32) : Vec Ideal S1x128x128 .f32 :=
  k0_pay70 (k0_pay22 i lb fz) (k0_pay24 v) (k0_pay25 (k0_pay18 tab) (k0_pay21 i lb fz)) st

theorem inbS (h : Fin 8) : ∀ a, (![h.val, 0, 0] : Fin 3 → Nat) a + S1x128x128.size a ≤ S8x128x128.size a := by
  intro a
  match a with
  | ⟨0, _⟩ => show h.val + 1 ≤ 8; omega
  | ⟨1, _⟩ => show 0 + 128 ≤ 128; omega
  | ⟨2, _⟩ => show 0 + 128 ≤ 128; omega

theorem inbO (h : Fin 8) : ∀ a, (![0, h.val, 0, 0] : Fin 4 → Nat) a + S1x1x128x128.size a ≤ S1x8x128x128.size a := by
  intro a
  match a with
  | ⟨0, _⟩ => show 0 + 1 ≤ 1; omega
  | ⟨1, _⟩ => show h.val + 1 ≤ 8; omega
  | ⟨2, _⟩ => show 0 + 128 ≤ 128; omega
  | ⟨3, _⟩ => show 0 + 128 ≤ 128; omega

theorem inbL (h : Fin 8) : ∀ a, (![0, 128 * h.val] : Fin 2 → Nat) a + S1x128.size a ≤ S1x1024.size a := by
  intro a
  match a with
  | ⟨0, _⟩ => show 0 + 1 ≤ 1; omega
  | ⟨1, _⟩ => show 128 * h.val + 128 ≤ 1024; omega

theorem inbZ (h : Fin 8) : ∀ a, (![0, 0, 128 * h.val] : Fin 3 → Nat) a + S1x64x128.size a ≤ S1x64x1024.size a := by
  intro a
  match a with
  | ⟨0, _⟩ => show 0 + 1 ≤ 1; omega
  | ⟨1, _⟩ => show 0 + 64 ≤ 64; omega
  | ⟨2, _⟩ => show 128 * h.val + 128 ≤ 1024; omega

section Block
variable (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x8x128x128 .f32) (harg9 : arg9.IsWhole) (arg10 : Memref sig .tc .vmem S64x64 .bf16) (harg10 : arg10.IsWhole) (arg11 : Memref sig .tc .vmem S7x64x64 .f32) (harg11 : arg11.IsWhole)
  (arg12 : Memref sig .tc .vmem S1x64x1024 .f32) (harg12 : arg12.IsWhole) (arg13 : Memref sig .tc .vmem S1x8x128x128 .f32) (harg13 : arg13.IsWhole) (arg14 : Memref sig .tc .vmem S8x128x128 .f32) (harg14 : arg14.IsWhole)
  (hc0 : cond0_0 i) (hc1 : cond0_1 i)
    (x0 : Vec Ideal S1x64x1024 .f32) (x1 : Vec Ideal S1x64x1024 .f32) (x2 : Vec Ideal S1x64x1024 .f32) (x3 : Vec Ideal S1x64x1024 .f32) (x4 : Vec Ideal S1x1024 .f32) (x5 : Vec Ideal S1x128 .f32) (x6 : Vec Ideal S1x8x128x128 .f32) (x7 : Vec Ideal S64x64 .bf16) (x8 : Vec Ideal S7x64x64 .f32)

/-- The states as brought in, each head's transposed: the first `k` heads' pieces, the last first. -/
def inits : (k : ℕ) → k ≤ 8 → List (View.Piece (Elt Ideal) S8x128x128 .f32)
  | 0, _ => []
  | k + 1, h => ⟨Rect.unit (s := S8x128x128) ![(⟨k, h⟩ : Fin 8).val, 0, 0] S1x128x128.size (inbS ⟨k, h⟩),
      k0_pay6 (View.readAt (Elt Ideal) arg9.view (Rect.unit (s := S1x8x128x128) ![0, (⟨k, h⟩ : Fin 8).val, 0, 0] S1x1x128x128.size (inbO ⟨k, h⟩)).toLoadRect (harg9.unread x6))⟩
      :: inits k (by omega)

/-- One head's new state, of the blocks and its state as read. -/
def updH (h : Fin 8) (st : Vec Ideal S1x128x128 .f32) : Vec Ideal S1x128x128 .f32 :=
  upd i (View.readAt (Elt Ideal) arg7.view (Rect.unit (s := S1x1024) ![0, 128 * h.val] S1x128.size (inbL h)).toLoadRect (harg7.unread x4))
    (View.readAt (Elt Ideal) arg4.view (Rect.unit (s := S1x64x1024) ![0, 0, 128 * h.val] S1x64x128.size (inbZ h)).toLoadRect (harg4.unread x1))
    (View.readAt (Elt Ideal) arg5.view (Rect.unit (s := S1x64x1024) ![0, 0, 128 * h.val] S1x64x128.size (inbZ h)).toLoadRect (harg5.unread x2))
    (View.readAt (Elt Ideal) arg10.view (Rect.unit (s := S64x64) ![0, 0] S64x64.size inb_S64x64_S64x64_0_0).toLoadRect (harg10.unread x7)) st

/-- The first `k` heads' new states over the states as brought in, the last first. -/
def states : (k : ℕ) → k ≤ 8 → List (View.Piece (Elt Ideal) S8x128x128 .f32)
  | 0, _ => inits arg9 harg9 x6 8 (le_refl 8)
  | k + 1, h => ⟨Rect.unit (s := S8x128x128) ![(⟨k, h⟩ : Fin 8).val, 0, 0] S1x128x128.size (inbS ⟨k, h⟩),
      updH i arg4 harg4 arg5 harg5 arg7 harg7 arg10 harg10 x1 x2 x4 x7 ⟨k, h⟩
        (arg14.view.readCov (states k (by omega)) (Rect.unit (s := S8x128x128) ![(⟨k, h⟩ : Fin 8).val, 0, 0] S1x128x128.size (inbS ⟨k, h⟩)).toLoadRect)⟩
      :: states k (by omega)

/-- The new states, each head's transposed back: the first `k` heads' pieces, the last first. -/
def outs : (k : ℕ) → k ≤ 8 → List (View.Piece (Elt Ideal) S1x8x128x128 .f32)
  | 0, _ => []
  | k + 1, h => ⟨Rect.unit (s := S1x8x128x128) ![0, (⟨k, h⟩ : Fin 8).val, 0, 0] S1x1x128x128.size (inbO ⟨k, h⟩),
      k0_pay10 (arg14.view.readCov (states i arg4 harg4 arg5 harg5 arg7 harg7 arg9 harg9 arg10 harg10 arg14 x1 x2 x4 x6 x7 8 (le_refl 8)) (Rect.unit (s := S8x128x128) ![(⟨k, h⟩ : Fin 8).val, 0, 0] S1x128x128.size (inbS ⟨k, h⟩)).toLoadRect)⟩
      :: outs k (by omega)

theorem inits_eq : kernelRun0_A.sl.HS0_8 c arg9 harg9 x6 = inits arg9 harg9 x6 8 (le_refl 8) := rfl

theorem states1 : kernelRun0_A.sl.HS0_9 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 1 (by decide) := rfl

theorem states2 : kernelRun0_A.sl.HS0_10 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 2 (by decide) := rfl

theorem states3 : kernelRun0_A.sl.HS0_11 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 3 (by decide) := rfl

theorem states4 : kernelRun0_A.sl.HS0_12 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 4 (by decide) := rfl

theorem states5 : kernelRun0_A.sl.HS0_13 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 5 (by decide) := rfl

theorem states6 : kernelRun0_A.sl.HS0_14 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 6 (by decide) := rfl

theorem states7 : kernelRun0_A.sl.HS0_15 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 7 (by decide) := rfl

theorem states8 : kernelRun0_A.sl.HS0_16 c i arg4 harg4 arg5 harg5 arg7 harg7 arg9 harg9 arg10 harg10 arg14 x1 x2 x4 x6 x7
    = states i arg4 harg4 arg5 harg5 arg7 harg7 arg9 harg9 arg10 harg10 arg14 x1 x2 x4 x6 x7 8 (by decide) := rfl

/-- One head's state as brought in, transposed. -/
def initH (h : Fin 8) : Vec Ideal S1x128x128 .f32 :=
  k0_pay6 (View.readAt (Elt Ideal) arg9.view (Rect.unit (s := S1x8x128x128) ![0, h.val, 0, 0] S1x1x128x128.size (inbO h)).toLoadRect (harg9.unread x6))

theorem read_inits (h : Fin 8) (v d : Fin 128) : (k : ℕ) → (hk : k ≤ 8) → h.val < k →
    View.read (Elt Ideal) arg14.view (arg14.view.writes (Elt Ideal) arg14.view.junk (inits arg9 harg9 x6 k hk)) (ix3 h v d)
      = initH arg9 harg9 x6 h (ix3 0 v d)
  | 0, _, hh => by omega
  | k + 1, hk, hh => by
    by_cases e : h.val = k
    · obtain rfl : h = ⟨k, hk⟩ := Fin.ext e
      refine (View.read_writes_cons_unit_of_mem _ _ _ _ _ _ (ix3 (0 : Fin 1) v d) rfl ?_).trans (congrFun (by unfold initH; rfl) (ix3 0 v d))
      intro a
      match a with
      | ⟨0, _⟩ => show k = k + 0; omega
      | ⟨1, _⟩ => show v.val = 0 + v.val; omega
      | ⟨2, _⟩ => show d.val = 0 + d.val; omega
    · refine (View.read_writes_cons_unit_of_not_mem _ _ _ _ _ _ rfl (0 : Fin 3) (Or.inl (by show h.val < k; omega))).trans ?_
      exact read_inits h v d k (by omega) (by omega)

theorem read_states (h : Fin 8) (v d : Fin 128) : (k : ℕ) → (hk : k ≤ 8) →
    View.read (Elt Ideal) arg14.view (arg14.view.writes (Elt Ideal) arg14.view.junk (states i arg4 harg4 arg5 harg5 arg7 harg7 arg9 harg9 arg10 harg10 arg14 x1 x2 x4 x6 x7 k hk)) (ix3 h v d)
      = if h.val < k then updH i arg4 harg4 arg5 harg5 arg7 harg7 arg10 harg10 x1 x2 x4 x7 h (initH arg9 harg9 x6 h) (ix3 0 v d)
        else initH arg9 harg9 x6 h (ix3 0 v d)
  | 0, _ => by
    rw [if_neg (by omega)]
    exact read_inits arg9 harg9 arg14 x6 h v d 8 (le_refl 8) h.isLt
  | k + 1, hk => by
    by_cases e : h.val = k
    · obtain rfl : h = ⟨k, hk⟩ := Fin.ext e
      rw [if_pos (by show k < k + 1; omega)]
      refine (View.read_writes_cons_unit_of_mem _ _ _ _ _ _ (ix3 (0 : Fin 1) v d) rfl ?_).trans ?_
      · intro a
        match a with
        | ⟨0, _⟩ => show k = k + 0; omega
        | ⟨1, _⟩ => show v.val = 0 + v.val; omega
        | ⟨2, _⟩ => show d.val = 0 + d.val; omega
      · refine congrFun (congrArg (updH i arg4 harg4 arg5 harg5 arg7 harg7 arg10 harg10 x1 x2 x4 x7 ⟨k, hk⟩) ?_) _
        funext j
        obtain ⟨z, v', d', rfl⟩ : ∃ (z : Fin 1) (v' d' : Fin 128), j = ix3 z v' d' := ⟨j 0, j 1, j 2, eq_ix3 j⟩
        obtain rfl : z = 0 := Subsingleton.elim _ _
        have hix : (Rect.unit (s := S8x128x128) ![(⟨k, hk⟩ : Fin 8).val, 0, 0] S1x128x128.size (inbS ⟨k, hk⟩)).toLoadRect.idx (ix3 0 v' d')
            = (ix3 (⟨k, hk⟩ : Fin 8) v' d' : S8x128x128.Idx) := by
          funext a
          apply Fin.ext
          match a with
          | ⟨0, _⟩ => show k + 1 * 0 = k; omega
          | ⟨1, _⟩ => show 0 + 1 * v'.val = v'.val; omega
          | ⟨2, _⟩ => show 0 + 1 * d'.val = d'.val; omega
        show View.read (Elt Ideal) arg14.view _ _ = _
        refine (congrArg _ hix).trans ((read_states ⟨k, hk⟩ v' d' k (by omega)).trans ?_)
        exact if_neg (by show ¬ k < k; omega)
    · refine (View.read_writes_cons_unit_of_not_mem _ _ _ _ _ _ rfl (0 : Fin 3) ?_).trans ((read_states h v d k (by omega)).trans ?_)
      · by_cases l : h.val < k
        · exact Or.inl l
        · exact Or.inr (by show k + 1 ≤ h.val; omega)
      · by_cases l : h.val < k
        · rw [if_pos l, if_pos (by omega)]
        · rw [if_neg l, if_neg (by omega)]

theorem pay10_apply (w : Vec Ideal S1x128x128 .f32) (d v : Fin 128) : k0_pay10 w (ix4 0 0 d v) = w (ix3 0 v d) := by
  pointwise [Gen.k0_pay10]

theorem read_outs (h : Fin 8) (d v : Fin 128) : (k : ℕ) → (hk : k ≤ 8) → h.val < k →
    View.read (Elt Ideal) VO0_10 (VO0_10.writes (Elt Ideal) VO0_10.junk (outs i arg4 harg4 arg5 harg5 arg7 harg7 arg9 harg9 arg10 harg10 arg14 x1 x2 x4 x6 x7 k hk)) (ix4 0 h d v)
      = updH i arg4 harg4 arg5 harg5 arg7 harg7 arg10 harg10 x1 x2 x4 x7 h (initH arg9 harg9 x6 h) (ix3 0 v d)
  | 0, _, hh => by omega
  | k + 1, hk, hh => by
    by_cases e : h.val = k
    · obtain rfl : h = ⟨k, hk⟩ := Fin.ext e
      refine (View.read_writes_cons_unit_of_mem _ _ _ _ _ _ (ix4 (0 : Fin 1) (0 : Fin 1) d v) rfl ?_).trans ?_
      · intro a
        match a with
        | ⟨0, _⟩ => rfl
        | ⟨1, _⟩ => show k = k + 0; omega
        | ⟨2, _⟩ => show d.val = 0 + d.val; omega
        | ⟨3, _⟩ => show v.val = 0 + v.val; omega
      · refine (pay10_apply _ d v).trans ?_
        have hix : (Rect.unit (s := S8x128x128) ![(⟨k, hk⟩ : Fin 8).val, 0, 0] S1x128x128.size (inbS ⟨k, hk⟩)).toLoadRect.idx (ix3 0 v d)
            = (ix3 (⟨k, hk⟩ : Fin 8) v d : S8x128x128.Idx) := by
          funext a
          apply Fin.ext
          match a with
          | ⟨0, _⟩ => show k + 1 * 0 = k; omega
          | ⟨1, _⟩ => show 0 + 1 * v.val = v.val; omega
          | ⟨2, _⟩ => show 0 + 1 * d.val = d.val; omega
        show View.read (Elt Ideal) arg14.view _ _ = _
        refine (congrArg _ hix).trans ((read_states i arg4 harg4 arg5 harg5 arg7 harg7 arg9 harg9 arg10 harg10 arg14 x1 x2 x4 x6 x7 ⟨k, hk⟩ v d 8 (le_refl 8)).trans ?_)
        exact if_pos hk
    · refine (View.read_writes_cons_unit_of_not_mem _ _ _ _ _ _ rfl (1 : Fin 4) (Or.inl (by show h.val < k; omega))).trans ?_
      exact read_outs h d v k (by omega) (by omega)

/-- What a point leaves in the second output, at an entry. -/
theorem out10_apply (h : Fin 8) (d v : Fin 128) : out0_A_10 c i arg3 harg3 arg4 harg4 arg5 harg5 arg6 harg6
      arg7 harg7 arg8 harg8 arg9 harg9 arg10 harg10 arg11 harg11 arg12 harg12 arg13 harg13 arg14 harg14 hc0 hc1 x0 x1 x2 x3 x4 x5 x6 x7 x8 (ix4 0 h d v)
      = updH i arg4 harg4 arg5 harg5 arg7 harg7 arg10 harg10 x1 x2 x4 x7 h (initH arg9 harg9 x6 h) (ix3 0 v d) := by
  unfold out0_A_10 kernelRun0_A
  exact read_outs i arg4 harg4 arg5 harg5 arg7 harg7 arg9 harg9 arg10 harg10 arg14 x1 x2 x4 x6 x7 h d v 8 (le_refl 8) h.isLt

end Block
end Cert.HgrnSIdeal.Value

end
-- ==== Proof.HgrnSBody.lean ====
/-
  One head's update, read at an entry: of the 64 rows only four count; the two halves the logarithms are split in add up to them.
-/
module

public import proofs.«01_k».proof.Proof.Gen.HgrnSIdeal.Value
public import proofs.«01_k».proof.Proof.HgrnSHeads
public import Idealize.ShloMosaic.Lib.Pointwise
public import Idealize.ShloMosaic.Lib.WholeRead
public import Idealize.ShloMosaic.Lib.WritesUnit

@[expose] public section

set_option maxRecDepth 16384

noncomputable section

namespace Cert.HgrnSIdeal.Value

open Cert.HgrnSIdeal Cert.HgrnSIdeal.Gen Idealize.ShloMosaic Idealize.ShloMosaic.TcCoe Idealize.SL.Sem

/-- A gate: its lower bound and the logistic of its logit over the rest. -/
def gate (lb fz : EReal) : EReal := lb + (1 - lb) * Ideal.logistic fz

variable (i : grid0.Coords) (lb : Vec Ideal S1x128 .f32) (fz v : Vec Ideal S1x64x128 .f32) (tab : Vec Ideal S64x64 .bf16)
  (st : Vec Ideal S1x128x128 .f32)

theorem pay20_apply (s : Fin 64) (d : Fin 128) : k0_pay20 lb fz (ix2 s d) = gate (lb (ix2 0 d)) (fz (ix3 0 s d)) := by
  unfold gate
  pointwise [Gen.k0_pay20]

theorem pay19_apply (s : Fin 64) : k0_pay19 i (ix2 s 0) = if s.val < 4 then 1#1 else 0#1 := by
  have h2 : (i 2).val = 0 := by have : (i 2).val < 1 := (i 2).isLt; omega
  pointwise [Gen.k0_pay19]
  clear h2
  revert s
  decide +kernel

theorem pay21_apply (s : Fin 64) (d : Fin 128) : k0_pay21 i lb fz (ix2 s d)
    = if s.val < 4 then Ideal.log (gate (lb (ix2 0 d)) (fz (ix3 0 s d))) else 0 := by
  pointwise [Gen.k0_pay21]
  rw [pay19_apply, pay20_apply]
  split <;> pointwise

theorem pay22_apply (s : Fin 64) (d : Fin 128) : k0_pay22 i lb fz (ix2 s d)
    = if s.val < 4 then 1 - gate (lb (ix2 0 d)) (fz (ix3 0 s d)) else 0 := by
  pointwise [Gen.k0_pay22]
  rw [pay19_apply, pay20_apply]
  split <;> pointwise

theorem pay25_apply (lf : Vec Ideal S64x128 .f32) (r : Fin 64) (d : Fin 128) : k0_pay25 (k0_pay18 tab) lf (ix2 r d)
    = ∑ s, tab (ix2 r s) * lf (ix2 s d) + ∑ s, tab (ix2 r s) * (lf (ix2 s d) - lf (ix2 s d)) := by
  pointwise [Gen.k0_pay25, Gen.k0_pay18]

theorem pay70_apply (k vv b : Vec Ideal S64x128 .f32) (x d : Fin 128) : k0_pay70 k vv b st (ix3 0 x d)
    = st (ix3 0 x d) * Ideal.exp (b (ix2 63 d)) + ∑ s, vv (ix2 s x) * (k (ix2 s d) * Ideal.exp (b (ix2 63 d) - b (ix2 s d))) := by
  pointwise [Gen.k0_pay70, Gen.k0_pay68]

theorem pay24_apply (s : Fin 64) (d : Fin 128) : k0_pay24 v (ix2 s d) = v (ix3 0 s d) := by
  pointwise [Gen.k0_pay24]

theorem sum_first (f : Fin 64 → EReal) (h0 : ∀ s : Fin 64, 4 ≤ s.val → f s = 0) :
    ∑ s, f s = ∑ s : Fin 4, f ⟨s.val, by omega⟩ := by
  have h := Fin.sum_univ_add (a := 4) (b := 60) f
  have h2 : (∑ s : Fin 60, f (Fin.natAdd 4 s)) = 0 :=
    Finset.sum_eq_zero fun s _ => h0 _ (by show 4 ≤ 4 + s.val; omega)
  rw [show (∑ s, f s) = _ from h, h2, add_zero]
  rfl

/-- The sum of the first steps' logarithms, up to and with step `r`. -/
def cum (g : Fin 4 → EReal) (r : ℕ) : EReal := ∑ s : Fin 4, if s.val ≤ r then g s else 0

theorem add_sub_self (x : EReal) (h : x ≠ ⊤) : x + (x - x) = x := by
  induction x using EReal.rec with
  | bot => rfl
  | top => exact absurd rfl h
  | coe r => rw [← EReal.coe_sub, ← EReal.coe_add, add_sub_cancel]

theorem table_sum (tb lf : Fin 64 → EReal) (r : ℕ) (htb : ∀ s : Fin 64, tb s = if s.val ≤ r then 1 else 0)
    (g : Fin 4 → EReal) (hg : ∀ s, g s ≠ ⊤) (hlf : ∀ s : Fin 64, lf s = if h : s.val < 4 then g ⟨s.val, h⟩ else 0) :
    ∑ s, tb s * lf s + ∑ s, tb s * (lf s - lf s) = cum g r := by
  rw [← Finset.sum_add_distrib]
  have key : ∀ s : Fin 64, tb s * lf s + tb s * (lf s - lf s) = if s.val ≤ r then (if h : s.val < 4 then g ⟨s.val, h⟩ else 0) else 0 := by
    intro s
    rw [htb, hlf]
    split
    · rw [one_mul, one_mul]
      split
      · exact add_sub_self _ (hg _)
      · exact add_sub_self _ EReal.zero_ne_top
    · rw [zero_mul, zero_mul, add_zero]
  rw [Finset.sum_congr rfl fun s _ => key s, sum_first]
  · unfold cum
    refine Finset.sum_congr rfl fun s _ => ?_
    rw [dif_pos s.isLt]
  · intro s hs
    rw [dif_neg (by omega), ite_self]

theorem cum_last (g : Fin 4 → EReal) (r : ℕ) (h : 3 ≤ r) : cum g r = cum g 3 := by
  unfold cum
  refine Finset.sum_congr rfl fun s _ => ?_
  rw [if_pos (by omega), if_pos (by omega)]

/-- An entry of the new state, of the step's gates and values and the state. -/
def entry (f v : Fin 4 → EReal) (s0 : EReal) : EReal :=
  Ideal.exp (cum (fun s => Ideal.log (f s)) 3) * s0
    + ∑ s : Fin 4, (1 - f s) * Ideal.exp (cum (fun s => Ideal.log (f s)) 3 - cum (fun s => Ideal.log (f s)) s.val) * v s

theorem upd_apply (x d : Fin 128) (htab : ∀ r s : Fin 64, tab (ix2 r s) = if s.val ≤ r.val then 1 else 0)
    (hg : ∀ s : Fin 4, Ideal.log (gate (lb (ix2 0 d)) (fz (ix3 0 ⟨s.val, by omega⟩ d))) ≠ ⊤) :
    upd i lb fz v tab st (ix3 0 x d)
      = entry (fun s => gate (lb (ix2 0 d)) (fz (ix3 0 ⟨s.val, by omega⟩ d))) (fun s => v (ix3 0 ⟨s.val, by omega⟩ x)) (st (ix3 0 x d)) := by
  have hb : ∀ r : Fin 64, k0_pay25 (k0_pay18 tab) (k0_pay21 i lb fz) (ix2 r d)
      = cum (fun s => Ideal.log (gate (lb (ix2 0 d)) (fz (ix3 0 ⟨s.val, by omega⟩ d)))) r.val := by
    intro r
    rw [pay25_apply]
    refine table_sum (fun s => tab (ix2 r s)) (fun s => k0_pay21 i lb fz (ix2 s d)) r.val (fun s => htab r s) _ hg fun s => ?_
    show k0_pay21 i lb fz (ix2 s d) = _
    rw [pay21_apply]
    split <;> rfl
  unfold upd
  rw [pay70_apply, hb]
  unfold entry
  rw [mul_comm (st _), cum_last _ (63 : Fin 64).val (by decide)]
  congr 1
  rw [sum_first]
  · refine Finset.sum_congr rfl fun s _ => ?_
    rw [hb, pay22_apply, pay24_apply, if_pos s.isLt, mul_comm]
  · intro s hs
    rw [pay22_apply, if_neg (by omega), zero_mul, mul_zero]

theorem log_ne_top (a x : EReal) (h : a ≠ ⊤) : Ideal.log (gate a x) ≠ ⊤ := by
  obtain ⟨q, hq⟩ : ∃ q : ℝ, Ideal.logistic x = (q : EReal) := by
    induction x using EReal.rec with
    | bot => exact ⟨0, Ideal.logistic_bot⟩
    | top => exact ⟨1, Ideal.logistic_top⟩
    | coe r => exact ⟨_, Ideal.logistic_coe r⟩
  unfold gate
  rw [hq]
  induction a using EReal.rec with
  | bot =>
    rw [EReal.bot_add]
    exact bot_ne_top
  | top => exact absurd rfl h
  | coe r =>
    rw [← EReal.coe_one, ← EReal.coe_sub, ← EReal.coe_mul, ← EReal.coe_add]
    show (if _ ≤ (0 : ℝ) then ⊥ else ((Real.log _ : ℝ) : EReal)) ≠ ⊤
    split
    · exact bot_ne_top
    · exact EReal.coe_ne_top _

end Cert.HgrnSIdeal.Value

end
-- ==== Proof.HgrnSBlocks.lean ====
/-
  The samples' new states as a function of the arguments: the blocks of a point, and the points' writes put together.
-/
module

public import proofs.«01_k».proof.Proof.Gen.HgrnSIdeal.Value
public import proofs.«01_k».proof.Proof.HgrnSBody
public import Idealize.ShloMosaic.Lib.Pointwise
public import Idealize.ShloMosaic.Lib.WholeRead
public import Idealize.ShloMosaic.Lib.WritesUnit

@[expose] public section

set_option maxRecDepth 16384

noncomputable section

namespace Cert.HgrnSIdeal.Value

open Cert.HgrnSIdeal Cert.HgrnSIdeal.Gen Idealize.ShloMosaic Idealize.ShloMosaic.TcCoe Idealize.SL.Sem

variable (m : (ℓ : Loc nD τ sig) → Buf (Elt Ideal) ℓ) (ρ : Dev nD → PrngReg)

theorem V_v0 (c : Dev nD) : (V m c main_v0 : Vec Ideal S32x64x4096 .f32)
    = pad S32x64x4096 ![0, 0, 0] ![0, 60, 0] ![0, 0, 0] (m ((c : Thread nD τ).loc main_arg0) : Vec Ideal S32x4x4096 .f32)
        (sitofp (F := Ideal) .f32 (constantI S_ 32 0#32) : Vec Ideal S_ .f32) pads_S32x4x4096_S32x64x4096_000_0600_000 h_S_ := by
  show StableHlo.after (List.flatten _) _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, List.flatten_cons, List.flatten_nil, List.append_nil, List.cons_append, List.nil_append]
  after_results
  rfl

theorem V_v87 (c : Dev nD) : (V m c main_v87 : Vec Ideal S1x1024 .f32)
    = shapeCast S1x1024 (m ((c : Thread nD τ).loc main_arg2) : Vec Ideal S1024 .f32) shapeCasts_S1024_S1x1024 := by
  show StableHlo.after (List.flatten _) _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, List.flatten_cons, List.flatten_nil, List.append_nil, List.cons_append, List.nil_append]
  after_results
  rfl

/-- The table as the program writes it. -/
def table : Vec Ideal S64x64 .bf16 := (truncf .bf16
  (select (cmpi .sle (iotaInDim S64x64 32 1) (iotaInDim S64x64 32 0))
    (broadcastInDim S64x64 ![] bcast_S_S64x64 (constant (F := Ideal) S_ .f32 1065353216#32))
    (broadcastInDim S64x64 ![] bcast_S_S64x64 (constant (F := Ideal) S_ .f32 0#32)) : FVec Ideal S64x64 .f32) bitsLt_bf16_f32 : FVec Ideal S64x64 .bf16)

/-- The table the kernel sums with: the ones at and below the diagonal. -/
theorem tab_apply (c : Dev nD) (r s : Fin 64) :
    (V m c main_v89 : Vec Ideal S64x64 .bf16) (ix2 r s) = if s.val ≤ r.val then (1 : EReal) else 0 := by
  have e : (V m c main_v89 : Vec Ideal S64x64 .bf16) = table := by
    show StableHlo.after (List.flatten _) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, List.flatten_cons, List.flatten_nil, List.append_nil, List.cons_append, List.nil_append]
    after_results
    rfl
  rw [e]
  have hc : ∀ r s : Fin 64, cmpi .sle (iotaInDim S64x64 32 1) (iotaInDim S64x64 32 0) (ix2 r s) = if s.val ≤ r.val then 1#1 else 0#1 := by
    intro r s
    pointwise
    revert r s
    decide +kernel
  have h1 : (broadcastInDim S64x64 ![] bcast_S_S64x64 (constant (F := Ideal) S_ .f32 1065353216#32) : Vec Ideal S64x64 .f32) (ix2 r s) = (1 : EReal) := by
    pointwise
  have h0 : (broadcastInDim S64x64 ![] bcast_S_S64x64 (constant (F := Ideal) S_ .f32 0#32) : Vec Ideal S64x64 .f32) (ix2 r s) = (0 : EReal) := by
    pointwise
  show (if cmpi .sle (iotaInDim S64x64 32 1) (iotaInDim S64x64 32 0) (ix2 r s) = 1#1 then _ else _) = _
  rw [hc r s]
  by_cases h : s.val ≤ r.val
  · rw [if_pos h, if_pos h]
    exact h1
  · rw [if_neg h, if_neg h]
    exact h0
section Block
variable (c : Dev nD) (i : grid0.Coords) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x8x128x128 .f32) (harg9 : arg9.IsWhole) (arg10 : Memref sig .tc .vmem S64x64 .bf16) (harg10 : arg10.IsWhole) (arg11 : Memref sig .tc .vmem S7x64x64 .f32) (harg11 : arg11.IsWhole)
  (arg12 : Memref sig .tc .vmem S1x64x1024 .f32) (harg12 : arg12.IsWhole) (arg13 : Memref sig .tc .vmem S1x8x128x128 .f32) (harg13 : arg13.IsWhole) (arg14 : Memref sig .tc .vmem S8x128x128 .f32) (harg14 : arg14.IsWhole)
  (hc0 : cond0_0 i) (hc1 : cond0_1 i)
    (x0 : Vec Ideal S1x64x1024 .f32) (x1 : Vec Ideal S1x64x1024 .f32) (x2 : Vec Ideal S1x64x1024 .f32) (x3 : Vec Ideal S1x64x1024 .f32) (x4 : Vec Ideal S1x1024 .f32) (x5 : Vec Ideal S1x128 .f32) (x6 : Vec Ideal S1x8x128x128 .f32) (x7 : Vec Ideal S64x64 .bf16) (x8 : Vec Ideal S7x64x64 .f32)

theorem pay6_apply (w : Vec Ideal S1x1x128x128 .f32) (v d : Fin 128) : k0_pay6 w (ix3 0 v d) = w (ix4 0 0 d v) := by
  pointwise [k0_pay6]

theorem loadL (h : Fin 8) (d : Fin 128) : View.readAt (Elt Ideal) arg7.view
    (Rect.unit (s := S1x1024) ![0, 128 * h.val] S1x128.size (inbL h)).toLoadRect (harg7.unread x4) (ix2 (0 : Fin 1) d : S1x128.Idx)
    = x4 (ix2 0 ⟨128 * h.val + d.val, by omega⟩) := by
  refine (harg7.readAt_unread x4 _ _).trans (congrArg x4 ?_)
  funext a
  apply Fin.ext
  match a with
  | ⟨0, _⟩ => rfl
  | ⟨1, _⟩ => show 128 * h.val + 1 * d.val = 128 * h.val + d.val; omega

theorem loadZ (h : Fin 8) (s : Fin 64) (d : Fin 128) : View.readAt (Elt Ideal) arg4.view
    (Rect.unit (s := S1x64x1024) ![0, 0, 128 * h.val] S1x64x128.size (inbZ h)).toLoadRect (harg4.unread x1) (ix3 (0 : Fin 1) s d : S1x64x128.Idx)
    = x1 (ix3 0 s ⟨128 * h.val + d.val, by omega⟩) := by
  refine (harg4.readAt_unread x1 _ _).trans (congrArg x1 ?_)
  funext a
  apply Fin.ext
  match a with
  | ⟨0, _⟩ => rfl
  | ⟨1, _⟩ => show 0 + 1 * s.val = s.val; omega
  | ⟨2, _⟩ => show 128 * h.val + 1 * d.val = 128 * h.val + d.val; omega

theorem loadT (r s : Fin 64) : View.readAt (Elt Ideal) arg10.view
    (Rect.unit (s := S64x64) ![0, 0] S64x64.size inb_S64x64_S64x64_0_0).toLoadRect (harg10.unread x7) (ix2 r s : S64x64.Idx) = x7 (ix2 r s) := by
  refine (harg10.readAt_unread x7 _ _).trans (congrArg x7 ?_)
  funext a
  apply Fin.ext
  match a with
  | ⟨0, _⟩ => show 0 + 1 * r.val = r.val; omega
  | ⟨1, _⟩ => show 0 + 1 * s.val = s.val; omega

theorem loadS (h : Fin 8) (d v : Fin 128) : View.readAt (Elt Ideal) arg9.view
    (Rect.unit (s := S1x8x128x128) ![0, h.val, 0, 0] S1x1x128x128.size (inbO h)).toLoadRect (harg9.unread x6)
    (ix4 (0 : Fin 1) (0 : Fin 1) d v : S1x1x128x128.Idx) = x6 (ix4 0 h d v) := by
  refine (harg9.readAt_unread x6 _ _).trans (congrArg x6 ?_)
  funext a
  apply Fin.ext
  match a with
  | ⟨0, _⟩ => rfl
  | ⟨1, _⟩ => show h.val + 1 * 0 = h.val; omega
  | ⟨2, _⟩ => show 0 + 1 * d.val = d.val; omega
  | ⟨3, _⟩ => show 0 + 1 * v.val = v.val; omega

theorem entry_congr {f f' v v' : Fin 4 → EReal} {s s' : EReal} (hf : ∀ k, f k = f' k) (hv : ∀ k, v k = v' k) (hs : s = s') :
    entry f v s = entry f' v' s' := by
  rw [funext hf, funext hv, hs]

/-- What a point leaves in the state's output, at an entry, of its blocks. -/
theorem out10_entry (htab : ∀ r s : Fin 64, x7 (ix2 r s) = if s.val ≤ r.val then (1 : EReal) else 0) (hlb : ∀ l : Fin 1024, x4 (ix2 0 l) ≠ (⊤ : EReal))
    (h : Fin 8) (d v : Fin 128) : out0_A_10 c i arg3 harg3 arg4 harg4 arg5 harg5 arg6 harg6
      arg7 harg7 arg8 harg8 arg9 harg9 arg10 harg10 arg11 harg11 arg12 harg12 arg13 harg13 arg14 harg14 hc0 hc1 x0 x1 x2 x3 x4 x5 x6 x7 x8 (ix4 0 h d v)
      = entry (fun s => gate (x4 (ix2 0 ⟨128 * h.val + d.val, by omega⟩)) (x1 (ix3 0 ⟨s.val, by omega⟩ ⟨128 * h.val + d.val, by omega⟩)))
          (fun s => x2 (ix3 0 ⟨s.val, by omega⟩ ⟨128 * h.val + v.val, by omega⟩)) (x6 (ix4 0 h d v)) := by
  refine (out10_apply c i arg3 harg3 arg4 harg4 arg5 harg5 arg6 harg6
      arg7 harg7 arg8 harg8 arg9 harg9 arg10 harg10 arg11 harg11 arg12 harg12 arg13 harg13 arg14 harg14 hc0 hc1 x0 x1 x2 x3 x4 x5 x6 x7 x8 h d v).trans ?_
  unfold updH
  refine (upd_apply _ _ _ _ _ _ v d (fun r s => ?_) (fun s => ?_)).trans (entry_congr (fun s => ?_) (fun s => ?_) ?_)
  · exact (loadT _ _ x7 r s).trans (htab r s)
  · rw [loadL]
    exact log_ne_top _ _ (hlb _)
  · exact congrArg₂ gate (loadL _ _ x4 h d) (loadZ _ _ x1 h _ d)
  · exact loadZ _ _ x2 h _ v
  · unfold initH
    exact (pay6_apply _ v d).trans (loadS _ _ x6 h d v)

end Block

/-- The state after the four rows, an entry. -/
def G (z : Vec Ideal S32x4x4096 .f32) (s0 : Vec Ideal S32x8x128x128 .f32) (lb : Vec Ideal S1024 .f32) (b : Fin 32) (h : Fin 8) (d v : Fin 128) : EReal :=
  entry (fun s => gate (lb (ix1 ⟨128 * h.val + d.val, by omega⟩)) (z (ix3 b s ⟨1024 + (128 * h.val + d.val), by omega⟩)))
    (fun s => z (ix3 b s ⟨2048 + (128 * h.val + v.val), by omega⟩)) (s0 (ix4 b h d v))

theorem idx_facts1 : ∀ t : Fin cfg0.N, win0_1.index t (0 : Fin 3) = t.val ∧ win0_1.index t (1 : Fin 3) = 0 ∧ win0_1.index t (2 : Fin 3) = 1 :=
  (by decide +kernel : ∀ t : Fin grid0.N, _)

theorem idx_facts2 : ∀ t : Fin cfg0.N, win0_2.index t (0 : Fin 3) = t.val ∧ win0_2.index t (1 : Fin 3) = 0 ∧ win0_2.index t (2 : Fin 3) = 2 :=
  (by decide +kernel : ∀ t : Fin grid0.N, _)

theorem idx_facts4 : ∀ t : Fin cfg0.N, win0_4.index t (0 : Fin 2) = 0 ∧ win0_4.index t (1 : Fin 2) = 0 :=
  (by decide +kernel : ∀ t : Fin grid0.N, _)

theorem idx_facts6 : ∀ t : Fin cfg0.N, win0_6.index t (0 : Fin 4) = t.val ∧ win0_6.index t (1 : Fin 4) = 0
    ∧ win0_6.index t (2 : Fin 4) = 0 ∧ win0_6.index t (3 : Fin 4) = 0 :=
  (by decide +kernel : ∀ t : Fin grid0.N, _)

theorem idx_facts7 : ∀ t : Fin cfg0.N, win0_7.index t (0 : Fin 2) = 0 ∧ win0_7.index t (1 : Fin 2) = 0 :=
  (by decide +kernel : ∀ t : Fin grid0.N, _)

theorem idx_facts10 : ∀ t : Fin cfg0.N, win0_10.index t (0 : Fin 4) = t.val ∧ win0_10.index t (1 : Fin 4) = 0
    ∧ win0_10.index t (2 : Fin 4) = 0 ∧ win0_10.index t (3 : Fin 4) = 0 :=
  (by decide +kernel : ∀ t : Fin grid0.N, _)

theorem N_eq : cfg0.N = 32 := N_0

/-- The rows under 60 rows of padding, read at one of the four. -/
theorem padded_apply (g : Vec Ideal S32x4x4096 .f32) (z : Vec Ideal S_ .f32) (b : Fin 32) (s : Fin 4) (n : Fin 4096) :
    (pad S32x64x4096 ![0, 0, 0] ![0, 60, 0] ![0, 0, 0] g z pads_S32x4x4096_S32x64x4096_000_0600_000 h_S_ : Vec Ideal S32x64x4096 .f32)
      (ix3 b (⟨s.val, by omega⟩ : Fin 64) n) = g (ix3 b s n) := by
  pointwise

theorem V_v0_apply (c : Dev nD) (b : Fin 32) (s : Fin 4) (n : Fin 4096) :
    (V m c main_v0 : Vec Ideal S32x64x4096 .f32) (ix3 b (⟨s.val, by omega⟩ : Fin 64) n)
      = (m ((c : Thread nD τ).loc main_arg0) : Vec Ideal S32x4x4096 .f32) (ix3 b s n) :=
  (congrFun (V_v0 m c) _).trans (padded_apply (m ((c : Thread nD τ).loc main_arg0))
    (sitofp (F := Ideal) .f32 (constantI S_ 32 0#32) : Vec Ideal S_ .f32) b s n)

theorem blk1 (c : Dev nD) (t : Fin cfg0.N) (s : Fin 4) (l : Fin 1024) :
    (iblk m c 1 t : Vec Ideal S1x64x1024 .f32) (ix3 0 (⟨s.val, by omega⟩ : Fin 64) l)
      = m ((c : Thread nD τ).loc main_arg0)
          (ix3 (⟨t.val, by have := t.isLt; have := N_eq; omega⟩ : Fin 32) s (⟨1024 + l.val, by omega⟩ : Fin 4096)) := by
  have hf := idx_facts1 t
  show V m c main_v0 (((cfg0.win 1).blk t).view.emb (ix3 0 (⟨s.val, by omega⟩ : Fin 64) l)) = _
  have he : ((cfg0.win 1).blk t).view.emb (ix3 0 (⟨s.val, by omega⟩ : Fin 64) l)
      = (ix3 (⟨t.val, by have := t.isLt; have := N_eq; omega⟩ : Fin 32) (⟨s.val, by omega⟩ : Fin 64) (⟨1024 + l.val, by omega⟩ : Fin 4096) : S32x64x4096.Idx) := by
    funext a
    apply Fin.ext
    match a with
    | ⟨0, _⟩ => show win0_1.index t (0 : Fin 3) * 1 + 1 * 0 = t.val; rw [hf.1]; omega
    | ⟨1, _⟩ => show win0_1.index t (1 : Fin 3) * 64 + 1 * s.val = s.val; rw [hf.2.1]; omega
    | ⟨2, _⟩ => show win0_1.index t (2 : Fin 3) * 1024 + 1 * l.val = 1024 + l.val; rw [hf.2.2]; omega
  exact (congrArg (V m c main_v0) he).trans (V_v0_apply m c _ s _)

theorem blk2 (c : Dev nD) (t : Fin cfg0.N) (s : Fin 4) (l : Fin 1024) :
    (iblk m c 2 t : Vec Ideal S1x64x1024 .f32) (ix3 0 (⟨s.val, by omega⟩ : Fin 64) l)
      = m ((c : Thread nD τ).loc main_arg0)
          (ix3 (⟨t.val, by have := t.isLt; have := N_eq; omega⟩ : Fin 32) s (⟨2048 + l.val, by omega⟩ : Fin 4096)) := by
  have hf := idx_facts2 t
  show V m c main_v0 (((cfg0.win 2).blk t).view.emb (ix3 0 (⟨s.val, by omega⟩ : Fin 64) l)) = _
  have he : ((cfg0.win 2).blk t).view.emb (ix3 0 (⟨s.val, by omega⟩ : Fin 64) l)
      = (ix3 (⟨t.val, by have := t.isLt; have := N_eq; omega⟩ : Fin 32) (⟨s.val, by omega⟩ : Fin 64) (⟨2048 + l.val, by omega⟩ : Fin 4096) : S32x64x4096.Idx) := by
    funext a
    apply Fin.ext
    match a with
    | ⟨0, _⟩ => show win0_2.index t (0 : Fin 3) * 1 + 1 * 0 = t.val; rw [hf.1]; omega
    | ⟨1, _⟩ => show win0_2.index t (1 : Fin 3) * 64 + 1 * s.val = s.val; rw [hf.2.1]; omega
    | ⟨2, _⟩ => show win0_2.index t (2 : Fin 3) * 1024 + 1 * l.val = 2048 + l.val; rw [hf.2.2]; omega
  exact (congrArg (V m c main_v0) he).trans (V_v0_apply m c _ s _)

theorem row_apply (g : Vec Ideal S1024 .f32) (l : Fin 1024) : (shapeCast S1x1024 g shapeCasts_S1024_S1x1024 : Vec Ideal S1x1024 .f32) (ix2 0 l) = g (ix1 l) := by
  pointwise

theorem blk4 (c : Dev nD) (t : Fin cfg0.N) (l : Fin 1024) :
    (iblk m c 4 t : Vec Ideal S1x1024 .f32) (ix2 0 l) = m ((c : Thread nD τ).loc main_arg2) (ix1 l) := by
  have hf := idx_facts4 t
  show V m c main_v87 (((cfg0.win 4).blk t).view.emb (ix2 0 l)) = _
  have he : ((cfg0.win 4).blk t).view.emb (ix2 0 l) = (ix2 0 l : S1x1024.Idx) := by
    funext a
    apply Fin.ext
    match a with
    | ⟨0, _⟩ => show win0_4.index t (0 : Fin 2) * 1 + 1 * 0 = 0; rw [hf.1]
    | ⟨1, _⟩ => show win0_4.index t (1 : Fin 2) * 1024 + 1 * l.val = l.val; rw [hf.2]; omega
  exact (congrArg (V m c main_v87) he).trans ((congrFun (V_v87 m c) _).trans (row_apply (m ((c : Thread nD τ).loc main_arg2)) l))

theorem blk6 (c : Dev nD) (t : Fin cfg0.N) (h : Fin 8) (d v : Fin 128) :
    (iblk m c 6 t : Vec Ideal S1x8x128x128 .f32) (ix4 0 h d v)
      = m ((c : Thread nD τ).loc main_arg1) (ix4 (⟨t.val, by have := t.isLt; have := N_eq; omega⟩ : Fin 32) h d v) := by
  have hf := idx_facts6 t
  show V m c main_arg1 (((cfg0.win 6).blk t).view.emb (ix4 0 h d v)) = _
  rw [V_main_arg1]
  congr 1
  funext a
  apply Fin.ext
  match a with
  | ⟨0, _⟩ => show win0_6.index t (0 : Fin 4) * 1 + 1 * 0 = t.val; rw [hf.1]; omega
  | ⟨1, _⟩ => show win0_6.index t (1 : Fin 4) * 8 + 1 * h.val = h.val; rw [hf.2.1]; omega
  | ⟨2, _⟩ => show win0_6.index t (2 : Fin 4) * 128 + 1 * d.val = d.val; rw [hf.2.2.1]; omega
  | ⟨3, _⟩ => show win0_6.index t (3 : Fin 4) * 128 + 1 * v.val = v.val; rw [hf.2.2.2]; omega

theorem blk7 (c : Dev nD) (t : Fin cfg0.N) (r s : Fin 64) :
    (iblk m c 7 t : Vec Ideal S64x64 .bf16) (ix2 r s) = if s.val ≤ r.val then (1 : EReal) else 0 := by
  have hf := idx_facts7 t
  show V m c main_v89 (((cfg0.win 7).blk t).view.emb (ix2 r s)) = _
  have he : ((cfg0.win 7).blk t).view.emb (ix2 r s) = (ix2 r s : S64x64.Idx) := by
    funext a
    apply Fin.ext
    match a with
    | ⟨0, _⟩ => show win0_7.index t (0 : Fin 2) * 64 + 1 * r.val = r.val; rw [hf.1]; omega
    | ⟨1, _⟩ => show win0_7.index t (1 : Fin 2) * 64 + 1 * s.val = s.val; rw [hf.2]; omega
  exact (congrArg (V m c main_v89) he).trans (tab_apply m c r s)

/-- The result as a function of the arguments as launched. -/
def result (c : Dev nD) : Buf (Elt Ideal) ((c : Thread nD τ).loc main_v90_1) :=
  fun j : S32x8x128x128.Idx => G (m ((c : Thread nD τ).loc main_arg0)) (m ((c : Thread nD τ).loc main_arg1)) (m ((c : Thread nD τ).loc main_arg2)) (j 0) (j 1) (j 2) (j 3)

theorem flushed_eq10 (c : Dev nD) (hlb : ∀ l : Fin 1024, (m ((c : Thread nD τ).loc main_arg2) : Vec Ideal S1024 .f32) (ix1 l) ≠ (⊤ : EReal))
    (t : Fin cfg0.N) (_ : (cfg0.win 10).flush t = true) :
    (dats m 0 c).flushed 10 t = ((cfg0.win 10).blk t).view.read (Elt Ideal) (result m c) := by
  have hf := idx_facts10 t
  rw [flushed10]
  funext j
  obtain ⟨b, h, d, v, rfl⟩ : ∃ (b : Fin 1) (h : Fin 8) (d v : Fin 128), j = ix4 b h d v := ⟨j 0, j 1, j 2, j 3, eq_ix4 j⟩
  obtain rfl : b = 0 := Subsingleton.elim _ _
  show (outsAt0 m c t).2 (ix4 0 h d v) = result m c (((cfg0.win 10).blk t).view.emb (ix4 0 h d v))
  have he : ((cfg0.win 10).blk t).view.emb (ix4 0 h d v)
      = (ix4 (⟨t.val, by have := t.isLt; have := N_eq; omega⟩ : Fin 32) h d v : S32x8x128x128.Idx) := by
    funext a
    apply Fin.ext
    match a with
    | ⟨0, _⟩ => show win0_10.index t (0 : Fin 4) * 1 + 1 * 0 = t.val; rw [hf.1]; omega
    | ⟨1, _⟩ => show win0_10.index t (1 : Fin 4) * 8 + 1 * h.val = h.val; rw [hf.2.1]; omega
    | ⟨2, _⟩ => show win0_10.index t (2 : Fin 4) * 128 + 1 * d.val = d.val; rw [hf.2.2.1]; omega
    | ⟨3, _⟩ => show win0_10.index t (3 : Fin 4) * 128 + 1 * v.val = v.val; rw [hf.2.2.2]; omega
  rw [he]
  unfold outsAt0
  dsimp only
  refine (out10_entry c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) scM0_0
    (Memref.isWhole_whole _) (hcond0_0 t) (hcond0_1 t) (iblk m c 0 t) (iblk m c 1 t) (iblk m c 2 t) (iblk m c 3 t) (iblk m c 4 t)
    (iblk m c 5 t) (iblk m c 6 t) (iblk m c 7 t) (iblk m c 8 t) (blk7 m c t) (fun l => ?_) h d v).trans ?_
  · rw [blk4]
    exact hlb l
  · show _ = entry _ _ _
    exact entry_congr (fun s => congrArg₂ gate (blk4 m c t _) (blk1 m c t s _)) (fun s => blk2 m c t s _) (blk6 m c t h d v)

/-- Every entry of the result lies in a written block. -/
theorem final_o (c : Dev nD) (hlb : ∀ l : Fin 1024, (m ((c : Thread nD τ).loc main_arg2) : Vec Ideal S1024 .f32) (ix1 l) ≠ (⊤ : EReal)) :
    (dats m 0 c).arrAt 10 cfg0.N = result m c :=
  (dats m 0 c).arrAt_eq_of_cover 10 (result m c) (flushed_eq10 m c hlb) fun i => by
    have h0 : (i 0 : Nat) < 32 := (i 0).isLt
    have h1 : (i 1 : Nat) < 8 := (i 1).isLt
    have h2 : (i 2 : Nat) < 128 := (i 2).isLt
    have h3 : (i 3 : Nat) < 128 := (i 3).isLt
    have hN := N_eq
    have ht : (i 0 : Nat) < cfg0.N := by omega
    have hf := idx_facts10 ⟨(i 0 : Nat), ht⟩
    refine ⟨⟨(i 0 : Nat), ht⟩, (by decide +kernel : ∀ t : Fin grid0.N, win0_10.flush t = true) _, ?_⟩
    show i ∈ ((View.whole main_v90_1).slice (win0_10.rect ⟨(i 0 : Nat), ht⟩)).set
    rw [View.set_slice_whole, Rect.mem_set_unit]
    intro a
    match a with
    | ⟨0, _⟩ =>
      show win0_10.index ⟨(i 0 : Nat), ht⟩ (0 : Fin 4) * 1 ≤ (i 0 : Nat) ∧ (i 0 : Nat) < win0_10.index ⟨(i 0 : Nat), ht⟩ (0 : Fin 4) * 1 + 1
      rw [hf.1]; dsimp only; omega
    | ⟨1, _⟩ =>
      show win0_10.index ⟨(i 0 : Nat), ht⟩ (1 : Fin 4) * 8 ≤ (i 1 : Nat) ∧ (i 1 : Nat) < win0_10.index ⟨(i 0 : Nat), ht⟩ (1 : Fin 4) * 8 + 8
      rw [hf.2.1]; omega
    | ⟨2, _⟩ =>
      show win0_10.index ⟨(i 0 : Nat), ht⟩ (2 : Fin 4) * 128 ≤ (i 2 : Nat) ∧ (i 2 : Nat) < win0_10.index ⟨(i 0 : Nat), ht⟩ (2 : Fin 4) * 128 + 128
      rw [hf.2.2.1]; omega
    | ⟨3, _⟩ =>
      show win0_10.index ⟨(i 0 : Nat), ht⟩ (3 : Fin 4) * 128 ≤ (i 3 : Nat) ∧ (i 3 : Nat) < win0_10.index ⟨(i 0 : Nat), ht⟩ (3 : Fin 4) * 128 + 128
      rw [hf.2.2.2]; omega

end Cert.HgrnSIdeal.Value

end
-- ==== Proof.HgrnSValue.lean ====
/-
  The samples' HGRN2: the reference read at an entry, and the claim.
-/
module

public import proofs.«01_k».proof.Proof.Gen.HgrnSRefIdeal.Run
public import proofs.«01_k».proof.Defs
public import proofs.«01_k».proof.Defs
public import proofs.«01_k».proof.Proof.HgrnSBlocks
public import Idealize.ShloMosaic.Lib.Pointwise

@[expose] public section

set_option maxRecDepth 16384

noncomputable section

namespace Cert.HgrnSRefIdeal.Value

open Cert.HgrnSRefIdeal Cert.HgrnSRefIdeal.Gen Idealize.ShloMosaic Idealize.ShloMosaic.TcCoe Idealize.SL.Sem

/-- A masked sum is the sum of the gates' logarithms up to a row. -/
theorem masked (g : Fin 4 → EReal) (r : Fin 4) (w : BitVec 32) (hw : w = BitVec.ofNat 32 r.val) (z : EReal) (hz : z = 0) :
    (∑ x : Fin 4, Scalar.select (IntOp.cmpi CmpIPredicate.sle (BitVec.ofNat 32 x.val) w) (g x) z)
      = Cert.HgrnSIdeal.Value.cum g r.val := by
  subst hw hz
  unfold Cert.HgrnSIdeal.Value.cum
  refine Finset.sum_congr rfl fun x _ => ?_
  have hc : ∀ x r : Fin 4, IntOp.cmpi CmpIPredicate.sle (BitVec.ofNat 32 x.val) (BitVec.ofNat 32 r.val) = if x.val ≤ r.val then 1#1 else 0#1 := by
    decide
  rw [hc]
  by_cases h : x.val ≤ r.val
  · rw [if_pos h, if_pos h]
    rfl
  · rw [if_neg h, if_neg h]
    rfl

variable (m : (ℓ : Loc nD τ sig) → Buf (Elt Ideal) ℓ)

theorem read (c : Dev nD) (b : Fin 32) (h : Fin 8) (d v : Fin 128) :
    (res_main_v47 m c : Vec Ideal S32x8x128x128 .f32) (ix4 b h d v)
      = Cert.HgrnSIdeal.Value.G (m ((c : Thread nD τ).loc main_arg0)) (m ((c : Thread nD τ).loc main_arg1)) (m ((c : Thread nD τ).loc main_arg2)) b h d v := by
  have hz : (id (constant (F := Ideal) S_ .f32 0x00000000#32) : Vec Ideal S_ .f32) ix0 = (0 : EReal) := by
    show (constant (F := Ideal) S_ .f32 0x00000000#32 : Vec Ideal S_ .f32) ix0 = (0 : EReal)
    pointwise
  unfold res_main_v47
  pointwise
  simp only [Nat.mul_comm h.val 128]
  unfold Cert.HgrnSIdeal.Value.G Cert.HgrnSIdeal.Value.entry
  refine congrArg₂ (· + ·) (congrArg (· * _) (congrArg Ideal.exp ?_)) (Finset.sum_congr rfl fun x _ => ?_)
  · exact masked _ 3 _ rfl _ hz
  · refine congrArg (· * _) (congrArg₂ (· * ·) ?_ (congrArg Ideal.exp (congrArg₂ (· - ·) ?_ ?_)))
    · rfl
    · exact masked _ 3 _ rfl _ hz
    · exact masked _ x _ rfl _ hz

end Cert.HgrnSRefIdeal.Value

namespace Cert.HgrnSValue

open Idealize.ShloMosaic Idealize.ShloMosaic.TcCoe Idealize.SL.Sem

/-- The precondition's function has its side condition. -/
theorem preFacts : Cert.Pre_bounds_finite.Facts := ⟨by decide⟩

/-- Under the precondition no lower bound is infinite. -/
theorem bound_ne_top (a0 : FVec Ideal Cert.Pre_bounds_finite.S32x4x4096 .f32) (a1 : FVec Ideal Cert.Pre_bounds_finite.S32x8x128x128 .f32)
    (a2 : FVec Ideal Cert.Pre_bounds_finite.S1024 .f32) (a3 : FVec Ideal Cert.Pre_bounds_finite.S128 .f32)
    (h : (haveI := preFacts; Cert.Pre_bounds_finite.fn a0 a1 a2 a3) = fun _ => 1#1) (l : Fin 1024) : a2 (ix1 l) ≠ (⊤ : EReal) := by
  intro e
  have hl := congrFun h (ix1 l)
  revert hl
  unfold Cert.Pre_bounds_finite.fn
  pointwise
  rw [e]
  intro hl
  rw [decide_eq_false not_top_lt] at hl
  exact absurd hl (by decide)

/-- The kernel and the reference agree on the samples' new state. -/
theorem algebraic : Cert.algebraic_HgrnSIdeal_HgrnSRefIdeal_pre_bounds_finite (hHgrnSIdeal := Cert.HgrnSIdeal.Gen.facts)
    (hHgrnSRefIdeal := Cert.HgrnSRefIdeal.Gen.facts) (hPre_bounds_finite := preFacts) := by
  intro m g m' g' hpre hargs
  refine ⟨fun c => Cert.HgrnSIdeal.Value.result m c, ?_, ?_⟩
  · exact (θ_run Cert.HgrnSIdeal.defs _ _).mono
      (fun r h c => ⟨(h c).2.1.trans (Cert.HgrnSIdeal.Value.final_o m c (bound_ne_top _ _ _ _ (hpre c))), (h c).2.2⟩) (Cert.HgrnSIdeal.Value.run_blocks m g)
  · refine (θ_run Cert.HgrnSRefIdeal.defs _ _).mono (fun r h c => ⟨(h c).1.trans ?_, (h c).2⟩) (Cert.HgrnSRefIdeal.Value.run m' g')
    obtain ⟨h0, h1, h2, _⟩ := hargs c
    funext j
    obtain ⟨b, h, d, v, rfl⟩ : ∃ (b : Fin 32) (h : Fin 8) (d v : Fin 128), j = ix4 b h d v := ⟨j 0, j 1, j 2, j 3, eq_ix4 j⟩
    refine (Cert.HgrnSRefIdeal.Value.read m' c b h d v).trans ?_
    rw [h0, h1, h2]
    rfl

end Cert.HgrnSValue

end
-- ==== Proof.HgrnPBody.lean ====
/-
  One head's update of the prompt's HGRN2 over 64 rows, read at an entry: every row counts; the two halves the logarithms are split in
  add up to them.
-/
module

public import proofs.«01_k».proof.Proof.Gen.HgrnPIdeal.Skeleton
public import Idealize.ShloMosaic.Lib.Pointwise

@[expose] public section

set_option maxRecDepth 16384

noncomputable section

namespace Cert.HgrnPIdeal.Value

open Cert.HgrnPIdeal Cert.HgrnPIdeal.Gen Idealize.ShloMosaic Idealize.ShloMosaic.TcCoe Idealize.SL.Sem

/-- A gate: its lower bound and the logistic of its logit over the rest. -/
def gate (lb fz : EReal) : EReal := lb + (1 - lb) * Ideal.logistic fz

/-- The sum of the steps' logarithms, up to and with step `r`. -/
def cum (g : Fin 64 → EReal) (r : ℕ) : EReal := ∑ s : Fin 64, if s.val ≤ r then g s else 0

/-- An entry of the new state, of the chunk's gates and values and the state. -/
def entry (f v : Fin 64 → EReal) (s0 : EReal) : EReal :=
  Ideal.exp (cum (fun s => Ideal.log (f s)) 63) * s0
    + ∑ s : Fin 64, (1 - f s) * Ideal.exp (cum (fun s => Ideal.log (f s)) 63 - cum (fun s => Ideal.log (f s)) s.val) * v s

/-- Whether a row of a point's chunk `j` is one of the prompt's. -/
def live (i : grid0.Coords) (j : BitVec 32) : IVec S64x1 1 :=
  cmpi .slt (addi (broadcast S64x1 (Scalar.muli (Scalar.addi (Scalar.muli (BitVec.ofNat 32 (i 2).val) 2#32) j) 64#32))
    (iota .tc S64x1 32 [0] iota_S64x1_d0_w32)) (broadcast S64x1 16384#32)

/-- The gates' logarithms of a chunk. -/
def logs (i : grid0.Coords) (j : BitVec 32) (lb : Vec Ideal S1x128 .f32) (fz : Vec Ideal S1x64x128 .f32) : FVec Ideal S64x128 .f32 :=
  select (broadcastTo S64x128 (shapeCast S64x1 (live i j) shapeCasts_S64x1_S64x1) broadcasts_S64x1_S64x128) (log (k0_pay20 lb fz))
    (broadcast S64x128 (Scalar.ofBits .f32 0x00000000#32 : Ideal .f32))

/-- The keys of a chunk: what the gates leave over. -/
def keys (i : grid0.Coords) (j : BitVec 32) (lb : Vec Ideal S1x128 .f32) (fz : Vec Ideal S1x64x128 .f32) : FVec Ideal S64x128 .f32 :=
  select (broadcastTo S64x128 (shapeCast S64x1 (live i j) shapeCasts_S64x1_S64x1) broadcasts_S64x1_S64x128)
    (subf (broadcast S64x128 (Scalar.ofBits .f32 0x3F800000#32 : Ideal .f32)) (k0_pay20 lb fz))
    (broadcast S64x128 (Scalar.ofBits .f32 0x00000000#32 : Ideal .f32))

/-- One head's new state (transposed), of its lower bounds, gates' logits and values, the table and its state. -/
def upd (i : grid0.Coords) (j : BitVec 32) (lb : Vec Ideal S1x128 .f32) (fz v : Vec Ideal S1x64x128 .f32) (tab : Vec Ideal S64x64 .bf16)
    (st : Vec Ideal S1x128x128 .f32) : Vec Ideal S1x128x128 .f32 :=
  k0_pay70 (keys i j lb fz) (k0_pay24 v) (k0_pay25 (k0_pay18 tab) (logs i j lb fz)) st

variable (i : grid0.Coords) (j : BitVec 32) (lb : Vec Ideal S1x128 .f32) (fz v : Vec Ideal S1x64x128 .f32) (tab : Vec Ideal S64x64 .bf16)
  (st : Vec Ideal S1x128x128 .f32)

theorem pay20_apply (s : Fin 64) (d : Fin 128) : k0_pay20 lb fz (ix2 s d) = gate (lb (ix2 0 d)) (fz (ix3 0 s d)) := by
  unfold gate
  pointwise [Gen.k0_pay20]

theorem rows_live : ∀ (q : Fin 128) (s : Fin 64),
    IntOp.cmpi .slt (IntOp.addi (Scalar.muli (Scalar.addi (Scalar.muli (BitVec.ofNat 32 q.val) 2#32) 0#32) 64#32) (BitVec.ofNat 32 s.val)) 16384#32 = 1#1
    ∧ IntOp.cmpi .slt (IntOp.addi (Scalar.muli (Scalar.addi (Scalar.muli (BitVec.ofNat 32 q.val) 2#32) 1#32) 64#32) (BitVec.ofNat 32 s.val)) 16384#32 = 1#1 := by
  decide +kernel

theorem live_apply (hj : j = 0#32 ∨ j = 1#32) (s : Fin 64) : live i j (ix2 s 0) = 1#1 := by
  have h := rows_live ⟨(i 2).val, (i 2).isLt⟩ s
  rcases hj with rfl | rfl
  · refine Eq.trans ?_ h.1
    pointwise [live]
  · refine Eq.trans ?_ h.2
    pointwise [live]

theorem logs_apply (hj : j = 0#32 ∨ j = 1#32) (s : Fin 64) (d : Fin 128) : logs i j lb fz (ix2 s d)
    = Ideal.log (gate (lb (ix2 0 d)) (fz (ix3 0 s d))) := by
  pointwise [logs]
  rw [live_apply i j hj, pay20_apply]
  rfl

theorem keys_apply (hj : j = 0#32 ∨ j = 1#32) (s : Fin 64) (d : Fin 128) : keys i j lb fz (ix2 s d)
    = 1 - gate (lb (ix2 0 d)) (fz (ix3 0 s d)) := by
  pointwise [keys]
  rw [live_apply i j hj, pay20_apply]
  pointwise

theorem pay25_apply (lf : Vec Ideal S64x128 .f32) (r : Fin 64) (d : Fin 128) : k0_pay25 (k0_pay18 tab) lf (ix2 r d)
    = ∑ s, tab (ix2 r s) * lf (ix2 s d) + ∑ s, tab (ix2 r s) * (lf (ix2 s d) - lf (ix2 s d)) := by
  pointwise [Gen.k0_pay25, Gen.k0_pay18]

theorem pay70_apply (k vv b : Vec Ideal S64x128 .f32) (x d : Fin 128) : k0_pay70 k vv b st (ix3 0 x d)
    = st (ix3 0 x d) * Ideal.exp (b (ix2 63 d)) + ∑ s, vv (ix2 s x) * (k (ix2 s d) * Ideal.exp (b (ix2 63 d) - b (ix2 s d))) := by
  pointwise [Gen.k0_pay70, Gen.k0_pay68]

theorem pay24_apply (s : Fin 64) (d : Fin 128) : k0_pay24 v (ix2 s d) = v (ix3 0 s d) := by
  pointwise [Gen.k0_pay24]

theorem add_sub_self (x : EReal) (h : x ≠ ⊤) : x + (x - x) = x := by
  induction x using EReal.rec with
  | bot => rfl
  | top => exact absurd rfl h
  | coe r => rw [← EReal.coe_sub, ← EReal.coe_add, add_sub_cancel]

theorem table_sum (tb lf : Fin 64 → EReal) (r : ℕ) (htb : ∀ s : Fin 64, tb s = if s.val ≤ r then 1 else 0)
    (hlf : ∀ s, lf s ≠ ⊤) : ∑ s, tb s * lf s + ∑ s, tb s * (lf s - lf s) = cum lf r := by
  rw [← Finset.sum_add_distrib]
  unfold cum
  refine Finset.sum_congr rfl fun s _ => ?_
  rw [htb]
  split
  · rw [one_mul, one_mul]
    exact add_sub_self _ (hlf s)
  · rw [zero_mul, zero_mul, add_zero]

theorem upd_finite (hj : j = 0#32 ∨ j = 1#32) (x d : Fin 128) (htab : ∀ r s : Fin 64, tab (ix2 r s) = if s.val ≤ r.val then 1 else 0)
    (hg : ∀ s : Fin 64, Ideal.log (gate (lb (ix2 0 d)) (fz (ix3 0 s d))) ≠ ⊤) :
    upd i j lb fz v tab st (ix3 0 x d)
      = entry (fun s => gate (lb (ix2 0 d)) (fz (ix3 0 s d))) (fun s => v (ix3 0 s x)) (st (ix3 0 x d)) := by
  have hb : ∀ r : Fin 64, k0_pay25 (k0_pay18 tab) (logs i j lb fz) (ix2 r d)
      = cum (fun s => Ideal.log (gate (lb (ix2 0 d)) (fz (ix3 0 s d)))) r.val := by
    intro r
    rw [pay25_apply]
    refine (table_sum (fun s => tab (ix2 r s)) (fun s => logs i j lb fz (ix2 s d)) r.val (fun s => htab r s) (fun s => ?_)).trans ?_
    · show logs i j lb fz (ix2 s d) ≠ ⊤
      rw [logs_apply i j lb fz hj]
      exact hg s
    · exact congrArg (fun g => cum g r.val) (funext fun s => logs_apply i j lb fz hj s d)
  unfold upd
  rw [pay70_apply, hb]
  unfold entry
  rw [mul_comm (st _)]
  congr 1
  refine Finset.sum_congr rfl fun s _ => ?_
  rw [hb, keys_apply i j lb fz hj, pay24_apply, mul_comm]
  rfl

theorem exp_bot : Ideal.exp ⊥ = 0 := rfl

theorem logistic_real (x : EReal) : ∃ q : ℝ, Ideal.logistic x = (q : EReal) := by
  induction x using EReal.rec with
  | bot => exact ⟨0, Ideal.logistic_bot⟩
  | top => exact ⟨1, Ideal.logistic_top⟩
  | coe r => exact ⟨_, Ideal.logistic_coe r⟩

/-- A gate whose lower bound is +infinity is infinite, and so is its logarithm. -/
theorem log_top (x : EReal) : Ideal.log (gate ⊤ x) = ⊤ ∨ Ideal.log (gate ⊤ x) = ⊥ := by
  obtain ⟨q, hq⟩ := logistic_real x
  have h1 : (1 : EReal) - ⊤ = ⊥ := rfl
  unfold gate
  rw [hq, h1]
  rcases lt_trichotomy q 0 with h | h | h
  · left; rw [EReal.bot_mul_coe_of_neg h]; rfl
  · left; rw [h, EReal.coe_zero, mul_zero, add_zero]; rfl
  · right; rw [EReal.bot_mul_coe_of_pos h]; rfl

theorem sum_bot (f : Fin 64 → EReal) (s : Fin 64) (h : f s = ⊥) : ∑ k, f k = ⊥ := by
  rw [← Finset.add_sum_erase Finset.univ f (Finset.mem_univ s), h, EReal.bot_add]

/-- Where the logarithms are infinite, each of the factors `exp (last - s)` is zero. -/
theorem cum_diff (g : Fin 64 → EReal) (hg : ∀ s, g s = ⊤ ∨ g s = ⊥) (s : Fin 64) : cum g 63 - cum g s.val = ⊥ := by
  by_cases hb : ∃ k, g k = ⊥
  · obtain ⟨k, hk⟩ := hb
    have : cum g 63 = ⊥ := sum_bot _ k (by rw [if_pos (by omega)]; exact hk)
    rw [this, sub_eq_add_neg, EReal.bot_add]
  · have ht : ∀ r : ℕ, cum g r = ⊤ := by
      intro r
      have hg' : ∀ k, g k = ⊤ := fun k => (hg k).resolve_right fun h => hb ⟨k, h⟩
      unfold cum
      rw [← Finset.add_sum_erase Finset.univ _ (Finset.mem_univ (0 : Fin 64)), if_pos (show ((0 : Fin 64) : ℕ) ≤ r from Nat.zero_le _), hg']
      refine EReal.top_add_of_ne_bot (ne_bot_of_le_ne_bot (b := 0) (by decide) (Finset.sum_nonneg fun k _ => ?_))
      rw [hg']
      split
      · exact le_top
      · exact le_refl _
    rw [ht, ht]
    rfl

/-- With a lower bound of +infinity an entry of zero stays zero. -/
theorem entry_top (fz v : Fin 64 → EReal) : entry (fun s => gate ⊤ (fz s)) v 0 = 0 := by
  unfold entry
  rw [mul_zero, zero_add]
  refine Finset.sum_eq_zero fun s _ => ?_
  rw [cum_diff _ (fun s => log_top (fz s)) s, exp_bot, mul_zero, zero_mul]

theorem log_ne_top (a x : EReal) (h : a ≠ ⊤) : Ideal.log (gate a x) ≠ ⊤ := by
  obtain ⟨q, hq⟩ := logistic_real x
  unfold gate
  rw [hq]
  induction a using EReal.rec with
  | bot =>
    rw [EReal.bot_add]
    exact bot_ne_top
  | top => exact absurd rfl h
  | coe r =>
    rw [← EReal.coe_one, ← EReal.coe_sub, ← EReal.coe_mul, ← EReal.coe_add]
    show (if _ ≤ (0 : ℝ) then ⊥ else ((Real.log _ : ℝ) : EReal)) ≠ ⊤
    split
    · exact bot_ne_top
    · exact EReal.coe_ne_top _

/-- With a lower bound of +infinity the split logarithms add up to -infinity, and nothing is left. -/
theorem upd_top (hj : j = 0#32 ∨ j = 1#32) (x d : Fin 128) (htab : ∀ r s : Fin 64, tab (ix2 r s) = if s.val ≤ r.val then 1 else 0)
    (hl : lb (ix2 0 d) = ⊤) : upd i j lb fz v tab st (ix3 0 x d) = 0 := by
  have hb : ∀ r : Fin 64, k0_pay25 (k0_pay18 tab) (logs i j lb fz) (ix2 r d) = ⊥ := by
    intro r
    rw [pay25_apply, sum_bot (fun s => tab (ix2 r s) * (logs i j lb fz (ix2 s d) - logs i j lb fz (ix2 s d))) 0 ?_, EReal.add_bot]
    show tab (ix2 r 0) * (logs i j lb fz (ix2 0 d) - logs i j lb fz (ix2 0 d)) = ⊥
    rw [htab, if_pos (show ((0 : Fin 64) : ℕ) ≤ r.val from Nat.zero_le _), one_mul, logs_apply i j lb fz hj, hl]
    rcases log_top (fz (ix3 0 0 d)) with h | h
    · rw [h]; rfl
    · rw [h]; rfl
  unfold upd
  rw [pay70_apply, hb, exp_bot, mul_zero, zero_add]
  refine Finset.sum_eq_zero fun s _ => ?_
  rw [sub_eq_add_neg, EReal.bot_add, exp_bot, mul_zero, mul_zero]

/-- The update is the entry's formula, if an entry whose lower bound is +infinity comes in as zero. -/
theorem upd_apply (hj : j = 0#32 ∨ j = 1#32) (x d : Fin 128) (htab : ∀ r s : Fin 64, tab (ix2 r s) = if s.val ≤ r.val then 1 else 0)
    (hst : lb (ix2 0 d) = ⊤ → st (ix3 0 x d) = 0) :
    upd i j lb fz v tab st (ix3 0 x d)
      = entry (fun s => gate (lb (ix2 0 d)) (fz (ix3 0 s d))) (fun s => v (ix3 0 s x)) (st (ix3 0 x d)) := by
  by_cases hl : lb (ix2 0 d) = ⊤
  · rw [upd_top i j lb fz v tab st hj x d htab hl, hst hl, hl]
    exact (entry_top _ _).symm
  · exact upd_finite i j lb fz v tab st hj x d htab fun s => log_ne_top _ _ hl

/-- A row of a chunk of 64 of the projection. -/
def row (z : Vec Ideal S1x16384x4096 .f32) (n : ℕ) (s : Fin 64) (l : Fin 4096) : EReal :=
  z (ix3 0 ⟨(64 * n + s.val) % 16384, Nat.mod_lt _ (by decide)⟩ l)

/-- The state after the first `n` chunks, an entry. -/
def chain (z : Vec Ideal S1x16384x4096 .f32) (lb : Vec Ideal S1024 .f32) : ℕ → Fin 8 → Fin 128 → Fin 128 → EReal
  | 0 => fun _ _ _ => 0
  | n + 1 => fun h d v =>
    entry (fun s => gate (lb (ix1 ⟨128 * h.val + d.val, by omega⟩)) (row z n s ⟨1024 + (128 * h.val + d.val), by omega⟩))
      (fun s => row z n s ⟨2048 + (128 * h.val + v.val), by omega⟩) (chain z lb n h d v)

theorem entry_congr {f f' v v' : Fin 64 → EReal} {s s' : EReal} (hf : ∀ k, f k = f' k) (hv : ∀ k, v k = v' k) (hs : s = s') :
    entry f v s = entry f' v' s' := by
  rw [funext hf, funext hv, hs]

/-- Where the lower bound is +infinity the state stays zero. -/
theorem chain_top (z : Vec Ideal S1x16384x4096 .f32) (lb : Vec Ideal S1024 .f32) (h : Fin 8) (d v : Fin 128)
    (hl : lb (ix1 ⟨128 * h.val + d.val, by omega⟩) = (⊤ : EReal)) : ∀ n, chain z lb n h d v = 0
  | 0 => rfl
  | n + 1 => by
    show entry _ _ (chain z lb n h d v) = 0
    rw [chain_top z lb h d v hl n, hl]
    exact entry_top _ _

end Cert.HgrnPIdeal.Value

end
-- ==== Proof.HgrnPHeads.lean ====
/-
  What a point of the prompt's HGRN2 call leaves in the carried scratch, of what the point before left there: two chunks, each updating
  the eight heads' states one after the other; the first point first writes the states as brought in.
-/
module

public import proofs.«01_k».proof.Proof.Gen.HgrnPIdeal.Frame
public import proofs.«01_k».proof.Proof.HgrnPBody
public import Idealize.ShloMosaic.Lib.Pointwise
public import Idealize.ShloMosaic.Lib.WholeRead
public import Idealize.ShloMosaic.Lib.WritesUnit

@[expose] public section

set_option maxRecDepth 16384

noncomputable section

namespace Cert.HgrnPIdeal.Value

open Cert.HgrnPIdeal Cert.HgrnPIdeal.Gen Idealize.ShloMosaic Idealize.ShloMosaic.TcCoe Idealize.SL.Sem

theorem inbS (h : Fin 8) : ∀ a, (![h.val, 0, 0] : Fin 3 → Nat) a + S1x128x128.size a ≤ S8x128x128.size a := by
  intro a
  match a with
  | ⟨0, _⟩ => show h.val + 1 ≤ 8; omega
  | ⟨1, _⟩ => show 0 + 128 ≤ 128; omega
  | ⟨2, _⟩ => show 0 + 128 ≤ 128; omega

theorem inbO (h : Fin 8) : ∀ a, (![0, h.val, 0, 0] : Fin 4 → Nat) a + S1x1x128x128.size a ≤ S1x8x128x128.size a := by
  intro a
  match a with
  | ⟨0, _⟩ => show 0 + 1 ≤ 1; omega
  | ⟨1, _⟩ => show h.val + 1 ≤ 8; omega
  | ⟨2, _⟩ => show 0 + 128 ≤ 128; omega
  | ⟨3, _⟩ => show 0 + 128 ≤ 128; omega

theorem inbL (h : Fin 8) : ∀ a, (![0, 128 * h.val] : Fin 2 → Nat) a + S1x128.size a ≤ S1x1024.size a := by
  intro a
  match a with
  | ⟨0, _⟩ => show 0 + 1 ≤ 1; omega
  | ⟨1, _⟩ => show 128 * h.val + 128 ≤ 1024; omega

theorem inbZ (j : Fin 2) (h : Fin 8) : ∀ a, (![0, 64 * j.val, 128 * h.val] : Fin 3 → Nat) a + S1x64x128.size a ≤ S1x128x1024.size a := by
  intro a
  match a with
  | ⟨0, _⟩ => show 0 + 1 ≤ 1; omega
  | ⟨1, _⟩ => show 64 * j.val + 64 ≤ 128; omega
  | ⟨2, _⟩ => show 128 * h.val + 128 ≤ 1024; omega

/-- A head's rows of the scratch. -/
abbrev headR (h : Fin 8) : Rect S8x128x128 := Rect.unit (s := S8x128x128) ![h.val, 0, 0] S1x128x128.size (inbS h)

theorem headR_idx (h : Fin 8) (v d : Fin 128) : (headR h).toLoadRect.idx (ix3 0 v d) = (ix3 h v d : S8x128x128.Idx) := by
  funext a
  apply Fin.ext
  match a with
  | ⟨0, _⟩ => show h.val + 1 * 0 = h.val; omega
  | ⟨1, _⟩ => show 0 + 1 * v.val = v.val; omega
  | ⟨2, _⟩ => show 0 + 1 * d.val = d.val; omega

theorem pay10_apply (w : Vec Ideal S1x128x128 .f32) (d v : Fin 128) : k0_pay10 w (ix4 0 0 d v) = w (ix3 0 v d) := by
  pointwise [Gen.k0_pay10]

theorem pay6_apply (w : Vec Ideal S1x1x128x128 .f32) (v d : Fin 128) : k0_pay6 w (ix3 0 v d) = w (ix4 0 0 d v) := by
  pointwise [k0_pay6]

section Block
variable (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x8x128x128 .f32) (harg9 : arg9.IsWhole) (arg10 : Memref sig .tc .vmem S64x64 .bf16) (harg10 : arg10.IsWhole) (arg11 : Memref sig .tc .vmem S7x64x64 .f32) (harg11 : arg11.IsWhole)
  (arg12 : Memref sig .tc .vmem S1x128x1024 .f32) (harg12 : arg12.IsWhole) (arg13 : Memref sig .tc .vmem S1x8x128x128 .f32) (harg13 : arg13.IsWhole) (arg14 : Memref sig .tc .vmem S8x128x128 .f32) (harg14 : arg14.IsWhole)
  (x0 : Vec Ideal S1x128x1024 .f32) (x1 : Vec Ideal S1x128x1024 .f32) (x2 : Vec Ideal S1x128x1024 .f32) (x3 : Vec Ideal S1x128x1024 .f32) (x4 : Vec Ideal S1x1024 .f32) (x5 : Vec Ideal S1x128 .f32) (x6 : Vec Ideal S1x8x128x128 .f32) (x7 : Vec Ideal S64x64 .bf16) (x8 : Vec Ideal S7x64x64 .f32)
  (xs0 : Vec Ideal S8x128x128 .f32)

/-- The states as brought in, each head's transposed: the first `k` heads' pieces, the last first. -/
def inits : (k : ℕ) → k ≤ 8 → List (View.Piece (Elt Ideal) S8x128x128 .f32)
  | 0, _ => []
  | k + 1, h => ⟨Rect.unit (s := S8x128x128) ![(⟨k, h⟩ : Fin 8).val, 0, 0] S1x128x128.size (inbS ⟨k, h⟩),
      k0_pay6 (View.readAt (Elt Ideal) arg9.view (Rect.unit (s := S1x8x128x128) ![0, (⟨k, h⟩ : Fin 8).val, 0, 0] S1x1x128x128.size (inbO ⟨k, h⟩)).toLoadRect (harg9.unread x6))⟩
      :: inits k (by omega)

/-- One head's new state after a chunk, of the blocks and its state as read. -/
def updH (j : Fin 2) (h : Fin 8) (st : Vec Ideal S1x128x128 .f32) : Vec Ideal S1x128x128 .f32 :=
  upd i (BitVec.ofNat 32 j.val) (View.readAt (Elt Ideal) arg7.view (Rect.unit (s := S1x1024) ![0, 128 * h.val] S1x128.size (inbL h)).toLoadRect (harg7.unread x4))
    (View.readAt (Elt Ideal) arg4.view (Rect.unit (s := S1x128x1024) ![0, 64 * j.val, 128 * h.val] S1x64x128.size (inbZ j h)).toLoadRect (harg4.unread x1))
    (View.readAt (Elt Ideal) arg5.view (Rect.unit (s := S1x128x1024) ![0, 64 * j.val, 128 * h.val] S1x64x128.size (inbZ j h)).toLoadRect (harg5.unread x2))
    (View.readAt (Elt Ideal) arg10.view (Rect.unit (s := S64x64) ![0, 0] S64x64.size inb_S64x64_S64x64_0_0).toLoadRect (harg10.unread x7)) st

/-- The first `k` heads' new states after a chunk over what was written before it, the last first. -/
def over (j : Fin 2) (base : List (View.Piece (Elt Ideal) S8x128x128 .f32)) : (k : ℕ) → k ≤ 8 → List (View.Piece (Elt Ideal) S8x128x128 .f32)
  | 0, _ => base
  | k + 1, h => ⟨headR ⟨k, h⟩, updH i arg4 harg4 arg5 harg5 arg7 harg7 arg10 harg10 x1 x2 x4 x7 j ⟨k, h⟩
        (arg14.view.readCov (over j base k (by omega)) (headR ⟨k, h⟩).toLoadRect)⟩
      :: over j base k (by omega)

/-- The first `k` heads' new states after a point's first chunk, of the states the point before left, the last first. -/
def firsts : (k : ℕ) → k ≤ 8 → List (View.Piece (Elt Ideal) S8x128x128 .f32)
  | 0, _ => []
  | k + 1, h => ⟨headR ⟨k, h⟩, updH i arg4 harg4 arg5 harg5 arg7 harg7 arg10 harg10 x1 x2 x4 x7 0 ⟨k, h⟩
        (View.readAt (Elt Ideal) arg14.view (headR ⟨k, h⟩).toLoadRect (harg14.unread xs0))⟩
      :: firsts k (by omega)

/-- One head's state as brought in, transposed. -/
def initH (h : Fin 8) : Vec Ideal S1x128x128 .f32 :=
  k0_pay6 (View.readAt (Elt Ideal) arg9.view (Rect.unit (s := S1x8x128x128) ![0, h.val, 0, 0] S1x1x128x128.size (inbO h)).toLoadRect (harg9.unread x6))

/-- One head's state as the point before left it. -/
def prevH (h : Fin 8) : Vec Ideal S1x128x128 .f32 :=
  View.readAt (Elt Ideal) arg14.view (headR h).toLoadRect (harg14.unread xs0)

variable (W : View sig .tc .vmem S8x128x128 .f32)

theorem read_inits (h : Fin 8) (v d : Fin 128) : (k : ℕ) → (hk : k ≤ 8) → h.val < k →
    View.read (Elt Ideal) W (W.writes (Elt Ideal) W.junk (inits arg9 harg9 x6 k hk)) (ix3 h v d) = initH arg9 harg9 x6 h (ix3 0 v d)
  | 0, _, hh => by omega
  | k + 1, hk, hh => by
    by_cases e : h.val = k
    · obtain rfl : h = ⟨k, hk⟩ := Fin.ext e
      refine (View.read_writes_cons_unit_of_mem _ _ _ _ _ _ (ix3 (0 : Fin 1) v d) rfl ?_).trans (congrFun (by unfold initH; rfl) (ix3 0 v d))
      intro a
      match a with
      | ⟨0, _⟩ => show k = k + 0; omega
      | ⟨1, _⟩ => show v.val = 0 + v.val; omega
      | ⟨2, _⟩ => show d.val = 0 + d.val; omega
    · refine (View.read_writes_cons_unit_of_not_mem _ _ _ _ _ _ rfl (0 : Fin 3) (Or.inl (by show h.val < k; omega))).trans ?_
      exact read_inits h v d k (by omega) (by omega)

theorem read_firsts (h : Fin 8) (v d : Fin 128) : (k : ℕ) → (hk : k ≤ 8) → h.val < k →
    View.read (Elt Ideal) W (W.writes (Elt Ideal) W.junk (firsts i arg4 harg4 arg5 harg5 arg7 harg7 arg10 harg10 arg14 harg14 x1 x2 x4 x7 xs0 k hk)) (ix3 h v d)
      = updH i arg4 harg4 arg5 harg5 arg7 harg7 arg10 harg10 x1 x2 x4 x7 0 h (prevH arg14 harg14 xs0 h) (ix3 0 v d)
  | 0, _, hh => by omega
  | k + 1, hk, hh => by
    by_cases e : h.val = k
    · obtain rfl : h = ⟨k, hk⟩ := Fin.ext e
      refine (View.read_writes_cons_unit_of_mem _ _ _ _ _ _ (ix3 (0 : Fin 1) v d) rfl ?_).trans (congrFun (by unfold prevH; rfl) (ix3 0 v d))
      intro a
      match a with
      | ⟨0, _⟩ => show k = k + 0; omega
      | ⟨1, _⟩ => show v.val = 0 + v.val; omega
      | ⟨2, _⟩ => show d.val = 0 + d.val; omega
    · refine (View.read_writes_cons_unit_of_not_mem _ _ _ _ _ _ rfl (0 : Fin 3) (Or.inl (by show h.val < k; omega))).trans ?_
      exact read_firsts h v d k (by omega) (by omega)

/-- A chunk's writes over a list of writes that leaves the states `B`. -/
theorem read_over (j : Fin 2) (base : List (View.Piece (Elt Ideal) S8x128x128 .f32)) (B : Fin 8 → Vec Ideal S1x128x128 .f32)
    (hB : ∀ (W : View sig .tc .vmem S8x128x128 .f32) (h : Fin 8) (v d : Fin 128), View.read (Elt Ideal) W (W.writes (Elt Ideal) W.junk base) (ix3 h v d) = B h (ix3 0 v d)) : (k : ℕ) → (hk : k ≤ 8) →
    ∀ (W : View sig .tc .vmem S8x128x128 .f32) (h : Fin 8) (v d : Fin 128), View.read (Elt Ideal) W (W.writes (Elt Ideal) W.junk (over i arg4 harg4 arg5 harg5 arg7 harg7 arg10 harg10 arg14 x1 x2 x4 x7 j base k hk)) (ix3 h v d)
      = if h.val < k then updH i arg4 harg4 arg5 harg5 arg7 harg7 arg10 harg10 x1 x2 x4 x7 j h (B h) (ix3 0 v d) else B h (ix3 0 v d)
  | 0, _ => fun W h v d => by
    rw [if_neg (by omega)]
    exact hB W h v d
  | k + 1, hk => fun W h v d => by
    by_cases e : h.val = k
    · obtain rfl : h = ⟨k, hk⟩ := Fin.ext e
      rw [if_pos (by show k < k + 1; omega)]
      refine (View.read_writes_cons_unit_of_mem _ _ _ _ _ _ (ix3 (0 : Fin 1) v d) rfl ?_).trans ?_
      · intro a
        match a with
        | ⟨0, _⟩ => show k = k + 0; omega
        | ⟨1, _⟩ => show v.val = 0 + v.val; omega
        | ⟨2, _⟩ => show d.val = 0 + d.val; omega
      · refine congrFun (congrArg (updH i arg4 harg4 arg5 harg5 arg7 harg7 arg10 harg10 x1 x2 x4 x7 j ⟨k, hk⟩) ?_) _
        funext q
        obtain ⟨z, v', d', rfl⟩ : ∃ (z : Fin 1) (v' d' : Fin 128), q = ix3 z v' d' := ⟨q 0, q 1, q 2, eq_ix3 q⟩
        obtain rfl : z = 0 := Subsingleton.elim _ _
        show View.read (Elt Ideal) arg14.view _ _ = _
        refine (congrArg _ (headR_idx ⟨k, hk⟩ v' d')).trans ((read_over j base B hB k (by omega) arg14.view ⟨k, hk⟩ v' d').trans ?_)
        exact if_neg (by show ¬ k < k; omega)
    · refine (View.read_writes_cons_unit_of_not_mem _ _ _ _ _ _ rfl (0 : Fin 3) ?_).trans ((read_over j base B hB k (by omega) W h v d).trans ?_)
      · by_cases l : h.val < k
        · exact Or.inl l
        · exact Or.inr (by show k + 1 ≤ h.val; omega)
      · by_cases l : h.val < k
        · rw [if_pos l, if_pos (by omega)]
        · rw [if_neg l, if_neg (by omega)]

/-- One head's state after a point's two chunks. -/
def pointH (h : Fin 8) (st : Vec Ideal S1x128x128 .f32) : Vec Ideal S1x128x128 .f32 :=
  updH i arg4 harg4 arg5 harg5 arg7 harg7 arg10 harg10 x1 x2 x4 x7 1 h (updH i arg4 harg4 arg5 harg5 arg7 harg7 arg10 harg10 x1 x2 x4 x7 0 h st)

/-- What is written at the first point. -/
abbrev listA : List (View.Piece (Elt Ideal) S8x128x128 .f32) :=
  over i arg4 harg4 arg5 harg5 arg7 harg7 arg10 harg10 arg14 x1 x2 x4 x7 1
    (over i arg4 harg4 arg5 harg5 arg7 harg7 arg10 harg10 arg14 x1 x2 x4 x7 0 (inits arg9 harg9 x6 8 (le_refl 8)) 8 (le_refl 8)) 8 (le_refl 8)

/-- What is written at a later point. -/
abbrev listB : List (View.Piece (Elt Ideal) S8x128x128 .f32) :=
  over i arg4 harg4 arg5 harg5 arg7 harg7 arg10 harg10 arg14 x1 x2 x4 x7 1
    (firsts i arg4 harg4 arg5 harg5 arg7 harg7 arg10 harg10 arg14 harg14 x1 x2 x4 x7 xs0 8 (le_refl 8)) 8 (le_refl 8)

theorem read_listA (h : Fin 8) (v d : Fin 128) :
    View.read (Elt Ideal) W (W.writes (Elt Ideal) W.junk (listA i arg4 harg4 arg5 harg5 arg7 harg7 arg9 harg9 arg10 harg10 arg14 x1 x2 x4 x6 x7)) (ix3 h v d)
      = pointH i arg4 harg4 arg5 harg5 arg7 harg7 arg10 harg10 x1 x2 x4 x7 h (initH arg9 harg9 x6 h) (ix3 0 v d) := by
  refine (read_over i arg4 harg4 arg5 harg5 arg7 harg7 arg10 harg10 arg14 x1 x2 x4 x7 1 _
    (fun h => updH i arg4 harg4 arg5 harg5 arg7 harg7 arg10 harg10 x1 x2 x4 x7 0 h (initH arg9 harg9 x6 h)) (fun W h v d => ?_) 8 (le_refl 8) W h v d).trans (if_pos h.isLt)
  exact (read_over i arg4 harg4 arg5 harg5 arg7 harg7 arg10 harg10 arg14 x1 x2 x4 x7 0 _
    (initH arg9 harg9 x6) (fun W h v d => read_inits arg9 harg9 x6 W h v d 8 (le_refl 8) h.isLt) 8 (le_refl 8) W h v d).trans (if_pos h.isLt)

theorem read_listB (h : Fin 8) (v d : Fin 128) :
    View.read (Elt Ideal) W (W.writes (Elt Ideal) W.junk (listB i arg4 harg4 arg5 harg5 arg7 harg7 arg10 harg10 arg14 harg14 x1 x2 x4 x7 xs0)) (ix3 h v d)
      = pointH i arg4 harg4 arg5 harg5 arg7 harg7 arg10 harg10 x1 x2 x4 x7 h (prevH arg14 harg14 xs0 h) (ix3 0 v d) :=
  (read_over i arg4 harg4 arg5 harg5 arg7 harg7 arg10 harg10 arg14 x1 x2 x4 x7 1 _
    (fun h => updH i arg4 harg4 arg5 harg5 arg7 harg7 arg10 harg10 x1 x2 x4 x7 0 h (prevH arg14 harg14 xs0 h))
    (fun W h v d => read_firsts i arg4 harg4 arg5 harg5 arg7 harg7 arg10 harg10 arg14 harg14 x1 x2 x4 x7 xs0 W h v d 8 (le_refl 8) h.isLt) 8 (le_refl 8) W h v d).trans (if_pos h.isLt)

theorem prevH_apply (h : Fin 8) (v d : Fin 128) : prevH arg14 harg14 xs0 h (ix3 0 v d) = xs0 (ix3 h v d) := by
  unfold prevH
  exact (harg14.readAt_unread xs0 _ _).trans (congrArg xs0 (headR_idx h v d))

/-- The new states, each head's transposed back: the first `k` heads' pieces, the last first. -/
def outs : (k : ℕ) → k ≤ 8 → List (View.Piece (Elt Ideal) S1x8x128x128 .f32)
  | 0, _ => []
  | k + 1, h => ⟨Rect.unit (s := S1x8x128x128) ![0, (⟨k, h⟩ : Fin 8).val, 0, 0] S1x1x128x128.size (inbO ⟨k, h⟩),
      k0_pay10 (arg14.view.readCov (listB i arg4 harg4 arg5 harg5 arg7 harg7 arg10 harg10 arg14 harg14 x1 x2 x4 x7 xs0) (headR ⟨k, h⟩).toLoadRect)⟩
      :: outs k (by omega)

theorem read_outs (h : Fin 8) (d v : Fin 128) : (k : ℕ) → (hk : k ≤ 8) → h.val < k →
    View.read (Elt Ideal) VO0_10 (VO0_10.writes (Elt Ideal) VO0_10.junk (outs i arg4 harg4 arg5 harg5 arg7 harg7 arg10 harg10 arg14 harg14 x1 x2 x4 x7 xs0 k hk)) (ix4 0 h d v)
      = pointH i arg4 harg4 arg5 harg5 arg7 harg7 arg10 harg10 x1 x2 x4 x7 h (prevH arg14 harg14 xs0 h) (ix3 0 v d)
  | 0, _, hh => by omega
  | k + 1, hk, hh => by
    by_cases e : h.val = k
    · obtain rfl : h = ⟨k, hk⟩ := Fin.ext e
      refine (View.read_writes_cons_unit_of_mem _ _ _ _ _ _ (ix4 (0 : Fin 1) (0 : Fin 1) d v) rfl ?_).trans ?_
      · intro a
        match a with
        | ⟨0, _⟩ => rfl
        | ⟨1, _⟩ => show k = k + 0; omega
        | ⟨2, _⟩ => show d.val = 0 + d.val; omega
        | ⟨3, _⟩ => show v.val = 0 + v.val; omega
      · refine (pay10_apply _ d v).trans ?_
        show View.read (Elt Ideal) arg14.view _ _ = _
        exact (congrArg _ (headR_idx ⟨k, hk⟩ v d)).trans (read_listB i arg4 harg4 arg5 harg5 arg7 harg7 arg10 harg10 arg14 harg14 x1 x2 x4 x7 xs0 arg14.view ⟨k, hk⟩ v d)
    · refine (View.read_writes_cons_unit_of_not_mem _ _ _ _ _ _ rfl (1 : Fin 4) (Or.inl (by show h.val < k; omega))).trans ?_
      exact read_outs h d v k (by omega) (by omega)

/-- What the first point leaves in the scratch, at an entry. -/
theorem soutA_apply (hc0 : cond0_0 i) (hc1 : ¬cond0_1 i) (h : Fin 8) (v d : Fin 128) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 (ix3 h v d) = pointH i arg4 harg4 arg5 harg5 arg7 harg7 arg10 harg10 x1 x2 x4 x7 h (initH arg9 harg9 x6 h) (ix3 0 v d) := by
  unfold sout0_A_0 kernelRun0_A
  exact read_listA i arg4 harg4 arg5 harg5 arg7 harg7 arg9 harg9 arg10 harg10 arg14 x1 x2 x4 x6 x7 VS0_0 h v d

/-- What a point between leaves in the scratch, at an entry. -/
theorem soutB_apply (hc0 : ¬cond0_0 i) (hc1 : ¬cond0_1 i) (h : Fin 8) (v d : Fin 128) :
    sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 (ix3 h v d) = pointH i arg4 harg4 arg5 harg5 arg7 harg7 arg10 harg10 x1 x2 x4 x7 h (prevH arg14 harg14 xs0 h) (ix3 0 v d) := by
  unfold sout0_B_0 kernelRun0_B
  exact read_listB i arg4 harg4 arg5 harg5 arg7 harg7 arg10 harg10 arg14 harg14 x1 x2 x4 x7 xs0 VS0_0 h v d

/-- What the last point leaves in the second output, at an entry. -/
theorem out10_apply (hc0 : ¬cond0_0 i) (hc1 : cond0_1 i) (h : Fin 8) (d v : Fin 128) :
    out0_C_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 (ix4 0 h d v) = pointH i arg4 harg4 arg5 harg5 arg7 harg7 arg10 harg10 x1 x2 x4 x7 h (prevH arg14 harg14 xs0 h) (ix3 0 v d) := by
  unfold out0_C_10 kernelRun0_C
  exact read_outs i arg4 harg4 arg5 harg5 arg7 harg7 arg10 harg10 arg14 harg14 x1 x2 x4 x7 xs0 h d v 8 (le_refl 8) h.isLt

end Block
end Cert.HgrnPIdeal.Value

end
-- ==== Proof.HgrnPBlocks.lean ====
/-
  The prompt's state as a function of the arguments: the blocks of a point, the scratch after every point, and the last point's write.
-/
module

public import proofs.«01_k».proof.Proof.Gen.HgrnPIdeal.Value
public import proofs.«01_k».proof.Proof.HgrnPHeads
public import Idealize.ShloMosaic.Lib.Pointwise
public import Idealize.ShloMosaic.Lib.WholeRead
public import Idealize.ShloMosaic.Lib.WritesUnit

@[expose] public section

set_option maxRecDepth 16384

noncomputable section

namespace Cert.HgrnPIdeal.Value

open Cert.HgrnPIdeal Cert.HgrnPIdeal.Gen Idealize.ShloMosaic Idealize.ShloMosaic.TcCoe Idealize.SL.Sem

section Block
variable (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x8x128x128 .f32) (harg9 : arg9.IsWhole) (arg10 : Memref sig .tc .vmem S64x64 .bf16) (harg10 : arg10.IsWhole) (arg11 : Memref sig .tc .vmem S7x64x64 .f32) (harg11 : arg11.IsWhole)
  (arg12 : Memref sig .tc .vmem S1x128x1024 .f32) (harg12 : arg12.IsWhole) (arg13 : Memref sig .tc .vmem S1x8x128x128 .f32) (harg13 : arg13.IsWhole) (arg14 : Memref sig .tc .vmem S8x128x128 .f32) (harg14 : arg14.IsWhole)
  (x0 : Vec Ideal S1x128x1024 .f32) (x1 : Vec Ideal S1x128x1024 .f32) (x2 : Vec Ideal S1x128x1024 .f32) (x3 : Vec Ideal S1x128x1024 .f32) (x4 : Vec Ideal S1x1024 .f32) (x5 : Vec Ideal S1x128 .f32) (x6 : Vec Ideal S1x8x128x128 .f32) (x7 : Vec Ideal S64x64 .bf16) (x8 : Vec Ideal S7x64x64 .f32)
  (xs0 : Vec Ideal S8x128x128 .f32)

theorem loadL (h : Fin 8) (d : Fin 128) : View.readAt (Elt Ideal) arg7.view
    (Rect.unit (s := S1x1024) ![0, 128 * h.val] S1x128.size (inbL h)).toLoadRect (harg7.unread x4) (ix2 (0 : Fin 1) d : S1x128.Idx)
    = x4 (ix2 0 ⟨128 * h.val + d.val, by omega⟩) := by
  refine (harg7.readAt_unread x4 _ _).trans (congrArg x4 ?_)
  funext a
  apply Fin.ext
  match a with
  | ⟨0, _⟩ => rfl
  | ⟨1, _⟩ => show 128 * h.val + 1 * d.val = 128 * h.val + d.val; omega

theorem loadZ (j : Fin 2) (h : Fin 8) (s : Fin 64) (d : Fin 128) : View.readAt (Elt Ideal) arg4.view
    (Rect.unit (s := S1x128x1024) ![0, 64 * j.val, 128 * h.val] S1x64x128.size (inbZ j h)).toLoadRect (harg4.unread x1) (ix3 (0 : Fin 1) s d : S1x64x128.Idx)
    = x1 (ix3 0 ⟨64 * j.val + s.val, by omega⟩ ⟨128 * h.val + d.val, by omega⟩) := by
  refine (harg4.readAt_unread x1 _ _).trans (congrArg x1 ?_)
  funext a
  apply Fin.ext
  match a with
  | ⟨0, _⟩ => rfl
  | ⟨1, _⟩ => show 64 * j.val + 1 * s.val = 64 * j.val + s.val; omega
  | ⟨2, _⟩ => show 128 * h.val + 1 * d.val = 128 * h.val + d.val; omega

theorem loadZV (j : Fin 2) (h : Fin 8) (s : Fin 64) (d : Fin 128) : View.readAt (Elt Ideal) arg5.view
    (Rect.unit (s := S1x128x1024) ![0, 64 * j.val, 128 * h.val] S1x64x128.size (inbZ j h)).toLoadRect (harg5.unread x2) (ix3 (0 : Fin 1) s d : S1x64x128.Idx)
    = x2 (ix3 0 ⟨64 * j.val + s.val, by omega⟩ ⟨128 * h.val + d.val, by omega⟩) := by
  refine (harg5.readAt_unread x2 _ _).trans (congrArg x2 ?_)
  funext a
  apply Fin.ext
  match a with
  | ⟨0, _⟩ => rfl
  | ⟨1, _⟩ => show 64 * j.val + 1 * s.val = 64 * j.val + s.val; omega
  | ⟨2, _⟩ => show 128 * h.val + 1 * d.val = 128 * h.val + d.val; omega

theorem loadT (r s : Fin 64) : View.readAt (Elt Ideal) arg10.view
    (Rect.unit (s := S64x64) ![0, 0] S64x64.size inb_S64x64_S64x64_0_0).toLoadRect (harg10.unread x7) (ix2 r s : S64x64.Idx) = x7 (ix2 r s) := by
  refine (harg10.readAt_unread x7 _ _).trans (congrArg x7 ?_)
  funext a
  apply Fin.ext
  match a with
  | ⟨0, _⟩ => show 0 + 1 * r.val = r.val; omega
  | ⟨1, _⟩ => show 0 + 1 * s.val = s.val; omega

theorem loadS (h : Fin 8) (d v : Fin 128) : View.readAt (Elt Ideal) arg9.view
    (Rect.unit (s := S1x8x128x128) ![0, h.val, 0, 0] S1x1x128x128.size (inbO h)).toLoadRect (harg9.unread x6)
    (ix4 (0 : Fin 1) (0 : Fin 1) d v : S1x1x128x128.Idx) = x6 (ix4 0 h d v) := by
  refine (harg9.readAt_unread x6 _ _).trans (congrArg x6 ?_)
  funext a
  apply Fin.ext
  match a with
  | ⟨0, _⟩ => rfl
  | ⟨1, _⟩ => show h.val + 1 * 0 = h.val; omega
  | ⟨2, _⟩ => show 0 + 1 * d.val = d.val; omega
  | ⟨3, _⟩ => show 0 + 1 * v.val = v.val; omega

/-- An entry after one chunk, of a point's blocks. -/
def chunk (x4 : Vec Ideal S1x1024 .f32) (x1 x2 : Vec Ideal S1x128x1024 .f32) (j : Fin 2) (h : Fin 8) (d v : Fin 128) (s0 : EReal) : EReal :=
  entry (fun s => gate (x4 (ix2 0 ⟨128 * h.val + d.val, by omega⟩)) (x1 (ix3 0 ⟨64 * j.val + s.val, by omega⟩ ⟨128 * h.val + d.val, by omega⟩)))
    (fun s => x2 (ix3 0 ⟨64 * j.val + s.val, by omega⟩ ⟨128 * h.val + v.val, by omega⟩)) s0

theorem updH_apply (htab : ∀ r s : Fin 64, x7 (ix2 r s) = if s.val ≤ r.val then (1 : EReal) else 0)
    (j : Fin 2) (h : Fin 8) (st : Vec Ideal S1x128x128 .f32) (v d : Fin 128)
    (hst : x4 (ix2 0 ⟨128 * h.val + d.val, by omega⟩) = (⊤ : EReal) → st (ix3 0 v d) = (0 : EReal)) :
    updH i arg4 harg4 arg5 harg5 arg7 harg7 arg10 harg10 x1 x2 x4 x7 j h st (ix3 0 v d) = chunk x4 x1 x2 j h d v (st (ix3 0 v d)) := by
  unfold updH chunk
  refine (upd_apply _ _ _ _ _ _ _ ?_ v d (fun r s => ?_) ?_).trans (entry_congr (fun s => ?_) (fun s => ?_) rfl)
  · match j with
    | ⟨0, _⟩ => exact Or.inl rfl
    | ⟨1, _⟩ => exact Or.inr rfl
  · exact (loadT _ _ x7 r s).trans (htab r s)
  · exact fun e => hst ((loadL _ _ x4 h d).symm.trans e)
  · exact congrArg₂ gate (loadL _ _ x4 h d) (loadZ _ _ x1 j h _ d)
  · exact loadZV _ _ x2 j h _ v

theorem pointH_apply (htab : ∀ r s : Fin 64, x7 (ix2 r s) = if s.val ≤ r.val then (1 : EReal) else 0)
    (h : Fin 8) (st : Vec Ideal S1x128x128 .f32) (v d : Fin 128)
    (hst : x4 (ix2 0 ⟨128 * h.val + d.val, by omega⟩) = (⊤ : EReal) → st (ix3 0 v d) = (0 : EReal)) :
    pointH i arg4 harg4 arg5 harg5 arg7 harg7 arg10 harg10 x1 x2 x4 x7 h st (ix3 0 v d)
      = chunk x4 x1 x2 1 h d v (chunk x4 x1 x2 0 h d v (st (ix3 0 v d))) := by
  have first := updH_apply i arg4 harg4 arg5 harg5 arg7 harg7 arg10 harg10 x1 x2 x4 x7 htab 0 h st v d hst
  unfold pointH
  refine (updH_apply i arg4 harg4 arg5 harg5 arg7 harg7 arg10 harg10 x1 x2 x4 x7 htab 1 h _ v d fun e => first.trans ?_).trans (congrArg _ first)
  unfold chunk
  rw [hst e, e]
  exact entry_top _ _

theorem initH_apply (h : Fin 8) (v d : Fin 128) : initH arg9 harg9 x6 h (ix3 0 v d) = x6 (ix4 0 h d v) := by
  unfold initH
  exact (pay6_apply _ v d).trans (loadS _ _ x6 h d v)

end Block

variable (m : (ℓ : Loc nD τ sig) → Buf (Elt Ideal) ℓ) (ρ : Dev nD → PrngReg)

theorem V_v0_apply (c : Dev nD) (q : S1x8x128x128.Idx) : (V m c main_v0 : Vec Ideal S1x8x128x128 .f32) q = (0 : EReal) := by
  have e : (V m c main_v0 : Vec Ideal S1x8x128x128 .f32)
      = broadcastInDim S1x8x128x128 ![] bcast_S_S1x8x128x128 (constant (F := Ideal) S_ .f32 0x00000000#32) := by
    show StableHlo.after (List.flatten _) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    after_results
  rw [e]
  obtain ⟨a, h, d, v, rfl⟩ : ∃ (a : Fin 1) (h : Fin 8) (d v : Fin 128), q = ix4 a h d v := ⟨q 0, q 1, q 2, q 3, eq_ix4 q⟩
  pointwise

theorem V_v87 (c : Dev nD) : (V m c main_v87 : Vec Ideal S1x1024 .f32)
    = shapeCast S1x1024 (m ((c : Thread nD τ).loc main_arg1) : Vec Ideal S1024 .f32) shapeCasts_S1024_S1x1024 := by
  show StableHlo.after (List.flatten _) _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  after_results
  rfl

/-- The table as the program writes it. -/
def table : Vec Ideal S64x64 .bf16 := (truncf .bf16
  (select (cmpi .sle (iotaInDim S64x64 32 1) (iotaInDim S64x64 32 0))
    (broadcastInDim S64x64 ![] bcast_S_S64x64 (constant (F := Ideal) S_ .f32 1065353216#32))
    (broadcastInDim S64x64 ![] bcast_S_S64x64 (constant (F := Ideal) S_ .f32 0#32)) : FVec Ideal S64x64 .f32) bitsLt_bf16_f32 : FVec Ideal S64x64 .bf16)

/-- The table the kernel sums with: the ones at and below the diagonal. -/
theorem tab_apply (c : Dev nD) (r s : Fin 64) :
    (V m c main_v89 : Vec Ideal S64x64 .bf16) (ix2 r s) = if s.val ≤ r.val then (1 : EReal) else 0 := by
  have e : (V m c main_v89 : Vec Ideal S64x64 .bf16) = table := by
    show StableHlo.after (List.flatten _) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    after_results
    rfl
  rw [e]
  have hc : ∀ r s : Fin 64, cmpi .sle (iotaInDim S64x64 32 1) (iotaInDim S64x64 32 0) (ix2 r s) = if s.val ≤ r.val then 1#1 else 0#1 := by
    intro r s
    pointwise
    revert r s
    decide +kernel
  have h1 : (broadcastInDim S64x64 ![] bcast_S_S64x64 (constant (F := Ideal) S_ .f32 1065353216#32) : Vec Ideal S64x64 .f32) (ix2 r s) = (1 : EReal) := by
    pointwise
  have h0 : (broadcastInDim S64x64 ![] bcast_S_S64x64 (constant (F := Ideal) S_ .f32 0#32) : Vec Ideal S64x64 .f32) (ix2 r s) = (0 : EReal) := by
    pointwise
  show (if cmpi .sle (iotaInDim S64x64 32 1) (iotaInDim S64x64 32 0) (ix2 r s) = 1#1 then _ else _) = _
  rw [hc r s]
  by_cases h : s.val ≤ r.val
  · rw [if_pos h, if_pos h]
    exact h1
  · rw [if_neg h, if_neg h]
    exact h0
theorem idx_f1 : ∀ t : Fin cfg0.N, win0_1.index t (0 : Fin 3) = 0 ∧ win0_1.index t (1 : Fin 3) = t.val ∧ win0_1.index t (2 : Fin 3) = 1 :=
  (by decide +kernel : ∀ t : Fin grid0.N, _)

theorem idx_f2 : ∀ t : Fin cfg0.N, win0_2.index t (0 : Fin 3) = 0 ∧ win0_2.index t (1 : Fin 3) = t.val ∧ win0_2.index t (2 : Fin 3) = 2 :=
  (by decide +kernel : ∀ t : Fin grid0.N, _)

theorem idx_f4 : ∀ t : Fin cfg0.N, win0_4.index t (0 : Fin 2) = 0 ∧ win0_4.index t (1 : Fin 2) = 0 :=
  (by decide +kernel : ∀ t : Fin grid0.N, _)

theorem idx_f7 : ∀ t : Fin cfg0.N, win0_7.index t (0 : Fin 2) = 0 ∧ win0_7.index t (1 : Fin 2) = 0 :=
  (by decide +kernel : ∀ t : Fin grid0.N, _)

theorem idx_f10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

theorem N_eq : cfg0.N = 128 := N_0

theorem blk1 (c : Dev nD) (t : Fin cfg0.N) (j : Fin 2) (s : Fin 64) (l : Fin 1024) :
    (iblk m c 1 t : Vec Ideal S1x128x1024 .f32) (ix3 0 (⟨64 * j.val + s.val, by omega⟩ : Fin 128) l)
      = row (m ((c : Thread nD τ).loc main_arg0)) (2 * t.val + j.val) s (⟨1024 + l.val, by omega⟩ : Fin 4096) := by
  have hf := idx_f1 t
  have ht : t.val < 128 := lt_of_lt_of_eq t.isLt N_eq
  show V m c main_arg0 (((cfg0.win 1).blk t).view.emb (ix3 0 (⟨64 * j.val + s.val, by omega⟩ : Fin 128) l)) = _
  have he : ((cfg0.win 1).blk t).view.emb (ix3 0 (⟨64 * j.val + s.val, by omega⟩ : Fin 128) l)
      = (ix3 (0 : Fin 1) (⟨(64 * (2 * t.val + j.val) + s.val) % 16384, Nat.mod_lt _ (by decide)⟩ : Fin 16384) (⟨1024 + l.val, by omega⟩ : Fin 4096) : S1x16384x4096.Idx) := by
    funext a
    apply Fin.ext
    match a with
    | ⟨0, _⟩ => show win0_1.index t (0 : Fin 3) * 1 + 1 * 0 = 0; rw [hf.1]
    | ⟨1, _⟩ => show win0_1.index t (1 : Fin 3) * 128 + 1 * (64 * j.val + s.val) = (64 * (2 * t.val + j.val) + s.val) % 16384; rw [hf.2.1]; omega
    | ⟨2, _⟩ => show win0_1.index t (2 : Fin 3) * 1024 + 1 * l.val = 1024 + l.val; rw [hf.2.2]; omega
  exact (congrArg (V m c main_arg0) he).trans (congrFun (V_main_arg0 m c) _)

theorem blk2 (c : Dev nD) (t : Fin cfg0.N) (j : Fin 2) (s : Fin 64) (l : Fin 1024) :
    (iblk m c 2 t : Vec Ideal S1x128x1024 .f32) (ix3 0 (⟨64 * j.val + s.val, by omega⟩ : Fin 128) l)
      = row (m ((c : Thread nD τ).loc main_arg0)) (2 * t.val + j.val) s (⟨2048 + l.val, by omega⟩ : Fin 4096) := by
  have hf := idx_f2 t
  have ht : t.val < 128 := lt_of_lt_of_eq t.isLt N_eq
  show V m c main_arg0 (((cfg0.win 2).blk t).view.emb (ix3 0 (⟨64 * j.val + s.val, by omega⟩ : Fin 128) l)) = _
  have he : ((cfg0.win 2).blk t).view.emb (ix3 0 (⟨64 * j.val + s.val, by omega⟩ : Fin 128) l)
      = (ix3 (0 : Fin 1) (⟨(64 * (2 * t.val + j.val) + s.val) % 16384, Nat.mod_lt _ (by decide)⟩ : Fin 16384) (⟨2048 + l.val, by omega⟩ : Fin 4096) : S1x16384x4096.Idx) := by
    funext a
    apply Fin.ext
    match a with
    | ⟨0, _⟩ => show win0_2.index t (0 : Fin 3) * 1 + 1 * 0 = 0; rw [hf.1]
    | ⟨1, _⟩ => show win0_2.index t (1 : Fin 3) * 128 + 1 * (64 * j.val + s.val) = (64 * (2 * t.val + j.val) + s.val) % 16384; rw [hf.2.1]; omega
    | ⟨2, _⟩ => show win0_2.index t (2 : Fin 3) * 1024 + 1 * l.val = 2048 + l.val; rw [hf.2.2]; omega
  exact (congrArg (V m c main_arg0) he).trans (congrFun (V_main_arg0 m c) _)

theorem lifted_apply (g : Vec Ideal S1024 .f32) (l : Fin 1024) : (shapeCast S1x1024 g shapeCasts_S1024_S1x1024 : Vec Ideal S1x1024 .f32) (ix2 0 l) = g (ix1 l) := by
  pointwise

theorem blk4 (c : Dev nD) (t : Fin cfg0.N) (l : Fin 1024) :
    (iblk m c 4 t : Vec Ideal S1x1024 .f32) (ix2 0 l) = m ((c : Thread nD τ).loc main_arg1) (ix1 l) := by
  have hf := idx_f4 t
  show V m c main_v87 (((cfg0.win 4).blk t).view.emb (ix2 0 l)) = _
  have he : ((cfg0.win 4).blk t).view.emb (ix2 0 l) = (ix2 0 l : S1x1024.Idx) := by
    funext a
    apply Fin.ext
    match a with
    | ⟨0, _⟩ => show win0_4.index t (0 : Fin 2) * 1 + 1 * 0 = 0; rw [hf.1]
    | ⟨1, _⟩ => show win0_4.index t (1 : Fin 2) * 1024 + 1 * l.val = l.val; rw [hf.2]; omega
  exact (congrArg (V m c main_v87) he).trans ((congrFun (V_v87 m c) _).trans (lifted_apply (m ((c : Thread nD τ).loc main_arg1)) l))

theorem blk7 (c : Dev nD) (t : Fin cfg0.N) (r s : Fin 64) :
    (iblk m c 7 t : Vec Ideal S64x64 .bf16) (ix2 r s) = if s.val ≤ r.val then (1 : EReal) else 0 := by
  have hf := idx_f7 t
  show V m c main_v89 (((cfg0.win 7).blk t).view.emb (ix2 r s)) = _
  have he : ((cfg0.win 7).blk t).view.emb (ix2 r s) = (ix2 r s : S64x64.Idx) := by
    funext a
    apply Fin.ext
    match a with
    | ⟨0, _⟩ => show win0_7.index t (0 : Fin 2) * 64 + 1 * r.val = r.val; rw [hf.1]; omega
    | ⟨1, _⟩ => show win0_7.index t (1 : Fin 2) * 64 + 1 * s.val = s.val; rw [hf.2]; omega
  exact (congrArg (V m c main_v89) he).trans (tab_apply m c r s)

theorem blk6 (c : Dev nD) (t : Fin cfg0.N) (q : S1x8x128x128.Idx) : (iblk m c 6 t : Vec Ideal S1x8x128x128 .f32) q = (0 : EReal) :=
  V_v0_apply m c _

/-- A point's two chunks are two steps of the chain. -/
theorem steps (c : Dev nD) (t : Fin cfg0.N) (h : Fin 8) (d v : Fin 128) (s0 : EReal)
    (hs : s0 = chain (m ((c : Thread nD τ).loc main_arg0)) (m ((c : Thread nD τ).loc main_arg1)) (2 * t.val) h d v) :
    chunk (iblk m c 4 t) (iblk m c 1 t) (iblk m c 2 t) 1 h d v (chunk (iblk m c 4 t) (iblk m c 1 t) (iblk m c 2 t) 0 h d v s0)
      = chain (m ((c : Thread nD τ).loc main_arg0)) (m ((c : Thread nD τ).loc main_arg1)) (2 * t.val + 2) h d v := by
  show chunk _ _ _ _ _ _ _ _ = entry _ _ (entry _ _ _)
  unfold chunk
  exact entry_congr (fun s => congrArg₂ gate (blk4 m c t _) (blk1 m c t 1 s _)) (fun s => blk2 m c t 1 s _)
    (entry_congr (fun s => congrArg₂ gate (blk4 m c t _) (blk1 m c t 0 s _)) (fun s => blk2 m c t 0 s _) hs)

/-- A point's update of a head's state is two steps of the chain. -/
theorem stepped (c : Dev nD) (t : Fin cfg0.N) (h : Fin 8) (d v : Fin 128) (st : Vec Ideal S1x128x128 .f32)
    (hs : st (ix3 0 v d) = chain (m ((c : Thread nD τ).loc main_arg0)) (m ((c : Thread nD τ).loc main_arg1)) (2 * t.val) h d v) :
    pointH (grid0.coords t) (ms0_1 t) (hs0_1 t) (ms0_2 t) (hs0_2 t) (ms0_4 t) (hs0_4 t) (ms0_7 t) (hs0_7 t) (iblk m c 1 t) (iblk m c 2 t) (iblk m c 4 t) (iblk m c 7 t) h st (ix3 0 v d)
      = chain (m ((c : Thread nD τ).loc main_arg0)) (m ((c : Thread nD τ).loc main_arg1)) (2 * t.val + 2) h d v :=
  (pointH_apply (grid0.coords t) (ms0_1 t) (hs0_1 t) (ms0_2 t) (hs0_2 t) (ms0_4 t) (hs0_4 t) (ms0_7 t) (hs0_7 t) (iblk m c 1 t) (iblk m c 2 t) (iblk m c 4 t) (iblk m c 7 t) (blk7 m c t) h st v d
    fun e => hs.trans (chain_top _ _ h d v ((blk4 m c t _).symm.trans e) _)).trans (steps m c t h d v _ hs)

/-- The scratch after a point that is not the last. -/
theorem scratch (c : Dev nD) (h : Fin 8) (d v : Fin 128) : ∀ (n : ℕ) (hn : n < cfg0.N), n < 127 →
    (outsAt0 m c n hn).2.2 (ix3 h v d)
      = chain (m ((c : Thread nD τ).loc main_arg0)) (m ((c : Thread nD τ).loc main_arg1)) (2 * n + 2) h d v
  | 0, hn, _ => by
    let t : Fin cfg0.N := ⟨0, hn⟩
    show (outsAt0 m c t.val t.isLt).2.2 (ix3 h v d) = _
    rw [outsAt0_A m c t (by show 0 % 128 = 0; rfl) (by show ¬ 0 % 128 = 127; omega)]
    dsimp only
    refine (soutA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) _ _ h v d).trans (stepped m c t h d v _ ?_)
    exact (initH_apply _ _ _ h v d).trans (blk6 m c t _)
  | n + 1, hn, hlt => by
    let t : Fin cfg0.N := ⟨n + 1, hn⟩
    show (outsAt0 m c t.val t.isLt).2.2 (ix3 h v d) = _
    rw [outsAt0_B m c t (by show ¬ (n + 1) % 128 = 0; omega) (by show ¬ (n + 1) % 128 = 127; omega)]
    dsimp only
    refine (soutB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) _ _ _ h v d).trans (stepped m c t h d v _ ?_)
    exact (prevH_apply _ _ _ h v d).trans (scratch c h d v n (by omega) (by omega))

/-- The result as a function of the arguments as launched. -/
def result (c : Dev nD) : Buf (Elt Ideal) ((c : Thread nD τ).loc main_v90_1) :=
  fun q : S1x8x128x128.Idx => chain (m ((c : Thread nD τ).loc main_arg0)) (m ((c : Thread nD τ).loc main_arg1)) 256 (q 1) (q 2) (q 3)

/-- The second output is written back at the last point only. -/
theorem last_of_flush : ∀ t : Fin cfg0.N, (cfg0.win 10).flush t = true → t.val = 127 :=
  (by decide +kernel : ∀ t : Fin grid0.N, win0_10.flush t = true → t.val = 127)

theorem left10 (c : Dev nD) (t : Fin cfg0.N) (ht : t.val = 127) (h : Fin 8) (d v : Fin 128) :
    (outsAt0 m c t.val t.isLt).2.1 (ix4 0 h d v)
      = chain (m ((c : Thread nD τ).loc main_arg0)) (m ((c : Thread nD τ).loc main_arg1)) 256 h d v := by
  rw [outsAt0_C m c t (by omega) (by omega)]
  dsimp only
  refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) _ _ _ h d v).trans ((stepped m c t h d v _ ?_).trans (by rw [ht]))
  refine (prevH_apply _ _ _ h v d).trans ((scratch m c h d v (t.val - 1) _ (by omega)).trans ?_)
  rw [show 2 * (t.val - 1) + 2 = 2 * t.val by omega]

/-- What the last point writes back is the result. -/
theorem flushed_eq10 (c : Dev nD) (t : Fin cfg0.N) (hfl : (cfg0.win 10).flush t = true) :
    (dats m 0 c).flushed 10 t = ((cfg0.win 10).blk t).view.read (Elt Ideal) (result m c) := by
  have hf := idx_f10 t
  have ht := last_of_flush t hfl
  rw [flushed10]
  funext q
  obtain ⟨b, h, d, v, rfl⟩ : ∃ (b : Fin 1) (h : Fin 8) (d v : Fin 128), q = ix4 b h d v := ⟨q 0, q 1, q 2, q 3, eq_ix4 q⟩
  obtain rfl : b = 0 := Subsingleton.elim _ _
  show (outsAt0 m c t.val t.isLt).2.1 (ix4 0 h d v) = result m c (((cfg0.win 10).blk t).view.emb (ix4 0 h d v))
  have he : ((cfg0.win 10).blk t).view.emb (ix4 0 h d v) = (ix4 0 h d v : S1x8x128x128.Idx) := by
    funext a
    apply Fin.ext
    match a with
    | ⟨0, _⟩ => show win0_10.index t (0 : Fin 4) * 1 + 1 * 0 = 0; rw [hf.1]
    | ⟨1, _⟩ => show win0_10.index t (1 : Fin 4) * 8 + 1 * h.val = h.val; rw [hf.2.1]; omega
    | ⟨2, _⟩ => show win0_10.index t (2 : Fin 4) * 128 + 1 * d.val = d.val; rw [hf.2.2.1]; omega
    | ⟨3, _⟩ => show win0_10.index t (3 : Fin 4) * 128 + 1 * v.val = v.val; rw [hf.2.2.2]; omega
  rw [he]
  exact left10 m c t ht h d v

/-- Every entry of the result lies in the block the last point writes. -/
theorem final_o (c : Dev nD) : (dats m 0 c).arrAt 10 cfg0.N = result m c :=
  (dats m 0 c).arrAt_eq_of_cover 10 (result m c) (flushed_eq10 m c) fun i => by
    have h0 : (i 0 : Nat) < 1 := (i 0).isLt
    have h1 : (i 1 : Nat) < 8 := (i 1).isLt
    have h2 : (i 2 : Nat) < 128 := (i 2).isLt
    have h3 : (i 3 : Nat) < 128 := (i 3).isLt
    have ht : 127 < cfg0.N := by have hN := N_eq; omega
    have hf := idx_f10 ⟨127, ht⟩
    refine ⟨⟨127, ht⟩, (by decide +kernel : ∀ t : Fin grid0.N, t.val = 127 → win0_10.flush t = true) _ rfl, ?_⟩
    show i ∈ ((View.whole main_v90_1).slice (win0_10.rect ⟨127, ht⟩)).set
    rw [View.set_slice_whole, Rect.mem_set_unit]
    intro a
    match a with
    | ⟨0, _⟩ =>
      show win0_10.index ⟨127, ht⟩ (0 : Fin 4) * 1 ≤ (i 0 : Nat) ∧ (i 0 : Nat) < win0_10.index ⟨127, ht⟩ (0 : Fin 4) * 1 + 1
      rw [hf.1]; omega
    | ⟨1, _⟩ =>
      show win0_10.index ⟨127, ht⟩ (1 : Fin 4) * 8 ≤ (i 1 : Nat) ∧ (i 1 : Nat) < win0_10.index ⟨127, ht⟩ (1 : Fin 4) * 8 + 8
      rw [hf.2.1]; omega
    | ⟨2, _⟩ =>
      show win0_10.index ⟨127, ht⟩ (2 : Fin 4) * 128 ≤ (i 2 : Nat) ∧ (i 2 : Nat) < win0_10.index ⟨127, ht⟩ (2 : Fin 4) * 128 + 128
      rw [hf.2.2.1]; omega
    | ⟨3, _⟩ =>
      show win0_10.index ⟨127, ht⟩ (3 : Fin 4) * 128 ≤ (i 3 : Nat) ∧ (i 3 : Nat) < win0_10.index ⟨127, ht⟩ (3 : Fin 4) * 128 + 128
      rw [hf.2.2.2]; omega

end Cert.HgrnPIdeal.Value

end
-- ==== Proof.HgrnPRef.lean ====
/-
  The looped reference of the prompt's HGRN2: one trip read at an entry, and the state after every trip.
-/
module

public import proofs.«01_k».proof.Proof.Gen.HgrnPRefIdeal.StepRun
public import proofs.«01_k».proof.Proof.HgrnPBody
public import Idealize.ShloMosaic.Lib.Pointwise
public import Idealize.ShloMosaic.Lib.DynamicIndex

@[expose] public section

set_option maxRecDepth 16384

noncomputable section

namespace Cert.HgrnPRefIdeal.Value

open Cert.HgrnPRefIdeal Cert.HgrnPRefIdeal.Gen Cert.HgrnPRefIdeal.Step Idealize.ShloMosaic Idealize.ShloMosaic.TcCoe Idealize.SL.Sem

variable (j : ℕ) (s : State Ideal)

theorem fits (hj : j < 256) : Shape.Slices S256x1x64x4096 ![j, 0, 0, 0] S1x1x64x4096 := by
  refine ⟨rfl, fun a => ?_⟩
  match a with
  | ⟨0, _⟩ => show j + 1 ≤ 256; omega
  | ⟨1, _⟩ => show 0 + 1 ≤ 1; omega
  | ⟨2, _⟩ => show 0 + 64 ≤ 64; omega
  | ⟨3, _⟩ => show 0 + 4096 ≤ 4096; omega

theorem b4_apply (hj : j < 256) (r : Fin 64) (n : Fin 4096) :
    (b4 j s : Vec Ideal S1x64x4096 .f32) (ix3 0 r n) = (s.main_v10_0 : Vec Ideal S256x1x64x4096 .f32) (ix4 ⟨j, hj⟩ 0 r n) := by
  have e : b3 j s = extractStridedSlice S1x1x64x4096 ![j, 0, 0, 0] (s.main_v10_0 : Vec Ideal S256x1x64x4096 .f32) (fits j hj) := by
    unfold b3
    refine Host.dynamicSlice_eq_extractStridedSlice (s := S256x1x64x4096) S1x1x64x4096 _ _ ![j, 0, 0, 0] _ (fits j hj) fun a => ?_
    match a with
    | ⟨0, _⟩ => exact toInt_ofNat_of_lt (by omega)
    | ⟨1, _⟩ => rfl
    | ⟨2, _⟩ => rfl
    | ⟨3, _⟩ => rfl
  unfold b4
  rw [e]
  pointwise

theorem b25_apply (r : Fin 64) (l : Fin 1024) : (b25 j s : Vec Ideal S1x64x1024 .f32) (ix3 0 r l)
    = Cert.HgrnPIdeal.Value.gate ((s.main_v10_1 : Vec Ideal S1024 .f32) (ix1 l)) ((b4 j s : Vec Ideal S1x64x4096 .f32) (ix3 0 r ⟨1024 + l.val, by omega⟩)) := by
  unfold Cert.HgrnPIdeal.Value.gate Ideal.logistic
  pointwise [b25, b24, b23, b22, b21, b20, b19, b18, b17, b16, b15, b14, b13, b12, b11, b10, b9, b6]

theorem mask_apply (x r : Fin 64) : (K_main_v6 (F := Ideal) : IVec S64x64 1) (ix2 r x) = if x.val ≤ r.val then 1#1 else 0#1 := by
  pointwise [K_main_v6, K_main_v5, K_main_v4, K_main_v3, K_main_v2, K_main_v1, K_main_v0]
  revert x r
  decide +kernel

theorem b42_apply (r : Fin 64) (h : Fin 8) (d : Fin 128) : (b42 j s : Vec Ideal S1x64x8x128 .f32) (ix4 0 r h d)
    = Cert.HgrnPIdeal.Value.cum (fun x => Ideal.log ((b25 j s : Vec Ideal S1x64x1024 .f32) (ix3 0 x ⟨128 * h.val + d.val, by omega⟩))) r.val := by
  pointwise [b42, b41, b40, b39, b38, b37, b36, b35, b34, b33, b31, b30]
  simp only [Nat.mul_comm h.val 128, mask_apply]
  unfold Cert.HgrnPIdeal.Value.cum
  refine Finset.sum_congr rfl fun x _ => ?_
  by_cases hx : x.val ≤ r.val
  · rw [if_pos hx, if_pos hx]
    rfl
  · rw [if_neg hx, if_neg hx]
    rfl

theorem b55_apply (h : Fin 8) (d v : Fin 128) : (b55 j s : Vec Ideal S1x8x128x128 .f32) (ix4 0 h d v)
    = Cert.HgrnPIdeal.Value.entry (fun x => (b25 j s : Vec Ideal S1x64x1024 .f32) (ix3 0 x ⟨128 * h.val + d.val, by omega⟩))
        (fun x => (b4 j s : Vec Ideal S1x64x4096 .f32) (ix3 0 x ⟨2048 + (128 * h.val + v.val), by omega⟩))
        ((s.main_v10_4 : Vec Ideal S1x8x128x128 .f32) (ix4 0 h d v)) := by
  pointwise [b55, b54, b53, b52, b51, b50, b49, b48, b47, b46, b45, b44, b43, b32, b29, b28, b27, b26, b7]
  simp only [Nat.mul_comm h.val 128, b42_apply]
  rfl

/-- The reference's states, trip by trip. -/
def iter (s0 : State Ideal) : ℕ → State Ideal
  | 0 => s0
  | n + 1 => step n (iter s0 n)

theorem iter_rows (z : Vec Ideal S1x16384x4096 .f32) (lb : Vec Ideal S1024 .f32) : ∀ n : ℕ,
    (iter (init lb z) n).main_v10_0 = A_main_v9 z ∧ (iter (init lb z) n).main_v10_1 = lb
  | 0 => ⟨rfl, rfl⟩
  | n + 1 => iter_rows z lb n

theorem row_apply (z : Vec Ideal S1x16384x4096 .f32) (n : ℕ) (hn : n < 256) (x : Fin 64) (l : Fin 4096) :
    (A_main_v9 z : Vec Ideal S256x1x64x4096 .f32) (ix4 ⟨n, hn⟩ 0 x l) = Cert.HgrnPIdeal.Value.row z n x l := by
  unfold Cert.HgrnPIdeal.Value.row
  pointwise [A_main_v9, A_main_v8]
  congr 2
  apply Fin.ext
  show n * 64 + x.val = (64 * n + x.val) % 16384
  omega

theorem iter_apply (z : Vec Ideal S1x16384x4096 .f32) (lb : Vec Ideal S1024 .f32) (h : Fin 8) (d v : Fin 128) : ∀ n : ℕ, n ≤ 256 →
    ((iter (init lb z) n).main_v10_4 : Vec Ideal S1x8x128x128 .f32) (ix4 0 h d v) = Cert.HgrnPIdeal.Value.chain z lb n h d v
  | 0, _ => by
    show (K_main_v7 (F := Ideal) : Vec Ideal S1x8x128x128 .f32) (ix4 0 h d v) = (0 : EReal)
    pointwise [K_main_v7, K_main_cst]
  | n + 1, hn => by
    have hr : ∀ (x : Fin 64) (l : Fin 4096), (b4 n (iter (init lb z) n) : Vec Ideal S1x64x4096 .f32) (ix3 0 x l) = Cert.HgrnPIdeal.Value.row z n x l := by
      intro x l
      rw [b4_apply n _ (by omega), (iter_rows z lb n).1]
      exact row_apply z n (by omega) x l
    show (b55 n (iter (init lb z) n) : Vec Ideal S1x8x128x128 .f32) (ix4 0 h d v) = _
    rw [b55_apply]
    refine Cert.HgrnPIdeal.Value.entry_congr (fun x => ?_) (fun x => hr x _) (iter_apply z lb h d v n (by omega))
    rw [b25_apply, (iter_rows z lb n).2, hr]

end Cert.HgrnPRefIdeal.Value

end
-- ==== Proof.HgrnPValue.lean ====
/-
  HGRN2 on the prompt: the reference's loop read at an entry, and the claim.
-/
module

public import proofs.«01_k».proof.Proof.Gen.HgrnPRefIdeal.StepRun
public import proofs.«01_k».proof.Defs
public import proofs.«01_k».proof.Proof.HgrnPBlocks
public import proofs.«01_k».proof.Proof.HgrnPRef
public import Idealize.ShloMosaic.Lib.Pointwise

@[expose] public section

set_option maxRecDepth 16384

noncomputable section

namespace Cert.HgrnPValue

open Idealize.ShloMosaic Idealize.ShloMosaic.TcCoe Idealize.SL.Sem

/-- The kernel and the reference agree on the state the prompt leaves. -/
theorem algebraic : Cert.algebraic_HgrnPIdeal_HgrnPRefIdeal (hHgrnPIdeal := Cert.HgrnPIdeal.Gen.facts)
    (hHgrnPRefIdeal := Cert.HgrnPRefIdeal.Gen.facts) := by
  intro m g m' g' _ hargs
  refine ⟨fun c => Cert.HgrnPIdeal.Value.result m c, ?_, ?_⟩
  · exact (θ_run Cert.HgrnPIdeal.defs _ _).mono
      (fun r h c => ⟨(h c).2.1.trans (Cert.HgrnPIdeal.Value.final_o m c), (h c).2.2⟩) (Cert.HgrnPIdeal.Value.run_blocks m g)
  · refine (θ_run Cert.HgrnPRefIdeal.defs _ _).mono (fun r h c => ⟨(h c).1.trans ?_, (h c).2⟩)
      (Cert.HgrnPRefIdeal.StepRun.run_iter m' g' (fun c => Cert.HgrnPRefIdeal.Value.iter (Cert.HgrnPRefIdeal.StepRun.initState m' c)) (fun _ => rfl) (fun _ _ => rfl))
    obtain ⟨h0, h1, _⟩ := hargs c
    funext j
    obtain ⟨b, h, d, v, rfl⟩ : ∃ (b : Fin 1) (h : Fin 8) (d v : Fin 128), j = ix4 b h d v := ⟨j 0, j 1, j 2, j 3, eq_ix4 j⟩
    obtain rfl : b = 0 := Subsingleton.elim _ _
    refine (Cert.HgrnPRefIdeal.Value.iter_apply _ _ h d v 256 (le_refl _)).trans ?_
    rw [h0, h1]
    rfl

end Cert.HgrnPValue

end
-- ==== Proof.lean ====
/- The certificate: the claims of `proofs.«01_k».proof.Defs`, each from the module that proves it. -/
module

public import proofs.«01_k».proof.Defs
public import proofs.«01_k».proof.Proof.Gen.Kernel
public import proofs.«01_k».proof.Proof.Gen.KernelIdeal
public import proofs.«01_k».proof.Proof.NsaSame
public import proofs.«01_k».proof.Proof.Gen.OddMlp
public import proofs.«01_k».proof.Proof.Gen.OddMlp.Frame
public import proofs.«01_k».proof.Proof.Gen.OddMlpIdeal
public import proofs.«01_k».proof.Proof.Gen.OddMlpIdeal.Frame
public import proofs.«01_k».proof.Proof.Gen.OddMlpIdeal.Value
public import proofs.«01_k».proof.Proof.Gen.OddMlpRefIdeal
public import proofs.«01_k».proof.Proof.Gen.OddMlpRefIdeal.Run
public import proofs.«01_k».proof.Proof.Gen.EvenMlp
public import proofs.«01_k».proof.Proof.Gen.EvenMlp.Frame
public import proofs.«01_k».proof.Proof.Gen.EvenMlpIdeal
public import proofs.«01_k».proof.Proof.Gen.EvenMlpIdeal.Frame
public import proofs.«01_k».proof.Proof.Gen.EvenMlpIdeal.Value
public import proofs.«01_k».proof.Proof.Gen.EvenMlpRefIdeal
public import proofs.«01_k».proof.Proof.Gen.EvenMlpRefIdeal.Run
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddMlpS
public import proofs.«01_k».proof.Proof.Gen.OddMlpS.Frame
public import proofs.«01_k».proof.Proof.Gen.OddMlpSIdeal
public import proofs.«01_k».proof.Proof.Gen.OddMlpSIdeal.Frame
public import proofs.«01_k».proof.Proof.Gen.OddMlpSIdeal.Value
public import proofs.«01_k».proof.Proof.Gen.OddMlpSRefIdeal
public import proofs.«01_k».proof.Proof.Gen.OddMlpSRefIdeal.Run
public import proofs.«01_k».proof.Proof.Gen.KvPost
public import proofs.«01_k».proof.Proof.Gen.KvPost.Frame
public import proofs.«01_k».proof.Proof.Gen.KvPostIdeal
public import proofs.«01_k».proof.Proof.Gen.KvPostIdeal.Frame
public import proofs.«01_k».proof.Proof.Gen.KvPostRefIdeal
public import proofs.«01_k».proof.Proof.Gen.KvPostRefIdeal.Run
public import proofs.«01_k».proof.Proof.Gen.KvPostS
public import proofs.«01_k».proof.Proof.Gen.KvPostS.Frame
public import proofs.«01_k».proof.Proof.Gen.KvPostSIdeal
public import proofs.«01_k».proof.Proof.Gen.KvPostSIdeal.Frame
public import proofs.«01_k».proof.Proof.Gen.KvPostSRefIdeal
public import proofs.«01_k».proof.Proof.Gen.KvPostSRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvS
public import proofs.«01_k».proof.Proof.Gen.ConvS.Frame
public import proofs.«01_k».proof.Proof.Gen.ConvSIdeal
public import proofs.«01_k».proof.Proof.Gen.ConvSIdeal.Frame
public import proofs.«01_k».proof.Proof.Gen.ConvSIdeal.Value
public import proofs.«01_k».proof.Proof.Gen.ConvSRefIdeal
public import proofs.«01_k».proof.Proof.Gen.ConvSRefIdeal.Run
public import proofs.«01_k».proof.Proof.Gen.HgrnS
public import proofs.«01_k».proof.Proof.Gen.HgrnS.Frame
public import proofs.«01_k».proof.Proof.Gen.HgrnSIdeal
public import proofs.«01_k».proof.Proof.Gen.HgrnSIdeal.Frame
public import proofs.«01_k».proof.Proof.Gen.HgrnSIdeal.Value
public import proofs.«01_k».proof.Proof.Gen.HgrnSRefIdeal
public import proofs.«01_k».proof.Proof.Gen.HgrnSRefIdeal.Run
public import proofs.«01_k».proof.Proof.Gen.HgrnP
public import proofs.«01_k».proof.Proof.Gen.HgrnP.Frame
public import proofs.«01_k».proof.Proof.Gen.HgrnPIdeal
public import proofs.«01_k».proof.Proof.Gen.HgrnPIdeal.Frame
public import proofs.«01_k».proof.Proof.Gen.HgrnPIdeal.Value
public import proofs.«01_k».proof.Proof.Gen.HgrnPRefIdeal
public import proofs.«01_k».proof.Proof.Gen.HgrnPRefIdeal.Run
public import proofs.«01_k».proof.Proof.OddMlpValue
public import proofs.«01_k».proof.Proof.EvenMlpValue
public import proofs.«01_k».proof.Proof.OddInValue
public import proofs.«01_k».proof.Proof.OddMlpSValue
public import proofs.«01_k».proof.Proof.KvPostValue
public import proofs.«01_k».proof.Proof.KvPostSValue
public import proofs.«01_k».proof.Proof.EvenInValue
public import proofs.«01_k».proof.Proof.ConvValue
public import proofs.«01_k».proof.Proof.ConvSValue
public import proofs.«01_k».proof.Proof.HgrnSValue
public import proofs.«01_k».proof.Proof.HgrnPValue
public import Idealize.ShloMosaic.Adequacy
public import Idealize.ShloMosaic.Init

@[expose] public section

noncomputable section

namespace Cert.Proof

open Idealize.ShloMosaic Idealize.SL.Sem

theorem frame_ideal : Cert.quiescent_KernelIdeal (hKernelIdeal := Cert.KernelIdeal.Gen.facts) :=
  fun m ρ _ => Cert.KernelIdeal.Nsa.run m ρ

/-! The references end with their arguments as they were; they have no semaphore. -/

theorem kept_OddMlpRef : Cert.quiescent_OddMlpRefIdeal (hOddMlpRefIdeal := Cert.OddMlpRefIdeal.Gen.facts) :=
  fun m ρ _ => (θ_run Cert.OddMlpRefIdeal.defs _ _).mono
    (fun r h => ⟨fun c => (h c).2, sem_eq_zero_of_no_sems (by decide) r.2⟩) (Cert.OddMlpRefIdeal.Value.run m ρ)

theorem kept_EvenMlpRef : Cert.quiescent_EvenMlpRefIdeal (hEvenMlpRefIdeal := Cert.EvenMlpRefIdeal.Gen.facts) :=
  fun m ρ _ => (θ_run Cert.EvenMlpRefIdeal.defs _ _).mono
    (fun r h => ⟨fun c => (h c).2, sem_eq_zero_of_no_sems (by decide) r.2⟩) (Cert.EvenMlpRefIdeal.Value.run m ρ)

theorem kept_OddInRef : Cert.quiescent_OddInRefIdeal (hOddInRefIdeal := Cert.OddInRefIdeal.Gen.facts) :=
  fun m ρ _ => (θ_run Cert.OddInRefIdeal.defs _ _).mono
    (fun r h => ⟨fun c => (h c).2, sem_eq_zero_of_no_sems (by decide) r.2⟩) (Cert.OddInRefIdeal.Value.run m ρ)

theorem kept_OddMlpSRef : Cert.quiescent_OddMlpSRefIdeal (hOddMlpSRefIdeal := Cert.OddMlpSRefIdeal.Gen.facts) :=
  fun m ρ _ => (θ_run Cert.OddMlpSRefIdeal.defs _ _).mono
    (fun r h => ⟨fun c => (h c).2, sem_eq_zero_of_no_sems (by decide) r.2⟩) (Cert.OddMlpSRefIdeal.Value.run m ρ)

theorem kept_KvPostRef : Cert.quiescent_KvPostRefIdeal (hKvPostRefIdeal := Cert.KvPostRefIdeal.Gen.facts) :=
  fun m ρ _ => (θ_run Cert.KvPostRefIdeal.defs _ _).mono
    (fun r h => ⟨fun c => (h c).2.2, sem_eq_zero_of_no_sems (by decide) r.2⟩) (Cert.KvPostRefIdeal.Value.run m ρ)

theorem kept_KvPostSRef : Cert.quiescent_KvPostSRefIdeal (hKvPostSRefIdeal := Cert.KvPostSRefIdeal.Gen.facts) :=
  fun m ρ _ => (θ_run Cert.KvPostSRefIdeal.defs _ _).mono
    (fun r h => ⟨fun c => (h c).2.2, sem_eq_zero_of_no_sems (by decide) r.2⟩) (Cert.KvPostSRefIdeal.Value.run m ρ)

theorem kept_EvenInRef : Cert.quiescent_EvenInRefIdeal (hEvenInRefIdeal := Cert.EvenInRefIdeal.Gen.facts) :=
  fun m ρ _ => (θ_run Cert.EvenInRefIdeal.defs _ _).mono
    (fun r h => ⟨fun c => (h c).2, sem_eq_zero_of_no_sems (by decide) r.2⟩) (Cert.EvenInRefIdeal.Value.run m ρ)

theorem kept_ConvRef : Cert.quiescent_ConvRefIdeal (hConvRefIdeal := Cert.ConvRefIdeal.Gen.facts) :=
  fun m ρ _ => (θ_run Cert.ConvRefIdeal.defs _ _).mono
    (fun r h => ⟨fun c => (h c).2, sem_eq_zero_of_no_sems (by decide) r.2⟩) (Cert.ConvRefIdeal.Value.run m ρ)

theorem kept_ConvSRef : Cert.quiescent_ConvSRefIdeal (hConvSRefIdeal := Cert.ConvSRefIdeal.Gen.facts) :=
  fun m ρ _ => (θ_run Cert.ConvSRefIdeal.defs _ _).mono
    (fun r h => ⟨fun c => (h c).2, sem_eq_zero_of_no_sems (by decide) r.2⟩) (Cert.ConvSRefIdeal.Value.run m ρ)

theorem kept_HgrnSRef : Cert.quiescent_HgrnSRefIdeal (hHgrnSRefIdeal := Cert.HgrnSRefIdeal.Gen.facts) :=
  fun m ρ _ => (θ_run Cert.HgrnSRefIdeal.defs _ _).mono
    (fun r h => ⟨fun c => (h c).2, sem_eq_zero_of_no_sems (by decide) r.2⟩) (Cert.HgrnSRefIdeal.Value.run m ρ)

theorem kept_HgrnPRef : Cert.quiescent_HgrnPRefIdeal (hHgrnPRefIdeal := Cert.HgrnPRefIdeal.Gen.facts) :=
  fun m ρ _ => (θ_run Cert.HgrnPRefIdeal.defs _ _).mono
    (fun r h => ⟨fun c => (h c).2, sem_eq_zero_of_no_sems (by decide) r.2⟩) (Cert.HgrnPRefIdeal.Value.run m ρ)

theorem claim : Cert.Claim :=
  ⟨Cert.Kernel.Gen.facts, Cert.KernelIdeal.Gen.facts, Cert.OddMlp.Gen.facts, Cert.OddMlpIdeal.Gen.facts, Cert.OddMlpRefIdeal.Gen.facts, Cert.EvenMlp.Gen.facts, Cert.EvenMlpIdeal.Gen.facts, Cert.EvenMlpRefIdeal.Gen.facts, Cert.OddIn.Gen.facts, Cert.OddInIdeal.Gen.facts, Cert.OddInRefIdeal.Gen.facts, Cert.OddMlpS.Gen.facts, Cert.OddMlpSIdeal.Gen.facts, Cert.OddMlpSRefIdeal.Gen.facts, Cert.KvPost.Gen.facts, Cert.KvPostIdeal.Gen.facts, Cert.KvPostRefIdeal.Gen.facts, Cert.KvPostS.Gen.facts, Cert.KvPostSIdeal.Gen.facts, Cert.KvPostSRefIdeal.Gen.facts, Cert.EvenIn.Gen.facts, Cert.EvenInIdeal.Gen.facts, Cert.EvenInRefIdeal.Gen.facts, Cert.Conv.Gen.facts, Cert.ConvIdeal.Gen.facts, Cert.ConvRefIdeal.Gen.facts, Cert.ConvS.Gen.facts, Cert.ConvSIdeal.Gen.facts, Cert.ConvSRefIdeal.Gen.facts, Cert.HgrnS.Gen.facts, Cert.HgrnSIdeal.Gen.facts, Cert.HgrnSRefIdeal.Gen.facts, Cert.HgrnP.Gen.facts, Cert.HgrnPIdeal.Gen.facts, Cert.HgrnPRefIdeal.Gen.facts, Cert.HgrnSValue.preFacts,
    Cert.NsaSame.frame,
    frame_ideal,
    fun m ρ _ => Cert.OddMlp.Gen.frame m ρ,
    fun m ρ _ => Cert.OddMlpIdeal.Gen.frame m ρ,
    kept_OddMlpRef,
    fun m ρ _ => Cert.EvenMlp.Gen.frame m ρ,
    fun m ρ _ => Cert.EvenMlpIdeal.Gen.frame m ρ,
    kept_EvenMlpRef,
    fun m ρ _ => Cert.OddIn.Gen.frame m ρ,
    fun m ρ _ => Cert.OddInIdeal.Gen.frame m ρ,
    kept_OddInRef,
    fun m ρ _ => Cert.OddMlpS.Gen.frame m ρ,
    fun m ρ _ => Cert.OddMlpSIdeal.Gen.frame m ρ,
    kept_OddMlpSRef,
    fun m ρ _ => Cert.KvPost.Gen.frame m ρ,
    fun m ρ _ => Cert.KvPostIdeal.Gen.frame m ρ,
    kept_KvPostRef,
    fun m ρ _ => Cert.KvPostS.Gen.frame m ρ,
    fun m ρ _ => Cert.KvPostSIdeal.Gen.frame m ρ,
    kept_KvPostSRef,
    fun m ρ _ => Cert.EvenIn.Gen.frame m ρ,
    fun m ρ _ => Cert.EvenInIdeal.Gen.frame m ρ,
    kept_EvenInRef,
    fun m ρ _ => Cert.Conv.Gen.frame m ρ,
    fun m ρ _ => Cert.ConvIdeal.Gen.frame m ρ,
    kept_ConvRef,
    fun m ρ _ => Cert.ConvS.Gen.frame m ρ,
    fun m ρ _ => Cert.ConvSIdeal.Gen.frame m ρ,
    kept_ConvSRef,
    fun m ρ _ => Cert.HgrnS.Gen.frame m ρ,
    fun m ρ _ => Cert.HgrnSIdeal.Gen.frame m ρ,
    fun m ρ _ => Cert.HgrnSIdeal.Gen.frame m ρ,
    kept_HgrnSRef,
    fun m ρ _ => kept_HgrnSRef m ρ trivial,
    fun m ρ _ => Cert.HgrnP.Gen.frame m ρ,
    fun m ρ _ => Cert.HgrnPIdeal.Gen.frame m ρ,
    kept_HgrnPRef,
    trivial,
    trivial,
    Cert.OddMlpValue.algebraic,
    trivial,
    Cert.EvenMlpValue.algebraic,
    trivial,
    Cert.OddInValue.algebraic,
    trivial,
    Cert.OddMlpSValue.algebraic,
    trivial,
    Cert.KvPostValue.algebraic,
    trivial,
    Cert.KvPostSValue.algebraic,
    trivial,
    Cert.EvenInValue.algebraic,
    trivial,
    Cert.ConvValue.algebraic,
    trivial,
    Cert.ConvSValue.algebraic,
    trivial,
    Cert.HgrnSValue.algebraic,
    trivial,
    Cert.HgrnPValue.algebraic⟩

end Cert.Proof

end
